-- ==== Defs.lean ====
def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutIdeal_finite_ffn [hPre_finite_ffn : Cert.Pre_finite_ffn.Facts] (m : (ℓ : Loc Cert.FfnOutIdeal.nD Cert.FfnOutIdeal.τ Cert.FfnOutIdeal.sig) → Buf (Elt Ideal) ℓ) : Prop :=
  ∀ c : Dev Cert.FfnOutIdeal.nD,
    (Cert.Pre_finite_ffn.fn (F := Ideal) (m ((c.tc : Thread Cert.FfnOutIdeal.nD Cert.FfnOutIdeal.τ).loc Cert.FfnOutIdeal.main_arg0)) (m ((c.tc : Thread Cert.FfnOutIdeal.nD Cert.FfnOutIdeal.τ).loc Cert.FfnOutIdeal.main_arg1)) (m ((c.tc : Thread Cert.FfnOutIdeal.nD Cert.FfnOutIdeal.τ).loc Cert.FfnOutIdeal.main_arg2)) (m ((c.tc : Thread Cert.FfnOutIdeal.nD Cert.FfnOutIdeal.τ).loc Cert.FfnOutIdeal.main_arg3))) = (fun _ => 1#1)

def Pre_FfnOutRefIdeal (m : (ℓ : Loc Cert.FfnOutRefIdeal.nD Cert.FfnOutRefIdeal.τ Cert.FfnOutRefIdeal.sig) → Buf (Elt Ideal) ℓ) : Prop :=
  True

def Pre_FfnOutRefIdeal_finite_ffn [hPre_finite_ffn : Cert.Pre_finite_ffn.Facts] (m : (ℓ : Loc Cert.FfnOutRefIdeal.nD Cert.FfnOutRefIdeal.τ Cert.FfnOutRefIdeal.sig) → Buf (Elt Ideal) ℓ) : Prop :=
  ∀ c : Dev Cert.FfnOutRefIdeal.nD,
    (Cert.Pre_finite_ffn.fn (F := Ideal) (m ((c.tc : Thread Cert.FfnOutRefIdeal.nD Cert.FfnOutRefIdeal.τ).loc Cert.FfnOutRefIdeal.main_arg0)) (m ((c.tc : Thread Cert.FfnOutRefIdeal.nD Cert.FfnOutRefIdeal.τ).loc Cert.FfnOutRefIdeal.main_arg1)) (m ((c.tc : Thread Cert.FfnOutRefIdeal.nD Cert.FfnOutRefIdeal.τ).loc Cert.FfnOutRefIdeal.main_arg2)) (m ((c.tc : Thread Cert.FfnOutRefIdeal.nD Cert.FfnOutRefIdeal.τ).loc Cert.FfnOutRefIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))) = (fun _ => 1#1)

def Pre_NormUngated (m : (ℓ : Loc Cert.NormUngated.nD Cert.NormUngated.τ Cert.NormUngated.sig) → Buf (Elt Bits) ℓ) : Prop :=
  True

def Pre_NormUngatedIdeal (m : (ℓ : Loc Cert.NormUngatedIdeal.nD Cert.NormUngatedIdeal.τ Cert.NormUngatedIdeal.sig) → Buf (Elt Ideal) ℓ) : Prop :=
  True

def Pre_NormUngatedIdeal_finite_norm_ungated [hPre_finite_norm_ungated : Cert.Pre_finite_norm_ungated.Facts] (m : (ℓ : Loc Cert.NormUngatedIdeal.nD Cert.NormUngatedIdeal.τ Cert.NormUngatedIdeal.sig) → Buf (Elt Ideal) ℓ) : Prop :=
  ∀ c : Dev Cert.NormUngatedIdeal.nD,
    (Cert.Pre_finite_norm_ungated.fn (F := Ideal) (m ((c.tc : Thread Cert.NormUngatedIdeal.nD Cert.NormUngatedIdeal.τ).loc Cert.NormUngatedIdeal.main_arg0)) (m ((c.tc : Thread Cert.NormUngatedIdeal.nD Cert.NormUngatedIdeal.τ).loc Cert.NormUngatedIdeal.main_arg1)) (m ((c.tc : Thread Cert.NormUngatedIdeal.nD Cert.NormUngatedIdeal.τ).loc Cert.NormUngatedIdeal.main_arg2)) (m ((c.tc : Thread Cert.NormUngatedIdeal.nD Cert.NormUngatedIdeal.τ).loc Cert.NormUngatedIdeal.main_arg3)) (m ((c.tc : Thread Cert.NormUngatedIdeal.nD Cert.NormUngatedIdeal.τ).loc Cert.NormUngatedIdeal.main_arg4))) = (fun _ => 1#1)

def Pre_NormUngatedRefIdeal (m : (ℓ : Loc Cert.NormUngatedRefIdeal.nD Cert.NormUngatedRefIdeal.τ Cert.NormUngatedRefIdeal.sig) → Buf (Elt Ideal) ℓ) : Prop :=
  True

def Pre_NormUngatedRefIdeal_finite_norm_ungated [hPre_finite_norm_ungated : Cert.Pre_finite_norm_ungated.Facts] (m : (ℓ : Loc Cert.NormUngatedRefIdeal.nD Cert.NormUngatedRefIdeal.τ Cert.NormUngatedRefIdeal.sig) → Buf (Elt Ideal) ℓ) : Prop :=
  ∀ c : Dev Cert.NormUngatedRefIdeal.nD,
    (Cert.Pre_finite_norm_ungated.fn (F := Ideal) (m ((c.tc : Thread Cert.NormUngatedRefIdeal.nD Cert.NormUngatedRefIdeal.τ).loc Cert.NormUngatedRefIdeal.main_arg0)) (m ((c.tc : Thread Cert.NormUngatedRefIdeal.nD Cert.NormUngatedRefIdeal.τ).loc Cert.NormUngatedRefIdeal.main_arg1)) (m ((c.tc : Thread Cert.NormUngatedRefIdeal.nD Cert.NormUngatedRefIdeal.τ).loc Cert.NormUngatedRefIdeal.main_arg2)) (m ((c.tc : Thread Cert.NormUngatedRefIdeal.nD Cert.NormUngatedRefIdeal.τ).loc Cert.NormUngatedRefIdeal.main_arg3)) (m ((c.tc : Thread Cert.NormUngatedRefIdeal.nD Cert.NormUngatedRefIdeal.τ).loc Cert.NormUngatedRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_sb [hPre_finite_sb : Cert.Pre_finite_sb.Facts] (m : (ℓ : Loc Cert.SbIdeal.nD Cert.SbIdeal.τ Cert.SbIdeal.sig) → Buf (Elt Ideal) ℓ) : Prop :=
  ∀ c : Dev Cert.SbIdeal.nD,
    (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_sb [hPre_finite_sb : Cert.Pre_finite_sb.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))) = (fun _ => 1#1)

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_finite_gmlp [hPre_finite_gmlp : Cert.Pre_finite_gmlp.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5)) (m ((c.tc : Thread Cert.GmlpIdeal.nD Cert.GmlpIdeal.τ).loc Cert.GmlpIdeal.main_arg6))) = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_finite_gmlp [hPre_finite_gmlp : Cert.Pre_finite_gmlp.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5)) (m ((c.tc : Thread Cert.GmlpRefIdeal.nD Cert.GmlpRefIdeal.τ).loc Cert.GmlpRefIdeal.main_arg6))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_finite_sbf [hPre_finite_sbf : Cert.Pre_finite_sbf.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_finite_sbf.fn (F := Ideal) (m ((c.tc : Thread Cert.SbFwdIdeal.nD Cert.SbFwdIdeal.τ).loc Cert.SbFwdIdeal.main_arg0))) = (fun _ => 1#1)

def Pre_SbFwdRefIdeal (m : (ℓ : Loc Cert.SbFwdRefIdeal.nD Cert.SbFwdRefIdeal.τ Cert.SbFwdRefIdeal.sig) → Buf (Elt Ideal) ℓ) : Prop :=
  True

def Pre_SbFwdRefIdeal_finite_sbf [hPre_finite_sbf : Cert.Pre_finite_sbf.Facts] (m : (ℓ : Loc Cert.SbFwdRefIdeal.nD Cert.SbFwdRefIdeal.τ Cert.SbFwdRefIdeal.sig) → Buf (Elt Ideal) ℓ) : Prop :=
  ∀ c : Dev Cert.SbFwdRefIdeal.nD,
    (Cert.Pre_finite_sbf.fn (F := Ideal) (m ((c.tc : Thread Cert.SbFwdRefIdeal.nD Cert.SbFwdRefIdeal.τ).loc Cert.SbFwdRefIdeal.main_arg0))) = (fun _ => 1#1)

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdRefIdeal (m : (ℓ : Loc Cert.PoolFwdRefIdeal.nD Cert.PoolFwdRefIdeal.τ Cert.PoolFwdRefIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_OutDgradRefIdeal (m : (ℓ : Loc Cert.OutDgradRefIdeal.nD Cert.OutDgradRefIdeal.τ Cert.OutDgradRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_ProjDgrad (m : (ℓ : Loc Cert.ProjDgrad.nD Cert.ProjDgrad.τ Cert.ProjDgrad.sig) → Buf (Elt Bits) ℓ) : Prop :=
  True

def Pre_ProjDgradIdeal (m : (ℓ : Loc Cert.ProjDgradIdeal.nD Cert.ProjDgradIdeal.τ Cert.ProjDgradIdeal.sig) → Buf (Elt Ideal) ℓ) : Prop :=
  True

def Pre_ProjDgradRefIdeal (m : (ℓ : Loc Cert.ProjDgradRefIdeal.nD Cert.ProjDgradRefIdeal.τ Cert.ProjDgradRefIdeal.sig) → Buf (Elt Ideal) ℓ) : Prop :=
  True

def Pre_ProjWgrad (m : (ℓ : Loc Cert.ProjWgrad.nD Cert.ProjWgrad.τ Cert.ProjWgrad.sig) → Buf (Elt Bits) ℓ) : Prop :=
  True

def Pre_ProjWgradIdeal (m : (ℓ : Loc Cert.ProjWgradIdeal.nD Cert.ProjWgradIdeal.τ Cert.ProjWgradIdeal.sig) → Buf (Elt Ideal) ℓ) : Prop :=
  True

def Pre_ProjWgradRefIdeal (m : (ℓ : Loc Cert.ProjWgradRefIdeal.nD Cert.ProjWgradRefIdeal.τ Cert.ProjWgradRefIdeal.sig) → Buf (Elt Ideal) ℓ) : Prop :=
  True

def Pre_FfnOutWgrad (m : (ℓ : Loc Cert.FfnOutWgrad.nD Cert.FfnOutWgrad.τ Cert.FfnOutWgrad.sig) → Buf (Elt Bits) ℓ) : Prop :=
  True

def Pre_FfnOutWgradIdeal (m : (ℓ : Loc Cert.FfnOutWgradIdeal.nD Cert.FfnOutWgradIdeal.τ Cert.FfnOutWgradIdeal.sig) → Buf (Elt Ideal) ℓ) : Prop :=
  True

def Pre_FfnOutWgradRefIdeal (m : (ℓ : Loc Cert.FfnOutWgradRefIdeal.nD Cert.FfnOutWgradRefIdeal.τ Cert.FfnOutWgradRefIdeal.sig) → Buf (Elt Ideal) ℓ) : Prop :=
  True

def Pre_FfnInDgrad (m : (ℓ : Loc Cert.FfnInDgrad.nD Cert.FfnInDgrad.τ Cert.FfnInDgrad.sig) → Buf (Elt Bits) ℓ) : Prop :=
  True

def Pre_FfnInDgradIdeal (m : (ℓ : Loc Cert.FfnInDgradIdeal.nD Cert.FfnInDgradIdeal.τ Cert.FfnInDgradIdeal.sig) → Buf (Elt Ideal) ℓ) : Prop :=
  True

def Pre_FfnInDgradRefIdeal (m : (ℓ : Loc Cert.FfnInDgradRefIdeal.nD Cert.FfnInDgradRefIdeal.τ Cert.FfnInDgradRefIdeal.sig) → Buf (Elt Ideal) ℓ) : Prop :=
  True

def Pre_FfnInWgrad (m : (ℓ : Loc Cert.FfnInWgrad.nD Cert.FfnInWgrad.τ Cert.FfnInWgrad.sig) → Buf (Elt Bits) ℓ) : Prop :=
  True

def Pre_FfnInWgradIdeal (m : (ℓ : Loc Cert.FfnInWgradIdeal.nD Cert.FfnInWgradIdeal.τ Cert.FfnInWgradIdeal.sig) → Buf (Elt Ideal) ℓ) : Prop :=
  True

def Pre_FfnInWgradRefIdeal (m : (ℓ : Loc Cert.FfnInWgradRefIdeal.nD Cert.FfnInWgradRefIdeal.τ Cert.FfnInWgradRefIdeal.sig) → Buf (Elt Ideal) ℓ) : Prop :=
  True

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutIdeal_pre_finite_ffn [hFfnOutIdeal : Cert.FfnOutIdeal.Facts] [hPre_finite_ffn : Cert.Pre_finite_ffn.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal_finite_ffn m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_FfnOutRefIdeal_pre_finite_ffn [hFfnOutRefIdeal : Cert.FfnOutRefIdeal.Facts] [hPre_finite_ffn : Cert.Pre_finite_ffn.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal_finite_ffn m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_NormUngated [hNormUngated : Cert.NormUngated.Facts] : Prop :=
  ∀ (m : (ℓ : Loc Cert.NormUngated.nD Cert.NormUngated.τ Cert.NormUngated.sig) → Buf (Elt Bits) ℓ) (g : Dev Cert.NormUngated.nD → PrngReg), Pre_NormUngated m →
    θ_run (Cert.NormUngated.defs (F := Bits)) (onTc (τ := Cert.NormUngated.τ) (Cert.NormUngated.main (F := Bits))) ⟨m, fun _ => 0, g⟩ (fun r => (∀ c : Dev Cert.NormUngated.nD,
      r.2.mem ((c.tc : Thread Cert.NormUngated.nD Cert.NormUngated.τ).loc Cert.NormUngated.main_arg0) = m ((c.tc : Thread Cert.NormUngated.nD Cert.NormUngated.τ).loc Cert.NormUngated.main_arg0)
      ∧ r.2.mem ((c.tc : Thread Cert.NormUngated.nD Cert.NormUngated.τ).loc Cert.NormUngated.main_arg1) = m ((c.tc : Thread Cert.NormUngated.nD Cert.NormUngated.τ).loc Cert.NormUngated.main_arg1)
      ∧ r.2.mem ((c.tc : Thread Cert.NormUngated.nD Cert.NormUngated.τ).loc Cert.NormUngated.main_arg2) = m ((c.tc : Thread Cert.NormUngated.nD Cert.NormUngated.τ).loc Cert.NormUngated.main_arg2)
      ∧ r.2.mem ((c.tc : Thread Cert.NormUngated.nD Cert.NormUngated.τ).loc Cert.NormUngated.main_arg3) = m ((c.tc : Thread Cert.NormUngated.nD Cert.NormUngated.τ).loc Cert.NormUngated.main_arg3)
      ∧ r.2.mem ((c.tc : Thread Cert.NormUngated.nD Cert.NormUngated.τ).loc Cert.NormUngated.main_arg4) = m ((c.tc : Thread Cert.NormUngated.nD Cert.NormUngated.τ).loc Cert.NormUngated.main_arg4))
      ∧ r.2.sem = fun _ => 0)

def quiescent_NormUngatedIdeal [hNormUngatedIdeal : Cert.NormUngatedIdeal.Facts] : Prop :=
  ∀ (m : (ℓ : Loc Cert.NormUngatedIdeal.nD Cert.NormUngatedIdeal.τ Cert.NormUngatedIdeal.sig) → Buf (Elt Ideal) ℓ) (g : Dev Cert.NormUngatedIdeal.nD → PrngReg), Pre_NormUngatedIdeal m →
    θ_run (Cert.NormUngatedIdeal.defs (F := Ideal)) (onTc (τ := Cert.NormUngatedIdeal.τ) (Cert.NormUngatedIdeal.main (F := Ideal))) ⟨m, fun _ => 0, g⟩ (fun r => (∀ c : Dev Cert.NormUngatedIdeal.nD,
      r.2.mem ((c.tc : Thread Cert.NormUngatedIdeal.nD Cert.NormUngatedIdeal.τ).loc Cert.NormUngatedIdeal.main_arg0) = m ((c.tc : Thread Cert.NormUngatedIdeal.nD Cert.NormUngatedIdeal.τ).loc Cert.NormUngatedIdeal.main_arg0)
      ∧ r.2.mem ((c.tc : Thread Cert.NormUngatedIdeal.nD Cert.NormUngatedIdeal.τ).loc Cert.NormUngatedIdeal.main_arg1) = m ((c.tc : Thread Cert.NormUngatedIdeal.nD Cert.NormUngatedIdeal.τ).loc Cert.NormUngatedIdeal.main_arg1)
      ∧ r.2.mem ((c.tc : Thread Cert.NormUngatedIdeal.nD Cert.NormUngatedIdeal.τ).loc Cert.NormUngatedIdeal.main_arg2) = m ((c.tc : Thread Cert.NormUngatedIdeal.nD Cert.NormUngatedIdeal.τ).loc Cert.NormUngatedIdeal.main_arg2)
      ∧ r.2.mem ((c.tc : Thread Cert.NormUngatedIdeal.nD Cert.NormUngatedIdeal.τ).loc Cert.NormUngatedIdeal.main_arg3) = m ((c.tc : Thread Cert.NormUngatedIdeal.nD Cert.NormUngatedIdeal.τ).loc Cert.NormUngatedIdeal.main_arg3)
      ∧ r.2.mem ((c.tc : Thread Cert.NormUngatedIdeal.nD Cert.NormUngatedIdeal.τ).loc Cert.NormUngatedIdeal.main_arg4) = m ((c.tc : Thread Cert.NormUngatedIdeal.nD Cert.NormUngatedIdeal.τ).loc Cert.NormUngatedIdeal.main_arg4))
      ∧ r.2.sem = fun _ => 0)

def quiescent_NormUngatedIdeal_pre_finite_norm_ungated [hNormUngatedIdeal : Cert.NormUngatedIdeal.Facts] [hPre_finite_norm_ungated : Cert.Pre_finite_norm_ungated.Facts] : Prop :=
  ∀ (m : (ℓ : Loc Cert.NormUngatedIdeal.nD Cert.NormUngatedIdeal.τ Cert.NormUngatedIdeal.sig) → Buf (Elt Ideal) ℓ) (g : Dev Cert.NormUngatedIdeal.nD → PrngReg), Pre_NormUngatedIdeal_finite_norm_ungated m →
    θ_run (Cert.NormUngatedIdeal.defs (F := Ideal)) (onTc (τ := Cert.NormUngatedIdeal.τ) (Cert.NormUngatedIdeal.main (F := Ideal))) ⟨m, fun _ => 0, g⟩ (fun r => (∀ c : Dev Cert.NormUngatedIdeal.nD,
      r.2.mem ((c.tc : Thread Cert.NormUngatedIdeal.nD Cert.NormUngatedIdeal.τ).loc Cert.NormUngatedIdeal.main_arg0) = m ((c.tc : Thread Cert.NormUngatedIdeal.nD Cert.NormUngatedIdeal.τ).loc Cert.NormUngatedIdeal.main_arg0)
      ∧ r.2.mem ((c.tc : Thread Cert.NormUngatedIdeal.nD Cert.NormUngatedIdeal.τ).loc Cert.NormUngatedIdeal.main_arg1) = m ((c.tc : Thread Cert.NormUngatedIdeal.nD Cert.NormUngatedIdeal.τ).loc Cert.NormUngatedIdeal.main_arg1)
      ∧ r.2.mem ((c.tc : Thread Cert.NormUngatedIdeal.nD Cert.NormUngatedIdeal.τ).loc Cert.NormUngatedIdeal.main_arg2) = m ((c.tc : Thread Cert.NormUngatedIdeal.nD Cert.NormUngatedIdeal.τ).loc Cert.NormUngatedIdeal.main_arg2)
      ∧ r.2.mem ((c.tc : Thread Cert.NormUngatedIdeal.nD Cert.NormUngatedIdeal.τ).loc Cert.NormUngatedIdeal.main_arg3) = m ((c.tc : Thread Cert.NormUngatedIdeal.nD Cert.NormUngatedIdeal.τ).loc Cert.NormUngatedIdeal.main_arg3)
      ∧ r.2.mem ((c.tc : Thread Cert.NormUngatedIdeal.nD Cert.NormUngatedIdeal.τ).loc Cert.NormUngatedIdeal.main_arg4) = m ((c.tc : Thread Cert.NormUngatedIdeal.nD Cert.NormUngatedIdeal.τ).loc Cert.NormUngatedIdeal.main_arg4))
      ∧ r.2.sem = fun _ => 0)

def quiescent_NormUngatedRefIdeal [hNormUngatedRefIdeal : Cert.NormUngatedRefIdeal.Facts] : Prop :=
  ∀ (m : (ℓ : Loc Cert.NormUngatedRefIdeal.nD Cert.NormUngatedRefIdeal.τ Cert.NormUngatedRefIdeal.sig) → Buf (Elt Ideal) ℓ) (g : Dev Cert.NormUngatedRefIdeal.nD → PrngReg), Pre_NormUngatedRefIdeal m →
    θ_run (Cert.NormUngatedRefIdeal.defs (F := Ideal)) (onTc (τ := Cert.NormUngatedRefIdeal.τ) (Cert.NormUngatedRefIdeal.main (F := Ideal))) ⟨m, fun _ => 0, g⟩ (fun r => (∀ c : Dev Cert.NormUngatedRefIdeal.nD,
      r.2.mem ((c.tc : Thread Cert.NormUngatedRefIdeal.nD Cert.NormUngatedRefIdeal.τ).loc Cert.NormUngatedRefIdeal.main_arg0) = m ((c.tc : Thread Cert.NormUngatedRefIdeal.nD Cert.NormUngatedRefIdeal.τ).loc Cert.NormUngatedRefIdeal.main_arg0)
      ∧ r.2.mem ((c.tc : Thread Cert.NormUngatedRefIdeal.nD Cert.NormUngatedRefIdeal.τ).loc Cert.NormUngatedRefIdeal.main_arg1) = m ((c.tc : Thread Cert.NormUngatedRefIdeal.nD Cert.NormUngatedRefIdeal.τ).loc Cert.NormUngatedRefIdeal.main_arg1)
      ∧ r.2.mem ((c.tc : Thread Cert.NormUngatedRefIdeal.nD Cert.NormUngatedRefIdeal.τ).loc Cert.NormUngatedRefIdeal.main_arg2) = m ((c.tc : Thread Cert.NormUngatedRefIdeal.nD Cert.NormUngatedRefIdeal.τ).loc Cert.NormUngatedRefIdeal.main_arg2)
      ∧ r.2.mem ((c.tc : Thread Cert.NormUngatedRefIdeal.nD Cert.NormUngatedRefIdeal.τ).loc Cert.NormUngatedRefIdeal.main_arg3) = m ((c.tc : Thread Cert.NormUngatedRefIdeal.nD Cert.NormUngatedRefIdeal.τ).loc Cert.NormUngatedRefIdeal.main_arg3)
      ∧ r.2.mem ((c.tc : Thread Cert.NormUngatedRefIdeal.nD Cert.NormUngatedRefIdeal.τ).loc Cert.NormUngatedRefIdeal.main_arg4) = m ((c.tc : Thread Cert.NormUngatedRefIdeal.nD Cert.NormUngatedRefIdeal.τ).loc Cert.NormUngatedRefIdeal.main_arg4))
      ∧ r.2.sem = fun _ => 0)

def quiescent_NormUngatedRefIdeal_pre_finite_norm_ungated [hNormUngatedRefIdeal : Cert.NormUngatedRefIdeal.Facts] [hPre_finite_norm_ungated : Cert.Pre_finite_norm_ungated.Facts] : Prop :=
  ∀ (m : (ℓ : Loc Cert.NormUngatedRefIdeal.nD Cert.NormUngatedRefIdeal.τ Cert.NormUngatedRefIdeal.sig) → Buf (Elt Ideal) ℓ) (g : Dev Cert.NormUngatedRefIdeal.nD → PrngReg), Pre_NormUngatedRefIdeal_finite_norm_ungated m →
    θ_run (Cert.NormUngatedRefIdeal.defs (F := Ideal)) (onTc (τ := Cert.NormUngatedRefIdeal.τ) (Cert.NormUngatedRefIdeal.main (F := Ideal))) ⟨m, fun _ => 0, g⟩ (fun r => (∀ c : Dev Cert.NormUngatedRefIdeal.nD,
      r.2.mem ((c.tc : Thread Cert.NormUngatedRefIdeal.nD Cert.NormUngatedRefIdeal.τ).loc Cert.NormUngatedRefIdeal.main_arg0) = m ((c.tc : Thread Cert.NormUngatedRefIdeal.nD Cert.NormUngatedRefIdeal.τ).loc Cert.NormUngatedRefIdeal.main_arg0)
      ∧ r.2.mem ((c.tc : Thread Cert.NormUngatedRefIdeal.nD Cert.NormUngatedRefIdeal.τ).loc Cert.NormUngatedRefIdeal.main_arg1) = m ((c.tc : Thread Cert.NormUngatedRefIdeal.nD Cert.NormUngatedRefIdeal.τ).loc Cert.NormUngatedRefIdeal.main_arg1)
      ∧ r.2.mem ((c.tc : Thread Cert.NormUngatedRefIdeal.nD Cert.NormUngatedRefIdeal.τ).loc Cert.NormUngatedRefIdeal.main_arg2) = m ((c.tc : Thread Cert.NormUngatedRefIdeal.nD Cert.NormUngatedRefIdeal.τ).loc Cert.NormUngatedRefIdeal.main_arg2)
      ∧ r.2.mem ((c.tc : Thread Cert.NormUngatedRefIdeal.nD Cert.NormUngatedRefIdeal.τ).loc Cert.NormUngatedRefIdeal.main_arg3) = m ((c.tc : Thread Cert.NormUngatedRefIdeal.nD Cert.NormUngatedRefIdeal.τ).loc Cert.NormUngatedRefIdeal.main_arg3)
      ∧ r.2.mem ((c.tc : Thread Cert.NormUngatedRefIdeal.nD Cert.NormUngatedRefIdeal.τ).loc Cert.NormUngatedRefIdeal.main_arg4) = m ((c.tc : Thread Cert.NormUngatedRefIdeal.nD Cert.NormUngatedRefIdeal.τ).loc Cert.NormUngatedRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbIdeal_pre_finite_sb [hSbIdeal : Cert.SbIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_sb m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_SbRefIdeal_pre_finite_sb [hSbRefIdeal : Cert.SbRefIdeal.Facts] [hPre_finite_sb : Cert.Pre_finite_sb.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_sb m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ r.2.sem = fun _ => 0)

def quiescent_GmlpIdeal_pre_finite_gmlp [hGmlpIdeal : Cert.GmlpIdeal.Facts] [hPre_finite_gmlp : Cert.Pre_finite_gmlp.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_finite_gmlp m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6))
      ∧ r.2.sem = fun _ => 0)

def quiescent_GmlpRefIdeal_pre_finite_gmlp [hGmlpRefIdeal : Cert.GmlpRefIdeal.Facts] [hPre_finite_gmlp : Cert.Pre_finite_gmlp.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_finite_gmlp m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5)
      ∧ r.2.mem ((c.tc : Thread Cert.GmlpRefIdeal.nD Cert.GmlpRefIdeal.τ).loc Cert.GmlpRefIdeal.main_arg6) = m ((c.tc : Thread Cert.GmlpRefIdeal.nD Cert.GmlpRefIdeal.τ).loc Cert.GmlpRefIdeal.main_arg6))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdIdeal_pre_finite_sbf [hSbFwdIdeal : Cert.SbFwdIdeal.Facts] [hPre_finite_sbf : Cert.Pre_finite_sbf.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_finite_sbf m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ r.2.sem = fun _ => 0)

def quiescent_SbFwdRefIdeal [hSbFwdRefIdeal : Cert.SbFwdRefIdeal.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0))
      ∧ r.2.sem = fun _ => 0)

def quiescent_SbFwdRefIdeal_pre_finite_sbf [hSbFwdRefIdeal : Cert.SbFwdRefIdeal.Facts] [hPre_finite_sbf : Cert.Pre_finite_sbf.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal_finite_sbf m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1)
      ∧ r.2.mem ((c.tc : Thread Cert.OutDgrad.nD Cert.OutDgrad.τ).loc Cert.OutDgrad.main_arg2) = m ((c.tc : Thread Cert.OutDgrad.nD Cert.OutDgrad.τ).loc Cert.OutDgrad.main_arg2))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1)
      ∧ r.2.mem ((c.tc : Thread Cert.OutDgradIdeal.nD Cert.OutDgradIdeal.τ).loc Cert.OutDgradIdeal.main_arg2) = m ((c.tc : Thread Cert.OutDgradIdeal.nD Cert.OutDgradIdeal.τ).loc Cert.OutDgradIdeal.main_arg2))
      ∧ r.2.sem = fun _ => 0)

def quiescent_OutDgradRefIdeal [hOutDgradRefIdeal : Cert.OutDgradRefIdeal.Facts] : Prop :=
  ∀ (m : (ℓ : Loc Cert.OutDgradRefIdeal.nD Cert.OutDgradRefIdeal.τ Cert.OutDgradRefIdeal.sig) → Buf (Elt Ideal) ℓ) (g : Dev Cert.OutDgradRefIdeal.nD → PrngReg), Pre_OutDgradRefIdeal m →
    θ_run (Cert.OutDgradRefIdeal.defs (F := Ideal)) (onTc (τ := Cert.OutDgradRefIdeal.τ) (Cert.OutDgradRefIdeal.main (F := Ideal))) ⟨m, fun _ => 0, g⟩ (fun r => (∀ c : Dev Cert.OutDgradRefIdeal.nD,
      r.2.mem ((c.tc : Thread Cert.OutDgradRefIdeal.nD Cert.OutDgradRefIdeal.τ).loc Cert.OutDgradRefIdeal.main_arg0) = m ((c.tc : Thread Cert.OutDgradRefIdeal.nD Cert.OutDgradRefIdeal.τ).loc Cert.OutDgradRefIdeal.main_arg0)
      ∧ r.2.mem ((c.tc : Thread Cert.OutDgradRefIdeal.nD Cert.OutDgradRefIdeal.τ).loc Cert.OutDgradRefIdeal.main_arg1) = m ((c.tc : Thread Cert.OutDgradRefIdeal.nD Cert.OutDgradRefIdeal.τ).loc Cert.OutDgradRefIdeal.main_arg1)
      ∧ r.2.mem ((c.tc : Thread Cert.OutDgradRefIdeal.nD Cert.OutDgradRefIdeal.τ).loc Cert.OutDgradRefIdeal.main_arg2) = m ((c.tc : Thread Cert.OutDgradRefIdeal.nD Cert.OutDgradRefIdeal.τ).loc Cert.OutDgradRefIdeal.main_arg2))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1))
      ∧ r.2.sem = fun _ => 0)

def quiescent_ProjDgrad [hProjDgrad : Cert.ProjDgrad.Facts] : Prop :=
  ∀ (m : (ℓ : Loc Cert.ProjDgrad.nD Cert.ProjDgrad.τ Cert.ProjDgrad.sig) → Buf (Elt Bits) ℓ) (g : Dev Cert.ProjDgrad.nD → PrngReg), Pre_ProjDgrad m →
    θ_run (Cert.ProjDgrad.defs (F := Bits)) (onTc (τ := Cert.ProjDgrad.τ) (Cert.ProjDgrad.main (F := Bits))) ⟨m, fun _ => 0, g⟩ (fun r => (∀ c : Dev Cert.ProjDgrad.nD,
      r.2.mem ((c.tc : Thread Cert.ProjDgrad.nD Cert.ProjDgrad.τ).loc Cert.ProjDgrad.main_arg0) = m ((c.tc : Thread Cert.ProjDgrad.nD Cert.ProjDgrad.τ).loc Cert.ProjDgrad.main_arg0)
      ∧ r.2.mem ((c.tc : Thread Cert.ProjDgrad.nD Cert.ProjDgrad.τ).loc Cert.ProjDgrad.main_arg1) = m ((c.tc : Thread Cert.ProjDgrad.nD Cert.ProjDgrad.τ).loc Cert.ProjDgrad.main_arg1)
      ∧ r.2.mem ((c.tc : Thread Cert.ProjDgrad.nD Cert.ProjDgrad.τ).loc Cert.ProjDgrad.main_arg2) = m ((c.tc : Thread Cert.ProjDgrad.nD Cert.ProjDgrad.τ).loc Cert.ProjDgrad.main_arg2))
      ∧ r.2.sem = fun _ => 0)

def quiescent_ProjDgradIdeal [hProjDgradIdeal : Cert.ProjDgradIdeal.Facts] : Prop :=
  ∀ (m : (ℓ : Loc Cert.ProjDgradIdeal.nD Cert.ProjDgradIdeal.τ Cert.ProjDgradIdeal.sig) → Buf (Elt Ideal) ℓ) (g : Dev Cert.ProjDgradIdeal.nD → PrngReg), Pre_ProjDgradIdeal m →
    θ_run (Cert.ProjDgradIdeal.defs (F := Ideal)) (onTc (τ := Cert.ProjDgradIdeal.τ) (Cert.ProjDgradIdeal.main (F := Ideal))) ⟨m, fun _ => 0, g⟩ (fun r => (∀ c : Dev Cert.ProjDgradIdeal.nD,
      r.2.mem ((c.tc : Thread Cert.ProjDgradIdeal.nD Cert.ProjDgradIdeal.τ).loc Cert.ProjDgradIdeal.main_arg0) = m ((c.tc : Thread Cert.ProjDgradIdeal.nD Cert.ProjDgradIdeal.τ).loc Cert.ProjDgradIdeal.main_arg0)
      ∧ r.2.mem ((c.tc : Thread Cert.ProjDgradIdeal.nD Cert.ProjDgradIdeal.τ).loc Cert.ProjDgradIdeal.main_arg1) = m ((c.tc : Thread Cert.ProjDgradIdeal.nD Cert.ProjDgradIdeal.τ).loc Cert.ProjDgradIdeal.main_arg1)
      ∧ r.2.mem ((c.tc : Thread Cert.ProjDgradIdeal.nD Cert.ProjDgradIdeal.τ).loc Cert.ProjDgradIdeal.main_arg2) = m ((c.tc : Thread Cert.ProjDgradIdeal.nD Cert.ProjDgradIdeal.τ).loc Cert.ProjDgradIdeal.main_arg2))
      ∧ r.2.sem = fun _ => 0)

def quiescent_ProjDgradRefIdeal [hProjDgradRefIdeal : Cert.ProjDgradRefIdeal.Facts] : Prop :=
  ∀ (m : (ℓ : Loc Cert.ProjDgradRefIdeal.nD Cert.ProjDgradRefIdeal.τ Cert.ProjDgradRefIdeal.sig) → Buf (Elt Ideal) ℓ) (g : Dev Cert.ProjDgradRefIdeal.nD → PrngReg), Pre_ProjDgradRefIdeal m →
    θ_run (Cert.ProjDgradRefIdeal.defs (F := Ideal)) (onTc (τ := Cert.ProjDgradRefIdeal.τ) (Cert.ProjDgradRefIdeal.main (F := Ideal))) ⟨m, fun _ => 0, g⟩ (fun r => (∀ c : Dev Cert.ProjDgradRefIdeal.nD,
      r.2.mem ((c.tc : Thread Cert.ProjDgradRefIdeal.nD Cert.ProjDgradRefIdeal.τ).loc Cert.ProjDgradRefIdeal.main_arg0) = m ((c.tc : Thread Cert.ProjDgradRefIdeal.nD Cert.ProjDgradRefIdeal.τ).loc Cert.ProjDgradRefIdeal.main_arg0)
      ∧ r.2.mem ((c.tc : Thread Cert.ProjDgradRefIdeal.nD Cert.ProjDgradRefIdeal.τ).loc Cert.ProjDgradRefIdeal.main_arg1) = m ((c.tc : Thread Cert.ProjDgradRefIdeal.nD Cert.ProjDgradRefIdeal.τ).loc Cert.ProjDgradRefIdeal.main_arg1)
      ∧ r.2.mem ((c.tc : Thread Cert.ProjDgradRefIdeal.nD Cert.ProjDgradRefIdeal.τ).loc Cert.ProjDgradRefIdeal.main_arg2) = m ((c.tc : Thread Cert.ProjDgradRefIdeal.nD Cert.ProjDgradRefIdeal.τ).loc Cert.ProjDgradRefIdeal.main_arg2))
      ∧ r.2.sem = fun _ => 0)

def quiescent_ProjWgrad [hProjWgrad : Cert.ProjWgrad.Facts] : Prop :=
  ∀ (m : (ℓ : Loc Cert.ProjWgrad.nD Cert.ProjWgrad.τ Cert.ProjWgrad.sig) → Buf (Elt Bits) ℓ) (g : Dev Cert.ProjWgrad.nD → PrngReg), Pre_ProjWgrad m →
    θ_run (Cert.ProjWgrad.defs (F := Bits)) (onTc (τ := Cert.ProjWgrad.τ) (Cert.ProjWgrad.main (F := Bits))) ⟨m, fun _ => 0, g⟩ (fun r => (∀ c : Dev Cert.ProjWgrad.nD,
      r.2.mem ((c.tc : Thread Cert.ProjWgrad.nD Cert.ProjWgrad.τ).loc Cert.ProjWgrad.main_arg0) = m ((c.tc : Thread Cert.ProjWgrad.nD Cert.ProjWgrad.τ).loc Cert.ProjWgrad.main_arg0)
      ∧ r.2.mem ((c.tc : Thread Cert.ProjWgrad.nD Cert.ProjWgrad.τ).loc Cert.ProjWgrad.main_arg1) = m ((c.tc : Thread Cert.ProjWgrad.nD Cert.ProjWgrad.τ).loc Cert.ProjWgrad.main_arg1)
      ∧ r.2.mem ((c.tc : Thread Cert.ProjWgrad.nD Cert.ProjWgrad.τ).loc Cert.ProjWgrad.main_arg2) = m ((c.tc : Thread Cert.ProjWgrad.nD Cert.ProjWgrad.τ).loc Cert.ProjWgrad.main_arg2))
      ∧ r.2.sem = fun _ => 0)

def quiescent_ProjWgradIdeal [hProjWgradIdeal : Cert.ProjWgradIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg), Pre_ProjWgradIdeal m →
    θ_run (Cert.ProjWgradIdeal.defs (F := Ideal)) (onTc (τ := Cert.ProjWgradIdeal.τ) (Cert.ProjWgradIdeal.main (F := Ideal))) ⟨m, fun _ => 0, g⟩ (fun r => (∀ c : Dev Cert.ProjWgradIdeal.nD,
      r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
      ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1)
      ∧ r.2.mem ((c.tc : Thread Cert.ProjWgradIdeal.nD Cert.ProjWgradIdeal.τ).loc Cert.ProjWgradIdeal.main_arg2) = m ((c.tc : Thread Cert.ProjWgradIdeal.nD Cert.ProjWgradIdeal.τ).loc Cert.ProjWgradIdeal.main_arg2))
      ∧ r.2.sem = fun _ => 0)

def quiescent_ProjWgradRefIdeal [hProjWgradRefIdeal : Cert.ProjWgradRefIdeal.Facts] : Prop :=
  ∀ (m : (ℓ : Loc Cert.ProjWgradRefIdeal.nD Cert.ProjWgradRefIdeal.τ Cert.ProjWgradRefIdeal.sig) → Buf (Elt Ideal) ℓ) (g : Dev Cert.ProjWgradRefIdeal.nD → PrngReg), Pre_ProjWgradRefIdeal m →
    θ_run (Cert.ProjWgradRefIdeal.defs (F := Ideal)) (onTc (τ := Cert.ProjWgradRefIdeal.τ) (Cert.ProjWgradRefIdeal.main (F := Ideal))) ⟨m, fun _ => 0, g⟩ (fun r => (∀ c : Dev Cert.ProjWgradRefIdeal.nD,
      r.2.mem ((c.tc : Thread Cert.ProjWgradRefIdeal.nD Cert.ProjWgradRefIdeal.τ).loc Cert.ProjWgradRefIdeal.main_arg0) = m ((c.tc : Thread Cert.ProjWgradRefIdeal.nD Cert.ProjWgradRefIdeal.τ).loc Cert.ProjWgradRefIdeal.main_arg0)
      ∧ r.2.mem ((c.tc : Thread Cert.ProjWgradRefIdeal.nD Cert.ProjWgradRefIdeal.τ).loc Cert.ProjWgradRefIdeal.main_arg1) = m ((c.tc : Thread Cert.ProjWgradRefIdeal.nD Cert.ProjWgradRefIdeal.τ).loc Cert.ProjWgradRefIdeal.main_arg1)
      ∧ r.2.mem ((c.tc : Thread Cert.ProjWgradRefIdeal.nD Cert.ProjWgradRefIdeal.τ).loc Cert.ProjWgradRefIdeal.main_arg2) = m ((c.tc : Thread Cert.ProjWgradRefIdeal.nD Cert.ProjWgradRefIdeal.τ).loc Cert.ProjWgradRefIdeal.main_arg2))
      ∧ r.2.sem = fun _ => 0)

def quiescent_FfnOutWgrad [hFfnOutWgrad : Cert.FfnOutWgrad.Facts] : Prop :=
  ∀ (m : (ℓ : Loc Cert.FfnOutWgrad.nD Cert.FfnOutWgrad.τ Cert.FfnOutWgrad.sig) → Buf (Elt Bits) ℓ) (g : Dev Cert.FfnOutWgrad.nD → PrngReg), Pre_FfnOutWgrad m →
    θ_run (Cert.FfnOutWgrad.defs (F := Bits)) (onTc (τ := Cert.FfnOutWgrad.τ) (Cert.FfnOutWgrad.main (F := Bits))) ⟨m, fun _ => 0, g⟩ (fun r => (∀ c : Dev Cert.FfnOutWgrad.nD,
      r.2.mem ((c.tc : Thread Cert.FfnOutWgrad.nD Cert.FfnOutWgrad.τ).loc Cert.FfnOutWgrad.main_arg0) = m ((c.tc : Thread Cert.FfnOutWgrad.nD Cert.FfnOutWgrad.τ).loc Cert.FfnOutWgrad.main_arg0)
      ∧ r.2.mem ((c.tc : Thread Cert.FfnOutWgrad.nD Cert.FfnOutWgrad.τ).loc Cert.FfnOutWgrad.main_arg1) = m ((c.tc : Thread Cert.FfnOutWgrad.nD Cert.FfnOutWgrad.τ).loc Cert.FfnOutWgrad.main_arg1)
      ∧ r.2.mem ((c.tc : Thread Cert.FfnOutWgrad.nD Cert.FfnOutWgrad.τ).loc Cert.FfnOutWgrad.main_arg2) = m ((c.tc : Thread Cert.FfnOutWgrad.nD Cert.FfnOutWgrad.τ).loc Cert.FfnOutWgrad.main_arg2))
      ∧ r.2.sem = fun _ => 0)

def quiescent_FfnOutWgradIdeal [hFfnOutWgradIdeal : Cert.FfnOutWgradIdeal.Facts] : Prop :=
  ∀ (m : (ℓ : Loc Cert.FfnOutWgradIdeal.nD Cert.FfnOutWgradIdeal.τ Cert.FfnOutWgradIdeal.sig) → Buf (Elt Ideal) ℓ) (g : Dev Cert.FfnOutWgradIdeal.nD → PrngReg), Pre_FfnOutWgradIdeal m →
    θ_run (Cert.FfnOutWgradIdeal.defs (F := Ideal)) (onTc (τ := Cert.FfnOutWgradIdeal.τ) (Cert.FfnOutWgradIdeal.main (F := Ideal))) ⟨m, fun _ => 0, g⟩ (fun r => (∀ c : Dev Cert.FfnOutWgradIdeal.nD,
      r.2.mem ((c.tc : Thread Cert.FfnOutWgradIdeal.nD Cert.FfnOutWgradIdeal.τ).loc Cert.FfnOutWgradIdeal.main_arg0) = m ((c.tc : Thread Cert.FfnOutWgradIdeal.nD Cert.FfnOutWgradIdeal.τ).loc Cert.FfnOutWgradIdeal.main_arg0)
      ∧ r.2.mem ((c.tc : Thread Cert.FfnOutWgradIdeal.nD Cert.FfnOutWgradIdeal.τ).loc Cert.FfnOutWgradIdeal.main_arg1) = m ((c.tc : Thread Cert.FfnOutWgradIdeal.nD Cert.FfnOutWgradIdeal.τ).loc Cert.FfnOutWgradIdeal.main_arg1)
      ∧ r.2.mem ((c.tc : Thread Cert.FfnOutWgradIdeal.nD Cert.FfnOutWgradIdeal.τ).loc Cert.FfnOutWgradIdeal.main_arg2) = m ((c.tc : Thread Cert.FfnOutWgradIdeal.nD Cert.FfnOutWgradIdeal.τ).loc Cert.FfnOutWgradIdeal.main_arg2))
      ∧ r.2.sem = fun _ => 0)

def quiescent_FfnOutWgradRefIdeal [hFfnOutWgradRefIdeal : Cert.FfnOutWgradRefIdeal.Facts] : Prop :=
  ∀ (m : (ℓ : Loc Cert.FfnOutWgradRefIdeal.nD Cert.FfnOutWgradRefIdeal.τ Cert.FfnOutWgradRefIdeal.sig) → Buf (Elt Ideal) ℓ) (g : Dev Cert.FfnOutWgradRefIdeal.nD → PrngReg), Pre_FfnOutWgradRefIdeal m →
    θ_run (Cert.FfnOutWgradRefIdeal.defs (F := Ideal)) (onTc (τ := Cert.FfnOutWgradRefIdeal.τ) (Cert.FfnOutWgradRefIdeal.main (F := Ideal))) ⟨m, fun _ => 0, g⟩ (fun r => (∀ c : Dev Cert.FfnOutWgradRefIdeal.nD,
      r.2.mem ((c.tc : Thread Cert.FfnOutWgradRefIdeal.nD Cert.FfnOutWgradRefIdeal.τ).loc Cert.FfnOutWgradRefIdeal.main_arg0) = m ((c.tc : Thread Cert.FfnOutWgradRefIdeal.nD Cert.FfnOutWgradRefIdeal.τ).loc Cert.FfnOutWgradRefIdeal.main_arg0)
      ∧ r.2.mem ((c.tc : Thread Cert.FfnOutWgradRefIdeal.nD Cert.FfnOutWgradRefIdeal.τ).loc Cert.FfnOutWgradRefIdeal.main_arg1) = m ((c.tc : Thread Cert.FfnOutWgradRefIdeal.nD Cert.FfnOutWgradRefIdeal.τ).loc Cert.FfnOutWgradRefIdeal.main_arg1)
      ∧ r.2.mem ((c.tc : Thread Cert.FfnOutWgradRefIdeal.nD Cert.FfnOutWgradRefIdeal.τ).loc Cert.FfnOutWgradRefIdeal.main_arg2) = m ((c.tc : Thread Cert.FfnOutWgradRefIdeal.nD Cert.FfnOutWgradRefIdeal.τ).loc Cert.FfnOutWgradRefIdeal.main_arg2))
      ∧ r.2.sem = fun _ => 0)

def quiescent_FfnInDgrad [hFfnInDgrad : Cert.FfnInDgrad.Facts] : Prop :=
  ∀ (m : (ℓ : Loc Cert.FfnInDgrad.nD Cert.FfnInDgrad.τ Cert.FfnInDgrad.sig) → Buf (Elt Bits) ℓ) (g : Dev Cert.FfnInDgrad.nD → PrngReg), Pre_FfnInDgrad m →
    θ_run (Cert.FfnInDgrad.defs (F := Bits)) (onTc (τ := Cert.FfnInDgrad.τ) (Cert.FfnInDgrad.main (F := Bits))) ⟨m, fun _ => 0, g⟩ (fun r => (∀ c : Dev Cert.FfnInDgrad.nD,
      r.2.mem ((c.tc : Thread Cert.FfnInDgrad.nD Cert.FfnInDgrad.τ).loc Cert.FfnInDgrad.main_arg0) = m ((c.tc : Thread Cert.FfnInDgrad.nD Cert.FfnInDgrad.τ).loc Cert.FfnInDgrad.main_arg0)
      ∧ r.2.mem ((c.tc : Thread Cert.FfnInDgrad.nD Cert.FfnInDgrad.τ).loc Cert.FfnInDgrad.main_arg1) = m ((c.tc : Thread Cert.FfnInDgrad.nD Cert.FfnInDgrad.τ).loc Cert.FfnInDgrad.main_arg1)
      ∧ r.2.mem ((c.tc : Thread Cert.FfnInDgrad.nD Cert.FfnInDgrad.τ).loc Cert.FfnInDgrad.main_arg2) = m ((c.tc : Thread Cert.FfnInDgrad.nD Cert.FfnInDgrad.τ).loc Cert.FfnInDgrad.main_arg2)
      ∧ r.2.mem ((c.tc : Thread Cert.FfnInDgrad.nD Cert.FfnInDgrad.τ).loc Cert.FfnInDgrad.main_arg3) = m ((c.tc : Thread Cert.FfnInDgrad.nD Cert.FfnInDgrad.τ).loc Cert.FfnInDgrad.main_arg3))
      ∧ r.2.sem = fun _ => 0)

def quiescent_FfnInDgradIdeal [hFfnInDgradIdeal : Cert.FfnInDgradIdeal.Facts] : Prop :=
  ∀ (m : (ℓ : Loc Cert.FfnInDgradIdeal.nD Cert.FfnInDgradIdeal.τ Cert.FfnInDgradIdeal.sig) → Buf (Elt Ideal) ℓ) (g : Dev Cert.FfnInDgradIdeal.nD → PrngReg), Pre_FfnInDgradIdeal m →
    θ_run (Cert.FfnInDgradIdeal.defs (F := Ideal)) (onTc (τ := Cert.FfnInDgradIdeal.τ) (Cert.FfnInDgradIdeal.main (F := Ideal))) ⟨m, fun _ => 0, g⟩ (fun r => (∀ c : Dev Cert.FfnInDgradIdeal.nD,
      r.2.mem ((c.tc : Thread Cert.FfnInDgradIdeal.nD Cert.FfnInDgradIdeal.τ).loc Cert.FfnInDgradIdeal.main_arg0) = m ((c.tc : Thread Cert.FfnInDgradIdeal.nD Cert.FfnInDgradIdeal.τ).loc Cert.FfnInDgradIdeal.main_arg0)
      ∧ r.2.mem ((c.tc : Thread Cert.FfnInDgradIdeal.nD Cert.FfnInDgradIdeal.τ).loc Cert.FfnInDgradIdeal.main_arg1) = m ((c.tc : Thread Cert.FfnInDgradIdeal.nD Cert.FfnInDgradIdeal.τ).loc Cert.FfnInDgradIdeal.main_arg1)
      ∧ r.2.mem ((c.tc : Thread Cert.FfnInDgradIdeal.nD Cert.FfnInDgradIdeal.τ).loc Cert.FfnInDgradIdeal.main_arg2) = m ((c.tc : Thread Cert.FfnInDgradIdeal.nD Cert.FfnInDgradIdeal.τ).loc Cert.FfnInDgradIdeal.main_arg2)
      ∧ r.2.mem ((c.tc : Thread Cert.FfnInDgradIdeal.nD Cert.FfnInDgradIdeal.τ).loc Cert.FfnInDgradIdeal.main_arg3) = m ((c.tc : Thread Cert.FfnInDgradIdeal.nD Cert.FfnInDgradIdeal.τ).loc Cert.FfnInDgradIdeal.main_arg3))
      ∧ r.2.sem = fun _ => 0)

def quiescent_FfnInDgradRefIdeal [hFfnInDgradRefIdeal : Cert.FfnInDgradRefIdeal.Facts] : Prop :=
  ∀ (m : (ℓ : Loc Cert.FfnInDgradRefIdeal.nD Cert.FfnInDgradRefIdeal.τ Cert.FfnInDgradRefIdeal.sig) → Buf (Elt Ideal) ℓ) (g : Dev Cert.FfnInDgradRefIdeal.nD → PrngReg), Pre_FfnInDgradRefIdeal m →
    θ_run (Cert.FfnInDgradRefIdeal.defs (F := Ideal)) (onTc (τ := Cert.FfnInDgradRefIdeal.τ) (Cert.FfnInDgradRefIdeal.main (F := Ideal))) ⟨m, fun _ => 0, g⟩ (fun r => (∀ c : Dev Cert.FfnInDgradRefIdeal.nD,
      r.2.mem ((c.tc : Thread Cert.FfnInDgradRefIdeal.nD Cert.FfnInDgradRefIdeal.τ).loc Cert.FfnInDgradRefIdeal.main_arg0) = m ((c.tc : Thread Cert.FfnInDgradRefIdeal.nD Cert.FfnInDgradRefIdeal.τ).loc Cert.FfnInDgradRefIdeal.main_arg0)
      ∧ r.2.mem ((c.tc : Thread Cert.FfnInDgradRefIdeal.nD Cert.FfnInDgradRefIdeal.τ).loc Cert.FfnInDgradRefIdeal.main_arg1) = m ((c.tc : Thread Cert.FfnInDgradRefIdeal.nD Cert.FfnInDgradRefIdeal.τ).loc Cert.FfnInDgradRefIdeal.main_arg1)
      ∧ r.2.mem ((c.tc : Thread Cert.FfnInDgradRefIdeal.nD Cert.FfnInDgradRefIdeal.τ).loc Cert.FfnInDgradRefIdeal.main_arg2) = m ((c.tc : Thread Cert.FfnInDgradRefIdeal.nD Cert.FfnInDgradRefIdeal.τ).loc Cert.FfnInDgradRefIdeal.main_arg2)
      ∧ r.2.mem ((c.tc : Thread Cert.FfnInDgradRefIdeal.nD Cert.FfnInDgradRefIdeal.τ).loc Cert.FfnInDgradRefIdeal.main_arg3) = m ((c.tc : Thread Cert.FfnInDgradRefIdeal.nD Cert.FfnInDgradRefIdeal.τ).loc Cert.FfnInDgradRefIdeal.main_arg3))
      ∧ r.2.sem = fun _ => 0)

def quiescent_FfnInWgrad [hFfnInWgrad : Cert.FfnInWgrad.Facts] : Prop :=
  ∀ (m : (ℓ : Loc Cert.FfnInWgrad.nD Cert.FfnInWgrad.τ Cert.FfnInWgrad.sig) → Buf (Elt Bits) ℓ) (g : Dev Cert.FfnInWgrad.nD → PrngReg), Pre_FfnInWgrad m →
    θ_run (Cert.FfnInWgrad.defs (F := Bits)) (onTc (τ := Cert.FfnInWgrad.τ) (Cert.FfnInWgrad.main (F := Bits))) ⟨m, fun _ => 0, g⟩ (fun r => (∀ c : Dev Cert.FfnInWgrad.nD,
      r.2.mem ((c.tc : Thread Cert.FfnInWgrad.nD Cert.FfnInWgrad.τ).loc Cert.FfnInWgrad.main_arg0) = m ((c.tc : Thread Cert.FfnInWgrad.nD Cert.FfnInWgrad.τ).loc Cert.FfnInWgrad.main_arg0)
      ∧ r.2.mem ((c.tc : Thread Cert.FfnInWgrad.nD Cert.FfnInWgrad.τ).loc Cert.FfnInWgrad.main_arg1) = m ((c.tc : Thread Cert.FfnInWgrad.nD Cert.FfnInWgrad.τ).loc Cert.FfnInWgrad.main_arg1)
      ∧ r.2.mem ((c.tc : Thread Cert.FfnInWgrad.nD Cert.FfnInWgrad.τ).loc Cert.FfnInWgrad.main_arg2) = m ((c.tc : Thread Cert.FfnInWgrad.nD Cert.FfnInWgrad.τ).loc Cert.FfnInWgrad.main_arg2)
      ∧ r.2.mem ((c.tc : Thread Cert.FfnInWgrad.nD Cert.FfnInWgrad.τ).loc Cert.FfnInWgrad.main_arg3) = m ((c.tc : Thread Cert.FfnInWgrad.nD Cert.FfnInWgrad.τ).loc Cert.FfnInWgrad.main_arg3))
      ∧ r.2.sem = fun _ => 0)

def quiescent_FfnInWgradIdeal [hFfnInWgradIdeal : Cert.FfnInWgradIdeal.Facts] : Prop :=
  ∀ (m : (ℓ : Loc Cert.FfnInWgradIdeal.nD Cert.FfnInWgradIdeal.τ Cert.FfnInWgradIdeal.sig) → Buf (Elt Ideal) ℓ) (g : Dev Cert.FfnInWgradIdeal.nD → PrngReg), Pre_FfnInWgradIdeal m →
    θ_run (Cert.FfnInWgradIdeal.defs (F := Ideal)) (onTc (τ := Cert.FfnInWgradIdeal.τ) (Cert.FfnInWgradIdeal.main (F := Ideal))) ⟨m, fun _ => 0, g⟩ (fun r => (∀ c : Dev Cert.FfnInWgradIdeal.nD,
      r.2.mem ((c.tc : Thread Cert.FfnInWgradIdeal.nD Cert.FfnInWgradIdeal.τ).loc Cert.FfnInWgradIdeal.main_arg0) = m ((c.tc : Thread Cert.FfnInWgradIdeal.nD Cert.FfnInWgradIdeal.τ).loc Cert.FfnInWgradIdeal.main_arg0)
      ∧ r.2.mem ((c.tc : Thread Cert.FfnInWgradIdeal.nD Cert.FfnInWgradIdeal.τ).loc Cert.FfnInWgradIdeal.main_arg1) = m ((c.tc : Thread Cert.FfnInWgradIdeal.nD Cert.FfnInWgradIdeal.τ).loc Cert.FfnInWgradIdeal.main_arg1)
      ∧ r.2.mem ((c.tc : Thread Cert.FfnInWgradIdeal.nD Cert.FfnInWgradIdeal.τ).loc Cert.FfnInWgradIdeal.main_arg2) = m ((c.tc : Thread Cert.FfnInWgradIdeal.nD Cert.FfnInWgradIdeal.τ).loc Cert.FfnInWgradIdeal.main_arg2)
      ∧ r.2.mem ((c.tc : Thread Cert.FfnInWgradIdeal.nD Cert.FfnInWgradIdeal.τ).loc Cert.FfnInWgradIdeal.main_arg3) = m ((c.tc : Thread Cert.FfnInWgradIdeal.nD Cert.FfnInWgradIdeal.τ).loc Cert.FfnInWgradIdeal.main_arg3))
      ∧ r.2.sem = fun _ => 0)

def quiescent_FfnInWgradRefIdeal [hFfnInWgradRefIdeal : Cert.FfnInWgradRefIdeal.Facts] : Prop :=
  ∀ (m : (ℓ : Loc Cert.FfnInWgradRefIdeal.nD Cert.FfnInWgradRefIdeal.τ Cert.FfnInWgradRefIdeal.sig) → Buf (Elt Ideal) ℓ) (g : Dev Cert.FfnInWgradRefIdeal.nD → PrngReg), Pre_FfnInWgradRefIdeal m →
    θ_run (Cert.FfnInWgradRefIdeal.defs (F := Ideal)) (onTc (τ := Cert.FfnInWgradRefIdeal.τ) (Cert.FfnInWgradRefIdeal.main (F := Ideal))) ⟨m, fun _ => 0, g⟩ (fun r => (∀ c : Dev Cert.FfnInWgradRefIdeal.nD,
      r.2.mem ((c.tc : Thread Cert.FfnInWgradRefIdeal.nD Cert.FfnInWgradRefIdeal.τ).loc Cert.FfnInWgradRefIdeal.main_arg0) = m ((c.tc : Thread Cert.FfnInWgradRefIdeal.nD Cert.FfnInWgradRefIdeal.τ).loc Cert.FfnInWgradRefIdeal.main_arg0)
      ∧ r.2.mem ((c.tc : Thread Cert.FfnInWgradRefIdeal.nD Cert.FfnInWgradRefIdeal.τ).loc Cert.FfnInWgradRefIdeal.main_arg1) = m ((c.tc : Thread Cert.FfnInWgradRefIdeal.nD Cert.FfnInWgradRefIdeal.τ).loc Cert.FfnInWgradRefIdeal.main_arg1)
      ∧ r.2.mem ((c.tc : Thread Cert.FfnInWgradRefIdeal.nD Cert.FfnInWgradRefIdeal.τ).loc Cert.FfnInWgradRefIdeal.main_arg2) = m ((c.tc : Thread Cert.FfnInWgradRefIdeal.nD Cert.FfnInWgradRefIdeal.τ).loc Cert.FfnInWgradRefIdeal.main_arg2)
      ∧ r.2.mem ((c.tc : Thread Cert.FfnInWgradRefIdeal.nD Cert.FfnInWgradRefIdeal.τ).loc Cert.FfnInWgradRefIdeal.main_arg3) = m ((c.tc : Thread Cert.FfnInWgradRefIdeal.nD Cert.FfnInWgradRefIdeal.τ).loc Cert.FfnInWgradRefIdeal.main_arg3))
      ∧ r.2.sem = fun _ => 0)

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Merge_MergeIdeal : Prop :=
  True

def algebraic_MergeIdeal_MergeRefIdeal_on_written_merge [hMergeIdeal : Cert.MergeIdeal.Facts] [hMergeRefIdeal : Cert.MergeRefIdeal.Facts] [hOn_written_merge : Cert.On_written_merge.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v14_0)) (v1 : (c : Dev Cert.MergeIdeal.nD) → Buf (Elt Ideal) ((c.tc : Thread Cert.MergeIdeal.nD Cert.MergeIdeal.τ).loc Cert.MergeIdeal.main_v14_1)) (v2 : (c : Dev Cert.MergeIdeal.nD) → Buf (Elt Ideal) ((c.tc : Thread Cert.MergeIdeal.nD Cert.MergeIdeal.τ).loc Cert.MergeIdeal.main_v14_2)) (v3 : (c : Dev Cert.MergeIdeal.nD) → Buf (Elt Ideal) ((c.tc : Thread Cert.MergeIdeal.nD Cert.MergeIdeal.τ).loc Cert.MergeIdeal.main_v14_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![8192, 6144]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).1 i = 1#1 → r.2.mem ((c.tc : Thread Cert.MergeIdeal.nD Cert.MergeIdeal.τ).loc Cert.MergeIdeal.main_v14_0) i = v0 c i)
          ∧ (∀ i : (⟨2, ![8192, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.1 i = 1#1 → r.2.mem ((c.tc : Thread Cert.MergeIdeal.nD Cert.MergeIdeal.τ).loc Cert.MergeIdeal.main_v14_1) i = v1 c i)
          ∧ (∀ i : (⟨2, ![8192, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.2.1 i = 1#1 → r.2.mem ((c.tc : Thread Cert.MergeIdeal.nD Cert.MergeIdeal.τ).loc Cert.MergeIdeal.main_v14_2) i = v2 c i)
          ∧ (∀ i : (⟨2, ![8192, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.2.2 i = 1#1 → r.2.mem ((c.tc : Thread Cert.MergeIdeal.nD Cert.MergeIdeal.τ).loc Cert.MergeIdeal.main_v14_3) i = v3 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![8192, 6144]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).1 i = 1#1 → r.2.mem ((c.tc : Thread Cert.MergeRefIdeal.nD Cert.MergeRefIdeal.τ).loc Cert.MergeRefIdeal.main_v51) i = v0 c i)
          ∧ (∀ i : (⟨2, ![8192, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.1 i = 1#1 → r.2.mem ((c.tc : Thread Cert.MergeRefIdeal.nD Cert.MergeRefIdeal.τ).loc Cert.MergeRefIdeal.main_v52) i = v1 c i)
          ∧ (∀ i : (⟨2, ![8192, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.2.1 i = 1#1 → r.2.mem ((c.tc : Thread Cert.MergeRefIdeal.nD Cert.MergeRefIdeal.τ).loc Cert.MergeRefIdeal.main_v53) i = v2 c i)
          ∧ (∀ i : (⟨2, ![8192, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5))).2.2.2 i = 1#1 → r.2.mem ((c.tc : Thread Cert.MergeRefIdeal.nD Cert.MergeRefIdeal.τ).loc Cert.MergeRefIdeal.main_v54) i = v3 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_FfnOut_FfnOutIdeal : Prop :=
  True

def algebraic_FfnOutIdeal_FfnOutRefIdeal_pre_finite_ffn [hFfnOutIdeal : Cert.FfnOutIdeal.Facts] [hFfnOutRefIdeal : Cert.FfnOutRefIdeal.Facts] [hPre_finite_ffn : Cert.Pre_finite_ffn.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal_finite_ffn m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v16)) (v1 : (c : Dev Cert.FfnOutIdeal.nD) → Buf (Elt Ideal) ((c.tc : Thread Cert.FfnOutIdeal.nD Cert.FfnOutIdeal.τ).loc Cert.FfnOutIdeal.main_v19)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v16) = v0 c
          ∧ r.2.mem ((c.tc : Thread Cert.FfnOutIdeal.nD Cert.FfnOutIdeal.τ).loc Cert.FfnOutIdeal.main_v19) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v7) = v0 c
          ∧ r.2.mem ((c.tc : Thread Cert.FfnOutRefIdeal.nD Cert.FfnOutRefIdeal.τ).loc Cert.FfnOutRefIdeal.main_v8) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v5_0)) (v1 : (c : Dev Cert.NormIdeal.nD) → Buf (Elt Ideal) ((c.tc : Thread Cert.NormIdeal.nD Cert.NormIdeal.τ).loc Cert.NormIdeal.main_v5_1)) (v2 : (c : Dev Cert.NormIdeal.nD) → Buf (Elt Ideal) ((c.tc : Thread Cert.NormIdeal.nD Cert.NormIdeal.τ).loc Cert.NormIdeal.main_v5_2)) (v3 : (c : Dev Cert.NormIdeal.nD) → Buf (Elt Ideal) ((c.tc : Thread Cert.NormIdeal.nD Cert.NormIdeal.τ).loc Cert.NormIdeal.main_v5_3)) (v4 : (c : Dev Cert.NormIdeal.nD) → Buf (Elt Ideal) ((c.tc : Thread Cert.NormIdeal.nD Cert.NormIdeal.τ).loc Cert.NormIdeal.main_v5_4)) (v5 : (c : Dev Cert.NormIdeal.nD) → Buf (Elt Ideal) ((c.tc : Thread Cert.NormIdeal.nD Cert.NormIdeal.τ).loc Cert.NormIdeal.main_v5_5)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v5_0) = v0 c
          ∧ r.2.mem ((c.tc : Thread Cert.NormIdeal.nD Cert.NormIdeal.τ).loc Cert.NormIdeal.main_v5_1) = v1 c
          ∧ r.2.mem ((c.tc : Thread Cert.NormIdeal.nD Cert.NormIdeal.τ).loc Cert.NormIdeal.main_v5_2) = v2 c
          ∧ r.2.mem ((c.tc : Thread Cert.NormIdeal.nD Cert.NormIdeal.τ).loc Cert.NormIdeal.main_v5_3) = v3 c
          ∧ r.2.mem ((c.tc : Thread Cert.NormIdeal.nD Cert.NormIdeal.τ).loc Cert.NormIdeal.main_v5_4) = v4 c
          ∧ r.2.mem ((c.tc : Thread Cert.NormIdeal.nD Cert.NormIdeal.τ).loc Cert.NormIdeal.main_v5_5) = v5 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v53) = v0 c
          ∧ r.2.mem ((c.tc : Thread Cert.NormRefIdeal.nD Cert.NormRefIdeal.τ).loc Cert.NormRefIdeal.main_v28) = v1 c
          ∧ r.2.mem ((c.tc : Thread Cert.NormRefIdeal.nD Cert.NormRefIdeal.τ).loc Cert.NormRefIdeal.main_v31) = v2 c
          ∧ r.2.mem ((c.tc : Thread Cert.NormRefIdeal.nD Cert.NormRefIdeal.τ).loc Cert.NormRefIdeal.main_v36) = v3 c
          ∧ r.2.mem ((c.tc : Thread Cert.NormRefIdeal.nD Cert.NormRefIdeal.τ).loc Cert.NormRefIdeal.main_v60) = v4 c
          ∧ r.2.mem ((c.tc : Thread Cert.NormRefIdeal.nD Cert.NormRefIdeal.τ).loc Cert.NormRefIdeal.main_v59) = v5 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_NormUngated_NormUngatedIdeal : Prop :=
  True

def algebraic_NormUngatedIdeal_NormUngatedRefIdeal_pre_finite_norm_ungated [hNormUngatedIdeal : Cert.NormUngatedIdeal.Facts] [hNormUngatedRefIdeal : Cert.NormUngatedRefIdeal.Facts] [hPre_finite_norm_ungated : Cert.Pre_finite_norm_ungated.Facts] : Prop :=
  ∀ (m : (ℓ : Loc Cert.NormUngatedIdeal.nD Cert.NormUngatedIdeal.τ Cert.NormUngatedIdeal.sig) → Buf (Elt Ideal) ℓ) (g : Dev Cert.NormUngatedIdeal.nD → PrngReg)
    (m' : (ℓ : Loc Cert.NormUngatedRefIdeal.nD Cert.NormUngatedRefIdeal.τ Cert.NormUngatedRefIdeal.sig) → Buf (Elt Ideal) ℓ) (g' : Dev Cert.NormUngatedRefIdeal.nD → PrngReg), Pre_NormUngatedIdeal_finite_norm_ungated m →
    (∀ c : Dev Cert.NormUngatedIdeal.nD,
      m' ((c.tc : Thread Cert.NormUngatedRefIdeal.nD Cert.NormUngatedRefIdeal.τ).loc Cert.NormUngatedRefIdeal.main_arg0) = m ((c.tc : Thread Cert.NormUngatedIdeal.nD Cert.NormUngatedIdeal.τ).loc Cert.NormUngatedIdeal.main_arg0)
      ∧ m' ((c.tc : Thread Cert.NormUngatedRefIdeal.nD Cert.NormUngatedRefIdeal.τ).loc Cert.NormUngatedRefIdeal.main_arg1) = m ((c.tc : Thread Cert.NormUngatedIdeal.nD Cert.NormUngatedIdeal.τ).loc Cert.NormUngatedIdeal.main_arg1)
      ∧ m' ((c.tc : Thread Cert.NormUngatedRefIdeal.nD Cert.NormUngatedRefIdeal.τ).loc Cert.NormUngatedRefIdeal.main_arg2) = m ((c.tc : Thread Cert.NormUngatedIdeal.nD Cert.NormUngatedIdeal.τ).loc Cert.NormUngatedIdeal.main_arg2)
      ∧ m' ((c.tc : Thread Cert.NormUngatedRefIdeal.nD Cert.NormUngatedRefIdeal.τ).loc Cert.NormUngatedRefIdeal.main_arg3) = m ((c.tc : Thread Cert.NormUngatedIdeal.nD Cert.NormUngatedIdeal.τ).loc Cert.NormUngatedIdeal.main_arg3)
      ∧ m' ((c.tc : Thread Cert.NormUngatedRefIdeal.nD Cert.NormUngatedRefIdeal.τ).loc Cert.NormUngatedRefIdeal.main_arg4) = m ((c.tc : Thread Cert.NormUngatedIdeal.nD Cert.NormUngatedIdeal.τ).loc Cert.NormUngatedIdeal.main_arg4)) →
    ∃ (v0 : (c : Dev Cert.NormUngatedIdeal.nD) → Buf (Elt Ideal) ((c.tc : Thread Cert.NormUngatedIdeal.nD Cert.NormUngatedIdeal.τ).loc Cert.NormUngatedIdeal.main_v1_0)) (v1 : (c : Dev Cert.NormUngatedIdeal.nD) → Buf (Elt Ideal) ((c.tc : Thread Cert.NormUngatedIdeal.nD Cert.NormUngatedIdeal.τ).loc Cert.NormUngatedIdeal.main_v1_1)) (v2 : (c : Dev Cert.NormUngatedIdeal.nD) → Buf (Elt Ideal) ((c.tc : Thread Cert.NormUngatedIdeal.nD Cert.NormUngatedIdeal.τ).loc Cert.NormUngatedIdeal.main_v1_2)) (v3 : (c : Dev Cert.NormUngatedIdeal.nD) → Buf (Elt Ideal) ((c.tc : Thread Cert.NormUngatedIdeal.nD Cert.NormUngatedIdeal.τ).loc Cert.NormUngatedIdeal.main_v1_3)),
      θ_run (Cert.NormUngatedIdeal.defs (F := Ideal)) (onTc (τ := Cert.NormUngatedIdeal.τ) (Cert.NormUngatedIdeal.main (F := Ideal))) ⟨m, fun _ => 0, g⟩ (fun r => ∀ c : Dev Cert.NormUngatedIdeal.nD,
          r.2.mem ((c.tc : Thread Cert.NormUngatedIdeal.nD Cert.NormUngatedIdeal.τ).loc Cert.NormUngatedIdeal.main_v1_0) = v0 c
          ∧ r.2.mem ((c.tc : Thread Cert.NormUngatedIdeal.nD Cert.NormUngatedIdeal.τ).loc Cert.NormUngatedIdeal.main_v1_1) = v1 c
          ∧ r.2.mem ((c.tc : Thread Cert.NormUngatedIdeal.nD Cert.NormUngatedIdeal.τ).loc Cert.NormUngatedIdeal.main_v1_2) = v2 c
          ∧ r.2.mem ((c.tc : Thread Cert.NormUngatedIdeal.nD Cert.NormUngatedIdeal.τ).loc Cert.NormUngatedIdeal.main_v1_3) = v3 c
          ∧ r.2.mem ((c.tc : Thread Cert.NormUngatedIdeal.nD Cert.NormUngatedIdeal.τ).loc Cert.NormUngatedIdeal.main_arg0) = m ((c.tc : Thread Cert.NormUngatedIdeal.nD Cert.NormUngatedIdeal.τ).loc Cert.NormUngatedIdeal.main_arg0)
          ∧ r.2.mem ((c.tc : Thread Cert.NormUngatedIdeal.nD Cert.NormUngatedIdeal.τ).loc Cert.NormUngatedIdeal.main_arg1) = m ((c.tc : Thread Cert.NormUngatedIdeal.nD Cert.NormUngatedIdeal.τ).loc Cert.NormUngatedIdeal.main_arg1)
          ∧ r.2.mem ((c.tc : Thread Cert.NormUngatedIdeal.nD Cert.NormUngatedIdeal.τ).loc Cert.NormUngatedIdeal.main_arg2) = m ((c.tc : Thread Cert.NormUngatedIdeal.nD Cert.NormUngatedIdeal.τ).loc Cert.NormUngatedIdeal.main_arg2)
          ∧ r.2.mem ((c.tc : Thread Cert.NormUngatedIdeal.nD Cert.NormUngatedIdeal.τ).loc Cert.NormUngatedIdeal.main_arg3) = m ((c.tc : Thread Cert.NormUngatedIdeal.nD Cert.NormUngatedIdeal.τ).loc Cert.NormUngatedIdeal.main_arg3)
          ∧ r.2.mem ((c.tc : Thread Cert.NormUngatedIdeal.nD Cert.NormUngatedIdeal.τ).loc Cert.NormUngatedIdeal.main_arg4) = m ((c.tc : Thread Cert.NormUngatedIdeal.nD Cert.NormUngatedIdeal.τ).loc Cert.NormUngatedIdeal.main_arg4))
      ∧ θ_run (Cert.NormUngatedRefIdeal.defs (F := Ideal)) (onTc (τ := Cert.NormUngatedRefIdeal.τ) (Cert.NormUngatedRefIdeal.main (F := Ideal))) ⟨m', fun _ => 0, g'⟩ (fun r => ∀ c : Dev Cert.NormUngatedRefIdeal.nD,
          r.2.mem ((c.tc : Thread Cert.NormUngatedRefIdeal.nD Cert.NormUngatedRefIdeal.τ).loc Cert.NormUngatedRefIdeal.main_v50) = v0 c
          ∧ r.2.mem ((c.tc : Thread Cert.NormUngatedRefIdeal.nD Cert.NormUngatedRefIdeal.τ).loc Cert.NormUngatedRefIdeal.main_v25) = v1 c
          ∧ r.2.mem ((c.tc : Thread Cert.NormUngatedRefIdeal.nD Cert.NormUngatedRefIdeal.τ).loc Cert.NormUngatedRefIdeal.main_v28) = v2 c
          ∧ r.2.mem ((c.tc : Thread Cert.NormUngatedRefIdeal.nD Cert.NormUngatedRefIdeal.τ).loc Cert.NormUngatedRefIdeal.main_v33) = v3 c
          ∧ r.2.mem ((c.tc : Thread Cert.NormUngatedRefIdeal.nD Cert.NormUngatedRefIdeal.τ).loc Cert.NormUngatedRefIdeal.main_arg0) = m' ((c.tc : Thread Cert.NormUngatedRefIdeal.nD Cert.NormUngatedRefIdeal.τ).loc Cert.NormUngatedRefIdeal.main_arg0)
          ∧ r.2.mem ((c.tc : Thread Cert.NormUngatedRefIdeal.nD Cert.NormUngatedRefIdeal.τ).loc Cert.NormUngatedRefIdeal.main_arg1) = m' ((c.tc : Thread Cert.NormUngatedRefIdeal.nD Cert.NormUngatedRefIdeal.τ).loc Cert.NormUngatedRefIdeal.main_arg1)
          ∧ r.2.mem ((c.tc : Thread Cert.NormUngatedRefIdeal.nD Cert.NormUngatedRefIdeal.τ).loc Cert.NormUngatedRefIdeal.main_arg2) = m' ((c.tc : Thread Cert.NormUngatedRefIdeal.nD Cert.NormUngatedRefIdeal.τ).loc Cert.NormUngatedRefIdeal.main_arg2)
          ∧ r.2.mem ((c.tc : Thread Cert.NormUngatedRefIdeal.nD Cert.NormUngatedRefIdeal.τ).loc Cert.NormUngatedRefIdeal.main_arg3) = m' ((c.tc : Thread Cert.NormUngatedRefIdeal.nD Cert.NormUngatedRefIdeal.τ).loc Cert.NormUngatedRefIdeal.main_arg3)
          ∧ r.2.mem ((c.tc : Thread Cert.NormUngatedRefIdeal.nD Cert.NormUngatedRefIdeal.τ).loc Cert.NormUngatedRefIdeal.main_arg4) = m' ((c.tc : Thread Cert.NormUngatedRefIdeal.nD Cert.NormUngatedRefIdeal.τ).loc Cert.NormUngatedRefIdeal.main_arg4))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)) (v3 : (c : Dev Cert.LossIdeal.nD) → Buf (Elt Ideal) ((c.tc : Thread Cert.LossIdeal.nD Cert.LossIdeal.τ).loc Cert.LossIdeal.main_v5_3)) (v4 : (c : Dev Cert.LossIdeal.nD) → Buf (Elt Ideal) ((c.tc : Thread Cert.LossIdeal.nD Cert.LossIdeal.τ).loc Cert.LossIdeal.main_v5_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_v5_3) = v3 c
          ∧ r.2.mem ((c.tc : Thread Cert.LossIdeal.nD Cert.LossIdeal.τ).loc Cert.LossIdeal.main_v5_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v55) = v0 c
          ∧ r.2.mem ((c.tc : Thread Cert.LossRefIdeal.nD Cert.LossRefIdeal.τ).loc Cert.LossRefIdeal.main_v62) = v1 c
          ∧ r.2.mem ((c.tc : Thread Cert.LossRefIdeal.nD Cert.LossRefIdeal.τ).loc Cert.LossRefIdeal.main_v39) = v2 c
          ∧ r.2.mem ((c.tc : Thread Cert.LossRefIdeal.nD Cert.LossRefIdeal.τ).loc Cert.LossRefIdeal.main_v63) = v3 c
          ∧ r.2.mem ((c.tc : Thread Cert.LossRefIdeal.nD Cert.LossRefIdeal.τ).loc Cert.LossRefIdeal.main_v60) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Sb_SbIdeal : Prop :=
  IdealRules.named_const.Statement Cert.SbIdeal.κ "sb_exit" .f32 0xC2DC0000#32 ⊥

def algebraic_SbIdeal_SbRefIdeal_pre_finite_sb [hSbIdeal : Cert.SbIdeal.Facts] [hSbRefIdeal : Cert.SbRefIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_sb m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)) →
    ∃ (v0 : (c : Dev Cert.SbIdeal.nD) → Buf (Elt Ideal) ((c.tc : Thread Cert.SbIdeal.nD Cert.SbIdeal.τ).loc Cert.SbIdeal.main_v32_0)) (v1 : (c : Dev Cert.SbIdeal.nD) → Buf (Elt Ideal) ((c.tc : Thread Cert.SbIdeal.nD Cert.SbIdeal.τ).loc Cert.SbIdeal.main_v32_1)) (v2 : (c : Dev Cert.SbIdeal.nD) → Buf (Elt Ideal) ((c.tc : Thread Cert.SbIdeal.nD Cert.SbIdeal.τ).loc Cert.SbIdeal.main_v32_2)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v32_0) = v0 c
          ∧ r.2.mem ((c.tc : Thread Cert.SbIdeal.nD Cert.SbIdeal.τ).loc Cert.SbIdeal.main_v32_1) = v1 c
          ∧ r.2.mem ((c.tc : Thread Cert.SbIdeal.nD Cert.SbIdeal.τ).loc Cert.SbIdeal.main_v32_2) = v2 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v55) = v0 c
          ∧ r.2.mem ((c.tc : Thread Cert.SbRefIdeal.nD Cert.SbRefIdeal.τ).loc Cert.SbRefIdeal.main_v56) = v1 c
          ∧ r.2.mem ((c.tc : Thread Cert.SbRefIdeal.nD Cert.SbRefIdeal.τ).loc Cert.SbRefIdeal.main_v57) = v2 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1))

def preserves_Gmlp_GmlpIdeal : Prop :=
  IdealRules.named_const.Statement Cert.GmlpIdeal.κ "cubic" .f32 0x3D372713#32 ((8943 / 200000 : ℝ) : EReal)
  ∧ IdealRules.named_const.Statement Cert.GmlpIdeal.κ "cubic3" .f32 0x3E095D4F#32 ((26829 / 200000 : ℝ) : EReal)

def algebraic_GmlpIdeal_GmlpRefIdeal_pre_finite_gmlp [hGmlpIdeal : Cert.GmlpIdeal.Facts] [hGmlpRefIdeal : Cert.GmlpRefIdeal.Facts] [hPre_finite_gmlp : Cert.Pre_finite_gmlp.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_finite_gmlp m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)
      ∧ m' ((c.tc : Thread Cert.GmlpRefIdeal.nD Cert.GmlpRefIdeal.τ).loc Cert.GmlpRefIdeal.main_arg6) = m ((c.tc : Thread Cert.GmlpIdeal.nD Cert.GmlpIdeal.τ).loc Cert.GmlpIdeal.main_arg6)) →
    ∃ (v0 : (c : Dev Cert.GmlpIdeal.nD) → Buf (Elt Ideal) ((c.tc : Thread Cert.GmlpIdeal.nD Cert.GmlpIdeal.τ).loc Cert.GmlpIdeal.main_v9_0)) (v1 : (c : Dev Cert.GmlpIdeal.nD) → Buf (Elt Ideal) ((c.tc : Thread Cert.GmlpIdeal.nD Cert.GmlpIdeal.τ).loc Cert.GmlpIdeal.main_v9_1)) (v2 : (c : Dev Cert.GmlpIdeal.nD) → Buf (Elt Ideal) ((c.tc : Thread Cert.GmlpIdeal.nD Cert.GmlpIdeal.τ).loc Cert.GmlpIdeal.main_v9_2)) (v3 : (c : Dev Cert.GmlpIdeal.nD) → Buf (Elt Ideal) ((c.tc : Thread Cert.GmlpIdeal.nD Cert.GmlpIdeal.τ).loc Cert.GmlpIdeal.main_v9_3)) (v4 : (c : Dev Cert.GmlpIdeal.nD) → Buf (Elt Ideal) ((c.tc : Thread Cert.GmlpIdeal.nD Cert.GmlpIdeal.τ).loc Cert.GmlpIdeal.main_v9_4)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v9_0) = v0 c
          ∧ r.2.mem ((c.tc : Thread Cert.GmlpIdeal.nD Cert.GmlpIdeal.τ).loc Cert.GmlpIdeal.main_v9_1) = v1 c
          ∧ r.2.mem ((c.tc : Thread Cert.GmlpIdeal.nD Cert.GmlpIdeal.τ).loc Cert.GmlpIdeal.main_v9_2) = v2 c
          ∧ r.2.mem ((c.tc : Thread Cert.GmlpIdeal.nD Cert.GmlpIdeal.τ).loc Cert.GmlpIdeal.main_v9_3) = v3 c
          ∧ r.2.mem ((c.tc : Thread Cert.GmlpIdeal.nD Cert.GmlpIdeal.τ).loc Cert.GmlpIdeal.main_v9_4) = v4 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v158) = v0 c
          ∧ r.2.mem ((c.tc : Thread Cert.GmlpRefIdeal.nD Cert.GmlpRefIdeal.τ).loc Cert.GmlpRefIdeal.main_v98) = v1 c
          ∧ r.2.mem ((c.tc : Thread Cert.GmlpRefIdeal.nD Cert.GmlpRefIdeal.τ).loc Cert.GmlpRefIdeal.main_v160) = v2 c
          ∧ r.2.mem ((c.tc : Thread Cert.GmlpRefIdeal.nD Cert.GmlpRefIdeal.τ).loc Cert.GmlpRefIdeal.main_v161) = v3 c
          ∧ r.2.mem ((c.tc : Thread Cert.GmlpRefIdeal.nD Cert.GmlpRefIdeal.τ).loc Cert.GmlpRefIdeal.main_v162) = v4 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5)
          ∧ r.2.mem ((c.tc : Thread Cert.GmlpRefIdeal.nD Cert.GmlpRefIdeal.τ).loc Cert.GmlpRefIdeal.main_arg6) = m' ((c.tc : Thread Cert.GmlpRefIdeal.nD Cert.GmlpRefIdeal.τ).loc Cert.GmlpRefIdeal.main_arg6))

def preserves_Pool_PoolIdeal : Prop :=
  True

def preserves_SbFwd_SbFwdIdeal : Prop :=
  IdealRules.named_const.Statement Cert.SbFwdIdeal.κ "sb_exit" .f32 0xC2DC0000#32 ⊥

def algebraic_SbFwdIdeal_SbFwdRefIdeal_pre_finite_sbf [hSbFwdIdeal : Cert.SbFwdIdeal.Facts] [hSbFwdRefIdeal : Cert.SbFwdRefIdeal.Facts] [hPre_finite_sbf : Cert.Pre_finite_sbf.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdRefIdeal.nD Cert.SbFwdRefIdeal.τ Cert.SbFwdRefIdeal.sig) → Buf (Elt Ideal) ℓ) (g' : Dev Cert.SbFwdRefIdeal.nD → PrngReg), Pre_SbFwdIdeal_finite_sbf m →
    (∀ c : Dev Cert.SbFwdIdeal.nD,
      m' ((c.tc : Thread Cert.SbFwdRefIdeal.nD Cert.SbFwdRefIdeal.τ).loc Cert.SbFwdRefIdeal.main_arg0) = m ((c.tc : Thread Cert.SbFwdIdeal.nD Cert.SbFwdIdeal.τ).loc Cert.SbFwdIdeal.main_arg0)) →
    ∃ (v0 : (c : Dev Cert.SbFwdIdeal.nD) → Buf (Elt Ideal) ((c.tc : Thread Cert.SbFwdIdeal.nD Cert.SbFwdIdeal.τ).loc Cert.SbFwdIdeal.main_v1)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v1) = v0 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0))
      ∧ θ_run (Cert.SbFwdRefIdeal.defs (F := Ideal)) (onTc (τ := Cert.SbFwdRefIdeal.τ) (Cert.SbFwdRefIdeal.main (F := Ideal))) ⟨m', fun _ => 0, g'⟩ (fun r => ∀ c : Dev Cert.SbFwdRefIdeal.nD,
          r.2.mem ((c.tc : Thread Cert.SbFwdRefIdeal.nD Cert.SbFwdRefIdeal.τ).loc Cert.SbFwdRefIdeal.main_v29) = v0 c
          ∧ r.2.mem ((c.tc : Thread Cert.SbFwdRefIdeal.nD Cert.SbFwdRefIdeal.τ).loc Cert.SbFwdRefIdeal.main_arg0) = m' ((c.tc : Thread Cert.SbFwdRefIdeal.nD Cert.SbFwdRefIdeal.τ).loc Cert.SbFwdRefIdeal.main_arg0))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v1)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v1) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v5) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v19) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v4_0)) (v1 : (c : Dev Cert.MergeFwdIdeal.nD) → Buf (Elt Ideal) ((c.tc : Thread Cert.MergeFwdIdeal.nD Cert.MergeFwdIdeal.τ).loc Cert.MergeFwdIdeal.main_v4_1)) (v2 : (c : Dev Cert.MergeFwdIdeal.nD) → Buf (Elt Ideal) ((c.tc : Thread Cert.MergeFwdIdeal.nD Cert.MergeFwdIdeal.τ).loc Cert.MergeFwdIdeal.main_v4_2)) (v3 : (c : Dev Cert.MergeFwdIdeal.nD) → Buf (Elt Ideal) ((c.tc : Thread Cert.MergeFwdIdeal.nD Cert.MergeFwdIdeal.τ).loc Cert.MergeFwdIdeal.main_v4_3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v4_0) = v0 c
          ∧ r.2.mem ((c.tc : Thread Cert.MergeFwdIdeal.nD Cert.MergeFwdIdeal.τ).loc Cert.MergeFwdIdeal.main_v4_1) = v1 c
          ∧ r.2.mem ((c.tc : Thread Cert.MergeFwdIdeal.nD Cert.MergeFwdIdeal.τ).loc Cert.MergeFwdIdeal.main_v4_2) = v2 c
          ∧ r.2.mem ((c.tc : Thread Cert.MergeFwdIdeal.nD Cert.MergeFwdIdeal.τ).loc Cert.MergeFwdIdeal.main_v4_3) = v3 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v30) = v0 c
          ∧ r.2.mem ((c.tc : Thread Cert.MergeFwdRefIdeal.nD Cert.MergeFwdRefIdeal.τ).loc Cert.MergeFwdRefIdeal.main_v31) = v1 c
          ∧ r.2.mem ((c.tc : Thread Cert.MergeFwdRefIdeal.nD Cert.MergeFwdRefIdeal.τ).loc Cert.MergeFwdRefIdeal.main_v32) = v2 c
          ∧ r.2.mem ((c.tc : Thread Cert.MergeFwdRefIdeal.nD Cert.MergeFwdRefIdeal.τ).loc Cert.MergeFwdRefIdeal.main_v33) = v3 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_GmlpFwd_GmlpFwdIdeal : Prop :=
  True

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v5)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v5) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v65) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v3_0)) (v1 : (c : Dev Cert.OutFwdIdeal.nD) → Buf (Elt Ideal) ((c.tc : Thread Cert.OutFwdIdeal.nD Cert.OutFwdIdeal.τ).loc Cert.OutFwdIdeal.main_v3_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v3_0) = v0 c
          ∧ r.2.mem ((c.tc : Thread Cert.OutFwdIdeal.nD Cert.OutFwdIdeal.τ).loc Cert.OutFwdIdeal.main_v3_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v5) = v0 c
          ∧ r.2.mem ((c.tc : Thread Cert.OutFwdRefIdeal.nD Cert.OutFwdRefIdeal.τ).loc Cert.OutFwdRefIdeal.main_v7) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v10)) (v1 : (c : Dev Cert.FfnInIdeal.nD) → Buf (Elt Ideal) ((c.tc : Thread Cert.FfnInIdeal.nD Cert.FfnInIdeal.τ).loc Cert.FfnInIdeal.main_v13)) (v2 : (c : Dev Cert.FfnInIdeal.nD) → Buf (Elt Ideal) ((c.tc : Thread Cert.FfnInIdeal.nD Cert.FfnInIdeal.τ).loc Cert.FfnInIdeal.main_v16)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v10) = v0 c
          ∧ r.2.mem ((c.tc : Thread Cert.FfnInIdeal.nD Cert.FfnInIdeal.τ).loc Cert.FfnInIdeal.main_v13) = v1 c
          ∧ r.2.mem ((c.tc : Thread Cert.FfnInIdeal.nD Cert.FfnInIdeal.τ).loc Cert.FfnInIdeal.main_v16) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v5) = v0 c
          ∧ r.2.mem ((c.tc : Thread Cert.FfnInRefIdeal.nD Cert.FfnInRefIdeal.τ).loc Cert.FfnInRefIdeal.main_v6) = v1 c
          ∧ r.2.mem ((c.tc : Thread Cert.FfnInRefIdeal.nD Cert.FfnInRefIdeal.τ).loc Cert.FfnInRefIdeal.main_v7) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_PoolFwd_PoolFwdIdeal : Prop :=
  True

def preserves_OutDgrad_OutDgradIdeal : Prop :=
  True

def algebraic_OutDgradIdeal_OutDgradRefIdeal [hOutDgradIdeal : Cert.OutDgradIdeal.Facts] [hOutDgradRefIdeal : Cert.OutDgradRefIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.OutDgradRefIdeal.nD Cert.OutDgradRefIdeal.τ Cert.OutDgradRefIdeal.sig) → Buf (Elt Ideal) ℓ) (g' : Dev Cert.OutDgradRefIdeal.nD → PrngReg), Pre_OutDgradIdeal m →
    (∀ c : Dev Cert.OutDgradIdeal.nD,
      m' ((c.tc : Thread Cert.OutDgradRefIdeal.nD Cert.OutDgradRefIdeal.τ).loc Cert.OutDgradRefIdeal.main_arg0) = m ((c.tc : Thread Cert.OutDgradIdeal.nD Cert.OutDgradIdeal.τ).loc Cert.OutDgradIdeal.main_arg0)
      ∧ m' ((c.tc : Thread Cert.OutDgradRefIdeal.nD Cert.OutDgradRefIdeal.τ).loc Cert.OutDgradRefIdeal.main_arg1) = m ((c.tc : Thread Cert.OutDgradIdeal.nD Cert.OutDgradIdeal.τ).loc Cert.OutDgradIdeal.main_arg1)
      ∧ m' ((c.tc : Thread Cert.OutDgradRefIdeal.nD Cert.OutDgradRefIdeal.τ).loc Cert.OutDgradRefIdeal.main_arg2) = m ((c.tc : Thread Cert.OutDgradIdeal.nD Cert.OutDgradIdeal.τ).loc Cert.OutDgradIdeal.main_arg2)) →
    ∃ (v0 : (c : Dev Cert.OutDgradIdeal.nD) → Buf (Elt Ideal) ((c.tc : Thread Cert.OutDgradIdeal.nD Cert.OutDgradIdeal.τ).loc Cert.OutDgradIdeal.main_v2)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v2) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1)
          ∧ r.2.mem ((c.tc : Thread Cert.OutDgradIdeal.nD Cert.OutDgradIdeal.τ).loc Cert.OutDgradIdeal.main_arg2) = m ((c.tc : Thread Cert.OutDgradIdeal.nD Cert.OutDgradIdeal.τ).loc Cert.OutDgradIdeal.main_arg2))
      ∧ θ_run (Cert.OutDgradRefIdeal.defs (F := Ideal)) (onTc (τ := Cert.OutDgradRefIdeal.τ) (Cert.OutDgradRefIdeal.main (F := Ideal))) ⟨m', fun _ => 0, g'⟩ (fun r => ∀ c : Dev Cert.OutDgradRefIdeal.nD,
          r.2.mem ((c.tc : Thread Cert.OutDgradRefIdeal.nD Cert.OutDgradRefIdeal.τ).loc Cert.OutDgradRefIdeal.main_v2) = v0 c
          ∧ r.2.mem ((c.tc : Thread Cert.OutDgradRefIdeal.nD Cert.OutDgradRefIdeal.τ).loc Cert.OutDgradRefIdeal.main_arg0) = m' ((c.tc : Thread Cert.OutDgradRefIdeal.nD Cert.OutDgradRefIdeal.τ).loc Cert.OutDgradRefIdeal.main_arg0)
          ∧ r.2.mem ((c.tc : Thread Cert.OutDgradRefIdeal.nD Cert.OutDgradRefIdeal.τ).loc Cert.OutDgradRefIdeal.main_arg1) = m' ((c.tc : Thread Cert.OutDgradRefIdeal.nD Cert.OutDgradRefIdeal.τ).loc Cert.OutDgradRefIdeal.main_arg1)
          ∧ r.2.mem ((c.tc : Thread Cert.OutDgradRefIdeal.nD Cert.OutDgradRefIdeal.τ).loc Cert.OutDgradRefIdeal.main_arg2) = m' ((c.tc : Thread Cert.OutDgradRefIdeal.nD Cert.OutDgradRefIdeal.τ).loc Cert.OutDgradRefIdeal.main_arg2))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)) →
    ∃ (v0 : (c : Dev Cert.ProjFwdIdeal.nD) → Buf (Elt Ideal) ((c.tc : Thread Cert.ProjFwdIdeal.nD Cert.ProjFwdIdeal.τ).loc Cert.ProjFwdIdeal.main_v4)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v4) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v1) = v0 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1))

def preserves_ProjDgrad_ProjDgradIdeal : Prop :=
  True

def algebraic_ProjDgradIdeal_ProjDgradRefIdeal [hProjDgradIdeal : Cert.ProjDgradIdeal.Facts] [hProjDgradRefIdeal : Cert.ProjDgradRefIdeal.Facts] : Prop :=
  ∀ (m : (ℓ : Loc Cert.ProjDgradIdeal.nD Cert.ProjDgradIdeal.τ Cert.ProjDgradIdeal.sig) → Buf (Elt Ideal) ℓ) (g : Dev Cert.ProjDgradIdeal.nD → PrngReg)
    (m' : (ℓ : Loc Cert.ProjDgradRefIdeal.nD Cert.ProjDgradRefIdeal.τ Cert.ProjDgradRefIdeal.sig) → Buf (Elt Ideal) ℓ) (g' : Dev Cert.ProjDgradRefIdeal.nD → PrngReg), Pre_ProjDgradIdeal m →
    (∀ c : Dev Cert.ProjDgradIdeal.nD,
      m' ((c.tc : Thread Cert.ProjDgradRefIdeal.nD Cert.ProjDgradRefIdeal.τ).loc Cert.ProjDgradRefIdeal.main_arg0) = m ((c.tc : Thread Cert.ProjDgradIdeal.nD Cert.ProjDgradIdeal.τ).loc Cert.ProjDgradIdeal.main_arg0)
      ∧ m' ((c.tc : Thread Cert.ProjDgradRefIdeal.nD Cert.ProjDgradRefIdeal.τ).loc Cert.ProjDgradRefIdeal.main_arg1) = m ((c.tc : Thread Cert.ProjDgradIdeal.nD Cert.ProjDgradIdeal.τ).loc Cert.ProjDgradIdeal.main_arg1)
      ∧ m' ((c.tc : Thread Cert.ProjDgradRefIdeal.nD Cert.ProjDgradRefIdeal.τ).loc Cert.ProjDgradRefIdeal.main_arg2) = m ((c.tc : Thread Cert.ProjDgradIdeal.nD Cert.ProjDgradIdeal.τ).loc Cert.ProjDgradIdeal.main_arg2)) →
    ∃ (v0 : (c : Dev Cert.ProjDgradIdeal.nD) → Buf (Elt Ideal) ((c.tc : Thread Cert.ProjDgradIdeal.nD Cert.ProjDgradIdeal.τ).loc Cert.ProjDgradIdeal.main_v4)),
      θ_run (Cert.ProjDgradIdeal.defs (F := Ideal)) (onTc (τ := Cert.ProjDgradIdeal.τ) (Cert.ProjDgradIdeal.main (F := Ideal))) ⟨m, fun _ => 0, g⟩ (fun r => ∀ c : Dev Cert.ProjDgradIdeal.nD,
          r.2.mem ((c.tc : Thread Cert.ProjDgradIdeal.nD Cert.ProjDgradIdeal.τ).loc Cert.ProjDgradIdeal.main_v4) = v0 c
          ∧ r.2.mem ((c.tc : Thread Cert.ProjDgradIdeal.nD Cert.ProjDgradIdeal.τ).loc Cert.ProjDgradIdeal.main_arg0) = m ((c.tc : Thread Cert.ProjDgradIdeal.nD Cert.ProjDgradIdeal.τ).loc Cert.ProjDgradIdeal.main_arg0)
          ∧ r.2.mem ((c.tc : Thread Cert.ProjDgradIdeal.nD Cert.ProjDgradIdeal.τ).loc Cert.ProjDgradIdeal.main_arg1) = m ((c.tc : Thread Cert.ProjDgradIdeal.nD Cert.ProjDgradIdeal.τ).loc Cert.ProjDgradIdeal.main_arg1)
          ∧ r.2.mem ((c.tc : Thread Cert.ProjDgradIdeal.nD Cert.ProjDgradIdeal.τ).loc Cert.ProjDgradIdeal.main_arg2) = m ((c.tc : Thread Cert.ProjDgradIdeal.nD Cert.ProjDgradIdeal.τ).loc Cert.ProjDgradIdeal.main_arg2))
      ∧ θ_run (Cert.ProjDgradRefIdeal.defs (F := Ideal)) (onTc (τ := Cert.ProjDgradRefIdeal.τ) (Cert.ProjDgradRefIdeal.main (F := Ideal))) ⟨m', fun _ => 0, g'⟩ (fun r => ∀ c : Dev Cert.ProjDgradRefIdeal.nD,
          r.2.mem ((c.tc : Thread Cert.ProjDgradRefIdeal.nD Cert.ProjDgradRefIdeal.τ).loc Cert.ProjDgradRefIdeal.main_v1) = v0 c
          ∧ r.2.mem ((c.tc : Thread Cert.ProjDgradRefIdeal.nD Cert.ProjDgradRefIdeal.τ).loc Cert.ProjDgradRefIdeal.main_arg0) = m' ((c.tc : Thread Cert.ProjDgradRefIdeal.nD Cert.ProjDgradRefIdeal.τ).loc Cert.ProjDgradRefIdeal.main_arg0)
          ∧ r.2.mem ((c.tc : Thread Cert.ProjDgradRefIdeal.nD Cert.ProjDgradRefIdeal.τ).loc Cert.ProjDgradRefIdeal.main_arg1) = m' ((c.tc : Thread Cert.ProjDgradRefIdeal.nD Cert.ProjDgradRefIdeal.τ).loc Cert.ProjDgradRefIdeal.main_arg1)
          ∧ r.2.mem ((c.tc : Thread Cert.ProjDgradRefIdeal.nD Cert.ProjDgradRefIdeal.τ).loc Cert.ProjDgradRefIdeal.main_arg2) = m' ((c.tc : Thread Cert.ProjDgradRefIdeal.nD Cert.ProjDgradRefIdeal.τ).loc Cert.ProjDgradRefIdeal.main_arg2))

def preserves_ProjWgrad_ProjWgradIdeal : Prop :=
  True

def algebraic_ProjWgradIdeal_ProjWgradRefIdeal [hProjWgradIdeal : Cert.ProjWgradIdeal.Facts] [hProjWgradRefIdeal : Cert.ProjWgradRefIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg)
    (m' : (ℓ : Loc Cert.ProjWgradRefIdeal.nD Cert.ProjWgradRefIdeal.τ Cert.ProjWgradRefIdeal.sig) → Buf (Elt Ideal) ℓ) (g' : Dev Cert.ProjWgradRefIdeal.nD → PrngReg), Pre_ProjWgradIdeal m →
    (∀ c : Dev Cert.ProjWgradIdeal.nD,
      m' ((c.tc : Thread Cert.ProjWgradRefIdeal.nD Cert.ProjWgradRefIdeal.τ).loc Cert.ProjWgradRefIdeal.main_arg0) = m ((c.tc : Thread Cert.ProjWgradIdeal.nD Cert.ProjWgradIdeal.τ).loc Cert.ProjWgradIdeal.main_arg0)
      ∧ m' ((c.tc : Thread Cert.ProjWgradRefIdeal.nD Cert.ProjWgradRefIdeal.τ).loc Cert.ProjWgradRefIdeal.main_arg1) = m ((c.tc : Thread Cert.ProjWgradIdeal.nD Cert.ProjWgradIdeal.τ).loc Cert.ProjWgradIdeal.main_arg1)
      ∧ m' ((c.tc : Thread Cert.ProjWgradRefIdeal.nD Cert.ProjWgradRefIdeal.τ).loc Cert.ProjWgradRefIdeal.main_arg2) = m ((c.tc : Thread Cert.ProjWgradIdeal.nD Cert.ProjWgradIdeal.τ).loc Cert.ProjWgradIdeal.main_arg2)) →
    ∃ (v0 : (c : Dev Cert.ProjWgradIdeal.nD) → Buf (Elt Ideal) ((c.tc : Thread Cert.ProjWgradIdeal.nD Cert.ProjWgradIdeal.τ).loc Cert.ProjWgradIdeal.main_v2)),
      θ_run (Cert.ProjWgradIdeal.defs (F := Ideal)) (onTc (τ := Cert.ProjWgradIdeal.τ) (Cert.ProjWgradIdeal.main (F := Ideal))) ⟨m, fun _ => 0, g⟩ (fun r => ∀ c : Dev Cert.ProjWgradIdeal.nD,
          r.2.mem ((c.tc : Thread Cert.ProjWgradIdeal.nD Cert.ProjWgradIdeal.τ).loc Cert.ProjWgradIdeal.main_v2) = v0 c
          ∧ r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
          ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1)
          ∧ r.2.mem ((c.tc : Thread Cert.ProjWgradIdeal.nD Cert.ProjWgradIdeal.τ).loc Cert.ProjWgradIdeal.main_arg2) = m ((c.tc : Thread Cert.ProjWgradIdeal.nD Cert.ProjWgradIdeal.τ).loc Cert.ProjWgradIdeal.main_arg2))
      ∧ θ_run (Cert.ProjWgradRefIdeal.defs (F := Ideal)) (onTc (τ := Cert.ProjWgradRefIdeal.τ) (Cert.ProjWgradRefIdeal.main (F := Ideal))) ⟨m', fun _ => 0, g'⟩ (fun r => ∀ c : Dev Cert.ProjWgradRefIdeal.nD,
          r.2.mem ((c.tc : Thread Cert.ProjWgradRefIdeal.nD Cert.ProjWgradRefIdeal.τ).loc Cert.ProjWgradRefIdeal.main_v5) = v0 c
          ∧ r.2.mem ((c.tc : Thread Cert.ProjWgradRefIdeal.nD Cert.ProjWgradRefIdeal.τ).loc Cert.ProjWgradRefIdeal.main_arg0) = m' ((c.tc : Thread Cert.ProjWgradRefIdeal.nD Cert.ProjWgradRefIdeal.τ).loc Cert.ProjWgradRefIdeal.main_arg0)
          ∧ r.2.mem ((c.tc : Thread Cert.ProjWgradRefIdeal.nD Cert.ProjWgradRefIdeal.τ).loc Cert.ProjWgradRefIdeal.main_arg1) = m' ((c.tc : Thread Cert.ProjWgradRefIdeal.nD Cert.ProjWgradRefIdeal.τ).loc Cert.ProjWgradRefIdeal.main_arg1)
          ∧ r.2.mem ((c.tc : Thread Cert.ProjWgradRefIdeal.nD Cert.ProjWgradRefIdeal.τ).loc Cert.ProjWgradRefIdeal.main_arg2) = m' ((c.tc : Thread Cert.ProjWgradRefIdeal.nD Cert.ProjWgradRefIdeal.τ).loc Cert.ProjWgradRefIdeal.main_arg2))

def preserves_FfnOutWgrad_FfnOutWgradIdeal : Prop :=
  True

def algebraic_FfnOutWgradIdeal_FfnOutWgradRefIdeal [hFfnOutWgradIdeal : Cert.FfnOutWgradIdeal.Facts] [hFfnOutWgradRefIdeal : Cert.FfnOutWgradRefIdeal.Facts] : Prop :=
  ∀ (m : (ℓ : Loc Cert.FfnOutWgradIdeal.nD Cert.FfnOutWgradIdeal.τ Cert.FfnOutWgradIdeal.sig) → Buf (Elt Ideal) ℓ) (g : Dev Cert.FfnOutWgradIdeal.nD → PrngReg)
    (m' : (ℓ : Loc Cert.FfnOutWgradRefIdeal.nD Cert.FfnOutWgradRefIdeal.τ Cert.FfnOutWgradRefIdeal.sig) → Buf (Elt Ideal) ℓ) (g' : Dev Cert.FfnOutWgradRefIdeal.nD → PrngReg), Pre_FfnOutWgradIdeal m →
    (∀ c : Dev Cert.FfnOutWgradIdeal.nD,
      m' ((c.tc : Thread Cert.FfnOutWgradRefIdeal.nD Cert.FfnOutWgradRefIdeal.τ).loc Cert.FfnOutWgradRefIdeal.main_arg0) = m ((c.tc : Thread Cert.FfnOutWgradIdeal.nD Cert.FfnOutWgradIdeal.τ).loc Cert.FfnOutWgradIdeal.main_arg0)
      ∧ m' ((c.tc : Thread Cert.FfnOutWgradRefIdeal.nD Cert.FfnOutWgradRefIdeal.τ).loc Cert.FfnOutWgradRefIdeal.main_arg1) = m ((c.tc : Thread Cert.FfnOutWgradIdeal.nD Cert.FfnOutWgradIdeal.τ).loc Cert.FfnOutWgradIdeal.main_arg1)
      ∧ m' ((c.tc : Thread Cert.FfnOutWgradRefIdeal.nD Cert.FfnOutWgradRefIdeal.τ).loc Cert.FfnOutWgradRefIdeal.main_arg2) = m ((c.tc : Thread Cert.FfnOutWgradIdeal.nD Cert.FfnOutWgradIdeal.τ).loc Cert.FfnOutWgradIdeal.main_arg2)) →
    ∃ (v0 : (c : Dev Cert.FfnOutWgradIdeal.nD) → Buf (Elt Ideal) ((c.tc : Thread Cert.FfnOutWgradIdeal.nD Cert.FfnOutWgradIdeal.τ).loc Cert.FfnOutWgradIdeal.main_v2)),
      θ_run (Cert.FfnOutWgradIdeal.defs (F := Ideal)) (onTc (τ := Cert.FfnOutWgradIdeal.τ) (Cert.FfnOutWgradIdeal.main (F := Ideal))) ⟨m, fun _ => 0, g⟩ (fun r => ∀ c : Dev Cert.FfnOutWgradIdeal.nD,
          r.2.mem ((c.tc : Thread Cert.FfnOutWgradIdeal.nD Cert.FfnOutWgradIdeal.τ).loc Cert.FfnOutWgradIdeal.main_v2) = v0 c
          ∧ r.2.mem ((c.tc : Thread Cert.FfnOutWgradIdeal.nD Cert.FfnOutWgradIdeal.τ).loc Cert.FfnOutWgradIdeal.main_arg0) = m ((c.tc : Thread Cert.FfnOutWgradIdeal.nD Cert.FfnOutWgradIdeal.τ).loc Cert.FfnOutWgradIdeal.main_arg0)
          ∧ r.2.mem ((c.tc : Thread Cert.FfnOutWgradIdeal.nD Cert.FfnOutWgradIdeal.τ).loc Cert.FfnOutWgradIdeal.main_arg1) = m ((c.tc : Thread Cert.FfnOutWgradIdeal.nD Cert.FfnOutWgradIdeal.τ).loc Cert.FfnOutWgradIdeal.main_arg1)
          ∧ r.2.mem ((c.tc : Thread Cert.FfnOutWgradIdeal.nD Cert.FfnOutWgradIdeal.τ).loc Cert.FfnOutWgradIdeal.main_arg2) = m ((c.tc : Thread Cert.FfnOutWgradIdeal.nD Cert.FfnOutWgradIdeal.τ).loc Cert.FfnOutWgradIdeal.main_arg2))
      ∧ θ_run (Cert.FfnOutWgradRefIdeal.defs (F := Ideal)) (onTc (τ := Cert.FfnOutWgradRefIdeal.τ) (Cert.FfnOutWgradRefIdeal.main (F := Ideal))) ⟨m', fun _ => 0, g'⟩ (fun r => ∀ c : Dev Cert.FfnOutWgradRefIdeal.nD,
          r.2.mem ((c.tc : Thread Cert.FfnOutWgradRefIdeal.nD Cert.FfnOutWgradRefIdeal.τ).loc Cert.FfnOutWgradRefIdeal.main_v3) = v0 c
          ∧ r.2.mem ((c.tc : Thread Cert.FfnOutWgradRefIdeal.nD Cert.FfnOutWgradRefIdeal.τ).loc Cert.FfnOutWgradRefIdeal.main_arg0) = m' ((c.tc : Thread Cert.FfnOutWgradRefIdeal.nD Cert.FfnOutWgradRefIdeal.τ).loc Cert.FfnOutWgradRefIdeal.main_arg0)
          ∧ r.2.mem ((c.tc : Thread Cert.FfnOutWgradRefIdeal.nD Cert.FfnOutWgradRefIdeal.τ).loc Cert.FfnOutWgradRefIdeal.main_arg1) = m' ((c.tc : Thread Cert.FfnOutWgradRefIdeal.nD Cert.FfnOutWgradRefIdeal.τ).loc Cert.FfnOutWgradRefIdeal.main_arg1)
          ∧ r.2.mem ((c.tc : Thread Cert.FfnOutWgradRefIdeal.nD Cert.FfnOutWgradRefIdeal.τ).loc Cert.FfnOutWgradRefIdeal.main_arg2) = m' ((c.tc : Thread Cert.FfnOutWgradRefIdeal.nD Cert.FfnOutWgradRefIdeal.τ).loc Cert.FfnOutWgradRefIdeal.main_arg2))

def preserves_FfnInDgrad_FfnInDgradIdeal : Prop :=
  True

def algebraic_FfnInDgradIdeal_FfnInDgradRefIdeal [hFfnInDgradIdeal : Cert.FfnInDgradIdeal.Facts] [hFfnInDgradRefIdeal : Cert.FfnInDgradRefIdeal.Facts] : Prop :=
  ∀ (m : (ℓ : Loc Cert.FfnInDgradIdeal.nD Cert.FfnInDgradIdeal.τ Cert.FfnInDgradIdeal.sig) → Buf (Elt Ideal) ℓ) (g : Dev Cert.FfnInDgradIdeal.nD → PrngReg)
    (m' : (ℓ : Loc Cert.FfnInDgradRefIdeal.nD Cert.FfnInDgradRefIdeal.τ Cert.FfnInDgradRefIdeal.sig) → Buf (Elt Ideal) ℓ) (g' : Dev Cert.FfnInDgradRefIdeal.nD → PrngReg), Pre_FfnInDgradIdeal m →
    (∀ c : Dev Cert.FfnInDgradIdeal.nD,
      m' ((c.tc : Thread Cert.FfnInDgradRefIdeal.nD Cert.FfnInDgradRefIdeal.τ).loc Cert.FfnInDgradRefIdeal.main_arg0) = m ((c.tc : Thread Cert.FfnInDgradIdeal.nD Cert.FfnInDgradIdeal.τ).loc Cert.FfnInDgradIdeal.main_arg0)
      ∧ m' ((c.tc : Thread Cert.FfnInDgradRefIdeal.nD Cert.FfnInDgradRefIdeal.τ).loc Cert.FfnInDgradRefIdeal.main_arg1) = m ((c.tc : Thread Cert.FfnInDgradIdeal.nD Cert.FfnInDgradIdeal.τ).loc Cert.FfnInDgradIdeal.main_arg1)
      ∧ m' ((c.tc : Thread Cert.FfnInDgradRefIdeal.nD Cert.FfnInDgradRefIdeal.τ).loc Cert.FfnInDgradRefIdeal.main_arg2) = m ((c.tc : Thread Cert.FfnInDgradIdeal.nD Cert.FfnInDgradIdeal.τ).loc Cert.FfnInDgradIdeal.main_arg2)
      ∧ m' ((c.tc : Thread Cert.FfnInDgradRefIdeal.nD Cert.FfnInDgradRefIdeal.τ).loc Cert.FfnInDgradRefIdeal.main_arg3) = m ((c.tc : Thread Cert.FfnInDgradIdeal.nD Cert.FfnInDgradIdeal.τ).loc Cert.FfnInDgradIdeal.main_arg3)) →
    ∃ (v0 : (c : Dev Cert.FfnInDgradIdeal.nD) → Buf (Elt Ideal) ((c.tc : Thread Cert.FfnInDgradIdeal.nD Cert.FfnInDgradIdeal.τ).loc Cert.FfnInDgradIdeal.main_v5)),
      θ_run (Cert.FfnInDgradIdeal.defs (F := Ideal)) (onTc (τ := Cert.FfnInDgradIdeal.τ) (Cert.FfnInDgradIdeal.main (F := Ideal))) ⟨m, fun _ => 0, g⟩ (fun r => ∀ c : Dev Cert.FfnInDgradIdeal.nD,
          r.2.mem ((c.tc : Thread Cert.FfnInDgradIdeal.nD Cert.FfnInDgradIdeal.τ).loc Cert.FfnInDgradIdeal.main_v5) = v0 c
          ∧ r.2.mem ((c.tc : Thread Cert.FfnInDgradIdeal.nD Cert.FfnInDgradIdeal.τ).loc Cert.FfnInDgradIdeal.main_arg0) = m ((c.tc : Thread Cert.FfnInDgradIdeal.nD Cert.FfnInDgradIdeal.τ).loc Cert.FfnInDgradIdeal.main_arg0)
          ∧ r.2.mem ((c.tc : Thread Cert.FfnInDgradIdeal.nD Cert.FfnInDgradIdeal.τ).loc Cert.FfnInDgradIdeal.main_arg1) = m ((c.tc : Thread Cert.FfnInDgradIdeal.nD Cert.FfnInDgradIdeal.τ).loc Cert.FfnInDgradIdeal.main_arg1)
          ∧ r.2.mem ((c.tc : Thread Cert.FfnInDgradIdeal.nD Cert.FfnInDgradIdeal.τ).loc Cert.FfnInDgradIdeal.main_arg2) = m ((c.tc : Thread Cert.FfnInDgradIdeal.nD Cert.FfnInDgradIdeal.τ).loc Cert.FfnInDgradIdeal.main_arg2)
          ∧ r.2.mem ((c.tc : Thread Cert.FfnInDgradIdeal.nD Cert.FfnInDgradIdeal.τ).loc Cert.FfnInDgradIdeal.main_arg3) = m ((c.tc : Thread Cert.FfnInDgradIdeal.nD Cert.FfnInDgradIdeal.τ).loc Cert.FfnInDgradIdeal.main_arg3))
      ∧ θ_run (Cert.FfnInDgradRefIdeal.defs (F := Ideal)) (onTc (τ := Cert.FfnInDgradRefIdeal.τ) (Cert.FfnInDgradRefIdeal.main (F := Ideal))) ⟨m', fun _ => 0, g'⟩ (fun r => ∀ c : Dev Cert.FfnInDgradRefIdeal.nD,
          r.2.mem ((c.tc : Thread Cert.FfnInDgradRefIdeal.nD Cert.FfnInDgradRefIdeal.τ).loc Cert.FfnInDgradRefIdeal.main_v4) = v0 c
          ∧ r.2.mem ((c.tc : Thread Cert.FfnInDgradRefIdeal.nD Cert.FfnInDgradRefIdeal.τ).loc Cert.FfnInDgradRefIdeal.main_arg0) = m' ((c.tc : Thread Cert.FfnInDgradRefIdeal.nD Cert.FfnInDgradRefIdeal.τ).loc Cert.FfnInDgradRefIdeal.main_arg0)
          ∧ r.2.mem ((c.tc : Thread Cert.FfnInDgradRefIdeal.nD Cert.FfnInDgradRefIdeal.τ).loc Cert.FfnInDgradRefIdeal.main_arg1) = m' ((c.tc : Thread Cert.FfnInDgradRefIdeal.nD Cert.FfnInDgradRefIdeal.τ).loc Cert.FfnInDgradRefIdeal.main_arg1)
          ∧ r.2.mem ((c.tc : Thread Cert.FfnInDgradRefIdeal.nD Cert.FfnInDgradRefIdeal.τ).loc Cert.FfnInDgradRefIdeal.main_arg2) = m' ((c.tc : Thread Cert.FfnInDgradRefIdeal.nD Cert.FfnInDgradRefIdeal.τ).loc Cert.FfnInDgradRefIdeal.main_arg2)
          ∧ r.2.mem ((c.tc : Thread Cert.FfnInDgradRefIdeal.nD Cert.FfnInDgradRefIdeal.τ).loc Cert.FfnInDgradRefIdeal.main_arg3) = m' ((c.tc : Thread Cert.FfnInDgradRefIdeal.nD Cert.FfnInDgradRefIdeal.τ).loc Cert.FfnInDgradRefIdeal.main_arg3))

def preserves_FfnInWgrad_FfnInWgradIdeal : Prop :=
  True

def algebraic_FfnInWgradIdeal_FfnInWgradRefIdeal [hFfnInWgradIdeal : Cert.FfnInWgradIdeal.Facts] [hFfnInWgradRefIdeal : Cert.FfnInWgradRefIdeal.Facts] : Prop :=
  ∀ (m : (ℓ : Loc Cert.FfnInWgradIdeal.nD Cert.FfnInWgradIdeal.τ Cert.FfnInWgradIdeal.sig) → Buf (Elt Ideal) ℓ) (g : Dev Cert.FfnInWgradIdeal.nD → PrngReg)
    (m' : (ℓ : Loc Cert.FfnInWgradRefIdeal.nD Cert.FfnInWgradRefIdeal.τ Cert.FfnInWgradRefIdeal.sig) → Buf (Elt Ideal) ℓ) (g' : Dev Cert.FfnInWgradRefIdeal.nD → PrngReg), Pre_FfnInWgradIdeal m →
    (∀ c : Dev Cert.FfnInWgradIdeal.nD,
      m' ((c.tc : Thread Cert.FfnInWgradRefIdeal.nD Cert.FfnInWgradRefIdeal.τ).loc Cert.FfnInWgradRefIdeal.main_arg0) = m ((c.tc : Thread Cert.FfnInWgradIdeal.nD Cert.FfnInWgradIdeal.τ).loc Cert.FfnInWgradIdeal.main_arg0)
      ∧ m' ((c.tc : Thread Cert.FfnInWgradRefIdeal.nD Cert.FfnInWgradRefIdeal.τ).loc Cert.FfnInWgradRefIdeal.main_arg1) = m ((c.tc : Thread Cert.FfnInWgradIdeal.nD Cert.FfnInWgradIdeal.τ).loc Cert.FfnInWgradIdeal.main_arg1)
      ∧ m' ((c.tc : Thread Cert.FfnInWgradRefIdeal.nD Cert.FfnInWgradRefIdeal.τ).loc Cert.FfnInWgradRefIdeal.main_arg2) = m ((c.tc : Thread Cert.FfnInWgradIdeal.nD Cert.FfnInWgradIdeal.τ).loc Cert.FfnInWgradIdeal.main_arg2)
      ∧ m' ((c.tc : Thread Cert.FfnInWgradRefIdeal.nD Cert.FfnInWgradRefIdeal.τ).loc Cert.FfnInWgradRefIdeal.main_arg3) = m ((c.tc : Thread Cert.FfnInWgradIdeal.nD Cert.FfnInWgradIdeal.τ).loc Cert.FfnInWgradIdeal.main_arg3)) →
    ∃ (v0 : (c : Dev Cert.FfnInWgradIdeal.nD) → Buf (Elt Ideal) ((c.tc : Thread Cert.FfnInWgradIdeal.nD Cert.FfnInWgradIdeal.τ).loc Cert.FfnInWgradIdeal.main_v3)),
      θ_run (Cert.FfnInWgradIdeal.defs (F := Ideal)) (onTc (τ := Cert.FfnInWgradIdeal.τ) (Cert.FfnInWgradIdeal.main (F := Ideal))) ⟨m, fun _ => 0, g⟩ (fun r => ∀ c : Dev Cert.FfnInWgradIdeal.nD,
          r.2.mem ((c.tc : Thread Cert.FfnInWgradIdeal.nD Cert.FfnInWgradIdeal.τ).loc Cert.FfnInWgradIdeal.main_v3) = v0 c
          ∧ r.2.mem ((c.tc : Thread Cert.FfnInWgradIdeal.nD Cert.FfnInWgradIdeal.τ).loc Cert.FfnInWgradIdeal.main_arg0) = m ((c.tc : Thread Cert.FfnInWgradIdeal.nD Cert.FfnInWgradIdeal.τ).loc Cert.FfnInWgradIdeal.main_arg0)
          ∧ r.2.mem ((c.tc : Thread Cert.FfnInWgradIdeal.nD Cert.FfnInWgradIdeal.τ).loc Cert.FfnInWgradIdeal.main_arg1) = m ((c.tc : Thread Cert.FfnInWgradIdeal.nD Cert.FfnInWgradIdeal.τ).loc Cert.FfnInWgradIdeal.main_arg1)
          ∧ r.2.mem ((c.tc : Thread Cert.FfnInWgradIdeal.nD Cert.FfnInWgradIdeal.τ).loc Cert.FfnInWgradIdeal.main_arg2) = m ((c.tc : Thread Cert.FfnInWgradIdeal.nD Cert.FfnInWgradIdeal.τ).loc Cert.FfnInWgradIdeal.main_arg2)
          ∧ r.2.mem ((c.tc : Thread Cert.FfnInWgradIdeal.nD Cert.FfnInWgradIdeal.τ).loc Cert.FfnInWgradIdeal.main_arg3) = m ((c.tc : Thread Cert.FfnInWgradIdeal.nD Cert.FfnInWgradIdeal.τ).loc Cert.FfnInWgradIdeal.main_arg3))
      ∧ θ_run (Cert.FfnInWgradRefIdeal.defs (F := Ideal)) (onTc (τ := Cert.FfnInWgradRefIdeal.τ) (Cert.FfnInWgradRefIdeal.main (F := Ideal))) ⟨m', fun _ => 0, g'⟩ (fun r => ∀ c : Dev Cert.FfnInWgradRefIdeal.nD,
          r.2.mem ((c.tc : Thread Cert.FfnInWgradRefIdeal.nD Cert.FfnInWgradRefIdeal.τ).loc Cert.FfnInWgradRefIdeal.main_v8) = v0 c
          ∧ r.2.mem ((c.tc : Thread Cert.FfnInWgradRefIdeal.nD Cert.FfnInWgradRefIdeal.τ).loc Cert.FfnInWgradRefIdeal.main_arg0) = m' ((c.tc : Thread Cert.FfnInWgradRefIdeal.nD Cert.FfnInWgradRefIdeal.τ).loc Cert.FfnInWgradRefIdeal.main_arg0)
          ∧ r.2.mem ((c.tc : Thread Cert.FfnInWgradRefIdeal.nD Cert.FfnInWgradRefIdeal.τ).loc Cert.FfnInWgradRefIdeal.main_arg1) = m' ((c.tc : Thread Cert.FfnInWgradRefIdeal.nD Cert.FfnInWgradRefIdeal.τ).loc Cert.FfnInWgradRefIdeal.main_arg1)
          ∧ r.2.mem ((c.tc : Thread Cert.FfnInWgradRefIdeal.nD Cert.FfnInWgradRefIdeal.τ).loc Cert.FfnInWgradRefIdeal.main_arg2) = m' ((c.tc : Thread Cert.FfnInWgradRefIdeal.nD Cert.FfnInWgradRefIdeal.τ).loc Cert.FfnInWgradRefIdeal.main_arg2)
          ∧ r.2.mem ((c.tc : Thread Cert.FfnInWgradRefIdeal.nD Cert.FfnInWgradRefIdeal.τ).loc Cert.FfnInWgradRefIdeal.main_arg3) = m' ((c.tc : Thread Cert.FfnInWgradRefIdeal.nD Cert.FfnInWgradRefIdeal.τ).loc Cert.FfnInWgradRefIdeal.main_arg3))

def Claim : Prop :=
  ∃ (hAda : Cert.Ada.Facts) (hAdaIdeal : Cert.AdaIdeal.Facts) (hAdaRefIdeal : Cert.AdaRefIdeal.Facts) (hMerge : Cert.Merge.Facts) (hMergeIdeal : Cert.MergeIdeal.Facts) (hMergeRefIdeal : Cert.MergeRefIdeal.Facts) (hFfnOut : Cert.FfnOut.Facts) (hFfnOutIdeal : Cert.FfnOutIdeal.Facts) (hFfnOutRefIdeal : Cert.FfnOutRefIdeal.Facts) (hNorm : Cert.Norm.Facts) (hNormIdeal : Cert.NormIdeal.Facts) (hNormRefIdeal : Cert.NormRefIdeal.Facts) (hNormUngated : Cert.NormUngated.Facts) (hNormUngatedIdeal : Cert.NormUngatedIdeal.Facts) (hNormUngatedRefIdeal : Cert.NormUngatedRefIdeal.Facts) (hLoss : Cert.Loss.Facts) (hLossIdeal : Cert.LossIdeal.Facts) (hLossRefIdeal : Cert.LossRefIdeal.Facts) (hSb : Cert.Sb.Facts) (hSbIdeal : Cert.SbIdeal.Facts) (hSbRefIdeal : Cert.SbRefIdeal.Facts) (hGmlp : Cert.Gmlp.Facts) (hGmlpIdeal : Cert.GmlpIdeal.Facts) (hGmlpRefIdeal : Cert.GmlpRefIdeal.Facts) (hPool : Cert.Pool.Facts) (hPoolIdeal : Cert.PoolIdeal.Facts) (hPoolRefIdeal : Cert.PoolRefIdeal.Facts) (hSbFwd : Cert.SbFwd.Facts) (hSbFwdIdeal : Cert.SbFwdIdeal.Facts) (hSbFwdRefIdeal : Cert.SbFwdRefIdeal.Facts) (hAdaFwd : Cert.AdaFwd.Facts) (hAdaFwdIdeal : Cert.AdaFwdIdeal.Facts) (hAdaFwdRefIdeal : Cert.AdaFwdRefIdeal.Facts) (hNormFwd : Cert.NormFwd.Facts) (hNormFwdIdeal : Cert.NormFwdIdeal.Facts) (hNormFwdRefIdeal : Cert.NormFwdRefIdeal.Facts) (hMergeFwd : Cert.MergeFwd.Facts) (hMergeFwdIdeal : Cert.MergeFwdIdeal.Facts) (hMergeFwdRefIdeal : Cert.MergeFwdRefIdeal.Facts) (hGmlpFwd : Cert.GmlpFwd.Facts) (hGmlpFwdIdeal : Cert.GmlpFwdIdeal.Facts) (hGmlpFwdRefIdeal : Cert.GmlpFwdRefIdeal.Facts) (hOutFwd : Cert.OutFwd.Facts) (hOutFwdIdeal : Cert.OutFwdIdeal.Facts) (hOutFwdRefIdeal : Cert.OutFwdRefIdeal.Facts) (hFfnIn : Cert.FfnIn.Facts) (hFfnInIdeal : Cert.FfnInIdeal.Facts) (hFfnInRefIdeal : Cert.FfnInRefIdeal.Facts) (hPoolFwd : Cert.PoolFwd.Facts) (hPoolFwdIdeal : Cert.PoolFwdIdeal.Facts) (hPoolFwdRefIdeal : Cert.PoolFwdRefIdeal.Facts) (hOutDgrad : Cert.OutDgrad.Facts) (hOutDgradIdeal : Cert.OutDgradIdeal.Facts) (hOutDgradRefIdeal : Cert.OutDgradRefIdeal.Facts) (hProjFwd : Cert.ProjFwd.Facts) (hProjFwdIdeal : Cert.ProjFwdIdeal.Facts) (hProjFwdRefIdeal : Cert.ProjFwdRefIdeal.Facts) (hProjDgrad : Cert.ProjDgrad.Facts) (hProjDgradIdeal : Cert.ProjDgradIdeal.Facts) (hProjDgradRefIdeal : Cert.ProjDgradRefIdeal.Facts) (hProjWgrad : Cert.ProjWgrad.Facts) (hProjWgradIdeal : Cert.ProjWgradIdeal.Facts) (hProjWgradRefIdeal : Cert.ProjWgradRefIdeal.Facts) (hFfnOutWgrad : Cert.FfnOutWgrad.Facts) (hFfnOutWgradIdeal : Cert.FfnOutWgradIdeal.Facts) (hFfnOutWgradRefIdeal : Cert.FfnOutWgradRefIdeal.Facts) (hFfnInDgrad : Cert.FfnInDgrad.Facts) (hFfnInDgradIdeal : Cert.FfnInDgradIdeal.Facts) (hFfnInDgradRefIdeal : Cert.FfnInDgradRefIdeal.Facts) (hFfnInWgrad : Cert.FfnInWgrad.Facts) (hFfnInWgradIdeal : Cert.FfnInWgradIdeal.Facts) (hFfnInWgradRefIdeal : Cert.FfnInWgradRefIdeal.Facts) (hPre_finite_ffn : Cert.Pre_finite_ffn.Facts) (hPre_finite_norm : Cert.Pre_finite_norm.Facts) (hPre_finite_norm_ungated : Cert.Pre_finite_norm_ungated.Facts) (hPre_finite_loss : Cert.Pre_finite_loss.Facts) (hPre_finite_sb : Cert.Pre_finite_sb.Facts) (hPre_finite_gmlp : Cert.Pre_finite_gmlp.Facts) (hPre_finite_sbf : Cert.Pre_finite_sbf.Facts) (hOn_written_merge : Cert.On_written_merge.Facts),
    quiescent_Ada (hAda := hAda)
    ∧ quiescent_AdaIdeal (hAdaIdeal := hAdaIdeal)
    ∧ quiescent_AdaRefIdeal (hAdaRefIdeal := hAdaRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnOut (hFfnOut := hFfnOut)
    ∧ quiescent_FfnOutIdeal (hFfnOutIdeal := hFfnOutIdeal)
    ∧ quiescent_FfnOutIdeal_pre_finite_ffn (hFfnOutIdeal := hFfnOutIdeal) (hPre_finite_ffn := hPre_finite_ffn)
    ∧ quiescent_FfnOutRefIdeal (hFfnOutRefIdeal := hFfnOutRefIdeal)
    ∧ quiescent_FfnOutRefIdeal_pre_finite_ffn (hFfnOutRefIdeal := hFfnOutRefIdeal) (hPre_finite_ffn := hPre_finite_ffn)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_NormUngated (hNormUngated := hNormUngated)
    ∧ quiescent_NormUngatedIdeal (hNormUngatedIdeal := hNormUngatedIdeal)
    ∧ quiescent_NormUngatedIdeal_pre_finite_norm_ungated (hNormUngatedIdeal := hNormUngatedIdeal) (hPre_finite_norm_ungated := hPre_finite_norm_ungated)
    ∧ quiescent_NormUngatedRefIdeal (hNormUngatedRefIdeal := hNormUngatedRefIdeal)
    ∧ quiescent_NormUngatedRefIdeal_pre_finite_norm_ungated (hNormUngatedRefIdeal := hNormUngatedRefIdeal) (hPre_finite_norm_ungated := hPre_finite_norm_ungated)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Sb (hSb := hSb)
    ∧ quiescent_SbIdeal (hSbIdeal := hSbIdeal)
    ∧ quiescent_SbIdeal_pre_finite_sb (hSbIdeal := hSbIdeal) (hPre_finite_sb := hPre_finite_sb)
    ∧ quiescent_SbRefIdeal (hSbRefIdeal := hSbRefIdeal)
    ∧ quiescent_SbRefIdeal_pre_finite_sb (hSbRefIdeal := hSbRefIdeal) (hPre_finite_sb := hPre_finite_sb)
    ∧ quiescent_Gmlp (hGmlp := hGmlp)
    ∧ quiescent_GmlpIdeal (hGmlpIdeal := hGmlpIdeal)
    ∧ quiescent_GmlpIdeal_pre_finite_gmlp (hGmlpIdeal := hGmlpIdeal) (hPre_finite_gmlp := hPre_finite_gmlp)
    ∧ quiescent_GmlpRefIdeal (hGmlpRefIdeal := hGmlpRefIdeal)
    ∧ quiescent_GmlpRefIdeal_pre_finite_gmlp (hGmlpRefIdeal := hGmlpRefIdeal) (hPre_finite_gmlp := hPre_finite_gmlp)
    ∧ quiescent_Pool (hPool := hPool)
    ∧ quiescent_PoolIdeal (hPoolIdeal := hPoolIdeal)
    ∧ quiescent_PoolRefIdeal (hPoolRefIdeal := hPoolRefIdeal)
    ∧ quiescent_SbFwd (hSbFwd := hSbFwd)
    ∧ quiescent_SbFwdIdeal (hSbFwdIdeal := hSbFwdIdeal)
    ∧ quiescent_SbFwdIdeal_pre_finite_sbf (hSbFwdIdeal := hSbFwdIdeal) (hPre_finite_sbf := hPre_finite_sbf)
    ∧ quiescent_SbFwdRefIdeal (hSbFwdRefIdeal := hSbFwdRefIdeal)
    ∧ quiescent_SbFwdRefIdeal_pre_finite_sbf (hSbFwdRefIdeal := hSbFwdRefIdeal) (hPre_finite_sbf := hPre_finite_sbf)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_PoolFwd (hPoolFwd := hPoolFwd)
    ∧ quiescent_PoolFwdIdeal (hPoolFwdIdeal := hPoolFwdIdeal)
    ∧ quiescent_PoolFwdRefIdeal (hPoolFwdRefIdeal := hPoolFwdRefIdeal)
    ∧ quiescent_OutDgrad (hOutDgrad := hOutDgrad)
    ∧ quiescent_OutDgradIdeal (hOutDgradIdeal := hOutDgradIdeal)
    ∧ quiescent_OutDgradRefIdeal (hOutDgradRefIdeal := hOutDgradRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_ProjDgrad (hProjDgrad := hProjDgrad)
    ∧ quiescent_ProjDgradIdeal (hProjDgradIdeal := hProjDgradIdeal)
    ∧ quiescent_ProjDgradRefIdeal (hProjDgradRefIdeal := hProjDgradRefIdeal)
    ∧ quiescent_ProjWgrad (hProjWgrad := hProjWgrad)
    ∧ quiescent_ProjWgradIdeal (hProjWgradIdeal := hProjWgradIdeal)
    ∧ quiescent_ProjWgradRefIdeal (hProjWgradRefIdeal := hProjWgradRefIdeal)
    ∧ quiescent_FfnOutWgrad (hFfnOutWgrad := hFfnOutWgrad)
    ∧ quiescent_FfnOutWgradIdeal (hFfnOutWgradIdeal := hFfnOutWgradIdeal)
    ∧ quiescent_FfnOutWgradRefIdeal (hFfnOutWgradRefIdeal := hFfnOutWgradRefIdeal)
    ∧ quiescent_FfnInDgrad (hFfnInDgrad := hFfnInDgrad)
    ∧ quiescent_FfnInDgradIdeal (hFfnInDgradIdeal := hFfnInDgradIdeal)
    ∧ quiescent_FfnInDgradRefIdeal (hFfnInDgradRefIdeal := hFfnInDgradRefIdeal)
    ∧ quiescent_FfnInWgrad (hFfnInWgrad := hFfnInWgrad)
    ∧ quiescent_FfnInWgradIdeal (hFfnInWgradIdeal := hFfnInWgradIdeal)
    ∧ quiescent_FfnInWgradRefIdeal (hFfnInWgradRefIdeal := hFfnInWgradRefIdeal)
    ∧ preserves_Ada_AdaIdeal
    ∧ algebraic_AdaIdeal_AdaRefIdeal (hAdaIdeal := hAdaIdeal) (hAdaRefIdeal := hAdaRefIdeal)
    ∧ preserves_Merge_MergeIdeal
    ∧ algebraic_MergeIdeal_MergeRefIdeal_on_written_merge (hMergeIdeal := hMergeIdeal) (hMergeRefIdeal := hMergeRefIdeal) (hOn_written_merge := hOn_written_merge)
    ∧ preserves_FfnOut_FfnOutIdeal
    ∧ algebraic_FfnOutIdeal_FfnOutRefIdeal_pre_finite_ffn (hFfnOutIdeal := hFfnOutIdeal) (hFfnOutRefIdeal := hFfnOutRefIdeal) (hPre_finite_ffn := hPre_finite_ffn)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_NormUngated_NormUngatedIdeal
    ∧ algebraic_NormUngatedIdeal_NormUngatedRefIdeal_pre_finite_norm_ungated (hNormUngatedIdeal := hNormUngatedIdeal) (hNormUngatedRefIdeal := hNormUngatedRefIdeal) (hPre_finite_norm_ungated := hPre_finite_norm_ungated)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Sb_SbIdeal
    ∧ algebraic_SbIdeal_SbRefIdeal_pre_finite_sb (hSbIdeal := hSbIdeal) (hSbRefIdeal := hSbRefIdeal) (hPre_finite_sb := hPre_finite_sb)
    ∧ preserves_Gmlp_GmlpIdeal
    ∧ algebraic_GmlpIdeal_GmlpRefIdeal_pre_finite_gmlp (hGmlpIdeal := hGmlpIdeal) (hGmlpRefIdeal := hGmlpRefIdeal) (hPre_finite_gmlp := hPre_finite_gmlp)
    ∧ preserves_Pool_PoolIdeal
    ∧ preserves_SbFwd_SbFwdIdeal
    ∧ algebraic_SbFwdIdeal_SbFwdRefIdeal_pre_finite_sbf (hSbFwdIdeal := hSbFwdIdeal) (hSbFwdRefIdeal := hSbFwdRefIdeal) (hPre_finite_sbf := hPre_finite_sbf)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_FfnIn_FfnInIdeal
    ∧ algebraic_FfnInIdeal_FfnInRefIdeal (hFfnInIdeal := hFfnInIdeal) (hFfnInRefIdeal := hFfnInRefIdeal)
    ∧ preserves_PoolFwd_PoolFwdIdeal
    ∧ preserves_OutDgrad_OutDgradIdeal
    ∧ algebraic_OutDgradIdeal_OutDgradRefIdeal (hOutDgradIdeal := hOutDgradIdeal) (hOutDgradRefIdeal := hOutDgradRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_ProjDgrad_ProjDgradIdeal
    ∧ algebraic_ProjDgradIdeal_ProjDgradRefIdeal (hProjDgradIdeal := hProjDgradIdeal) (hProjDgradRefIdeal := hProjDgradRefIdeal)
    ∧ preserves_ProjWgrad_ProjWgradIdeal
    ∧ algebraic_ProjWgradIdeal_ProjWgradRefIdeal (hProjWgradIdeal := hProjWgradIdeal) (hProjWgradRefIdeal := hProjWgradRefIdeal)
    ∧ preserves_FfnOutWgrad_FfnOutWgradIdeal
    ∧ algebraic_FfnOutWgradIdeal_FfnOutWgradRefIdeal (hFfnOutWgradIdeal := hFfnOutWgradIdeal) (hFfnOutWgradRefIdeal := hFfnOutWgradRefIdeal)
    ∧ preserves_FfnInDgrad_FfnInDgradIdeal
    ∧ algebraic_FfnInDgradIdeal_FfnInDgradRefIdeal (hFfnInDgradIdeal := hFfnInDgradIdeal) (hFfnInDgradRefIdeal := hFfnInDgradRefIdeal)
    ∧ preserves_FfnInWgrad_FfnInWgradIdeal
    ∧ algebraic_FfnInWgradIdeal_FfnInWgradRefIdeal (hFfnInWgradIdeal := hFfnInWgradIdeal) (hFfnInWgradRefIdeal := hFfnInWgradRefIdeal)
-- ==== On_written_merge.lean ====
abbrev S8192x1024 : Shape := ⟨2, ![8192, 1024]⟩
abbrev S8192x512 : Shape := ⟨2, ![8192, 512]⟩
abbrev S3x512x1024 : Shape := ⟨3, ![3, 512, 1024]⟩
abbrev S8192x6144 : Shape := ⟨2, ![8192, 6144]⟩
abbrev S_ : Shape := ⟨0, ![]⟩

class Facts : Prop where
  bcast_S_S8192x1024 : S_.BroadcastsInDim S8192x1024 (![] : Fin 0 → Fin S8192x1024.rank)
  bcast_S_S8192x6144 : S_.BroadcastsInDim S8192x6144 (![] : Fin 0 → Fin S8192x6144.rank)

variable [Facts]

def fn {F : FTy → Type} [FloatOps F] (main_arg0 : FVec F S8192x1024 .f32) (main_arg1 : FVec F S8192x512 .f32) (main_arg2 : FVec F S8192x512 .f32) (main_arg3 : FVec F S8192x512 .f32) (main_arg4 : FVec F S3x512x1024 .f32) (main_arg5 : FVec F S8192x6144 .f32) : IVec S8192x6144 1 × IVec S8192x1024 1 × IVec S8192x1024 1 × IVec S8192x1024 1 :=
  let main_c : IVec S_ 1 := constantI S_ 1 1#1
  let main_v0 : IVec S8192x1024 1 := broadcastInDim S8192x1024 ![] bcast_S_S8192x1024 main_c
  let main_v1 : IVec S8192x6144 32 := iotaInDim S8192x6144 32 1
  let main_c_0 : IVec S_ 32 := constantI S_ 32 3072#32
  let main_v2 : IVec S8192x6144 32 := broadcastInDim S8192x6144 ![] bcast_S_S8192x6144 main_c_0
  let main_v3 : IVec S8192x6144 1 := cmpi .sge main_v1 main_v2
  (main_v3, main_v0, main_v0, main_v0)
-- ==== Pre_finite_ffn.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x1024 .f32) (main_arg1 : FVec F S2816x1024 .f32) (main_arg2 : FVec F S8192x2816 .f32) (main_arg3 : FVec F S8192x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : FVec F S8192x2816 .f32 := Host.absf main_arg2
  let main_cst_2 : FVec F S_ .f32 := constant S_ .f32 0x7F800000#32
  let main_v9 : FVec F S8192x2816 .f32 := broadcastInDim S8192x2816 ![] bcast_S_S8192x2816 main_cst_2
  let main_v10 : IVec S8192x2816 1 := cmpf .olt main_v8 main_v9
  let main_c_3 : IVec S_ 1 := constantI S_ 1 1#1
  let main_v11 : IVec S_ 1 := (fun x v => Host.reduce IntOp.andi x v reducesTo_S8192x2816_S_d0_1 h_S_) main_v10 main_c_3
  let main_v12 : FVec F S8192x2816 .f32 := Host.absf main_arg3
  let main_cst_4 : FVec F S_ .f32 := constant S_ .f32 0x7F800000#32
  let main_v13 : FVec F S8192x2816 .f32 := broadcastInDim S8192x2816 ![] bcast_S_S8192x2816 main_cst_4
  let main_v14 : IVec S8192x2816 1 := cmpf .olt main_v12 main_v13
  let main_c_5 : IVec S_ 1 := constantI S_ 1 1#1
  let main_v15 : IVec S_ 1 := (fun x v => Host.reduce IntOp.andi x v reducesTo_S8192x2816_S_d0_1 h_S_) main_v14 main_c_5
  fn_part1 (F := F) main_v3 main_v7 main_v11 main_v15
-- ==== Pre_finite_gmlp.lean ====
abbrev S4x2048x6144 : Shape := ⟨3, ![4, 2048, 6144]⟩
abbrev S4x2048x512 : Shape := ⟨3, ![4, 2048, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩

class Facts : Prop where
  bcast_S_S4x2048x6144 : S_.BroadcastsInDim S4x2048x6144 (![] : Fin 0 → Fin S4x2048x6144.rank)
  reducesTo_S4x2048x6144_S_d0_1_2 : S4x2048x6144.ReducesTo [0, 1, 2] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128x128 .f32) (main_arg5 : FVec F S4x128 .f32) (main_v3 : IVec S_ 1) (main_v7 : IVec S_ 1) (main_v11 : IVec S_ 1) (main_v15 : IVec S_ 1) : IVec S_ 1 :=
  let main_v16 : FVec F S4x128x128 .f32 := Host.absf main_arg4
  let main_cst_6 : FVec F S_ .f32 := constant S_ .f32 0x7F800000#32
  let main_v17 : FVec F S4x128x128 .f32 := broadcastInDim S4x128x128 ![] bcast_S_S4x128x128 main_cst_6
  let main_v18 : IVec S4x128x128 1 := cmpf .olt main_v16 main_v17
  let main_c_7 : IVec S_ 1 := constantI S_ 1 1#1
  let main_v19 : IVec S_ 1 := (fun x v => Host.reduce IntOp.andi x v reducesTo_S4x128x128_S_d0_1_2 h_S_) main_v18 main_c_7
  let main_v20 : FVec F S4x128 .f32 := Host.absf main_arg5
  let main_cst_8 : FVec F S_ .f32 := constant S_ .f32 0x7F800000#32
  let main_v21 : FVec F S4x128 .f32 := broadcastInDim S4x128 ![] bcast_S_S4x128 main_cst_8
  let main_v22 : IVec S4x128 1 := cmpf .olt main_v20 main_v21
  let main_c_9 : IVec S_ 1 := constantI S_ 1 1#1
  let main_v23 : IVec S_ 1 := (fun x v => Host.reduce IntOp.andi x v reducesTo_S4x128_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4x2048x6144 .f32) (main_arg1 : FVec F S4x2048x512 .f32) (main_arg2 : FVec F S512 .f32) (main_arg3 : FVec F S512 .f32) (main_arg4 : FVec F S4x128x128 .f32) (main_arg5 : FVec F S4x128 .f32) (main_arg6 : FVec F S4x2048x6144 .f32) : IVec S_ 1 :=
  let main_v0 : FVec F S4x2048x6144 .f32 := Host.absf main_arg0
  let main_cst : FVec F S_ .f32 := constant S_ .f32 0x7F800000#32
  let main_v1 : FVec F S4x2048x6144 .f32 := broadcastInDim S4x2048x6144 ![] bcast_S_S4x2048x6144 main_cst
  let main_v2 : IVec S4x2048x6144 1 := cmpf .olt main_v0 main_v1
  let main_c : IVec S_ 1 := constantI S_ 1 1#1
  let main_v3 : IVec S_ 1 := (fun x v => Host.reduce IntOp.andi x v reducesTo_S4x2048x6144_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : FVec F S512 .f32 := Host.absf main_arg2
  let main_cst_2 : FVec F S_ .f32 := constant S_ .f32 0x7F800000#32
  let main_v9 : FVec F S512 .f32 := broadcastInDim S512 ![] bcast_S_S512 main_cst_2
  let main_v10 : IVec S512 1 := cmpf .olt main_v8 main_v9
  let main_c_3 : IVec S_ 1 := constantI S_ 1 1#1
  let main_v11 : IVec S_ 1 := (fun x v => Host.reduce IntOp.andi x v reducesTo_S512_S_d0 h_S_) main_v10 main_c_3
  let main_v12 : FVec F S512 .f32 := Host.absf main_arg3
  let main_cst_4 : FVec F S_ .f32 := constant S_ .f32 0x7F800000#32
  let main_v13 : FVec F S512 .f32 := broadcastInDim S512 ![] bcast_S_S512 main_cst_4
  let main_v14 : IVec S512 1 := cmpf .olt main_v12 main_v13
  let main_c_5 : IVec S_ 1 := constantI S_ 1 1#1
  let main_v15 : IVec S_ 1 := (fun x v => Host.reduce IntOp.andi x v reducesTo_S512_S_d0 h_S_) main_v14 main_c_5
  fn_part1 (F := F) main_arg4 main_arg5 main_v3 main_v7 main_v11 main_v15
-- ==== Pre_finite_loss.lean ====
abbrev S4x2048x1024 : Shape := ⟨3, ![4, 2048, 1024]⟩
abbrev S1024 : Shape := ⟨1, ![1024]⟩
abbrev S4x1x1024 : Shape := ⟨3, ![4, 1, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x1x1024 : S_.BroadcastsInDim S4x1x1024 (![] : Fin 0 → Fin S4x1x1024.rank)
  reducesTo_S4x1x1024_S_d0_1_2 : S4x1x1024.ReducesTo [0, 1, 2] S_

variable [Facts]

def fn_part1 {F : FTy → Type} [FloatOps F] (main_arg4 : FVec F S4x1x1024 .f32) (main_v3 : IVec S_ 1) (main_v7 : IVec S_ 1) (main_v11 : IVec S_ 1) (main_v15 : IVec S_ 1) : IVec S_ 1 :=
  let main_v16 : FVec F S4x1x1024 .f32 := Host.absf main_arg4
  let main_cst_6 : FVec F S_ .f32 := constant S_ .f32 0x7F800000#32
  let main_v17 : FVec F S4x1x1024 .f32 := broadcastInDim S4x1x1024 ![] bcast_S_S4x1x1024 main_cst_6
  let main_v18 : IVec S4x1x1024 1 := cmpf .olt main_v16 main_v17
  let main_c_7 : IVec S_ 1 := constantI S_ 1 1#1
  let main_v19 : IVec S_ 1 := (fun x v => Host.reduce IntOp.andi x v reducesTo_S4x1x1024_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4x2048x1024 .f32) (main_arg1 : FVec F S4x2048x1024 .f32) (main_arg2 : FVec F S1024 .f32) (main_arg3 : FVec F S4x2048x1024 .f32) (main_arg4 : FVec F S4x1x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S4x2048x1024 .f32 := Host.absf main_arg3
  let main_cst_4 : FVec F S_ .f32 := constant S_ .f32 0x7F800000#32
  let main_v13 : FVec F S4x2048x1024 .f32 := broadcastInDim S4x2048x1024 ![] bcast_S_S4x2048x1024 main_cst_4
  let main_v14 : IVec S4x2048x1024 1 := cmpf .olt main_v12 main_v13
  let main_c_5 : IVec S_ 1 := constantI S_ 1 1#1
  let main_v15 : IVec S_ 1 := (fun x v => Host.reduce IntOp.andi x v reducesTo_S4x2048x1024_S_d0_1_2 h_S_) main_v14 main_c_5
  fn_part1 (F := F) main_arg4 main_v3 main_v7 main_v11 main_v15
-- ==== Pre_finite_norm.lean ====
abbrev S4x2048x1024 : Shape := ⟨3, ![4, 2048, 1024]⟩
abbrev S1024 : Shape := ⟨1, ![1024]⟩
abbrev S4x1x1024 : Shape := ⟨3, ![4, 1, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x1x1024 : S_.BroadcastsInDim S4x1x1024 (![] : Fin 0 → Fin S4x1x1024.rank)
  reducesTo_S4x1x1024_S_d0_1_2 : S4x1x1024.ReducesTo [0, 1, 2] S_

variable [Facts]

def fn_part1 {F : FTy → Type} [FloatOps F] (main_arg5 : FVec F S4x2048x1024 .f32) (main_arg6 : FVec F S4x1x1024 .f32) (main_v3 : IVec S_ 1) (main_v7 : IVec S_ 1) (main_v11 : IVec S_ 1) (main_v15 : IVec S_ 1) : IVec S_ 1 :=
  let main_v16 : FVec F S4x2048x1024 .f32 := Host.absf main_arg5
  let main_cst_6 : FVec F S_ .f32 := constant S_ .f32 0x7F800000#32
  let main_v17 : FVec F S4x2048x1024 .f32 := broadcastInDim S4x2048x1024 ![] bcast_S_S4x2048x1024 main_cst_6
  let main_v18 : IVec S4x2048x1024 1 := cmpf .olt main_v16 main_v17
  let main_c_7 : IVec S_ 1 := constantI S_ 1 1#1
  let main_v19 : IVec S_ 1 := (fun x v => Host.reduce IntOp.andi x v reducesTo_S4x2048x1024_S_d0_1_2 h_S_) main_v18 main_c_7
  let main_v20 : FVec F S4x1x1024 .f32 := Host.absf main_arg6
  let main_cst_8 : FVec F S_ .f32 := constant S_ .f32 0x7F800000#32
  let main_v21 : FVec F S4x1x1024 .f32 := broadcastInDim S4x1x1024 ![] bcast_S_S4x1x1024 main_cst_8
  let main_v22 : IVec S4x1x1024 1 := cmpf .olt main_v20 main_v21
  let main_c_9 : IVec S_ 1 := constantI S_ 1 1#1
  let main_v23 : IVec S_ 1 := (fun x v => Host.reduce IntOp.andi x v reducesTo_S4x1x1024_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4x2048x1024 .f32) (main_arg1 : FVec F S4x2048x1024 .f32) (main_arg2 : FVec F S4x2048x1024 .f32) (main_arg3 : FVec F S1024 .f32) (main_arg4 : FVec F S4x1x1024 .f32) (main_arg5 : FVec F S4x2048x1024 .f32) (main_arg6 : FVec F S4x1x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : FVec F S1024 .f32 := Host.absf main_arg3
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S4x1x1024 .f32 := Host.absf main_arg4
  let main_cst_4 : FVec F S_ .f32 := constant S_ .f32 0x7F800000#32
  let main_v13 : FVec F S4x1x1024 .f32 := broadcastInDim S4x1x1024 ![] bcast_S_S4x1x1024 main_cst_4
  let main_v14 : IVec S4x1x1024 1 := cmpf .olt main_v12 main_v13
  let main_c_5 : IVec S_ 1 := constantI S_ 1 1#1
  let main_v15 : IVec S_ 1 := (fun x v => Host.reduce IntOp.andi x v reducesTo_S4x1x1024_S_d0_1_2 h_S_) main_v14 main_c_5
  fn_part1 (F := F) main_arg5 main_arg6 main_v3 main_v7 main_v11 main_v15
-- ==== Pre_finite_norm_ungated.lean ====
abbrev S4x2048x1024 : Shape := ⟨3, ![4, 2048, 1024]⟩
abbrev S1024 : Shape := ⟨1, ![1024]⟩
abbrev S4x1x1024 : Shape := ⟨3, ![4, 1, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x1x1024 : S_.BroadcastsInDim S4x1x1024 (![] : Fin 0 → Fin S4x1x1024.rank)
  reducesTo_S4x1x1024_S_d0_1_2 : S4x1x1024.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4x2048x1024 .f32) (main_arg1 : FVec F S4x2048x1024 .f32) (main_arg2 : FVec F S4x2048x1024 .f32) (main_arg3 : FVec F S1024 .f32) (main_arg4 : FVec F S4x1x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : FVec F S1024 .f32 := Host.absf main_arg3
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S4x1x1024 .f32 := Host.absf main_arg4
  let main_cst_4 : FVec F S_ .f32 := constant S_ .f32 0x7F800000#32
  let main_v13 : FVec F S4x1x1024 .f32 := broadcastInDim S4x1x1024 ![] bcast_S_S4x1x1024 main_cst_4
  let main_v14 : IVec S4x1x1024 1 := cmpf .olt main_v12 main_v13
  let main_c_5 : IVec S_ 1 := constantI S_ 1 1#1
  let main_v15 : IVec S_ 1 := (fun x v => Host.reduce IntOp.andi x v reducesTo_S4x1x1024_S_d0_1_2 h_S_) main_v14 main_c_5
  fn_part1 (F := F) main_v3 main_v7 main_v11 main_v15
-- ==== Pre_finite_sb.lean ====
abbrev S4x2048x6144 : Shape := ⟨3, ![4, 2048, 6144]⟩
abbrev S4x2048x512 : Shape := ⟨3, ![4, 2048, 512]⟩
abbrev S_ : Shape := ⟨0, ![]⟩

class Facts : Prop where
  bcast_S_S4x2048x6144 : S_.BroadcastsInDim S4x2048x6144 (![] : Fin 0 → Fin S4x2048x6144.rank)
  reducesTo_S4x2048x6144_S_d0_1_2 : S4x2048x6144.ReducesTo [0, 1, 2] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_

variable [Facts]

def fn {F : FTy → Type} [FloatOps F] (main_arg0 : FVec F S4x2048x6144 .f32) (main_arg1 : FVec F S4x2048x512 .f32) : IVec S_ 1 :=
  let main_v0 : FVec F S4x2048x6144 .f32 := Host.absf main_arg0
  let main_cst : FVec F S_ .f32 := constant S_ .f32 0x7F800000#32
  let main_v1 : FVec F S4x2048x6144 .f32 := broadcastInDim S4x2048x6144 ![] bcast_S_S4x2048x6144 main_cst
  let main_v2 : IVec S4x2048x6144 1 := cmpf .olt main_v0 main_v1
  let main_c : IVec S_ 1 := constantI S_ 1 1#1
  let main_v3 : IVec S_ 1 := (fun x v => Host.reduce IntOp.andi x v reducesTo_S4x2048x6144_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  main_v8
-- ==== Pre_finite_sbf.lean ====
abbrev S4x2048x6144 : Shape := ⟨3, ![4, 2048, 6144]⟩
abbrev S_ : Shape := ⟨0, ![]⟩

class Facts : Prop where
  bcast_S_S4x2048x6144 : S_.BroadcastsInDim S4x2048x6144 (![] : Fin 0 → Fin S4x2048x6144.rank)
  reducesTo_S4x2048x6144_S_d0_1_2 : S4x2048x6144.ReducesTo [0, 1, 2] S_
  h_S_ : 0 < S_.numel

variable [Facts]

def fn {F : FTy → Type} [FloatOps F] (main_arg0 : FVec F S4x2048x6144 .f32) : IVec S_ 1 :=
  let main_v0 : FVec F S4x2048x6144 .f32 := Host.absf main_arg0
  let main_cst : FVec F S_ .f32 := constant S_ .f32 0x7F800000#32
  let main_v1 : FVec F S4x2048x6144 .f32 := broadcastInDim S4x2048x6144 ![] bcast_S_S4x2048x6144 main_cst
  let main_v2 : IVec S4x2048x6144 1 := cmpf .olt main_v0 main_v1
  let main_c : IVec S_ 1 := constantI S_ 1 1#1
  let main_v3 : IVec S_ 1 := (fun x v => Host.reduce IntOp.andi x v reducesTo_S4x2048x6144_S_d0_1_2 h_S_) main_v2 main_c
  main_v3
-- ==== Ada.lean ====
abbrev S32x1024 : Shape := ⟨2, ![32, 1024]⟩
abbrev S4x1024x768 : Shape := ⟨3, ![4, 1024, 768]⟩
abbrev S4x32x768 : Shape := ⟨3, ![4, 32, 768]⟩
abbrev S1x32x768 : Shape := ⟨3, ![1, 32, 768]⟩
abbrev S1x1024x768 : Shape := ⟨3, ![1, 1024, 768]⟩
abbrev S32x768 : Shape := ⟨2, ![32, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S4x1024x768, .f32⟩
  | .hbm, ⟨2, _⟩ => ⟨S4x32x768, .f32⟩
  | .hbm, ⟨3, _⟩ => ⟨S4x1024x768, .f32⟩
  | .local _ .vmem, ⟨0, _⟩ => ⟨S32x1024, .f32⟩
  | .local _ .vmem, ⟨1, _⟩ => ⟨S1x32x768, .f32⟩
  | .local _ .vmem, ⟨2, _⟩ => ⟨S1x32x768, .f32⟩
  | .local _ .vmem, ⟨3, _⟩ => ⟨S1x1024x768, .f32⟩
  | .local _ .vmem, ⟨4, _⟩ => ⟨S1x1024x768, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaRefIdeal.lean ====
abbrev S32x1024 : Shape := ⟨2, ![32, 1024]⟩
abbrev S4x1024x768 : Shape := ⟨3, ![4, 1024, 768]⟩
abbrev S4x32x768 : Shape := ⟨3, ![4, 32, 768]⟩
abbrev S_ : Shape := ⟨0, ![]⟩
abbrev S4x768x32 : Shape := ⟨3, ![4, 768, 32]⟩
abbrev S4x768x1024 : Shape := ⟨3, ![4, 768, 1024]⟩

abbrev nBuf : Space → Nat
  | .hbm => 17
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S4x1024x768, .f32⟩
  | .hbm, ⟨2, _⟩ => ⟨S4x32x768, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S4x768x32, .f32⟩
  | .hbm, ⟨13, _⟩ => ⟨S4x32x768, .f32⟩
  | .hbm, ⟨14, _⟩ => ⟨S4x768x32, .f32⟩
  | .hbm, ⟨15, _⟩ => ⟨S4x768x1024, .f32⟩
  | .hbm, ⟨16, _⟩ => ⟨S4x1024x768, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Merge.lean ====
abbrev S8192x1024 : Shape := ⟨2, ![8192, 1024]⟩
abbrev S8192x512 : Shape := ⟨2, ![8192, 512]⟩
abbrev S3x512x1024 : Shape := ⟨3, ![3, 512, 1024]⟩
abbrev S8192x6144 : Shape := ⟨2, ![8192, 6144]⟩
abbrev S1x512x1024 : Shape := ⟨3, ![1, 512, 1024]⟩
abbrev S512x1024 : Shape := ⟨2, ![512, 1024]⟩
abbrev S512x3072 : Shape := ⟨2, ![512, 3072]⟩

abbrev nBuf : Space → Nat
  | .hbm => 24
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S3x512x1024, .f32⟩
  | .hbm, ⟨5, _⟩ => ⟨S8192x6144, .f32⟩
  | .hbm, ⟨6, _⟩ => ⟨S1x512x1024, .f32⟩
  | .hbm, ⟨7, _⟩ => ⟨S512x1024, .f32⟩
  | .hbm, ⟨8, _⟩ => ⟨S8192x1024, .f32⟩
  | .hbm, ⟨9, _⟩ => ⟨S8192x1024, .bf16⟩
  | .hbm, ⟨10, _⟩ => ⟨S1x512x1024, .f32⟩
  | .hbm, ⟨11, _⟩ => ⟨S512x1024, .f32⟩
  | .hbm, ⟨12, _⟩ => ⟨S8192x1024, .f32⟩
  | .hbm, ⟨13, _⟩ => ⟨S8192x1024, .bf16⟩
  | .hbm, ⟨14, _⟩ => ⟨S1x512x1024, .f32⟩
  | .hbm, ⟨15, _⟩ => ⟨S512x1024, .f32⟩
  | .hbm, ⟨16, _⟩ => ⟨S8192x1024, .f32⟩
  | .hbm, ⟨17, _⟩ => ⟨S8192x1024, .bf16⟩
  | .hbm, ⟨18, _⟩ => ⟨S8192x1024, .bf16⟩
  | .hbm, ⟨19, _⟩ => ⟨S8192x6144, .bf16⟩
  | .hbm, ⟨20, _⟩ => ⟨S8192x6144, .bf16⟩
  | .hbm, ⟨21, _⟩ => ⟨S8192x1024, .bf16⟩
  | .hbm, ⟨22, _⟩ => ⟨S8192x1024, .bf16⟩
  | .hbm, ⟨23, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x3072, .bf16⟩
  | .local _ .vmem, ⟨9, _⟩ => ⟨S512x3072, .bf16⟩
  | .local _ .vmem, ⟨10, _⟩ => ⟨S512x3072, .bf16⟩
  | .local _ .vmem, ⟨11, _⟩ => ⟨S512x3072, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S8192x1024 : Shape := ⟨2, ![8192, 1024]⟩
abbrev S8192x512 : Shape := ⟨2, ![8192, 512]⟩
abbrev S3x512x1024 : Shape := ⟨3, ![3, 512, 1024]⟩
abbrev S8192x6144 : Shape := ⟨2, ![8192, 6144]⟩
abbrev S1x512x1024 : Shape := ⟨3, ![1, 512, 1024]⟩
abbrev S512x1024 : Shape := ⟨2, ![512, 1024]⟩
abbrev S8192x3072 : Shape := ⟨2, ![8192, 3072]⟩
abbrev S8192x3x1024 : Shape := ⟨3, ![8192, 3, 1024]⟩
abbrev S_ : Shape := ⟨0, ![]⟩
abbrev S8192x1x1024 : Shape := ⟨3, ![8192, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S3x512x1024, .f32⟩
  | .hbm, ⟨5, _⟩ => ⟨S8192x6144, .f32⟩
  | .hbm, ⟨6, _⟩ => ⟨S1x512x1024, .f32⟩
  | .hbm, ⟨7, _⟩ => ⟨S512x1024, .f32⟩
  | .hbm, ⟨8, _⟩ => ⟨S8192x1024, .f32⟩
  | .hbm, ⟨9, _⟩ => ⟨S1x512x1024, .f32⟩
  | .hbm, ⟨10, _⟩ => ⟨S512x1024, .f32⟩
  | .hbm, ⟨11, _⟩ => ⟨S8192x1024, .f32⟩
  | .hbm, ⟨12, _⟩ => ⟨S1x512x1024, .f32⟩
  | .hbm, ⟨13, _⟩ => ⟨S512x1024, .f32⟩
  | .hbm, ⟨14, _⟩ => ⟨S8192x1024, .f32⟩
  | .hbm, ⟨15, _⟩ => ⟨S8192x3072, .f32⟩
  | .hbm, ⟨16, _⟩ => ⟨S8192x3x1024, .f32⟩
  | .hbm, ⟨17, _⟩ => ⟨S8192x3x1024, .f32⟩
  | .hbm, ⟨18, _⟩ => ⟨S8192x3x1024, .f32⟩
  | .hbm, ⟨19, _⟩ => ⟨S_, .f32⟩
  | .hbm, ⟨20, _⟩ => ⟨S8192x3x1024, .f32⟩
  | .hbm, ⟨21, _⟩ => ⟨S8192x3x1024, .f32⟩
  | .hbm, ⟨22, _⟩ => ⟨S_, .f32⟩
  | .hbm, ⟨23, _⟩ => ⟨S8192x3x1024, .f32⟩
  | .hbm, ⟨24, _⟩ => ⟨S8192x3x1024, .f32⟩
  | .hbm, ⟨25, _⟩ => ⟨S_, .f32⟩
  | .hbm, ⟨26, _⟩ => ⟨S8192x3x1024, .f32⟩
  | .hbm, ⟨27, _⟩ => ⟨S8192x3x1024, .f32⟩
  | .hbm, ⟨28, _⟩ => ⟨S8192x3x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1x1024, .f32⟩
  | .hbm, ⟨45, _⟩ => ⟨S_, .f32⟩
  | .hbm, ⟨46, _⟩ => ⟨S8192x3x1024, .f32⟩
  | .hbm, ⟨47, _⟩ => ⟨S8192x1024, .f32⟩
  | .hbm, ⟨48, _⟩ => ⟨S8192x1024, .f32⟩
  | .hbm, ⟨49, _⟩ => ⟨S8192x1x1024, .f32⟩
  | .hbm, ⟨50, _⟩ => ⟨S_, .f32⟩
  | .hbm, ⟨51, _⟩ => ⟨S8192x3x1024, .f32⟩
  | .hbm, ⟨52, _⟩ => ⟨S8192x3x1024, .f32⟩
  | .hbm, ⟨53, _⟩ => ⟨S8192x1024, .f32⟩
  | .hbm, ⟨54, _⟩ => ⟨S8192x1024, .f32⟩
  | .hbm, ⟨55, _⟩ => ⟨S8192x1x1024, .f32⟩
  | .hbm, ⟨56, _⟩ => ⟨S_, .f32⟩
  | .hbm, ⟨57, _⟩ => ⟨S8192x3x1024, .f32⟩
  | .hbm, ⟨58, _⟩ => ⟨S8192x3x1024, .f32⟩
  | .hbm, ⟨59, _⟩ => ⟨S8192x3x1024, .f32⟩
  | .hbm, ⟨60, _⟩ => ⟨S8192x3072, .f32⟩
  | .hbm, ⟨61, _⟩ => ⟨S_, .f32⟩
  | .hbm, ⟨62, _⟩ => ⟨S8192x3072, .f32⟩
  | .hbm, ⟨63, _⟩ => ⟨S8192x6144, .f32⟩
  | .hbm, ⟨64, _⟩ => ⟨S8192x6144, .bf16⟩
  | .hbm, ⟨65, _⟩ => ⟨S8192x1024, .bf16⟩
  | .hbm, ⟨66, _⟩ => ⟨S8192x1024, .bf16⟩
  | .hbm, ⟨67, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== FfnOut.lean ====
abbrev S8192x1024 : Shape := ⟨2, ![8192, 1024]⟩
abbrev S2816x1024 : Shape := ⟨2, ![2816, 1024]⟩
abbrev S8192x2816 : Shape := ⟨2, ![8192, 2816]⟩
abbrev S8x352x1024 : Shape := ⟨3, ![8, 352, 1024]⟩
abbrev S_ : Shape := ⟨0, ![]⟩
abbrev S8x384x1024 : Shape := ⟨3, ![8, 384, 1024]⟩
abbrev S3072x1024 : Shape := ⟨2, ![3072, 1024]⟩
abbrev S8192x8x352 : Shape := ⟨3, ![8192, 8, 352]⟩
abbrev S8192x8x384 : Shape := ⟨3, ![8192, 8, 384]⟩
abbrev S8192x3072 : Shape := ⟨2, ![8192, 3072]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 31
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .hbm, ⟨3, _⟩ => ⟨S8192x2816, .f32⟩
  | .hbm, ⟨4, _⟩ => ⟨S8x352x1024, .f32⟩
  | .hbm, ⟨5, _⟩ => ⟨S_, .i32⟩
  | .hbm, ⟨6, _⟩ => ⟨S_, .f32⟩
  | .hbm, ⟨7, _⟩ => ⟨S8x384x1024, .f32⟩
  | .hbm, ⟨8, _⟩ => ⟨S8192x1024, .bf16⟩
  | .hbm, ⟨9, _⟩ => ⟨S8x384x1024, .bf16⟩
  | .hbm, ⟨10, _⟩ => ⟨S3072x1024, .bf16⟩
  | .hbm, ⟨11, _⟩ => ⟨S8192x8x352, .f32⟩
  | .hbm, ⟨12, _⟩ => ⟨S_, .i32⟩
  | .hbm, ⟨13, _⟩ => ⟨S_, .f32⟩
  | .hbm, ⟨14, _⟩ => ⟨S8192x8x384, .f32⟩
  | .hbm, ⟨15, _⟩ => ⟨S8192x3072, .f32⟩
  | .hbm, ⟨16, _⟩ => ⟨S8192x3072, .bf16⟩
  | .hbm, ⟨17, _⟩ => ⟨S8192x8x352, .f32⟩
  | .hbm, ⟨18, _⟩ => ⟨S_, .i32⟩
  | .hbm, ⟨19, _⟩ => ⟨S_, .f32⟩
  | .hbm, ⟨20, _⟩ => ⟨S8192x8x384, .f32⟩
  | .hbm, ⟨21, _⟩ => ⟨S8192x3072, .f32⟩
  | .hbm, ⟨22, _⟩ => ⟨S8192x3072, .bf16⟩
  | .hbm, ⟨23, _⟩ => ⟨S8192x3072, .bf16⟩
  | .hbm, ⟨24, _⟩ => ⟨S8192x3072, .bf16⟩
  | .hbm, ⟨25, _⟩ => ⟨S8192x8x384, .bf16⟩
  | .hbm, ⟨26, _⟩ => ⟨S8192x8x352, .bf16⟩
  | .hbm, ⟨27, _⟩ => ⟨S8192x2816, .bf16⟩
  | .hbm, ⟨28, _⟩ => ⟨S8192x8x384, .bf16⟩
  | .hbm, ⟨29, _⟩ => ⟨S8192x8x352, .bf16⟩
  | .hbm, ⟨30, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnOutRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Norm.lean ====
abbrev S4x2048x1024 : Shape := ⟨3, ![4, 2048, 1024]⟩
abbrev S1024 : Shape := ⟨1, ![1024]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 18
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024, .f32⟩
  | .hbm, ⟨4, _⟩ => ⟨S4x1x1024, .f32⟩
  | .hbm, ⟨5, _⟩ => ⟨S4x2048x1024, .f32⟩
  | .hbm, ⟨6, _⟩ => ⟨S4x1x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S1x1024, .f32⟩
  | .hbm, ⟨11, _⟩ => ⟨S4x2048x1024, .bf16⟩
  | .hbm, ⟨12, _⟩ => ⟨S4x2048x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x2048x1024, .bf16⟩
  | .hbm, ⟨17, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x512x1024, .bf16⟩
  | .local _ .vmem, ⟨22, _⟩ => ⟨S1x512x1024, .bf16⟩
  | .local _ .vmem, ⟨23, _⟩ => ⟨S1x1x1024, .f32⟩
  | .local _ .vmem, ⟨24, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== NormRefIdeal.lean ====
abbrev S4x2048x1024 : Shape := ⟨3, ![4, 2048, 1024]⟩
abbrev S1024 : Shape := ⟨1, ![1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S4x1024 : Shape := ⟨2, ![4, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024, .f32⟩
  | .hbm, ⟨4, _⟩ => ⟨S4x1x1024, .f32⟩
  | .hbm, ⟨5, _⟩ => ⟨S4x2048x1024, .f32⟩
  | .hbm, ⟨6, _⟩ => ⟨S4x1x1024, .f32⟩
  | .hbm, ⟨7, _⟩ => ⟨S4x1x1024, .f32⟩
  | .hbm, ⟨8, _⟩ => ⟨S_, .f32⟩
  | .hbm, ⟨9, _⟩ => ⟨S4x1x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x1024, .f32⟩
  | .hbm, ⟨42, _⟩ => ⟨S4x1x1024, .f32⟩
  | .hbm, ⟨43, _⟩ => ⟨S4x2048x1024, .f32⟩
  | .hbm, ⟨44, _⟩ => ⟨S_, .f32⟩
  | .hbm, ⟨45, _⟩ => ⟨S4x1024, .f32⟩
  | .hbm, ⟨46, _⟩ => ⟨S4x1x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x1024, .f32⟩
  | .hbm, ⟨52, _⟩ => ⟨S4x1x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S4x2048x1, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S_, .f32⟩
  | .hbm, ⟨67, _⟩ => ⟨S4x2048, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S_, .f32⟩
  | .hbm, ⟨78, _⟩ => ⟨S4x1024, .f32⟩
  | .hbm, ⟨79, _⟩ => ⟨S4x1x1024, .f32⟩
  | .hbm, ⟨80, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== NormUngated.lean ====
abbrev S4x2048x1024 : Shape := ⟨3, ![4, 2048, 1024]⟩
abbrev S1024 : Shape := ⟨1, ![1024]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024, .f32⟩
  | .hbm, ⟨4, _⟩ => ⟨S4x1x1024, .f32⟩
  | .hbm, ⟨5, _⟩ => ⟨S1x1024, .f32⟩
  | .hbm, ⟨6, _⟩ => ⟨S4x2048x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== NormUngatedRefIdeal.lean ====
abbrev S4x2048x1024 : Shape := ⟨3, ![4, 2048, 1024]⟩
abbrev S1024 : Shape := ⟨1, ![1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S4x1024 : Shape := ⟨2, ![4, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024, .f32⟩
  | .hbm, ⟨4, _⟩ => ⟨S4x1x1024, .f32⟩
  | .hbm, ⟨5, _⟩ => ⟨S4x1x1024, .f32⟩
  | .hbm, ⟨6, _⟩ => ⟨S_, .f32⟩
  | .hbm, ⟨7, _⟩ => ⟨S4x1x1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S4x1024, .f32⟩
  | .hbm, ⟨37, _⟩ => ⟨S4x1x1024, .f32⟩
  | .hbm, ⟨38, _⟩ => ⟨S4x2048x1024, .f32⟩
  | .hbm, ⟨39, _⟩ => ⟨S_, .f32⟩
  | .hbm, ⟨40, _⟩ => ⟨S4x1024, .f32⟩
  | .hbm, ⟨41, _⟩ => ⟨S4x1x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x1024, .f32⟩
  | .hbm, ⟨47, _⟩ => ⟨S4x1x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S4x2048, .f32⟩
  | .hbm, ⟨53, _⟩ => ⟨S4x2048x1, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S_, .f32⟩
  | .hbm, ⟨62, _⟩ => ⟨S4x2048, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Loss.lean ====
abbrev S4x2048x1024 : Shape := ⟨3, ![4, 2048, 1024]⟩
abbrev S1024 : Shape := ⟨1, ![1024]⟩
abbrev S4x1x1024 : Shape := ⟨3, ![4, 1, 1024]⟩
abbrev S1x1024 : Shape := ⟨2, ![1, 1024]⟩
abbrev S4x1x128 : Shape := ⟨3, ![4, 1, 128]⟩
abbrev S1x512x1024 : Shape := ⟨3, ![1, 512, 1024]⟩
abbrev S1x1x1024 : Shape := ⟨3, ![1, 1, 1024]⟩
abbrev S1x1x128 : Shape := ⟨3, ![1, 1, 128]⟩
abbrev S512x1024 : Shape := ⟨2, ![512, 1024]⟩
abbrev S512 : Shape := ⟨1, ![512]⟩
abbrev S512x1 : Shape := ⟨2, ![512, 1]⟩
abbrev S1x128 : Shape := ⟨2, ![1, 128]⟩
abbrev S1 : Shape := ⟨1, ![1]⟩
abbrev S1x1 : Shape := ⟨2, ![1, 1]⟩

abbrev nBuf : Space → Nat
  | .hbm => 15
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024, .f32⟩
  | .hbm, ⟨3, _⟩ => ⟨S4x2048x1024, .f32⟩
  | .hbm, ⟨4, _⟩ => ⟨S4x1x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S1x1024, .f32⟩
  | .hbm, ⟨9, _⟩ => ⟨S4x2048x1024, .bf16⟩
  | .hbm, ⟨10, _⟩ => ⟨S4x2048x1024, .f32⟩
  | .hbm, ⟨11, _⟩ => ⟨S4x1x128, .f32⟩
  | .hbm, ⟨12, _⟩ => ⟨S4x1x1024, .f32⟩
  | .hbm, ⟨13, _⟩ => ⟨S4x2048x1024, .bf16⟩
  | .hbm, ⟨14, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x512x1024, .bf16⟩
  | .local _ .vmem, ⟨6, _⟩ => ⟨S1x512x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1x128, .f32⟩
  | .local _ .vmem, ⟨12, _⟩ => ⟨S1x1x128, .f32⟩
  | .local _ .vmem, ⟨13, _⟩ => ⟨S1x1x1024, .f32⟩
  | .local _ .vmem, ⟨14, _⟩ => ⟨S1x1x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S1x1x1024, .f32⟩
  | .local _ .vmem, ⟨18, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== LossRefIdeal.lean ====
abbrev S4x2048x1024 : Shape := ⟨3, ![4, 2048, 1024]⟩
abbrev S1024 : Shape := ⟨1, ![1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S4 : Shape := ⟨1, ![4]⟩
abbrev S4x1024 : Shape := ⟨2, ![4, 1024]⟩
abbrev S4x1x1 : Shape := ⟨3, ![4, 1, 1]⟩
abbrev S4x1x128 : Shape := ⟨3, ![4, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024, .f32⟩
  | .hbm, ⟨3, _⟩ => ⟨S4x2048x1024, .f32⟩
  | .hbm, ⟨4, _⟩ => ⟨S4x1x1024, .f32⟩
  | .hbm, ⟨5, _⟩ => ⟨S4x1x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S_, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S4x2048, .f32⟩
  | .hbm, ⟨49, _⟩ => ⟨S_, .f32⟩
  | .hbm, ⟨50, _⟩ => ⟨S4x2048, .f32⟩
  | .hbm, ⟨51, _⟩ => ⟨S4x2048, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S4x1024, .f32⟩
  | .hbm, ⟨57, _⟩ => ⟨S4x1x1024, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S_, .f32⟩
  | .hbm, ⟨62, _⟩ => ⟨S4x2048, .f32⟩
  | .hbm, ⟨63, _⟩ => ⟨S4x2048x1, .f32⟩
  | .hbm, ⟨64, _⟩ => ⟨S4x2048x1024, .f32⟩
  | .hbm, ⟨65, _⟩ => ⟨S4x2048x1024, .f32⟩
  | .hbm, ⟨66, _⟩ => ⟨S4x2048x1, .f32⟩
  | .hbm, ⟨67, _⟩ => ⟨S_, .f32⟩
  | .hbm, ⟨68, _⟩ => ⟨S4x2048x1, .f32⟩
  | .hbm, ⟨69, _⟩ => ⟨S4x2048x1, .f32⟩
  | .hbm, ⟨70, _⟩ => ⟨S_, .f32⟩
  | .hbm, ⟨71, _⟩ => ⟨S4x2048, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S_, .f32⟩
  | .hbm, ⟨81, _⟩ => ⟨S4x1024, .f32⟩
  | .hbm, ⟨82, _⟩ => ⟨S4x1x1024, .f32⟩
  | .hbm, ⟨83, _⟩ => ⟨S4x1x1, .f32⟩
  | .hbm, ⟨84, _⟩ => ⟨S4x1x128, .f32⟩
  | .hbm, ⟨85, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Sb.lean ====
abbrev S4x2048x6144 : Shape := ⟨3, ![4, 2048, 6144]⟩
abbrev S4x2048x512 : Shape := ⟨3, ![4, 2048, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x128 : Shape := ⟨3, ![1, 2048, 128]⟩
abbrev S2x2048x64 : Shape := ⟨3, ![2, 2048, 64]⟩
abbrev S256x256 : Shape := ⟨2, ![256, 256]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x2048x64 : Shape := ⟨3, ![1, 2048, 64]⟩
abbrev S2048x64 : Shape := ⟨2, ![2048, 64]⟩

abbrev nBuf : Space → Nat
  | .hbm => 63
  | .vmem => 18
  | .smem => 0
  | _ => 0

abbrev bufTy : (tb : Table) → Fin (tcTables nBuf tb) → BufTy
  | .hbm, ⟨0, _⟩ => ⟨S4x2048x6144, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S4x2048x8x64, .f32⟩
  | .hbm, ⟨6, _⟩ => ⟨S4x8x2048x64, .f32⟩
  | .hbm, ⟨7, _⟩ => ⟨S4x2048x8x64, .f32⟩
  | .hbm, ⟨8, _⟩ => ⟨S4x8x2048x64, .f32⟩
  | .hbm, ⟨9, _⟩ => ⟨S4x2048x8x64, .f32⟩
  | .hbm, ⟨10, _⟩ => ⟨S4x8x2048x64, .f32⟩
  | .hbm, ⟨11, _⟩ => ⟨S4x8x2048x2048, .f32⟩
  | .hbm, ⟨12, _⟩ => ⟨S_, .f32⟩
  | .hbm, ⟨13, _⟩ => ⟨S4x8x2048x2048, .f32⟩
  | .hbm, ⟨14, _⟩ => ⟨S4x8x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S4x8x2048x2048, .f32⟩
  | .hbm, ⟨23, _⟩ => ⟨S_, .f32⟩
  | .hbm, ⟨24, _⟩ => ⟨S4x8x2048x2048, .f32⟩
  | .hbm, ⟨25, _⟩ => ⟨S4x8x2048x2048, .f32⟩
  | .hbm, ⟨26, _⟩ => ⟨S4x8x2048x2048, .f32⟩
  | .hbm, ⟨27, _⟩ => ⟨S4x8x2048x2048, .f32⟩
  | .hbm, ⟨28, _⟩ => ⟨S4x8x2048x2048, .i1⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S4x8x2048x2048, .f32⟩
  | .hbm, ⟨38, _⟩ => ⟨S4x8x2048x2048, .f32⟩
  | .hbm, ⟨39, _⟩ => ⟨S_, .f32⟩
  | .hbm, ⟨40, _⟩ => ⟨S_, .f32⟩
  | .hbm, ⟨41, _⟩ => ⟨S4x8x2048x2048, .i1⟩
  | .hbm, ⟨42, _⟩ => ⟨S4x8x2048x2048, .f32⟩
  | .hbm, ⟨43, _⟩ => ⟨S4x8x2048x2048, .f32⟩
  | .hbm, ⟨44, _⟩ => ⟨S_, .f32⟩
  | .hbm, ⟨45, _⟩ => ⟨S_, .f32⟩
  | .hbm, ⟨46, _⟩ => ⟨S4x8x2048x2048, .f32⟩
  | .hbm, ⟨47, _⟩ => ⟨S4x8x2048x2048, .f32⟩
  | .hbm, ⟨48, _⟩ => ⟨S4x8x2048x2048, .f32⟩
  | .hbm, ⟨49, _⟩ => ⟨S4x8x2048x2048, .f32⟩
  | .hbm, ⟨50, _⟩ => ⟨S_, .f32⟩
  | .hbm, ⟨51, _⟩ => ⟨S_, .f32⟩
  | .hbm, ⟨52, _⟩ => ⟨S4x8x2048x2048, .i1⟩
  | .hbm, ⟨53, _⟩ => ⟨S4x8x2048x2048, .f32⟩
  | .hbm, ⟨54, _⟩ => ⟨S4x8x2048x2048, .f32⟩
  | .hbm, ⟨55, _⟩ => ⟨S4x8x2048x64, .f32⟩
  | .hbm, ⟨56, _⟩ => ⟨S4x2048x8x64, .f32⟩
  | .hbm, ⟨57, _⟩ => ⟨S4x2048x512, .f32⟩
  | .hbm, ⟨58, _⟩ => ⟨S4x2048x6144, .bf16⟩
  | .hbm, ⟨59, _⟩ => ⟨S4x2048x512, .bf16⟩
  | .hbm, ⟨60, _⟩ => ⟨S4x2048x512, .bf16⟩
  | .hbm, ⟨61, _⟩ => ⟨S4x2048x512, .bf16⟩
  | .hbm, ⟨62, _⟩ => ⟨S4x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .f32⟩
  | .local _ .vmem, ⟨9, _⟩ => ⟨S1x2048x128, .f32⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S2x2048x64, .f32⟩
  | .local _ .vmem, ⟨17, _⟩ => ⟨S2x2048x64, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_v20 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_1 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32_0 : Ref sig .tc := ⟨.hbm, 60, rfl⟩
abbrev main_v32_1 : Ref sig .tc := ⟨.hbm, 61, rfl⟩
abbrev main_v32_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c8_i32 : BitVec 32 := 8#32
  let v12 : BitVec 32 := Scalar.addi c0_i32 c8_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v37 : BitVec 32 := Scalar.muli arg12 c256_i32
  v37
def k0_off1 (k0_t1 : Fin k0_t1_loop.trips) : Fin 3 → Nat :=
  let c0_25 : Index := 0#32
  let c0_i32 : BitVec 32 := 0#32
  let c1_i32 : BitVec 32 := 1#32
  let arg12 : BitVec 32 := Scf.iv c0_i32 c1_i32 k0_t1
  let c256_i32 : BitVec 32 := 256#32
  let v37 : BitVec 32 := Scalar.muli arg12 c256_i32
  let v38 : BitVec 32 := v37
  let v39 : Index := Scalar.indexCast v38
  let c0_26 : Index := 0#32
  ![0, v39.toNat, 0]
def k0_off2 (k0_t1 : Fin k0_t1_loop.trips) : Fin 3 → Nat :=
  let c0_28 : Index := 0#32
  let c0_i32 : BitVec 32 := 0#32
  let c1_i32 : BitVec 32 := 1#32
  let arg12 : BitVec 32 := Scf.iv c0_i32 c1_i32 k0_t1
  let c256_i32 : BitVec 32 := 256#32
  let v37 : BitVec 32 := Scalar.muli arg12 c256_i32
  let v38 : BitVec 32 := v37
  let v46 : Index := Scalar.indexCast v38
  let c64_29 : Index := 64#32
  ![0, v46.toNat, 64]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v37 : BitVec 32 := Scalar.muli arg12 c256_i32
  let v38 : BitVec 32 := v37
  let c0_i32_47 : BitVec 32 := 0#32
  let v79 : BitVec 32 := Scalar.addi v38 c0_i32_47
  v79
def k0_off3 (k0_t1 : Fin k0_t1_loop.trips) : Fin 3 → Nat :=
  let c0_49 : Index := 0#32
  let c0_i32 : BitVec 32 := 0#32
  let c1_i32 : BitVec 32 := 1#32
  let arg12 : BitVec 32 := Scf.iv c0_i32 c1_i32 k0_t1
  let c256_i32 : BitVec 32 := 256#32
  let v37 : BitVec 32 := Scalar.muli arg12 c256_i32
  let v38 : BitVec 32 := v37
  let c0_i32_47 : BitVec 32 := 0#32
  let v79 : BitVec 32 := Scalar.addi v38 c0_i32_47
  let v80 : BitVec 32 := v79
  let v86 : Index := Scalar.indexCast v80
  let c0_50 : Index := 0#32
  ![0, v86.toNat, 0]
def k0_off4 (k0_t1 : Fin k0_t1_loop.trips) : Fin 3 → Nat :=
  let c0_51 : Index := 0#32
  let c0_i32 : BitVec 32 := 0#32
  let c1_i32 : BitVec 32 := 1#32
  let arg12 : BitVec 32 := Scf.iv c0_i32 c1_i32 k0_t1
  let c256_i32 : BitVec 32 := 256#32
  let v37 : BitVec 32 := Scalar.muli arg12 c256_i32
  let v38 : BitVec 32 := v37
  let c0_i32_47 : BitVec 32 := 0#32
  let v79 : BitVec 32 := Scalar.addi v38 c0_i32_47
  let v80 : BitVec 32 := v79
  let v89 : Index := Scalar.indexCast v80
  let c64_52 : Index := 64#32
  ![0, v89.toNat, 64]
def k0_off5 (k0_t1 : Fin k0_t1_loop.trips) : Fin 3 → Nat :=
  let c0_80 : Index := 0#32
  let c0_i32 : BitVec 32 := 0#32
  let c1_i32 : BitVec 32 := 1#32
  let arg12 : BitVec 32 := Scf.iv c0_i32 c1_i32 k0_t1
  let c256_i32 : BitVec 32 := 256#32
  let v37 : BitVec 32 := Scalar.muli arg12 c256_i32
  let v38 : BitVec 32 := v37
  let c0_i32_47 : BitVec 32 := 0#32
  let v79 : BitVec 32 := Scalar.addi v38 c0_i32_47
  let v80 : BitVec 32 := v79
  let v176 : Index := Scalar.indexCast v80
  let c0_81 : Index := 0#32
  ![0, v176.toNat, 0]
def k0_off6 (k0_t1 : Fin k0_t1_loop.trips) : Fin 3 → Nat :=
  let c1_88 : Index := 1#32
  let c0_i32 : BitVec 32 := 0#32
  let c1_i32 : BitVec 32 := 1#32
  let arg12 : BitVec 32 := Scf.iv c0_i32 c1_i32 k0_t1
  let c256_i32 : BitVec 32 := 256#32
  let v37 : BitVec 32 := Scalar.muli arg12 c256_i32
  let v38 : BitVec 32 := v37
  let c0_i32_47 : BitVec 32 := 0#32
  let v79 : BitVec 32 := Scalar.addi v38 c0_i32_47
  let v80 : BitVec 32 := v79
  let v204 : Index := Scalar.indexCast v80
  let c0_89 : Index := 0#32
  ![1, v204.toNat, 0]
def k0_mult3 (k0_t1 : Fin k0_t1_loop.trips) (arg13 : BitVec 32) : BitVec 32 :=
  let c0_i32 : BitVec 32 := 0#32
  let c1_i32 : BitVec 32 := 1#32
  let arg12 : BitVec 32 := Scf.iv c0_i32 c1_i32 k0_t1
  let c1_i32_93 : BitVec 32 := 1#32
  let v220 : BitVec 32 := Scalar.muli arg12 c1_i32_93
  let c1_i32_104 : BitVec 32 := 1#32
  let v247 : BitVec 32 := Scalar.subi v220 c1_i32_104
  let v248 : BitVec 32 := Scalar.subi v247 arg13
  let c256_i32_105 : BitVec 32 := 256#32
  let v249 : BitVec 32 := Scalar.muli v248 c256_i32_105
  v249

def k0_off7 (k0_t1 : Fin k0_t1_loop.trips) (arg13 : BitVec 32) : Fin 3 → Nat :=
  let c0_106 : Index := 0#32
  let c0_i32 : BitVec 32 := 0#32
  let c1_i32 : BitVec 32 := 1#32
  let arg12 : BitVec 32 := Scf.iv c0_i32 c1_i32 k0_t1
  let c1_i32_93 : BitVec 32 := 1#32
  let v220 : BitVec 32 := Scalar.muli arg12 c1_i32_93
  let c1_i32_104 : BitVec 32 := 1#32
  let v247 : BitVec 32 := Scalar.subi v220 c1_i32_104
  let v248 : BitVec 32 := Scalar.subi v247 arg13
  let c256_i32_105 : BitVec 32 := 256#32
  let v249 : BitVec 32 := Scalar.muli v248 c256_i32_105
  let v250 : BitVec 32 := v249
  let v251 : Index := Scalar.indexCast v250
  let c0_107 : Index := 0#32
  ![0, v251.toNat, 0]
def k0_off8 (k0_t1 : Fin k0_t1_loop.trips) (arg13 : BitVec 32) : Fin 3 → Nat :=
  let c0_108 : Index := 0#32
  let c0_i32 : BitVec 32 := 0#32
  let c1_i32 : BitVec 32 := 1#32
  let arg12 : BitVec 32 := Scf.iv c0_i32 c1_i32 k0_t1
  let c1_i32_93 : BitVec 32 := 1#32
  let v220 : BitVec 32 := Scalar.muli arg12 c1_i32_93
  let c1_i32_104 : BitVec 32 := 1#32
  let v247 : BitVec 32 := Scalar.subi v220 c1_i32_104
  let v248 : BitVec 32 := Scalar.subi v247 arg13
  let c256_i32_105 : BitVec 32 := 256#32
  let v249 : BitVec 32 := Scalar.muli v248 c256_i32_105
  let v250 : BitVec 32 := v249
  let v254 : Index := Scalar.indexCast v250
  let c64_109 : Index := 64#32
  ![0, v254.toNat, 64]
def k0_off9 (k0_t1 : Fin k0_t1_loop.trips) (arg13 : BitVec 32) : Fin 3 → Nat :=
  let c0_132 : Index := 0#32
  let c0_i32 : BitVec 32 := 0#32
  let c1_i32 : BitVec 32 := 1#32
  let arg12 : BitVec 32 := Scf.iv c0_i32 c1_i32 k0_t1
  let c1_i32_93 : BitVec 32 := 1#32
  let v220 : BitVec 32 := Scalar.muli arg12 c1_i32_93
  let c1_i32_104 : BitVec 32 := 1#32
  let v247 : BitVec 32 := Scalar.subi v220 c1_i32_104
  let v248 : BitVec 32 := Scalar.subi v247 arg13
  let c256_i32_105 : BitVec 32 := 256#32
  let v249 : BitVec 32 := Scalar.muli v248 c256_i32_105
  let v250 : BitVec 32 := v249
  let v331 : Index := Scalar.indexCast v250
  let c0_133 : Index := 0#32
  ![0, v331.toNat, 0]
def k0_off10 (k0_t1 : Fin k0_t1_loop.trips) (arg13 : BitVec 32) : Fin 3 → Nat :=
  let c1_143 : Index := 1#32
  let c0_i32 : BitVec 32 := 0#32
  let c1_i32 : BitVec 32 := 1#32
  let arg12 : BitVec 32 := Scf.iv c0_i32 c1_i32 k0_t1
  let c1_i32_93 : BitVec 32 := 1#32
  let v220 : BitVec 32 := Scalar.muli arg12 c1_i32_93
  let c1_i32_104 : BitVec 32 := 1#32
  let v247 : BitVec 32 := Scalar.subi v220 c1_i32_104
  let v248 : BitVec 32 := Scalar.subi v247 arg13
  let c256_i32_105 : BitVec 32 := 256#32
  let v249 : BitVec 32 := Scalar.muli v248 c256_i32_105
  let v250 : BitVec 32 := v249
  let v365 : Index := Scalar.indexCast v250
  let c0_144 : Index := 0#32
  ![1, v365.toNat, 0]

def k0_chk1 (k0_t1 : Fin k0_t1_loop.trips) (arg13 : BitVec 32) : Prop :=
  (256 ∣ (k0_mult3 k0_t1 arg13).toNat) ∧
  (∀ a, (k0_off7 k0_t1 arg13) a + S1x256x64.size a ≤ S1x2048x128.size a) ∧
  (∀ a, (k0_off8 k0_t1 arg13) a + S1x256x64.size a ≤ S1x2048x128.size a) ∧
  (∀ a, (k0_off9 k0_t1 arg13) a + S1x256x64.size a ≤ S2x2048x64.size a) ∧
  (∀ a, (k0_off10 k0_t1 arg13) a + S1x256x64.size a ≤ S2x2048x64.size a)
theorem k0_mult3_dvd : ∀ (k0_t1 : Fin k0_t1_loop.trips) (arg13 : BitVec 32) (k0_hw1 : k0_chk1 k0_t1 arg13), 256 ∣ (k0_mult3 k0_t1 arg13).toNat := fun k0_t1 arg13 k0_hw1 => k0_hw1.1
theorem k0_off7_inb : ∀ (k0_t1 : Fin k0_t1_loop.trips) (arg13 : BitVec 32) (k0_hw1 : k0_chk1 k0_t1 arg13), ∀ a, (k0_off7 k0_t1 arg13) a + S1x256x64.size a ≤ S1x2048x128.size a := fun k0_t1 arg13 k0_hw1 => k0_hw1.2.1
theorem k0_off8_inb : ∀ (k0_t1 : Fin k0_t1_loop.trips) (arg13 : BitVec 32) (k0_hw1 : k0_chk1 k0_t1 arg13), ∀ a, (k0_off8 k0_t1 arg13) a + S1x256x64.size a ≤ S1x2048x128.size a := fun k0_t1 arg13 k0_hw1 => k0_hw1.2.2.1
theorem k0_off9_inb : ∀ (k0_t1 : Fin k0_t1_loop.trips) (arg13 : BitVec 32) (k0_hw1 : k0_chk1 k0_t1 arg13), ∀ a, (k0_off9 k0_t1 arg13) a + S1x256x64.size a ≤ S2x2048x64.size a := fun k0_t1 arg13 k0_hw1 => k0_hw1.2.2.2.1
theorem k0_off10_inb : ∀ (k0_t1 : Fin k0_t1_loop.trips) (arg13 : BitVec 32) (k0_hw1 : k0_chk1 k0_t1 arg13), ∀ a, (k0_off10 k0_t1 arg13) a + S1x256x64.size a ≤ S2x2048x64.size a := fun k0_t1 arg13 k0_hw1 => k0_hw1.2.2.2.2

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SbIdeal.lean ====
variable {F : FTy → Type} [FloatOps F] [Named F]
def κ : String → Option EReal := fun
  | "sb_exit" => some ⊥
  | _ => none
-- ==== SbRefIdeal.lean ====
abbrev S4x2048x6144 : Shape := ⟨3, ![4, 2048, 6144]⟩
abbrev S4x2048x512 : Shape := ⟨3, ![4, 2048, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x64x2048 : Shape := ⟨4, ![4, 8, 64, 2048]⟩

abbrev nBuf : Space → Nat
  | .hbm => 131
  | .vmem => 0
  | .smem => 0
  | _ => 0

abbrev hbmTy0_0 (i : Nat) : BufTy := match i % 128 with
  | 0 => ⟨S4x2048x6144, .f32⟩
  | 1 => ⟨S4x2048x512, .f32⟩
  | 2 => ⟨S4x2048x512, .f32⟩
  | 3 => ⟨S4x2048x512, .f32⟩
  | 4 => ⟨S4x2048x512, .f32⟩
  | 5 => ⟨S4x2048x8x64, .f32⟩
  | 6 => ⟨S4x8x2048x64, .f32⟩
  | 7 => ⟨S4x2048x8x64, .f32⟩
  | 8 => ⟨S4x8x2048x64, .f32⟩
  | 9 => ⟨S4x2048x8x64, .f32⟩
  | 10 => ⟨S4x8x2048x64, .f32⟩
  | 11 => ⟨S4x8x2048x2048, .f32⟩
  | 12 => ⟨S_, .f32⟩
  | 13 => ⟨S4x8x2048x2048, .f32⟩
  | 14 => ⟨S4x8x2048x2048, .f32⟩
  | 15 => ⟨S2048, .i32⟩
  | 16 => ⟨S1x2048, .i32⟩
  | 17 => ⟨S2048, .i32⟩
  | 18 => ⟨S2048x1, .i32⟩
  | 19 => ⟨S2048x2048, .i32⟩
  | 20 => ⟨S2048x2048, .i32⟩
  | 21 => ⟨S2048x2048, .i1⟩
  | 22 => ⟨S4x8x2048x2048, .f32⟩
  | 23 => ⟨S_, .f32⟩
  | 24 => ⟨S4x8x2048x2048, .f32⟩
  | 25 => ⟨S4x8x2048x2048, .f32⟩
  | 26 => ⟨S4x8x2048x2048, .f32⟩
  | 27 => ⟨S4x8x2048x2048, .f32⟩
  | 28 => ⟨S4x8x2048x2048, .i1⟩
  | 29 => ⟨S4x8x2048x2048, .f32⟩
  | 30 => ⟨S4x8x2048x2048, .f32⟩
  | 31 => ⟨S4x8x2048x2048, .f32⟩
  | 32 => ⟨S4x8x2048x2048, .f32⟩
  | 33 => ⟨S4x8x2048x2048, .f32⟩
  | 34 => ⟨S4x8x2048x2048, .f32⟩
  | 35 => ⟨S4x8x2048x2048, .f32⟩
  | 36 => ⟨S4x8x2048x2048, .f32⟩
  | 37 => ⟨S_, .f32⟩
  | 38 => ⟨S4x8x2048x2048, .f32⟩
  | 39 => ⟨S4x8x2048x2048, .i1⟩
  | 40 => ⟨S_, .f32⟩
  | 41 => ⟨S4x8x2048x2048, .f32⟩
  | 42 => ⟨S4x8x2048x2048, .f32⟩
  | 43 => ⟨S_, .f32⟩
  | 44 => ⟨S4x8x2048x2048, .f32⟩
  | 45 => ⟨S4x8x2048x2048, .i1⟩
  | 46 => ⟨S_, .f32⟩
  | 47 => ⟨S4x8x2048x2048, .f32⟩
  | 48 => ⟨S4x8x2048x2048, .f32⟩
  | 49 => ⟨S4x8x2048x2048, .f32⟩
  | 50 => ⟨S4x8x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S4x8x2048x2048, .f32⟩
  | 59 => ⟨S4x8x2048x2048, .i1⟩
  | 60 => ⟨S_, .f32⟩
  | 61 => ⟨S4x8x2048x2048, .f32⟩
  | 62 => ⟨S4x8x2048x2048, .f32⟩
  | 63 => ⟨S4x8x2048x2048, .f32⟩
  | 64 => ⟨S4x8x2048x2048, .f32⟩
  | 65 => ⟨S4x8x2048x2048, .f32⟩
  | 66 => ⟨S_, .f32⟩
  | 67 => ⟨S4x8x2048x2048, .f32⟩
  | 68 => ⟨S4x8x2048x2048, .f32⟩
  | 69 => ⟨S4x8x2048x2048, .f32⟩
  | 70 => ⟨S4x8x2048x2048, .f32⟩
  | 71 => ⟨S_, .f32⟩
  | 72 => ⟨S_, .f32⟩
  | 73 => ⟨S4x8x2048x2048, .i1⟩
  | 74 => ⟨S4x8x2048x2048, .f32⟩
  | 75 => ⟨S4x8x2048x2048, .f32⟩
  | 76 => ⟨S_, .f32⟩
  | 77 => ⟨S4x8x2048x2048, .f32⟩
  | 78 => ⟨S_, .f32⟩
  | 79 => ⟨S_, .f32⟩
  | 80 => ⟨S4x8x2048x2048, .f32⟩
  | 81 => ⟨S4x8x2048x2048, .f32⟩
  | 82 => ⟨S4x8x2048x2048, .f32⟩
  | 83 => ⟨S4x8x2048x2048, .f32⟩
  | 84 => ⟨S_, .f32⟩
  | 85 => ⟨S_, .f32⟩
  | 86 => ⟨S4x8x2048x2048, .i1⟩
  | 87 => ⟨S4x8x2048x2048, .f32⟩
  | 88 => ⟨S4x8x2048x2048, .f32⟩
  | 89 => ⟨S_, .f32⟩
  | 90 => ⟨S4x8x2048x2048, .f32⟩
  | 91 => ⟨S4x8x2048x64, .f32⟩
  | 92 => ⟨S4x2048x8x64, .f32⟩
  | 93 => ⟨S4x2048x512, .f32⟩
  | 94 => ⟨S4x2048x8x64, .f32⟩
  | 95 => ⟨S4x8x2048x64, .f32⟩
  | 96 => ⟨S4x8x64x2048, .f32⟩
  | 97 => ⟨S4x8x2048x64, .f32⟩
  | 98 => ⟨S4x8x2048x2048, .f32⟩
  | 99 => ⟨S_, .f32⟩
  | 100 => ⟨S4x8x2048x2048, .f32⟩
  | 101 => ⟨S4x8x2048x2048, .f32⟩
  | 102 => ⟨S4x8x2048x2048, .f32⟩
  | 103 => ⟨S4x8x2048x2048, .f32⟩
  | 104 => ⟨S_, .f32⟩
  | 105 => ⟨S_, .f32⟩
  | 106 => ⟨S4x8x2048x2048, .f32⟩
  | 107 => ⟨S4x8x2048x2048, .f32⟩
  | 108 => ⟨S_, .f32⟩
  | 109 => ⟨S4x8x2048x2048, .f32⟩
  | 110 => ⟨S4x8x2048x2048, .f32⟩
  | 111 => ⟨S4x8x2048x2048, .f32⟩
  | 112 => ⟨S4x8x2048x2048, .f32⟩
  | 113 => ⟨S4x8x2048x2048, .f32⟩
  | 114 => ⟨S4x8x2048x2048, .f32⟩
  | 115 => ⟨S4x8x2048x2048, .f32⟩
  | 116 => ⟨S4x8x2048x2048, .f32⟩
  | 117 => ⟨S_, .f32⟩
  | 118 => ⟨S4x8x2048x2048, .f32⟩
  | 119 => ⟨S4x8x2048x2048, .f32⟩
  | 120 => ⟨S4x8x2048x64, .f32⟩
  | 121 => ⟨S4x8x2048x64, .f32⟩
  | 122 => ⟨S4x2048x8x64, .f32⟩
  | 123 => ⟨S4x2048x512, .f32⟩
  | 124 => ⟨S4x2048x8x64, .f32⟩
  | 125 => ⟨S4x2048x512, .f32⟩
  | 126 => ⟨S4x2048x8x64, .f32⟩
  | 127 => ⟨S4x2048x512, .f32⟩
  | _ => ⟨S4x2048x6144, .f32⟩

abbrev hbmTy0_1 (i : Nat) : BufTy := match i % 128 with
  | 0 => ⟨S4x2048x512, .bf16⟩
  | 1 => ⟨S4x2048x512, .bf16⟩
  | 2 => ⟨S4x2048x512, .bf16⟩
  | _ => ⟨S4x2048x6144, .f32⟩

abbrev hbmTy (i : Nat) : BufTy := match i / 128 with
  | 0 => hbmTy0_0 i
  | 1 => hbmTy0_1 i
  | _ => ⟨S4x2048x6144, .f32⟩

abbrev bufTy : (tb : Table) → Fin (tcTables nBuf tb) → BufTy
  | .hbm, ⟨i, _⟩ => hbmTy i
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_cst_1 : Ref sig .tc := ⟨.hbm, 84, rfl⟩
abbrev main_call3_v0 : Ref sig .tc := ⟨.hbm, 85, rfl⟩
abbrev main_v26_1 : Ref sig .tc := ⟨.hbm, 86, rfl⟩
abbrev main_call3_v2 : Ref sig .tc := ⟨.hbm, 87, rfl⟩
abbrev main_v26_0 : Ref sig .tc := ⟨.hbm, 88, rfl⟩
abbrev main_call3_cst : Ref sig .tc := ⟨.hbm, 89, rfl⟩
abbrev main_v26_2 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_call4_cst : Ref sig .tc := ⟨.hbm, 99, rfl⟩
abbrev main_call4_v0 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_call5_cst : Ref sig .tc := ⟨.hbm, 104, rfl⟩
abbrev main_call5_v0 : Ref sig .tc := ⟨.hbm, 105, rfl⟩
abbrev main_v38 : Ref sig .tc := ⟨.hbm, 106, rfl⟩
abbrev main_v39 : Ref sig .tc := ⟨.hbm, 107, rfl⟩
abbrev main_call6_cst : Ref sig .tc := ⟨.hbm, 108, rfl⟩
abbrev main_call6_v0 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_call7_v0 : Ref sig .tc := ⟨.hbm, 113, rfl⟩
abbrev main_call7_v1 : Ref sig .tc := ⟨.hbm, 114, rfl⟩
abbrev main_v43 : Ref sig .tc := ⟨.hbm, 115, rfl⟩
abbrev main_v44 : Ref sig .tc := ⟨.hbm, 116, rfl⟩
abbrev main_cst_2 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩

abbrev nD : Nat := 1
abbrev τ : Topo := Topo.v7x

variable {F : FTy → Type} [FloatOps F]
-- ==== Gmlp.lean ====
abbrev S4x2048x6144 : Shape := ⟨3, ![4, 2048, 6144]⟩
abbrev S4x2048x512 : Shape := ⟨3, ![4, 2048, 512]⟩
abbrev S512 : Shape := ⟨1, ![512]⟩
abbrev S4x128x128 : Shape := ⟨3, ![4, 128, 128]⟩
abbrev S4x128 : Shape := ⟨2, ![4, 128]⟩
abbrev S8192x6144 : Shape := ⟨2, ![8192, 6144]⟩
abbrev S8192x512 : Shape := ⟨2, ![8192, 512]⟩
abbrev S1x512 : Shape := ⟨2, ![1, 512]⟩
abbrev S128x4 : Shape := ⟨2, ![128, 4]⟩
abbrev S512x512 : Shape := ⟨2, ![512, 512]⟩
abbrev S512x1024 : Shape := ⟨2, ![512, 1024]⟩
abbrev S128x128 : Shape := ⟨2, ![128, 128]⟩
abbrev S1x128x128 : Shape := ⟨3, ![1, 128, 128]⟩
abbrev S128x512 : Shape := ⟨2, ![128, 512]⟩
abbrev S128 : Shape := ⟨1, ![128]⟩
abbrev S128x1 : Shape := ⟨2, ![128, 1]⟩

abbrev nBuf : Space → Nat
  | .hbm => 21
  | .vmem => 16
  | .smem => 0
  | _ => 0

abbrev bufTy : (tb : Table) → Fin (tcTables nBuf tb) → BufTy
  | .hbm, ⟨0, _⟩ => ⟨S4x2048x6144, .f32⟩
  | .hbm, ⟨1, _⟩ => ⟨S4x2048x512, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S4x2048x6144, .f32⟩
  | .hbm, ⟨7, _⟩ => ⟨S8192x6144, .f32⟩
  | .hbm, ⟨8, _⟩ => ⟨S8192x6144, .bf16⟩
  | .hbm, ⟨9, _⟩ => ⟨S8192x512, .f32⟩
  | .hbm, ⟨10, _⟩ => ⟨S8192x512, .bf16⟩
  | .hbm, ⟨11, _⟩ => ⟨S8192x6144, .f32⟩
  | .hbm, ⟨12, _⟩ => ⟨S8192x6144, .bf16⟩
  | .hbm, ⟨13, _⟩ => ⟨S1x512, .f32⟩
  | .hbm, ⟨14, _⟩ => ⟨S1x512, .f32⟩
  | .hbm, ⟨15, _⟩ => ⟨S128x4, .f32⟩
  | .hbm, ⟨16, _⟩ => ⟨S8192x6144, .bf16⟩
  | .hbm, ⟨17, _⟩ => ⟨S4x128x128, .f32⟩
  | .hbm, ⟨18, _⟩ => ⟨S4x128x128, .f32⟩
  | .hbm, ⟨19, _⟩ => ⟨S1x512, .f32⟩
  | .hbm, ⟨20, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S128x4, .f32⟩
  | .local _ .vmem, ⟨10, _⟩ => ⟨S512x1024, .bf16⟩
  | .local _ .vmem, ⟨11, _⟩ => ⟨S512x1024, .bf16⟩
  | .local _ .vmem, ⟨12, _⟩ => ⟨S4x128x128, .f32⟩
  | .local _ .vmem, ⟨13, _⟩ => ⟨S4x128x128, .f32⟩
  | .local _ .vmem, ⟨14, _⟩ => ⟨S1x512, .f32⟩
  | .local _ .vmem, ⟨15, _⟩ => ⟨S1x512, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GmlpIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== GmlpRefIdeal.lean ====
abbrev S4x2048x6144 : Shape := ⟨3, ![4, 2048, 6144]⟩
abbrev S4x2048x512 : Shape := ⟨3, ![4, 2048, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x16x128x4x128 : Shape := ⟨5, ![4, 16, 128, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S4x2048x5120 : Shape := ⟨3, ![4, 2048, 5120]⟩
abbrev S8192x6144 : Shape := ⟨2, ![8192, 6144]⟩
abbrev S4x128x1 : Shape := ⟨3, ![4, 128, 1]⟩
abbrev S1x512 : Shape := ⟨2, ![1, 512]⟩

abbrev nBuf : Space → Nat
  | .hbm => 226
  | .vmem => 0
  | .smem => 0
  | _ => 0

abbrev hbmTy0_0 (i : Nat) : BufTy := match i % 128 with
  | 0 => ⟨S4x2048x6144, .f32⟩
  | 1 => ⟨S4x2048x512, .f32⟩
  | 2 => ⟨S512, .f32⟩
  | 3 => ⟨S512, .f32⟩
  | 4 => ⟨S4x128x128, .f32⟩
  | 5 => ⟨S4x128, .f32⟩
  | 6 => ⟨S4x2048x6144, .f32⟩
  | 7 => ⟨S4x2048x512, .f32⟩
  | 8 => ⟨S4x2048x512, .f32⟩
  | 9 => ⟨S_, .f32⟩
  | 10 => ⟨S_, .f32⟩
  | 11 => ⟨S_, .f32⟩
  | 12 => ⟨S4x2048x512, .f32⟩
  | 13 => ⟨S4x2048x512, .f32⟩
  | 14 => ⟨S4x2048x512, .f32⟩
  | 15 => ⟨S_, .f32⟩
  | 16 => ⟨S4x2048x512, .f32⟩
  | 17 => ⟨S4x2048x512, .f32⟩
  | 18 => ⟨S4x2048x512, .f32⟩
  | 19 => ⟨S4x2048x512, .f32⟩
  | 20 => ⟨S4x2048x512, .f32⟩
  | 21 => ⟨S_, .f32⟩
  | 22 => ⟨S4x2048x512, .f32⟩
  | 23 => ⟨S4x2048x512, .f32⟩
  | 24 => ⟨S4x2048x512, .f32⟩
  | 25 => ⟨S_, .f32⟩
  | 26 => ⟨S4x2048x512, .f32⟩
  | 27 => ⟨S4x2048x512, .f32⟩
  | 28 => ⟨S_, .f32⟩
  | 29 => ⟨S4x2048x512, .f32⟩
  | 30 => ⟨S4x2048x512, .f32⟩
  | 31 => ⟨S4x2048x512, .f32⟩
  | 32 => ⟨S_, .f32⟩
  | 33 => ⟨S4x2048x512, .f32⟩
  | 34 => ⟨S4x2048x512, .f32⟩
  | 35 => ⟨S_, .f32⟩
  | 36 => ⟨S4x2048x512, .f32⟩
  | 37 => ⟨S4x2048x512, .f32⟩
  | 38 => ⟨S4x2048x512, .f32⟩
  | 39 => ⟨S_, .f32⟩
  | 40 => ⟨S_, .f32⟩
  | 41 => ⟨S_, .f32⟩
  | 42 => ⟨S4x2048x512, .f32⟩
  | 43 => ⟨S4x2048x512, .f32⟩
  | 44 => ⟨S4x2048x512, .f32⟩
  | 45 => ⟨S_, .f32⟩
  | 46 => ⟨S4x2048x512, .f32⟩
  | 47 => ⟨S4x2048x512, .f32⟩
  | 48 => ⟨S4x2048x512, .f32⟩
  | 49 => ⟨S4x2048x512, .f32⟩
  | 50 => ⟨S4x2048x512, .f32⟩
  | 51 => ⟨S_, .f32⟩
  | 52 => ⟨S4x2048x512, .f32⟩
  | 53 => ⟨S4x2048x512, .f32⟩
  | 54 => ⟨S4x2048x512, .f32⟩
  | 55 => ⟨S_, .f32⟩
  | 56 => ⟨S4x2048x512, .f32⟩
  | 57 => ⟨S4x2048x512, .f32⟩
  | 58 => ⟨S_, .f32⟩
  | 59 => ⟨S4x2048x512, .f32⟩
  | 60 => ⟨S4x2048x512, .f32⟩
  | 61 => ⟨S4x2048x512, .f32⟩
  | 62 => ⟨S_, .f32⟩
  | 63 => ⟨S4x2048x512, .f32⟩
  | 64 => ⟨S4x2048x512, .f32⟩
  | 65 => ⟨S_, .f32⟩
  | 66 => ⟨S4x2048x512, .f32⟩
  | 67 => ⟨S4x2048x512, .f32⟩
  | 68 => ⟨S4x2048x512, .f32⟩
  | 69 => ⟨S_, .f32⟩
  | 70 => ⟨S4x2048, .f32⟩
  | 71 => ⟨S4x2048x1, .f32⟩
  | 72 => ⟨S_, .f32⟩
  | 73 => ⟨S4x2048x1, .f32⟩
  | 74 => ⟨S4x2048x1, .f32⟩
  | 75 => ⟨S4x2048x512, .f32⟩
  | 76 => ⟨S4x2048x512, .f32⟩
  | 77 => ⟨S4x2048x512, .f32⟩
  | 78 => ⟨S_, .f32⟩
  | 79 => ⟨S4x2048, .f32⟩
  | 80 => ⟨S4x2048x1, .f32⟩
  | 81 => ⟨S_, .f32⟩
  | 82 => ⟨S4x2048x1, .f32⟩
  | 83 => ⟨S4x2048x1, .f32⟩
  | 84 => ⟨S_, .f32⟩
  | 85 => ⟨S4x2048x1, .f32⟩
  | 86 => ⟨S4x2048x1, .f32⟩
  | 87 => ⟨S4x2048x1, .f32⟩
  | 88 => ⟨S4x2048x1, .f32⟩
  | 89 => ⟨S_, .f32⟩
  | 90 => ⟨S4x2048x1, .f32⟩
  | 91 => ⟨S4x2048x1, .f32⟩
  | 92 => ⟨S4x2048x512, .f32⟩
  | 93 => ⟨S4x2048x512, .f32⟩
  | 94 => ⟨S1x1x512, .f32⟩
  | 95 => ⟨S4x2048x512, .f32⟩
  | 96 => ⟨S4x2048x512, .f32⟩
  | 97 => ⟨S1x1x512, .f32⟩
  | 98 => ⟨S4x2048x512, .f32⟩
  | 99 => ⟨S4x2048x512, .f32⟩
  | 100 => ⟨S4x16x128x4x128, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S1x128x128, .i1⟩
  | 113 => ⟨S_, .f32⟩
  | 114 => ⟨S_, .f32⟩
  | 115 => ⟨S4x128x128, .i1⟩
  | 116 => ⟨S4x128x128, .f32⟩
  | 117 => ⟨S4x128x128, .f32⟩
  | 118 => ⟨S_, .f32⟩
  | 119 => ⟨S4x128x128, .f32⟩
  | 120 => ⟨S4x4x16x128x128, .f32⟩
  | 121 => ⟨S4x16x128x4x128, .f32⟩
  | 122 => ⟨S128x4, .f32⟩
  | 123 => ⟨S128x4x1, .f32⟩
  | 124 => ⟨S1x1x128x4x1, .f32⟩
  | 125 => ⟨S4x16x128x4x128, .f32⟩
  | 126 => ⟨S4x16x128x4x128, .f32⟩
  | 127 => ⟨S4x2048x512, .f32⟩
  | _ => ⟨S4x2048x6144, .f32⟩

abbrev hbmTy0_1 (i : Nat) : BufTy := match i % 128 with
  | 0 => ⟨S4x2048x512, .f32⟩
  | 1 => ⟨S4x2048x512, .f32⟩
  | 2 => ⟨S4x2048x512, .f32⟩
  | 3 => ⟨S4x16x128x4x128, .f32⟩
  | 4 => ⟨S_, .f32⟩
  | 5 => ⟨S128x4, .f32⟩
  | 6 => ⟨S1x1x128x4x1, .f32⟩
  | 7 => ⟨S_, .f32⟩
  | 8 => ⟨S128x4, .f32⟩
  | 9 => ⟨S128x4x1, .f32⟩
  | 10 => ⟨S_, .f32⟩
  | 11 => ⟨S128x4, .f32⟩
  | 12 => ⟨S4x128, .f32⟩
  | 13 => ⟨S4x4x16x128x128, .f32⟩
  | 14 => ⟨S4x128x128, .f32⟩
  | 15 => ⟨S4x4x16x128x128, .f32⟩
  | 16 => ⟨S4x16x128x4x128, .f32⟩
  | 17 => ⟨S_, .f32⟩
  | 18 => ⟨S4x128x128, .f32⟩
  | 19 => ⟨S4x128x128, .f32⟩
  | 20 => ⟨S4x2048x512, .f32⟩
  | 21 => ⟨S_, .f32⟩
  | 22 => ⟨S512, .f32⟩
  | 23 => ⟨S1x1x512, .f32⟩
  | 24 => ⟨S_, .f32⟩
  | 25 => ⟨S512, .f32⟩
  | 26 => ⟨S4x2048x512, .f32⟩
  | 27 => ⟨S_, .f32⟩
  | 28 => ⟨S512, .f32⟩
  | 29 => ⟨S1x1x512, .f32⟩
  | 30 => ⟨S4x2048x512, .f32⟩
  | 31 => ⟨S4x2048x512, .f32⟩
  | 32 => ⟨S_, .f32⟩
  | 33 => ⟨S512, .f32⟩
  | 34 => ⟨S4x2048x512, .f32⟩
  | 35 => ⟨S_, .f32⟩
  | 36 => ⟨S4x2048, .f32⟩
  | 37 => ⟨S4x2048x1, .f32⟩
  | 38 => ⟨S4x2048x512, .f32⟩
  | 39 => ⟨S4x2048x512, .f32⟩
  | 40 => ⟨S4x2048x1, .f32⟩
  | 41 => ⟨S_, .f32⟩
  | 42 => ⟨S4x2048x1, .f32⟩
  | 43 => ⟨S4x2048x1, .f32⟩
  | 44 => ⟨S_, .f32⟩
  | 45 => ⟨S4x2048, .f32⟩
  | 46 => ⟨S4x2048x512, .f32⟩
  | 47 => ⟨S4x2048x512, .f32⟩
  | 48 => ⟨S4x2048x512, .f32⟩
  | 49 => ⟨S4x2048x512, .f32⟩
  | 50 => ⟨S4x2048x512, .f32⟩
  | 51 => ⟨S4x2048x512, .f32⟩
  | 52 => ⟨S_, .f32⟩
  | 53 => ⟨S4x2048, .f32⟩
  | 54 => ⟨S4x2048x1, .f32⟩
  | 55 => ⟨S_, .f32⟩
  | 56 => ⟨S4x2048x1, .f32⟩
  | 57 => ⟨S4x2048x1, .f32⟩
  | 58 => ⟨S_, .f32⟩
  | 59 => ⟨S4x2048, .f32⟩
  | 60 => ⟨S4x2048x512, .f32⟩
  | 61 => ⟨S4x2048x512, .f32⟩
  | 62 => ⟨S4x2048x512, .f32⟩
  | 63 => ⟨S4x2048x512, .f32⟩
  | 64 => ⟨S_, .f32⟩
  | 65 => ⟨S4x2048x512, .f32⟩
  | 66 => ⟨S4x2048x512, .f32⟩
  | 67 => ⟨S4x2048x512, .f32⟩
  | 68 => ⟨S_, .f32⟩
  | 69 => ⟨S4x2048x512, .f32⟩
  | 70 => ⟨S4x2048x512, .f32⟩
  | 71 => ⟨S4x2048x512, .f32⟩
  | 72 => ⟨S4x2048x512, .f32⟩
  | 73 => ⟨S4x2048x512, .f32⟩
  | 74 => ⟨S4x2048x512, .f32⟩
  | 75 => ⟨S4x2048x512, .f32⟩
  | 76 => ⟨S4x2048x512, .f32⟩
  | 77 => ⟨S4x2048x512, .f32⟩
  | 78 => ⟨S_, .f32⟩
  | 79 => ⟨S4x2048x512, .f32⟩
  | 80 => ⟨S4x2048x512, .f32⟩
  | 81 => ⟨S4x2048x512, .f32⟩
  | 82 => ⟨S_, .f32⟩
  | 83 => ⟨S4x2048x512, .f32⟩
  | 84 => ⟨S4x2048x512, .f32⟩
  | 85 => ⟨S4x2048x512, .f32⟩
  | 86 => ⟨S4x2048x512, .f32⟩
  | 87 => ⟨S4x2048x512, .f32⟩
  | 88 => ⟨S4x2048x512, .f32⟩
  | 89 => ⟨S4x2048x512, .f32⟩
  | 90 => ⟨S4x2048x5120, .f32⟩
  | 91 => ⟨S4x2048x6144, .f32⟩
  | 92 => ⟨S8192x6144, .f32⟩
  | 93 => ⟨S8192x6144, .bf16⟩
  | 94 => ⟨S4x128x1, .f32⟩
  | 95 => ⟨S4x128x128, .f32⟩
  | 96 => ⟨S1x512, .f32⟩
  | 97 => ⟨S1x512, .f32⟩
  | _ => ⟨S4x2048x6144, .f32⟩

abbrev hbmTy (i : Nat) : BufTy := match i / 128 with
  | 0 => hbmTy0_0 i
  | 1 => hbmTy0_1 i
  | _ => ⟨S4x2048x6144, .f32⟩

abbrev bufTy : (tb : Table) → Fin (tcTables nBuf tb) → BufTy
  | .hbm, ⟨i, _⟩ => hbmTy i
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_cst_12 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_13 : Ref sig .tc := ⟨.hbm, 62, rfl⟩
abbrev main_v41 : Ref sig .tc := ⟨.hbm, 63, rfl⟩
abbrev main_v42 : Ref sig .tc := ⟨.hbm, 64, rfl⟩
abbrev main_cst_14 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_15 : Ref sig .tc := ⟨.hbm, 69, rfl⟩
abbrev main_v46 : Ref sig .tc := ⟨.hbm, 70, rfl⟩
abbrev main_v47 : Ref sig .tc := ⟨.hbm, 71, rfl⟩
abbrev main_cst_16 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_v53 : Ref sig .tc := ⟨.hbm, 79, rfl⟩
abbrev main_v54 : Ref sig .tc := ⟨.hbm, 80, rfl⟩
abbrev main_cst_18 : Ref sig .tc := ⟨.hbm, 81, rfl⟩
abbrev main_v55 : Ref sig .tc := ⟨.hbm, 82, rfl⟩
abbrev main_v56 : Ref sig .tc := ⟨.hbm, 83, rfl⟩
abbrev main_cst_19 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_20 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c : Ref sig .tc := ⟨.hbm, 101, rfl⟩
abbrev main_v72 : Ref sig .tc := ⟨.hbm, 102, rfl⟩
abbrev main_call0_v0 : Ref sig .tc := ⟨.hbm, 103, rfl⟩
abbrev main_call0_c : Ref sig .tc := ⟨.hbm, 104, rfl⟩
abbrev main_call0_v1 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_call0_c_0 : Ref sig .tc := ⟨.hbm, 109, rfl⟩
abbrev main_call0_v5 : Ref sig .tc := ⟨.hbm, 110, rfl⟩
abbrev main_v73 : Ref sig .tc := ⟨.hbm, 111, rfl⟩
abbrev main_v74 : Ref sig .tc := ⟨.hbm, 112, rfl⟩
abbrev main_cst_21 : Ref sig .tc := ⟨.hbm, 113, rfl⟩
abbrev main_call1_v0 : Ref sig .tc := ⟨.hbm, 114, rfl⟩
abbrev main_v75_1 : Ref sig .tc := ⟨.hbm, 115, rfl⟩
abbrev main_call1_v2 : Ref sig .tc := ⟨.hbm, 116, rfl⟩
abbrev main_v75_0 : Ref sig .tc := ⟨.hbm, 117, rfl⟩
abbrev main_call1_cst : Ref sig .tc := ⟨.hbm, 118, rfl⟩
abbrev main_v75_2 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_22 : Ref sig .tc := ⟨.hbm, 132, rfl⟩
abbrev main_v88 : Ref sig .tc := ⟨.hbm, 133, rfl⟩
abbrev main_v89 : Ref sig .tc := ⟨.hbm, 134, rfl⟩
abbrev main_cst_23 : Ref sig .tc := ⟨.hbm, 135, rfl⟩
abbrev main_v90 : Ref sig .tc := ⟨.hbm, 136, rfl⟩
abbrev main_v91 : Ref sig .tc := ⟨.hbm, 137, rfl⟩
abbrev main_cst_24 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_call2_cst : Ref sig .tc := ⟨.hbm, 145, rfl⟩
abbrev main_call2_v0 : Ref sig .tc := ⟨.hbm, 146, rfl⟩
abbrev main_v98 : Ref sig .tc := ⟨.hbm, 147, rfl⟩
abbrev main_v99 : Ref sig .tc := ⟨.hbm, 148, rfl⟩
abbrev main_cst_25 : Ref sig .tc := ⟨.hbm, 149, rfl⟩
abbrev main_v100 : Ref sig .tc := ⟨.hbm, 150, rfl⟩
abbrev main_v101 : Ref sig .tc := ⟨.hbm, 151, rfl⟩
abbrev main_cst_26 : Ref sig .tc := ⟨.hbm, 152, rfl⟩
abbrev main_v102 : Ref sig .tc := ⟨.hbm, 153, rfl⟩
abbrev main_v103 : Ref sig .tc := ⟨.hbm, 154, rfl⟩
abbrev main_cst_27 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_28 : Ref sig .tc := ⟨.hbm, 160, rfl⟩
abbrev main_v108 : Ref sig .tc := ⟨.hbm, 161, rfl⟩
abbrev main_v109 : Ref sig .tc := ⟨.hbm, 162, rfl⟩
abbrev main_cst_29 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_30 : Ref sig .tc := ⟨.hbm, 169, rfl⟩
abbrev main_v115 : Ref sig .tc := ⟨.hbm, 170, rfl⟩
abbrev main_v116 : Ref sig .tc := ⟨.hbm, 171, rfl⟩
abbrev main_cst_31 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_32 : Ref sig .tc := ⟨.hbm, 180, rfl⟩
abbrev main_v124 : Ref sig .tc := ⟨.hbm, 181, rfl⟩
abbrev main_v125 : Ref sig .tc := ⟨.hbm, 182, rfl⟩
abbrev main_cst_33 : Ref sig .tc := ⟨.hbm, 183, rfl⟩
abbrev main_v126 : Ref sig .tc := ⟨.hbm, 184, rfl⟩
abbrev main_v127 : Ref sig .tc := ⟨.hbm, 185, rfl⟩
abbrev main_cst_34 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_cst_35 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_cst_36 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_cst_37 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_38 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩

abbrev nD : Nat := 1
abbrev τ : Topo := Topo.v7x

variable {F : FTy → Type} [FloatOps F]
-- ==== Pool.lean ====
abbrev S4x2048x6144 : Shape := ⟨3, ![4, 2048, 6144]⟩
abbrev S4x2048x512 : Shape := ⟨3, ![4, 2048, 512]⟩
abbrev S4x128x128 : Shape := ⟨3, ![4, 128, 128]⟩
abbrev S512 : Shape := ⟨1, ![512]⟩
abbrev S1x512 : Shape := ⟨2, ![1, 512]⟩
abbrev S1x2048x512 : Shape := ⟨3, ![1, 2048, 512]⟩
abbrev S2048x512 : Shape := ⟨2, ![2048, 512]⟩
abbrev S128x128 : Shape := ⟨2, ![128, 128]⟩
abbrev S1x128x128 : Shape := ⟨3, ![1, 128, 128]⟩
abbrev S128x1 : Shape := ⟨2, ![128, 1]⟩
abbrev S1x128 : Shape := ⟨2, ![1, 128]⟩
abbrev S128 : Shape := ⟨1, ![128]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x6144, .f32⟩
  | .hbm, ⟨1, _⟩ => ⟨S4x2048x512, .f32⟩
  | .hbm, ⟨2, _⟩ => ⟨S4x128x128, .f32⟩
  | .hbm, ⟨3, _⟩ => ⟨S512, .f32⟩
  | .hbm, ⟨4, _⟩ => ⟨S4x2048x6144, .f32⟩
  | .hbm, ⟨5, _⟩ => ⟨S4x2048x6144, .bf16⟩
  | .hbm, ⟨6, _⟩ => ⟨S4x2048x512, .bf16⟩
  | .hbm, ⟨7, _⟩ => ⟨S1x512, .f32⟩
  | .hbm, ⟨8, _⟩ => ⟨S4x2048x6144, .bf16⟩
  | .hbm, ⟨9, _⟩ => ⟨S4x2048x6144, .bf16⟩
  | .hbm, ⟨10, _⟩ => ⟨S4x128x128, .f32⟩
  | .hbm, ⟨11, _⟩ => ⟨S1x512, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S4x128x128, .f32⟩
  | .local _ .vmem, ⟨5, _⟩ => ⟨S1x512, .f32⟩
  | .local _ .vmem, ⟨6, _⟩ => ⟨S1x2048x512, .bf16⟩
  | .local _ .vmem, ⟨7, _⟩ => ⟨S1x2048x512, .bf16⟩
  | .local _ .vmem, ⟨8, _⟩ => ⟨S4x128x128, .f32⟩
  | .local _ .vmem, ⟨9, _⟩ => ⟨S1x512, .f32⟩
  | .local _ .vmem, ⟨10, _⟩ => ⟨S2048x512, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_31 : BitVec 32 := 0#32
  let c16_i32_32 : BitVec 32 := 16#32
  let v89 : BitVec 32 := Scalar.addi c0_i32_31 c16_i32_32
  let c1_i32 : BitVec 32 := 1#32
  ⟨c0_i32_31, v89, c1_i32⟩
def k0_mult1 (k0_t1 : Fin k0_t1_loop.trips) : BitVec 32 :=
  let c0_i32_31 : BitVec 32 := 0#32
  let c1_i32 : BitVec 32 := 1#32
  let arg10 : BitVec 32 := Scf.iv c0_i32_31 c1_i32 k0_t1
  let c128_i32_38 : BitVec 32 := 128#32
  let v91 : BitVec 32 := Scalar.muli arg10 c128_i32_38
  v91
def k0_mult2 (k0_t1 : Fin k0_t1_loop.trips) : BitVec 32 :=
  let c0_i32_31 : BitVec 32 := 0#32
  let c1_i32 : BitVec 32 := 1#32
  let arg10 : BitVec 32 := Scf.iv c0_i32_31 c1_i32 k0_t1
  let c1_i32_39 : BitVec 32 := 1#32
  let v93 : BitVec 32 := Scalar.subi arg10 c1_i32_39
  let c0_i32_40 : BitVec 32 := 0#32
  let v94 : BitVec 32 := Scalar.maxsi v93 c0_i32_40
  let c128_i32_41 : BitVec 32 := 128#32
  let v95 : BitVec 32 := Scalar.muli v94 c128_i32_41
  v95
def k0_off1 (k0_t1 : Fin k0_t1_loop.trips) : Fin 3 → Nat :=
  let c0_45 : Index := 0#32
  let c0_i32_31 : BitVec 32 := 0#32
  let c1_i32 : BitVec 32 := 1#32
  let arg10 : BitVec 32 := Scf.iv c0_i32_31 c1_i32 k0_t1
  let c128_i32_38 : BitVec 32 := 128#32
  let v91 : BitVec 32 := Scalar.muli arg10 c128_i32_38
  let v92 : BitVec 32 := v91
  let v99 : Index := Scalar.indexCast v92
  let c0_46 : Index := 0#32
  ![0, v99.toNat, 0]
def k0_off2 (k0_t1 : Fin k0_t1_loop.trips) : Fin 3 → Nat :=
  let c0_47 : Index := 0#32
  let c0_i32_31 : BitVec 32 := 0#32
  let c1_i32 : BitVec 32 := 1#32
  let arg10 : BitVec 32 := Scf.iv c0_i32_31 c1_i32 k0_t1
  let c1_i32_39 : BitVec 32 := 1#32
  let v93 : BitVec 32 := Scalar.subi arg10 c1_i32_39
  let c0_i32_40 : BitVec 32 := 0#32
  let v94 : BitVec 32 := Scalar.maxsi v93 c0_i32_40
  let c128_i32_41 : BitVec 32 := 128#32
  let v95 : BitVec 32 := Scalar.muli v94 c128_i32_41
  let v96 : BitVec 32 := v95
  let v102 : Index := Scalar.indexCast v96
  let c0_48 : Index := 0#32
  ![0, v102.toNat, 0]
def k0_off3 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c128_i32_38 : BitVec 32 := 128#32
  let v91 : BitVec 32 := Scalar.muli arg10 c128_i32_38
  let v92 : BitVec 32 := v91
  let v150 : Index := Scalar.indexCast v92
  let c0_72 : Index := 0#32
  ![v150.toNat, 0]
def k0_off4 (k0_t1 : Fin k0_t1_loop.trips) : Fin 3 → Nat :=
  let c0_73 : Index := 0#32
  let c0_i32_31 : BitVec 32 := 0#32
  let c1_i32 : BitVec 32 := 1#32
  let arg10 : BitVec 32 := Scf.iv c0_i32_31 c1_i32 k0_t1
  let c128_i32_38 : BitVec 32 := 128#32
  let v91 : BitVec 32 := Scalar.muli arg10 c128_i32_38
  let v92 : BitVec 32 := v91
  let v154 : Index := Scalar.indexCast v92
  let c128 : Index := 128#32
  ![0, v154.toNat, 128]
def k0_off5 (k0_t1 : Fin k0_t1_loop.trips) : Fin 3 → Nat :=
  let c0_74 : Index := 0#32
  let c0_i32_31 : BitVec 32 := 0#32
  let c1_i32 : BitVec 32 := 1#32
  let arg10 : BitVec 32 := Scf.iv c0_i32_31 c1_i32 k0_t1
  let c1_i32_39 : BitVec 32 := 1#32
  let v93 : BitVec 32 := Scalar.subi arg10 c1_i32_39
  let c0_i32_40 : BitVec 32 := 0#32
  let v94 : BitVec 32 := Scalar.maxsi v93 c0_i32_40
  let c128_i32_41 : BitVec 32 := 128#32
  let v95 : BitVec 32 := Scalar.muli v94 c128_i32_41
  let v96 : BitVec 32 := v95
  let v157 : Index := Scalar.indexCast v96
  let c128_75 : Index := 128#32
  ![0, v157.toNat, 128]
def k0_off6 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c128_i32_38 : BitVec 32 := 128#32
  let v91 : BitVec 32 := Scalar.muli arg10 c128_i32_38
  let v92 : BitVec 32 := v91
  let v205 : Index := Scalar.indexCast v92
  let c128_99 : Index := 128#32
  ![v205.toNat, 128]
def k0_off7 (k0_t1 : Fin k0_t1_loop.trips) : Fin 3 → Nat :=
  let c0_100 : Index := 0#32
  let c0_i32_31 : BitVec 32 := 0#32
  let c1_i32 : BitVec 32 := 1#32
  let arg10 : BitVec 32 := Scf.iv c0_i32_31 c1_i32 k0_t1
  let c128_i32_38 : BitVec 32 := 128#32
  let v91 : BitVec 32 := Scalar.muli arg10 c128_i32_38
  let v92 : BitVec 32 := v91
  let v209 : Index := Scalar.indexCast v92
  let c256 : Index := 256#32
  ![0, v209.toNat, 256]
def k0_off8 (k0_t1 : Fin k0_t1_loop.trips) : Fin 3 → Nat :=
  let c0_101 : Index := 0#32
  let c0_i32_31 : BitVec 32 := 0#32
  let c1_i32 : BitVec 32 := 1#32
  let arg10 : BitVec 32 := Scf.iv c0_i32_31 c1_i32 k0_t1
  let c1_i32_39 : BitVec 32 := 1#32
  let v93 : BitVec 32 := Scalar.subi arg10 c1_i32_39
  let c0_i32_40 : BitVec 32 := 0#32
  let v94 : BitVec 32 := Scalar.maxsi v93 c0_i32_40
  let c128_i32_41 : BitVec 32 := 128#32
  let v95 : BitVec 32 := Scalar.muli v94 c128_i32_41
  let v96 : BitVec 32 := v95
  let v212 : Index := Scalar.indexCast v96
  let c256_102 : Index := 256#32
  ![0, v212.toNat, 256]
def k0_off9 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c128_i32_38 : BitVec 32 := 128#32
  let v91 : BitVec 32 := Scalar.muli arg10 c128_i32_38
  let v92 : BitVec 32 := v91
  let v260 : Index := Scalar.indexCast v92
  let c256_126 : Index := 256#32
  ![v260.toNat, 256]
def k0_off10 (k0_t1 : Fin k0_t1_loop.trips) : Fin 3 → Nat :=
  let c0_127 : Index := 0#32
  let c0_i32_31 : BitVec 32 := 0#32
  let c1_i32 : BitVec 32 := 1#32
  let arg10 : BitVec 32 := Scf.iv c0_i32_31 c1_i32 k0_t1
  let c128_i32_38 : BitVec 32 := 128#32
  let v91 : BitVec 32 := Scalar.muli arg10 c128_i32_38
  let v92 : BitVec 32 := v91
  let v264 : Index := Scalar.indexCast v92
  let c384 : Index := 384#32
  ![0, v264.toNat, 384]
def k0_off11 (k0_t1 : Fin k0_t1_loop.trips) : Fin 3 → Nat :=
  let c0_128 : Index := 0#32
  let c0_i32_31 : BitVec 32 := 0#32
  let c1_i32 : BitVec 32 := 1#32
  let arg10 : BitVec 32 := Scf.iv c0_i32_31 c1_i32 k0_t1
  let c1_i32_39 : BitVec 32 := 1#32
  let v93 : BitVec 32 := Scalar.subi arg10 c1_i32_39
  let c0_i32_40 : BitVec 32 := 0#32
  let v94 : BitVec 32 := Scalar.maxsi v93 c0_i32_40
  let c128_i32_41 : BitVec 32 := 128#32
  let v95 : BitVec 32 := Scalar.muli v94 c128_i32_41
  let v96 : BitVec 32 := v95
  let v267 : Index := Scalar.indexCast v96
  let c384_129 : Index := 384#32
  ![0, v267.toNat, 384]
def k0_off12 (k0_t1 : Fin k0_t1_loop.trips) : Fin 2 → Nat :=
  let c0_i32_31 : BitVec 32 := 0#32
  let c1_i32 : BitVec 32 := 1#32
  let arg10 : BitVec 32 := Scf.iv c0_i32_31 c1_i32 k0_t1
  let c128_i32_38 : BitVec 32 := 128#32
  let v91 : BitVec 32 := Scalar.muli arg10 c128_i32_38
  let v92 : BitVec 32 := v91
  let v315 : Index := Scalar.indexCast v92
  let c384_153 : Index := 384#32
  ![v315.toNat, 384]
@[reducible] def k0_t2_loop : Scf.Loop 32 :=
  let c0_i32_34 : BitVec 32 := 0#32
  let c16_i32_35 : BitVec 32 := 16#32
  let v90 : BitVec 32 := Scalar.addi c0_i32_34 c16_i32_35
  let c1_i32_36 : BitVec 32 := 1#32
  ⟨c0_i32_34, v90, c1_i32_36⟩
def k0_mult3 (k0_t2 : Fin k0_t2_loop.trips) : BitVec 32 :=
  let c0_i32_34 : BitVec 32 := 0#32
  let c1_i32_36 : BitVec 32 := 1#32
  let arg10 : BitVec 32 := Scf.iv c0_i32_34 c1_i32_36 k0_t2
  let c128_i32_38 : BitVec 32 := 128#32
  let v91 : BitVec 32 := Scalar.muli arg10 c128_i32_38
  v91
def k0_mult4 (k0_t2 : Fin k0_t2_loop.trips) : BitVec 32 :=
  let c0_i32_34 : BitVec 32 := 0#32
  let c1_i32_36 : BitVec 32 := 1#32
  let arg10 : BitVec 32 := Scf.iv c0_i32_34 c1_i32_36 k0_t2
  let c1_i32_39 : BitVec 32 := 1#32
  let v93 : BitVec 32 := Scalar.addi arg10 c1_i32_39
  let c15_i32 : BitVec 32 := 15#32
  let v94 : BitVec 32 := Scalar.minsi v93 c15_i32
  let c128_i32_40 : BitVec 32 := 128#32
  let v95 : BitVec 32 := Scalar.muli v94 c128_i32_40
  v95
def k0_off13 (k0_t2 : Fin k0_t2_loop.trips) : Fin 2 → Nat :=
  let c0_i32_34 : BitVec 32 := 0#32
  let c1_i32_36 : BitVec 32 := 1#32
  let arg10 : BitVec 32 := Scf.iv c0_i32_34 c1_i32_36 k0_t2
  let c128_i32_38 : BitVec 32 := 128#32
  let v91 : BitVec 32 := Scalar.muli arg10 c128_i32_38
  let v92 : BitVec 32 := v91
  let v99 : Index := Scalar.indexCast v92
  let c0_44 : Index := 0#32
  ![v99.toNat, 0]
def k0_off14 (k0_t2 : Fin k0_t2_loop.trips) : Fin 2 → Nat :=
  let c0_i32_34 : BitVec 32 := 0#32
  let c1_i32_36 : BitVec 32 := 1#32
  let arg10 : BitVec 32 := Scf.iv c0_i32_34 c1_i32_36 k0_t2
  let c1_i32_39 : BitVec 32 := 1#32
  let v93 : BitVec 32 := Scalar.addi arg10 c1_i32_39
  let c15_i32 : BitVec 32 := 15#32
  let v94 : BitVec 32 := Scalar.minsi v93 c15_i32
  let c128_i32_40 : BitVec 32 := 128#32
  let v95 : BitVec 32 := Scalar.muli v94 c128_i32_40
  let v96 : BitVec 32 := v95
  let v114 : Index := Scalar.indexCast v96
  let c0_48 : Index := 0#32
  ![v114.toNat, 0]
def k0_off15 (k0_t2 : Fin k0_t2_loop.trips) : Fin 3 → Nat :=
  let c0_54 : Index := 0#32
  let c0_i32_34 : BitVec 32 := 0#32
  let c1_i32_36 : BitVec 32 := 1#32
  let arg10 : BitVec 32 := Scf.iv c0_i32_34 c1_i32_36 k0_t2
  let c128_i32_38 : BitVec 32 := 128#32
  let v91 : BitVec 32 := Scalar.muli arg10 c128_i32_38
  let v92 : BitVec 32 := v91
  let v136 : Index := Scalar.indexCast v92
  let c0_55 : Index := 0#32
  ![0, v136.toNat, 0]
def k0_off16 (k0_t2 : Fin k0_t2_loop.trips) : Fin 2 → Nat :=
  let c0_i32_34 : BitVec 32 := 0#32
  let c1_i32_36 : BitVec 32 := 1#32
  let arg10 : BitVec 32 := Scf.iv c0_i32_34 c1_i32_36 k0_t2
  let c128_i32_38 : BitVec 32 := 128#32
  let v91 : BitVec 32 := Scalar.muli arg10 c128_i32_38
  let v92 : BitVec 32 := v91
  let v140 : Index := Scalar.indexCast v92
  let c128 : Index := 128#32
  ![v140.toNat, 128]
def k0_off17 (k0_t2 : Fin k0_t2_loop.trips) : Fin 2 → Nat :=
  let c0_i32_34 : BitVec 32 := 0#32
  let c1_i32_36 : BitVec 32 := 1#32
  let arg10 : BitVec 32 := Scf.iv c0_i32_34 c1_i32_36 k0_t2
  let c1_i32_39 : BitVec 32 := 1#32
  let v93 : BitVec 32 := Scalar.addi arg10 c1_i32_39
  let c15_i32 : BitVec 32 := 15#32
  let v94 : BitVec 32 := Scalar.minsi v93 c15_i32
  let c128_i32_40 : BitVec 32 := 128#32
  let v95 : BitVec 32 := Scalar.muli v94 c128_i32_40
  let v96 : BitVec 32 := v95
  let v155 : Index := Scalar.indexCast v96
  let c128_59 : Index := 128#32
  ![v155.toNat, 128]
def k0_off18 (k0_t2 : Fin k0_t2_loop.trips) : Fin 3 → Nat :=
  let c0_65 : Index := 0#32
  let c0_i32_34 : BitVec 32 := 0#32
  let c1_i32_36 : BitVec 32 := 1#32
  let arg10 : BitVec 32 := Scf.iv c0_i32_34 c1_i32_36 k0_t2
  let c128_i32_38 : BitVec 32 := 128#32
  let v91 : BitVec 32 := Scalar.muli arg10 c128_i32_38
  let v92 : BitVec 32 := v91
  let v177 : Index := Scalar.indexCast v92
  let c128_66 : Index := 128#32
  ![0, v177.toNat, 128]
def k0_off19 (k0_t2 : Fin k0_t2_loop.trips) : Fin 2 → Nat :=
  let c0_i32_34 : BitVec 32 := 0#32
  let c1_i32_36 : BitVec 32 := 1#32
  let arg10 : BitVec 32 := Scf.iv c0_i32_34 c1_i32_36 k0_t2
  let c128_i32_38 : BitVec 32 := 128#32
  let v91 : BitVec 32 := Scalar.muli arg10 c128_i32_38
  let v92 : BitVec 32 := v91
  let v181 : Index := Scalar.indexCast v92
  let c256 : Index := 256#32
  ![v181.toNat, 256]
def k0_off20 (k0_t2 : Fin k0_t2_loop.trips) : Fin 2 → Nat :=
  let c0_i32_34 : BitVec 32 := 0#32
  let c1_i32_36 : BitVec 32 := 1#32
  let arg10 : BitVec 32 := Scf.iv c0_i32_34 c1_i32_36 k0_t2
  let c1_i32_39 : BitVec 32 := 1#32
  let v93 : BitVec 32 := Scalar.addi arg10 c1_i32_39
  let c15_i32 : BitVec 32 := 15#32
  let v94 : BitVec 32 := Scalar.minsi v93 c15_i32
  let c128_i32_40 : BitVec 32 := 128#32
  let v95 : BitVec 32 := Scalar.muli v94 c128_i32_40
  let v96 : BitVec 32 := v95
  let v196 : Index := Scalar.indexCast v96
  let c256_70 : Index := 256#32
  ![v196.toNat, 256]
def k0_off21 (k0_t2 : Fin k0_t2_loop.trips) : Fin 3 → Nat :=
  let c0_76 : Index := 0#32
  let c0_i32_34 : BitVec 32 := 0#32
  let c1_i32_36 : BitVec 32 := 1#32
  let arg10 : BitVec 32 := Scf.iv c0_i32_34 c1_i32_36 k0_t2
  let c128_i32_38 : BitVec 32 := 128#32
  let v91 : BitVec 32 := Scalar.muli arg10 c128_i32_38
  let v92 : BitVec 32 := v91
  let v218 : Index := Scalar.indexCast v92
  let c256_77 : Index := 256#32
  ![0, v218.toNat, 256]
def k0_off22 (k0_t2 : Fin k0_t2_loop.trips) : Fin 2 → Nat :=
  let c0_i32_34 : BitVec 32 := 0#32
  let c1_i32_36 : BitVec 32 := 1#32
  let arg10 : BitVec 32 := Scf.iv c0_i32_34 c1_i32_36 k0_t2
  let c128_i32_38 : BitVec 32 := 128#32
  let v91 : BitVec 32 := Scalar.muli arg10 c128_i32_38
  let v92 : BitVec 32 := v91
  let v222 : Index := Scalar.indexCast v92
  let c384 : Index := 384#32
  ![v222.toNat, 384]
def k0_off23 (k0_t2 : Fin k0_t2_loop.trips) : Fin 2 → Nat :=
  let c0_i32_34 : BitVec 32 := 0#32
  let c1_i32_36 : BitVec 32 := 1#32
  let arg10 : BitVec 32 := Scf.iv c0_i32_34 c1_i32_36 k0_t2
  let c1_i32_39 : BitVec 32 := 1#32
  let v93 : BitVec 32 := Scalar.addi arg10 c1_i32_39
  let c15_i32 : BitVec 32 := 15#32
  let v94 : BitVec 32 := Scalar.minsi v93 c15_i32
  let c128_i32_40 : BitVec 32 := 128#32
  let v95 : BitVec 32 := Scalar.muli v94 c128_i32_40
  let v96 : BitVec 32 := v95
  let v237 : Index := Scalar.indexCast v96
  let c384_81 : Index := 384#32
  ![v237.toNat, 384]
def k0_off24 (k0_t2 : Fin k0_t2_loop.trips) : Fin 3 → Nat :=
  let c0_87 : Index := 0#32
  let c0_i32_34 : BitVec 32 := 0#32
  let c1_i32_36 : BitVec 32 := 1#32
  let arg10 : BitVec 32 := Scf.iv c0_i32_34 c1_i32_36 k0_t2
  let c128_i32_38 : BitVec 32 := 128#32
  let v91 : BitVec 32 := Scalar.muli arg10 c128_i32_38
  let v92 : BitVec 32 := v91
  let v259 : Index := Scalar.indexCast v92
  let c384_88 : Index := 384#32
  ![0, v259.toNat, 384]
def cc0_transform_0 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolRefIdeal.lean ====
abbrev S4x2048x6144 : Shape := ⟨3, ![4, 2048, 6144]⟩
abbrev S4x2048x512 : Shape := ⟨3, ![4, 2048, 512]⟩
abbrev S4x128x128 : Shape := ⟨3, ![4, 128, 128]⟩
abbrev S512 : Shape := ⟨1, ![512]⟩
abbrev S4x2048x4x128 : Shape := ⟨4, ![4, 2048, 4, 128]⟩
abbrev S_ : Shape := ⟨0, ![]⟩
abbrev S2048 : Shape := ⟨1, ![2048]⟩
abbrev S4x2048x1x128 : Shape := ⟨4, ![4, 2048, 1, 128]⟩
abbrev S4x2048x128 : Shape := ⟨3, ![4, 2048, 128]⟩
abbrev S4x2x128 : Shape := ⟨3, ![4, 2, 128]⟩
abbrev S4x2046x128 : Shape := ⟨3, ![4, 2046, 128]⟩
abbrev S1x2048x1 : Shape := ⟨3, ![1, 2048, 1]⟩
abbrev S4x4x128 : Shape := ⟨3, ![4, 4, 128]⟩
abbrev S4x2044x128 : Shape := ⟨3, ![4, 2044, 128]⟩
abbrev S4x8x128 : Shape := ⟨3, ![4, 8, 128]⟩
abbrev S4x2040x128 : Shape := ⟨3, ![4, 2040, 128]⟩
abbrev S4x16x128 : Shape := ⟨3, ![4, 16, 128]⟩
abbrev S4x2032x128 : Shape := ⟨3, ![4, 2032, 128]⟩
abbrev S4x128x4x2048 : Shape := ⟨4, ![4, 128, 4, 2048]⟩
abbrev S1x1x512 : Shape := ⟨3, ![1, 1, 512]⟩
abbrev S4x4x2048x128 : Shape := ⟨4, ![4, 4, 2048, 128]⟩
abbrev S4x2048x2560 : Shape := ⟨3, ![4, 2048, 2560]⟩
abbrev S4x2048x3072 : Shape := ⟨3, ![4, 2048, 3072]⟩
abbrev S1x512 : Shape := ⟨2, ![1, 512]⟩

abbrev nBuf : Space → Nat
  | .hbm => 208
  | .vmem => 0
  | .smem => 0
  | _ => 0

abbrev hbmTy0_0 (i : Nat) : BufTy := match i % 128 with
  | 0 => ⟨S4x2048x6144, .f32⟩
  | 1 => ⟨S4x2048x512, .f32⟩
  | 2 => ⟨S4x128x128, .f32⟩
  | 3 => ⟨S512, .f32⟩
  | 4 => ⟨S4x2048x6144, .f32⟩
  | 5 => ⟨S4x2048x512, .f32⟩
  | 6 => ⟨S4x2048x4x128, .f32⟩
  | 7 => ⟨S_, .f32⟩
  | 8 => ⟨S_, .f32⟩
  | 9 => ⟨S4x2048x4x128, .f32⟩
  | 10 => ⟨S2048, .i32⟩
  | 11 => ⟨S4x2048x1x128, .f32⟩
  | 12 => ⟨S4x2048x128, .f32⟩
  | 13 => ⟨S_, .f32⟩
  | 14 => ⟨S4x2x128, .f32⟩
  | 15 => ⟨S4x2046x128, .f32⟩
  | 16 => ⟨S4x2048x128, .f32⟩
  | 17 => ⟨S_, .f32⟩
  | 18 => ⟨S4x2x128, .f32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S2048, .f32⟩
  | 26 => ⟨S1x2048x1, .f32⟩
  | 27 => ⟨S4x2048x128, .f32⟩
  | 28 => ⟨S4x2048x128, .f32⟩
  | 29 => ⟨S4x2048x128, .f32⟩
  | 30 => ⟨S4x2048x1x128, .f32⟩
  | 31 => ⟨S4x2048x128, .f32⟩
  | 32 => ⟨S4x2048x128, .f32⟩
  | 33 => ⟨S4x2048x1x128, .f32⟩
  | 34 => ⟨S4x2048x128, .f32⟩
  | 35 => ⟨S_, .f32⟩
  | 36 => ⟨S4x4x128, .f32⟩
  | 37 => ⟨S4x2044x128, .f32⟩
  | 38 => ⟨S4x2048x128, .f32⟩
  | 39 => ⟨S_, .f32⟩
  | 40 => ⟨S4x4x128, .f32⟩
  | 41 => ⟨S_, .i32⟩
  | 42 => ⟨S2048, .i32⟩
  | 43 => ⟨S2048, .i32⟩
  | 44 => ⟨S_, .i32⟩
  | 45 => ⟨S2048, .i32⟩
  | 46 => ⟨S2048, .i32⟩
  | 47 => ⟨S2048, .f32⟩
  | 48 => ⟨S1x2048x1, .f32⟩
  | 49 => ⟨S4x2048x128, .f32⟩
  | 50 => ⟨S4x2048x128, .f32⟩
  | 51 => ⟨S4x2048x128, .f32⟩
  | 52 => ⟨S4x2048x1x128, .f32⟩
  | 53 => ⟨S4x2048x128, .f32⟩
  | 54 => ⟨S4x2048x128, .f32⟩
  | 55 => ⟨S4x2048x1x128, .f32⟩
  | 56 => ⟨S4x2048x128, .f32⟩
  | 57 => ⟨S_, .f32⟩
  | 58 => ⟨S4x8x128, .f32⟩
  | 59 => ⟨S4x2040x128, .f32⟩
  | 60 => ⟨S4x2048x128, .f32⟩
  | 61 => ⟨S_, .f32⟩
  | 62 => ⟨S4x8x128, .f32⟩
  | 63 => ⟨S_, .i32⟩
  | 64 => ⟨S2048, .i32⟩
  | 65 => ⟨S2048, .i32⟩
  | 66 => ⟨S_, .i32⟩
  | 67 => ⟨S2048, .i32⟩
  | 68 => ⟨S2048, .i32⟩
  | 69 => ⟨S2048, .f32⟩
  | 70 => ⟨S1x2048x1, .f32⟩
  | 71 => ⟨S4x2048x128, .f32⟩
  | 72 => ⟨S4x2048x128, .f32⟩
  | 73 => ⟨S4x2048x128, .f32⟩
  | 74 => ⟨S4x2048x1x128, .f32⟩
  | 75 => ⟨S4x2048x128, .f32⟩
  | 76 => ⟨S4x2048x128, .f32⟩
  | 77 => ⟨S4x2048x1x128, .f32⟩
  | 78 => ⟨S4x2048x128, .f32⟩
  | 79 => ⟨S_, .f32⟩
  | 80 => ⟨S4x16x128, .f32⟩
  | 81 => ⟨S4x2032x128, .f32⟩
  | 82 => ⟨S4x2048x128, .f32⟩
  | 83 => ⟨S_, .f32⟩
  | 84 => ⟨S4x16x128, .f32⟩
  | 85 => ⟨S_, .i32⟩
  | 86 => ⟨S2048, .i32⟩
  | 87 => ⟨S2048, .i32⟩
  | 88 => ⟨S_, .i32⟩
  | 89 => ⟨S2048, .i32⟩
  | 90 => ⟨S2048, .i32⟩
  | 91 => ⟨S2048, .f32⟩
  | 92 => ⟨S1x2048x1, .f32⟩
  | 93 => ⟨S4x2048x128, .f32⟩
  | 94 => ⟨S4x2048x128, .f32⟩
  | 95 => ⟨S4x2048x128, .f32⟩
  | 96 => ⟨S4x2048x1x128, .f32⟩
  | 97 => ⟨S4x2048x128, .f32⟩
  | 98 => ⟨S4x2048x128, .f32⟩
  | 99 => ⟨S4x2048x1x128, .f32⟩
  | 100 => ⟨S4x2048x1x128, .f32⟩
  | 101 => ⟨S4x2048x1x128, .f32⟩
  | 102 => ⟨S4x2048x1x128, .f32⟩
  | 103 => ⟨S4x2048x4x128, .f32⟩
  | 104 => ⟨S4x128x4x2048, .f32⟩
  | 105 => ⟨S4x2048x4x128, .f32⟩
  | 106 => ⟨S4x2048x512, .f32⟩
  | 107 => ⟨S1x1x512, .f32⟩
  | 108 => ⟨S4x2048x512, .f32⟩
  | 109 => ⟨S4x2048x512, .f32⟩
  | 110 => ⟨S4x2048x512, .f32⟩
  | 111 => ⟨S_, .f32⟩
  | 112 => ⟨S512, .f32⟩
  | 113 => ⟨S1x1x512, .f32⟩
  | 114 => ⟨S4x2048x512, .f32⟩
  | 115 => ⟨S4x2048x512, .f32⟩
  | 116 => ⟨S_, .f32⟩
  | 117 => ⟨S512, .f32⟩
  | 118 => ⟨S4x2048x4x128, .f32⟩
  | 119 => ⟨S4x128x4x2048, .f32⟩
  | 120 => ⟨S4x4x2048x128, .f32⟩
  | 121 => ⟨S4x2048x4x128, .f32⟩
  | 122 => ⟨S4x128x128, .f32⟩
  | 123 => ⟨S4x128x128, .f32⟩
  | 124 => ⟨S4x2048x1x128, .f32⟩
  | 125 => ⟨S4x2048x128, .f32⟩
  | 126 => ⟨S4x2048x1x128, .f32⟩
  | 127 => ⟨S4x2048x128, .f32⟩
  | _ => ⟨S4x2048x6144, .f32⟩

abbrev hbmTy0_1 (i : Nat) : BufTy := match i % 128 with
  | 0 => ⟨S4x2048x1x128, .f32⟩
  | 1 => ⟨S4x2048x128, .f32⟩
  | 2 => ⟨S4x2048x1x128, .f32⟩
  | 3 => ⟨S4x2048x128, .f32⟩
  | 4 => ⟨S4x2048x128, .f32⟩
  | 5 => ⟨S4x2048x1x128, .f32⟩
  | 6 => ⟨S_, .f32⟩
  | 7 => ⟨S4x2048x4x128, .f32⟩
  | 8 => ⟨S4x2048x128, .f32⟩
  | 9 => ⟨S4x2048x128, .f32⟩
  | 10 => ⟨S4x2048x128, .f32⟩
  | 11 => ⟨S4x16x128, .f32⟩
  | 12 => ⟨S4x2032x128, .f32⟩
  | 13 => ⟨S_, .f32⟩
  | 14 => ⟨S4x2048x128, .f32⟩
  | 15 => ⟨S4x2048x128, .f32⟩
  | 16 => ⟨S4x2048x1x128, .f32⟩
  | 17 => ⟨S_, .f32⟩
  | 18 => ⟨S4x2048x4x128, .f32⟩
  | 19 => ⟨S4x2048x128, .f32⟩
  | 20 => ⟨S4x2048x1x128, .f32⟩
  | 21 => ⟨S_, .f32⟩
  | 22 => ⟨S4x2048x4x128, .f32⟩
  | 23 => ⟨S4x2048x4x128, .f32⟩
  | 24 => ⟨S4x2048x128, .f32⟩
  | 25 => ⟨S4x2048x128, .f32⟩
  | 26 => ⟨S4x2048x128, .f32⟩
  | 27 => ⟨S4x8x128, .f32⟩
  | 28 => ⟨S4x2040x128, .f32⟩
  | 29 => ⟨S_, .f32⟩
  | 30 => ⟨S4x2048x128, .f32⟩
  | 31 => ⟨S4x2048x128, .f32⟩
  | 32 => ⟨S4x2048x1x128, .f32⟩
  | 33 => ⟨S_, .f32⟩
  | 34 => ⟨S4x2048x4x128, .f32⟩
  | 35 => ⟨S4x2048x4x128, .f32⟩
  | 36 => ⟨S4x2048x128, .f32⟩
  | 37 => ⟨S4x2048x1x128, .f32⟩
  | 38 => ⟨S_, .f32⟩
  | 39 => ⟨S4x2048x4x128, .f32⟩
  | 40 => ⟨S4x2048x4x128, .f32⟩
  | 41 => ⟨S4x2048x128, .f32⟩
  | 42 => ⟨S4x2048x128, .f32⟩
  | 43 => ⟨S4x2048x128, .f32⟩
  | 44 => ⟨S4x4x128, .f32⟩
  | 45 => ⟨S4x2044x128, .f32⟩
  | 46 => ⟨S_, .f32⟩
  | 47 => ⟨S4x2048x128, .f32⟩
  | 48 => ⟨S4x2048x128, .f32⟩
  | 49 => ⟨S4x2048x1x128, .f32⟩
  | 50 => ⟨S_, .f32⟩
  | 51 => ⟨S4x2048x4x128, .f32⟩
  | 52 => ⟨S4x2048x4x128, .f32⟩
  | 53 => ⟨S4x2048x128, .f32⟩
  | 54 => ⟨S4x2048x1x128, .f32⟩
  | 55 => ⟨S_, .f32⟩
  | 56 => ⟨S4x2048x4x128, .f32⟩
  | 57 => ⟨S4x2048x4x128, .f32⟩
  | 58 => ⟨S4x2048x128, .f32⟩
  | 59 => ⟨S4x2048x128, .f32⟩
  | 60 => ⟨S4x2048x128, .f32⟩
  | 61 => ⟨S4x2x128, .f32⟩
  | 62 => ⟨S4x2046x128, .f32⟩
  | 63 => ⟨S_, .f32⟩
  | 64 => ⟨S4x2048x128, .f32⟩
  | 65 => ⟨S4x2048x128, .f32⟩
  | 66 => ⟨S4x2048x1x128, .f32⟩
  | 67 => ⟨S_, .f32⟩
  | 68 => ⟨S4x2048x4x128, .f32⟩
  | 69 => ⟨S4x2048x4x128, .f32⟩
  | 70 => ⟨S_, .f32⟩
  | 71 => ⟨S_, .f32⟩
  | 72 => ⟨S4x2048x4x128, .f32⟩
  | 73 => ⟨S4x2048x4x128, .f32⟩
  | 74 => ⟨S4x2048x512, .f32⟩
  | 75 => ⟨S4x2048x2560, .f32⟩
  | 76 => ⟨S4x2048x3072, .f32⟩
  | 77 => ⟨S4x2048x6144, .f32⟩
  | 78 => ⟨S4x2048x6144, .bf16⟩
  | 79 => ⟨S1x512, .f32⟩
  | _ => ⟨S4x2048x6144, .f32⟩

abbrev hbmTy (i : Nat) : BufTy := match i / 128 with
  | 0 => hbmTy0_0 i
  | 1 => hbmTy0_1 i
  | _ => ⟨S4x2048x6144, .f32⟩

abbrev bufTy : (tb : Table) → Fin (tcTables nBuf tb) → BufTy
  | .hbm, ⟨i, _⟩ => hbmTy i
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_c_12 : Ref sig .tc := ⟨.hbm, 85, rfl⟩
abbrev main_v64 : Ref sig .tc := ⟨.hbm, 86, rfl⟩
abbrev main_v65 : Ref sig .tc := ⟨.hbm, 87, rfl⟩
abbrev main_c_13 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_14 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_15 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_16 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_17 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_18 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_19 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_20 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_21 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_cst_22 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_cst_23 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_24 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_cst_25 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_26 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_cst_27 : Ref sig .tc := ⟨.hbm, 195, rfl⟩
abbrev main_v159 : Ref sig .tc := ⟨.hbm, 196, rfl⟩
abbrev main_v160 : Ref sig .tc := ⟨.hbm, 197, rfl⟩
abbrev main_call1_call0_cst : Ref sig .tc := ⟨.hbm, 198, rfl⟩
abbrev main_call1_call0_v0 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩

abbrev nD : Nat := 1
abbrev τ : Topo := Topo.v7x

variable {F : FTy → Type} [FloatOps F]
-- ==== SbFwd.lean ====
abbrev S4x2048x6144 : Shape := ⟨3, ![4, 2048, 6144]⟩
abbrev S4x2048x512 : Shape := ⟨3, ![4, 2048, 512]⟩
abbrev S1x2048x128 : Shape := ⟨3, ![1, 2048, 128]⟩
abbrev S256x256 : Shape := ⟨2, ![256, 256]⟩
abbrev S1x256x64 : Shape := ⟨3, ![1, 256, 64]⟩
abbrev S256x64 : Shape := ⟨2, ![256, 64]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 3
  | .vmem => 8
  | .smem => 0
  | _ => 0

abbrev bufTy : (tb : Table) → Fin (tcTables nBuf tb) → BufTy
  | .hbm, ⟨0, _⟩ => ⟨S4x2048x6144, .f32⟩
  | .hbm, ⟨1, _⟩ => ⟨S4x2048x6144, .bf16⟩
  | .hbm, ⟨2, _⟩ => ⟨S4x2048x512, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .f32⟩
  | .local _ .vmem, ⟨7, _⟩ => ⟨S1x2048x128, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  v8
def k0_off1 (k0_t1 : Fin k0_t1_loop.trips) : Fin 3 → Nat :=
  let c0 : Index := 0#32
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  let v9 : BitVec 32 := v8
  let v10 : Index := Scalar.indexCast v9
  let c0_2 : Index := 0#32
  ![0, v10.toNat, 0]
def k0_off2 (k0_t1 : Fin k0_t1_loop.trips) : Fin 3 → Nat :=
  let c0_4 : Index := 0#32
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  let v9 : BitVec 32 := v8
  let v17 : Index := Scalar.indexCast v9
  let c64 : Index := 64#32
  ![0, v17.toNat, 64]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  let v9 : BitVec 32 := v8
  let c0_i32_10 : BitVec 32 := 0#32
  let v28 : BitVec 32 := Scalar.addi v9 c0_i32_10
  v28
def k0_off3 (k0_t1 : Fin k0_t1_loop.trips) : Fin 3 → Nat :=
  let c0_12 : Index := 0#32
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  let v9 : BitVec 32 := v8
  let c0_i32_10 : BitVec 32 := 0#32
  let v28 : BitVec 32 := Scalar.addi v9 c0_i32_10
  let v29 : BitVec 32 := v28
  let v35 : Index := Scalar.indexCast v29
  let c0_13 : Index := 0#32
  ![0, v35.toNat, 0]
def k0_off4 (k0_t1 : Fin k0_t1_loop.trips) : Fin 3 → Nat :=
  let c0_19 : Index := 0#32
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  let v9 : BitVec 32 := v8
  let c0_i32_10 : BitVec 32 := 0#32
  let v28 : BitVec 32 := Scalar.addi v9 c0_i32_10
  let v29 : BitVec 32 := v28
  let v52 : Index := Scalar.indexCast v29
  let c64_20 : Index := 64#32
  ![0, v52.toNat, 64]
def k0_mult3 (k0_t1 : Fin k0_t1_loop.trips) (arg7 : BitVec 32) : BitVec 32 :=
  let c0_i32 : BitVec 32 := 0#32
  let c1_i32 : BitVec 32 := 1#32
  let arg6 : BitVec 32 := Scf.iv c0_i32 c1_i32 k0_t1
  let c1_i32_36 : BitVec 32 := 1#32
  let v105 : BitVec 32 := Scalar.muli arg6 c1_i32_36
  let c1_i32_45 : BitVec 32 := 1#32
  let v126 : BitVec 32 := Scalar.subi v105 c1_i32_45
  let v127 : BitVec 32 := Scalar.subi v126 arg7
  let c256_i32_46 : BitVec 32 := 256#32
  let v128 : BitVec 32 := Scalar.muli v127 c256_i32_46
  v128

def k0_off5 (k0_t1 : Fin k0_t1_loop.trips) (arg7 : BitVec 32) : Fin 3 → Nat :=
  let c0_47 : Index := 0#32
  let c0_i32 : BitVec 32 := 0#32
  let c1_i32 : BitVec 32 := 1#32
  let arg6 : BitVec 32 := Scf.iv c0_i32 c1_i32 k0_t1
  let c1_i32_36 : BitVec 32 := 1#32
  let v105 : BitVec 32 := Scalar.muli arg6 c1_i32_36
  let c1_i32_45 : BitVec 32 := 1#32
  let v126 : BitVec 32 := Scalar.subi v105 c1_i32_45
  let v127 : BitVec 32 := Scalar.subi v126 arg7
  let c256_i32_46 : BitVec 32 := 256#32
  let v128 : BitVec 32 := Scalar.muli v127 c256_i32_46
  let v129 : BitVec 32 := v128
  let v130 : Index := Scalar.indexCast v129
  let c0_48 : Index := 0#32
  ![0, v130.toNat, 0]
def k0_off6 (k0_t1 : Fin k0_t1_loop.trips) (arg7 : BitVec 32) : Fin 3 → Nat :=
  let c0_53 : Index := 0#32
  let c0_i32 : BitVec 32 := 0#32
  let c1_i32 : BitVec 32 := 1#32
  let arg6 : BitVec 32 := Scf.iv c0_i32 c1_i32 k0_t1
  let c1_i32_36 : BitVec 32 := 1#32
  let v105 : BitVec 32 := Scalar.muli arg6 c1_i32_36
  let c1_i32_45 : BitVec 32 := 1#32
  let v126 : BitVec 32 := Scalar.subi v105 c1_i32_45
  let v127 : BitVec 32 := Scalar.subi v126 arg7
  let c256_i32_46 : BitVec 32 := 256#32
  let v128 : BitVec 32 := Scalar.muli v127 c256_i32_46
  let v129 : BitVec 32 := v128
  let v145 : Index := Scalar.indexCast v129
  let c64_54 : Index := 64#32
  ![0, v145.toNat, 64]

def k0_chk1 (k0_t1 : Fin k0_t1_loop.trips) (arg7 : BitVec 32) : Prop :=
  (256 ∣ (k0_mult3 k0_t1 arg7).toNat) ∧
  (∀ a, (k0_off5 k0_t1 arg7) a + S1x256x64.size a ≤ S1x2048x128.size a) ∧
  (∀ a, (k0_off6 k0_t1 arg7) a + S1x256x64.size a ≤ S1x2048x128.size a)
theorem k0_mult3_dvd : ∀ (k0_t1 : Fin k0_t1_loop.trips) (arg7 : BitVec 32) (k0_hw1 : k0_chk1 k0_t1 arg7), 256 ∣ (k0_mult3 k0_t1 arg7).toNat := fun k0_t1 arg7 k0_hw1 => k0_hw1.1
theorem k0_off5_inb : ∀ (k0_t1 : Fin k0_t1_loop.trips) (arg7 : BitVec 32) (k0_hw1 : k0_chk1 k0_t1 arg7), ∀ a, (k0_off5 k0_t1 arg7) a + S1x256x64.size a ≤ S1x2048x128.size a := fun k0_t1 arg7 k0_hw1 => k0_hw1.2.1
theorem k0_off6_inb : ∀ (k0_t1 : Fin k0_t1_loop.trips) (arg7 : BitVec 32) (k0_hw1 : k0_chk1 k0_t1 arg7), ∀ a, (k0_off6 k0_t1 arg7) a + S1x256x64.size a ≤ S1x2048x128.size a := fun k0_t1 arg7 k0_hw1 => k0_hw1.2.2

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbFwdIdeal.lean ====
variable {F : FTy → Type} [FloatOps F] [Named F]
def κ : String → Option EReal := fun
  | "sb_exit" => some ⊥
  | _ => none
-- ==== SbFwdRefIdeal.lean ====
abbrev S4x2048x6144 : Shape := ⟨3, ![4, 2048, 6144]⟩
abbrev S4x2048x512 : Shape := ⟨3, ![4, 2048, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x6144, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S4x2048x8x64, .f32⟩
  | .hbm, ⟨5, _⟩ => ⟨S4x8x2048x64, .f32⟩
  | .hbm, ⟨6, _⟩ => ⟨S4x2048x8x64, .f32⟩
  | .hbm, ⟨7, _⟩ => ⟨S4x8x2048x64, .f32⟩
  | .hbm, ⟨8, _⟩ => ⟨S4x2048x8x64, .f32⟩
  | .hbm, ⟨9, _⟩ => ⟨S4x8x2048x64, .f32⟩
  | .hbm, ⟨10, _⟩ => ⟨S4x8x2048x2048, .f32⟩
  | .hbm, ⟨11, _⟩ => ⟨S_, .f32⟩
  | .hbm, ⟨12, _⟩ => ⟨S4x8x2048x2048, .f32⟩
  | .hbm, ⟨13, _⟩ => ⟨S4x8x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S4x8x2048x2048, .f32⟩
  | .hbm, ⟨22, _⟩ => ⟨S_, .f32⟩
  | .hbm, ⟨23, _⟩ => ⟨S4x8x2048x2048, .f32⟩
  | .hbm, ⟨24, _⟩ => ⟨S4x8x2048x2048, .f32⟩
  | .hbm, ⟨25, _⟩ => ⟨S4x8x2048x2048, .f32⟩
  | .hbm, ⟨26, _⟩ => ⟨S4x8x2048x2048, .f32⟩
  | .hbm, ⟨27, _⟩ => ⟨S4x8x2048x2048, .i1⟩
  | .hbm, ⟨28, _⟩ => ⟨S4x8x2048x2048, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S4x8x2048x2048, .f32⟩
  | .hbm, ⟨38, _⟩ => ⟨S_, .f32⟩
  | .hbm, ⟨39, _⟩ => ⟨S_, .f32⟩
  | .hbm, ⟨40, _⟩ => ⟨S4x8x2048x2048, .i1⟩
  | .hbm, ⟨41, _⟩ => ⟨S4x8x2048x2048, .f32⟩
  | .hbm, ⟨42, _⟩ => ⟨S4x8x2048x2048, .f32⟩
  | .hbm, ⟨43, _⟩ => ⟨S_, .f32⟩
  | .hbm, ⟨44, _⟩ => ⟨S_, .f32⟩
  | .hbm, ⟨45, _⟩ => ⟨S4x8x2048x2048, .f32⟩
  | .hbm, ⟨46, _⟩ => ⟨S4x8x2048x2048, .f32⟩
  | .hbm, ⟨47, _⟩ => ⟨S4x8x2048x2048, .f32⟩
  | .hbm, ⟨48, _⟩ => ⟨S4x8x2048x2048, .f32⟩
  | .hbm, ⟨49, _⟩ => ⟨S_, .f32⟩
  | .hbm, ⟨50, _⟩ => ⟨S_, .f32⟩
  | .hbm, ⟨51, _⟩ => ⟨S4x8x2048x2048, .i1⟩
  | .hbm, ⟨52, _⟩ => ⟨S4x8x2048x2048, .f32⟩
  | .hbm, ⟨53, _⟩ => ⟨S4x8x2048x2048, .f32⟩
  | .hbm, ⟨54, _⟩ => ⟨S4x8x2048x64, .f32⟩
  | .hbm, ⟨55, _⟩ => ⟨S4x2048x8x64, .f32⟩
  | .hbm, ⟨56, _⟩ => ⟨S4x2048x512, .f32⟩
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩

abbrev nD : Nat := 1
abbrev τ : Topo := Topo.v7x

variable {F : FTy → Type} [FloatOps F]
-- ==== AdaFwd.lean ====
abbrev S32x1024 : Shape := ⟨2, ![32, 1024]⟩
abbrev S4x1024x768 : Shape := ⟨3, ![4, 1024, 768]⟩
abbrev S4x768 : Shape := ⟨2, ![4, 768]⟩
abbrev S4x1x768 : Shape := ⟨3, ![4, 1, 768]⟩
abbrev S4x32x768 : Shape := ⟨3, ![4, 32, 768]⟩
abbrev S1x1024x768 : Shape := ⟨3, ![1, 1024, 768]⟩
abbrev S1x1x768 : Shape := ⟨3, ![1, 1, 768]⟩
abbrev S1x32x768 : Shape := ⟨3, ![1, 32, 768]⟩
abbrev S1024x768 : Shape := ⟨2, ![1024, 768]⟩
abbrev S32x768 : Shape := ⟨2, ![32, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S4x1024x768, .f32⟩
  | .hbm, ⟨2, _⟩ => ⟨S4x768, .f32⟩
  | .hbm, ⟨3, _⟩ => ⟨S4x1x768, .f32⟩
  | .hbm, ⟨4, _⟩ => ⟨S4x32x768, .f32⟩
  | .local _ .vmem, ⟨0, _⟩ => ⟨S32x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x32x768, .f32⟩
  | .local _ .vmem, ⟨6, _⟩ => ⟨S1x32x768, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S32x1024 : Shape := ⟨2, ![32, 1024]⟩
abbrev S4x1024x768 : Shape := ⟨3, ![4, 1024, 768]⟩
abbrev S4x768 : Shape := ⟨2, ![4, 768]⟩
abbrev S_ : Shape := ⟨0, ![]⟩
abbrev S4x768x32 : Shape := ⟨3, ![4, 768, 32]⟩
abbrev S4x32x768 : Shape := ⟨3, ![4, 32, 768]⟩
abbrev S4x1x768 : Shape := ⟨3, ![4, 1, 768]⟩

abbrev nBuf : Space → Nat
  | .hbm => 17
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S4x1024x768, .f32⟩
  | .hbm, ⟨2, _⟩ => ⟨S4x768, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S4x768x32, .f32⟩
  | .hbm, ⟨13, _⟩ => ⟨S4x32x768, .f32⟩
  | .hbm, ⟨14, _⟩ => ⟨S4x1x768, .f32⟩
  | .hbm, ⟨15, _⟩ => ⟨S4x32x768, .f32⟩
  | .hbm, ⟨16, _⟩ => ⟨S4x32x768, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== NormFwd.lean ====
abbrev S4x2048x1024 : Shape := ⟨3, ![4, 2048, 1024]⟩
abbrev S1024 : Shape := ⟨1, ![1024]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1x1024, .f32⟩
  | .hbm, ⟨5, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormFwdRefIdeal.lean ====
abbrev S4x2048x1024 : Shape := ⟨3, ![4, 2048, 1024]⟩
abbrev S1024 : Shape := ⟨1, ![1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x1x1024, .f32⟩
  | .hbm, ⟨22, _⟩ => ⟨S4x1x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== MergeFwd.lean ====
abbrev S8192x512 : Shape := ⟨2, ![8192, 512]⟩
abbrev S3x512x1024 : Shape := ⟨3, ![3, 512, 1024]⟩
abbrev S8192x6144 : Shape := ⟨2, ![8192, 6144]⟩
abbrev S8192x1024 : Shape := ⟨2, ![8192, 1024]⟩
abbrev S512x512 : Shape := ⟨2, ![512, 512]⟩
abbrev S3x512x512 : Shape := ⟨3, ![3, 512, 512]⟩
abbrev S1x512x512 : Shape := ⟨3, ![1, 512, 512]⟩

abbrev nBuf : Space → Nat
  | .hbm => 13
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S3x512x1024, .f32⟩
  | .hbm, ⟨4, _⟩ => ⟨S8192x6144, .f32⟩
  | .hbm, ⟨5, _⟩ => ⟨S8192x512, .bf16⟩
  | .hbm, ⟨6, _⟩ => ⟨S8192x512, .bf16⟩
  | .hbm, ⟨7, _⟩ => ⟨S3x512x1024, .bf16⟩
  | .hbm, ⟨8, _⟩ => ⟨S8192x6144, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S3x512x512, .bf16⟩
  | .local _ .vmem, ⟨7, _⟩ => ⟨S3x512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeFwdRefIdeal.lean ====
abbrev S8192x512 : Shape := ⟨2, ![8192, 512]⟩
abbrev S3x512x1024 : Shape := ⟨3, ![3, 512, 1024]⟩
abbrev S8192x6144 : Shape := ⟨2, ![8192, 6144]⟩
abbrev S8192x3072 : Shape := ⟨2, ![8192, 3072]⟩
abbrev S8192x3x1024 : Shape := ⟨3, ![8192, 3, 1024]⟩
abbrev S_ : Shape := ⟨0, ![]⟩
abbrev S1x512x1024 : Shape := ⟨3, ![1, 512, 1024]⟩
abbrev S512x1024 : Shape := ⟨2, ![512, 1024]⟩
abbrev S8192x1024 : Shape := ⟨2, ![8192, 1024]⟩
abbrev S8192x1x1024 : Shape := ⟨3, ![8192, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S3x512x1024, .f32⟩
  | .hbm, ⟨4, _⟩ => ⟨S8192x6144, .f32⟩
  | .hbm, ⟨5, _⟩ => ⟨S8192x3072, .f32⟩
  | .hbm, ⟨6, _⟩ => ⟨S8192x3x1024, .f32⟩
  | .hbm, ⟨7, _⟩ => ⟨S8192x3x1024, .f32⟩
  | .hbm, ⟨8, _⟩ => ⟨S8192x3x1024, .f32⟩
  | .hbm, ⟨9, _⟩ => ⟨S_, .f32⟩
  | .hbm, ⟨10, _⟩ => ⟨S8192x3x1024, .f32⟩
  | .hbm, ⟨11, _⟩ => ⟨S8192x3x1024, .f32⟩
  | .hbm, ⟨12, _⟩ => ⟨S_, .f32⟩
  | .hbm, ⟨13, _⟩ => ⟨S8192x3x1024, .f32⟩
  | .hbm, ⟨14, _⟩ => ⟨S8192x3x1024, .f32⟩
  | .hbm, ⟨15, _⟩ => ⟨S1x512x1024, .f32⟩
  | .hbm, ⟨16, _⟩ => ⟨S512x1024, .f32⟩
  | .hbm, ⟨17, _⟩ => ⟨S8192x1024, .f32⟩
  | .hbm, ⟨18, _⟩ => ⟨S1x512x1024, .f32⟩
  | .hbm, ⟨19, _⟩ => ⟨S512x1024, .f32⟩
  | .hbm, ⟨20, _⟩ => ⟨S8192x1024, .f32⟩
  | .hbm, ⟨21, _⟩ => ⟨S1x512x1024, .f32⟩
  | .hbm, ⟨22, _⟩ => ⟨S512x1024, .f32⟩
  | .hbm, ⟨23, _⟩ => ⟨S8192x1024, .f32⟩
  | .hbm, ⟨24, _⟩ => ⟨S8192x1x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | .hbm, ⟨39, _⟩ => ⟨S8192x1024, .bf16⟩
  | .hbm, ⟨40, _⟩ => ⟨S8192x1024, .bf16⟩
  | .hbm, ⟨41, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== GmlpFwd.lean ====
abbrev S4x2048x6144 : Shape := ⟨3, ![4, 2048, 6144]⟩
abbrev S512 : Shape := ⟨1, ![512]⟩
abbrev S4x128x128 : Shape := ⟨3, ![4, 128, 128]⟩
abbrev S4x128 : Shape := ⟨2, ![4, 128]⟩
abbrev S8192x6144 : Shape := ⟨2, ![8192, 6144]⟩
abbrev S1x512 : Shape := ⟨2, ![1, 512]⟩
abbrev S128x4 : Shape := ⟨2, ![128, 4]⟩
abbrev S8192x512 : Shape := ⟨2, ![8192, 512]⟩
abbrev S512x512 : Shape := ⟨2, ![512, 512]⟩
abbrev S128x128 : Shape := ⟨2, ![128, 128]⟩
abbrev S1x128x128 : Shape := ⟨3, ![1, 128, 128]⟩
abbrev S128x512 : Shape := ⟨2, ![128, 512]⟩
abbrev S128 : Shape := ⟨1, ![128]⟩
abbrev S128x1 : Shape := ⟨2, ![128, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x6144, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S8192x6144, .f32⟩
  | .hbm, ⟨6, _⟩ => ⟨S8192x6144, .bf16⟩
  | .hbm, ⟨7, _⟩ => ⟨S1x512, .f32⟩
  | .hbm, ⟨8, _⟩ => ⟨S1x512, .f32⟩
  | .hbm, ⟨9, _⟩ => ⟨S128x4, .f32⟩
  | .hbm, ⟨10, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S512x512, .bf16⟩
  | .local _ .vmem, ⟨9, _⟩ => ⟨S512x512, .bf16⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpFwdRefIdeal.lean ====
abbrev S4x2048x6144 : Shape := ⟨3, ![4, 2048, 6144]⟩
abbrev S512 : Shape := ⟨1, ![512]⟩
abbrev S4x128x128 : Shape := ⟨3, ![4, 128, 128]⟩
abbrev S4x128 : Shape := ⟨2, ![4, 128]⟩
abbrev S4x2048x512 : Shape := ⟨3, ![4, 2048, 512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x16x128x4x128 : Shape := ⟨5, ![4, 16, 128, 4, 128]⟩
abbrev S128x128 : Shape := ⟨2, ![128, 128]⟩
abbrev S1x128x128 : Shape := ⟨3, ![1, 128, 128]⟩
abbrev S4x4x16x128x128 : Shape := ⟨5, ![4, 4, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8192x512 : Shape := ⟨2, ![8192, 512]⟩

abbrev nBuf : Space → Nat
  | .hbm => 97
  | .vmem => 0
  | .smem => 0
  | _ => 0

abbrev bufTy : (tb : Table) → Fin (tcTables nBuf tb) → BufTy
  | .hbm, ⟨0, _⟩ => ⟨S4x2048x6144, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S4x2048x512, .f32⟩
  | .hbm, ⟨6, _⟩ => ⟨S4x2048x512, .f32⟩
  | .hbm, ⟨7, _⟩ => ⟨S4x2048x512, .f32⟩
  | .hbm, ⟨8, _⟩ => ⟨S_, .f32⟩
  | .hbm, ⟨9, _⟩ => ⟨S4x2048x512, .f32⟩
  | .hbm, ⟨10, _⟩ => ⟨S4x2048x512, .f32⟩
  | .hbm, ⟨11, _⟩ => ⟨S4x2048x512, .f32⟩
  | .hbm, ⟨12, _⟩ => ⟨S_, .f32⟩
  | .hbm, ⟨13, _⟩ => ⟨S4x2048x512, .f32⟩
  | .hbm, ⟨14, _⟩ => ⟨S4x2048x512, .f32⟩
  | .hbm, ⟨15, _⟩ => ⟨S4x2048x512, .f32⟩
  | .hbm, ⟨16, _⟩ => ⟨S_, .f32⟩
  | .hbm, ⟨17, _⟩ => ⟨S4x2048x512, .f32⟩
  | .hbm, ⟨18, _⟩ => ⟨S4x2048x512, .f32⟩
  | .hbm, ⟨19, _⟩ => ⟨S_, .f32⟩
  | .hbm, ⟨20, _⟩ => ⟨S4x2048x512, .f32⟩
  | .hbm, ⟨21, _⟩ => ⟨S4x2048x512, .f32⟩
  | .hbm, ⟨22, _⟩ => ⟨S4x2048x512, .f32⟩
  | .hbm, ⟨23, _⟩ => ⟨S4x2048x512, .f32⟩
  | .hbm, ⟨24, _⟩ => ⟨S4x2048x512, .f32⟩
  | .hbm, ⟨25, _⟩ => ⟨S4x2048x512, .f32⟩
  | .hbm, ⟨26, _⟩ => ⟨S_, .f32⟩
  | .hbm, ⟨27, _⟩ => ⟨S4x2048x512, .f32⟩
  | .hbm, ⟨28, _⟩ => ⟨S4x2048x512, .f32⟩
  | .hbm, ⟨29, _⟩ => ⟨S4x2048x512, .f32⟩
  | .hbm, ⟨30, _⟩ => ⟨S_, .f32⟩
  | .hbm, ⟨31, _⟩ => ⟨S4x2048x512, .f32⟩
  | .hbm, ⟨32, _⟩ => ⟨S4x2048x512, .f32⟩
  | .hbm, ⟨33, _⟩ => ⟨S4x2048x512, .f32⟩
  | .hbm, ⟨34, _⟩ => ⟨S_, .f32⟩
  | .hbm, ⟨35, _⟩ => ⟨S4x2048x512, .f32⟩
  | .hbm, ⟨36, _⟩ => ⟨S4x2048x512, .f32⟩
  | .hbm, ⟨37, _⟩ => ⟨S_, .f32⟩
  | .hbm, ⟨38, _⟩ => ⟨S4x2048x512, .f32⟩
  | .hbm, ⟨39, _⟩ => ⟨S4x2048x512, .f32⟩
  | .hbm, ⟨40, _⟩ => ⟨S4x2048x512, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S4x2048x512, .f32⟩
  | .hbm, ⟨48, _⟩ => ⟨S4x2048x512, .f32⟩
  | .hbm, ⟨49, _⟩ => ⟨S4x2048x512, .f32⟩
  | .hbm, ⟨50, _⟩ => ⟨S_, .f32⟩
  | .hbm, ⟨51, _⟩ => ⟨S4x2048, .f32⟩
  | .hbm, ⟨52, _⟩ => ⟨S4x2048x1, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S_, .f32⟩
  | .hbm, ⟨57, _⟩ => ⟨S4x2048x1, .f32⟩
  | .hbm, ⟨58, _⟩ => ⟨S4x2048x1, .f32⟩
  | .hbm, ⟨59, _⟩ => ⟨S4x2048x1, .f32⟩
  | .hbm, ⟨60, _⟩ => ⟨S4x2048x512, .f32⟩
  | .hbm, ⟨61, _⟩ => ⟨S4x2048x512, .f32⟩
  | .hbm, ⟨62, _⟩ => ⟨S1x1x512, .f32⟩
  | .hbm, ⟨63, _⟩ => ⟨S4x2048x512, .f32⟩
  | .hbm, ⟨64, _⟩ => ⟨S4x2048x512, .f32⟩
  | .hbm, ⟨65, _⟩ => ⟨S1x1x512, .f32⟩
  | .hbm, ⟨66, _⟩ => ⟨S4x2048x512, .f32⟩
  | .hbm, ⟨67, _⟩ => ⟨S4x2048x512, .f32⟩
  | .hbm, ⟨68, _⟩ => ⟨S4x16x128x4x128, .f32⟩
  | .hbm, ⟨69, _⟩ => ⟨S_, .i1⟩
  | .hbm, ⟨70, _⟩ => ⟨S128x128, .i1⟩
  | .hbm, ⟨71, _⟩ => ⟨S128x128, .i32⟩
  | .hbm, ⟨72, _⟩ => ⟨S_, .i32⟩
  | .hbm, ⟨73, _⟩ => ⟨S128x128, .i32⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S_, .i1⟩
  | .hbm, ⟨78, _⟩ => ⟨S128x128, .i1⟩
  | .hbm, ⟨79, _⟩ => ⟨S128x128, .i1⟩
  | .hbm, ⟨80, _⟩ => ⟨S1x128x128, .i1⟩
  | .hbm, ⟨81, _⟩ => ⟨S_, .f32⟩
  | .hbm, ⟨82, _⟩ => ⟨S_, .f32⟩
  | .hbm, ⟨83, _⟩ => ⟨S4x128x128, .i1⟩
  | .hbm, ⟨84, _⟩ => ⟨S4x128x128, .f32⟩
  | .hbm, ⟨85, _⟩ => ⟨S4x128x128, .f32⟩
  | .hbm, ⟨86, _⟩ => ⟨S4x4x16x128x128, .f32⟩
  | .hbm, ⟨87, _⟩ => ⟨S4x16x128x4x128, .f32⟩
  | .hbm, ⟨88, _⟩ => ⟨S128x4, .f32⟩
  | .hbm, ⟨89, _⟩ => ⟨S128x4x1, .f32⟩
  | .hbm, ⟨90, _⟩ => ⟨S1x1x128x4x1, .f32⟩
  | .hbm, ⟨91, _⟩ => ⟨S4x16x128x4x128, .f32⟩
  | .hbm, ⟨92, _⟩ => ⟨S4x16x128x4x128, .f32⟩
  | .hbm, ⟨93, _⟩ => ⟨S4x2048x512, .f32⟩
  | .hbm, ⟨94, _⟩ => ⟨S4x2048x512, .f32⟩
  | .hbm, ⟨95, _⟩ => ⟨S8192x512, .f32⟩
  | .hbm, ⟨96, _⟩ => ⟨S8192x512, .bf16⟩
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c : Ref sig .tc := ⟨.hbm, 69, rfl⟩
abbrev main_v51 : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_c_0 : Ref sig .tc := ⟨.hbm, 77, rfl⟩
abbrev main_call0_v5 : Ref sig .tc := ⟨.hbm, 78, rfl⟩
abbrev main_v52 : Ref sig .tc := ⟨.hbm, 79, rfl⟩
abbrev main_v53 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== OutFwd.lean ====
abbrev S8192x1024 : Shape := ⟨2, ![8192, 1024]⟩
abbrev S1024x1024 : Shape := ⟨2, ![1024, 1024]⟩
abbrev S4x2048x1024 : Shape := ⟨3, ![4, 2048, 1024]⟩
abbrev S4x1x1024 : Shape := ⟨3, ![4, 1, 1024]⟩
abbrev S1x1x1024 : Shape := ⟨3, ![1, 1, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S4x2048x1024, .f32⟩
  | .hbm, ⟨3, _⟩ => ⟨S4x1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .f32⟩
  | .hbm, ⟨8, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutFwdRefIdeal.lean ====
abbrev S8192x1024 : Shape := ⟨2, ![8192, 1024]⟩
abbrev S1024x1024 : Shape := ⟨2, ![1024, 1024]⟩
abbrev S4x2048x1024 : Shape := ⟨3, ![4, 2048, 1024]⟩
abbrev S4x1x1024 : Shape := ⟨3, ![4, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S4x2048x1024, .f32⟩
  | .hbm, ⟨3, _⟩ => ⟨S4x1x1024, .f32⟩
  | .hbm, ⟨4, _⟩ => ⟨S8192x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== FfnIn.lean ====
abbrev S8192x1024 : Shape := ⟨2, ![8192, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S8x1024x2x352 : Shape := ⟨4, ![8, 1024, 2, 352]⟩
abbrev S_ : Shape := ⟨0, ![]⟩
abbrev S8x1024x2x384 : Shape := ⟨4, ![8, 1024, 2, 384]⟩
abbrev S8x1024x768 : Shape := ⟨3, ![8, 1024, 768]⟩
abbrev S8192x3072 : Shape := ⟨2, ![8192, 3072]⟩
abbrev S1024x1024 : Shape := ⟨2, ![1024, 1024]⟩
abbrev S1x1024x768 : Shape := ⟨3, ![1, 1024, 768]⟩
abbrev S1024x768 : Shape := ⟨2, ![1024, 768]⟩
abbrev S8192x8x384 : Shape := ⟨3, ![8192, 8, 384]⟩
abbrev S8192x8x352 : Shape := ⟨3, ![8192, 8, 352]⟩
abbrev S8192x2816 : Shape := ⟨2, ![8192, 2816]⟩

abbrev nBuf : Space → Nat
  | .hbm => 23
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x8x704, .f32⟩
  | .hbm, ⟨3, _⟩ => ⟨S8x1024x704, .f32⟩
  | .hbm, ⟨4, _⟩ => ⟨S8x1024x2x352, .f32⟩
  | .hbm, ⟨5, _⟩ => ⟨S_, .i32⟩
  | .hbm, ⟨6, _⟩ => ⟨S_, .f32⟩
  | .hbm, ⟨7, _⟩ => ⟨S8x1024x2x384, .f32⟩
  | .hbm, ⟨8, _⟩ => ⟨S8x1024x768, .f32⟩
  | .hbm, ⟨9, _⟩ => ⟨S8x1024x768, .bf16⟩
  | .hbm, ⟨10, _⟩ => ⟨S8192x1024, .bf16⟩
  | .hbm, ⟨11, _⟩ => ⟨S8192x3072, .bf16⟩
  | .hbm, ⟨12, _⟩ => ⟨S8192x3072, .bf16⟩
  | .hbm, ⟨13, _⟩ => ⟨S8192x3072, .bf16⟩
  | .hbm, ⟨14, _⟩ => ⟨S8192x8x384, .bf16⟩
  | .hbm, ⟨15, _⟩ => ⟨S8192x8x352, .bf16⟩
  | .hbm, ⟨16, _⟩ => ⟨S8192x2816, .bf16⟩
  | .hbm, ⟨17, _⟩ => ⟨S8192x8x384, .bf16⟩
  | .hbm, ⟨18, _⟩ => ⟨S8192x8x352, .bf16⟩
  | .hbm, ⟨19, _⟩ => ⟨S8192x2816, .bf16⟩
  | .hbm, ⟨20, _⟩ => ⟨S8192x8x384, .bf16⟩
  | .hbm, ⟨21, _⟩ => ⟨S8192x8x352, .bf16⟩
  | .hbm, ⟨22, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | .hbm, ⟨16, _⟩ => ⟨S8192x2816, .bf16⟩
  | .hbm, ⟨17, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== PoolFwd.lean ====
abbrev S4x2048x6144 : Shape := ⟨3, ![4, 2048, 6144]⟩
abbrev S4x128x128 : Shape := ⟨3, ![4, 128, 128]⟩
abbrev S512 : Shape := ⟨1, ![512]⟩
abbrev S1x512 : Shape := ⟨2, ![1, 512]⟩
abbrev S4x2048x512 : Shape := ⟨3, ![4, 2048, 512]⟩
abbrev S1x2048x512 : Shape := ⟨3, ![1, 2048, 512]⟩
abbrev S128x128 : Shape := ⟨2, ![128, 128]⟩
abbrev S1x128x128 : Shape := ⟨3, ![1, 128, 128]⟩
abbrev S128x1 : Shape := ⟨2, ![128, 1]⟩
abbrev S1x128 : Shape := ⟨2, ![1, 128]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x6144, .f32⟩
  | .hbm, ⟨1, _⟩ => ⟨S4x128x128, .f32⟩
  | .hbm, ⟨2, _⟩ => ⟨S512, .f32⟩
  | .hbm, ⟨3, _⟩ => ⟨S4x2048x6144, .bf16⟩
  | .hbm, ⟨4, _⟩ => ⟨S1x512, .f32⟩
  | .hbm, ⟨5, _⟩ => ⟨S4x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S4x128x128, .f32⟩
  | .local _ .vmem, ⟨3, _⟩ => ⟨S1x512, .f32⟩
  | .local _ .vmem, ⟨4, _⟩ => ⟨S1x2048x512, .bf16⟩
  | .local _ .vmem, ⟨5, _⟩ => ⟨S1x2048x512, .bf16⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32_30 : BitVec 32 := 16#32
  let v86 : BitVec 32 := Scalar.addi c0_i32 c16_i32_30
  let c1_i32 : BitVec 32 := 1#32
  ⟨c0_i32, v86, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32_32 : BitVec 32 := 128#32
  let v87 : BitVec 32 := Scalar.muli arg5 c128_i32_32
  v87
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c1_i32_33 : BitVec 32 := 1#32
  let v89 : BitVec 32 := Scalar.subi arg5 c1_i32_33
  let c0_i32_34 : BitVec 32 := 0#32
  let v90 : BitVec 32 := Scalar.maxsi v89 c0_i32_34
  let c128_i32_35 : BitVec 32 := 128#32
  let v91 : BitVec 32 := Scalar.muli v90 c128_i32_35
  v91
def k0_off1 (k0_t1 : Fin k0_t1_loop.trips) : Fin 3 → Nat :=
  let c0_39 : Index := 0#32
  let c0_i32 : BitVec 32 := 0#32
  let c1_i32 : BitVec 32 := 1#32
  let arg5 : BitVec 32 := Scf.iv c0_i32 c1_i32 k0_t1
  let c128_i32_32 : BitVec 32 := 128#32
  let v87 : BitVec 32 := Scalar.muli arg5 c128_i32_32
  let v88 : BitVec 32 := v87
  let v95 : Index := Scalar.indexCast v88
  let c0_40 : Index := 0#32
  ![0, v95.toNat, 0]
def k0_off2 (k0_t1 : Fin k0_t1_loop.trips) : Fin 3 → Nat :=
  let c0_41 : Index := 0#32
  let c0_i32 : BitVec 32 := 0#32
  let c1_i32 : BitVec 32 := 1#32
  let arg5 : BitVec 32 := Scf.iv c0_i32 c1_i32 k0_t1
  let c1_i32_33 : BitVec 32 := 1#32
  let v89 : BitVec 32 := Scalar.subi arg5 c1_i32_33
  let c0_i32_34 : BitVec 32 := 0#32
  let v90 : BitVec 32 := Scalar.maxsi v89 c0_i32_34
  let c128_i32_35 : BitVec 32 := 128#32
  let v91 : BitVec 32 := Scalar.muli v90 c128_i32_35
  let v92 : BitVec 32 := v91
  let v98 : Index := Scalar.indexCast v92
  let c0_42 : Index := 0#32
  ![0, v98.toNat, 0]
def k0_off3 (k0_t1 : Fin k0_t1_loop.trips) : Fin 3 → Nat :=
  let c0_53 : Index := 0#32
  let c0_i32 : BitVec 32 := 0#32
  let c1_i32 : BitVec 32 := 1#32
  let arg5 : BitVec 32 := Scf.iv c0_i32 c1_i32 k0_t1
  let c128_i32_32 : BitVec 32 := 128#32
  let v87 : BitVec 32 := Scalar.muli arg5 c128_i32_32
  let v88 : BitVec 32 := v87
  let v131 : Index := Scalar.indexCast v88
  let c128 : Index := 128#32
  ![0, v131.toNat, 128]
def k0_off4 (k0_t1 : Fin k0_t1_loop.trips) : Fin 3 → Nat :=
  let c0_54 : Index := 0#32
  let c0_i32 : BitVec 32 := 0#32
  let c1_i32 : BitVec 32 := 1#32
  let arg5 : BitVec 32 := Scf.iv c0_i32 c1_i32 k0_t1
  let c1_i32_33 : BitVec 32 := 1#32
  let v89 : BitVec 32 := Scalar.subi arg5 c1_i32_33
  let c0_i32_34 : BitVec 32 := 0#32
  let v90 : BitVec 32 := Scalar.maxsi v89 c0_i32_34
  let c128_i32_35 : BitVec 32 := 128#32
  let v91 : BitVec 32 := Scalar.muli v90 c128_i32_35
  let v92 : BitVec 32 := v91
  let v134 : Index := Scalar.indexCast v92
  let c128_55 : Index := 128#32
  ![0, v134.toNat, 128]
def k0_off5 (k0_t1 : Fin k0_t1_loop.trips) : Fin 3 → Nat :=
  let c0_66 : Index := 0#32
  let c0_i32 : BitVec 32 := 0#32
  let c1_i32 : BitVec 32 := 1#32
  let arg5 : BitVec 32 := Scf.iv c0_i32 c1_i32 k0_t1
  let c128_i32_32 : BitVec 32 := 128#32
  let v87 : BitVec 32 := Scalar.muli arg5 c128_i32_32
  let v88 : BitVec 32 := v87
  let v167 : Index := Scalar.indexCast v88
  let c256 : Index := 256#32
  ![0, v167.toNat, 256]
def k0_off6 (k0_t1 : Fin k0_t1_loop.trips) : Fin 3 → Nat :=
  let c0_67 : Index := 0#32
  let c0_i32 : BitVec 32 := 0#32
  let c1_i32 : BitVec 32 := 1#32
  let arg5 : BitVec 32 := Scf.iv c0_i32 c1_i32 k0_t1
  let c1_i32_33 : BitVec 32 := 1#32
  let v89 : BitVec 32 := Scalar.subi arg5 c1_i32_33
  let c0_i32_34 : BitVec 32 := 0#32
  let v90 : BitVec 32 := Scalar.maxsi v89 c0_i32_34
  let c128_i32_35 : BitVec 32 := 128#32
  let v91 : BitVec 32 := Scalar.muli v90 c128_i32_35
  let v92 : BitVec 32 := v91
  let v170 : Index := Scalar.indexCast v92
  let c256_68 : Index := 256#32
  ![0, v170.toNat, 256]
def k0_off7 (k0_t1 : Fin k0_t1_loop.trips) : Fin 3 → Nat :=
  let c0_79 : Index := 0#32
  let c0_i32 : BitVec 32 := 0#32
  let c1_i32 : BitVec 32 := 1#32
  let arg5 : BitVec 32 := Scf.iv c0_i32 c1_i32 k0_t1
  let c128_i32_32 : BitVec 32 := 128#32
  let v87 : BitVec 32 := Scalar.muli arg5 c128_i32_32
  let v88 : BitVec 32 := v87
  let v203 : Index := Scalar.indexCast v88
  let c384 : Index := 384#32
  ![0, v203.toNat, 384]
def k0_off8 (k0_t1 : Fin k0_t1_loop.trips) : Fin 3 → Nat :=
  let c0_80 : Index := 0#32
  let c0_i32 : BitVec 32 := 0#32
  let c1_i32 : BitVec 32 := 1#32
  let arg5 : BitVec 32 := Scf.iv c0_i32 c1_i32 k0_t1
  let c1_i32_33 : BitVec 32 := 1#32
  let v89 : BitVec 32 := Scalar.subi arg5 c1_i32_33
  let c0_i32_34 : BitVec 32 := 0#32
  let v90 : BitVec 32 := Scalar.maxsi v89 c0_i32_34
  let c128_i32_35 : BitVec 32 := 128#32
  let v91 : BitVec 32 := Scalar.muli v90 c128_i32_35
  let v92 : BitVec 32 := v91
  let v206 : Index := Scalar.indexCast v92
  let c384_81 : Index := 384#32
  ![0, v206.toNat, 384]
def cc0_transform_0 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolFwdRefIdeal.lean ====
abbrev S4x2048x6144 : Shape := ⟨3, ![4, 2048, 6144]⟩
abbrev S4x128x128 : Shape := ⟨3, ![4, 128, 128]⟩
abbrev S512 : Shape := ⟨1, ![512]⟩
abbrev S4x2048x512 : Shape := ⟨3, ![4, 2048, 512]⟩
abbrev S4x2048x4x128 : Shape := ⟨4, ![4, 2048, 4, 128]⟩
abbrev S_ : Shape := ⟨0, ![]⟩
abbrev S2048 : Shape := ⟨1, ![2048]⟩
abbrev S4x2048x1x128 : Shape := ⟨4, ![4, 2048, 1, 128]⟩
abbrev S4x2048x128 : Shape := ⟨3, ![4, 2048, 128]⟩
abbrev S4x2x128 : Shape := ⟨3, ![4, 2, 128]⟩
abbrev S4x2046x128 : Shape := ⟨3, ![4, 2046, 128]⟩
abbrev S1x2048x1 : Shape := ⟨3, ![1, 2048, 1]⟩
abbrev S4x4x128 : Shape := ⟨3, ![4, 4, 128]⟩
abbrev S4x2044x128 : Shape := ⟨3, ![4, 2044, 128]⟩
abbrev S4x8x128 : Shape := ⟨3, ![4, 8, 128]⟩
abbrev S4x2040x128 : Shape := ⟨3, ![4, 2040, 128]⟩
abbrev S4x16x128 : Shape := ⟨3, ![4, 16, 128]⟩
abbrev S4x2032x128 : Shape := ⟨3, ![4, 2032, 128]⟩
abbrev S4x128x4x2048 : Shape := ⟨4, ![4, 128, 4, 2048]⟩
abbrev S1x1x512 : Shape := ⟨3, ![1, 1, 512]⟩

abbrev nBuf : Space → Nat
  | .hbm => 101
  | .vmem => 0
  | .smem => 0
  | _ => 0

abbrev bufTy : (tb : Table) → Fin (tcTables nBuf tb) → BufTy
  | .hbm, ⟨0, _⟩ => ⟨S4x2048x6144, .f32⟩
  | .hbm, ⟨1, _⟩ => ⟨S4x128x128, .f32⟩
  | .hbm, ⟨2, _⟩ => ⟨S512, .f32⟩
  | .hbm, ⟨3, _⟩ => ⟨S4x2048x512, .f32⟩
  | .hbm, ⟨4, _⟩ => ⟨S4x2048x4x128, .f32⟩
  | .hbm, ⟨5, _⟩ => ⟨S_, .f32⟩
  | .hbm, ⟨6, _⟩ => ⟨S_, .f32⟩
  | .hbm, ⟨7, _⟩ => ⟨S4x2048x4x128, .f32⟩
  | .hbm, ⟨8, _⟩ => ⟨S2048, .i32⟩
  | .hbm, ⟨9, _⟩ => ⟨S4x2048x1x128, .f32⟩
  | .hbm, ⟨10, _⟩ => ⟨S4x2048x128, .f32⟩
  | .hbm, ⟨11, _⟩ => ⟨S_, .f32⟩
  | .hbm, ⟨12, _⟩ => ⟨S4x2x128, .f32⟩
  | .hbm, ⟨13, _⟩ => ⟨S4x2046x128, .f32⟩
  | .hbm, ⟨14, _⟩ => ⟨S4x2048x128, .f32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .f32⟩
  | .hbm, ⟨22, _⟩ => ⟨S1x2048x1, .f32⟩
  | .hbm, ⟨23, _⟩ => ⟨S4x2048x128, .f32⟩
  | .hbm, ⟨24, _⟩ => ⟨S4x2048x128, .f32⟩
  | .hbm, ⟨25, _⟩ => ⟨S4x2048x128, .f32⟩
  | .hbm, ⟨26, _⟩ => ⟨S4x2048x1x128, .f32⟩
  | .hbm, ⟨27, _⟩ => ⟨S4x2048x128, .f32⟩
  | .hbm, ⟨28, _⟩ => ⟨S4x2048x128, .f32⟩
  | .hbm, ⟨29, _⟩ => ⟨S4x2048x1x128, .f32⟩
  | .hbm, ⟨30, _⟩ => ⟨S4x2048x128, .f32⟩
  | .hbm, ⟨31, _⟩ => ⟨S_, .f32⟩
  | .hbm, ⟨32, _⟩ => ⟨S4x4x128, .f32⟩
  | .hbm, ⟨33, _⟩ => ⟨S4x2044x128, .f32⟩
  | .hbm, ⟨34, _⟩ => ⟨S4x2048x128, .f32⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .f32⟩
  | .hbm, ⟨42, _⟩ => ⟨S1x2048x1, .f32⟩
  | .hbm, ⟨43, _⟩ => ⟨S4x2048x128, .f32⟩
  | .hbm, ⟨44, _⟩ => ⟨S4x2048x128, .f32⟩
  | .hbm, ⟨45, _⟩ => ⟨S4x2048x128, .f32⟩
  | .hbm, ⟨46, _⟩ => ⟨S4x2048x1x128, .f32⟩
  | .hbm, ⟨47, _⟩ => ⟨S4x2048x128, .f32⟩
  | .hbm, ⟨48, _⟩ => ⟨S4x2048x128, .f32⟩
  | .hbm, ⟨49, _⟩ => ⟨S4x2048x1x128, .f32⟩
  | .hbm, ⟨50, _⟩ => ⟨S4x2048x128, .f32⟩
  | .hbm, ⟨51, _⟩ => ⟨S_, .f32⟩
  | .hbm, ⟨52, _⟩ => ⟨S4x8x128, .f32⟩
  | .hbm, ⟨53, _⟩ => ⟨S4x2040x128, .f32⟩
  | .hbm, ⟨54, _⟩ => ⟨S4x2048x128, .f32⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .f32⟩
  | .hbm, ⟨62, _⟩ => ⟨S1x2048x1, .f32⟩
  | .hbm, ⟨63, _⟩ => ⟨S4x2048x128, .f32⟩
  | .hbm, ⟨64, _⟩ => ⟨S4x2048x128, .f32⟩
  | .hbm, ⟨65, _⟩ => ⟨S4x2048x128, .f32⟩
  | .hbm, ⟨66, _⟩ => ⟨S4x2048x1x128, .f32⟩
  | .hbm, ⟨67, _⟩ => ⟨S4x2048x128, .f32⟩
  | .hbm, ⟨68, _⟩ => ⟨S4x2048x128, .f32⟩
  | .hbm, ⟨69, _⟩ => ⟨S4x2048x1x128, .f32⟩
  | .hbm, ⟨70, _⟩ => ⟨S4x2048x128, .f32⟩
  | .hbm, ⟨71, _⟩ => ⟨S_, .f32⟩
  | .hbm, ⟨72, _⟩ => ⟨S4x16x128, .f32⟩
  | .hbm, ⟨73, _⟩ => ⟨S4x2032x128, .f32⟩
  | .hbm, ⟨74, _⟩ => ⟨S4x2048x128, .f32⟩
  | .hbm, ⟨75, _⟩ => ⟨S_, .i32⟩
  | .hbm, ⟨76, _⟩ => ⟨S2048, .i32⟩
  | .hbm, ⟨77, _⟩ => ⟨S2048, .i32⟩
  | .hbm, ⟨78, _⟩ => ⟨S_, .i32⟩
  | .hbm, ⟨79, _⟩ => ⟨S2048, .i32⟩
  | .hbm, ⟨80, _⟩ => ⟨S2048, .i32⟩
  | .hbm, ⟨81, _⟩ => ⟨S2048, .f32⟩
  | .hbm, ⟨82, _⟩ => ⟨S1x2048x1, .f32⟩
  | .hbm, ⟨83, _⟩ => ⟨S4x2048x128, .f32⟩
  | .hbm, ⟨84, _⟩ => ⟨S4x2048x128, .f32⟩
  | .hbm, ⟨85, _⟩ => ⟨S4x2048x128, .f32⟩
  | .hbm, ⟨86, _⟩ => ⟨S4x2048x1x128, .f32⟩
  | .hbm, ⟨87, _⟩ => ⟨S4x2048x128, .f32⟩
  | .hbm, ⟨88, _⟩ => ⟨S4x2048x128, .f32⟩
  | .hbm, ⟨89, _⟩ => ⟨S4x2048x1x128, .f32⟩
  | .hbm, ⟨90, _⟩ => ⟨S4x2048x1x128, .f32⟩
  | .hbm, ⟨91, _⟩ => ⟨S4x2048x1x128, .f32⟩
  | .hbm, ⟨92, _⟩ => ⟨S4x2048x1x128, .f32⟩
  | .hbm, ⟨93, _⟩ => ⟨S4x2048x4x128, .f32⟩
  | .hbm, ⟨94, _⟩ => ⟨S4x128x4x2048, .f32⟩
  | .hbm, ⟨95, _⟩ => ⟨S4x2048x4x128, .f32⟩
  | .hbm, ⟨96, _⟩ => ⟨S4x2048x512, .f32⟩
  | .hbm, ⟨97, _⟩ => ⟨S1x1x512, .f32⟩
  | .hbm, ⟨98, _⟩ => ⟨S4x2048x512, .f32⟩
  | .hbm, ⟨99, _⟩ => ⟨S4x2048x512, .f32⟩
  | .hbm, ⟨100, _⟩ => ⟨S4x2048x512, .bf16⟩
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_c_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_8 : Ref sig .tc := ⟨.hbm, 75, rfl⟩
abbrev main_v60 : Ref sig .tc := ⟨.hbm, 76, rfl⟩
abbrev main_v61 : Ref sig .tc := ⟨.hbm, 77, rfl⟩
abbrev main_c_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩

abbrev nD : Nat := 1
abbrev τ : Topo := Topo.v7x

variable {F : FTy → Type} [FloatOps F]
-- ==== OutDgrad.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDgradRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProjFwd.lean ====
abbrev S8192x1024 : Shape := ⟨2, ![8192, 1024]⟩
abbrev S1024x6144 : Shape := ⟨2, ![1024, 6144]⟩
abbrev S1024x8x768 : Shape := ⟨3, ![1024, 8, 768]⟩
abbrev S8x1024x768 : Shape := ⟨3, ![8, 1024, 768]⟩
abbrev S8192x6144 : Shape := ⟨2, ![8192, 6144]⟩
abbrev S2048x1024 : Shape := ⟨2, ![2048, 1024]⟩
abbrev S1x1024x768 : Shape := ⟨3, ![1, 1024, 768]⟩
abbrev S2048x768 : Shape := ⟨2, ![2048, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S1024x8x768, .f32⟩
  | .hbm, ⟨3, _⟩ => ⟨S8x1024x768, .f32⟩
  | .hbm, ⟨4, _⟩ => ⟨S8x1024x768, .bf16⟩
  | .hbm, ⟨5, _⟩ => ⟨S8192x1024, .bf16⟩
  | .hbm, ⟨6, _⟩ => ⟨S8192x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFwdRefIdeal.lean ====
abbrev S8192x1024 : Shape := ⟨2, ![8192, 1024]⟩
abbrev S1024x6144 : Shape := ⟨2, ![1024, 6144]⟩
abbrev S8192x6144 : Shape := ⟨2, ![8192, 6144]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x6144, .f32⟩
  | .hbm, ⟨3, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjDgrad.lean ====
abbrev S8192x1024 : Shape := ⟨2, ![8192, 1024]⟩
abbrev S1024x6144 : Shape := ⟨2, ![1024, 6144]⟩
abbrev S8192x6144 : Shape := ⟨2, ![8192, 6144]⟩
abbrev S1024x8x768 : Shape := ⟨3, ![1024, 8, 768]⟩
abbrev S8x1024x768 : Shape := ⟨3, ![8, 1024, 768]⟩
abbrev S2048x768 : Shape := ⟨2, ![2048, 768]⟩
abbrev S1x1024x768 : Shape := ⟨3, ![1, 1024, 768]⟩
abbrev S2048x1024 : Shape := ⟨2, ![2048, 1024]⟩
abbrev S1024x768 : Shape := ⟨2, ![1024, 768]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x6144, .f32⟩
  | .hbm, ⟨3, _⟩ => ⟨S1024x8x768, .f32⟩
  | .hbm, ⟨4, _⟩ => ⟨S8x1024x768, .f32⟩
  | .hbm, ⟨5, _⟩ => ⟨S8x1024x768, .bf16⟩
  | .hbm, ⟨6, _⟩ => ⟨S8192x6144, .bf16⟩
  | .hbm, ⟨7, _⟩ => ⟨S8192x1024, .f32⟩
  | .local _ .vmem, ⟨0, _⟩ => ⟨S2048x768, .bf16⟩
  | .local _ .vmem, ⟨1, _⟩ => ⟨S2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ProjDgradRefIdeal.lean ====
abbrev S8192x1024 : Shape := ⟨2, ![8192, 1024]⟩
abbrev S1024x6144 : Shape := ⟨2, ![1024, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x6144, .f32⟩
  | .hbm, ⟨3, _⟩ => ⟨S8192x6144, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ProjWgrad.lean ====
abbrev S8192x1024 : Shape := ⟨2, ![8192, 1024]⟩
abbrev S1024x6144 : Shape := ⟨2, ![1024, 6144]⟩
abbrev S8192x6144 : Shape := ⟨2, ![8192, 6144]⟩
abbrev S8x1024x768 : Shape := ⟨3, ![8, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x6144, .f32⟩
  | .hbm, ⟨3, _⟩ => ⟨S8192x1024, .bf16⟩
  | .hbm, ⟨4, _⟩ => ⟨S8192x6144, .bf16⟩
  | .hbm, ⟨5, _⟩ => ⟨S8x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ProjWgradRefIdeal.lean ====
abbrev S8192x1024 : Shape := ⟨2, ![8192, 1024]⟩
abbrev S1024x6144 : Shape := ⟨2, ![1024, 6144]⟩
abbrev S8192x6144 : Shape := ⟨2, ![8192, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x6144, .f32⟩
  | .hbm, ⟨3, _⟩ => ⟨S8192x6144, .f32⟩
  | .hbm, ⟨4, _⟩ => ⟨S6144x1024, .f32⟩
  | .hbm, ⟨5, _⟩ => ⟨S1024x6144, .f32⟩
  | .hbm, ⟨6, _⟩ => ⟨S1024x8x768, .f32⟩
  | .hbm, ⟨7, _⟩ => ⟨S8x1024x768, .f32⟩
  | .hbm, ⟨8, _⟩ => ⟨S8x1024x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnOutWgrad.lean ====
abbrev S8192x3072 : Shape := ⟨2, ![8192, 3072]⟩
abbrev S3072x1024 : Shape := ⟨2, ![3072, 1024]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x3072, .f32⟩
  | .hbm, ⟨1, _⟩ => ⟨S3072x1024, .f32⟩
  | .hbm, ⟨2, _⟩ => ⟨S8192x1024, .f32⟩
  | .hbm, ⟨3, _⟩ => ⟨S8192x3072, .bf16⟩
  | .hbm, ⟨4, _⟩ => ⟨S8192x1024, .bf16⟩
  | .hbm, ⟨5, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutWgradRefIdeal.lean ====
abbrev S8192x3072 : Shape := ⟨2, ![8192, 3072]⟩
abbrev S3072x1024 : Shape := ⟨2, ![3072, 1024]⟩
abbrev S8192x1024 : Shape := ⟨2, ![8192, 1024]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3072x1024, .f32⟩
  | .hbm, ⟨2, _⟩ => ⟨S8192x1024, .f32⟩
  | .hbm, ⟨3, _⟩ => ⟨S8192x1024, .f32⟩
  | .hbm, ⟨4, _⟩ => ⟨S1024x3072, .f32⟩
  | .hbm, ⟨5, _⟩ => ⟨S3072x1024, .f32⟩
  | .hbm, ⟨6, _⟩ => ⟨S3072x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnInDgrad.lean ====
abbrev S8192x1024 : Shape := ⟨2, ![8192, 1024]⟩
abbrev S1024x6144 : Shape := ⟨2, ![1024, 6144]⟩
abbrev S8192x3072 : Shape := ⟨2, ![8192, 3072]⟩
abbrev S1024x8x768 : Shape := ⟨3, ![1024, 8, 768]⟩
abbrev S8x1024x768 : Shape := ⟨3, ![8, 1024, 768]⟩
abbrev S2048x768 : Shape := ⟨2, ![2048, 768]⟩
abbrev S1x1024x768 : Shape := ⟨3, ![1, 1024, 768]⟩
abbrev S2048x1024 : Shape := ⟨2, ![2048, 1024]⟩
abbrev S1024x768 : Shape := ⟨2, ![1024, 768]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x3072, .f32⟩
  | .hbm, ⟨3, _⟩ => ⟨S8192x3072, .f32⟩
  | .hbm, ⟨4, _⟩ => ⟨S1024x8x768, .f32⟩
  | .hbm, ⟨5, _⟩ => ⟨S8x1024x768, .f32⟩
  | .hbm, ⟨6, _⟩ => ⟨S8x1024x768, .bf16⟩
  | .hbm, ⟨7, _⟩ => ⟨S8192x3072, .bf16⟩
  | .hbm, ⟨8, _⟩ => ⟨S8192x3072, .bf16⟩
  | .hbm, ⟨9, _⟩ => ⟨S8192x1024, .f32⟩
  | .local _ .vmem, ⟨0, _⟩ => ⟨S2048x768, .bf16⟩
  | .local _ .vmem, ⟨1, _⟩ => ⟨S2048x768, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond4 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnInDgradRefIdeal.lean ====
abbrev S8192x1024 : Shape := ⟨2, ![8192, 1024]⟩
abbrev S1024x6144 : Shape := ⟨2, ![1024, 6144]⟩
abbrev S8192x3072 : Shape := ⟨2, ![8192, 3072]⟩
abbrev S8192x6144 : Shape := ⟨2, ![8192, 6144]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x3072, .f32⟩
  | .hbm, ⟨3, _⟩ => ⟨S8192x3072, .f32⟩
  | .hbm, ⟨4, _⟩ => ⟨S8192x6144, .f32⟩
  | .hbm, ⟨5, _⟩ => ⟨S8192x3072, .f32⟩
  | .hbm, ⟨6, _⟩ => ⟨S8192x3072, .f32⟩
  | .hbm, ⟨7, _⟩ => ⟨S8192x6144, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== FfnInWgrad.lean ====
abbrev S8192x1024 : Shape := ⟨2, ![8192, 1024]⟩
abbrev S1024x6144 : Shape := ⟨2, ![1024, 6144]⟩
abbrev S8192x3072 : Shape := ⟨2, ![8192, 3072]⟩
abbrev S8x768x1024 : Shape := ⟨3, ![8, 768, 1024]⟩
abbrev S2048x1024 : Shape := ⟨2, ![2048, 1024]⟩
abbrev S2048x768 : Shape := ⟨2, ![2048, 768]⟩
abbrev S1x768x1024 : Shape := ⟨3, ![1, 768, 1024]⟩
abbrev S768x1024 : Shape := ⟨2, ![768, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x3072, .f32⟩
  | .hbm, ⟨3, _⟩ => ⟨S8192x3072, .f32⟩
  | .hbm, ⟨4, _⟩ => ⟨S8192x1024, .bf16⟩
  | .hbm, ⟨5, _⟩ => ⟨S8192x3072, .bf16⟩
  | .hbm, ⟨6, _⟩ => ⟨S8192x3072, .bf16⟩
  | .hbm, ⟨7, _⟩ => ⟨S8x768x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S2048x768, .bf16⟩
  | .local _ .vmem, ⟨5, _⟩ => ⟨S2048x768, .bf16⟩
  | .local _ .vmem, ⟨6, _⟩ => ⟨S1x768x1024, .bf16⟩
  | .local _ .vmem, ⟨7, _⟩ => ⟨S1x768x1024, .bf16⟩
  | .local _ .vmem, ⟨8, _⟩ => ⟨S768x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c0_i32 : BitVec 32 := 0#32
  let v1 : BitVec 32 := Scalar.select v0 arg1 c0_i32
  let c3_i32 : BitVec 32 := 3#32
  let v2 : BitVec 32 := Scalar.minsi arg0 c3_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c0_i32 : BitVec 32 := 0#32
  let v1 : BitVec 32 := Scalar.select v0 c0_i32 arg1
  let c4_i32_0 : BitVec 32 := 4#32
  let v2 : BitVec 32 := Scalar.subi arg0 c4_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnInWgradRefIdeal.lean ====
abbrev S8192x1024 : Shape := ⟨2, ![8192, 1024]⟩
abbrev S1024x6144 : Shape := ⟨2, ![1024, 6144]⟩
abbrev S8192x3072 : Shape := ⟨2, ![8192, 3072]⟩
abbrev S8192x6144 : Shape := ⟨2, ![8192, 6144]⟩
abbrev S6144x1024 : Shape := ⟨2, ![6144, 1024]⟩
abbrev S1024x8x768 : Shape := ⟨3, ![1024, 8, 768]⟩
abbrev S8x768x1024 : Shape := ⟨3, ![8, 768, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S8192x3072, .f32⟩
  | .hbm, ⟨3, _⟩ => ⟨S8192x3072, .f32⟩
  | .hbm, ⟨4, _⟩ => ⟨S8192x6144, .f32⟩
  | .hbm, ⟨5, _⟩ => ⟨S8192x3072, .f32⟩
  | .hbm, ⟨6, _⟩ => ⟨S8192x3072, .f32⟩
  | .hbm, ⟨7, _⟩ => ⟨S8192x6144, .f32⟩
  | .hbm, ⟨8, _⟩ => ⟨S6144x1024, .f32⟩
  | .hbm, ⟨9, _⟩ => ⟨S1024x6144, .f32⟩
  | .hbm, ⟨10, _⟩ => ⟨S1024x8x768, .f32⟩
  | .hbm, ⟨11, _⟩ => ⟨S8x768x1024, .f32⟩
  | .hbm, ⟨12, _⟩ => ⟨S8x768x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Parts.Ada.lean ====
module

public import proofs.«01_k».proof.Proof.Gen.AdaIdeal.Frame
public import proofs.«01_k».proof.Proof.Gen.AdaRefIdeal.Run
public import Idealize.ShloMosaic.Lib.Pipeline.ValueKit
public import Idealize.ShloMosaic.Lib.Pointwise

/-! The modulation weights' gradient: what the kernel writes is the reference's product of the gated
conditioning vector with the cotangent, layer by layer. -/

@[expose] public section

set_option maxRecDepth 16384

noncomputable section

open Idealize.ShloMosaic Idealize.ShloMosaic.TcCoe Idealize.SL.Sem
open Idealize.ShloMosaic.Pipeline (Dat)

namespace Cert.AdaRefIdeal.Value

open Cert.AdaRefIdeal Cert.AdaRefIdeal.Gen Idealize.ShloMosaic.StableHlo

/-- The reference's result as one term of its arguments. -/
def REF (a0 : FVec Ideal S32x1024 .f32) (a2 : FVec Ideal S4x32x768 .f32) : FVec Ideal S4x1024x768 .f32 :=
  transpose S4x1024x768 [0, 2, 1] (Host.dotGeneral dot_S4x768x32_S32x1024_S4x768x1024_2_0_01_1_n_n none (transpose S4x768x32 [0, 2, 1] a2 transposes_S4x32x768_S4x768x32_0_2_1) (mulf a0 (Host.divf (broadcastInDim S32x1024 ![] bcast_S_S32x1024 (constant S_ .f32 0x3F800000#32)) (addf (broadcastInDim S32x1024 ![] bcast_S_S32x1024 (constant S_ .f32 0x3F800000#32)) (Host.exp (Host.negf a0)))))) transposes_S4x768x1024_S4x1024x768_0_2_1

end Cert.AdaRefIdeal.Value

namespace Cert.AdaIdeal.Value

open Cert.AdaIdeal Cert.AdaIdeal.Gen Cert.AdaRefIdeal.Value

variable (m : (ℓ : Loc nD τ sig) → Buf (Elt Ideal) ℓ)

theorem idx_val : ∀ t : Fin cfg0.N, win0_0.index t = ![0, 0]
    ∧ win0_1.index t = ![t.val, 0, 0]
    ∧ win0_2.index t = ![t.val, 0, 0] :=
  (by decide +kernel : ∀ t : Fin grid0.N, _)

/-- A stored element is the reference's element of the same layer. -/
theorem pay (x : FVec Ideal S32x1024 .f32) (d : FVec Ideal S1x32x768 .f32) (a2 : FVec Ideal S4x32x768 .f32)
    (l : Fin 4) (h : ∀ (b : Fin 32) (n : Fin 768), d (ix3 0 b n) = a2 (ix3 l b n)) (k : Fin 1024) (n : Fin 768) :
    k0_pay1 (F := Ideal) x d (ix3 0 k n) = REF x a2 (ix3 l k n) := by
  pointwise [k0_pay1, REF]
  refine Finset.sum_congr rfl fun b _ => ?_
  rw [h, mul_comm]
  rfl

theorem point (c : Dev nD) (t : Fin cfg0.N) (y) :
    k0_pay1 (iblk m c 0 t) (iblk m c 1 t) y
      = REF (m ((c : Thread nD τ).loc main_arg0)) (m ((c : Thread nD τ).loc main_arg2))
          (((cfg0.win 2).blk t).view.emb y) := by
  idx_vars y
  have e : ((cfg0.win 2).blk t).view.emb (ix3 y0 y1 y2) = ix3 (⟨t.val, t.isLt⟩ : Fin 4) y1 y2 := by
    blk_ext [idx_val t]
  have h0 : iblk m c 0 t = m ((c : Thread nD τ).loc main_arg0) := by
    funext i; blk_point [iblk, V, idx_val t]
  rw [e, h0, Subsingleton.elim y0 0]
  refine pay _ _ _ ⟨t.val, t.isLt⟩ (fun b n => ?_) y1 y2
  blk_point [iblk, V, idx_val t]

/-- The result array is the reference's. -/
theorem final (c : Dev nD) : (dats m 0 c).arrAt 2 (cfgs 0).N
    = REF (m ((c : Thread nD τ).loc main_arg0)) (m ((c : Thread nD τ).loc main_arg2)) := by
  refine (dats m 0 c).arrAt_eq_of_covers 2 _ (by decide +kernel) fun t hf y => ?_
  blk_simp; rw [after0_2]; frame_out
  exact point m c t y

end Cert.AdaIdeal.Value

end
-- ==== Proof.Parts.AdaClaim.lean ====
module

public import proofs.«01_k».proof.Defs
public import proofs.«01_k».proof.Proof.Gen.Ada.Frame
public import proofs.«01_k».proof.Proof.Parts.Ada
public import Idealize.ShloMosaic.Lib.Claim

/-! The claims about the modulation weights' gradient. -/

@[expose] public section

set_option maxRecDepth 16384

noncomputable section

open Idealize.ShloMosaic Idealize.ShloMosaic.TcCoe Idealize.SL.Sem

namespace Cert.AdaIdeal.Value

theorem frame_ref : Cert.quiescent_AdaRefIdeal := by
  intro m g _
  exact (θ_run Cert.AdaRefIdeal.defs _ _).mono
    (fun r h => ⟨fun c => (h c).2, Idealize.ShloMosaic.sem_eq_zero_of_no_sems (by decide) r.2⟩)
    (Cert.AdaRefIdeal.Value.run (F := Ideal) m g)

theorem algebraic : Cert.algebraic_AdaIdeal_AdaRefIdeal := by
  pair_intro
  · run_from Cert.AdaIdeal.Gen.run_main m g
  · run_from Cert.AdaRefIdeal.Value.run m' g'
    exact (final m c).symm

end Cert.AdaIdeal.Value

end
-- ==== Proof.Parts.Merge.lean ====
module

public import proofs.«01_k».proof.Proof.Gen.MergeIdeal.Frame
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 1]
    ∧ win0_5.index t = ![t.val, 1]
    ∧ win0_6.index t = ![t.val, 0]
    ∧ win0_7.index t = ![t.val, 0]
    ∧ win0_8.index t = ![t.val, 0] :=
  (by decide +kernel : ∀ t : Fin grid0.N, _)

abbrev A0 (c : Dev nD) : FVec Ideal S8192x1024 .f32 := m ((c : Thread nD τ).loc main_arg0)
abbrev A1 (c : Dev nD) : FVec Ideal S8192x512 .f32 := m ((c : Thread nD τ).loc main_arg1)
abbrev A2 (c : Dev nD) : FVec Ideal S8192x512 .f32 := m ((c : Thread nD τ).loc main_arg2)
abbrev A3 (c : Dev nD) : FVec Ideal S8192x512 .f32 := m ((c : Thread nD τ).loc main_arg3)
abbrev A4 (c : Dev nD) : FVec Ideal S3x512x1024 .f32 := m ((c : Thread nD τ).loc main_arg4)
abbrev A5 (c : Dev nD) : FVec Ideal S8192x6144 .f32 := m ((c : Thread nD τ).loc main_arg5)

/-- Row `r` of point `t`'s block as a row of the array. -/
abbrev row (t : Fin cfg0.N) (r : Fin 512) : Fin 8192 := ⟨512 * t.val + r.val, by have : t.val < 16 := t.isLt; omega⟩

theorem blk0 (c : Dev nD) (t : Fin cfg0.N) (r : Fin 512) (j : Fin 1024) :
    (show FVec Ideal S512x1024 .bf16 from iblk m c 0 t) (ix2 r j) = A0 m c (ix2 (row t r) j) := by
  blk_point [iblk, idx_val t]

theorem blk1 (c : Dev nD) (t : Fin cfg0.N) (r : Fin 512) (j : Fin 1024) :
    (show FVec Ideal S512x1024 .bf16 from iblk m c 1 t) (ix2 r j) = ∑ k : Fin 512, A1 m c (ix2 (row t r) k) * A4 m c (ix3 0 k j) := by
  refine (congrArg (V m c (Pipeline.arrRef spec0 1)) (show ((cfg0.win 1).blk t).view.emb (ix2 r j) = ix2 (row t r) j by blk_ext [idx_val t])).trans ?_
  entry_read; pointwise

theorem blk2 (c : Dev nD) (t : Fin cfg0.N) (r : Fin 512) (j : Fin 1024) :
    (show FVec Ideal S512x1024 .bf16 from iblk m c 2 t) (ix2 r j) = ∑ k : Fin 512, A2 m c (ix2 (row t r) k) * A4 m c (ix3 1 k j) := by
  refine (congrArg (V m c (Pipeline.arrRef spec0 2)) (show ((cfg0.win 2).blk t).view.emb (ix2 r j) = ix2 (row t r) j by blk_ext [idx_val t])).trans ?_
  entry_read; pointwise

theorem blk3 (c : Dev nD) (t : Fin cfg0.N) (r : Fin 512) (j : Fin 1024) :
    (show FVec Ideal S512x1024 .bf16 from iblk m c 3 t) (ix2 r j) = ∑ k : Fin 512, A3 m c (ix2 (row t r) k) * A4 m c (ix3 2 k j) := by
  refine (congrArg (V m c (Pipeline.arrRef spec0 3)) (show ((cfg0.win 3).blk t).view.emb (ix2 r j) = ix2 (row t r) j by blk_ext [idx_val t])).trans ?_
  entry_read; pointwise

theorem blk4 (c : Dev nD) (t : Fin cfg0.N) (r : Fin 512) (j : Fin 3072) :
    (show FVec Ideal S512x3072 .bf16 from iblk m c 4 t) (ix2 r j) = A5 m c (ix2 (row t r) ⟨3072 + j.val, by omega⟩) := by
  blk_point [iblk, idx_val t]

/-- The reference's cotangent of the projection. -/
def RES_5 (c : Dev nD) : FVec Ideal S8192x6144 .bf16 :=
  MergeRefIdeal.Read.val_main_v51 (F := Ideal) (A0 m c) (A1 m c) (A2 m c) (A3 m c) (A4 m c) (A5 m c)

/-- The reference's first branch cotangent. -/
def RES_6 (c : Dev nD) : FVec Ideal S8192x1024 .bf16 :=
  MergeRefIdeal.Read.val_main_v52 (F := Ideal) (A0 m c) (A5 m c)

theorem point_6 (c : Dev nD) (t : Fin cfg0.N) (y) :
    k0_pay7 (iblk m c 0 t) (View.ld (iblk m c 4 t) r0_1) y
      = RES_6 m c (((cfg0.win 6).blk t).view.emb y) := by
  idx_vars y
  rw [show ((cfg0.win 6).blk t).view.emb (ix2 y0 y1) = ix2 (row t y0) y1 by blk_ext [idx_val t]]
  unfold RES_6
  rw [← MergeRefIdeal.Read.val_main_v52_eq]
  open_payloads
  pointwise [blk0 m c t, blk4 m c t]
  exact mul_comm _ _

theorem final_6 (c : Dev nD) : (dats m 0 c).arrAt 6 (cfgs 0).N = RES_6 m c := by
  refine (dats m 0 c).arrAt_eq_of_covers 6 _ (by decide +kernel) fun t hf y => ?_
  blk_simp; rw [after0_6]; frame_out
  exact point_6 m c t y

/-- The reference's second branch cotangent. -/
def RES_7 (c : Dev nD) : FVec Ideal S8192x1024 .bf16 :=
  MergeRefIdeal.Read.val_main_v53 (F := Ideal) (A0 m c) (A5 m c)

theorem point_7 (c : Dev nD) (t : Fin cfg0.N) (y) :
    k0_pay10 (iblk m c 0 t) (View.ld (iblk m c 4 t) r0_2) y
      = RES_7 m c (((cfg0.win 7).blk t).view.emb y) := by
  idx_vars y
  rw [show ((cfg0.win 7).blk t).view.emb (ix2 y0 y1) = ix2 (row t y0) y1 by blk_ext [idx_val t]]
  unfold RES_7
  rw [← MergeRefIdeal.Read.val_main_v53_eq]
  open_payloads
  pointwise [blk0 m c t, blk4 m c t]
  exact mul_comm _ _

theorem final_7 (c : Dev nD) : (dats m 0 c).arrAt 7 (cfgs 0).N = RES_7 m c := by
  refine (dats m 0 c).arrAt_eq_of_covers 7 _ (by decide +kernel) fun t hf y => ?_
  blk_simp; rw [after0_7]; frame_out
  exact point_7 m c t y

/-- The reference's third branch cotangent. -/
def RES_8 (c : Dev nD) : FVec Ideal S8192x1024 .bf16 :=
  MergeRefIdeal.Read.val_main_v54 (F := Ideal) (A0 m c) (A5 m c)

theorem point_8 (c : Dev nD) (t : Fin cfg0.N) (y) :
    k0_pay3 (k0_pay11 (iblk m c 0 t) (iblk m c 1 t) (iblk m c 2 t) (iblk m c 3 t) (iblk m c 4 t)) (View.ld (iblk m c 4 t) r0_3) y
      = RES_8 m c (((cfg0.win 8).blk t).view.emb y) := by
  idx_vars y
  rw [show ((cfg0.win 8).blk t).view.emb (ix2 y0 y1) = ix2 (row t y0) y1 by blk_ext [idx_val t]]
  unfold RES_8
  rw [← MergeRefIdeal.Read.val_main_v54_eq]
  open_payloads
  pointwise [blk0 m c t, blk4 m c t]
  exact mul_comm _ _

theorem final_8 (c : Dev nD) : (dats m 0 c).arrAt 8 (cfgs 0).N = RES_8 m c := by
  refine (dats m 0 c).arrAt_eq_of_covers 8 _ (by decide +kernel) fun t hf y => ?_
  blk_simp; rw [after0_8]; frame_out
  exact point_8 m c t y

set_option maxHeartbeats 1600000 in
theorem point_5 (c : Dev nD) (t : Fin cfg0.N) (y) :
    out0_5 (iblk m c 0 t) (iblk m c 1 t) (iblk m c 2 t) (iblk m c 3 t) (iblk m c 4 t) y
      = RES_5 m c (((cfg0.win 5).blk t).view.emb y) := by
  unfold RES_5
  rw [← MergeRefIdeal.Read.val_main_v51_eq]
  idx_vars y
  rw [show ((cfg0.win 5).blk t).view.emb (ix2 y0 y1) = ix2 (row t y0) ⟨3072 + y1.val, by omega⟩ by blk_ext [idx_val t]]
  canon_tiles x h
  all_goals
    idx_vars x
    obtain rfl : y0 = x0 := Fin.ext h0
  case piece0 =>
    obtain ⟨y1, hy⟩ := y1
    obtain rfl : y1 = 2048 + x1.val := h1
    open_payloads
    pointwise [blk0 m c t, blk1 m c t, blk2 m c t, blk3 m c t, blk4 m c t]
    have e1 : (2048 + x1.val) / 1024 = 2 := by omega
    have e2 : (2048 + x1.val) % 1024 = x1.val := by omega
    have e3 : 512 * t.val + y0.val < 8192 := (row t y0).isLt
    simp only [e1, e2, e3, x1_lt, true_and, and_true, Nat.reduceLeDiff, Nat.reduceLT, Nat.reduceSub, Nat.lt_irrefl, le_refl,
      false_and, and_self, dite_true, dite_false, zero_add, add_zero, zero_mul]
    exact mul_assoc _ _ _
  case piece1 =>
    obtain ⟨y1, hy⟩ := y1
    obtain rfl : y1 = 1024 + x1.val := h1
    open_payloads
    pointwise [blk0 m c t, blk1 m c t, blk2 m c t, blk3 m c t, blk4 m c t]
    have e1 : (1024 + x1.val) / 1024 = 1 := by omega
    have e2 : (1024 + x1.val) % 1024 = x1.val := by omega
    have e3 : 512 * t.val + y0.val < 8192 := (row t y0).isLt
    simp only [e1, e2, e3, x1_lt, true_and, and_true, Nat.reduceLeDiff, Nat.reduceLT, Nat.reduceSub, Nat.lt_irrefl, le_refl,
      false_and, and_self, dite_true, dite_false, zero_add, add_zero, zero_mul]
    exact mul_assoc _ _ _
  case piece2 =>
    obtain ⟨y1, hy⟩ := y1
    obtain rfl : y1 = x1.val := h1
    open_payloads
    pointwise [blk0 m c t, blk1 m c t, blk2 m c t, blk3 m c t, blk4 m c t]
    have e1 : (x1.val) / 1024 = 0 := by omega
    have e2 : (x1.val) % 1024 = x1.val := by omega
    have e3 : 512 * t.val + y0.val < 8192 := (row t y0).isLt
    simp only [e1, e2, e3, x1_lt, true_and, and_true, Nat.reduceLeDiff, Nat.reduceLT, Nat.reduceSub, Nat.lt_irrefl, le_refl,
      false_and, and_self, dite_true, dite_false, zero_add, add_zero, zero_mul]
    exact mul_assoc _ _ _

/-- The first result's array: the cotangent from column 3072 on, what the buffer held before it. -/
theorem final_5 (c : Dev nD) : (dats m 0 c).arrAt 5 (cfgs 0).N
    = fun i => if 3072 ≤ (i 1).val then RES_5 m c i else V m c main_v14_0 i := by
  refine (dats m 0 c).arrAt_eq_of_coversWhere 5 _ (fun β => 1 ≤ β (1 : Fin 2)) (by decide +kernel)
    (fun t hf y => ?_) (fun j => by blk_simp [Pipeline.Window.cell_apply]; omega)
  blk_simp; rw [after0_5]
  exact point_5 m c t y

end Cert.MergeIdeal.Value

end
-- ==== Proof.Parts.MergeClaim.lean ====
module

public import proofs.«01_k».proof.Defs
public import proofs.«01_k».proof.Proof.Gen.Merge.Frame
public import proofs.«01_k».proof.Proof.Parts.Merge
public import Idealize.ShloMosaic.Lib.Claim

/-! The claims about the Merge. -/

@[expose] public section

set_option maxRecDepth 16384

noncomputable section

open Idealize.ShloMosaic Idealize.ShloMosaic.TcCoe Idealize.SL.Sem

namespace Cert.MergeIdeal.Value

theorem frame_ref : Cert.quiescent_MergeRefIdeal := by
  intro m g _
  exact (θ_run Cert.MergeRefIdeal.defs _ _).mono
    (fun r h => ⟨fun c => (h c).2.2.2.2, Idealize.ShloMosaic.sem_eq_zero_of_no_sems (by decide) r.2⟩)
    (Cert.MergeRefIdeal.Value.run (F := Ideal) m g)

/-- The kernel's run: the first result from column 3072 on, the other three whole. -/
theorem run_kernel (m : (ℓ : Loc Cert.MergeIdeal.nD Cert.MergeIdeal.τ Cert.MergeIdeal.sig) → Buf (Elt Ideal) ℓ) (g : Dev Cert.MergeIdeal.nD → PrngReg) :
    θ_run (Cert.MergeIdeal.defs (F := Ideal)) (onTc (τ := Cert.MergeIdeal.τ) (Cert.MergeIdeal.main (F := Ideal))) ⟨m, fun _ => 0, g⟩ (fun r => ∀ c : Dev Cert.MergeIdeal.nD,
      r.2.mem ((c.tc : Thread Cert.MergeIdeal.nD Cert.MergeIdeal.τ).loc Cert.MergeIdeal.main_v14_0) = (fun i => if 3072 ≤ (i 1).val then RES_5 m c i else Gen.V m c main_v14_0 i)
      ∧ r.2.mem ((c.tc : Thread Cert.MergeIdeal.nD Cert.MergeIdeal.τ).loc Cert.MergeIdeal.main_v14_1) = RES_6 m c
      ∧ r.2.mem ((c.tc : Thread Cert.MergeIdeal.nD Cert.MergeIdeal.τ).loc Cert.MergeIdeal.main_v14_2) = RES_7 m c
      ∧ r.2.mem ((c.tc : Thread Cert.MergeIdeal.nD Cert.MergeIdeal.τ).loc Cert.MergeIdeal.main_v14_3) = RES_8 m c
      ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)) := by
  run_from Cert.MergeIdeal.Gen.run_main m g
  · exact final_5 m c
  · exact final_6 m c
  · exact final_7 m c
  · exact final_8 m c

/-- Where the mask of the first result is set, the column is one of the gates'. -/
theorem col_of_mask [Cert.On_written_merge.Facts] (a0 a1 a2 a3 a4 a5) (i)
    (h : (Cert.On_written_merge.fn (F := Ideal) a0 a1 a2 a3 a4 a5).1 i = 1#1) : 3072 ≤ (i 1).val := by
  idx_vars i
  have h' : IntOp.cmpi .sge (BitVec.ofNat 32 i1.val) 3072#32 = 1#1 := h
  have hlt : i1.val < 6144 := i1.isLt
  have hs : (3072#32).sle (BitVec.ofNat 32 i1.val) = true := by
    cases e : (3072#32).sle (BitVec.ofNat 32 i1.val) with
    | true => rfl
    | false => simp [IntOp.cmpi, e] at h'
  have hn : (BitVec.ofNat 32 i1.val).toNat = i1.val := by
    rw [BitVec.toNat_ofNat]; exact Nat.mod_eq_of_lt (by omega)
  rw [BitVec.sle_iff_toInt_le, BitVec.toInt_eq_toNat_of_lt (x := BitVec.ofNat 32 i1.val) (by rw [hn]; omega), hn] at hs
  change 3072 ≤ i1.val
  have e : (3072#32).toInt = 3072 := by decide
  omega

theorem algebraic [Cert.On_written_merge.Facts] : Cert.algebraic_MergeIdeal_MergeRefIdeal_on_written_merge := by
  intro m g m' g' hpre hagree
  refine ⟨fun c => RES_5 m c, fun c => RES_6 m c, fun c => RES_7 m c, fun c => RES_8 m c, ?_, ?_⟩
  · exact (θ_run Cert.MergeIdeal.defs _ _).mono (fun r h c =>
      ⟨fun i hi => (congrFun (h c).1 i).trans (if_pos (col_of_mask _ _ _ _ _ _ i hi)),
        fun i _ => congrFun (h c).2.1 i, fun i _ => congrFun (h c).2.2.1 i, fun i _ => congrFun (h c).2.2.2.1 i, (h c).2.2.2.2⟩)
      (run_kernel m g)
  · refine (θ_run Cert.MergeRefIdeal.defs _ _).mono (fun r h c =>
      ⟨fun i _ => congrFun ((h c).1.trans ?_) i, fun i _ => congrFun ((h c).2.1.trans ?_) i,
        fun i _ => congrFun ((h c).2.2.1.trans ?_) i, fun i _ => congrFun ((h c).2.2.2.1.trans ?_) i, (h c).2.2.2.2⟩)
      (Cert.MergeRefIdeal.Value.run m' g')
    all_goals obtain ⟨h0, h1, h2, h3, h4, h5⟩ := hagree c
    · rw [MergeRefIdeal.Read.val_main_v51_eq, h0, h1, h2, h3, h4, h5]; rfl
    · rw [MergeRefIdeal.Read.val_main_v52_eq, h0, h5]; rfl
    · rw [MergeRefIdeal.Read.val_main_v53_eq, h0, h5]; rfl
    · rw [MergeRefIdeal.Read.val_main_v54_eq, h0, h5]; rfl

end Cert.MergeIdeal.Value

end
-- ==== Proof.Parts.Finite.lean ====
module

public import Idealize.ShloMosaic.Lib.StableHlo
public import Idealize.ShloMosaic.PureOps
public import Idealize.ShloMosaic.PureOps.Ideal.Laws
public import Idealize.ShloMosaic.Lib.ReduceAll
public import Idealize.ShloMosaic.Lib.Pointwise

/-! What a precondition of finite arguments says: every element is a real number. -/

@[expose] public section

noncomputable section

open Idealize.ShloMosaic

namespace Cert.Finite

/-- An extended real whose absolute value is below infinity is a real. -/
theorem real_of_abs_lt (x : EReal) (h : max x (-x) < ⊤) : ∃ r : ℝ, x = r := by
  induction x using EReal.rec with
  | bot => simp at h
  | coe r => exact ⟨r, rfl⟩
  | top => simp at h

/-- The check of one argument: all its elements are reals. -/
theorem all_real {s t u : Shape} {axes : List (Fin s.rank)} [Subsingleton t.Idx] (x y : FVec Ideal s .f32) (hy : ∀ i, y i = (⊤ : EReal))
    (init : IVec u 1) (h : s.ReducesTo axes t) (hu : 0 < u.numel) (j : t.Idx)
    (e : Host.reduce IntOp.andi (cmpf .olt (Host.absf x) y) init h hu j = 1#1) : ∃ f : s.Idx → ℝ, x = fun i => (f i : EReal) := by
  suffices key : ∀ i : s.Idx, ∃ r : ℝ, x i = (r : EReal) by
    choose f hf using key
    exact ⟨f, funext hf⟩
  intro i
  have hi := Host.reduce_andi_all _ _ _ _ j e i
  refine real_of_abs_lt (x i) ?_
  have hb : BitVec.ofBool (decide (max (x i) (-x i) < y i)) = 1#1 := hi
  rw [hy i] at hb
  by_contra hn
  simp [hn] at hb

/-- The infinity constant spread over a shape. -/
theorem inf_const {s u : Shape} (dims : Fin u.rank → Fin s.rank) (h : u.BroadcastsInDim s dims) (i : s.Idx) :
    broadcastInDim s dims h (constant (F := Ideal) u .f32 0x7F800000#32) i = (⊤ : EReal) := by
  pointwise
  simp [Ideal.ofBits, Ideal.ieee]

theorem and_one {a b : BitVec 1} (h : IntOp.andi a b = 1#1) : a = 1#1 ∧ b = 1#1 := by
  revert a b; decide

end Cert.Finite

end
-- ==== Proof.Parts.FfnOut.lean ====
module

public import proofs.«01_k».proof.Proof.Gen.FfnOutIdeal.Frame
public import proofs.«01_k».proof.Proof.Gen.FfnOutRefIdeal.Run
public import proofs.«01_k».proof.Proof.Gen.FfnOutRefIdeal.Read
public import proofs.«01_k».proof.Proof.Parts.Finite
public import Idealize.ShloMosaic.Lib.Pipeline.ValueKit
public import Idealize.ShloMosaic.Lib.Pointwise

/-! The feed-forward output's gradient: the cotangent times the output weights' transpose, through the gated product's
derivative, on columns padded block by block. -/

@[expose] public section

set_option maxRecDepth 16384

noncomputable section

open Idealize.ShloMosaic Idealize.ShloMosaic.TcCoe Idealize.SL.Sem
open Idealize.ShloMosaic.Pipeline (Dat)
open scoped BigOperators

namespace Cert.FfnOutIdeal.Value

open Cert.FfnOutIdeal Cert.FfnOutIdeal.Gen

variable (m : (ℓ : Loc nD τ sig) → Buf (Elt Ideal) ℓ)

theorem idx_val : ∀ t : Fin cfg0.N, win0_0.index t = ![t.val / 4, 0]
    ∧ win0_1.index t = ![t.val % 4, 0]
    ∧ win0_2.index t = ![t.val / 4, t.val % 4]
    ∧ win0_3.index t = ![t.val / 4, t.val % 4]
    ∧ win0_4.index t = ![t.val / 4, t.val % 4]
    ∧ win0_5.index t = ![t.val / 4, t.val % 4] :=
  (by decide +kernel : ∀ t : Fin grid0.N, _)

abbrev A0 (c : Dev nD) : FVec Ideal S8192x1024 .f32 := m ((c : Thread nD τ).loc main_arg0)
abbrev A1 (c : Dev nD) : FVec Ideal S2816x1024 .f32 := m ((c : Thread nD τ).loc main_arg1)
abbrev A2 (c : Dev nD) : FVec Ideal S8192x2816 .f32 := m ((c : Thread nD τ).loc main_arg2)
abbrev A3 (c : Dev nD) : FVec Ideal S8192x2816 .f32 := m ((c : Thread nD τ).loc main_arg3)

/-- The padded operands, as the region finds them. -/
def P1 (c : Dev nD) : FVec Ideal S3072x1024 .bf16 := V m c (Pipeline.arrRef spec0 1)
def P2 (c : Dev nD) : FVec Ideal S8192x3072 .bf16 := V m c (Pipeline.arrRef spec0 2)
def P3 (c : Dev nD) : FVec Ideal S8192x3072 .bf16 := V m c (Pipeline.arrRef spec0 3)

abbrev row (t : Fin cfg0.N) (r : Fin 1024) : Fin 8192 := ⟨1024 * (t.val / 4) + r.val, by have := t.isLt; have : cfg0.N = 32 := rfl; omega⟩
abbrev col (t : Fin cfg0.N) (j : Fin 768) : Fin 3072 := ⟨768 * (t.val % 4) + j.val, by omega⟩

theorem blk0 (c : Dev nD) (t : Fin cfg0.N) (r : Fin 1024) (j : Fin 1024) :
    (show FVec Ideal S1024x1024 .bf16 from iblk m c 0 t) (ix2 r j) = A0 m c (ix2 (row t r) j) := by
  blk_point [iblk, idx_val t]
theorem blk1 (c : Dev nD) (t : Fin cfg0.N) (r : Fin 768) (j : Fin 1024) :
    (show FVec Ideal S768x1024 .bf16 from iblk m c 1 t) (ix2 r j) = P1 m c (ix2 (col t r) j) :=
  congrArg (V m c (Pipeline.arrRef spec0 1)) (show ((cfg0.win 1).blk t).view.emb (ix2 r j) = ix2 (col t r) j by blk_ext [idx_val t])
theorem blk2 (c : Dev nD) (t : Fin cfg0.N) (r : Fin 1024) (j : Fin 768) :
    (show FVec Ideal S1024x768 .bf16 from iblk m c 2 t) (ix2 r j) = P2 m c (ix2 (row t r) (col t j)) :=
  congrArg (V m c (Pipeline.arrRef spec0 2)) (show ((cfg0.win 2).blk t).view.emb (ix2 r j) = ix2 (row t r) (col t j) by blk_ext [idx_val t])
theorem blk3 (c : Dev nD) (t : Fin cfg0.N) (r : Fin 1024) (j : Fin 768) :
    (show FVec Ideal S1024x768 .bf16 from iblk m c 3 t) (ix2 r j) = P3 m c (ix2 (row t r) (col t j)) :=
  congrArg (V m c (Pipeline.arrRef spec0 3)) (show ((cfg0.win 3).blk t).view.emb (ix2 r j) = ix2 (row t r) (col t j) by blk_ext [idx_val t])

/-- The hidden cotangent at a padded column. -/
def df (c : Dev nD) (r : Fin 8192) (q : Fin 3072) : EReal := ∑ k : Fin 1024, A0 m c (ix2 r k) * P1 m c (ix2 q k)

/-- The two results on the padded columns. -/
def RES_4 (c : Dev nD) : FVec Ideal S8192x3072 .bf16 := fun i =>
  df m c (i 0) (i 1) * P3 m c i * (Ideal.logistic (P2 m c i) + P2 m c i * Ideal.logistic (P2 m c i) * (1 - Ideal.logistic (P2 m c i)))
def RES_5 (c : Dev nD) : FVec Ideal S8192x3072 .bf16 := fun i => df m c (i 0) (i 1) * (P2 m c i * Ideal.logistic (P2 m c i))

theorem final_4 (c : Dev nD) : (dats m 0 c).arrAt 4 (cfgs 0).N = RES_4 m c := by
  refine (dats m 0 c).arrAt_eq_of_covers 4 _ (by decide +kernel) fun t hf y => ?_
  blk_simp; rw [after0_4]; frame_out
  idx_vars y
  rw [show ((cfg0.win 4).blk t).view.emb (ix2 y0 y1) = ix2 (row t y0) (col t y1) by blk_ext [idx_val t]]
  open_payloads
  pointwise [blk0 m c t, blk1 m c t, blk2 m c t, blk3 m c t]
  rfl

theorem final_5 (c : Dev nD) : (dats m 0 c).arrAt 5 (cfgs 0).N = RES_5 m c := by
  refine (dats m 0 c).arrAt_eq_of_covers 5 _ (by decide +kernel) fun t hf y => ?_
  blk_simp; rw [after0_5]; frame_out
  idx_vars y
  rw [show ((cfg0.win 5).blk t).view.emb (ix2 y0 y1) = ix2 (row t y0) (col t y1) by blk_ext [idx_val t]]
  open_payloads
  pointwise [blk0 m c t, blk1 m c t, blk2 m c t]
  rfl

/-- The padded column of a block's column. -/
abbrev pcol (q : Fin 2816) : Fin 3072 := ⟨q.val / 352 * 384 + q.val % 352, by omega⟩

theorem pad1 (c : Dev nD) (q : Fin 2816) (k : Fin 1024) : P1 m c (ix2 (pcol q) k) = A1 m c (ix2 q k) := by
  change V m c main_v4 (ix2 (pcol q) k) = _
  simp only [V, V0, List.flatten_cons, List.flatten_nil, hostOps0, hostOps0_1, hostOps0_2, hostOps0_3, hostOps0_4, hostOps0_5, hostOps0_6, List.cons_append, List.nil_append, List.append_nil]
  entry_read
  simp only [StableHlo.TRef.toBuf, StableHlo.TRef.ofBuf, cast_eq]
  pointwise
  have e : (q.val / 352 * 384 + q.val % 352) / 384 * 352 + (q.val / 352 * 384 + q.val % 352) % 384 = q.val := by omega
  rw [dif_pos ⟨by omega, by omega⟩]
  exact congrArg (fun z => A1 m c (ix2 z k)) (Fin.ext e)
theorem pad2 (c : Dev nD) (r : Fin 8192) (q : Fin 2816) : P2 m c (ix2 r (pcol q)) = A2 m c (ix2 r q) := by
  change V m c main_v8 (ix2 r (pcol q)) = _
  simp only [V, V0, List.flatten_cons, List.flatten_nil, hostOps0, hostOps0_1, hostOps0_2, hostOps0_3, hostOps0_4, hostOps0_5, hostOps0_6, List.cons_append, List.nil_append, List.append_nil]
  entry_read
  simp only [StableHlo.TRef.toBuf, StableHlo.TRef.ofBuf, cast_eq]
  pointwise
  have e : (q.val / 352 * 384 + q.val % 352) / 384 * 352 + (q.val / 352 * 384 + q.val % 352) % 384 = q.val := by omega
  rw [dif_pos ⟨by omega, by omega⟩]
  exact congrArg (fun z => A2 m c (ix2 r z)) (Fin.ext e)
theorem pad3 (c : Dev nD) (r : Fin 8192) (q : Fin 2816) : P3 m c (ix2 r (pcol q)) = A3 m c (ix2 r q) := by
  change V m c main_v12 (ix2 r (pcol q)) = _
  simp only [V, V0, List.flatten_cons, List.flatten_nil, hostOps0, hostOps0_1, hostOps0_2, hostOps0_3, hostOps0_4, hostOps0_5, hostOps0_6, List.cons_append, List.nil_append, List.append_nil]
  entry_read
  simp only [StableHlo.TRef.toBuf, StableHlo.TRef.ofBuf, cast_eq]
  pointwise
  have e : (q.val / 352 * 384 + q.val % 352) / 384 * 352 + (q.val / 352 * 384 + q.val % 352) % 384 = q.val := by omega
  rw [dif_pos ⟨by omega, by omega⟩]
  exact congrArg (fun z => A3 m c (ix2 r z)) (Fin.ext e)

/-- Sums of products of reals are reals. -/
theorem coe_dot {n : ℕ} (f g : Fin n → ℝ) : ∑ k, (f k : EReal) * (g k : EReal) = ((∑ k, f k * g k : ℝ) : EReal) := by
  induction n with
  | zero => simp
  | succ n ih => rw [Fin.sum_univ_succ, Fin.sum_univ_succ, ih, ← EReal.coe_mul, ← EReal.coe_add]

/-- The gated product's derivative at reals: the reference's two terms are the kernel's one. -/
theorem gate_deriv (d u g : ℝ) :
    (d : EReal) * (u : EReal) * Ideal.div 1 (1 + Ideal.exp (-(g : EReal)))
        + (g : EReal) * ((d : EReal) * (u : EReal)) * (Ideal.div 1 (1 + Ideal.exp (-(g : EReal))) * (1 - Ideal.div 1 (1 + Ideal.exp (-(g : EReal)))))
      = (d : EReal) * (u : EReal) * (Ideal.logistic (g : EReal) + (g : EReal) * Ideal.logistic (g : EReal) * (1 - Ideal.logistic (g : EReal))) := by
  change _ * Ideal.logistic g + _ * (Ideal.logistic g * (1 - Ideal.logistic g)) = _
  rw [Ideal.logistic_coe]
  norm_cast
  ring

/-- At real arguments the kernel's first result is the reference's, column by column. -/
theorem res_4 (c : Dev nD) (f0 : S8192x1024.Idx → ℝ) (f1 : S2816x1024.Idx → ℝ) (f2 f3 : S8192x2816.Idx → ℝ)
    (h0 : A0 m c = fun i => (f0 i : EReal)) (h1 : A1 m c = fun i => (f1 i : EReal)) (h2 : A2 m c = fun i => (f2 i : EReal))
    (h3 : A3 m c = fun i => (f3 i : EReal)) (r : Fin 8192) (q : Fin 2816) :
    RES_4 m c (ix2 r (pcol q)) = FfnOutRefIdeal.Read.val_main_v7 (F := Ideal) (A0 m c) (A1 m c) (A2 m c) (A3 m c) (ix2 r q) := by
  rw [← FfnOutRefIdeal.Read.val_main_v7_eq]
  have hl : RES_4 m c (ix2 r (pcol q)) = df m c r (pcol q) * P3 m c (ix2 r (pcol q)) * (Ideal.logistic (P2 m c (ix2 r (pcol q)))
      + P2 m c (ix2 r (pcol q)) * Ideal.logistic (P2 m c (ix2 r (pcol q))) * (1 - Ideal.logistic (P2 m c (ix2 r (pcol q))))) := rfl
  rw [hl]
  unfold df
  simp only [pad1, pad2, pad3]
  pointwise
  rw [h0, h1, h2, h3]
  beta_reduce
  rw [coe_dot]
  exact (gate_deriv _ _ _).symm

theorem res_5 (c : Dev nD) (r : Fin 8192) (q : Fin 2816) :
    RES_5 m c (ix2 r (pcol q)) = FfnOutRefIdeal.Read.val_main_v8 (F := Ideal) (A0 m c) (A1 m c) (A2 m c) (ix2 r q) := by
  rw [← FfnOutRefIdeal.Read.val_main_v8_eq]
  have hl : RES_5 m c (ix2 r (pcol q)) = df m c r (pcol q) * (P2 m c (ix2 r (pcol q)) * Ideal.logistic (P2 m c (ix2 r (pcol q)))) := rfl
  rw [hl]
  unfold df
  simp only [pad1, pad2]
  pointwise
  exact mul_comm _ _

end Cert.FfnOutIdeal.Value

end
-- ==== Proof.Parts.FfnOutClaim.lean ====
module

public import proofs.«01_k».proof.Defs
public import proofs.«01_k».proof.Proof.Gen.FfnOut.Frame
public import proofs.«01_k».proof.Proof.Parts.FfnOut
public import proofs.«01_k».proof.Proof.Parts.Finite
public import Idealize.ShloMosaic.Lib.Claim

/-! The claims about the feed-forward output's gradient. -/

@[expose] public section

set_option maxRecDepth 16384

noncomputable section

open Idealize.ShloMosaic Idealize.ShloMosaic.TcCoe Idealize.SL.Sem

namespace Cert.FfnOutIdeal.Value

theorem frame_ref : Cert.quiescent_FfnOutRefIdeal := by
  intro m g _
  exact (θ_run Cert.FfnOutRefIdeal.defs _ _).mono
    (fun r h => ⟨fun c => (h c).2.2, Idealize.ShloMosaic.sem_eq_zero_of_no_sems (by decide) r.2⟩)
    (Cert.FfnOutRefIdeal.Value.run (F := Ideal) m g)

section Tail
variable (m : (ℓ : Loc nD τ sig) → Buf (Elt Ideal) ℓ) (c : Dev nD)

/-- The padding taken off a result on the host reads the padded column of each column. -/
theorem unpad (x : FVec Ideal S8192x3072 .bf16) :
    shapeCast S8192x2816 (extractStridedSlice S8192x8x352 ![0, 0, 0] (shapeCast S8192x8x384 x Gen.shapeCasts_S8192x3072_S8192x8x384)
      Gen.slices_S8192x8x384_S8192x8x352_0_0_0) Gen.shapeCasts_S8192x8x352_S8192x2816 = fun i => x (ix2 (i 0) (pcol (i 1))) := by
  funext i
  idx_vars i
  pointwise

theorem tail_16 : Pipeline.afterTail₀ cfgs (Gen.dats m) 0 (Gen.V0 m) [Gen.hostOps1] c main_v16 = fun i => RES_4 m c (ix2 (i 0) (pcol (i 1))) := by
  unfold Pipeline.afterTail₀
  simp only [Gen.hostOps1, List.flatten_cons, List.flatten_nil, List.append_nil, StableHlo.after_cons, StableHlo.after_nil]
  after_results_simp
  erw [Pipeline.withArrays_arr spec0 Gen.launch0.win.arr_inj c (Gen.V0 m c) _ 4]
  erw [final_4 m c]
  exact unpad (RES_4 m c)

theorem tail_19 : Pipeline.afterTail₀ cfgs (Gen.dats m) 0 (Gen.V0 m) [Gen.hostOps1] c main_v19 = fun i => RES_5 m c (ix2 (i 0) (pcol (i 1))) := by
  unfold Pipeline.afterTail₀
  simp only [Gen.hostOps1, List.flatten_cons, List.flatten_nil, List.append_nil, StableHlo.after_cons, StableHlo.after_nil]
  after_results_simp
  erw [Pipeline.withArrays_arr spec0 Gen.launch0.win.arr_inj c (Gen.V0 m c) _ 5]
  erw [final_5 m c]
  exact unpad (RES_5 m c)

end Tail

/-- The kernel's run: both results with their padding off, the arguments kept. -/
theorem run_kernel (m : (ℓ : Loc nD τ sig) → Buf (Elt Ideal) ℓ) (g : Dev nD → PrngReg) :
    θ_run (Cert.FfnOutIdeal.defs (F := Ideal)) (onTc (τ := τ) (Cert.FfnOutIdeal.main (F := Ideal))) ⟨m, fun _ => 0, g⟩ (fun r => ∀ c : Dev nD,
      r.2.mem ((c.tc : Thread Cert.FfnOutIdeal.nD Cert.FfnOutIdeal.τ).loc Cert.FfnOutIdeal.main_v16) = (fun i => RES_4 m c (ix2 (i 0) (pcol (i 1))))
      ∧ r.2.mem ((c.tc : Thread Cert.FfnOutIdeal.nD Cert.FfnOutIdeal.τ).loc Cert.FfnOutIdeal.main_v19) = (fun i => RES_5 m c (ix2 (i 0) (pcol (i 1))))
      ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3)) := by
  refine (θ_run defs _ _).mono (fun r h c => ?_) (Gen.run_main m g)
  have hr := (h c).2
  exact ⟨(hr main_v16 (Pipeline.mem_restRefs_of main_v16 (by decide) (by decide))).trans (tail_16 m c),
    (hr main_v19 (Pipeline.mem_restRefs_of main_v19 (by decide) (by decide))).trans (tail_19 m c),
    (hr main_arg0 (Pipeline.mem_restRefs_of main_arg0 (by decide) (by decide))).trans (Gen.W_main_arg0 m (Gen.dats m) c),
    (hr main_arg1 (Pipeline.mem_restRefs_of main_arg1 (by decide) (by decide))).trans (Gen.W_main_arg1 m (Gen.dats m) c),
    (hr main_arg2 (Pipeline.mem_restRefs_of main_arg2 (by decide) (by decide))).trans (Gen.W_main_arg2 m (Gen.dats m) c),
    (hr main_arg3 (Pipeline.mem_restRefs_of main_arg3 (by decide) (by decide))).trans (Gen.W_main_arg3 m (Gen.dats m) c)⟩

/-- Finite arguments are arrays of reals. -/
theorem real_args [Cert.Pre_finite_ffn.Facts] (a0 a1 a2 a3) (h : Cert.Pre_finite_ffn.fn (F := Ideal) a0 a1 a2 a3 = fun _ => 1#1) :
    (∃ f : S8192x1024.Idx → ℝ, a0 = fun i => (f i : EReal)) ∧ (∃ f : S2816x1024.Idx → ℝ, a1 = fun i => (f i : EReal))
    ∧ (∃ f : S8192x2816.Idx → ℝ, a2 = fun i => (f i : EReal)) ∧ (∃ f : S8192x2816.Idx → ℝ, a3 = fun i => (f i : EReal)) := by
  obtain ⟨h012, h3⟩ := Cert.Finite.and_one (congrFun h ix0)
  obtain ⟨h01, h2⟩ := Cert.Finite.and_one h012
  obtain ⟨h0, h1⟩ := Cert.Finite.and_one h01
  exact ⟨Cert.Finite.all_real _ _ (Cert.Finite.inf_const _ _) _ _ _ _ h0, Cert.Finite.all_real _ _ (Cert.Finite.inf_const _ _) _ _ _ _ h1,
    Cert.Finite.all_real _ _ (Cert.Finite.inf_const _ _) _ _ _ _ h2, Cert.Finite.all_real _ _ (Cert.Finite.inf_const _ _) _ _ _ _ h3⟩

theorem algebraic [Cert.Pre_finite_ffn.Facts] : Cert.algebraic_FfnOutIdeal_FfnOutRefIdeal_pre_finite_ffn := by
  intro m g m' g' hpre hagree
  refine ⟨fun c i => RES_4 m c (ix2 (i 0) (pcol (i 1))), fun c i => RES_5 m c (ix2 (i 0) (pcol (i 1))), run_kernel m g, ?_⟩
  refine (θ_run Cert.FfnOutRefIdeal.defs _ _).mono (fun r h c => ⟨(h c).1.trans ?_, (h c).2.1.trans ?_, (h c).2.2⟩) (Cert.FfnOutRefIdeal.Value.run m' g')
  all_goals
    obtain ⟨h0, h1, h2, h3⟩ := hagree c
    obtain ⟨⟨f0, e0⟩, ⟨f1, e1⟩, ⟨f2, e2⟩, ⟨f3, e3⟩⟩ := real_args _ _ _ _ (hpre c)
  · rw [FfnOutRefIdeal.Read.val_main_v7_eq, h0, h1, h2, h3]
    funext i
    idx_vars i
    exact (res_4 m c f0 f1 f2 f3 e0 e1 e2 e3 i0 i1).symm
  · rw [FfnOutRefIdeal.Read.val_main_v8_eq, h0, h1, h2]
    funext i
    idx_vars i
    exact (res_5 m c i0 i1).symm

end Cert.FfnOutIdeal.Value

end
-- ==== Proof.Parts.NormMath.lean ====
module

public import Idealize.ShloMosaic.Lib.Pointwise
public import Idealize.ShloMosaic.Lib.IdealHost
public import Mathlib.Tactic.FieldSimp
public import Mathlib.Tactic.Ring

/-! One row of a root-mean-square norm: its gradient written as the kernels write it and as the chain rule writes it. -/

@[expose] public section

noncomputable section

open Idealize.ShloMosaic

namespace Cert.NormRow

theorem coe_sum {n : Nat} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-- The row's length and the norm's small constant, as the programs write them. -/
abbrev len : EReal := Ideal.ofBits .f32 1149239296#32
abbrev eps : EReal := Ideal.ofBits .f32 897988541#32

theorem len_eq : len = ((1024 : ℝ) : EReal) := by
  simp [len, Ideal.ofBits, Ideal.ieee]; rw [← EReal.coe_mul]; norm_num
theorem eps_eq : ∃ e : ℝ, 0 < e ∧ eps = (e : EReal) := by
  refine ⟨8796093 * (2 ^ 43)⁻¹, by positivity, ?_⟩
  simp [eps, Ideal.ofBits, Ideal.ieee]
theorem half_eq : Ideal.ofBits .f32 3204448256#32 = ((-(1/2) : ℝ) : EReal) := by
  simp [Ideal.ofBits, Ideal.ieee]; rw [← EReal.coe_mul]; norm_num

/-- The mean square plus the small constant. -/
def var (x : Fin 1024 → EReal) : EReal := Ideal.div (∑ k, x k * x k) len + eps

/-- The kernels' gradient of the row at the cotangent `e` of the normalised row. -/
def dx (x e : Fin 1024 → EReal) (j : Fin 1024) : EReal :=
  Ideal.rsqrt (var x) * (e j - x j * Ideal.rsqrt (var x) * Ideal.div (∑ k, e k * (x k * Ideal.rsqrt (var x))) len)

/-- The chain rule's common factor of the row. -/
def pull (x e : Fin 1024 → EReal) : EReal :=
  Ideal.div ((∑ k, x k * e k) * (Ideal.ofBits .f32 3204448256#32 * Ideal.div (Ideal.rsqrt (var x)) (var x))) len

/-- The mean square plus the small constant is a positive real on a real row. -/
theorem var_real (x : Fin 1024 → ℝ) : ∃ v : ℝ, 0 < v ∧ var (fun k => (x k : EReal)) = (v : EReal) := by
  obtain ⟨e, he, hE⟩ := eps_eq
  refine ⟨(∑ k, x k * x k) * (1 / 1024) + e, ?_, ?_⟩
  · have : 0 ≤ ∑ k, x k * x k := Finset.sum_nonneg fun k _ => mul_self_nonneg _
    positivity
  · unfold var
    rw [hE, len_eq, Ideal.div_coe (by norm_num)]
    simp only [← EReal.coe_mul, coe_sum, ← EReal.coe_add]

theorem rsqrt_pos {v : ℝ} (h : 0 < v) : Ideal.rsqrt (v : EReal) = (((Real.sqrt v)⁻¹ : ℝ) : EReal) := by
  rw [Ideal.rsqrt_coe, if_neg (not_lt.2 h.le), if_neg h.ne']

theorem rsqrt_var_real (x : Fin 1024 → ℝ) : ∃ r : ℝ, Ideal.rsqrt (var fun k => (x k : EReal)) = (r : EReal) := by
  obtain ⟨v, hv, e⟩ := var_real x
  exact ⟨_, by rw [e, rsqrt_pos hv]⟩

/-- On a real row and a real cotangent the two gradients agree. -/
theorem dx_eq (x e : Fin 1024 → ℝ) (j : Fin 1024) :
    dx (fun k => (x k : EReal)) (fun k => (e k : EReal)) j
      = (e j : EReal) * Ideal.rsqrt (var fun k => (x k : EReal)) + (x j : EReal) * pull (fun k => (x k : EReal)) (fun k => (e k : EReal))
        + pull (fun k => (x k : EReal)) (fun k => (e k : EReal)) * (x j : EReal) := by
  obtain ⟨v, hv, hV⟩ := var_real x
  unfold dx pull
  have hs : Real.sqrt v ≠ 0 := (Real.sqrt_pos.2 hv).ne'
  have hq : Real.sqrt v * Real.sqrt v = v := Real.mul_self_sqrt hv.le
  rw [hV, rsqrt_pos hv, len_eq, half_eq, Ideal.div_coe hv.ne', Ideal.div_coe (by norm_num), Ideal.div_coe (by norm_num)]
  simp only [← EReal.coe_mul, coe_sum, ← EReal.coe_sub, ← EReal.coe_add]
  congr 1
  have h1 : ∑ k, e k * (x k * (Real.sqrt v)⁻¹) = (∑ k, x k * e k) * (Real.sqrt v)⁻¹ := by
    rw [Finset.sum_mul]; exact Finset.sum_congr rfl fun k _ => by ring
  rw [h1]
  generalize (∑ k, x k * e k) = S
  generalize Real.sqrt v = q at *
  subst hq
  field_simp
  ring

theorem dx_real (x e : Fin 1024 → ℝ) (j : Fin 1024) : ∃ d : ℝ, dx (fun k => (x k : EReal)) (fun k => (e k : EReal)) j = (d : EReal) := by
  obtain ⟨r, hr⟩ := rsqrt_var_real x
  unfold dx
  rw [hr, len_eq, Ideal.div_coe (by norm_num)]
  simp only [← EReal.coe_mul, coe_sum, ← EReal.coe_sub]
  exact ⟨_, rfl⟩

end Cert.NormRow

end
-- ==== Proof.Parts.Norm.lean ====
module

public import proofs.«01_k».proof.Proof.Gen.NormIdeal.Frame
public import proofs.«01_k».proof.Proof.Gen.NormRefIdeal.Run
public import proofs.«01_k».proof.Proof.Gen.NormRefIdeal.Read
public import Idealize.ShloMosaic.Lib.Pipeline.ValueKit
public import Idealize.ShloMosaic.Lib.Pointwise
public import proofs.«01_k».proof.Proof.Parts.NormMath

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen

variable (m : (ℓ : Loc nD τ sig) → Buf (Elt Ideal) ℓ)

theorem idx_val : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![0, 0]
    ∧ win0_4.index t = ![t.val / 4, 0, 0]
    ∧ win0_5.index t = ![t.val / 4, t.val % 4, 0]
    ∧ win0_6.index t = ![t.val / 4, 0, 0]
    ∧ win0_7.index t = ![t.val / 4, t.val % 4, 0]
    ∧ win0_8.index t = ![t.val / 4, 0, 0]
    ∧ win0_9.index t = ![t.val / 4, 0, 0]
    ∧ win0_10.index t = ![t.val / 4, 0, 0]
    ∧ win0_11.index t = ![t.val / 4, t.val % 4, 0]
    ∧ win0_12.index t = ![t.val / 4, 0, 0] :=
  (by decide +kernel : ∀ t : Fin grid0.N, _)

abbrev A0 (c : Dev nD) : FVec Ideal S4x2048x1024 .f32 := m ((c : Thread nD τ).loc main_arg0)
abbrev A1 (c : Dev nD) : FVec Ideal S4x2048x1024 .f32 := m ((c : Thread nD τ).loc main_arg1)
abbrev A2 (c : Dev nD) : FVec Ideal S4x2048x1024 .f32 := m ((c : Thread nD τ).loc main_arg2)
abbrev A3 (c : Dev nD) : FVec Ideal S1024 .f32 := m ((c : Thread nD τ).loc main_arg3)
abbrev A4 (c : Dev nD) : FVec Ideal S4x1x1024 .f32 := m ((c : Thread nD τ).loc main_arg4)
abbrev A5 (c : Dev nD) : FVec Ideal S4x2048x1024 .f32 := m ((c : Thread nD τ).loc main_arg5)
abbrev A6 (c : Dev nD) : FVec Ideal S4x1x1024 .f32 := m ((c : Thread nD τ).loc main_arg6)

/-- The example and the row of a block's row. -/
abbrev ex (t : Fin cfg0.N) : Fin 4 := ⟨t.val / 4, by have := t.isLt; have : cfg0.N = 16 := rfl; omega⟩
abbrev row (t : Fin cfg0.N) (r : Fin 512) : Fin 2048 := ⟨512 * (t.val % 4) + r.val, by omega⟩

/-- The blocks of one example's run. -/
theorem ex_run (t : Fin cfg0.N) (s : Fin 4) (h : 4 * (t.val / 4) + s.val < cfg0.N) : ex ⟨4 * (t.val / 4) + s.val, h⟩ = ex t := Fin.ext (by dsimp only; omega)
theorem row_run (t : Fin cfg0.N) (s : Fin 4) (k : Fin 512) (h : 4 * (t.val / 4) + s.val < cfg0.N) (hl : s.val * 512 + k.val < 2048) :
    row ⟨4 * (t.val / 4) + s.val, h⟩ k = ⟨s.val * 512 + k.val, hl⟩ := Fin.ext (by dsimp only; omega)

variable (c : Dev nD)

/-- The activations the norm takes. -/
def X (b : Fin 4) (s : Fin 2048) (j : Fin 1024) : EReal := A0 m c (ix3 b s j) + A6 m c (ix3 b 0 j) * A5 m c (ix3 b s j)

theorem blk0 (t : Fin cfg0.N) (r : Fin 512) (j : Fin 1024) :
    (show FVec Ideal S1x512x1024 .f32 from iblk m c 0 t) (ix3 0 r j) = X m c (ex t) (row t r) j := by
  refine (congrArg (V m c (Pipeline.arrRef spec0 0)) (show ((cfg0.win 0).blk t).view.emb (ix3 0 r j) = ix3 (ex t) (row t r) j by blk_ext [idx_val t])).trans ?_
  entry_read
  pointwise
  rfl
theorem blk1 (t : Fin cfg0.N) (r : Fin 512) (j : Fin 1024) :
    (show FVec Ideal S1x512x1024 .f32 from iblk m c 1 t) (ix3 0 r j) = A1 m c (ix3 (ex t) (row t r) j) := by blk_point [iblk, idx_val t]
theorem blk2 (t : Fin cfg0.N) (r : Fin 512) (j : Fin 1024) :
    (show FVec Ideal S1x512x1024 .f32 from iblk m c 2 t) (ix3 0 r j) = A2 m c (ix3 (ex t) (row t r) j) := by blk_point [iblk, idx_val t]
theorem blk3 (t : Fin cfg0.N) (j : Fin 1024) :
    (show FVec Ideal S1x1024 .f32 from iblk m c 3 t) (ix2 0 j) = A3 m c (ix1 j) := by blk_point [iblk, idx_val t]
theorem blk4 (t : Fin cfg0.N) (j : Fin 1024) :
    (show FVec Ideal S1x1x1024 .f32 from iblk m c 4 t) (ix3 0 0 j) = A4 m c (ix3 (ex t) 0 j) := by blk_point [iblk, idx_val t]
theorem blk5 (t : Fin cfg0.N) (r : Fin 512) (j : Fin 1024) :
    (show FVec Ideal S1x512x1024 .bf16 from iblk m c 5 t) (ix3 0 r j) = A5 m c (ix3 (ex t) (row t r) j) := by blk_point [iblk, idx_val t]
theorem blk6 (t : Fin cfg0.N) (j : Fin 1024) :
    (show FVec Ideal S1x1x1024 .f32 from iblk m c 6 t) (ix3 0 0 j) = A6 m c (ix3 (ex t) 0 j) := by blk_point [iblk, idx_val t]

/-- The cotangent of the normalised row, and the whole gradient of the activations. -/
def E (b : Fin 4) (s : Fin 2048) (j : Fin 1024) : EReal := A1 m c (ix3 b s j) * (A3 m c (ix1 j) * (1 + A4 m c (ix3 b 0 j)))
def DX (b : Fin 4) (s : Fin 2048) (j : Fin 1024) : EReal := A2 m c (ix3 b s j) + NormRow.dx (X m c b s) (E m c b s) j
/-- The normalised row. -/
def XH (b : Fin 4) (s : Fin 2048) (j : Fin 1024) : EReal := X m c b s j * Ideal.rsqrt (NormRow.var (X m c b s))

def RES_7 : FVec Ideal S4x2048x1024 .f32 := fun i => DX m c (i 0) (i 1) (i 2)
def RES_8 : FVec Ideal S4x1x1024 .f32 := fun i => ∑ s : Fin 2048, A1 m c (ix3 (i 0) s (i 2))
def RES_9 : FVec Ideal S4x1x1024 .f32 := fun i => ∑ s : Fin 2048, A1 m c (ix3 (i 0) s (i 2)) * (XH m c (i 0) s (i 2) * A3 m c (ix1 (i 2)))
def RES_10 : FVec Ideal S4x1x1024 .f32 := fun i => ∑ s : Fin 2048, A1 m c (ix3 (i 0) s (i 2)) * (1 + A4 m c (ix3 (i 0) 0 (i 2))) * XH m c (i 0) s (i 2)
def RES_11 : FVec Ideal S4x2048x1024 .bf16 := fun i => A6 m c (ix3 (i 0) 0 (i 2)) * DX m c (i 0) (i 1) (i 2)
def RES_12 : FVec Ideal S4x1x1024 .f32 := fun i => ∑ s : Fin 2048, DX m c (i 0) s (i 2) * A5 m c (ix3 (i 0) s (i 2))

theorem final_7 : (dats m 0 c).arrAt 7 (cfgs 0).N = RES_7 m c := by
  refine (dats m 0 c).arrAt_eq_of_covers 7 _ (by decide +kernel) fun t hf y => ?_
  blk_simp; rw [after0_7]
  idx_vars y
  rw [show ((cfg0.win 7).blk t).view.emb (ix3 y0 y1 y2) = ix3 (ex t) (row t y1) y2 by blk_ext [idx_val t]]
  by_cases h : t.val % 4 = 0
  · rw [outsAt0_A m c t h h]; frame_out; open_payloads
    pointwise [blk0 m c t, blk1 m c t, blk2 m c t, blk3 m c t, blk4 m c t, blk5 m c t, blk6 m c t]
    rfl
  · rw [outsAt0_B m c t h h]; frame_out; open_payloads
    pointwise [blk0 m c t, blk1 m c t, blk2 m c t, blk3 m c t, blk4 m c t, blk5 m c t, blk6 m c t]
    rfl

theorem final_11 : (dats m 0 c).arrAt 11 (cfgs 0).N = RES_11 m c := by
  refine (dats m 0 c).arrAt_eq_of_covers 11 _ (by decide +kernel) fun t hf y => ?_
  blk_simp; rw [after0_11]
  idx_vars y
  rw [show ((cfg0.win 11).blk t).view.emb (ix3 y0 y1 y2) = ix3 (ex t) (row t y1) y2 by blk_ext [idx_val t]]
  by_cases h : t.val % 4 = 0
  · rw [outsAt0_A m c t h h]; frame_out; open_payloads
    pointwise [blk0 m c t, blk1 m c t, blk2 m c t, blk3 m c t, blk4 m c t, blk5 m c t, blk6 m c t]
    rfl
  · rw [outsAt0_B m c t h h]; frame_out; open_payloads
    pointwise [blk0 m c t, blk1 m c t, blk2 m c t, blk3 m c t, blk4 m c t, blk5 m c t, blk6 m c t]
    rfl

theorem hzero_8 (j : S1x1x1024.Idx) : k0_pay5 (F := Ideal) j = 0 := by pointwise! [k0_pay5]
theorem hpay_8 (v5 : Vec Ideal S1x512x1024 .f32) (v23 : Vec Ideal S1x1x1024 .f32) (j : S1x1x1024.Idx) :
    k0_pay14 v5 v23 j = v23 j + k0_pay14 v5 (fun _ => 0) j := by pointwise [k0_pay14]

theorem final_8 : (dats m 0 c).arrAt 8 (cfgs 0).N = RES_8 m c := by
  refine (dats m 0 c).arrAt_eq_of_covers 8 _ (by decide +kernel) fun t hf y => ?_
  blk_simp
  rw [after0_8, Pipeline.eq_sum_fin_of_reset_step_apply_of_flush (fun n h => (outsAt0 m c n h).2.1) 4 (fun _ => 0) _
    (fun t h j => by rw [outsAt0_A m c t h h]; frame_out; rw [hpay_8, hzero_8])
    (fun t h j => by rw [outsAt0_B m c t h h]; frame_out; rw [hpay_8])
    t ((flush0_8 t).mp hf) _, zero_add]
  idx_vars y
  rw [show ((cfg0.win 8).blk t).view.emb (ix3 y0 y1 y2) = ix3 (ex t) 0 y2 by blk_ext [idx_val t]]
  open_payloads
  pointwise [blk0 m c _, blk1 m c _, blk2 m c _, blk3 m c _, blk4 m c _, blk5 m c _, blk6 m c _, RES_8]
  refine Fin.sum_mul_add_congr fun s k hl => ?_
  simp only [ex_run, row_run t s k _ hl]

theorem hzero_9 (j : S1x1x1024.Idx) : k0_pay6 (F := Ideal) j = 0 := by pointwise! [k0_pay6]
theorem hpay_9 (v6 : FVec Ideal S512x1024 .f32) (v8 : FVec Ideal S1x1024 .f32) (v22 : FVec Ideal S512x1024 .f32) (v31 : Vec Ideal S1x1x1024 .f32) (j : S1x1x1024.Idx) :
    k0_pay15 v6 v8 v22 v31 j = v31 j + k0_pay15 v6 v8 v22 (fun _ => 0) j := by pointwise [k0_pay15]

theorem final_9 : (dats m 0 c).arrAt 9 (cfgs 0).N = RES_9 m c := by
  refine (dats m 0 c).arrAt_eq_of_covers 9 _ (by decide +kernel) fun t hf y => ?_
  blk_simp
  rw [after0_9, Pipeline.eq_sum_fin_of_reset_step_apply_of_flush (fun n h => (outsAt0 m c n h).2.2.1) 4 (fun _ => 0) _
    (fun t h j => by rw [outsAt0_A m c t h h]; frame_out; rw [hpay_9, hzero_9])
    (fun t h j => by rw [outsAt0_B m c t h h]; frame_out; rw [hpay_9])
    t ((flush0_9 t).mp hf) _, zero_add]
  idx_vars y
  rw [show ((cfg0.win 9).blk t).view.emb (ix3 y0 y1 y2) = ix3 (ex t) 0 y2 by blk_ext [idx_val t]]
  open_payloads
  pointwise [blk0 m c _, blk1 m c _, blk2 m c _, blk3 m c _, blk4 m c _, blk5 m c _, blk6 m c _, RES_9]
  refine Fin.sum_mul_add_congr fun s k hl => ?_
  simp only [ex_run, row_run t s k _ hl]
  rfl

theorem hzero_10 (j : S1x1x1024.Idx) : k0_pay7 (F := Ideal) j = 0 := by pointwise! [k0_pay7]
theorem hpay_10 (v6 : FVec Ideal S512x1024 .f32) (v12 : FVec Ideal S1x1024 .f32) (v22 : FVec Ideal S512x1024 .f32) (v42 : Vec Ideal S1x1x1024 .f32) (j : S1x1x1024.Idx) :
    k0_pay16 v6 v12 v22 v42 j = v42 j + k0_pay16 v6 v12 v22 (fun _ => 0) j := by pointwise [k0_pay16]

theorem final_10 : (dats m 0 c).arrAt 10 (cfgs 0).N = RES_10 m c := by
  refine (dats m 0 c).arrAt_eq_of_covers 10 _ (by decide +kernel) fun t hf y => ?_
  blk_simp
  rw [after0_10, Pipeline.eq_sum_fin_of_reset_step_apply_of_flush (fun n h => (outsAt0 m c n h).2.2.2.1) 4 (fun _ => 0) _
    (fun t h j => by rw [outsAt0_A m c t h h]; frame_out; rw [hpay_10, hzero_10])
    (fun t h j => by rw [outsAt0_B m c t h h]; frame_out; rw [hpay_10])
    t ((flush0_10 t).mp hf) _, zero_add]
  idx_vars y
  rw [show ((cfg0.win 10).blk t).view.emb (ix3 y0 y1 y2) = ix3 (ex t) 0 y2 by blk_ext [idx_val t]]
  open_payloads
  pointwise [blk0 m c _, blk1 m c _, blk2 m c _, blk3 m c _, blk4 m c _, blk5 m c _, blk6 m c _, RES_10]
  refine Fin.sum_mul_add_congr fun s k hl => ?_
  simp only [ex_run, row_run t s k _ hl]
  rfl

theorem hzero_12 (j : S1x1x1024.Idx) : k0_pay2 (F := Ideal) j = 0 := by pointwise! [k0_pay2]
theorem hpay_12 (v68 : FVec Ideal S512x1024 .f32) (v85 : Vec Ideal S1x512x1024 .bf16) (v83 : Vec Ideal S1x1x1024 .f32) (j : S1x1x1024.Idx) :
    k0_pay4 v68 v83 v85 j = v83 j + k0_pay4 v68 (fun _ => 0) v85 j := by pointwise [k0_pay4]

theorem final_12 : (dats m 0 c).arrAt 12 (cfgs 0).N = RES_12 m c := by
  refine (dats m 0 c).arrAt_eq_of_covers 12 _ (by decide +kernel) fun t hf y => ?_
  blk_simp
  rw [after0_12, Pipeline.eq_sum_fin_of_reset_step_apply_of_flush (fun n h => (outsAt0 m c n h).2.2.2.2.2) 4 (fun _ => 0) _
    (fun t h j => by rw [outsAt0_A m c t h h]; frame_out; rw [hpay_12, hzero_12])
    (fun t h j => by rw [outsAt0_B m c t h h]; frame_out; rw [hpay_12])
    t ((flush0_12 t).mp hf) _, zero_add]
  idx_vars y
  rw [show ((cfg0.win 12).blk t).view.emb (ix3 y0 y1 y2) = ix3 (ex t) 0 y2 by blk_ext [idx_val t]]
  open_payloads
  pointwise [blk0 m c _, blk1 m c _, blk2 m c _, blk3 m c _, blk4 m c _, blk5 m c _, blk6 m c _, RES_12]
  refine Fin.sum_mul_add_congr fun s k hl => ?_
  simp only [ex_run, row_run t s k _ hl]
  rfl

theorem ref_x (b : Fin 4) (s : Fin 2048) (j : Fin 1024) : NormRefIdeal.Read.val_main_v4 (F := Ideal) (A0 m c) (A5 m c) (A6 m c) (ix3 b s j) = X m c b s j := by
  pointwise [NormRefIdeal.Read.val_main_v4, NormRefIdeal.Read.val_main_v3, NormRefIdeal.Read.val_main_v2]
  rfl
theorem ref_v (b : Fin 4) (s : Fin 2048) (k : Fin 1) : NormRefIdeal.Read.val_main_v11 (F := Ideal) (A0 m c) (A5 m c) (A6 m c) (ix3 b s k) = NormRow.var (X m c b s) := by
  obtain rfl := Subsingleton.elim k 0
  pointwise [NormRefIdeal.Read.val_main_v11, NormRefIdeal.Read.val_main_v10, NormRefIdeal.Read.val_main_v9, NormRefIdeal.Read.val_main_v8, NormRefIdeal.Read.val_main_v7, NormRefIdeal.Read.val_main_v6, NormRefIdeal.Read.val_main_v5, NormRefIdeal.Read.val_main_cst_0, NormRefIdeal.Read.val_main_cst_1, NormRefIdeal.Read.val_main_cst_2, ref_x m c]
  rfl
theorem ref_xh (b : Fin 4) (s : Fin 2048) (j : Fin 1024) : NormRefIdeal.Read.val_main_v17 (F := Ideal) (A0 m c) (A5 m c) (A6 m c) (ix3 b s j) = XH m c b s j := by
  pointwise [NormRefIdeal.Read.val_main_v17, NormRefIdeal.Read.val_main_v16, NormRefIdeal.Read.val_main_v12, ref_x m c, ref_v m c]
  rfl
theorem ref_e (b : Fin 4) (s : Fin 2048) (j : Fin 1024) : NormRefIdeal.Read.val_main_v38 (F := Ideal) (A1 m c) (A3 m c) (A4 m c) (ix3 b s j) = E m c b s j := by
  pointwise [NormRefIdeal.Read.val_main_v38, NormRefIdeal.Read.val_main_v37, NormRefIdeal.Read.val_main_v33, NormRefIdeal.Read.val_main_v32, NormRefIdeal.Read.val_main_v26, NormRefIdeal.Read.val_main_v22, NormRefIdeal.Read.val_main_v21, NormRefIdeal.Read.val_main_v20, NormRefIdeal.Read.val_main_v0, NormRefIdeal.Read.val_main_cst_4]
  unfold E
  rw [mul_assoc, mul_comm (1 + _)]

section Real
variable (f0 f1 f5 : S4x2048x1024.Idx → ℝ) (f3 : S1024.Idx → ℝ) (f4 f6 : S4x1x1024.Idx → ℝ)
  (h0 : A0 m c = fun i => (f0 i : EReal)) (h1 : A1 m c = fun i => (f1 i : EReal)) (h3 : A3 m c = fun i => (f3 i : EReal))
  (h4 : A4 m c = fun i => (f4 i : EReal)) (h5 : A5 m c = fun i => (f5 i : EReal)) (h6 : A6 m c = fun i => (f6 i : EReal))

include h0 h5 h6 in
theorem X_real (b : Fin 4) (s : Fin 2048) : X m c b s = fun k => ((f0 (ix3 b s k) + f6 (ix3 b 0 k) * f5 (ix3 b s k) : ℝ) : EReal) := by
  funext k; unfold X; rw [h0, h5, h6, EReal.coe_add, EReal.coe_mul]
include h1 h3 h4 in
theorem E_real (b : Fin 4) (s : Fin 2048) : E m c b s = fun k => ((f1 (ix3 b s k) * (f3 (ix1 k) * (1 + f4 (ix3 b 0 k))) : ℝ) : EReal) := by
  funext k; unfold E; rw [h1, h3, h4, EReal.coe_mul, EReal.coe_mul, EReal.coe_add, EReal.coe_one]

include h0 h1 h3 h4 h5 h6 in
theorem ref_dx (b : Fin 4) (s : Fin 2048) (j : Fin 1024) : NormRefIdeal.Read.val_main_v53 (F := Ideal) (A0 m c) (A1 m c) (A2 m c) (A3 m c) (A4 m c) (A5 m c) (A6 m c) (ix3 b s j) = DX m c b s j := by
  pointwise [NormRefIdeal.Read.val_main_v12, NormRefIdeal.Read.val_main_v13, NormRefIdeal.Read.val_main_v14, NormRefIdeal.Read.val_main_v15, NormRefIdeal.Read.val_main_v53, NormRefIdeal.Read.val_main_v52, NormRefIdeal.Read.val_main_v51, NormRefIdeal.Read.val_main_v50, NormRefIdeal.Read.val_main_v49, NormRefIdeal.Read.val_main_v48, NormRefIdeal.Read.val_main_v47, NormRefIdeal.Read.val_main_v46, NormRefIdeal.Read.val_main_v45, NormRefIdeal.Read.val_main_v44, NormRefIdeal.Read.val_main_v43, NormRefIdeal.Read.val_main_v42, NormRefIdeal.Read.val_main_v41, NormRefIdeal.Read.val_main_v40, NormRefIdeal.Read.val_main_v39, NormRefIdeal.Read.val_main_cst_3, NormRefIdeal.Read.val_main_cst_8, NormRefIdeal.Read.val_main_cst_9, NormRefIdeal.Read.val_main_cst_10, ref_x m c, ref_v m c, ref_e m c, Fin.sum_univ_one]
  unfold DX
  rw [X_real m c f0 f5 f6 h0 h5 h6, E_real m c f1 f3 f4 h1 h3 h4, NormRow.dx_eq, ← add_assoc, ← add_assoc]
  rfl

include h0 h1 h3 h4 h5 h6 in
theorem ref_7 : NormRefIdeal.Read.val_main_v53 (F := Ideal) (A0 m c) (A1 m c) (A2 m c) (A3 m c) (A4 m c) (A5 m c) (A6 m c) = RES_7 m c := by
  funext i; idx_vars i; exact ref_dx m c f0 f1 f5 f3 f4 f6 h0 h1 h3 h4 h5 h6 i0 i1 i2
theorem ref_8 : NormRefIdeal.Read.val_main_v28 (F := Ideal) (A1 m c) = RES_8 m c := by
  funext i; idx_vars i
  pointwise [NormRefIdeal.Read.val_main_v28, NormRefIdeal.Read.val_main_v27, NormRefIdeal.Read.val_main_cst_5, RES_8]
theorem ref_9 : NormRefIdeal.Read.val_main_v31 (F := Ideal) (A0 m c) (A1 m c) (A3 m c) (A5 m c) (A6 m c) = RES_9 m c := by
  funext i; idx_vars i
  pointwise [NormRefIdeal.Read.val_main_v31, NormRefIdeal.Read.val_main_v30, NormRefIdeal.Read.val_main_v29, NormRefIdeal.Read.val_main_v26, NormRefIdeal.Read.val_main_v19, NormRefIdeal.Read.val_main_v18, NormRefIdeal.Read.val_main_v0, NormRefIdeal.Read.val_main_cst_6, ref_xh m c, RES_9]
  exact Finset.sum_congr rfl fun k _ => mul_comm _ _
theorem ref_10 : NormRefIdeal.Read.val_main_v36 (F := Ideal) (A0 m c) (A1 m c) (A4 m c) (A5 m c) (A6 m c) = RES_10 m c := by
  funext i; idx_vars i
  pointwise [NormRefIdeal.Read.val_main_v36, NormRefIdeal.Read.val_main_v35, NormRefIdeal.Read.val_main_v34, NormRefIdeal.Read.val_main_v33, NormRefIdeal.Read.val_main_v32, NormRefIdeal.Read.val_main_v26, NormRefIdeal.Read.val_main_v21, NormRefIdeal.Read.val_main_v20, NormRefIdeal.Read.val_main_cst_4, NormRefIdeal.Read.val_main_cst_7, ref_xh m c, RES_10]
  exact Finset.sum_congr rfl fun k _ => mul_comm _ _
include h0 h1 h3 h4 h5 h6 in
theorem ref_11 : NormRefIdeal.Read.val_main_v60 (F := Ideal) (A0 m c) (A1 m c) (A2 m c) (A3 m c) (A4 m c) (A5 m c) (A6 m c) = RES_11 m c := by
  funext i; idx_vars i
  pointwise [NormRefIdeal.Read.val_main_v60, NormRefIdeal.Read.val_main_v56, NormRefIdeal.Read.val_main_v55, NormRefIdeal.Read.val_main_v54, ref_dx m c f0 f1 f5 f3 f4 f6 h0 h1 h3 h4 h5 h6, RES_11]
include h0 h1 h3 h4 h5 h6 in
theorem ref_12 : NormRefIdeal.Read.val_main_v59 (F := Ideal) (A0 m c) (A1 m c) (A2 m c) (A3 m c) (A4 m c) (A5 m c) (A6 m c) = RES_12 m c := by
  funext i; idx_vars i
  pointwise [NormRefIdeal.Read.val_main_v59, NormRefIdeal.Read.val_main_v58, NormRefIdeal.Read.val_main_v57, NormRefIdeal.Read.val_main_v54, NormRefIdeal.Read.val_main_cst_11, ref_dx m c f0 f1 f5 f3 f4 f6 h0 h1 h3 h4 h5 h6, RES_12]

end Real

end Cert.NormIdeal.Value

end
-- ==== Proof.Parts.NormClaim.lean ====
module

public import proofs.«01_k».proof.Defs
public import proofs.«01_k».proof.Proof.Gen.Norm.Frame
public import proofs.«01_k».proof.Proof.Parts.Norm
public import proofs.«01_k».proof.Proof.Parts.Finite
public import Idealize.ShloMosaic.Lib.Claim

/-! The claims about the modulated norm's gradient with its gated residual. -/

@[expose] public section

set_option maxRecDepth 16384
set_option maxHeartbeats 4000000

noncomputable section

open Idealize.ShloMosaic Idealize.ShloMosaic.TcCoe Idealize.SL.Sem

namespace Cert.NormIdeal.Value

theorem frame_ref : Cert.quiescent_NormRefIdeal := by
  intro m g _
  exact (θ_run Cert.NormRefIdeal.defs _ _).mono
    (fun r h => ⟨fun c => (h c).2.2.2.2.2.2, Idealize.ShloMosaic.sem_eq_zero_of_no_sems (by decide) r.2⟩)
    (Cert.NormRefIdeal.Value.run (F := Ideal) m g)

/-- The kernel's run: its results, the arguments kept. -/
theorem run_kernel (m : (ℓ : Loc nD τ sig) → Buf (Elt Ideal) ℓ) (g : Dev nD → PrngReg) :
    θ_run (Cert.NormIdeal.defs (F := Ideal)) (onTc (τ := τ) (Cert.NormIdeal.main (F := Ideal))) ⟨m, fun _ => 0, g⟩ (fun r => ∀ c : Dev nD,
      r.2.mem ((c.tc : Thread Cert.NormIdeal.nD Cert.NormIdeal.τ).loc Cert.NormIdeal.main_v5_0) = RES_7 m c
      ∧ r.2.mem ((c.tc : Thread Cert.NormIdeal.nD Cert.NormIdeal.τ).loc Cert.NormIdeal.main_v5_1) = RES_8 m c
      ∧ r.2.mem ((c.tc : Thread Cert.NormIdeal.nD Cert.NormIdeal.τ).loc Cert.NormIdeal.main_v5_2) = RES_9 m c
      ∧ r.2.mem ((c.tc : Thread Cert.NormIdeal.nD Cert.NormIdeal.τ).loc Cert.NormIdeal.main_v5_3) = RES_10 m c
      ∧ r.2.mem ((c.tc : Thread Cert.NormIdeal.nD Cert.NormIdeal.τ).loc Cert.NormIdeal.main_v5_4) = RES_11 m c
      ∧ r.2.mem ((c.tc : Thread Cert.NormIdeal.nD Cert.NormIdeal.τ).loc Cert.NormIdeal.main_v5_5) = RES_12 m c
      ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)) := by
  run_from Cert.NormIdeal.Gen.run_main m g
  · exact final_7 m c
  · exact final_8 m c
  · exact final_9 m c
  · exact final_10 m c
  · exact final_11 m c
  · exact final_12 m c

/-- Finite arguments are arrays of reals. -/
theorem real_args [Cert.Pre_finite_norm.Facts] (a0 a1 a2 a3 a4 a5 a6) (h : Cert.Pre_finite_norm.fn (F := Ideal) a0 a1 a2 a3 a4 a5 a6 = fun _ => 1#1) :
    (∃ f : S4x2048x1024.Idx → ℝ, a0 = fun i => (f i : EReal)) ∧ (∃ f : S4x2048x1024.Idx → ℝ, a1 = fun i => (f i : EReal)) ∧ (∃ f : S1024.Idx → ℝ, a3 = fun i => (f i : EReal)) ∧ (∃ f : S4x1x1024.Idx → ℝ, a4 = fun i => (f i : EReal)) ∧ (∃ f : S4x2048x1024.Idx → ℝ, a5 = fun i => (f i : EReal)) ∧ (∃ f : S4x1x1024.Idx → ℝ, a6 = fun i => (f i : EReal)) := by
  obtain ⟨h, e5⟩ := Cert.Finite.and_one (congrFun h ix0)
  obtain ⟨h, e4⟩ := Cert.Finite.and_one h
  obtain ⟨h, e3⟩ := Cert.Finite.and_one h
  obtain ⟨h, e2⟩ := Cert.Finite.and_one h
  obtain ⟨e0, e1⟩ := Cert.Finite.and_one h
  exact ⟨Cert.Finite.all_real _ _ (Cert.Finite.inf_const _ _) _ _ _ _ e0,
    Cert.Finite.all_real _ _ (Cert.Finite.inf_const _ _) _ _ _ _ e1,
    Cert.Finite.all_real _ _ (Cert.Finite.inf_const _ _) _ _ _ _ e2,
    Cert.Finite.all_real _ _ (Cert.Finite.inf_const _ _) _ _ _ _ e3,
    Cert.Finite.all_real _ _ (Cert.Finite.inf_const _ _) _ _ _ _ e4,
    Cert.Finite.all_real _ _ (Cert.Finite.inf_const _ _) _ _ _ _ e5⟩

theorem algebraic [Cert.Pre_finite_norm.Facts] : Cert.algebraic_NormIdeal_NormRefIdeal_pre_finite_norm := by
  intro m g m' g' hpre hagree
  refine ⟨fun c => RES_7 m c, fun c => RES_8 m c, fun c => RES_9 m c, fun c => RES_10 m c, fun c => RES_11 m c, fun c => RES_12 m c, run_kernel m g, ?_⟩
  refine (θ_run Cert.NormRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.NormRefIdeal.Value.run m' g')
  all_goals
    obtain ⟨h0, h1, h2, h3, h4, h5, h6⟩ := hagree c
    obtain ⟨⟨f0, e0⟩, ⟨f1, e1⟩, ⟨f3, e3⟩, ⟨f4, e4⟩, ⟨f5, e5⟩, ⟨f6, e6⟩⟩ := real_args _ _ _ _ _ _ _ (hpre c)
  · rw [NormRefIdeal.Read.val_main_v53_eq, h0, h1, h2, h3, h4, h5, h6]
    exact ref_7 m c f0 f1 f5 f3 f4 f6 e0 e1 e3 e4 e5 e6
  · refine (NormRefIdeal.Read.val_main_v28_eq (F := Ideal) _ ).trans ?_
    rw [h1]
    exact ref_8 m c
  · refine (NormRefIdeal.Read.val_main_v31_eq (F := Ideal) _ _ _ _ _ ).trans ?_
    rw [h0, h1, h3, h5, h6]
    exact ref_9 m c
  · refine (NormRefIdeal.Read.val_main_v36_eq (F := Ideal) _ _ _ _ _ ).trans ?_
    rw [h0, h1, h4, h5, h6]
    exact ref_10 m c
  · rw [NormRefIdeal.Read.val_main_v60_eq, h0, h1, h2, h3, h4, h5, h6]
    exact ref_11 m c f0 f1 f5 f3 f4 f6 e0 e1 e3 e4 e5 e6
  · rw [NormRefIdeal.Read.val_main_v59_eq, h0, h1, h2, h3, h4, h5, h6]
    exact ref_12 m c f0 f1 f5 f3 f4 f6 e0 e1 e3 e4 e5 e6

end Cert.NormIdeal.Value

end
-- ==== Proof.Parts.NormUngated.lean ====
module

public import proofs.«01_k».proof.Proof.Gen.NormUngatedIdeal.Frame
public import proofs.«01_k».proof.Proof.Gen.NormUngatedRefIdeal.Run
public import proofs.«01_k».proof.Proof.Gen.NormUngatedRefIdeal.Read
public import Idealize.ShloMosaic.Lib.Pipeline.ValueKit
public import Idealize.ShloMosaic.Lib.Pointwise
public import proofs.«01_k».proof.Proof.Parts.NormMath

@[expose] public section

set_option maxRecDepth 16384

noncomputable section

open Idealize.ShloMosaic Idealize.ShloMosaic.TcCoe Idealize.SL.Sem
open Idealize.ShloMosaic.Pipeline (Dat)

namespace Cert.NormUngatedIdeal.Value

open Cert.NormUngatedIdeal Cert.NormUngatedIdeal.Gen

variable (m : (ℓ : Loc nD τ sig) → Buf (Elt Ideal) ℓ)

theorem idx_val : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![0, 0]
    ∧ win0_4.index t = ![t.val / 4, 0, 0]
    ∧ win0_5.index t = ![t.val / 4, t.val % 4, 0]
    ∧ win0_6.index t = ![t.val / 4, 0, 0]
    ∧ win0_7.index t = ![t.val / 4, 0, 0]
    ∧ win0_8.index t = ![t.val / 4, 0, 0] :=
  (by decide +kernel : ∀ t : Fin grid0.N, _)

abbrev A0 (c : Dev nD) : FVec Ideal S4x2048x1024 .f32 := m ((c : Thread nD τ).loc main_arg0)
abbrev A1 (c : Dev nD) : FVec Ideal S4x2048x1024 .f32 := m ((c : Thread nD τ).loc main_arg1)
abbrev A2 (c : Dev nD) : FVec Ideal S4x2048x1024 .f32 := m ((c : Thread nD τ).loc main_arg2)
abbrev A3 (c : Dev nD) : FVec Ideal S1024 .f32 := m ((c : Thread nD τ).loc main_arg3)
abbrev A4 (c : Dev nD) : FVec Ideal S4x1x1024 .f32 := m ((c : Thread nD τ).loc main_arg4)

/-- The example and the row of a block's row. -/
abbrev ex (t : Fin cfg0.N) : Fin 4 := ⟨t.val / 4, by have := t.isLt; have : cfg0.N = 16 := rfl; omega⟩
abbrev row (t : Fin cfg0.N) (r : Fin 512) : Fin 2048 := ⟨512 * (t.val % 4) + r.val, by omega⟩

/-- The blocks of one example's run. -/
theorem ex_run (t : Fin cfg0.N) (s : Fin 4) (h : 4 * (t.val / 4) + s.val < cfg0.N) : ex ⟨4 * (t.val / 4) + s.val, h⟩ = ex t := Fin.ext (by dsimp only; omega)
theorem row_run (t : Fin cfg0.N) (s : Fin 4) (k : Fin 512) (h : 4 * (t.val / 4) + s.val < cfg0.N) (hl : s.val * 512 + k.val < 2048) :
    row ⟨4 * (t.val / 4) + s.val, h⟩ k = ⟨s.val * 512 + k.val, hl⟩ := Fin.ext (by dsimp only; omega)

variable (c : Dev nD)

/-- The activations the norm takes. -/
def X (b : Fin 4) (s : Fin 2048) (j : Fin 1024) : EReal := A0 m c (ix3 b s j)

theorem blk0 (t : Fin cfg0.N) (r : Fin 512) (j : Fin 1024) :
    (show FVec Ideal S1x512x1024 .f32 from iblk m c 0 t) (ix3 0 r j) = X m c (ex t) (row t r) j := by blk_point [iblk, idx_val t]
theorem blk1 (t : Fin cfg0.N) (r : Fin 512) (j : Fin 1024) :
    (show FVec Ideal S1x512x1024 .f32 from iblk m c 1 t) (ix3 0 r j) = A1 m c (ix3 (ex t) (row t r) j) := by blk_point [iblk, idx_val t]
theorem blk2 (t : Fin cfg0.N) (r : Fin 512) (j : Fin 1024) :
    (show FVec Ideal S1x512x1024 .f32 from iblk m c 2 t) (ix3 0 r j) = A2 m c (ix3 (ex t) (row t r) j) := by blk_point [iblk, idx_val t]
theorem blk3 (t : Fin cfg0.N) (j : Fin 1024) :
    (show FVec Ideal S1x1024 .f32 from iblk m c 3 t) (ix2 0 j) = A3 m c (ix1 j) := by blk_point [iblk, idx_val t]
theorem blk4 (t : Fin cfg0.N) (j : Fin 1024) :
    (show FVec Ideal S1x1x1024 .f32 from iblk m c 4 t) (ix3 0 0 j) = A4 m c (ix3 (ex t) 0 j) := by blk_point [iblk, idx_val t]

/-- The cotangent of the normalised row, and the whole gradient of the activations. -/
def E (b : Fin 4) (s : Fin 2048) (j : Fin 1024) : EReal := A1 m c (ix3 b s j) * (A3 m c (ix1 j) * (1 + A4 m c (ix3 b 0 j)))
def DX (b : Fin 4) (s : Fin 2048) (j : Fin 1024) : EReal := A2 m c (ix3 b s j) + NormRow.dx (X m c b s) (E m c b s) j
/-- The normalised row. -/
def XH (b : Fin 4) (s : Fin 2048) (j : Fin 1024) : EReal := X m c b s j * Ideal.rsqrt (NormRow.var (X m c b s))

def RES_5 : FVec Ideal S4x2048x1024 .f32 := fun i => DX m c (i 0) (i 1) (i 2)
def RES_6 : FVec Ideal S4x1x1024 .f32 := fun i => ∑ s : Fin 2048, A1 m c (ix3 (i 0) s (i 2))
def RES_7 : FVec Ideal S4x1x1024 .f32 := fun i => ∑ s : Fin 2048, A1 m c (ix3 (i 0) s (i 2)) * (XH m c (i 0) s (i 2) * A3 m c (ix1 (i 2)))
def RES_8 : FVec Ideal S4x1x1024 .f32 := fun i => ∑ s : Fin 2048, A1 m c (ix3 (i 0) s (i 2)) * (1 + A4 m c (ix3 (i 0) 0 (i 2))) * XH m c (i 0) s (i 2)

theorem final_5 : (dats m 0 c).arrAt 5 (cfgs 0).N = RES_5 m c := by
  refine (dats m 0 c).arrAt_eq_of_covers 5 _ (by decide +kernel) fun t hf y => ?_
  blk_simp; rw [after0_5]
  idx_vars y
  rw [show ((cfg0.win 5).blk t).view.emb (ix3 y0 y1 y2) = ix3 (ex t) (row t y1) y2 by blk_ext [idx_val t]]
  by_cases h : t.val % 4 = 0
  · rw [outsAt0_A m c t h]; frame_out; open_payloads
    pointwise [blk0 m c t, blk1 m c t, blk2 m c t, blk3 m c t, blk4 m c t]
    rfl
  · rw [outsAt0_B m c t h]; frame_out; open_payloads
    pointwise [blk0 m c t, blk1 m c t, blk2 m c t, blk3 m c t, blk4 m c t]
    rfl

theorem hzero_6 (j : S1x1x1024.Idx) : k0_pay2 (F := Ideal) j = 0 := by pointwise! [k0_pay2]
theorem hpay_6 (v5 : Vec Ideal S1x512x1024 .f32) (v23 : Vec Ideal S1x1x1024 .f32) (j : S1x1x1024.Idx) :
    k0_pay11 v5 v23 j = v23 j + k0_pay11 v5 (fun _ => 0) j := by pointwise [k0_pay11]

theorem final_6 : (dats m 0 c).arrAt 6 (cfgs 0).N = RES_6 m c := by
  refine (dats m 0 c).arrAt_eq_of_covers 6 _ (by decide +kernel) fun t hf y => ?_
  blk_simp
  rw [after0_6, Pipeline.eq_sum_fin_of_reset_step_apply_of_flush (fun n h => (outsAt0 m c n h).2.1) 4 (fun _ => 0) _
    (fun t h j => by rw [outsAt0_A m c t h]; frame_out; rw [hpay_6, hzero_6])
    (fun t h j => by rw [outsAt0_B m c t h]; frame_out; rw [hpay_6])
    t ((flush0_6 t).mp hf) _, zero_add]
  idx_vars y
  rw [show ((cfg0.win 6).blk t).view.emb (ix3 y0 y1 y2) = ix3 (ex t) 0 y2 by blk_ext [idx_val t]]
  open_payloads
  pointwise [blk0 m c _, blk1 m c _, blk2 m c _, blk3 m c _, blk4 m c _, RES_6]
  refine Fin.sum_mul_add_congr fun s k hl => ?_
  simp only [ex_run, row_run t s k _ hl]

theorem hzero_7 (j : S1x1x1024.Idx) : k0_pay3 (F := Ideal) j = 0 := by pointwise! [k0_pay3]
theorem hpay_7 (v6 : FVec Ideal S512x1024 .f32) (v8 : FVec Ideal S1x1024 .f32) (v22 : FVec Ideal S512x1024 .f32) (v31 : Vec Ideal S1x1x1024 .f32) (j : S1x1x1024.Idx) :
    k0_pay12 v6 v8 v22 v31 j = v31 j + k0_pay12 v6 v8 v22 (fun _ => 0) j := by pointwise [k0_pay12]

theorem final_7 : (dats m 0 c).arrAt 7 (cfgs 0).N = RES_7 m c := by
  refine (dats m 0 c).arrAt_eq_of_covers 7 _ (by decide +kernel) fun t hf y => ?_
  blk_simp
  rw [after0_7, Pipeline.eq_sum_fin_of_reset_step_apply_of_flush (fun n h => (outsAt0 m c n h).2.2.1) 4 (fun _ => 0) _
    (fun t h j => by rw [outsAt0_A m c t h]; frame_out; rw [hpay_7, hzero_7])
    (fun t h j => by rw [outsAt0_B m c t h]; frame_out; rw [hpay_7])
    t ((flush0_7 t).mp hf) _, zero_add]
  idx_vars y
  rw [show ((cfg0.win 7).blk t).view.emb (ix3 y0 y1 y2) = ix3 (ex t) 0 y2 by blk_ext [idx_val t]]
  open_payloads
  pointwise [blk0 m c _, blk1 m c _, blk2 m c _, blk3 m c _, blk4 m c _, RES_7]
  refine Fin.sum_mul_add_congr fun s k hl => ?_
  simp only [ex_run, row_run t s k _ hl]
  rfl

theorem hzero_8 (j : S1x1x1024.Idx) : k0_pay4 (F := Ideal) j = 0 := by pointwise! [k0_pay4]
theorem hpay_8 (v6 : FVec Ideal S512x1024 .f32) (v12 : FVec Ideal S1x1024 .f32) (v22 : FVec Ideal S512x1024 .f32) (v42 : Vec Ideal S1x1x1024 .f32) (j : S1x1x1024.Idx) :
    k0_pay13 v6 v12 v22 v42 j = v42 j + k0_pay13 v6 v12 v22 (fun _ => 0) j := by pointwise [k0_pay13]

theorem final_8 : (dats m 0 c).arrAt 8 (cfgs 0).N = RES_8 m c := by
  refine (dats m 0 c).arrAt_eq_of_covers 8 _ (by decide +kernel) fun t hf y => ?_
  blk_simp
  rw [after0_8, Pipeline.eq_sum_fin_of_reset_step_apply_of_flush (fun n h => (outsAt0 m c n h).2.2.2) 4 (fun _ => 0) _
    (fun t h j => by rw [outsAt0_A m c t h]; frame_out; rw [hpay_8, hzero_8])
    (fun t h j => by rw [outsAt0_B m c t h]; frame_out; rw [hpay_8])
    t ((flush0_8 t).mp hf) _, zero_add]
  idx_vars y
  rw [show ((cfg0.win 8).blk t).view.emb (ix3 y0 y1 y2) = ix3 (ex t) 0 y2 by blk_ext [idx_val t]]
  open_payloads
  pointwise [blk0 m c _, blk1 m c _, blk2 m c _, blk3 m c _, blk4 m c _, RES_8]
  refine Fin.sum_mul_add_congr fun s k hl => ?_
  simp only [ex_run, row_run t s k _ hl]
  rfl

theorem ref_v (b : Fin 4) (s : Fin 2048) (k : Fin 1) : NormUngatedRefIdeal.Read.val_main_v8 (F := Ideal) (A0 m c) (ix3 b s k) = NormRow.var (X m c b s) := by
  obtain rfl := Subsingleton.elim k 0
  pointwise [NormUngatedRefIdeal.Read.val_main_v8, NormUngatedRefIdeal.Read.val_main_v7, NormUngatedRefIdeal.Read.val_main_v6, NormUngatedRefIdeal.Read.val_main_v5, NormUngatedRefIdeal.Read.val_main_v4, NormUngatedRefIdeal.Read.val_main_v3, NormUngatedRefIdeal.Read.val_main_v2, NormUngatedRefIdeal.Read.val_main_cst_0, NormUngatedRefIdeal.Read.val_main_cst_1, NormUngatedRefIdeal.Read.val_main_cst_2]
  rfl
theorem ref_xh (b : Fin 4) (s : Fin 2048) (j : Fin 1024) : NormUngatedRefIdeal.Read.val_main_v14 (F := Ideal) (A0 m c) (ix3 b s j) = XH m c b s j := by
  pointwise [NormUngatedRefIdeal.Read.val_main_v14, NormUngatedRefIdeal.Read.val_main_v13, NormUngatedRefIdeal.Read.val_main_v9, ref_v m c]
  rfl
theorem ref_e (b : Fin 4) (s : Fin 2048) (j : Fin 1024) : NormUngatedRefIdeal.Read.val_main_v35 (F := Ideal) (A1 m c) (A3 m c) (A4 m c) (ix3 b s j) = E m c b s j := by
  pointwise [NormUngatedRefIdeal.Read.val_main_v35, NormUngatedRefIdeal.Read.val_main_v34, NormUngatedRefIdeal.Read.val_main_v30, NormUngatedRefIdeal.Read.val_main_v29, NormUngatedRefIdeal.Read.val_main_v23, NormUngatedRefIdeal.Read.val_main_v19, NormUngatedRefIdeal.Read.val_main_v18, NormUngatedRefIdeal.Read.val_main_v17, NormUngatedRefIdeal.Read.val_main_v0, NormUngatedRefIdeal.Read.val_main_cst_4]
  unfold E
  rw [mul_assoc, mul_comm (1 + _)]

section Real
variable (f0 f1 : S4x2048x1024.Idx → ℝ) (f3 : S1024.Idx → ℝ) (f4 : S4x1x1024.Idx → ℝ)
  (h0 : A0 m c = fun i => (f0 i : EReal)) (h1 : A1 m c = fun i => (f1 i : EReal)) (h3 : A3 m c = fun i => (f3 i : EReal))
  (h4 : A4 m c = fun i => (f4 i : EReal))

include h0 in
theorem X_real (b : Fin 4) (s : Fin 2048) : X m c b s = fun k => ((f0 (ix3 b s k) : ℝ) : EReal) := by
  funext k; unfold X; rw [h0]
include h1 h3 h4 in
theorem E_real (b : Fin 4) (s : Fin 2048) : E m c b s = fun k => ((f1 (ix3 b s k) * (f3 (ix1 k) * (1 + f4 (ix3 b 0 k))) : ℝ) : EReal) := by
  funext k; unfold E; rw [h1, h3, h4, EReal.coe_mul, EReal.coe_mul, EReal.coe_add, EReal.coe_one]

include h0 h1 h3 h4 in
theorem ref_dx (b : Fin 4) (s : Fin 2048) (j : Fin 1024) : NormUngatedRefIdeal.Read.val_main_v50 (F := Ideal) (A0 m c) (A1 m c) (A2 m c) (A3 m c) (A4 m c) (ix3 b s j) = DX m c b s j := by
  pointwise [NormUngatedRefIdeal.Read.val_main_v9, NormUngatedRefIdeal.Read.val_main_v10, NormUngatedRefIdeal.Read.val_main_v11, NormUngatedRefIdeal.Read.val_main_v12, NormUngatedRefIdeal.Read.val_main_v50, NormUngatedRefIdeal.Read.val_main_v49, NormUngatedRefIdeal.Read.val_main_v48, NormUngatedRefIdeal.Read.val_main_v47, NormUngatedRefIdeal.Read.val_main_v46, NormUngatedRefIdeal.Read.val_main_v45, NormUngatedRefIdeal.Read.val_main_v44, NormUngatedRefIdeal.Read.val_main_v43, NormUngatedRefIdeal.Read.val_main_v42, NormUngatedRefIdeal.Read.val_main_v41, NormUngatedRefIdeal.Read.val_main_v40, NormUngatedRefIdeal.Read.val_main_v39, NormUngatedRefIdeal.Read.val_main_v38, NormUngatedRefIdeal.Read.val_main_v37, NormUngatedRefIdeal.Read.val_main_v36, NormUngatedRefIdeal.Read.val_main_cst_3, NormUngatedRefIdeal.Read.val_main_cst_8, NormUngatedRefIdeal.Read.val_main_cst_9, NormUngatedRefIdeal.Read.val_main_cst_10, ref_v m c, ref_e m c, Fin.sum_univ_one]
  unfold DX
  rw [X_real m c f0 h0, E_real m c f1 f3 f4 h1 h3 h4, NormRow.dx_eq, ← add_assoc, ← add_assoc, h0]
  rfl

include h0 h1 h3 h4 in
theorem ref_5 : NormUngatedRefIdeal.Read.val_main_v50 (F := Ideal) (A0 m c) (A1 m c) (A2 m c) (A3 m c) (A4 m c) = RES_5 m c := by
  funext i; idx_vars i; exact ref_dx m c f0 f1 f3 f4 h0 h1 h3 h4 i0 i1 i2
theorem ref_6 : NormUngatedRefIdeal.Read.val_main_v25 (F := Ideal) (A1 m c) = RES_6 m c := by
  funext i; idx_vars i
  pointwise [NormUngatedRefIdeal.Read.val_main_v25, NormUngatedRefIdeal.Read.val_main_v24, NormUngatedRefIdeal.Read.val_main_cst_5, RES_6]
theorem ref_7 : NormUngatedRefIdeal.Read.val_main_v28 (F := Ideal) (A0 m c) (A1 m c) (A3 m c) = RES_7 m c := by
  funext i; idx_vars i
  pointwise [NormUngatedRefIdeal.Read.val_main_v28, NormUngatedRefIdeal.Read.val_main_v27, NormUngatedRefIdeal.Read.val_main_v26, NormUngatedRefIdeal.Read.val_main_v23, NormUngatedRefIdeal.Read.val_main_v16, NormUngatedRefIdeal.Read.val_main_v15, NormUngatedRefIdeal.Read.val_main_v0, NormUngatedRefIdeal.Read.val_main_cst_6, ref_xh m c, RES_7]
  exact Finset.sum_congr rfl fun k _ => mul_comm _ _
theorem ref_8 : NormUngatedRefIdeal.Read.val_main_v33 (F := Ideal) (A0 m c) (A1 m c) (A4 m c) = RES_8 m c := by
  funext i; idx_vars i
  pointwise [NormUngatedRefIdeal.Read.val_main_v33, NormUngatedRefIdeal.Read.val_main_v32, NormUngatedRefIdeal.Read.val_main_v31, NormUngatedRefIdeal.Read.val_main_v30, NormUngatedRefIdeal.Read.val_main_v29, NormUngatedRefIdeal.Read.val_main_v23, NormUngatedRefIdeal.Read.val_main_v18, NormUngatedRefIdeal.Read.val_main_v17, NormUngatedRefIdeal.Read.val_main_cst_4, NormUngatedRefIdeal.Read.val_main_cst_7, ref_xh m c, RES_8]
  exact Finset.sum_congr rfl fun k _ => mul_comm _ _
end Real

end Cert.NormUngatedIdeal.Value

end
-- ==== Proof.Parts.NormUngatedClaim.lean ====
module

public import proofs.«01_k».proof.Defs
public import proofs.«01_k».proof.Proof.Gen.NormUngated.Frame
public import proofs.«01_k».proof.Proof.Parts.NormUngated
public import proofs.«01_k».proof.Proof.Parts.Finite
public import Idealize.ShloMosaic.Lib.Claim

/-! The claims about the modulated norm's gradient without a gated residual. -/

@[expose] public section

set_option maxRecDepth 16384
set_option maxHeartbeats 4000000

noncomputable section

open Idealize.ShloMosaic Idealize.ShloMosaic.TcCoe Idealize.SL.Sem

namespace Cert.NormUngatedIdeal.Value

theorem frame_ref : Cert.quiescent_NormUngatedRefIdeal := by
  intro m g _
  exact (θ_run Cert.NormUngatedRefIdeal.defs _ _).mono
    (fun r h => ⟨fun c => (h c).2.2.2.2, Idealize.ShloMosaic.sem_eq_zero_of_no_sems (by decide) r.2⟩)
    (Cert.NormUngatedRefIdeal.Value.run (F := Ideal) m g)

/-- The kernel's run: its results, the arguments kept. -/
theorem run_kernel (m : (ℓ : Loc nD τ sig) → Buf (Elt Ideal) ℓ) (g : Dev nD → PrngReg) :
    θ_run (Cert.NormUngatedIdeal.defs (F := Ideal)) (onTc (τ := τ) (Cert.NormUngatedIdeal.main (F := Ideal))) ⟨m, fun _ => 0, g⟩ (fun r => ∀ c : Dev nD,
      r.2.mem ((c.tc : Thread Cert.NormUngatedIdeal.nD Cert.NormUngatedIdeal.τ).loc Cert.NormUngatedIdeal.main_v1_0) = RES_5 m c
      ∧ r.2.mem ((c.tc : Thread Cert.NormUngatedIdeal.nD Cert.NormUngatedIdeal.τ).loc Cert.NormUngatedIdeal.main_v1_1) = RES_6 m c
      ∧ r.2.mem ((c.tc : Thread Cert.NormUngatedIdeal.nD Cert.NormUngatedIdeal.τ).loc Cert.NormUngatedIdeal.main_v1_2) = RES_7 m c
      ∧ r.2.mem ((c.tc : Thread Cert.NormUngatedIdeal.nD Cert.NormUngatedIdeal.τ).loc Cert.NormUngatedIdeal.main_v1_3) = RES_8 m c
      ∧ r.2.mem ((c.tc : Thread Cert.NormUngatedIdeal.nD Cert.NormUngatedIdeal.τ).loc Cert.NormUngatedIdeal.main_arg0) = m ((c.tc : Thread Cert.NormUngatedIdeal.nD Cert.NormUngatedIdeal.τ).loc Cert.NormUngatedIdeal.main_arg0)
      ∧ r.2.mem ((c.tc : Thread Cert.NormUngatedIdeal.nD Cert.NormUngatedIdeal.τ).loc Cert.NormUngatedIdeal.main_arg1) = m ((c.tc : Thread Cert.NormUngatedIdeal.nD Cert.NormUngatedIdeal.τ).loc Cert.NormUngatedIdeal.main_arg1)
      ∧ r.2.mem ((c.tc : Thread Cert.NormUngatedIdeal.nD Cert.NormUngatedIdeal.τ).loc Cert.NormUngatedIdeal.main_arg2) = m ((c.tc : Thread Cert.NormUngatedIdeal.nD Cert.NormUngatedIdeal.τ).loc Cert.NormUngatedIdeal.main_arg2)
      ∧ r.2.mem ((c.tc : Thread Cert.NormUngatedIdeal.nD Cert.NormUngatedIdeal.τ).loc Cert.NormUngatedIdeal.main_arg3) = m ((c.tc : Thread Cert.NormUngatedIdeal.nD Cert.NormUngatedIdeal.τ).loc Cert.NormUngatedIdeal.main_arg3)
      ∧ r.2.mem ((c.tc : Thread Cert.NormUngatedIdeal.nD Cert.NormUngatedIdeal.τ).loc Cert.NormUngatedIdeal.main_arg4) = m ((c.tc : Thread Cert.NormUngatedIdeal.nD Cert.NormUngatedIdeal.τ).loc Cert.NormUngatedIdeal.main_arg4)) := by
  run_from Cert.NormUngatedIdeal.Gen.run_main m g
  · exact final_5 m c
  · exact final_6 m c
  · exact final_7 m c
  · exact final_8 m c

/-- Finite arguments are arrays of reals. -/
theorem real_args [Cert.Pre_finite_norm_ungated.Facts] (a0 a1 a2 a3 a4) (h : Cert.Pre_finite_norm_ungated.fn (F := Ideal) a0 a1 a2 a3 a4 = fun _ => 1#1) :
    (∃ f : S4x2048x1024.Idx → ℝ, a0 = fun i => (f i : EReal)) ∧ (∃ f : S4x2048x1024.Idx → ℝ, a1 = fun i => (f i : EReal)) ∧ (∃ f : S1024.Idx → ℝ, a3 = fun i => (f i : EReal)) ∧ (∃ f : S4x1x1024.Idx → ℝ, a4 = fun i => (f i : EReal)) := by
  obtain ⟨h, e3⟩ := Cert.Finite.and_one (congrFun h ix0)
  obtain ⟨h, e2⟩ := Cert.Finite.and_one h
  obtain ⟨e0, e1⟩ := Cert.Finite.and_one h
  exact ⟨Cert.Finite.all_real _ _ (Cert.Finite.inf_const _ _) _ _ _ _ e0,
    Cert.Finite.all_real _ _ (Cert.Finite.inf_const _ _) _ _ _ _ e1,
    Cert.Finite.all_real _ _ (Cert.Finite.inf_const _ _) _ _ _ _ e2,
    Cert.Finite.all_real _ _ (Cert.Finite.inf_const _ _) _ _ _ _ e3⟩

theorem algebraic [Cert.Pre_finite_norm_ungated.Facts] : Cert.algebraic_NormUngatedIdeal_NormUngatedRefIdeal_pre_finite_norm_ungated := by
  intro m g m' g' hpre hagree
  refine ⟨fun c => RES_5 m c, fun c => RES_6 m c, fun c => RES_7 m c, fun c => RES_8 m c, run_kernel m g, ?_⟩
  refine (θ_run Cert.NormUngatedRefIdeal.defs _ _).mono (fun r h c => ⟨(h c).1.trans ?_, (h c).2.1.trans ?_, (h c).2.2.1.trans ?_, (h c).2.2.2.1.trans ?_, (h c).2.2.2.2⟩) (Cert.NormUngatedRefIdeal.Value.run m' g')
  all_goals
    obtain ⟨h0, h1, h2, h3, h4⟩ := hagree c
    obtain ⟨⟨f0, e0⟩, ⟨f1, e1⟩, ⟨f3, e3⟩, ⟨f4, e4⟩⟩ := real_args _ _ _ _ _ (hpre c)
  · rw [NormUngatedRefIdeal.Read.val_main_v50_eq, h0, h1, h2, h3, h4]
    exact ref_5 m c f0 f1 f3 f4 e0 e1 e3 e4
  · refine (NormUngatedRefIdeal.Read.val_main_v25_eq (F := Ideal) _ ).trans ?_
    rw [h1]
    exact ref_6 m c
  · refine (NormUngatedRefIdeal.Read.val_main_v28_eq (F := Ideal) _ _ _ ).trans ?_
    rw [h0, h1, h3]
    exact ref_7 m c
  · refine (NormUngatedRefIdeal.Read.val_main_v33_eq (F := Ideal) _ _ _ ).trans ?_
    rw [h0, h1, h4]
    exact ref_8 m c

end Cert.NormUngatedIdeal.Value

end
-- ==== Proof.Parts.Loss.lean ====
module

public import proofs.«01_k».proof.Proof.Gen.LossIdeal.Frame
public import proofs.«01_k».proof.Proof.Gen.LossRefIdeal.Run
public import proofs.«01_k».proof.Proof.Gen.LossRefIdeal.Read
public import Idealize.ShloMosaic.Lib.Pipeline.ValueKit
public import Idealize.ShloMosaic.Lib.Pointwise
public import proofs.«01_k».proof.Proof.Parts.NormMath

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen

variable (m : (ℓ : Loc nD τ sig) → Buf (Elt Ideal) ℓ)

theorem idx_val : ∀ t : Fin cfg0.N, win0_0.index t = ![t.val / 4, t.val % 4, 0]
    ∧ win0_1.index t = ![t.val / 4, t.val % 4, 0]
    ∧ win0_2.index t = ![0, 0]
    ∧ win0_3.index t = ![t.val / 4, t.val % 4, 0]
    ∧ win0_4.index t = ![t.val / 4, 0, 0]
    ∧ win0_5.index t = ![t.val / 4, t.val % 4, 0]
    ∧ win0_6.index t = ![t.val / 4, 0, 0]
    ∧ win0_7.index t = ![t.val / 4, 0, 0]
    ∧ win0_8.index t = ![t.val / 4, t.val % 4, 0]
    ∧ win0_9.index t = ![t.val / 4, 0, 0] :=
  (by decide +kernel : ∀ t : Fin grid0.N, _)

abbrev A0 (c : Dev nD) : FVec Ideal S4x2048x1024 .f32 := m ((c : Thread nD τ).loc main_arg0)
abbrev A1 (c : Dev nD) : FVec Ideal S4x2048x1024 .f32 := m ((c : Thread nD τ).loc main_arg1)
abbrev A2 (c : Dev nD) : FVec Ideal S1024 .f32 := m ((c : Thread nD τ).loc main_arg2)
abbrev A3 (c : Dev nD) : FVec Ideal S4x2048x1024 .f32 := m ((c : Thread nD τ).loc main_arg3)
abbrev A4 (c : Dev nD) : FVec Ideal S4x1x1024 .f32 := m ((c : Thread nD τ).loc main_arg4)

/-- The example and the row of a block's row. -/
abbrev ex (t : Fin cfg0.N) : Fin 4 := ⟨t.val / 4, by have := t.isLt; have : cfg0.N = 16 := rfl; omega⟩
abbrev row (t : Fin cfg0.N) (r : Fin 512) : Fin 2048 := ⟨512 * (t.val % 4) + r.val, by omega⟩

/-- The blocks of one example's run. -/
theorem ex_run (t : Fin cfg0.N) (s : Fin 4) (h : 4 * (t.val / 4) + s.val < cfg0.N) : ex ⟨4 * (t.val / 4) + s.val, h⟩ = ex t := Fin.ext (by dsimp only; omega)
theorem row_run (t : Fin cfg0.N) (s : Fin 4) (k : Fin 512) (h : 4 * (t.val / 4) + s.val < cfg0.N) (hl : s.val * 512 + k.val < 2048) :
    row ⟨4 * (t.val / 4) + s.val, h⟩ k = ⟨s.val * 512 + k.val, hl⟩ := Fin.ext (by dsimp only; omega)

variable (c : Dev nD)

/-- The activations the norm takes. -/
def X (b : Fin 4) (s : Fin 2048) (j : Fin 1024) : EReal := A0 m c (ix3 b s j) + A4 m c (ix3 b 0 j) * A3 m c (ix3 b s j)

theorem blk0 (t : Fin cfg0.N) (r : Fin 512) (j : Fin 1024) :
    (show FVec Ideal S1x512x1024 .f32 from iblk m c 0 t) (ix3 0 r j) = X m c (ex t) (row t r) j := by
  refine (congrArg (V m c (Pipeline.arrRef spec0 0)) (show ((cfg0.win 0).blk t).view.emb (ix3 0 r j) = ix3 (ex t) (row t r) j by blk_ext [idx_val t])).trans ?_
  entry_read
  pointwise
  rfl
theorem blk1 (t : Fin cfg0.N) (r : Fin 512) (j : Fin 1024) :
    (show FVec Ideal S1x512x1024 .f32 from iblk m c 1 t) (ix3 0 r j) = A1 m c (ix3 (ex t) (row t r) j) := by blk_point [iblk, idx_val t]
theorem blk2 (t : Fin cfg0.N) (j : Fin 1024) :
    (show FVec Ideal S1x1024 .f32 from iblk m c 2 t) (ix2 0 j) = A2 m c (ix1 j) := by blk_point [iblk, idx_val t]
theorem blk3 (t : Fin cfg0.N) (r : Fin 512) (j : Fin 1024) :
    (show FVec Ideal S1x512x1024 .bf16 from iblk m c 3 t) (ix3 0 r j) = A3 m c (ix3 (ex t) (row t r) j) := by blk_point [iblk, idx_val t]
theorem blk4 (t : Fin cfg0.N) (j : Fin 1024) :
    (show FVec Ideal S1x1x1024 .f32 from iblk m c 4 t) (ix3 0 0 j) = A4 m c (ix3 (ex t) 0 j) := by blk_point [iblk, idx_val t]

/-- The error against the target, its cotangent over the length, and the cotangent of the normalised row. -/
def XH (b : Fin 4) (s : Fin 2048) (j : Fin 1024) : EReal := X m c b s j * Ideal.rsqrt (NormRow.var (X m c b s))
def ERR (b : Fin 4) (s : Fin 2048) (j : Fin 1024) : EReal := XH m c b s j * A2 m c (ix1 j) - A1 m c (ix3 b s j)
def DY (b : Fin 4) (s : Fin 2048) (j : Fin 1024) : EReal := ERR m c b s j * Ideal.ofBits .f32 981467136#32
def E (b : Fin 4) (s : Fin 2048) (j : Fin 1024) : EReal := DY m c b s j * A2 m c (ix1 j)
def DX (b : Fin 4) (s : Fin 2048) (j : Fin 1024) : EReal := NormRow.dx (X m c b s) (E m c b s) j
/-- One row's mean square error. -/
def TOK (b : Fin 4) (s : Fin 2048) : EReal := Ideal.div (∑ k, ERR m c b s k * ERR m c b s k) NormRow.len

def RES_5 : FVec Ideal S4x2048x1024 .f32 := fun i => DX m c (i 0) (i 1) (i 2)
def RES_6 : FVec Ideal S4x1x128 .f32 := fun i => ∑ s : Fin 4, Ideal.ofBits .f32 1056964608#32 * ∑ k : Fin 512, TOK m c (i 0) ⟨s.val * 512 + k.val, by omega⟩
def RES_7 : FVec Ideal S4x1x1024 .f32 := fun i => ∑ s : Fin 2048, DY m c (i 0) s (i 2) * XH m c (i 0) s (i 2)
def RES_8 : FVec Ideal S4x2048x1024 .bf16 := fun i => A4 m c (ix3 (i 0) 0 (i 2)) * DX m c (i 0) (i 1) (i 2)
def RES_9 : FVec Ideal S4x1x1024 .f32 := fun i => ∑ s : Fin 2048, DX m c (i 0) s (i 2) * A3 m c (ix3 (i 0) s (i 2))

theorem final_5 : (dats m 0 c).arrAt 5 (cfgs 0).N = RES_5 m c := by
  refine (dats m 0 c).arrAt_eq_of_covers 5 _ (by decide +kernel) fun t hf y => ?_
  blk_simp; rw [after0_5]
  idx_vars y
  rw [show ((cfg0.win 5).blk t).view.emb (ix3 y0 y1 y2) = ix3 (ex t) (row t y1) y2 by blk_ext [idx_val t]]
  by_cases h : t.val % 4 = 0
  · rw [outsAt0_A m c t h h]; frame_out; open_payloads
    pointwise [blk0 m c t, blk1 m c t, blk2 m c t, blk3 m c t, blk4 m c t]
    rfl
  · rw [outsAt0_B m c t h h]; frame_out; open_payloads
    pointwise [blk0 m c t, blk1 m c t, blk2 m c t, blk3 m c t, blk4 m c t]
    rfl

theorem final_8 : (dats m 0 c).arrAt 8 (cfgs 0).N = RES_8 m c := by
  refine (dats m 0 c).arrAt_eq_of_covers 8 _ (by decide +kernel) fun t hf y => ?_
  blk_simp; rw [after0_8]
  idx_vars y
  rw [show ((cfg0.win 8).blk t).view.emb (ix3 y0 y1 y2) = ix3 (ex t) (row t y1) y2 by blk_ext [idx_val t]]
  by_cases h : t.val % 4 = 0
  · rw [outsAt0_A m c t h h]; frame_out; open_payloads
    pointwise [blk0 m c t, blk1 m c t, blk2 m c t, blk3 m c t, blk4 m c t]
    rfl
  · rw [outsAt0_B m c t h h]; frame_out; open_payloads
    pointwise [blk0 m c t, blk1 m c t, blk2 m c t, blk3 m c t, blk4 m c t]
    rfl

theorem hzero_6 (j : S1x1x128.Idx) : k0_pay3 (F := Ideal) j = 0 := by pointwise! [k0_pay3]
theorem hpay_6 (v3 : Vec Ideal S1x512x1024 .f32) (v5 : Vec Ideal S1x1024 .f32) (v19 : Vec Ideal S1x512x1024 .f32) (v27 : Vec Ideal S1x1x128 .f32) (j : S1x1x128.Idx) :
    k0_pay11 (k0_pay10 v3 v5 v19 v27) j = v27 j + k0_pay11 (k0_pay10 v3 v5 v19 (fun _ => 0)) j := by pointwise [k0_pay11, k0_pay10]

theorem final_6 : (dats m 0 c).arrAt 6 (cfgs 0).N = RES_6 m c := by
  refine (dats m 0 c).arrAt_eq_of_covers 6 _ (by decide +kernel) fun t hf y => ?_
  blk_simp
  rw [after0_6, Pipeline.eq_sum_fin_of_reset_step_apply_of_flush (fun n h => (outsAt0 m c n h).2.1) 4 (fun _ => 0) _
    (fun t h j => by rw [outsAt0_A m c t h h]; frame_out; rw [hpay_6, hzero_6])
    (fun t h j => by rw [outsAt0_B m c t h h]; frame_out; rw [hpay_6])
    t ((flush0_6 t).mp hf) _, zero_add]
  idx_vars y
  rw [show ((cfg0.win 6).blk t).view.emb (ix3 y0 y1 y2) = ix3 (ex t) 0 y2 by blk_ext [idx_val t]]
  open_payloads
  pointwise [blk0 m c _, blk1 m c _, blk2 m c _, blk3 m c _, blk4 m c _, RES_6]
  change @Eq EReal _ _
  refine Finset.sum_congr rfl fun s _ => ?_
  refine congrArg _ (Finset.sum_congr rfl fun k _ => ?_)
  simp only [ex_run, row_run t s k _ (show s.val * 512 + k.val < 2048 by omega)]
  rfl

theorem hzero_7 (j : S1x1x1024.Idx) : k0_pay4 (F := Ideal) j = 0 := by pointwise! [k0_pay4]
theorem hpay_7 (v16 : FVec Ideal S512x1024 .f32) (v21 : FVec Ideal S512x1024 .f32) (v40 : Vec Ideal S1x1x1024 .f32) (j : S1x1x1024.Idx) :
    k0_pay13 v16 v21 v40 j = v40 j + k0_pay13 v16 v21 (fun _ => 0) j := by pointwise [k0_pay13]

theorem final_7 : (dats m 0 c).arrAt 7 (cfgs 0).N = RES_7 m c := by
  refine (dats m 0 c).arrAt_eq_of_covers 7 _ (by decide +kernel) fun t hf y => ?_
  blk_simp
  rw [after0_7, Pipeline.eq_sum_fin_of_reset_step_apply_of_flush (fun n h => (outsAt0 m c n h).2.2.1) 4 (fun _ => 0) _
    (fun t h j => by rw [outsAt0_A m c t h h]; frame_out; rw [hpay_7, hzero_7])
    (fun t h j => by rw [outsAt0_B m c t h h]; frame_out; rw [hpay_7])
    t ((flush0_7 t).mp hf) _, zero_add]
  idx_vars y
  rw [show ((cfg0.win 7).blk t).view.emb (ix3 y0 y1 y2) = ix3 (ex t) 0 y2 by blk_ext [idx_val t]]
  open_payloads
  pointwise [blk0 m c _, blk1 m c _, blk2 m c _, blk3 m c _, blk4 m c _, RES_7]
  refine Fin.sum_mul_add_congr fun s k hl => ?_
  simp only [ex_run, row_run t s k _ hl]
  rfl

theorem hzero_9 (j : S1x1x1024.Idx) : k0_pay16 (F := Ideal) j = 0 := by pointwise! [k0_pay16]
theorem hpay_9 (v60 : FVec Ideal S512x1024 .f32) (v75 : Vec Ideal S1x1x1024 .f32) (v77 : Vec Ideal S1x512x1024 .bf16) (j : S1x1x1024.Idx) :
    k0_pay2 v60 v75 v77 j = v75 j + k0_pay2 v60 (fun _ => 0) v77 j := by pointwise [k0_pay2]

theorem final_9 : (dats m 0 c).arrAt 9 (cfgs 0).N = RES_9 m c := by
  refine (dats m 0 c).arrAt_eq_of_covers 9 _ (by decide +kernel) fun t hf y => ?_
  blk_simp
  rw [after0_9, Pipeline.eq_sum_fin_of_reset_step_apply_of_flush (fun n h => (outsAt0 m c n h).2.2.2.2) 4 (fun _ => 0) _
    (fun t h j => by rw [outsAt0_A m c t h h]; frame_out; rw [hpay_9, hzero_9])
    (fun t h j => by rw [outsAt0_B m c t h h]; frame_out; rw [hpay_9])
    t ((flush0_9 t).mp hf) _, zero_add]
  idx_vars y
  rw [show ((cfg0.win 9).blk t).view.emb (ix3 y0 y1 y2) = ix3 (ex t) 0 y2 by blk_ext [idx_val t]]
  open_payloads
  pointwise [blk0 m c _, blk1 m c _, blk2 m c _, blk3 m c _, blk4 m c _, RES_9]
  refine Fin.sum_mul_add_congr fun s k hl => ?_
  simp only [ex_run, row_run t s k _ hl]
  rfl

theorem ref_x (b : Fin 4) (s : Fin 2048) (j : Fin 1024) : LossRefIdeal.Read.val_main_v3 (F := Ideal) (A0 m c) (A3 m c) (A4 m c) (ix3 b s j) = X m c b s j := by
  pointwise [LossRefIdeal.Read.val_main_v3, LossRefIdeal.Read.val_main_v2, LossRefIdeal.Read.val_main_v1]
  rfl
theorem ref_v (b : Fin 4) (s : Fin 2048) (k : Fin 1) : LossRefIdeal.Read.val_main_v10 (F := Ideal) (A0 m c) (A3 m c) (A4 m c) (ix3 b s k) = NormRow.var (X m c b s) := by
  obtain rfl := Subsingleton.elim k 0
  pointwise [LossRefIdeal.Read.val_main_v4, LossRefIdeal.Read.val_main_v5, LossRefIdeal.Read.val_main_v6, LossRefIdeal.Read.val_main_v7, LossRefIdeal.Read.val_main_v8, LossRefIdeal.Read.val_main_v9, LossRefIdeal.Read.val_main_v10, LossRefIdeal.Read.val_main_cst, LossRefIdeal.Read.val_main_cst_0, LossRefIdeal.Read.val_main_cst_1, ref_x m c]
  rfl
theorem ref_xh (b : Fin 4) (s : Fin 2048) (j : Fin 1024) : LossRefIdeal.Read.val_main_v16 (F := Ideal) (A0 m c) (A3 m c) (A4 m c) (ix3 b s j) = XH m c b s j := by
  pointwise [LossRefIdeal.Read.val_main_v16, LossRefIdeal.Read.val_main_v15, LossRefIdeal.Read.val_main_v11, ref_x m c, ref_v m c]
  rfl
theorem ref_err (b : Fin 4) (s : Fin 2048) (j : Fin 1024) : LossRefIdeal.Read.val_main_v19 (F := Ideal) (A0 m c) (A1 m c) (A2 m c) (A3 m c) (A4 m c) (ix3 b s j) = ERR m c b s j := by
  pointwise [LossRefIdeal.Read.val_main_v19, LossRefIdeal.Read.val_main_v18, LossRefIdeal.Read.val_main_v17, LossRefIdeal.Read.val_main_v0, ref_xh m c]
  rfl
theorem third : Ideal.div (Ideal.ofBits .f32 1056964608#32) NormRow.len * Ideal.ofBits .f32 1073741824#32 = Ideal.ofBits .f32 981467136#32 := by
  rw [NormRow.len_eq, Ideal.div_coe (by norm_num)]
  simp [Ideal.ofBits, Ideal.ieee]
  simp only [← EReal.coe_mul, ← EReal.coe_one]
  norm_num
theorem ref_dy (b : Fin 4) (s : Fin 2048) (j : Fin 1024) : LossRefIdeal.Read.val_main_v36 (F := Ideal) (A0 m c) (A1 m c) (A2 m c) (A3 m c) (A4 m c) (ix3 b s j) = DY m c b s j := by
  pointwise [LossRefIdeal.Read.val_main_v29, LossRefIdeal.Read.val_main_v30, LossRefIdeal.Read.val_main_v31, LossRefIdeal.Read.val_main_v32, LossRefIdeal.Read.val_main_v33, LossRefIdeal.Read.val_main_v34, LossRefIdeal.Read.val_main_v35, LossRefIdeal.Read.val_main_v36, LossRefIdeal.Read.val_main_v22, LossRefIdeal.Read.val_main_v21, LossRefIdeal.Read.val_main_cst_3, LossRefIdeal.Read.val_main_cst_8, LossRefIdeal.Read.val_main_cst_9, LossRefIdeal.Read.val_main_cst_10, ref_err m c]
  unfold DY
  rw [← mul_assoc, mul_comm (ERR m c b s j)]
  exact congrArg (· * _) third
theorem ref_e (b : Fin 4) (s : Fin 2048) (j : Fin 1024) : LossRefIdeal.Read.val_main_v41 (F := Ideal) (A0 m c) (A1 m c) (A2 m c) (A3 m c) (A4 m c) (ix3 b s j) = E m c b s j := by
  pointwise [LossRefIdeal.Read.val_main_v41, LossRefIdeal.Read.val_main_v40, LossRefIdeal.Read.val_main_v0, ref_dy m c]
  rfl

section Real
variable (f0 f1 f3 : S4x2048x1024.Idx → ℝ) (f2 : S1024.Idx → ℝ) (f4 : S4x1x1024.Idx → ℝ)
  (h0 : A0 m c = fun i => (f0 i : EReal)) (h1 : A1 m c = fun i => (f1 i : EReal)) (h2 : A2 m c = fun i => (f2 i : EReal))
  (h3 : A3 m c = fun i => (f3 i : EReal)) (h4 : A4 m c = fun i => (f4 i : EReal))

include h0 h3 h4 in
theorem X_real (b : Fin 4) (s : Fin 2048) : X m c b s = fun k => ((f0 (ix3 b s k) + f4 (ix3 b 0 k) * f3 (ix3 b s k) : ℝ) : EReal) := by
  funext k; unfold X; rw [h0, h3, h4, EReal.coe_add, EReal.coe_mul]
include h0 h1 h2 h3 h4 in
theorem ERR_real (b : Fin 4) (s : Fin 2048) : ∃ q : Fin 1024 → ℝ, ERR m c b s = fun k => (q k : EReal) := by
  obtain ⟨r, hr⟩ := NormRow.rsqrt_var_real (fun k => f0 (ix3 b s k) + f4 (ix3 b 0 k) * f3 (ix3 b s k))
  refine ⟨fun k => (f0 (ix3 b s k) + f4 (ix3 b 0 k) * f3 (ix3 b s k)) * r * f2 (ix1 k) - f1 (ix3 b s k), funext fun k => ?_⟩
  unfold ERR XH
  rw [X_real m c f0 f3 f4 h0 h3 h4, hr, h1, h2, EReal.coe_sub, EReal.coe_mul, EReal.coe_mul]
theorem small_eq : Ideal.ofBits .f32 981467136#32 = ((1 / 1024 : ℝ) : EReal) := by
  simp [Ideal.ofBits, Ideal.ieee]; rw [← EReal.coe_mul]; norm_num
theorem half_eq : Ideal.ofBits .f32 1056964608#32 = ((1 / 2 : ℝ) : EReal) := by
  simp [Ideal.ofBits, Ideal.ieee]; rw [← EReal.coe_mul]; norm_num
include h0 h1 h2 h3 h4 in
theorem E_real (b : Fin 4) (s : Fin 2048) : ∃ q : Fin 1024 → ℝ, E m c b s = fun k => (q k : EReal) := by
  obtain ⟨q, hq⟩ := ERR_real m c f0 f1 f3 f2 f4 h0 h1 h2 h3 h4 b s
  refine ⟨fun k => q k * (1 / 1024) * f2 (ix1 k), funext fun k => ?_⟩
  unfold E DY
  rw [hq, h2, small_eq, EReal.coe_mul, EReal.coe_mul]
include h0 h1 h2 h3 h4 in
theorem TOK_real (b : Fin 4) (s : Fin 2048) : ∃ q : ℝ, TOK m c b s = (q : EReal) := by
  obtain ⟨q, hq⟩ := ERR_real m c f0 f1 f3 f2 f4 h0 h1 h2 h3 h4 b s
  refine ⟨(∑ k, q k * q k) * (1 / 1024), ?_⟩
  unfold TOK
  rw [hq, NormRow.len_eq, Ideal.div_coe (by norm_num)]
  simp only [← EReal.coe_mul, NormRow.coe_sum]

include h0 h1 h2 h3 h4 in
theorem ref_dx (b : Fin 4) (s : Fin 2048) (j : Fin 1024) : LossRefIdeal.Read.val_main_v55 (F := Ideal) (A0 m c) (A1 m c) (A2 m c) (A3 m c) (A4 m c) (ix3 b s j) = DX m c b s j := by
  pointwise [LossRefIdeal.Read.val_main_v11, LossRefIdeal.Read.val_main_v12, LossRefIdeal.Read.val_main_v13, LossRefIdeal.Read.val_main_v14, LossRefIdeal.Read.val_main_v42, LossRefIdeal.Read.val_main_v43, LossRefIdeal.Read.val_main_v44, LossRefIdeal.Read.val_main_v45, LossRefIdeal.Read.val_main_v46, LossRefIdeal.Read.val_main_v47, LossRefIdeal.Read.val_main_v48, LossRefIdeal.Read.val_main_v49, LossRefIdeal.Read.val_main_v50, LossRefIdeal.Read.val_main_v51, LossRefIdeal.Read.val_main_v52, LossRefIdeal.Read.val_main_v53, LossRefIdeal.Read.val_main_v54, LossRefIdeal.Read.val_main_v55, LossRefIdeal.Read.val_main_cst_2, LossRefIdeal.Read.val_main_cst_12, LossRefIdeal.Read.val_main_cst_13, LossRefIdeal.Read.val_main_cst_14, ref_x m c, ref_v m c, ref_e m c, Fin.sum_univ_one]
  unfold DX
  obtain ⟨q, hq⟩ := E_real m c f0 f1 f3 f2 f4 h0 h1 h2 h3 h4 b s
  rw [X_real m c f0 f3 f4 h0 h3 h4, hq, NormRow.dx_eq]
  rfl

include h0 h1 h2 h3 h4 in
theorem ref_5 : LossRefIdeal.Read.val_main_v55 (F := Ideal) (A0 m c) (A1 m c) (A2 m c) (A3 m c) (A4 m c) = RES_5 m c := by
  funext i; idx_vars i; exact ref_dx m c f0 f1 f3 f2 f4 h0 h1 h2 h3 h4 i0 i1 i2
include h0 h1 h2 h3 h4 in
theorem ref_6 : LossRefIdeal.Read.val_main_v62 (F := Ideal) (A0 m c) (A1 m c) (A2 m c) (A3 m c) (A4 m c) = RES_6 m c := by
  choose q hq using fun b s => TOK_real m c f0 f1 f3 f2 f4 h0 h1 h2 h3 h4 b s
  have hv : ∀ b s, LossRefIdeal.Read.val_main_v25 (F := Ideal) (A0 m c) (A1 m c) (A2 m c) (A3 m c) (A4 m c) (ix2 b s) = TOK m c b s := fun b s => by
    pointwise [LossRefIdeal.Read.val_main_v25, LossRefIdeal.Read.val_main_v24, LossRefIdeal.Read.val_main_v23, LossRefIdeal.Read.val_main_v20, LossRefIdeal.Read.val_main_cst_4, LossRefIdeal.Read.val_main_cst_5, ref_err m c]
    rfl
  funext i; idx_vars i
  pointwise [LossRefIdeal.Read.val_main_v62, LossRefIdeal.Read.val_main_v61, LossRefIdeal.Read.val_main_v28, LossRefIdeal.Read.val_main_v27, LossRefIdeal.Read.val_main_v26, LossRefIdeal.Read.val_main_cst_6, LossRefIdeal.Read.val_main_cst_7, hv, RES_6, hq]
  rw [half_eq]
  simp only [← EReal.coe_mul, NormRow.coe_sum]
  rw [← Finset.mul_sum]
  refine congrArg (fun r : ℝ => ((1 / 2 * r : ℝ) : EReal)) ?_
  exact (Fin.sum_mul_add_congr fun s k hl => rfl).symm
theorem ref_7 : LossRefIdeal.Read.val_main_v39 (F := Ideal) (A0 m c) (A1 m c) (A2 m c) (A3 m c) (A4 m c) = RES_7 m c := by
  funext i; idx_vars i
  pointwise [LossRefIdeal.Read.val_main_v39, LossRefIdeal.Read.val_main_v38, LossRefIdeal.Read.val_main_v37, LossRefIdeal.Read.val_main_cst_11, ref_dy m c, ref_xh m c, RES_7]
  exact Finset.sum_congr rfl fun k _ => mul_comm _ _
include h0 h1 h2 h3 h4 in
theorem ref_8 : LossRefIdeal.Read.val_main_v63 (F := Ideal) (A0 m c) (A1 m c) (A2 m c) (A3 m c) (A4 m c) = RES_8 m c := by
  funext i; idx_vars i
  pointwise [LossRefIdeal.Read.val_main_v63, LossRefIdeal.Read.val_main_v57, LossRefIdeal.Read.val_main_v56, ref_dx m c f0 f1 f3 f2 f4 h0 h1 h2 h3 h4, RES_8]
include h0 h1 h2 h3 h4 in
theorem ref_9 : LossRefIdeal.Read.val_main_v60 (F := Ideal) (A0 m c) (A1 m c) (A2 m c) (A3 m c) (A4 m c) = RES_9 m c := by
  funext i; idx_vars i
  pointwise [LossRefIdeal.Read.val_main_v60, LossRefIdeal.Read.val_main_v59, LossRefIdeal.Read.val_main_v58, LossRefIdeal.Read.val_main_cst_15, ref_dx m c f0 f1 f3 f2 f4 h0 h1 h2 h3 h4, RES_9]

end Real

end Cert.LossIdeal.Value

end
-- ==== Proof.Parts.LossClaim.lean ====
module

public import proofs.«01_k».proof.Defs
public import proofs.«01_k».proof.Proof.Gen.Loss.Frame
public import proofs.«01_k».proof.Proof.Parts.Loss
public import proofs.«01_k».proof.Proof.Parts.Finite
public import Idealize.ShloMosaic.Lib.Claim

/-! The claims about the loss and its gradient through the final norm. -/

@[expose] public section

set_option maxRecDepth 16384
set_option maxHeartbeats 4000000

noncomputable section

open Idealize.ShloMosaic Idealize.ShloMosaic.TcCoe Idealize.SL.Sem

namespace Cert.LossIdeal.Value

theorem frame_ref : Cert.quiescent_LossRefIdeal := by
  intro m g _
  exact (θ_run Cert.LossRefIdeal.defs _ _).mono
    (fun r h => ⟨fun c => (h c).2.2.2.2.2, Idealize.ShloMosaic.sem_eq_zero_of_no_sems (by decide) r.2⟩)
    (Cert.LossRefIdeal.Value.run (F := Ideal) m g)

/-- The kernel's run: its results, the arguments kept. -/
theorem run_kernel (m : (ℓ : Loc nD τ sig) → Buf (Elt Ideal) ℓ) (g : Dev nD → PrngReg) :
    θ_run (Cert.LossIdeal.defs (F := Ideal)) (onTc (τ := τ) (Cert.LossIdeal.main (F := Ideal))) ⟨m, fun _ => 0, g⟩ (fun r => ∀ c : Dev nD,
      r.2.mem ((c.tc : Thread Cert.LossIdeal.nD Cert.LossIdeal.τ).loc Cert.LossIdeal.main_v5_0) = RES_5 m c
      ∧ r.2.mem ((c.tc : Thread Cert.LossIdeal.nD Cert.LossIdeal.τ).loc Cert.LossIdeal.main_v5_1) = RES_6 m c
      ∧ r.2.mem ((c.tc : Thread Cert.LossIdeal.nD Cert.LossIdeal.τ).loc Cert.LossIdeal.main_v5_2) = RES_7 m c
      ∧ r.2.mem ((c.tc : Thread Cert.LossIdeal.nD Cert.LossIdeal.τ).loc Cert.LossIdeal.main_v5_3) = RES_8 m c
      ∧ r.2.mem ((c.tc : Thread Cert.LossIdeal.nD Cert.LossIdeal.τ).loc Cert.LossIdeal.main_v5_4) = RES_9 m c
      ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)) := by
  run_from Cert.LossIdeal.Gen.run_main m g
  · exact final_5 m c
  · exact final_6 m c
  · exact final_7 m c
  · exact final_8 m c
  · exact final_9 m c

/-- Finite arguments are arrays of reals. -/
theorem real_args [Cert.Pre_finite_loss.Facts] (a0 a1 a2 a3 a4) (h : Cert.Pre_finite_loss.fn (F := Ideal) a0 a1 a2 a3 a4 = fun _ => 1#1) :
    (∃ f : S4x2048x1024.Idx → ℝ, a0 = fun i => (f i : EReal)) ∧ (∃ f : S4x2048x1024.Idx → ℝ, a1 = fun i => (f i : EReal)) ∧ (∃ f : S1024.Idx → ℝ, a2 = fun i => (f i : EReal)) ∧ (∃ f : S4x2048x1024.Idx → ℝ, a3 = fun i => (f i : EReal)) ∧ (∃ f : S4x1x1024.Idx → ℝ, a4 = fun i => (f i : EReal)) := by
  obtain ⟨h, e4⟩ := Cert.Finite.and_one (congrFun h ix0)
  obtain ⟨h, e3⟩ := Cert.Finite.and_one h
  obtain ⟨h, e2⟩ := Cert.Finite.and_one h
  obtain ⟨e0, e1⟩ := Cert.Finite.and_one h
  exact ⟨Cert.Finite.all_real _ _ (Cert.Finite.inf_const _ _) _ _ _ _ e0,
    Cert.Finite.all_real _ _ (Cert.Finite.inf_const _ _) _ _ _ _ e1,
    Cert.Finite.all_real _ _ (Cert.Finite.inf_const _ _) _ _ _ _ e2,
    Cert.Finite.all_real _ _ (Cert.Finite.inf_const _ _) _ _ _ _ e3,
    Cert.Finite.all_real _ _ (Cert.Finite.inf_const _ _) _ _ _ _ e4⟩

theorem algebraic [Cert.Pre_finite_loss.Facts] : Cert.algebraic_LossIdeal_LossRefIdeal_pre_finite_loss := by
  intro m g m' g' hpre hagree
  refine ⟨fun c => RES_5 m c, fun c => RES_6 m c, fun c => RES_7 m c, fun c => RES_8 m c, fun c => RES_9 m c, run_kernel m g, ?_⟩
  refine (θ_run Cert.LossRefIdeal.defs _ _).mono (fun r h c => ⟨(h c).1.trans ?_, (h c).2.1.trans ?_, (h c).2.2.1.trans ?_, (h c).2.2.2.1.trans ?_, (h c).2.2.2.2.1.trans ?_, (h c).2.2.2.2.2⟩) (Cert.LossRefIdeal.Value.run m' g')
  all_goals
    obtain ⟨h0, h1, h2, h3, h4⟩ := hagree c
    obtain ⟨⟨f0, e0⟩, ⟨f1, e1⟩, ⟨f2, e2⟩, ⟨f3, e3⟩, ⟨f4, e4⟩⟩ := real_args _ _ _ _ _ (hpre c)
  · rw [LossRefIdeal.Read.val_main_v55_eq, h0, h1, h2, h3, h4]
    exact ref_5 m c f0 f1 f3 f2 f4 e0 e1 e2 e3 e4
  · refine (LossRefIdeal.Read.val_main_v62_eq (F := Ideal) _ _ _ _ _ ).trans ?_
    rw [h0, h1, h2, h3, h4]
    exact ref_6 m c f0 f1 f3 f2 f4 e0 e1 e2 e3 e4
  · refine (LossRefIdeal.Read.val_main_v39_eq (F := Ideal) _ _ _ _ _ ).trans ?_
    rw [h0, h1, h2, h3, h4]
    exact ref_7 m c
  · rw [LossRefIdeal.Read.val_main_v63_eq, h0, h1, h2, h3, h4]
    exact ref_8 m c f0 f1 f3 f2 f4 e0 e1 e2 e3 e4
  · rw [LossRefIdeal.Read.val_main_v60_eq, h0, h1, h2, h3, h4]
    exact ref_9 m c f0 f1 f3 f2 f4 e0 e1 e2 e3 e4

end Cert.LossIdeal.Value

end
-- ==== Proof.Parts.SbBitsBody.lean ====
module

public import proofs.«01_k».proof.Proof.Gen.Sb.Launch
public import proofs.«01_k».proof.Proof.Gen.Sb.Loops
public import proofs.«01_k».proof.Proof.Gen.Sb.Points
public import proofs.«01_k».proof.Proof.Gen.Sb.Skeleton
public import Idealize.ShloMosaic.Lib.Exec
public import Idealize.ShloMosaic.Lib.Tactic
public import Idealize.ShloMosaic.Lib.Pipeline.Kit

@[expose] public section

set_option maxRecDepth 16384

noncomputable section

namespace Cert.Sb.Body

open Cert.Sb Cert.Sb.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The variants: the naturals, the trips the inner loop still has to run. -/
abbrev 𝒱₀ : Variants := Variants.nat

/-- The side condition of the offsets holds while the counter is below the trip. -/
theorem chk_of_lt (k : Fin k0_t1_loop.trips) (j : ℕ) (h : j < k.val) : k0_chk1 k (BitVec.ofNat 32 j) := by
  have hk : ∀ (k : Fin 8) (j : Fin 8), j.val < k.val → k0_chk1 (k.cast (by decide)) (BitVec.ofNat 32 j.val) := by decide
  have hk8 : k.val < 8 := lt_of_lt_of_eq k.isLt (by decide)
  exact hk ⟨k.val, hk8⟩ ⟨j, by omega⟩ h

/-- The inner loop visits the blocks below the trip from the last to the first. -/
theorem offs_of_lt (k : Fin k0_t1_loop.trips) (j : ℕ) (h : j < k.val) :
    k0_off7 k (BitVec.ofNat 32 j) = ![0, (k.val - 1 - j) * 256, 0] ∧ k0_off8 k (BitVec.ofNat 32 j) = ![0, (k.val - 1 - j) * 256, 64]
      ∧ k0_off9 k (BitVec.ofNat 32 j) = ![0, (k.val - 1 - j) * 256, 0] ∧ k0_off10 k (BitVec.ofNat 32 j) = ![1, (k.val - 1 - j) * 256, 0] := by
  have hk : ∀ (k : Fin 8) (j : Fin 8), j.val < k.val →
      k0_off7 (k.cast (by decide)) (BitVec.ofNat 32 j.val) = ![0, (k.val - 1 - j.val) * 256, 0] ∧ k0_off8 (k.cast (by decide)) (BitVec.ofNat 32 j.val) = ![0, (k.val - 1 - j.val) * 256, 64]
      ∧ k0_off9 (k.cast (by decide)) (BitVec.ofNat 32 j.val) = ![0, (k.val - 1 - j.val) * 256, 0] ∧ k0_off10 (k.cast (by decide)) (BitVec.ofNat 32 j.val) = ![1, (k.val - 1 - j.val) * 256, 0] := by decide
  have hk8 : k.val < 8 := lt_of_lt_of_eq k.isLt (by decide)
  exact hk ⟨k.val, hk8⟩ ⟨j, by omega⟩ h

instance closedOff7 (k : Fin k0_t1_loop.trips) (j : ℕ) [h : Fact (j < k.val)] : ClosedOff (k0_off7 k (BitVec.ofNat 32 j)) :=
  ⟨![0, (k.val - 1 - j) * 256, 0], (offs_of_lt k j h.out).1⟩

instance closedOff8 (k : Fin k0_t1_loop.trips) (j : ℕ) [h : Fact (j < k.val)] : ClosedOff (k0_off8 k (BitVec.ofNat 32 j)) :=
  ⟨![0, (k.val - 1 - j) * 256, 64], (offs_of_lt k j h.out).2.1⟩

instance closedOff9 (k : Fin k0_t1_loop.trips) (j : ℕ) [h : Fact (j < k.val)] : ClosedOff (k0_off9 k (BitVec.ofNat 32 j)) :=
  ⟨![0, (k.val - 1 - j) * 256, 0], (offs_of_lt k j h.out).2.2.1⟩

instance closedOff10 (k : Fin k0_t1_loop.trips) (j : ℕ) [h : Fact (j < k.val)] : ClosedOff (k0_off10 k (BitVec.ofNat 32 j)) :=
  ⟨![1, (k.val - 1 - j) * 256, 0], (offs_of_lt k j h.out).2.2.2⟩

theorem cond_ne (k : Fin k0_t1_loop.trips) (j : ℕ) (b : BitVec 32) (h : j = k.val) :
    Scalar.andi (Scalar.cmpi .slt (BitVec.ofNat 32 j) (Scalar.muli (Scf.iv 0#32 1#32 k) 1#32)) (Scalar.cmpi .sgt b 0#32) ≠ 1#1 := by
  subst h
  have hk : ∀ k : Fin 8, Scalar.cmpi .slt (BitVec.ofNat 32 k.val) (Scalar.muli (Scf.iv 0#32 1#32 k) 1#32) = 0#1 := by decide
  have hk8 : k.val < 8 := lt_of_lt_of_eq k.isLt (by decide)
  have := hk ⟨k.val, hk8⟩
  intro hh
  rw [show Scalar.cmpi .slt (BitVec.ofNat 32 k.val) (Scalar.muli (Scf.iv 0#32 1#32 k) 1#32) = 0#1 from this] at hh
  have h0 : ∀ x : BitVec 1, Scalar.andi 0#1 x = 0#1 := by decide
  rw [h0] at hh; exact absurd hh (by decide)

set_option maxHeartbeats 4000000 in
theorem while_wp (c : Dev nD) (i : grid0.Coords) (k : Fin k0_t1_loop.trips) (arg3 : Memref sig .tc .vmem S1x2048x128 .bf16) (harg3 : arg3.IsWhole)
    (arg4 : Memref sig .tc .vmem S1x2048x128 .bf16) (harg4 : arg4.IsWhole) (arg10 : Memref sig .tc .vmem S2x2048x64 .f32) (harg10 : arg10.IsWhole)
    (arg11 : Memref sig .tc .vmem S2x2048x64 .f32) (harg11 : arg11.IsWhole)
    (v45 v52 : FVec F S256x64 .bf16) (v6 : FVec F S256x256 .bf16) (v55 v58 : FVec F S256x64 .bf16) (v11 : FVec F S256x256 .bf16) (v65 v72 : FVec F S256x1 .f32)
    (f3 : Buf (Elt F) (arg3.view.loc (c : Thread nD τ))) (f4 : Buf (Elt F) (arg4.view.loc (c : Thread nD τ))) :
    ∀ n j, j + n = k.val → ∀ (arg14 : BitVec 32) (arg15 : FVec F S256x64 .f32) (arg16 arg17 : FVec F S256x1 .f32) (arg18 : FVec F S256x64 .f32) (arg19 arg20 : FVec F S256x1 .f32)
      (f10 : Buf (Elt F) (arg10.view.loc (c : Thread nD τ))) (f11 : Buf (Elt F) (arg11.view.loc (c : Thread nD τ)))
      (K : BitVec 32 × BitVec 32 × FVec F S256x64 .f32 × FVec F S256x1 .f32 × FVec F S256x1 .f32 × FVec F S256x64 .f32 × FVec F S256x1 .f32 × FVec F S256x1 .f32 → sProp (MT nD τ sig Unit (Elt F) ℕ (UR sig nD τ) ℕ)),
    iprop((arg3.view.loc (c : Thread nD τ) ↦[arg3.view.set]{fullShare} f3) ∗ (arg4.view.loc (c : Thread nD τ) ↦[arg4.view.set]{fullShare} f4)
        ∗ (arg10.view.loc (c : Thread nD τ) ↦[arg10.view.set]{fullShare} f10) ∗ (arg11.view.loc (c : Thread nD τ) ↦[arg11.view.set]{fullShare} f11)
        ∗ (∀ r f10' f11', iprop((arg3.view.loc (c : Thread nD τ) ↦[arg3.view.set]{fullShare} f3) ∗ (arg4.view.loc (c : Thread nD τ) ↦[arg4.view.set]{fullShare} f4)
            ∗ (arg10.view.loc (c : Thread nD τ) ↦[arg10.view.set]{fullShare} f10') ∗ (arg11.view.loc (c : Thread nD τ) ↦[arg11.view.set]{fullShare} f11')) -∗ K r))
      ⊢ wp frame (wpE (defs₀ (F := F)) 𝒱₀ (c : Thread nD τ) (some n)) Set.univ
          (defs₀ (F := F) .tc 1 ⟨i, k, arg3, harg3, v45, v52, v6, arg4, harg4, v55, v58, v11, v65, arg10, harg10, arg11, harg11, v72, BitVec.ofNat 32 j, arg14, arg15, arg16, arg17, arg18, arg19, arg20⟩) K := by
  intro n
  induction n with
  | zero =>
    intro j hj arg14 arg15 arg16 arg17 arg18 arg19 arg20 f10 f11 K
    show _ ⊢ wp frame (wpE (defs₀ (F := F)) 𝒱₀ (c : Thread nD τ) (some 0)) Set.univ (cc0_while1 i k arg3 harg3 v45 v52 v6 arg4 harg4 v55 v58 v11 v65 arg10 harg10 arg11 harg11 v72 (BitVec.ofNat 32 j) arg14 arg15 arg16 arg17 arg18 arg19 arg20) K
    simp only [cc0_while1_eq_skeleton]; unfold cc0_while1_skel
    have hc : Scalar.andi (Scalar.cmpi .slt (BitVec.ofNat 32 j) (Scalar.muli (Scf.iv 0#32 1#32 k) 1#32)) (Scalar.cmpi .sgt arg14 0#32) ≠ 1#1 := cond_ne k j arg14 (by omega)
    simp only [if_neg hc, Prog.pure_eq_ret]
    iintro ⟨H3, H4, H10, H11, HK⟩
    rw [wp_ret]; imodintro
    iapply HK
    iframe
  | succ n ih =>
    intro j hj arg14 arg15 arg16 arg17 arg18 arg19 arg20 f10 f11 K
    show _ ⊢ wp frame (wpE (defs₀ (F := F)) 𝒱₀ (c : Thread nD τ) (some (n+1))) Set.univ (cc0_while1 i k arg3 harg3 v45 v52 v6 arg4 harg4 v55 v58 v11 v65 arg10 harg10 arg11 harg11 v72 (BitVec.ofNat 32 j) arg14 arg15 arg16 arg17 arg18 arg19 arg20) K
    simp only [cc0_while1_eq_skeleton]; unfold cc0_while1_skel
    iintro ⟨H3, H4, H10, H11, HK⟩
    by_cases hc : Scalar.andi (Scalar.cmpi .slt (BitVec.ofNat 32 j) (Scalar.muli (Scf.iv 0#32 1#32 k) 1#32)) (Scalar.cmpi .sgt arg14 0#32) = 1#1
    · simp only [if_pos hc, k0_part7_eq_skeleton, k0_part8_eq_skeleton, k0_part9_eq_skeleton]
      unfold k0_part7_skel k0_part8_skel k0_part9_skel
      simp only [Prog.lift, Prog.bind_op, Prog.bind_ret, Prog.pure_eq_ret]
      have hchk : k0_chk1 k (BitVec.ofNat 32 j) := chk_of_lt k j (by omega)
      haveI : Fact (j < k.val) := ⟨by omega⟩
      sl_exec
      iapply (wp_call 𝒱₀ (c : Thread nD τ) (some (n+1)) Set.univ n (fun u hu => by cases hu; exact Nat.lt_succ_self n))
      have e1 : Scalar.addi (BitVec.ofNat 32 j) 1#32 = BitVec.ofNat 32 (j+1) := by show BitVec.ofNat 32 j + 1#32 = _; rw [BitVec.ofNat_add]
      rw [e1]
      iapply (ih (j+1) (by omega))
      iframe
      iintro %r %f10' %f11' H
      rw [wp_ret]; imodintro
      iapply HK $$ H
    · simp only [if_neg hc, Prog.pure_eq_ret]
      rw [wp_ret]; imodintro
      iapply HK
      iframe

instance closedOff1 (k : Fin k0_t1_loop.trips) : ClosedOff (k0_off1 k) :=
  ⟨![0, k.val * 256, 0], by
    have h : ∀ k : Fin 8, k0_off1 (k.cast (by decide)) = ![0, k.val * 256, 0] := by decide
    exact h ⟨k.val, lt_of_lt_of_eq k.isLt (by decide)⟩⟩

instance closedOff2 (k : Fin k0_t1_loop.trips) : ClosedOff (k0_off2 k) :=
  ⟨![0, k.val * 256, 64], by
    have h : ∀ k : Fin 8, k0_off2 (k.cast (by decide)) = ![0, k.val * 256, 64] := by decide
    exact h ⟨k.val, lt_of_lt_of_eq k.isLt (by decide)⟩⟩

instance closedOff3 (k : Fin k0_t1_loop.trips) : ClosedOff (k0_off3 k) :=
  ⟨![0, k.val * 256, 0], by
    have h : ∀ k : Fin 8, k0_off3 (k.cast (by decide)) = ![0, k.val * 256, 0] := by decide
    exact h ⟨k.val, lt_of_lt_of_eq k.isLt (by decide)⟩⟩

instance closedOff4 (k : Fin k0_t1_loop.trips) : ClosedOff (k0_off4 k) :=
  ⟨![0, k.val * 256, 64], by
    have h : ∀ k : Fin 8, k0_off4 (k.cast (by decide)) = ![0, k.val * 256, 64] := by decide
    exact h ⟨k.val, lt_of_lt_of_eq k.isLt (by decide)⟩⟩

instance closedOff5 (k : Fin k0_t1_loop.trips) : ClosedOff (k0_off5 k) :=
  ⟨![0, k.val * 256, 0], by
    have h : ∀ k : Fin 8, k0_off5 (k.cast (by decide)) = ![0, k.val * 256, 0] := by decide
    exact h ⟨k.val, lt_of_lt_of_eq k.isLt (by decide)⟩⟩

instance closedOff6 (k : Fin k0_t1_loop.trips) : ClosedOff (k0_off6 k) :=
  ⟨![1, k.val * 256, 0], by
    have h : ∀ k : Fin 8, k0_off6 (k.cast (by decide)) = ![1, k.val * 256, 0] := by decide
    exact h ⟨k.val, lt_of_lt_of_eq k.isLt (by decide)⟩⟩

set_option maxHeartbeats 4000000 in
set_option warn.classDefReducibility false in
/-- Between the trips of the outer loop the inputs are held as they are, the output and the two accumulators at some contents. -/
@[sl_loop] def loopInv (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .f32) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S2x2048x64 .f32) (harg10 : arg10.IsWhole) (arg11 : Memref sig .tc .vmem S2x2048x64 .f32) (harg11 : arg11.IsWhole)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 where
  inv _ _ := iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ f : Buf (Elt F) (arg7.view.loc (c : Thread nD τ)), arg7.view.loc (c : Thread nD τ) ↦[arg7.view.set]{fullShare} f) ∗ (∃ f : Buf (Elt F) (arg10.view.loc (c : Thread nD τ)), arg10.view.loc (c : Thread nD τ) ↦[arg10.view.set]{fullShare} f) ∗ (∃ f : Buf (Elt F) (arg11.view.loc (c : Thread nD τ)), arg11.view.loc (c : Thread nD τ) ↦[arg11.view.set]{fullShare} f))
  step k _ := by
    unfold k0_t1_body
    simp only [k0_part5_eq_skeleton]; unfold k0_part5_skel
    simp only [k0_part1_eq_skeleton, k0_part2_eq_skeleton, k0_part3_eq_skeleton, k0_part4_eq_skeleton]
    unfold k0_part1_skel k0_part2_skel k0_part3_skel k0_part4_skel
    simp only [Prog.lift, Prog.bind_op, Prog.bind_ret, Prog.pure_eq_ret]
    iintro ⟨H2, H3, H4, H5, H6, ⟨%f7, H7⟩, ⟨%f10, H10⟩, ⟨%f11, H11⟩⟩
    sl_exec
    iapply (wp_call 𝒱₀ (c : Thread nD τ) none Set.univ k.val (fun u hu => nomatch hu))
    rw [show (0#32 : BitVec 32) = BitVec.ofNat 32 0 from rfl]
    iapply (while_wp c i k arg3 harg3 arg4 harg4 arg10 harg10 arg11 harg11 _ _ _ _ _ _ _ _ f3 f4 k.val 0 (by omega))
    iframe
    iintro %r %f10' %f11' ⟨H3, H4, H10, H11⟩
    obtain ⟨r0, r1, r2, r3, r4, r5, r6, r7⟩ := r
    sl_exec
    rw [wp_ret]; imodintro
    iframe
    isplitl [H7]; · iexists _; iexact H7
    isplitl [H10]; · iexists _; iexact H10
    iexists _; iexact H11

/-- A buffer held at some contents is read as something. -/
theorem held_some (c : Dev nD) {s : Shape} {e : EltTy} (a : Memref sig .tc .vmem s e) {f : Buf (Elt F) (a.view.loc (c : Thread nD τ))} :
    (iprop(a.view.loc (c : Thread nD τ) ↦[a.view.set]{fullShare} f) : sProp (MT nD τ sig Unit (Elt F) ℕ (UR sig nD τ) ℕ))
      ⊢ iprop(∃ X, ∃ f' : Buf (Elt F) (a.view.loc (c : Thread nD τ)), ⌜a.view.read (Elt F) f' = X⌝ ∗ (a.view.loc (c : Thread nD τ) ↦[a.view.set]{fullShare} f')) := by
  iintro H
  iexists (a.view.read (Elt F) f), f
  isplitr
  · ipureintro; rfl
  iexact H

set_option maxHeartbeats 4000000 in
/-- The body on whole buffers: the inputs stay, the outputs and the accumulators end at some contents. -/
theorem sound_kernel (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .f32) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S2x2048x64 .f32) (harg10 : arg10.IsWhole) (arg11 : Memref sig .tc .vmem S2x2048x64 .f32) (harg11 : arg11.IsWhole) (X2 : Vec F S1x2048x128 .bf16) (X3 : Vec F S1x2048x128 .bf16) (X4 : Vec F S1x2048x128 .bf16) (X5 : Vec F S1x2048x128 .bf16) (X6 : Vec F S1x2048x128 .f32) (K : PUnit → sProp (MT nD τ sig Unit (Elt F) ℕ (UR sig nD τ) ℕ)) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X)
      ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X)) -∗ K ⟨⟩))
      ⊢ wp frame (wpE (defs₀ (F := F)) 𝒱₀ (c : Thread nD τ) none) Set.univ (cc0_sb_bwd (F := F) i arg2 harg2 arg3 harg3 arg4 harg4 arg5 harg5 arg6 harg6 arg7 harg7 arg8 harg8 arg9 harg9 arg10 harg10 arg11 harg11) K := by
  simp only [cc0_sb_bwd_eq_skeleton]; unfold cc0_sb_bwd_skel
  simp only [k0_part6_eq_skeleton]; unfold k0_part6_skel
  simp only [Prog.lift, bind_assoc, Prog.bind_op, Prog.bind_ret, Prog.pure_eq_ret]
  unfold owns
  iintro ⟨⟨%f2, %h2, H2⟩, ⟨%f3, %h3, H3⟩, ⟨%f4, %h4, H4⟩, ⟨%f5, %h5, H5⟩, ⟨%f6, %h6, H6⟩, ⟨%X7, %f7, -, H7⟩, ⟨%X8, %f8, -, H8⟩, ⟨%X9, %f9, -, H9⟩, ⟨%X10, %f10, -, H10⟩, ⟨%X11, %f11, -, H11⟩, HK⟩
  sl_exec
  rw [wp_ret]; imodintro
  iapply HK
  isplitl [H2]
  · iexists _; isplitr
    · ipureintro; exact h2
    iexact H2
  isplitl [H3]
  · iexists _; isplitr
    · ipureintro; exact h3
    iexact H3
  isplitl [H4]
  · iexists _; isplitr
    · ipureintro; exact h4
    iexact H4
  isplitl [H5]
  · iexists _; isplitr
    · ipureintro; exact h5
    iexact H5
  isplitl [H6]
  · iexists _; isplitr
    · ipureintro; exact h6
    iexact H6
  isplitl [H7]; · iapply (held_some c arg7); iexact H7
  isplitl [H8]; · iapply (held_some c arg8); iexact H8
  isplitl [H9]; · iapply (held_some c arg9); iexact H9
  isplitl [H10]; · iapply (held_some c arg10); iexact H10
  iapply (held_some c arg11); iexact H11

end Cert.Sb.Body

end
-- ==== Proof.Parts.SbOffs.lean ====
module

public import proofs.«01_k».proof.Proof.Gen.SbIdeal.Launch
public import proofs.«01_k».proof.Proof.Gen.SbIdeal.Loops
public import proofs.«01_k».proof.Proof.Gen.SbIdeal.Points
public import proofs.«01_k».proof.Proof.Gen.SbIdeal.Skeleton
public import Idealize.ShloMosaic.Lib.Exec
public import Idealize.ShloMosaic.Lib.Tactic
public import Idealize.ShloMosaic.Lib.Pipeline.Kit

@[expose] public section

set_option maxRecDepth 16384

noncomputable section

namespace Cert.SbIdeal.Body

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The variants: the naturals, the trips the inner loop still has to run. -/
abbrev 𝒱₀ : Variants := Variants.nat

/-- The side condition of the offsets holds while the counter is below the trip. -/
theorem chk_of_lt (k : Fin k0_t1_loop.trips) (j : ℕ) (h : j < k.val) : k0_chk1 k (BitVec.ofNat 32 j) := by
  have hk : ∀ (k : Fin 8) (j : Fin 8), j.val < k.val → k0_chk1 (k.cast (by decide)) (BitVec.ofNat 32 j.val) := by decide
  have hk8 : k.val < 8 := lt_of_lt_of_eq k.isLt (by decide)
  exact hk ⟨k.val, hk8⟩ ⟨j, by omega⟩ h

/-- The inner loop visits the blocks below the trip from the last to the first. -/
theorem offs_of_lt (k : Fin k0_t1_loop.trips) (j : ℕ) (h : j < k.val) :
    k0_off7 k (BitVec.ofNat 32 j) = ![0, (k.val - 1 - j) * 256, 0] ∧ k0_off8 k (BitVec.ofNat 32 j) = ![0, (k.val - 1 - j) * 256, 64]
      ∧ k0_off9 k (BitVec.ofNat 32 j) = ![0, (k.val - 1 - j) * 256, 0] ∧ k0_off10 k (BitVec.ofNat 32 j) = ![1, (k.val - 1 - j) * 256, 0] := by
  have hk : ∀ (k : Fin 8) (j : Fin 8), j.val < k.val →
      k0_off7 (k.cast (by decide)) (BitVec.ofNat 32 j.val) = ![0, (k.val - 1 - j.val) * 256, 0] ∧ k0_off8 (k.cast (by decide)) (BitVec.ofNat 32 j.val) = ![0, (k.val - 1 - j.val) * 256, 64]
      ∧ k0_off9 (k.cast (by decide)) (BitVec.ofNat 32 j.val) = ![0, (k.val - 1 - j.val) * 256, 0] ∧ k0_off10 (k.cast (by decide)) (BitVec.ofNat 32 j.val) = ![1, (k.val - 1 - j.val) * 256, 0] := by decide
  have hk8 : k.val < 8 := lt_of_lt_of_eq k.isLt (by decide)
  exact hk ⟨k.val, hk8⟩ ⟨j, by omega⟩ h

instance closedOff7 (k : Fin k0_t1_loop.trips) (j : ℕ) [h : Fact (j < k.val)] : ClosedOff (k0_off7 k (BitVec.ofNat 32 j)) :=
  ⟨![0, (k.val - 1 - j) * 256, 0], (offs_of_lt k j h.out).1⟩

instance closedOff8 (k : Fin k0_t1_loop.trips) (j : ℕ) [h : Fact (j < k.val)] : ClosedOff (k0_off8 k (BitVec.ofNat 32 j)) :=
  ⟨![0, (k.val - 1 - j) * 256, 64], (offs_of_lt k j h.out).2.1⟩

instance closedOff9 (k : Fin k0_t1_loop.trips) (j : ℕ) [h : Fact (j < k.val)] : ClosedOff (k0_off9 k (BitVec.ofNat 32 j)) :=
  ⟨![0, (k.val - 1 - j) * 256, 0], (offs_of_lt k j h.out).2.2.1⟩

instance closedOff10 (k : Fin k0_t1_loop.trips) (j : ℕ) [h : Fact (j < k.val)] : ClosedOff (k0_off10 k (BitVec.ofNat 32 j)) :=
  ⟨![1, (k.val - 1 - j) * 256, 0], (offs_of_lt k j h.out).2.2.2⟩

theorem cond_ne (k : Fin k0_t1_loop.trips) (j : ℕ) (b : BitVec 32) (h : j = k.val) :
    Scalar.andi (Scalar.cmpi .slt (BitVec.ofNat 32 j) (Scalar.muli (Scf.iv 0#32 1#32 k) 1#32)) (Scalar.cmpi .sgt b 0#32) ≠ 1#1 := by
  subst h
  have hk : ∀ k : Fin 8, Scalar.cmpi .slt (BitVec.ofNat 32 k.val) (Scalar.muli (Scf.iv 0#32 1#32 k) 1#32) = 0#1 := by decide
  have hk8 : k.val < 8 := lt_of_lt_of_eq k.isLt (by decide)
  have := hk ⟨k.val, hk8⟩
  intro hh
  rw [show Scalar.cmpi .slt (BitVec.ofNat 32 k.val) (Scalar.muli (Scf.iv 0#32 1#32 k) 1#32) = 0#1 from this] at hh
  have h0 : ∀ x : BitVec 1, Scalar.andi 0#1 x = 0#1 := by decide
  rw [h0] at hh; exact absurd hh (by decide)

instance closedOff1 (k : Fin k0_t1_loop.trips) : ClosedOff (k0_off1 k) :=
  ⟨![0, k.val * 256, 0], by
    have h : ∀ k : Fin 8, k0_off1 (k.cast (by decide)) = ![0, k.val * 256, 0] := by decide
    exact h ⟨k.val, lt_of_lt_of_eq k.isLt (by decide)⟩⟩

instance closedOff2 (k : Fin k0_t1_loop.trips) : ClosedOff (k0_off2 k) :=
  ⟨![0, k.val * 256, 64], by
    have h : ∀ k : Fin 8, k0_off2 (k.cast (by decide)) = ![0, k.val * 256, 64] := by decide
    exact h ⟨k.val, lt_of_lt_of_eq k.isLt (by decide)⟩⟩

instance closedOff3 (k : Fin k0_t1_loop.trips) : ClosedOff (k0_off3 k) :=
  ⟨![0, k.val * 256, 0], by
    have h : ∀ k : Fin 8, k0_off3 (k.cast (by decide)) = ![0, k.val * 256, 0] := by decide
    exact h ⟨k.val, lt_of_lt_of_eq k.isLt (by decide)⟩⟩

instance closedOff4 (k : Fin k0_t1_loop.trips) : ClosedOff (k0_off4 k) :=
  ⟨![0, k.val * 256, 64], by
    have h : ∀ k : Fin 8, k0_off4 (k.cast (by decide)) = ![0, k.val * 256, 64] := by decide
    exact h ⟨k.val, lt_of_lt_of_eq k.isLt (by decide)⟩⟩

instance closedOff5 (k : Fin k0_t1_loop.trips) : ClosedOff (k0_off5 k) :=
  ⟨![0, k.val * 256, 0], by
    have h : ∀ k : Fin 8, k0_off5 (k.cast (by decide)) = ![0, k.val * 256, 0] := by decide
    exact h ⟨k.val, lt_of_lt_of_eq k.isLt (by decide)⟩⟩

instance closedOff6 (k : Fin k0_t1_loop.trips) : ClosedOff (k0_off6 k) :=
  ⟨![1, k.val * 256, 0], by
    have h : ∀ k : Fin 8, k0_off6 (k.cast (by decide)) = ![1, k.val * 256, 0] := by decide
    exact h ⟨k.val, lt_of_lt_of_eq k.isLt (by decide)⟩⟩

/-- A buffer held at some contents is read as something. -/
theorem held_some (c : Dev nD) {s : Shape} {e : EltTy} (a : Memref sig .tc .vmem s e) {f : Buf (Elt F) (a.view.loc (c : Thread nD τ))} :
    (iprop(a.view.loc (c : Thread nD τ) ↦[a.view.set]{fullShare} f) : sProp (MT nD τ sig Unit (Elt F) ℕ (UR sig nD τ) ℕ))
      ⊢ iprop(∃ X, ∃ f' : Buf (Elt F) (a.view.loc (c : Thread nD τ)), ⌜a.view.read (Elt F) f' = X⌝ ∗ (a.view.loc (c : Thread nD τ) ↦[a.view.set]{fullShare} f')) := by
  iintro H
  iexists (a.view.read (Elt F) f), f
  isplitr
  · ipureintro; rfl
  iexact H

end Cert.SbIdeal.Body

end
-- ==== Proof.Parts.SbBody.lean ====
module

public import proofs.«01_k».proof.Proof.Gen.SbIdeal.Launch
public import proofs.«01_k».proof.Proof.Gen.SbIdeal.Loops
public import proofs.«01_k».proof.Proof.Gen.SbIdeal.Points
public import proofs.«01_k».proof.Proof.Gen.SbIdeal.Skeleton
public import proofs.«01_k».proof.Proof.Parts.SbOffs
public import Idealize.ShloMosaic.Lib.Exec
public import Idealize.ShloMosaic.Lib.Tactic
public import Idealize.ShloMosaic.Lib.Pipeline.Kit

@[expose] public section

set_option maxRecDepth 16384

noncomputable section

namespace Cert.SbIdeal.Body

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 4000000 in
theorem while_wp (c : Dev nD) (i : grid0.Coords) (k : Fin k0_t1_loop.trips) (arg3 : Memref sig .tc .vmem S1x2048x128 .bf16) (harg3 : arg3.IsWhole)
    (arg4 : Memref sig .tc .vmem S1x2048x128 .bf16) (harg4 : arg4.IsWhole) (arg10 : Memref sig .tc .vmem S2x2048x64 .f32) (harg10 : arg10.IsWhole)
    (arg11 : Memref sig .tc .vmem S2x2048x64 .f32) (harg11 : arg11.IsWhole)
    (v45 v52 : FVec F S256x64 .bf16) (v6 : FVec F S256x256 .bf16) (v55 v58 : FVec F S256x64 .bf16) (v11 : FVec F S256x256 .bf16) (v65 v72 : FVec F S256x1 .f32)
    (f3 : Buf (Elt F) (arg3.view.loc (c : Thread nD τ))) (f4 : Buf (Elt F) (arg4.view.loc (c : Thread nD τ))) :
    ∀ n j, j + n = k.val → ∀ (arg14 : BitVec 32) (arg15 : FVec F S256x64 .f32) (arg16 arg17 : FVec F S256x1 .f32) (arg18 : FVec F S256x64 .f32) (arg19 arg20 : FVec F S256x1 .f32)
      (f10 : Buf (Elt F) (arg10.view.loc (c : Thread nD τ))) (f11 : Buf (Elt F) (arg11.view.loc (c : Thread nD τ)))
      (K : BitVec 32 × BitVec 32 × FVec F S256x64 .f32 × FVec F S256x1 .f32 × FVec F S256x1 .f32 × FVec F S256x64 .f32 × FVec F S256x1 .f32 × FVec F S256x1 .f32 → sProp (MT nD τ sig Unit (Elt F) ℕ (UR sig nD τ) ℕ)),
    iprop((arg3.view.loc (c : Thread nD τ) ↦[arg3.view.set]{fullShare} f3) ∗ (arg4.view.loc (c : Thread nD τ) ↦[arg4.view.set]{fullShare} f4)
        ∗ (arg10.view.loc (c : Thread nD τ) ↦[arg10.view.set]{fullShare} f10) ∗ (arg11.view.loc (c : Thread nD τ) ↦[arg11.view.set]{fullShare} f11)
        ∗ (∀ r f10' f11', iprop((arg3.view.loc (c : Thread nD τ) ↦[arg3.view.set]{fullShare} f3) ∗ (arg4.view.loc (c : Thread nD τ) ↦[arg4.view.set]{fullShare} f4)
            ∗ (arg10.view.loc (c : Thread nD τ) ↦[arg10.view.set]{fullShare} f10') ∗ (arg11.view.loc (c : Thread nD τ) ↦[arg11.view.set]{fullShare} f11')) -∗ K r))
      ⊢ wp frame (wpE (defs₀ (F := F)) 𝒱₀ (c : Thread nD τ) (some n)) Set.univ
          (defs₀ (F := F) .tc 1 ⟨i, k, arg3, harg3, v45, v52, v6, arg4, harg4, v55, v58, v11, v65, arg10, harg10, arg11, harg11, v72, BitVec.ofNat 32 j, arg14, arg15, arg16, arg17, arg18, arg19, arg20⟩) K := by
  intro n
  induction n with
  | zero =>
    intro j hj arg14 arg15 arg16 arg17 arg18 arg19 arg20 f10 f11 K
    show _ ⊢ wp frame (wpE (defs₀ (F := F)) 𝒱₀ (c : Thread nD τ) (some 0)) Set.univ (cc0_while1 i k arg3 harg3 v45 v52 v6 arg4 harg4 v55 v58 v11 v65 arg10 harg10 arg11 harg11 v72 (BitVec.ofNat 32 j) arg14 arg15 arg16 arg17 arg18 arg19 arg20) K
    simp only [cc0_while1_eq_skeleton]; unfold cc0_while1_skel
    have hc : Scalar.andi (Scalar.cmpi .slt (BitVec.ofNat 32 j) (Scalar.muli (Scf.iv 0#32 1#32 k) 1#32)) (Scalar.cmpi .sgt arg14 0#32) ≠ 1#1 := cond_ne k j arg14 (by omega)
    simp only [if_neg hc, Prog.pure_eq_ret]
    iintro ⟨H3, H4, H10, H11, HK⟩
    rw [wp_ret]; imodintro
    iapply HK
    iframe
  | succ n ih =>
    intro j hj arg14 arg15 arg16 arg17 arg18 arg19 arg20 f10 f11 K
    show _ ⊢ wp frame (wpE (defs₀ (F := F)) 𝒱₀ (c : Thread nD τ) (some (n+1))) Set.univ (cc0_while1 i k arg3 harg3 v45 v52 v6 arg4 harg4 v55 v58 v11 v65 arg10 harg10 arg11 harg11 v72 (BitVec.ofNat 32 j) arg14 arg15 arg16 arg17 arg18 arg19 arg20) K
    simp only [cc0_while1_eq_skeleton]; unfold cc0_while1_skel
    iintro ⟨H3, H4, H10, H11, HK⟩
    by_cases hc : Scalar.andi (Scalar.cmpi .slt (BitVec.ofNat 32 j) (Scalar.muli (Scf.iv 0#32 1#32 k) 1#32)) (Scalar.cmpi .sgt arg14 0#32) = 1#1
    · simp only [if_pos hc, k0_part7_eq_skeleton, k0_part8_eq_skeleton, k0_part9_eq_skeleton]
      unfold k0_part7_skel k0_part8_skel k0_part9_skel
      simp only [Prog.lift, Prog.bind_op, Prog.bind_ret, Prog.pure_eq_ret]
      have hchk : k0_chk1 k (BitVec.ofNat 32 j) := chk_of_lt k j (by omega)
      haveI : Fact (j < k.val) := ⟨by omega⟩
      sl_exec
      iapply (wp_call 𝒱₀ (c : Thread nD τ) (some (n+1)) Set.univ n (fun u hu => by cases hu; exact Nat.lt_succ_self n))
      have e1 : Scalar.addi (BitVec.ofNat 32 j) 1#32 = BitVec.ofNat 32 (j+1) := by show BitVec.ofNat 32 j + 1#32 = _; rw [BitVec.ofNat_add]
      rw [e1]
      iapply (ih (j+1) (by omega))
      iframe
      iintro %r %f10' %f11' H
      rw [wp_ret]; imodintro
      iapply HK $$ H
    · simp only [if_neg hc, Prog.pure_eq_ret]
      rw [wp_ret]; imodintro
      iapply HK
      iframe

set_option maxHeartbeats 4000000 in
set_option warn.classDefReducibility false in
/-- Between the trips of the outer loop the inputs are held as they are, the output and the two accumulators at some contents. -/
@[sl_loop] def loopInv (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .f32) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S2x2048x64 .f32) (harg10 : arg10.IsWhole) (arg11 : Memref sig .tc .vmem S2x2048x64 .f32) (harg11 : arg11.IsWhole)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 where
  inv _ _ := iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ f : Buf (Elt F) (arg7.view.loc (c : Thread nD τ)), arg7.view.loc (c : Thread nD τ) ↦[arg7.view.set]{fullShare} f) ∗ (∃ f : Buf (Elt F) (arg10.view.loc (c : Thread nD τ)), arg10.view.loc (c : Thread nD τ) ↦[arg10.view.set]{fullShare} f) ∗ (∃ f : Buf (Elt F) (arg11.view.loc (c : Thread nD τ)), arg11.view.loc (c : Thread nD τ) ↦[arg11.view.set]{fullShare} f))
  step k _ := by
    unfold k0_t1_body
    simp only [k0_part5_eq_skeleton]; unfold k0_part5_skel
    simp only [k0_part1_eq_skeleton, k0_part2_eq_skeleton, k0_part3_eq_skeleton, k0_part4_eq_skeleton]
    unfold k0_part1_skel k0_part2_skel k0_part3_skel k0_part4_skel
    simp only [Prog.lift, Prog.bind_op, Prog.bind_ret, Prog.pure_eq_ret]
    iintro ⟨H2, H3, H4, H5, H6, ⟨%f7, H7⟩, ⟨%f10, H10⟩, ⟨%f11, H11⟩⟩
    sl_exec
    iapply (wp_call 𝒱₀ (c : Thread nD τ) none Set.univ k.val (fun u hu => nomatch hu))
    rw [show (0#32 : BitVec 32) = BitVec.ofNat 32 0 from rfl]
    iapply (while_wp c i k arg3 harg3 arg4 harg4 arg10 harg10 arg11 harg11 _ _ _ _ _ _ _ _ f3 f4 k.val 0 (by omega))
    iframe
    iintro %r %f10' %f11' ⟨H3, H4, H10, H11⟩
    obtain ⟨r0, r1, r2, r3, r4, r5, r6, r7⟩ := r
    sl_exec
    rw [wp_ret]; imodintro
    iframe
    isplitl [H7]; · iexists _; iexact H7
    isplitl [H10]; · iexists _; iexact H10
    iexists _; iexact H11

set_option maxHeartbeats 4000000 in
/-- The body on whole buffers: the inputs stay, the outputs and the accumulators end at some contents. -/
theorem sound_kernel (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .f32) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S2x2048x64 .f32) (harg10 : arg10.IsWhole) (arg11 : Memref sig .tc .vmem S2x2048x64 .f32) (harg11 : arg11.IsWhole) (X2 : Vec F S1x2048x128 .bf16) (X3 : Vec F S1x2048x128 .bf16) (X4 : Vec F S1x2048x128 .bf16) (X5 : Vec F S1x2048x128 .bf16) (X6 : Vec F S1x2048x128 .f32) (K : PUnit → sProp (MT nD τ sig Unit (Elt F) ℕ (UR sig nD τ) ℕ)) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X)
      ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X)) -∗ K ⟨⟩))
      ⊢ wp frame (wpE (defs₀ (F := F)) 𝒱₀ (c : Thread nD τ) none) Set.univ (cc0_sb_bwd (F := F) i arg2 harg2 arg3 harg3 arg4 harg4 arg5 harg5 arg6 harg6 arg7 harg7 arg8 harg8 arg9 harg9 arg10 harg10 arg11 harg11) K := by
  simp only [cc0_sb_bwd_eq_skeleton]; unfold cc0_sb_bwd_skel
  simp only [k0_part6_eq_skeleton]; unfold k0_part6_skel
  simp only [Prog.lift, bind_assoc, Prog.bind_op, Prog.bind_ret, Prog.pure_eq_ret]
  unfold owns
  iintro ⟨⟨%f2, %h2, H2⟩, ⟨%f3, %h3, H3⟩, ⟨%f4, %h4, H4⟩, ⟨%f5, %h5, H5⟩, ⟨%f6, %h6, H6⟩, ⟨%X7, %f7, -, H7⟩, ⟨%X8, %f8, -, H8⟩, ⟨%X9, %f9, -, H9⟩, ⟨%X10, %f10, -, H10⟩, ⟨%X11, %f11, -, H11⟩, HK⟩
  sl_exec
  rw [wp_ret]; imodintro
  iapply HK
  isplitl [H2]
  · iexists _; isplitr
    · ipureintro; exact h2
    iexact H2
  isplitl [H3]
  · iexists _; isplitr
    · ipureintro; exact h3
    iexact H3
  isplitl [H4]
  · iexists _; isplitr
    · ipureintro; exact h4
    iexact H4
  isplitl [H5]
  · iexists _; isplitr
    · ipureintro; exact h5
    iexact H5
  isplitl [H6]
  · iexists _; isplitr
    · ipureintro; exact h6
    iexact H6
  isplitl [H7]; · iapply (held_some c arg7); iexact H7
  isplitl [H8]; · iapply (held_some c arg8); iexact H8
  isplitl [H9]; · iapply (held_some c arg9); iexact H9
  isplitl [H10]; · iapply (held_some c arg10); iexact H10
  iapply (held_some c arg11); iexact H11

end Cert.SbIdeal.Body

end
-- ==== Proof.Parts.SbFrame.lean ====
module

public import proofs.«01_k».proof.Proof.Parts.SbBody
public import Idealize.ShloMosaic.Lib.Claim
public import Idealize.ShloMosaic.Lib.Pipeline.FrameSuffix
public import Idealize.ShloMosaic.Lib.Pipeline.FrameBody

@[expose] public section

set_option maxRecDepth 16384

noncomputable section

namespace Cert.SbIdeal.Gen

open Cert.SbIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The host lines before the region -/

/-- The device's buffers when the region is entered. -/
abbrev V0 (c : Dev nD) : Valuation τ sig (Elt F) :=
  StableHlo.after (List.flatten [hostOps0, hostOps0_1, hostOps0_2, hostOps0_3, hostOps0_4, hostOps0_5, hostOps0_6, hostOps0_7]) (fun b => m (c, b))
/-- The same, read at a reference. -/
abbrev V (c : Dev nD) (b : Ref sig .tc) : Buf (Elt F) ((c : Thread nD τ).loc b) := V0 m c (Proc.devRef .tc b)

theorem host_fresh : ([hostOps0, hostOps0_1, hostOps0_2, hostOps0_3, hostOps0_4, hostOps0_5, hostOps0_6, hostOps0_7] : List (List (HloOp τ sig (Elt F)))).Forall
    fun ops => ops.Forall fun op => op.fresh = ∅ := by
  simp only [List.Forall]; repeat' constructor

theorem host_sub : ([hostOps0, hostOps0_1, hostOps0_2, hostOps0_3, hostOps0_4, hostOps0_5, hostOps0_6, hostOps0_7] : List (List (HloOp τ sig (Elt F)))).Forall
    fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub⟩

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7]
    host_sub host_fresh main_chain

/-- The host lines leave the first argument as it is, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- and the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A window's block at a point, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The frame claim from a run of the region. -/
theorem frame_of (rdat : (c : Dev nD) → Pipeline.RDat τ (Elt F) Unit ℕ (UR sig nD τ) ℕ (cfgs (F := F) 0) c)
    (hA : ∀ c w, (rdat c).A w = V m c (Pipeline.arrRef spec0 w))
    (h : θ_run defs (onTc (τ := τ) (main (F := F))) (s₀ m ρ) (Pipeline.RDat.FramePost (cfgs (F := F) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide : ∀ w : Fin 8, (spec0 w).arr.view.ref ≠ main_arg0))).trans (V_main_arg0 m c),
      ((h c).2 main_arg1 (Pipeline.mem_restRefs_of main_arg1 (by decide) (by decide : ∀ w : Fin 8, (spec0 w).arr.view.ref ≠ main_arg1))).trans (V_main_arg1 m c)⟩) h

/-! ## The run with the outputs' contents left open -/

/-- The three outputs are the windows left open. -/
def forgets0 : Fin 8 → Bool := fun w => w.val == 5 || w.val == 6 || w.val == 7

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0 (F := F)) ⟨5, h⟩ t
    | ⟨6, h⟩ => Pipeline.Dat.unnamed (cfg := cfg0 (F := F)) ⟨6, h⟩ t
    | ⟨7, h⟩ => Pipeline.Dat.unnamed (cfg := cfg0 (F := F)) ⟨7, h⟩ t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d

/-- What the body is called with at a point, -/
def bodyPre (c : Dev nD) (t : Fin (cfg0 (F := F)).N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))

/-- and what it returns. -/
def bodyPost (c : Dev nD) (t : Fin (cfg0 (F := F)).N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d))

/-- A scratch buffer owned whole is held. -/
theorem scratch_held (c : Dev nD) (b : Ref sig .tc) (X : b.ty.Contents (Elt F)) :
    (owns (c : Thread nD τ) (Memref.whole b) fullShare X : sProp (MT nD τ sig Unit (Elt F) ℕ (UR sig nD τ) ℕ)) ⊢ ((c : Thread nD τ).loc b) ↦{fullShare} X := by
  rw [owns_whole]

set_option maxHeartbeats 2400000 in
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4]
  unfold Pipeline.ΦA
  rw [scopedRest0_eq]
  iintro ⟨⟨⟨⟨%f10, H10⟩, ⟨%f11, H11⟩⟩, Hr⟩, Ho, ⟨%d0, H0⟩, ⟨%d1, H1⟩, ⟨%d2, H2⟩, ⟨%d3, H3⟩, ⟨%d4, H4⟩, H5, H6, H7⟩
  iapply (sound_kernel c (grid0.coords t) _ _ _ _ _ _ _ _ _ _ _ _ _ _ _ _ _ _ _ _ (iblk m c 0 t) (iblk m c 1 t) (iblk m c 2 t) (iblk m c 3 t) (iblk m c 4 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexists f10; rw [owns_whole]; iexact H10
  isplitl [H11]; · iexists f11; rw [owns_whole]; iexact H11
  iintro ⟨H0, H1, H2, H3, H4, H5, H6, H7, ⟨%X10, H10⟩, ⟨%X11, H11⟩⟩
  isplitl [H10 H11 Hr]
  · isplitl [H10 H11]
    · isplitl [H10]; · iexists X10; iapply (scratch_held c cc0_scratch0 X10); iexact H10
      iexists X11; iapply (scratch_held c cc0_scratch1 X11); iexact H11
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs (F := F) 0) (fun c => (dats m 0 c).toRForget forgets0) (V m)) r ∧ r.2.sem = fun _ => 0) :=
  Pipeline.θ_run_frame_forget_shared (Q' := _) cfgs (dats m) (0 : Fin 1) launch₀0 defs₀ 𝒱₀ forgets0 m ρ main
    (hbody := fun c => (body_obligation m c).loose) (hq := fun _ _ _ => rfl)
    (howed := fun _ _ => rfl) (V := V m) (hmain := hmain m 𝒱₀) (hA := A_eq m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) ((θ_run defs _ _).mono (fun _ h => h.1) (run_main_quiescent m ρ))

/-- Every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.SbIdeal.Gen

end
-- ==== Proof.Parts.SbMath.lean ====
module

public import Mathlib.Analysis.SpecialFunctions.Log.Basic
public import Mathlib.Algebra.BigOperators.Intervals
public import Mathlib.Tactic.Ring
public import Mathlib.Tactic.Linarith
public import Mathlib.Data.EReal.Operations

/-! Stick-breaking attention of one head over the reals: the weights, what the backward sweep carries from block to block, and the gradients. -/

@[expose] public section

noncomputable section

namespace Cert.SbMath

open Finset

/-- The logarithm of the logistic function. -/
def lsg (z : ℝ) : ℝ := min z 0 - Real.log (1 + Real.exp (0 - |z|))

/-- The sum of a row from a position on. -/
def tail (f : ℕ → ℝ) (b : ℕ) : ℝ := ∑ c ∈ Ico b 2048, f c

/-- The rows of one head: queries, keys, values, and the cotangent of the output. -/
structure Head where
  (q k v d : ℕ → ℕ → ℝ)

namespace Head

variable (H : Head)

def z (i j : ℕ) : ℝ := ∑ x : Fin 64, H.q i x * (1 / 8) * H.k j x
def m (i j : ℕ) : ℝ := if j < i then lsg (H.z i j) - H.z i j else 0
def a (i j : ℕ) : ℝ := if j < i then Real.exp (lsg (H.z i j) + tail (H.m i) (j + 1)) else 0
def e (i j : ℕ) : ℝ := ∑ x : Fin 64, H.d i x * H.v j x
def g (i j : ℕ) : ℝ := H.e i j * H.a i j
def p (i j : ℕ) : ℝ := ∑ c ∈ range j, H.g i c
def w (i j : ℕ) : ℝ := if j < i then H.g i j - Real.exp (lsg (H.z i j)) * (H.g i j + H.p i j) else 0
def o (i x : ℕ) : ℝ := ∑ c ∈ range 2048, H.a i c * H.v c x
def dq (i b x : ℕ) : ℝ := tail (fun c => H.w i c * H.k c x) b
def dk (n c x : ℕ) : ℝ := ∑ i ∈ range n, H.w i c * (H.q i x * (1 / 8))
def dv (n c x : ℕ) : ℝ := ∑ i ∈ range n, H.a i c * H.d i x

end Head

theorem sum_block (f : ℕ → ℝ) (b n : ℕ) : ∑ x : Fin n, f (b + x) = ∑ c ∈ Ico b (b + n), f c := by
  rw [sum_Ico_eq_sum_range, Nat.add_sub_cancel_left, sum_range]

theorem tail_block (f : ℕ → ℝ) {b : ℕ} (h : b + 256 ≤ 2048) : ∑ x : Fin 256, f (b + x) + tail f (b + 256) = tail f b := by
  rw [sum_block, tail, tail, sum_Ico_consecutive _ (by omega) h]

theorem sum_later (f : ℕ → ℝ) (b y : ℕ) (hy : y ≤ 256) :
    ∑ x : Fin 256, f (b + x) * (if y ≤ x.val then 1 else 0) = ∑ c ∈ Ico (b + y) (b + 256), f c := by
  have h := sum_block (fun c => f c * (if b + y ≤ c then 1 else 0)) b 256
  simp only [Nat.add_le_add_iff_left] at h
  rw [h, ← sum_Ico_consecutive _ (Nat.le_add_right b y) (by omega : b + y ≤ b + 256)]
  rw [sum_eq_zero (s := Ico b (b + y)) fun c hc => by rw [if_neg (by rw [mem_Ico] at hc; omega), mul_zero], zero_add]
  exact sum_congr rfl fun c hc => by rw [if_pos (mem_Ico.1 hc).1, mul_one]

theorem tail_later (f : ℕ → ℝ) {b y : ℕ} (h : b + 256 ≤ 2048) (hy : y ≤ 256) :
    ∑ x : Fin 256, f (b + x) * (if y ≤ x.val then 1 else 0) + tail f (b + 256) = tail f (b + y) := by
  rw [sum_later f b y hy, tail, tail, sum_Ico_consecutive _ (by omega) h]

theorem tail_upper (f : ℕ → ℝ) {b y : ℕ} (h : b + 256 ≤ 2048) (hy : y < 256) :
    ∑ x : Fin 256, f (b + x) * (if y < x.val then 1 else 0) + tail f (b + 256) = tail f (b + y + 1) :=
  tail_later f h (y := y + 1) hy

/-- The first column: what lies above it and itself. -/
theorem tail_first (f : ℕ → ℝ) {b : ℕ} (h : b + 256 ≤ 2048) :
    tail f (b + 256) + (∑ x : Fin 256, f (b + x) * (if 0 < x.val then 1 else 0) + f b) = tail f b := by
  have h1 := tail_upper f h (y := 0) (by omega)
  have h2 : tail f b = f b + tail f (b + 1) := by
    rw [tail, tail, sum_eq_sum_Ico_succ_bot (by omega)]
  rw [Nat.add_zero] at h1
  rw [h2, ← h1]; ring

theorem tail_zero_sub (f : ℕ → ℝ) {b : ℕ} (h : b ≤ 2048) : tail f 0 - tail f b = ∑ c ∈ range b, f c := by
  rw [tail, tail, ← sum_Ico_consecutive f (Nat.zero_le b) h, range_eq_Ico]; ring

theorem tail_eq_zero (f : ℕ → ℝ) {b : ℕ} (h : ∀ c, b ≤ c → f c = 0) : tail f b = 0 :=
  sum_eq_zero fun c hc => h c (mem_Ico.1 hc).1

theorem tail_congr {f g : ℕ → ℝ} (b : ℕ) (h : ∀ c, b ≤ c → f c = g c) : tail f b = tail g b :=
  sum_congr rfl fun c hc => h c (mem_Ico.1 hc).1

namespace Head

variable (H : Head)

theorem m_zero {i j : ℕ} (h : i ≤ j) : H.m i j = 0 := if_neg (by omega)
theorem a_zero {i j : ℕ} (h : i ≤ j) : H.a i j = 0 := if_neg (by omega)
theorem g_zero {i j : ℕ} (h : i ≤ j) : H.g i j = 0 := by rw [g, a_zero H h, mul_zero]
theorem w_zero {i j : ℕ} (h : i ≤ j) : H.w i j = 0 := if_neg (by omega)

theorem dk_zero {n c : ℕ} (h : n ≤ c + 1) (x : ℕ) : H.dk n c x = 0 :=
  sum_eq_zero fun i hi => by rw [w_zero H (by rw [mem_range] at hi; omega), zero_mul]
theorem dv_zero {n c : ℕ} (h : n ≤ c + 1) (x : ℕ) : H.dv n c x = 0 :=
  sum_eq_zero fun i hi => by rw [a_zero H (by rw [mem_range] at hi; omega), zero_mul]

theorem dk_block (n c x : ℕ) : H.dk n c x + ∑ r : Fin 256, H.w (n + r) c * (H.q (n + r) x * (1 / 8)) = H.dk (n + 256) c x := by
  rw [sum_block (fun i => H.w i c * (H.q i x * (1 / 8))), dk, dk, range_eq_Ico, range_eq_Ico, sum_Ico_consecutive _ (by omega) (by omega)]
theorem dv_block (n c x : ℕ) : H.dv n c x + ∑ r : Fin 256, H.a (n + r) c * H.d (n + r) x = H.dv (n + 256) c x := by
  rw [sum_block (fun i => H.a i c * H.d i x), dv, dv, range_eq_Ico, range_eq_Ico, sum_Ico_consecutive _ (by omega) (by omega)]

theorem dq_zero {i b : ℕ} (h : i ≤ b) (x : ℕ) : H.dq i b x = 0 :=
  tail_eq_zero _ fun c hc => by rw [w_zero H (by omega), zero_mul]
theorem dq_block (i x : ℕ) {b : ℕ} (h : b + 256 ≤ 2048) : H.dq i (b + 256) x + ∑ r : Fin 256, H.w i (b + r) * H.k (b + r) x = H.dq i b x := by
  rw [add_comm]; exact tail_block (fun c => H.w i c * H.k c x) h

/-- The cotangent against the forward output is the whole row of weighted cotangents. -/
theorem sum_o (i : ℕ) : ∑ x : Fin 64, H.d i x * H.o i x = tail (H.g i) 0 := by
  simp only [o, mul_sum, tail, g, e, sum_mul, ← range_eq_Ico]
  rw [sum_comm]
  exact sum_congr rfl fun c _ => sum_congr rfl fun x _ => by ring

/-- What a block's row reads before its position. -/
theorem p_block (i : ℕ) {b y : ℕ} (h : b + 256 ≤ 2048) (hy : y < 256) :
    tail (H.g i) 0 - tail (H.g i) (b + 256) - ∑ x : Fin 256, H.g i (b + x) * (if y ≤ x.val then 1 else 0) = H.p i (b + y) := by
  rw [p, ← tail_zero_sub (H.g i) (by omega), ← tail_later (H.g i) h hy.le]; ring

end Head

end Cert.SbMath

end
-- ==== Proof.Parts.SbStep.lean ====
module

public import proofs.«01_k».proof.Proof.Gen.SbIdeal.Skeleton
public import Idealize.ShloMosaic.Lib.Pointwise
public import Idealize.ShloMosaic.Lib.WordCmp
public import proofs.«01_k».proof.Proof.Parts.SbMath
public import proofs.«01_k».proof.Proof.Parts.NormMath

/-! What the kernel's step computes of one block of one head, on real operands. Rows are counted from `n`, columns from `b`. -/

@[expose] public section

noncomputable section

open Idealize.ShloMosaic Idealize.ShloMosaic.TcCoe

namespace Cert.SbIdeal.Step

open Cert.SbIdeal Cert.SbIdeal.Gen Cert.SbMath

theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

theorem abs_real (x : ℝ) : FloatOps.absf (F := Ideal) (φ := .f32) ((x : ℝ) : EReal) = ((|x| : ℝ) : EReal) := by
  show max ((x : ℝ) : EReal) (-(x : EReal)) = _
  rw [← EReal.coe_neg, ← EReal.coe_strictMono.monotone.map_max]; rfl

theorem lsg_real (x : ℝ) :
    min ((x : ℝ) : EReal) 0 - Ideal.log (1 + Ideal.exp (0 - FloatOps.absf (F := Ideal) (φ := .f32) ((x : ℝ) : EReal))) = ((lsg x : ℝ) : EReal) := by
  have h : ¬ (1 + Real.exp (0 - |x|)) ≤ 0 := not_le.2 (by positivity)
  rw [abs_real, ← EReal.coe_zero, ← EReal.coe_one, ← EReal.coe_sub, Ideal.exp_coe, ← EReal.coe_add, Ideal.log_coe, if_neg h, ← EReal.coe_strictMono.monotone.map_min, ← EReal.coe_sub]
  rfl

theorem eighth : Ideal.ofBits .f32 1040187392#32 = ((1 / 8 : ℝ) : EReal) := by
  simp [Ideal.ofBits, Ideal.ieee]; rw [← EReal.coe_mul]; norm_num

/-- The triangle of ones strictly below, and with, the diagonal. -/
theorem upper_eq (x y : Fin 256) : (k0_pay57 (F := Ideal)) (ix2 x y) = (((if y.val < x.val then 1 else 0 : ℝ)) : EReal) := by
  pointwise [k0_pay57]
  rw [WordCmp.cmpi_sgt_ofNat (by omega) (by omega), select_ofBool]
  split_ifs <;> rfl
theorem later_eq (x y : Fin 256) : (k0_pay58 (F := Ideal)) (ix2 x y) = (((if y.val ≤ x.val then 1 else 0 : ℝ)) : EReal) := by
  pointwise [k0_pay58]
  rw [WordCmp.cmpi_sge_ofNat (by omega) (by omega), select_ofBool]
  split_ifs <;> rfl
theorem mask_eq (r y : Fin 256) : k0_pay20 (ix2 r y) = BitVec.ofBool (decide (y.val < r.val)) := by
  pointwise [k0_pay20]
  rw [show IntOp.addi (BitVec.ofNat 32 y.val) 0#32 = BitVec.ofNat 32 y.val from BitVec.add_zero _, WordCmp.cmpi_slt_ofNat (by omega) (by omega)]

/-- The queries' rows scaled, the cotangent's rows, and the row sums of the cotangent against the output. -/
theorem scaled_eq (v : Vec Ideal S1x256x64 .bf16) (f : ℕ → ℕ → ℝ) (h : ∀ (r : Fin 256) (x : Fin 64), v (ix3 0 r x) = ((f r x : ℝ) : EReal)) (r : Fin 256) (x : Fin 64) :
    k0_pay8 v (ix2 r x) = ((f r x * (1 / 8) : ℝ) : EReal) := by
  pointwise [k0_pay8]; rw [h, eighth, ← EReal.coe_mul]
theorem rows_eq (v : Vec Ideal S1x256x64 .bf16) (f : ℕ → ℕ → ℝ) (h : ∀ (r : Fin 256) (x : Fin 64), v (ix3 0 r x) = ((f r x : ℝ) : EReal)) (r : Fin 256) (x : Fin 64) :
    k0_pay10 v (ix2 r x) = ((f r x : ℝ) : EReal) := by
  pointwise [k0_pay10]; exact h r x
theorem gtot_eq (H : Head) (n : ℕ) (v : Vec Ideal S1x256x64 .bf16) (u : Vec Ideal S1x256x64 .f32) (hv : ∀ (r : Fin 256) (x : Fin 64), v (ix3 0 r x) = ((H.d (n + r) x : ℝ) : EReal))
    (hu : ∀ (r : Fin 256) (x : Fin 64), u (ix3 0 r x) = ((H.o (n + r) x : ℝ) : EReal)) (r : Fin 256) :
    k0_pay12 v u (ix2 r 0) = ((tail (H.g (n + r)) 0 : ℝ) : EReal) := by
  pointwise [k0_pay12, k0_pay10]
  simp only [hv, hu, ← EReal.coe_mul, NormRow.coe_sum, Head.sum_o]

section Step

variable (H : Head) (n b : ℕ) (hb : b + 256 ≤ n) (hn : n + 256 ≤ 2048)
  (qs : FVec Ideal S256x64 .bf16) (hq : ∀ (r : Fin 256) (x : Fin 64), qs (ix2 r x) = ((H.q (n + r) x * (1 / 8) : ℝ) : EReal))
  (dO : FVec Ideal S256x64 .bf16) (hd : ∀ (r : Fin 256) (x : Fin 64), dO (ix2 r x) = ((H.d (n + r) x : ℝ) : EReal))
  (ks : Vec Ideal S1x256x64 .bf16) (hk : ∀ (y : Fin 256) (x : Fin 64), ks (ix3 0 y x) = ((H.k (b + y) x : ℝ) : EReal))
  (vs : Vec Ideal S1x256x64 .bf16) (hv : ∀ (y : Fin 256) (x : Fin 64), vs (ix3 0 y x) = ((H.v (b + y) x : ℝ) : EReal))
  (up : FVec Ideal S256x256 .bf16) (hup : ∀ x y : Fin 256, up (ix2 x y) = (((if y.val < x.val then 1 else 0 : ℝ)) : EReal))
  (la : FVec Ideal S256x256 .bf16) (hla : ∀ x y : Fin 256, la (ix2 x y) = (((if y.val ≤ x.val then 1 else 0 : ℝ)) : EReal))
  (gt : FVec Ideal S256x1 .f32) (hgt : ∀ r : Fin 256, gt (ix2 r 0) = ((tail (H.g (n + r)) 0 : ℝ) : EReal))
  (dq : FVec Ideal S256x64 .f32) (hdq : ∀ (r : Fin 256) (x : Fin 64), dq (ix2 r x) = ((H.dq (n + r) (b + 256) x : ℝ) : EReal))
  (cr : FVec Ideal S256x1 .f32) (hcr : ∀ r : Fin 256, cr (ix2 r 0) = ((tail (H.m (n + r)) (b + 256) : ℝ) : EReal))
  (gd : FVec Ideal S256x1 .f32) (hgd : ∀ r : Fin 256, gd (ix2 r 0) = ((tail (H.g (n + r)) (b + 256) : ℝ) : EReal))

include hq hk in
theorem z_eq (r y : Fin 256) : k0_pay64 qs ks (ix2 r y) = ((H.z (n + r) (b + y) : ℝ) : EReal) := by
  pointwise [k0_pay64, k0_pay62]
  simp only [hq, hk, ← EReal.coe_mul, NormRow.coe_sum]; rfl

include hq hk in
theorem lb_eq (r y : Fin 256) : k0_pay65 qs ks (ix2 r y) = ((lsg (H.z (n + r) (b + y)) : ℝ) : EReal) := by
  pointwise [k0_pay65]
  rw [z_eq H n b qs hq ks hk r y, lsg_real]

include hq hk hb in
theorem lom_eq (r y : Fin 256) : k0_pay66 qs ks (ix2 r y) = ((H.m (n + r) (b + y) : ℝ) : EReal) := by
  pointwise [k0_pay66]
  rw [z_eq H n b qs hq ks hk r y, lb_eq H n b qs hq ks hk r y, ← EReal.coe_sub, Head.m, if_pos (by omega)]

include hq hk in
/-- The block of the diagonal, masked. -/
theorem lomd_eq (hbn : b = n) (r y : Fin 256) : k0_pay25 qs ks (ix2 r y) = ((H.m (n + r) (b + y) : ℝ) : EReal) := by
  pointwise [k0_pay25]
  rw [show k0_pay23 qs ks (ix2 r y) = _ from z_eq H n b qs hq ks hk r y, show k0_pay24 qs ks (ix2 r y) = _ from lb_eq H n b qs hq ks hk r y, mask_eq, select_ofBool, ← EReal.coe_sub, Head.m]
  by_cases h : y.val < r.val
  · rw [if_pos h, if_pos (by omega)]
  · rw [if_neg h, if_neg (by omega)]; rfl

variable (lom : FVec Ideal S256x256 .f32) (hlom : ∀ r y : Fin 256, lom (ix2 r y) = ((H.m (n + r) (b + y) : ℝ) : EReal))
  (lb : FVec Ideal S256x256 .f32) (hlb : ∀ r y : Fin 256, lb (ix2 r y) = ((lsg (H.z (n + r) (b + y)) : ℝ) : EReal))

include hlom hup in
theorem sums_eq (r y : Fin 256) : k0_pay30 up lom (ix2 r y) = ((∑ x : Fin 256, H.m (n + r) (b + x) * (if y.val < x.val then 1 else 0) : ℝ) : EReal) := by
  pointwise [k0_pay30]
  simp only [hlom, hup, ← EReal.coe_mul, NormRow.coe_sum]

variable (su : FVec Ideal S256x256 .f32) (hsu : ∀ r y : Fin 256, su (ix2 r y) = ((∑ x : Fin 256, H.m (n + r) (b + x) * (if y.val < x.val then 1 else 0) : ℝ) : EReal))

include hlb hsu hcr hb hn in
theorem a_eq (r y : Fin 256) : k0_pay73 cr lb su (ix2 r y) = ((H.a (n + r) (b + y) : ℝ) : EReal) := by
  pointwise [k0_pay73]
  rw [hlb, hsu, hcr, ← EReal.coe_add, ← EReal.coe_add, Ideal.exp_coe, tail_upper _ (by omega) y.isLt, Head.a, if_pos (by omega)]

include hlb hup hlom hcr hn in
theorem ad_eq (hbn : b = n) (r y : Fin 256) : k0_pay32 up cr k0_pay20 lb lom (ix2 r y) = ((H.a (n + r) (b + y) : ℝ) : EReal) := by
  pointwise [k0_pay32]
  rw [hlb, sums_eq H n b up hup lom hlom, hcr, ← EReal.coe_add, ← EReal.coe_add, Ideal.exp_coe, tail_upper _ (by omega) y.isLt, mask_eq, select_ofBool, Head.a]
  by_cases h : y.val < r.val
  · rw [if_pos h, if_pos (by omega)]
  · rw [if_neg h, if_neg (by omega)]; rfl

include hd hv hlb hsu hcr hb hn in
theorem g_eq (r y : Fin 256) : k0_pay74 dO cr lb su (k0_pay72 vs) (ix2 r y) = ((H.g (n + r) (b + y) : ℝ) : EReal) := by
  pointwise [k0_pay74, k0_pay72]
  simp only [a_eq H n b hb hn cr hcr lb hlb su hsu, hd, hv, ← EReal.coe_mul, NormRow.coe_sum]; rfl

include hd hv hlb hup hlom hcr hn in
theorem gd_eq (hbn : b = n) (r y : Fin 256) : k0_pay33 up dO cr k0_pay20 lb lom vs (ix2 r y) = ((H.g (n + r) (b + y) : ℝ) : EReal) := by
  pointwise [k0_pay33]
  simp only [ad_eq H n b hn up hup cr hcr lom hlom lb hlb hbn, hd, hv, ← EReal.coe_mul, NormRow.coe_sum]; rfl

/-- What the row reads from its position to the end of the block. -/
abbrev later (r y : ℕ) : ℝ := ∑ x : Fin 256, H.g (n + r) (b + x) * (if y ≤ x.val then 1 else 0)

include hla in
theorem split_eq (gl : FVec Ideal S256x256 .f32) (hgl : ∀ r y : Fin 256, gl (ix2 r y) = ((H.g (n + r) (b + y) : ℝ) : EReal)) (r y : Fin 256) :
    (∑ x : Fin 256, gl (ix2 r x) * la (ix2 x y)) + (∑ x : Fin 256, (gl (ix2 r x) - gl (ix2 r x)) * la (ix2 x y)) = ((later H n b r y : ℝ) : EReal) := by
  simp only [hgl, hla, ← EReal.coe_sub, sub_self, ← EReal.coe_mul, zero_mul, NormRow.coe_sum, ← EReal.coe_add, Finset.sum_const_zero, add_zero]

include hla hd hv hlb hsu hcr hb hn in
theorem tails_eq (r y : Fin 256) : k0_pay77 dO la cr lb su (k0_pay72 vs) (ix2 r y) = ((later H n b r y : ℝ) : EReal) := by
  refine Eq.trans ?_ (split_eq H n b la hla _ (g_eq H n b hb hn dO hd vs hv cr hcr lb hlb su hsu) r y)
  pointwise [k0_pay77]

include hla hd hv hlb hup hlom hcr hn in
theorem tailsd_eq (hbn : b = n) (r y : Fin 256) : k0_pay36 up la dO cr k0_pay20 lb lom vs (ix2 r y) = ((later H n b r y : ℝ) : EReal) := by
  refine Eq.trans ?_ (split_eq H n b la hla _ (gd_eq H n b hn dO hd vs hv up hup cr hcr lom hlom lb hlb hbn) r y)
  pointwise [k0_pay36]

variable (gl : FVec Ideal S256x256 .f32) (hgl : ∀ r y : Fin 256, gl (ix2 r y) = ((H.g (n + r) (b + y) : ℝ) : EReal))
  (ta : FVec Ideal S256x256 .f32) (hta : ∀ r y : Fin 256, ta (ix2 r y) = ((later H n b r y : ℝ) : EReal))

include hla hd hv hlb hsu hcr hb hn hgt hgd in
theorem w_eq (r y : Fin 256) : k0_pay79 dO la gt cr gd lb su (k0_pay72 vs) (ix2 r y) = ((H.w (n + r) (b + y) : ℝ) : EReal) := by
  pointwise [k0_pay79]
  rw [g_eq H n b hb hn dO hd vs hv cr hcr lb hlb su hsu, tails_eq H n b hb hn dO hd vs hv la hla cr hcr lb hlb su hsu, hlb, hgt, hgd]
  simp only [← EReal.coe_sub, ← EReal.coe_add, Ideal.exp_coe, ← EReal.coe_mul]
  rw [Head.p_block H _ (by omega) y.isLt, Head.w, if_pos (by omega)]

include hlb hgl hta hn hgt hgd in
theorem wd_eq (hbn : b = n) (r y : Fin 256) : k0_pay41 gt gd k0_pay20 lb gl ta (ix2 r y) = ((H.w (n + r) (b + y) : ℝ) : EReal) := by
  pointwise [k0_pay41]
  rw [hgl, hta, hlb, hgt, hgd, mask_eq, select_ofBool]
  simp only [← EReal.coe_sub, ← EReal.coe_add, Ideal.exp_coe, ← EReal.coe_mul]
  rw [Head.p_block H _ (by omega) y.isLt, Head.w]
  by_cases h : y.val < r.val
  · rw [if_pos h, if_pos (by omega)]
  · rw [if_neg h, if_neg (by omega)]; rfl

include hla hd hv hlb hsu hcr hb hn hgt hgd hq in
theorem dk_eq (acc : Vec Ideal S1x256x64 .f32) (N : ℕ) (hN : N = n) (hacc : ∀ (y : Fin 256) (x : Fin 64), acc (ix3 0 y x) = ((H.dk N (b + y) x : ℝ) : EReal)) (y : Fin 256) (x : Fin 64) :
    k0_pay82 (k0_pay81 qs dO la gt cr gd lb su (k0_pay72 vs) acc) (ix3 0 y x) = ((H.dk (n + 256) (b + y) x : ℝ) : EReal) := by
  subst hN
  pointwise [k0_pay82, k0_pay81]
  simp only [w_eq H _ b hb hn dO hd vs hv la hla gt hgt cr hcr gd hgd lb hlb su hsu, hq, hacc, ← EReal.coe_mul, NormRow.coe_sum, ← EReal.coe_add, Head.dk_block]

include hd hlb hsu hcr hb hn in
theorem dv_eq (acc : Vec Ideal S1x256x64 .f32) (N : ℕ) (hN : N = n) (hacc : ∀ (y : Fin 256) (x : Fin 64), acc (ix3 0 y x) = ((H.dv N (b + y) x : ℝ) : EReal)) (y : Fin 256) (x : Fin 64) :
    k0_pay83 (k0_pay80 dO cr lb su) acc (ix3 0 y x) = ((H.dv (n + 256) (b + y) x : ℝ) : EReal) := by
  subst hN
  pointwise [k0_pay83, k0_pay80]
  simp only [a_eq H _ b hb hn cr hcr lb hlb su hsu, hd, hacc, ← EReal.coe_mul, NormRow.coe_sum, ← EReal.coe_add, Head.dv_block]

include hlb hgl hta hn hgt hgd hq in
theorem dkd_eq (hbn : b = n) (y : Fin 256) (x : Fin 64) : k0_pay42 qs gt gd k0_pay20 lb gl ta (ix3 0 y x) = ((H.dk (n + 256) (b + y) x : ℝ) : EReal) := by
  pointwise [k0_pay42]
  simp only [wd_eq H n b hn gt hgt gd hgd lb hlb gl hgl ta hta hbn, hq, ← EReal.coe_mul, NormRow.coe_sum]
  rw [← Head.dk_block, Head.dk_zero H (by omega), zero_add]

include hd in
theorem dvd_eq (hbn : b = n) (a : FVec Ideal S256x256 .bf16) (ha : ∀ r y : Fin 256, a (ix2 r y) = ((H.a (n + r) (b + y) : ℝ) : EReal)) (y : Fin 256) (x : Fin 64) :
    k0_pay43 dO a (ix3 0 y x) = ((H.dv (n + 256) (b + y) x : ℝ) : EReal) := by
  pointwise [k0_pay43]
  simp only [ha, hd, ← EReal.coe_mul, NormRow.coe_sum]
  rw [← Head.dv_block, Head.dv_zero H (by omega), zero_add]

include hdq hk hn in
theorem dq_eq (hbn : b ≤ n) (w : FVec Ideal S256x256 .bf16) (hw : ∀ r y : Fin 256, w (ix2 r y) = ((H.w (n + r) (b + y) : ℝ) : EReal)) (r : Fin 256) (x : Fin 64) :
    k0_pay84 dq (k0_pay62 ks) w (ix2 r x) = ((H.dq (n + r) b x : ℝ) : EReal) := by
  pointwise [k0_pay84, k0_pay62]
  simp only [hw, hk, hdq, ← EReal.coe_mul, NormRow.coe_sum, ← EReal.coe_add]
  rw [Head.dq_block H _ _ (by omega)]

include hcr hlom hsu hn in
theorem cr_eq (hbn : b ≤ n) (r : Fin 256) : k0_pay85 cr lom su (ix2 r 0) = ((tail (H.m (n + r)) b : ℝ) : EReal) := by
  pointwise [k0_pay85]
  rw [hcr, hsu, hlom, ← EReal.coe_add, ← EReal.coe_add]
  exact congrArg _ (tail_first (H.m (n + r)) (by omega))

include hgd hta hn in
theorem gdone_eq (hbn : b ≤ n) (r : Fin 256) : k0_pay86 gd ta (ix2 r 0) = ((tail (H.g (n + r)) b : ℝ) : EReal) := by
  pointwise [k0_pay86]
  rw [hgd, hta, ← EReal.coe_add]
  have h := tail_later (H.g (n + r)) (b := b) (y := 0) (by omega) (by omega)
  rw [Nat.add_zero] at h
  exact congrArg _ ((add_comm _ _).trans h)

end Step

/-- A maximum above some real is above the exit. -/
theorem alive_of_real (t : EReal) (x : ℝ) (h : (x : EReal) ≤ t) :
    Scalar.cmpf (F := Ideal) (φ := .f32) .ogt t (Named.named (F := Ideal) κ "sb_exit" 0xC2DC0000#32) = 1#1 := by
  have e : (Named.named (F := Ideal) (φ := .f32) κ "sb_exit" 0xC2DC0000#32) = (⊥ : EReal) := by simp [Named.named, κ]
  rw [e]
  show BitVec.ofBool (decide ((⊥ : EReal) < t)) = 1#1
  rw [decide_eq_true (lt_of_lt_of_le (EReal.bot_lt_coe x) h)]; rfl

theorem alive7 (cr1 : FVec Ideal S256x1 .f32) (lom su : FVec Ideal S256x256 .f32) (cr0 : FVec Ideal S256x1 .f32) (x : ℝ) (h : cr0 (ix2 0 0) = ((x : ℝ) : EReal)) :
    Scalar.cmpf .ogt (k0_pay7 cr1 lom su cr0) (Named.named (F := Ideal) κ "sb_exit" 0xC2DC0000#32) = 1#1 := by
  have hx : (cr0 (ix2 0 0) : EReal) ≤ k0_pay7 cr1 lom su cr0 := by
    unfold k0_pay7
    pointwise
    exact le_max_of_le_left (Finset.le_fold_max _ |>.2 (Or.inr ⟨(0, 0), Finset.mem_univ _, le_rfl⟩))
  exact alive_of_real _ x (h ▸ hx)

theorem alive54 (cr1 : FVec Ideal S256x1 .f32) (lom su : FVec Ideal S256x256 .f32) (cr0 : FVec Ideal S256x1 .f32) (x : ℝ) (h : cr0 (ix2 0 0) = ((x : ℝ) : EReal)) :
    Scalar.cmpf .ogt (k0_pay54 cr1 lom su cr0) (Named.named (F := Ideal) κ "sb_exit" 0xC2DC0000#32) = 1#1 :=
  alive7 cr1 lom su cr0 x h

/-- The final scaling of a block of the queries' gradient. -/
theorem final_eq (H : Head) (n : ℕ) (dq : FVec Ideal S256x64 .f32) (h : ∀ (r : Fin 256) (x : Fin 64), dq (ix2 r x) = ((H.dq (n + r) 0 x : ℝ) : EReal)) (r : Fin 256) (x : Fin 64) :
    k0_pay55 dq (ix3 0 r x) = ((H.dq (n + r) 0 x * (1 / 8) : ℝ) : EReal) := by
  pointwise [k0_pay55]; rw [h, eighth, ← EReal.coe_mul]

end Cert.SbIdeal.Step
end
-- ==== Proof.Parts.SbMem.lean ====
module

public import proofs.«01_k».proof.Proof.Parts.SbStep
public import Idealize.ShloMosaic.Lib.WritesUnit

/-! What the kernel reads of its blocks, and what its stores leave in the accumulators and the output. -/

@[expose] public section

noncomputable section

open Idealize.ShloMosaic Idealize.ShloMosaic.TcCoe

namespace Cert.SbIdeal.Mem

open Cert.SbIdeal Cert.SbIdeal.Gen Cert.SbMath

variable {κ' : Kind} {sp : Space}

/-- A lane of a pair of heads. -/
abbrev lane (h : Fin 2) (x : Fin 64) : Fin 128 := ⟨64 * h.val + x.val, by omega⟩

/-- A load of a head's rows out of a block of two heads. -/
theorem load_at {e : EltTy} (v : View sig κ' sp S1x2048x128 e) (f : v.ty.Contents (Elt Ideal)) {off : Fin 3 → ℕ} (inb : ∀ a, off a + (![1, 256, 64] : Fin 3 → ℕ) a ≤ S1x2048x128.size a)
    {b : ℕ} (h : Fin 2) (hb : b + 256 ≤ 2048) (ho : off = ![0, b, 64 * h.val]) (y : Fin 256) (x : Fin 64) :
    (v.readAt (Elt Ideal) (Rect.unit (s := S1x2048x128) off ![1, 256, 64] inb).toLoadRect f : Vec Ideal S1x256x64 e) (ix3 0 y x) = v.read (Elt Ideal) f (ix3 0 ⟨b + y.val, by omega⟩ (lane h x)) := by
  subst ho
  refine congrArg (v.read (Elt Ideal) f) (funext fun a => Fin.ext ?_)
  fin_cases a
  · rfl
  · show b + 1 * y.val = b + y.val; omega
  · show 64 * h.val + 1 * x.val = 64 * h.val + x.val; omega

/-- A load of rows of one of the two accumulators. -/
theorem load_acc {e : EltTy} (v : View sig κ' sp S2x2048x64 e) (f : v.ty.Contents (Elt Ideal)) {off : Fin 3 → ℕ} (inb : ∀ a, off a + (![1, 256, 64] : Fin 3 → ℕ) a ≤ S2x2048x64.size a)
    {b : ℕ} (h : Fin 2) (hb : b + 256 ≤ 2048) (ho : off = ![h.val, b, 0]) (y : Fin 256) (x : Fin 64) :
    (v.readAt (Elt Ideal) (Rect.unit (s := S2x2048x64) off ![1, 256, 64] inb).toLoadRect f : Vec Ideal S1x256x64 e) (ix3 0 y x) = v.read (Elt Ideal) f (ix3 h ⟨b + y.val, by omega⟩ x) := by
  subst ho
  refine congrArg (v.read (Elt Ideal) f) (funext fun a => Fin.ext ?_)
  fin_cases a
  · show h.val + 1 * 0 = h.val; omega
  · show b + 1 * y.val = b + y.val; omega
  · show 0 + 1 * x.val = x.val; omega

/-- Of rows below `n + 256`, those from `s` on already hold the trip at `n`. -/
def Acc (G : Head → ℕ → ℕ → ℕ → ℝ) (Hd : Fin 2 → Head) (n s : ℕ) (X : Vec Ideal S2x2048x64 .f32) : Prop :=
  ∀ (h : Fin 2) (y : Fin 2048) (x : Fin 64), y.val < n + 256 → X (ix3 h y x) = ((G (Hd h) (if y.val < s then n else n + 256) y x : ℝ) : EReal)

/-- The rows below `n` hold the trips before it. -/
def AccB (G : Head → ℕ → ℕ → ℕ → ℝ) (Hd : Fin 2 → Head) (n : ℕ) (X : Vec Ideal S2x2048x64 .f32) : Prop :=
  ∀ (h : Fin 2) (y : Fin 2048) (x : Fin 64), y.val < n → X (ix3 h y x) = ((G (Hd h) n y x : ℝ) : EReal)

theorem Acc.done {G : Head → ℕ → ℕ → ℕ → ℝ} {Hd : Fin 2 → Head} {n : ℕ} {X : Vec Ideal S2x2048x64 .f32} (h : Acc G Hd n 0 X) : AccB G Hd (n + 256) X :=
  fun hh y x hy => (h hh y x hy).trans (by rw [if_neg (Nat.not_lt_zero _)])

theorem acc_write (G : Head → ℕ → ℕ → ℕ → ℝ) (Hd : Fin 2 → Head) (v : View sig κ' sp S2x2048x64 .f32) (f : v.ty.Contents (Elt Ideal)) {n b : ℕ} (hb : b + 256 ≤ 2048) (hbn : b ≤ n)
    {off0 off1 : Fin 3 → ℕ} (inb0 : ∀ a, off0 a + (![1, 256, 64] : Fin 3 → ℕ) a ≤ S2x2048x64.size a) (inb1 : ∀ a, off1 a + (![1, 256, 64] : Fin 3 → ℕ) a ≤ S2x2048x64.size a)
    (h0 : off0 = ![0, b, 0]) (h1 : off1 = ![1, b, 0]) (w0 w1 : Vec Ideal S1x256x64 .f32)
    (hw0 : ∀ (y : Fin 256) (x : Fin 64), w0 (ix3 0 y x) = ((G (Hd 0) (n + 256) (b + y) x : ℝ) : EReal))
    (hw1 : ∀ (y : Fin 256) (x : Fin 64), w1 (ix3 0 y x) = ((G (Hd 1) (n + 256) (b + y) x : ℝ) : EReal))
    (hold : ∀ (h : Fin 2) (y : Fin 2048) (x : Fin 64), y.val < n + 256 → (y.val < b ∨ b + 256 ≤ y.val) →
      v.read (Elt Ideal) f (ix3 h y x) = ((G (Hd h) (if y.val < b then n else n + 256) y x : ℝ) : EReal)) :
    Acc G Hd n b (v.read (Elt Ideal) (v.writes (Elt Ideal) f
      [(⟨Rect.unit off1 ![1, 256, 64] inb1, w1⟩ : View.Piece (Elt Ideal) S2x2048x64 .f32), (⟨Rect.unit off0 ![1, 256, 64] inb0, w0⟩ : View.Piece (Elt Ideal) S2x2048x64 .f32)])) := by
  intro h y x hy
  by_cases hin : b ≤ y.val ∧ y.val < b + 256
  · rw [if_neg (by omega)]
    obtain ⟨y', hy'⟩ : ∃ y' : Fin 256, y.val = b + y'.val := ⟨⟨y.val - b, by omega⟩, by dsimp only; omega⟩
    rw [hy']
    fin_cases h
    · refine (View.read_writes_cons_unit_of_not_mem v f inb1 w1 _ (ix3 0 y x) h1 0 (Or.inl ?_)).trans ?_
      · show 0 < 1; omega
      refine (View.read_writes_cons_unit_of_mem v f inb0 w0 _ (ix3 0 y x) (ix3 0 y' x) h0 fun a => ?_).trans (hw0 y' x)
      fin_cases a
      · rfl
      · exact hy'
      · exact (Nat.zero_add _).symm
    · refine (View.read_writes_cons_unit_of_mem v f inb1 w1 _ (ix3 1 y x) (ix3 0 y' x) h1 fun a => ?_).trans (hw1 y' x)
      fin_cases a
      · rfl
      · exact hy'
      · exact (Nat.zero_add _).symm
  · have hout : y.val < b ∨ b + 256 ≤ y.val := by omega
    refine (View.read_writes_cons_unit_of_not_mem v f inb1 w1 _ (ix3 h y x) h1 1 hout).trans ?_
    refine (View.read_writes_cons_unit_of_not_mem v f inb0 w0 _ (ix3 h y x) h0 1 hout).trans ?_
    exact hold h y x hy hout

/-- The queries' gradient stands in the rows below `n`. -/
def OutB (Hd : Fin 2 → Head) (n : ℕ) (X : Vec Ideal S1x2048x128 .bf16) : Prop :=
  ∀ (h : Fin 2) (y : Fin 2048) (x : Fin 64), y.val < n → X (ix3 0 y (lane h x)) = (((Hd h).dq y 0 x * (1 / 8) : ℝ) : EReal)

theorem out_write (Hd : Fin 2 → Head) (v : View sig κ' sp S1x2048x128 .bf16) (f : v.ty.Contents (Elt Ideal)) {n : ℕ} (hn : n + 256 ≤ 2048)
    {off0 off1 : Fin 3 → ℕ} (inb0 : ∀ a, off0 a + (![1, 256, 64] : Fin 3 → ℕ) a ≤ S1x2048x128.size a) (inb1 : ∀ a, off1 a + (![1, 256, 64] : Fin 3 → ℕ) a ≤ S1x2048x128.size a)
    (h0 : off0 = ![0, n, 0]) (h1 : off1 = ![0, n, 64]) (w0 w1 : Vec Ideal S1x256x64 .bf16)
    (hw0 : ∀ (y : Fin 256) (x : Fin 64), w0 (ix3 0 y x) = (((Hd 0).dq (n + y) 0 x * (1 / 8) : ℝ) : EReal))
    (hw1 : ∀ (y : Fin 256) (x : Fin 64), w1 (ix3 0 y x) = (((Hd 1).dq (n + y) 0 x * (1 / 8) : ℝ) : EReal))
    (hold : OutB Hd n (v.read (Elt Ideal) f)) :
    OutB Hd (n + 256) (v.read (Elt Ideal) (v.writes (Elt Ideal) f
      [(⟨Rect.unit off1 ![1, 256, 64] inb1, w1⟩ : View.Piece (Elt Ideal) S1x2048x128 .bf16), (⟨Rect.unit off0 ![1, 256, 64] inb0, w0⟩ : View.Piece (Elt Ideal) S1x2048x128 .bf16)])) := by
  intro h y x hy
  by_cases hin : n ≤ y.val
  · obtain ⟨y', hy'⟩ : ∃ y' : Fin 256, y.val = n + y'.val := ⟨⟨y.val - n, by omega⟩, by dsimp only; omega⟩
    rw [hy']
    fin_cases h
    · refine (View.read_writes_cons_unit_of_not_mem v f inb1 w1 _ (ix3 0 y (lane 0 x)) h1 2 (Or.inl ?_)).trans ?_
      · show 64 * 0 + x.val < 64; omega
      refine (View.read_writes_cons_unit_of_mem v f inb0 w0 _ (ix3 0 y (lane 0 x)) (ix3 0 y' x) h0 fun a => ?_).trans (hw0 y' x)
      fin_cases a
      · rfl
      · exact hy'
      · rfl
    · refine (View.read_writes_cons_unit_of_mem v f inb1 w1 _ (ix3 0 y (lane 1 x)) (ix3 0 y' x) h1 fun a => ?_).trans (hw1 y' x)
      fin_cases a
      · rfl
      · exact hy'
      · rfl
  · have hout : y.val < n ∨ n + 256 ≤ y.val := by omega
    refine (View.read_writes_cons_unit_of_not_mem v f inb1 w1 _ (ix3 0 y (lane h x)) h1 1 hout).trans ?_
    refine (View.read_writes_cons_unit_of_not_mem v f inb0 w0 _ (ix3 0 y (lane h x)) h0 1 hout).trans ?_
    exact hold h y x (by omega)

end Cert.SbIdeal.Mem
end
-- ==== Proof.Parts.SbWalk.lean ====
module

public import proofs.«01_k».proof.Proof.Parts.SbOffs
public import proofs.«01_k».proof.Proof.Parts.SbMem

/-! The kernel's inner loop by values: each trip takes the next block of columns into the carried sums and the accumulators. -/

@[expose] public section

set_option maxRecDepth 16384

noncomputable section

namespace Cert.SbIdeal.Walk

open Cert.SbIdeal Cert.SbIdeal.Gen Cert.SbIdeal.Body Cert.SbIdeal.Step Cert.SbIdeal.Mem Cert.SbMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- What the row blocks of the two heads hold in a trip at row `n`. -/
structure Ops (Hd : Fin 2 → Head) (n : ℕ) (q0 q1 d0 d1 : FVec Ideal S256x64 .bf16) (g0 g1 : FVec Ideal S256x1 .f32) : Prop where
  q0 : ∀ (r : Fin 256) (x : Fin 64), q0 (ix2 r x) = (((Hd 0).q (n + r) x * (1 / 8) : ℝ) : EReal)
  q1 : ∀ (r : Fin 256) (x : Fin 64), q1 (ix2 r x) = (((Hd 1).q (n + r) x * (1 / 8) : ℝ) : EReal)
  d0 : ∀ (r : Fin 256) (x : Fin 64), d0 (ix2 r x) = (((Hd 0).d (n + r) x : ℝ) : EReal)
  d1 : ∀ (r : Fin 256) (x : Fin 64), d1 (ix2 r x) = (((Hd 1).d (n + r) x : ℝ) : EReal)
  g0 : ∀ r : Fin 256, g0 (ix2 r 0) = ((tail ((Hd 0).g (n + r)) 0 : ℝ) : EReal)
  g1 : ∀ r : Fin 256, g1 (ix2 r 0) = ((tail ((Hd 1).g (n + r)) 0 : ℝ) : EReal)

/-- What a trip carries once the columns from `b` on are done. -/
structure Carry (Hd : Fin 2 → Head) (n b : ℕ) (a15 : FVec Ideal S256x64 .f32) (a16 a17 : FVec Ideal S256x1 .f32) (a18 : FVec Ideal S256x64 .f32) (a19 a20 : FVec Ideal S256x1 .f32) : Prop where
  dq0 : ∀ (r : Fin 256) (x : Fin 64), a15 (ix2 r x) = (((Hd 0).dq (n + r) b x : ℝ) : EReal)
  cr0 : ∀ r : Fin 256, a16 (ix2 r 0) = ((tail ((Hd 0).m (n + r)) b : ℝ) : EReal)
  gd0 : ∀ r : Fin 256, a17 (ix2 r 0) = ((tail ((Hd 0).g (n + r)) b : ℝ) : EReal)
  dq1 : ∀ (r : Fin 256) (x : Fin 64), a18 (ix2 r x) = (((Hd 1).dq (n + r) b x : ℝ) : EReal)
  cr1 : ∀ r : Fin 256, a19 (ix2 r 0) = ((tail ((Hd 1).m (n + r)) b : ℝ) : EReal)
  gd1 : ∀ r : Fin 256, a20 (ix2 r 0) = ((tail ((Hd 1).g (n + r)) b : ℝ) : EReal)

/-- A block of keys or values of one head. -/
abbrev Rows (g : ℕ → ℕ → ℝ) (b : ℕ) (X : Vec Ideal S1x256x64 .bf16) : Prop := ∀ (y : Fin 256) (x : Fin 64), X (ix3 0 y x) = ((g (b + y) x : ℝ) : EReal)

section

variable {Hd : Fin 2 → Head} {n b : ℕ} (hb : b + 256 ≤ n) (hn : n + 256 ≤ 2048) {q0 q1 d0 d1 : FVec Ideal S256x64 .bf16} {g0 g1 : FVec Ideal S256x1 .f32} (o : Ops Hd n q0 q1 d0 d1 g0 g1)
  {a15 a18 : FVec Ideal S256x64 .f32} {a16 a17 a19 a20 : FVec Ideal S256x1 .f32} (c : Carry Hd n (b + 256) a15 a16 a17 a18 a19 a20)
  {k0 k1 v0 v1 : Vec Ideal S1x256x64 .bf16} (hk0 : Rows (Hd 0).k b k0) (hk1 : Rows (Hd 1).k b k1) (hv0 : Rows (Hd 0).v b v0) (hv1 : Rows (Hd 1).v b v1)

include hb hn o c hk0 hk1 hv0 hv1

theorem carry_step : Carry Hd n b
    (k0_pay84 a15 (k0_pay62 k0) (k0_pay79 d0 k0_pay58 g0 a16 a17 (k0_pay65 q0 k0) (k0_pay70 q0 k0_pay57 k0) (k0_pay72 v0)))
    (k0_pay85 a16 (k0_pay66 q0 k0) (k0_pay70 q0 k0_pay57 k0))
    (k0_pay86 a17 (k0_pay77 d0 k0_pay58 a16 (k0_pay65 q0 k0) (k0_pay70 q0 k0_pay57 k0) (k0_pay72 v0)))
    (k0_pay4 a18 (k0_pay63 k1) (k0_pay87 g1 a20 (k0_pay68 q1 k1) (k0_pay76 d1 a19 (k0_pay68 q1 k1) (k0_pay71 q1 k0_pay57 k1) v1) (k0_pay78 d1 k0_pay58 a19 (k0_pay68 q1 k1) (k0_pay71 q1 k0_pay57 k1) v1)))
    (k0_pay5 a19 (k0_pay69 q1 k1) (k0_pay71 q1 k0_pay57 k1))
    (k0_pay6 a20 (k0_pay78 d1 k0_pay58 a19 (k0_pay68 q1 k1) (k0_pay71 q1 k0_pay57 k1) v1)) :=
  have lom0 := lom_eq (Hd 0) n b hb q0 o.q0 k0 hk0
  have lom1 := lom_eq (Hd 1) n b hb q1 o.q1 k1 hk1
  have lb0 := lb_eq (Hd 0) n b q0 o.q0 k0 hk0
  have lb1 := lb_eq (Hd 1) n b q1 o.q1 k1 hk1
  have su0 := sums_eq (Hd 0) n b _ upper_eq _ lom0
  have su1 := sums_eq (Hd 1) n b _ upper_eq _ lom1
  have ta0 := tails_eq (Hd 0) n b hb hn d0 o.d0 v0 hv0 _ later_eq a16 c.cr0 _ lb0 _ su0
  have ta1 := tails_eq (Hd 1) n b hb hn d1 o.d1 v1 hv1 _ later_eq a19 c.cr1 _ lb1 _ su1
  have w0 := w_eq (Hd 0) n b hb hn d0 o.d0 v0 hv0 _ later_eq g0 o.g0 a16 c.cr0 a17 c.gd0 _ lb0 _ su0
  have w1 := w_eq (Hd 1) n b hb hn d1 o.d1 v1 hv1 _ later_eq g1 o.g1 a19 c.cr1 a20 c.gd1 _ lb1 _ su1
  { dq0 := dq_eq (Hd 0) n b hn k0 hk0 a15 c.dq0 (by omega) _ w0
    cr0 := cr_eq (Hd 0) n b hn a16 c.cr0 _ lom0 _ su0 (by omega)
    gd0 := gdone_eq (Hd 0) n b hn a17 c.gd0 _ ta0 (by omega)
    dq1 := dq_eq (Hd 1) n b hn k1 hk1 a18 c.dq1 (by omega) _ w1
    cr1 := cr_eq (Hd 1) n b hn a19 c.cr1 _ lom1 _ su1 (by omega)
    gd1 := gdone_eq (Hd 1) n b hn a20 c.gd1 _ ta1 (by omega) }

theorem dk0_step (acc : Vec Ideal S1x256x64 .f32) (hacc : ∀ (y : Fin 256) (x : Fin 64), acc (ix3 0 y x) = (((Hd 0).dk n (b + y) x : ℝ) : EReal)) (y : Fin 256) (x : Fin 64) :
    k0_pay82 (k0_pay81 q0 d0 k0_pay58 g0 a16 a17 (k0_pay65 q0 k0) (k0_pay70 q0 k0_pay57 k0) (k0_pay72 v0) acc) (ix3 0 y x) = (((Hd 0).dk (n + 256) (b + y) x : ℝ) : EReal) :=
  have lb0 := lb_eq (Hd 0) n b q0 o.q0 k0 hk0
  have su0 := sums_eq (Hd 0) n b _ upper_eq _ (lom_eq (Hd 0) n b hb q0 o.q0 k0 hk0)
  dk_eq (Hd 0) n b hb hn q0 o.q0 d0 o.d0 v0 hv0 _ later_eq g0 o.g0 a16 c.cr0 a17 c.gd0 _ lb0 _ su0 acc n rfl hacc y x

theorem dk1_step (acc : Vec Ideal S1x256x64 .f32) (hacc : ∀ (y : Fin 256) (x : Fin 64), acc (ix3 0 y x) = (((Hd 1).dk n (b + y) x : ℝ) : EReal)) (y : Fin 256) (x : Fin 64) :
    k0_pay88 q1 g1 a20 (k0_pay68 q1 k1) (k0_pay76 d1 a19 (k0_pay68 q1 k1) (k0_pay71 q1 k0_pay57 k1) v1) (k0_pay78 d1 k0_pay58 a19 (k0_pay68 q1 k1) (k0_pay71 q1 k0_pay57 k1) v1) acc (ix3 0 y x)
      = (((Hd 1).dk (n + 256) (b + y) x : ℝ) : EReal) :=
  have lb1 := lb_eq (Hd 1) n b q1 o.q1 k1 hk1
  have su1 := sums_eq (Hd 1) n b _ upper_eq _ (lom_eq (Hd 1) n b hb q1 o.q1 k1 hk1)
  dk_eq (Hd 1) n b hb hn q1 o.q1 d1 o.d1 v1 hv1 _ later_eq g1 o.g1 a19 c.cr1 a20 c.gd1 _ lb1 _ su1 acc n rfl hacc y x

theorem dv0_step (acc : Vec Ideal S1x256x64 .f32) (hacc : ∀ (y : Fin 256) (x : Fin 64), acc (ix3 0 y x) = (((Hd 0).dv n (b + y) x : ℝ) : EReal)) (y : Fin 256) (x : Fin 64) :
    k0_pay83 (k0_pay80 d0 a16 (k0_pay65 q0 k0) (k0_pay70 q0 k0_pay57 k0)) acc (ix3 0 y x) = (((Hd 0).dv (n + 256) (b + y) x : ℝ) : EReal) :=
  have lb0 := lb_eq (Hd 0) n b q0 o.q0 k0 hk0
  have su0 := sums_eq (Hd 0) n b _ upper_eq _ (lom_eq (Hd 0) n b hb q0 o.q0 k0 hk0)
  dv_eq (Hd 0) n b hb hn d0 o.d0 a16 c.cr0 _ lb0 _ su0 acc n rfl hacc y x

theorem dv1_step (acc : Vec Ideal S1x256x64 .f32) (hacc : ∀ (y : Fin 256) (x : Fin 64), acc (ix3 0 y x) = (((Hd 1).dv n (b + y) x : ℝ) : EReal)) (y : Fin 256) (x : Fin 64) :
    k0_pay3 (k0_pay89 d1 (k0_pay75 a19 (k0_pay68 q1 k1) (k0_pay71 q1 k0_pay57 k1)) acc) (ix3 0 y x) = (((Hd 1).dv (n + 256) (b + y) x : ℝ) : EReal) :=
  have lb1 := lb_eq (Hd 1) n b q1 o.q1 k1 hk1
  have su1 := sums_eq (Hd 1) n b _ upper_eq _ (lom_eq (Hd 1) n b hb q1 o.q1 k1 hk1)
  dv_eq (Hd 1) n b hb hn d1 o.d1 a19 c.cr1 _ lb1 _ su1 acc n rfl hacc y x

end

/-- What a block of two heads holds. -/
abbrev InB {e : FTy} (g : Fin 2 → ℕ → ℕ → ℝ) (X : FVec Ideal S1x2048x128 e) : Prop :=
  ∀ (h : Fin 2) (y : Fin 2048) (x : Fin 64), X (ix3 0 y (lane h x)) = ((g h y x : ℝ) : EReal)

theorem rows_of {κ' : Kind} {sp : Space} (v : View sig κ' sp S1x2048x128 .bf16) (f : v.ty.Contents (Elt Ideal)) {off : Fin 3 → ℕ} (inb : ∀ a, off a + (![1, 256, 64] : Fin 3 → ℕ) a ≤ S1x2048x128.size a)
    {b : ℕ} (h : Fin 2) (hb : b + 256 ≤ 2048) (ho : off = ![0, b, 64 * h.val]) (g : Fin 2 → ℕ → ℕ → ℝ) (hg : InB (e := .bf16) g (v.read (Elt Ideal) f)) :
    Rows (g h) b (v.readAt (Elt Ideal) (Rect.unit (s := S1x2048x128) off ![1, 256, 64] inb).toLoadRect f) :=
  fun y x => (load_at v f inb h hb ho y x).trans (hg h _ x)

theorem acc_rows {κ' : Kind} {sp : Space} (v : View sig κ' sp S2x2048x64 .f32) (f : v.ty.Contents (Elt Ideal)) {off : Fin 3 → ℕ} (inb : ∀ a, off a + (![1, 256, 64] : Fin 3 → ℕ) a ≤ S2x2048x64.size a)
    {n b : ℕ} (h : Fin 2) (hb : b + 256 ≤ n) (hn : n + 256 ≤ 2048) (ho : off = ![h.val, b, 0]) (G : Head → ℕ → ℕ → ℕ → ℝ) (Hd : Fin 2 → Head)
    (hacc : Acc G Hd n (b + 256) (v.read (Elt Ideal) f)) (y : Fin 256) (x : Fin 64) :
    (v.readAt (Elt Ideal) (Rect.unit (s := S2x2048x64) off ![1, 256, 64] inb).toLoadRect f : Vec Ideal S1x256x64 .f32) (ix3 0 y x) = ((G (Hd h) n (b + y) x : ℝ) : EReal) := by
  refine (load_acc v f inb h (by omega) ho y x).trans ((hacc h _ x ?_).trans ?_)
  · show b + y.val < n + 256; omega
  · rw [if_pos (show b + y.val < b + 256 by omega)]

theorem inb_rows {off : Fin 3 → ℕ} {b l : ℕ} (ho : off = ![0, b, l]) (hb : b + 256 ≤ 2048) (hl : l + 64 ≤ 128) : ∀ a, off a + (![1, 256, 64] : Fin 3 → ℕ) a ≤ S1x2048x128.size a := by
  subst ho; intro a; fin_cases a
  · exact le_rfl
  · exact hb
  · exact hl

theorem inb_acc {off : Fin 3 → ℕ} {b h : ℕ} (ho : off = ![h, b, 0]) (hb : b + 256 ≤ 2048) (hh : h + 1 ≤ 2) : ∀ a, off a + (![1, 256, 64] : Fin 3 → ℕ) a ≤ S2x2048x64.size a := by
  subst ho; intro a; fin_cases a
  · exact hh
  · exact hb
  · exact le_rfl

theorem if_iff {y b p q : ℕ} (h : y < b ∨ b + 256 ≤ y) : (if y < b + 256 then p else q) = if y < b then p else q := by
  split_ifs <;> omega

theorem cond_eq (k : Fin k0_t1_loop.trips) (j : ℕ) (h : j < k.val) :
    Scalar.andi (Scalar.cmpi .slt (BitVec.ofNat 32 j) (Scalar.muli (Scf.iv 0#32 1#32 k) 1#32)) (Scalar.cmpi .sgt (1#32) 0#32) = 1#1 := by
  have hk : ∀ (k j : Fin 8), j.val < k.val → Scalar.andi (Scalar.cmpi .slt (BitVec.ofNat 32 j.val) (Scalar.muli (Scf.iv 0#32 1#32 k.val) 1#32)) (Scalar.cmpi .sgt (1#32) 0#32) = 1#1 := by decide
  have hk8 : k.val < 8 := lt_of_lt_of_eq k.isLt (by decide)
  exact hk ⟨k.val, hk8⟩ ⟨j, by omega⟩ h

theorem alive_word (b : BitVec 1) (h : b = 1#1) : (Scalar.extui b : BitVec 32) = 1#32 := by subst h; decide

set_option maxHeartbeats 4000000 in
theorem while_wp (c : Dev nD) (i : grid0.Coords) (k : Fin k0_t1_loop.trips) (arg3 : Memref sig .tc .vmem S1x2048x128 .bf16) (harg3 : arg3.IsWhole)
    (arg4 : Memref sig .tc .vmem S1x2048x128 .bf16) (harg4 : arg4.IsWhole) (arg10 : Memref sig .tc .vmem S2x2048x64 .f32) (harg10 : arg10.IsWhole)
    (arg11 : Memref sig .tc .vmem S2x2048x64 .f32) (harg11 : arg11.IsWhole)
    (v45 v52 : FVec Ideal S256x64 .bf16) (v55 v58 : FVec Ideal S256x64 .bf16) (v65 v72 : FVec Ideal S256x1 .f32)
    (f3 : Buf (Elt Ideal) (arg3.view.loc (c : Thread nD τ))) (f4 : Buf (Elt Ideal) (arg4.view.loc (c : Thread nD τ)))
    (Hd : Fin 2 → Head) (h3 : InB (e := .bf16) (fun h => (Hd h).k) (arg3.view.read (Elt Ideal) f3)) (h4 : InB (e := .bf16) (fun h => (Hd h).v) (arg4.view.read (Elt Ideal) f4))
    (ho : Ops Hd (k.val * 256) v45 v52 v55 v58 v65 v72) :
    ∀ n j s, j + n = k.val → s = (k.val - j) * 256 → ∀ (arg15 : FVec Ideal S256x64 .f32) (arg16 arg17 : FVec Ideal S256x1 .f32) (arg18 : FVec Ideal S256x64 .f32) (arg19 arg20 : FVec Ideal S256x1 .f32)
      (f10 : Buf (Elt Ideal) (arg10.view.loc (c : Thread nD τ))) (f11 : Buf (Elt Ideal) (arg11.view.loc (c : Thread nD τ)))
      (hca : Carry Hd (k.val * 256) s arg15 arg16 arg17 arg18 arg19 arg20)
      (hdk : Acc Head.dk Hd (k.val * 256) s (arg10.view.read (Elt Ideal) f10)) (hdv : Acc Head.dv Hd (k.val * 256) s (arg11.view.read (Elt Ideal) f11))
      (K : BitVec 32 × BitVec 32 × FVec Ideal S256x64 .f32 × FVec Ideal S256x1 .f32 × FVec Ideal S256x1 .f32 × FVec Ideal S256x64 .f32 × FVec Ideal S256x1 .f32 × FVec Ideal S256x1 .f32 → sProp (MT nD τ sig Unit (Elt Ideal) ℕ (UR sig nD τ) ℕ)),
    iprop((arg3.view.loc (c : Thread nD τ) ↦[arg3.view.set]{fullShare} f3) ∗ (arg4.view.loc (c : Thread nD τ) ↦[arg4.view.set]{fullShare} f4)
        ∗ (arg10.view.loc (c : Thread nD τ) ↦[arg10.view.set]{fullShare} f10) ∗ (arg11.view.loc (c : Thread nD τ) ↦[arg11.view.set]{fullShare} f11)
        ∗ (∀ r f10' f11', iprop(⌜(∀ (y : Fin 256) (x : Fin 64), r.2.2.1 (ix2 y x) = (((Hd 0).dq (k.val * 256 + y) 0 x : ℝ) : EReal))
              ∧ (∀ (y : Fin 256) (x : Fin 64), r.2.2.2.2.2.1 (ix2 y x) = (((Hd 1).dq (k.val * 256 + y) 0 x : ℝ) : EReal))
              ∧ Acc Head.dk Hd (k.val * 256) 0 (arg10.view.read (Elt Ideal) f10') ∧ Acc Head.dv Hd (k.val * 256) 0 (arg11.view.read (Elt Ideal) f11')⌝
            ∗ (arg3.view.loc (c : Thread nD τ) ↦[arg3.view.set]{fullShare} f3) ∗ (arg4.view.loc (c : Thread nD τ) ↦[arg4.view.set]{fullShare} f4)
            ∗ (arg10.view.loc (c : Thread nD τ) ↦[arg10.view.set]{fullShare} f10') ∗ (arg11.view.loc (c : Thread nD τ) ↦[arg11.view.set]{fullShare} f11')) -∗ K r))
      ⊢ wp frame (wpE (defs₀ (F := Ideal)) 𝒱₀ (c : Thread nD τ) (some n)) Set.univ
          (defs₀ (F := Ideal) .tc 1 ⟨i, k, arg3, harg3, v45, v52, k0_pay57, arg4, harg4, v55, v58, k0_pay58, v65, arg10, harg10, arg11, harg11, v72, BitVec.ofNat 32 j, 1#32, arg15, arg16, arg17, arg18, arg19, arg20⟩) K := by
  have hk8 : k.val < 8 := lt_of_lt_of_eq k.isLt (by decide)
  intro n
  induction n with
  | zero =>
    intro j s hj hs arg15 arg16 arg17 arg18 arg19 arg20 f10 f11 hca hdk hdv K
    show _ ⊢ wp frame (wpE (defs₀ (F := Ideal)) 𝒱₀ (c : Thread nD τ) (some 0)) Set.univ (cc0_while1 i k arg3 harg3 v45 v52 k0_pay57 arg4 harg4 v55 v58 k0_pay58 v65 arg10 harg10 arg11 harg11 v72 (BitVec.ofNat 32 j) 1#32 arg15 arg16 arg17 arg18 arg19 arg20) K
    simp only [cc0_while1_eq_skeleton]; unfold cc0_while1_skel
    have hc : Scalar.andi (Scalar.cmpi .slt (BitVec.ofNat 32 j) (Scalar.muli (Scf.iv 0#32 1#32 k) 1#32)) (Scalar.cmpi .sgt (1#32) 0#32) ≠ 1#1 := cond_ne k j _ (by omega)
    obtain rfl : s = 0 := by rw [hs, show k.val - j = 0 by omega]
    simp only [if_neg hc, Prog.pure_eq_ret]
    iintro ⟨H3, H4, H10, H11, HK⟩
    rw [wp_ret]; imodintro
    iapply HK
    iframe
    ipureintro
    exact ⟨hca.dq0, hca.dq1, hdk, hdv⟩
  | succ n ih =>
    intro j s hj hs arg15 arg16 arg17 arg18 arg19 arg20 f10 f11 hca hdk hdv K
    show _ ⊢ wp frame (wpE (defs₀ (F := Ideal)) 𝒱₀ (c : Thread nD τ) (some (n+1))) Set.univ (cc0_while1 i k arg3 harg3 v45 v52 k0_pay57 arg4 harg4 v55 v58 k0_pay58 v65 arg10 harg10 arg11 harg11 v72 (BitVec.ofNat 32 j) 1#32 arg15 arg16 arg17 arg18 arg19 arg20) K
    simp only [cc0_while1_eq_skeleton]; unfold cc0_while1_skel
    iintro ⟨H3, H4, H10, H11, HK⟩
    have hjk : j < k.val := by omega
    have hc := cond_eq k j hjk
    simp only [if_pos hc, k0_part7_eq_skeleton, k0_part8_eq_skeleton, k0_part9_eq_skeleton]
    unfold k0_part7_skel k0_part8_skel k0_part9_skel
    simp only [Prog.lift, Prog.bind_op, Prog.bind_ret, Prog.pure_eq_ret]
    have hchk : k0_chk1 k (BitVec.ofNat 32 j) := chk_of_lt k j hjk
    haveI : Fact (j < k.val) := ⟨hjk⟩
    sl_exec
    iapply (wp_call 𝒱₀ (c : Thread nD τ) (some (n+1)) Set.univ n (fun u hu => by cases hu; exact Nat.lt_succ_self n))
    have e1 : Scalar.addi (BitVec.ofNat 32 j) 1#32 = BitVec.ofNat 32 (j+1) := by show BitVec.ofNat 32 j + 1#32 = _; rw [BitVec.ofNat_add]
    rw [e1]
    obtain ⟨o7, o8, o9, o10⟩ := offs_of_lt k j hjk
    have hb : (k.val - 1 - j) * 256 + 256 ≤ k.val * 256 := by omega
    have hn : k.val * 256 + 256 ≤ 2048 := by omega
    obtain rfl : s = (k.val - 1 - j) * 256 + 256 := by omega
    have hk0 := rows_of arg3.view f3 (inb_rows o7 (by omega) (by omega)) 0 (by omega) o7 _ h3
    have hk1 := rows_of arg3.view f3 (inb_rows o8 (by omega) (by omega)) 1 (by omega) o8 _ h3
    have hv0 := rows_of arg4.view f4 (inb_rows o7 (by omega) (by omega)) 0 (by omega) o7 _ h4
    have hv1 := rows_of arg4.view f4 (inb_rows o8 (by omega) (by omega)) 1 (by omega) o8 _ h4
    have hca' := carry_step hb hn ho hca hk0 hk1 hv0 hv1
    have hdk' := acc_write Head.dk Hd arg10.view f10 (by omega) (by omega) (inb_acc o9 (by omega) (by omega)) (inb_acc o10 (by omega) (by omega)) o9 o10 _ _
      (dk0_step hb hn ho hca hk0 hk1 hv0 hv1 _ (acc_rows arg10.view f10 (inb_acc o9 (by omega) (by omega)) 0 hb hn o9 Head.dk Hd hdk))
      (dk1_step hb hn ho hca hk0 hk1 hv0 hv1 _ (acc_rows arg10.view f10 (inb_acc o10 (by omega) (by omega)) 1 hb hn o10 Head.dk Hd hdk))
      (fun h y x hy hout => (hdk h y x hy).trans (by rw [if_iff hout]))
    have hdv' := acc_write Head.dv Hd arg11.view f11 (by omega) (by omega) (inb_acc o9 (by omega) (by omega)) (inb_acc o10 (by omega) (by omega)) o9 o10 _ _
      (dv0_step hb hn ho hca hk0 hk1 hv0 hv1 _ (acc_rows arg11.view f11 (inb_acc o9 (by omega) (by omega)) 0 hb hn o9 Head.dv Hd hdv))
      (dv1_step hb hn ho hca hk0 hk1 hv0 hv1 _ (acc_rows arg11.view f11 (inb_acc o10 (by omega) (by omega)) 1 hb hn o10 Head.dv Hd hdv))
      (fun h y x hy hout => (hdv h y x hy).trans (by rw [if_iff hout]))
    rw [alive_word _ (alive7 _ _ _ _ _ (hca'.cr0 0))]
    iapply (ih (j+1) _ (by omega) (by omega) _ _ _ _ _ _ _ _ hca' hdk' hdv')
    isplitl [H3]; · iexact H3
    isplitl [H4]; · iexact H4
    isplitl [H10]; · iexact H10
    isplitl [H11]; · iexact H11
    iintro %r %f10' %f11' H
    rw [wp_ret]; imodintro
    iapply HK $$ H

end Cert.SbIdeal.Walk
end
-- ==== Proof.Parts.SbRun.lean ====
module

public import proofs.«01_k».proof.Proof.Parts.SbWalk

/-! The kernel's outer loop by values: each trip writes a block of the queries' gradient and adds its rows to the accumulators. -/

@[expose] public section

set_option maxRecDepth 16384

noncomputable section

namespace Cert.SbIdeal.Run

open Cert.SbIdeal.Walk
open Cert.SbIdeal Cert.SbIdeal.Gen Cert.SbIdeal.Body Cert.SbIdeal.Step Cert.SbIdeal.Mem Cert.SbMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A trip starts with nothing carried, since past the diagonal all is masked. -/
theorem zero_dq (H : Head) (n : ℕ) (r : Fin 256) (x : Fin 64) : (k0_pay14 (F := Ideal)) (ix2 r x) = ((H.dq (n + r) (n + 256) x : ℝ) : EReal) := by
  rw [Head.dq_zero H (by omega)]
  pointwise [k0_pay14]
  rfl
theorem zero_cr (H : Head) (n : ℕ) (r : Fin 256) : (k0_pay15 (F := Ideal)) (ix2 r 0) = ((tail (H.m (n + r)) (n + 256) : ℝ) : EReal) := by
  rw [tail_eq_zero _ fun c h => Head.m_zero H (by omega)]
  pointwise [k0_pay15]
  rfl
theorem zero_gd (H : Head) (n : ℕ) (r : Fin 256) : (k0_pay16 (F := Ideal)) (ix2 r 0) = ((tail (H.g (n + r)) (n + 256) : ℝ) : EReal) := by
  rw [tail_eq_zero _ fun c h => Head.g_zero H (by omega)]
  pointwise [k0_pay16]
  rfl

section

variable {Hd : Fin 2 → Head} {n : ℕ} (hn : n + 256 ≤ 2048) {q0 q1 d0 d1 : FVec Ideal S256x64 .bf16} {g0 g1 : FVec Ideal S256x1 .f32} (o : Ops Hd n q0 q1 d0 d1 g0 g1)
  {k0 k1 v0 v1 : Vec Ideal S1x256x64 .bf16} (hk0 : Rows (Hd 0).k n k0) (hk1 : Rows (Hd 1).k n k1) (hv0 : Rows (Hd 0).v n v0) (hv1 : Rows (Hd 1).v n v1)

include hn o hk0 hk1 hv0 hv1

theorem carry_diag : Carry Hd n n
    (k0_pay44 g0 k0_pay14 k0_pay16 k0_pay20 (k0_pay21 k0) (k0_pay24 q0 k0) (k0_pay33 k0_pay57 d0 k0_pay15 k0_pay20 (k0_pay24 q0 k0) (k0_pay25 q0 k0) v0)
      (k0_pay36 k0_pay57 k0_pay58 d0 k0_pay15 k0_pay20 (k0_pay24 q0 k0) (k0_pay25 q0 k0) v0))
    (k0_pay45 k0_pay15 (k0_pay25 q0 k0) (k0_pay30 k0_pay57 (k0_pay25 q0 k0)))
    (k0_pay46 k0_pay16 (k0_pay36 k0_pay57 k0_pay58 d0 k0_pay15 k0_pay20 (k0_pay24 q0 k0) (k0_pay25 q0 k0) v0))
    (k0_pay51 k0_pay17 (k0_pay22 k1) (k0_pay47 g1 k0_pay19 k0_pay20 (k0_pay27 q1 k1) (k0_pay35 k0_pay57 d1 k0_pay18 k0_pay20 (k0_pay27 q1 k1) (k0_pay28 q1 k1) v1)
      (k0_pay38 k0_pay57 k0_pay58 d1 k0_pay18 k0_pay20 (k0_pay27 q1 k1) (k0_pay28 q1 k1) v1) (k0_pay39 k0_pay57 k0_pay58 d1 k0_pay18 k0_pay20 (k0_pay27 q1 k1) (k0_pay28 q1 k1) v1)))
    (k0_pay52 k0_pay18 (k0_pay29 k0_pay20 (k0_pay28 q1 k1)) (k0_pay31 k0_pay57 k0_pay20 (k0_pay28 q1 k1)))
    (k0_pay53 k0_pay19 (k0_pay40 (k0_pay38 k0_pay57 k0_pay58 d1 k0_pay18 k0_pay20 (k0_pay27 q1 k1) (k0_pay28 q1 k1) v1) (k0_pay39 k0_pay57 k0_pay58 d1 k0_pay18 k0_pay20 (k0_pay27 q1 k1) (k0_pay28 q1 k1) v1))) :=
  have lb0 := lb_eq (Hd 0) n n q0 o.q0 k0 hk0
  have lb1 := lb_eq (Hd 1) n n q1 o.q1 k1 hk1
  have lom0 := lomd_eq (Hd 0) n n q0 o.q0 k0 hk0 rfl
  have lom1 := lomd_eq (Hd 1) n n q1 o.q1 k1 hk1 rfl
  have su0 := sums_eq (Hd 0) n n _ upper_eq _ lom0
  have su1 := sums_eq (Hd 1) n n _ upper_eq _ lom1
  have gl0 := gd_eq (Hd 0) n n hn d0 o.d0 v0 hv0 _ upper_eq _ (zero_cr (Hd 0) n) _ lom0 _ lb0 rfl
  have gl1 := gd_eq (Hd 1) n n hn d1 o.d1 v1 hv1 _ upper_eq _ (zero_cr (Hd 1) n) _ lom1 _ lb1 rfl
  have ta0 := tailsd_eq (Hd 0) n n hn d0 o.d0 v0 hv0 _ upper_eq _ later_eq _ (zero_cr (Hd 0) n) _ lom0 _ lb0 rfl
  have ta1 := tailsd_eq (Hd 1) n n hn d1 o.d1 v1 hv1 _ upper_eq _ later_eq _ (zero_cr (Hd 1) n) _ lom1 _ lb1 rfl
  have w0 := wd_eq (Hd 0) n n hn g0 o.g0 _ (zero_gd (Hd 0) n) _ lb0 _ gl0 _ ta0 rfl
  have w1 := wd_eq (Hd 1) n n hn g1 o.g1 _ (zero_gd (Hd 1) n) _ lb1 _ gl1 _ ta1 rfl
  { dq0 := dq_eq (Hd 0) n n hn k0 hk0 _ (zero_dq (Hd 0) n) le_rfl _ w0
    cr0 := cr_eq (Hd 0) n n hn _ (zero_cr (Hd 0) n) _ lom0 _ su0 le_rfl
    gd0 := gdone_eq (Hd 0) n n hn _ (zero_gd (Hd 0) n) _ ta0 le_rfl
    dq1 := dq_eq (Hd 1) n n hn k1 hk1 _ (zero_dq (Hd 1) n) le_rfl _ w1
    cr1 := cr_eq (Hd 1) n n hn _ (zero_cr (Hd 1) n) _ lom1 _ su1 le_rfl
    gd1 := gdone_eq (Hd 1) n n hn _ (zero_gd (Hd 1) n) _ ta1 le_rfl }

theorem dk0_diag (y : Fin 256) (x : Fin 64) :
    k0_pay42 q0 g0 k0_pay16 k0_pay20 (k0_pay24 q0 k0) (k0_pay33 k0_pay57 d0 k0_pay15 k0_pay20 (k0_pay24 q0 k0) (k0_pay25 q0 k0) v0)
      (k0_pay36 k0_pay57 k0_pay58 d0 k0_pay15 k0_pay20 (k0_pay24 q0 k0) (k0_pay25 q0 k0) v0) (ix3 0 y x) = (((Hd 0).dk (n + 256) (n + y) x : ℝ) : EReal) :=
  have lb0 := lb_eq (Hd 0) n n q0 o.q0 k0 hk0
  have lom0 := lomd_eq (Hd 0) n n q0 o.q0 k0 hk0 rfl
  dkd_eq (Hd 0) n n hn q0 o.q0 g0 o.g0 _ (zero_gd (Hd 0) n) _ lb0 _ (gd_eq (Hd 0) n n hn d0 o.d0 v0 hv0 _ upper_eq _ (zero_cr (Hd 0) n) _ lom0 _ lb0 rfl) _
    (tailsd_eq (Hd 0) n n hn d0 o.d0 v0 hv0 _ upper_eq _ later_eq _ (zero_cr (Hd 0) n) _ lom0 _ lb0 rfl) rfl y x

theorem dk1_diag (y : Fin 256) (x : Fin 64) :
    k0_pay49 q1 g1 k0_pay19 k0_pay20 (k0_pay27 q1 k1) (k0_pay35 k0_pay57 d1 k0_pay18 k0_pay20 (k0_pay27 q1 k1) (k0_pay28 q1 k1) v1)
      (k0_pay38 k0_pay57 k0_pay58 d1 k0_pay18 k0_pay20 (k0_pay27 q1 k1) (k0_pay28 q1 k1) v1) (k0_pay39 k0_pay57 k0_pay58 d1 k0_pay18 k0_pay20 (k0_pay27 q1 k1) (k0_pay28 q1 k1) v1) (ix3 0 y x)
      = (((Hd 1).dk (n + 256) (n + y) x : ℝ) : EReal) :=
  have lb1 := lb_eq (Hd 1) n n q1 o.q1 k1 hk1
  have lom1 := lomd_eq (Hd 1) n n q1 o.q1 k1 hk1 rfl
  dkd_eq (Hd 1) n n hn q1 o.q1 g1 o.g1 _ (zero_gd (Hd 1) n) _ lb1 _ (gd_eq (Hd 1) n n hn d1 o.d1 v1 hv1 _ upper_eq _ (zero_cr (Hd 1) n) _ lom1 _ lb1 rfl) _
    (tailsd_eq (Hd 1) n n hn d1 o.d1 v1 hv1 _ upper_eq _ later_eq _ (zero_cr (Hd 1) n) _ lom1 _ lb1 rfl) rfl y x

theorem dv0_diag (y : Fin 256) (x : Fin 64) :
    k0_pay43 d0 (k0_pay32 k0_pay57 k0_pay15 k0_pay20 (k0_pay24 q0 k0) (k0_pay25 q0 k0)) (ix3 0 y x) = (((Hd 0).dv (n + 256) (n + y) x : ℝ) : EReal) :=
  have lb0 := lb_eq (Hd 0) n n q0 o.q0 k0 hk0
  have lom0 := lomd_eq (Hd 0) n n q0 o.q0 k0 hk0 rfl
  dvd_eq (Hd 0) n n d0 o.d0 rfl _ (ad_eq (Hd 0) n n hn _ upper_eq _ (zero_cr (Hd 0) n) _ lom0 _ lb0 rfl) y x

theorem dv1_diag (y : Fin 256) (x : Fin 64) :
    k0_pay50 (k0_pay48 d1 (k0_pay34 k0_pay57 k0_pay18 k0_pay20 (k0_pay27 q1 k1) (k0_pay28 q1 k1))) (ix3 0 y x) = (((Hd 1).dv (n + 256) (n + y) x : ℝ) : EReal) :=
  have lb1 := lb_eq (Hd 1) n n q1 o.q1 k1 hk1
  have lom1 := lomd_eq (Hd 1) n n q1 o.q1 k1 hk1 rfl
  dvd_eq (Hd 1) n n d1 o.d1 rfl _ (ad_eq (Hd 1) n n hn _ upper_eq _ (zero_cr (Hd 1) n) _ lom1 _ lb1 rfl) y x

end

/-- What the five inputs' blocks hold, the head's values among them. -/
structure Ins (Hd : Fin 2 → Head) (X2 X3 X4 X5 : Vec Ideal S1x2048x128 .bf16) (X6 : Vec Ideal S1x2048x128 .f32) : Prop where
  q : InB (e := .bf16) (fun h => (Hd h).q) X2
  k : InB (e := .bf16) (fun h => (Hd h).k) X3
  v : InB (e := .bf16) (fun h => (Hd h).v) X4
  d : InB (e := .bf16) (fun h => (Hd h).d) X5
  o : InB (e := .f32) (fun h => (Hd h).o) X6

theorem rows32_of {κ' : Kind} {sp : Space} (v : View sig κ' sp S1x2048x128 .f32) (f : v.ty.Contents (Elt Ideal)) {off : Fin 3 → ℕ} (inb : ∀ a, off a + (![1, 256, 64] : Fin 3 → ℕ) a ≤ S1x2048x128.size a)
    {b : ℕ} (h : Fin 2) (hb : b + 256 ≤ 2048) (ho : off = ![0, b, 64 * h.val]) (g : Fin 2 → ℕ → ℕ → ℝ) (hg : InB (e := .f32) g (v.read (Elt Ideal) f)) (y : Fin 256) (x : Fin 64) :
    (v.readAt (Elt Ideal) (Rect.unit (s := S1x2048x128) off ![1, 256, 64] inb).toLoadRect f : Vec Ideal S1x256x64 .f32) (ix3 0 y x) = ((g h (b + y) x : ℝ) : EReal) :=
  (load_at v f inb h hb ho y x).trans (hg h _ x)

theorem ops_of {Hd : Fin 2 → Head} {n : ℕ} {q0 q1 d0 d1 : Vec Ideal S1x256x64 .bf16} {u0 u1 : Vec Ideal S1x256x64 .f32} (hq0 : Rows (Hd 0).q n q0) (hq1 : Rows (Hd 1).q n q1) (hd0 : Rows (Hd 0).d n d0) (hd1 : Rows (Hd 1).d n d1)
    (hu0 : ∀ (y : Fin 256) (x : Fin 64), u0 (ix3 0 y x) = (((Hd 0).o (n + y) x : ℝ) : EReal)) (hu1 : ∀ (y : Fin 256) (x : Fin 64), u1 (ix3 0 y x) = (((Hd 1).o (n + y) x : ℝ) : EReal)) :
    Ops Hd n (k0_pay8 q0) (k0_pay9 q1) (k0_pay10 d0) (k0_pay11 d1) (k0_pay12 d0 u0) (k0_pay13 d1 u1) :=
  { q0 := scaled_eq q0 (fun r x => (Hd 0).q (n + r) x) hq0
    q1 := scaled_eq q1 (fun r x => (Hd 1).q (n + r) x) hq1
    d0 := rows_eq d0 (fun r x => (Hd 0).d (n + r) x) hd0
    d1 := rows_eq d1 (fun r x => (Hd 1).d (n + r) x) hd1
    g0 := gtot_eq (Hd 0) n d0 u0 hd0 hu0
    g1 := gtot_eq (Hd 1) n d1 u1 hd1 hu1 }

theorem acc_old {G : Head → ℕ → ℕ → ℕ → ℝ} {Hd : Fin 2 → Head} {n : ℕ} {X : Vec Ideal S2x2048x64 .f32} (h : AccB G Hd n X) (hh : Fin 2) (y : Fin 2048) (x : Fin 64) (hy : y.val < n + 256)
    (hout : y.val < n ∨ n + 256 ≤ y.val) : X (ix3 hh y x) = ((G (Hd hh) (if y.val < n then n else n + 256) y x : ℝ) : EReal) := by
  have hlt : y.val < n := by omega
  rw [if_pos hlt]; exact h hh y x hlt

set_option maxHeartbeats 4000000 in
set_option warn.classDefReducibility false in
/-- Between the trips of the outer loop the inputs are held as they are, and the rows already passed stand in the output and the two accumulators. -/
@[sl_loop] def loopInv (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .f32) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S2x2048x64 .f32) (harg10 : arg10.IsWhole) (arg11 : Memref sig .tc .vmem S2x2048x64 .f32) (harg11 : arg11.IsWhole)
    (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (Hd : Fin 2 → Head) (hi : Ins Hd (arg2.view.read (Elt Ideal) f2) (arg3.view.read (Elt Ideal) f3) (arg4.view.read (Elt Ideal) f4) (arg5.view.read (Elt Ideal) f5) (arg6.view.read (Elt Ideal) f6)) :
    LoopInvTy_k0_t1 (F := Ideal) Unit ℕ (UR sig nD τ) ℕ 𝒱₀ c none Set.univ i arg2 harg2 arg3 harg3 arg4 harg4 arg5 harg5 arg6 harg6 arg7 harg7 arg8 harg8 arg9 harg9 arg10 harg10 arg11 harg11 where
  inv k _ := iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ f : Buf (Elt Ideal) (arg7.view.loc (c : Thread nD τ)), ⌜OutB Hd (k * 256) (arg7.view.read (Elt Ideal) f)⌝ ∗ arg7.view.loc (c : Thread nD τ) ↦[arg7.view.set]{fullShare} f) ∗ (∃ f : Buf (Elt Ideal) (arg10.view.loc (c : Thread nD τ)), ⌜AccB Head.dk Hd (k * 256) (arg10.view.read (Elt Ideal) f)⌝ ∗ arg10.view.loc (c : Thread nD τ) ↦[arg10.view.set]{fullShare} f) ∗ (∃ f : Buf (Elt Ideal) (arg11.view.loc (c : Thread nD τ)), ⌜AccB Head.dv Hd (k * 256) (arg11.view.read (Elt Ideal) f)⌝ ∗ arg11.view.loc (c : Thread nD τ) ↦[arg11.view.set]{fullShare} f))
  step k _ := by
    unfold k0_t1_body
    simp only [k0_part5_eq_skeleton]; unfold k0_part5_skel
    simp only [k0_part1_eq_skeleton, k0_part2_eq_skeleton, k0_part3_eq_skeleton, k0_part4_eq_skeleton]
    unfold k0_part1_skel k0_part2_skel k0_part3_skel k0_part4_skel
    simp only [Prog.lift, Prog.bind_op, Prog.bind_ret, Prog.pure_eq_ret]
    iintro ⟨H2, H3, H4, H5, H6, ⟨%f7, %h7, H7⟩, ⟨%f10, %h10, H10⟩, ⟨%f11, %h11, H11⟩⟩
    obtain ⟨h2, h3, h4, h5, h6⟩ := hi
    have hk8 : k.val < 8 := lt_of_lt_of_eq k.isLt (by decide)
    have hn : k.val * 256 + 256 ≤ 2048 := by omega
    have o1 := (closedOff1 k).2
    have o2 := (closedOff2 k).2
    have o3 := (closedOff3 k).2
    have o4 := (closedOff4 k).2
    have o5 := (closedOff5 k).2
    have o6 := (closedOff6 k).2
    have hk0 := rows_of arg3.view f3 (inb_rows o3 (by omega) (by omega)) 0 (by omega) o3 _ h3
    have hk1 := rows_of arg3.view f3 (inb_rows o4 (by omega) (by omega)) 1 (by omega) o4 _ h3
    have hv0 := rows_of arg4.view f4 (inb_rows o3 (by omega) (by omega)) 0 (by omega) o3 _ h4
    have hv1 := rows_of arg4.view f4 (inb_rows o4 (by omega) (by omega)) 1 (by omega) o4 _ h4
    have hq0 := rows_of arg2.view f2 (inb_rows o1 (by omega) (by omega)) 0 (by omega) o1 _ h2
    have hq1 := rows_of arg2.view f2 (inb_rows o2 (by omega) (by omega)) 1 (by omega) o2 _ h2
    have hd0 := rows_of arg5.view f5 (inb_rows o1 (by omega) (by omega)) 0 (by omega) o1 _ h5
    have hd1 := rows_of arg5.view f5 (inb_rows o2 (by omega) (by omega)) 1 (by omega) o2 _ h5
    have ho0 := rows32_of arg6.view f6 (inb_rows o1 (by omega) (by omega)) 0 (by omega) o1 _ h6
    have ho1 := rows32_of arg6.view f6 (inb_rows o2 (by omega) (by omega)) 1 (by omega) o2 _ h6
    have ho := ops_of hq0 hq1 hd0 hd1 ho0 ho1
    have hca := carry_diag hn ho hk0 hk1 hv0 hv1
    have hdk := acc_write Head.dk Hd arg10.view f10 hn le_rfl (inb_acc o5 (by omega) (by omega)) (inb_acc o6 (by omega) (by omega)) o5 o6 _ _
      (dk0_diag hn ho hk0 hk1 hv0 hv1) (dk1_diag hn ho hk0 hk1 hv0 hv1) (acc_old h10)
    have hdv := acc_write Head.dv Hd arg11.view f11 hn le_rfl (inb_acc o5 (by omega) (by omega)) (inb_acc o6 (by omega) (by omega)) o5 o6 _ _
      (dv0_diag hn ho hk0 hk1 hv0 hv1) (dv1_diag hn ho hk0 hk1 hv0 hv1) (acc_old h11)
    sl_exec
    iapply (wp_call 𝒱₀ (c : Thread nD τ) none Set.univ k.val (fun u hu => nomatch hu))
    have hal := fun a b e => alive54 a b e _ _ (hca.cr0 0)
    rw [alive_word _ (hal _ _ _)]
    have hw := while_wp c i k arg3 harg3 arg4 harg4 arg10 harg10 arg11 harg11 _ _ _ _ _ _ f3 f4 Hd h3 h4 ho k.val 0 (k.val * 256) (by omega) rfl _ _ _ _ _ _ _ _ hca hdk hdv
    iapply hw
    isplitl [H3]; · iexact H3
    isplitl [H4]; · iexact H4
    isplitl [H10]; · iexact H10
    isplitl [H11]; · iexact H11
    iintro %r %f10' %f11' ⟨%hr, H3, H4, H10, H11⟩
    obtain ⟨r0, r1, r2, r3, r4, r5, r6, r7⟩ := r
    obtain ⟨hr0, hr1, hr2, hr3⟩ := hr
    have h7' := out_write Hd arg7.view f7 hn (inb_rows o1 (by omega) (by omega)) (inb_rows o2 (by omega) (by omega)) o1 o2 _ _
      (final_eq (Hd 0) (k.val * 256) r2 hr0) (final_eq (Hd 1) (k.val * 256) r5 hr1) h7
    sl_exec
    rw [wp_ret]; imodintro
    rw [show (k.val + 1) * 256 = k.val * 256 + 256 by omega]
    isplitl [H2]; · iexact H2
    isplitl [H3]; · iexact H3
    isplitl [H4]; · iexact H4
    isplitl [H5]; · iexact H5
    isplitl [H6]; · iexact H6
    isplitl [H7]
    · iexists _; isplitr
      · ipureintro; exact h7'
      iexact H7
    isplitl [H10]
    · iexists _; isplitr
      · ipureintro; exact hr2.done
      iexact H10
    iexists _; isplitr
    · ipureintro; exact hr3.done
    iexact H11

end Cert.SbIdeal.Run

end
-- ==== Proof.Parts.SbKernel.lean ====
module

public import proofs.«01_k».proof.Proof.Parts.SbRun

/-! The kernel's body by values: the blocks of the three gradients it leaves. -/

@[expose] public section

set_option maxRecDepth 16384

noncomputable section

namespace Cert.SbIdeal.Kernel

open Cert.SbIdeal.Walk Cert.SbIdeal.Run
open Cert.SbIdeal Cert.SbIdeal.Gen Cert.SbIdeal.Body Cert.SbIdeal.Step Cert.SbIdeal.Mem Cert.SbMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A store of one head's gradient: the accumulator's rows as they stand. -/
theorem sums_at (G : Head → ℕ → ℕ → ℕ → ℝ) (Hd : Fin 2 → Head) {κ' : Kind} {sp : Space} (v : View sig κ' sp S2x2048x64 .f32) (f : v.ty.Contents (Elt Ideal)) (h : Fin 2) {off : Fin 3 → ℕ}
    (inb : ∀ a, off a + (![1, 2048, 64] : Fin 3 → ℕ) a ≤ S2x2048x64.size a) (ho : off = ![h.val, 0, 0]) (hacc : AccB G Hd 2048 (v.read (Elt Ideal) f)) (y : Fin 2048) (x : Fin 64) :
    k0_pay59 (v.readAt (Elt Ideal) (Rect.unit (s := S2x2048x64) off ![1, 2048, 64] inb).toLoadRect f : Vec Ideal S1x2048x64 .f32) (ix3 0 y x) = ((G (Hd h) 2048 y x : ℝ) : EReal) := by
  have e : k0_pay59 (v.readAt (Elt Ideal) (Rect.unit (s := S2x2048x64) off ![1, 2048, 64] inb).toLoadRect f : Vec Ideal S1x2048x64 .f32) (ix3 0 y x)
      = (v.readAt (Elt Ideal) (Rect.unit (s := S2x2048x64) off ![1, 2048, 64] inb).toLoadRect f : Vec Ideal S1x2048x64 .f32) (ix3 0 y x) := by
    pointwise [k0_pay59]
  rw [e, ← hacc h y x y.isLt]
  subst ho
  refine congrArg (v.read (Elt Ideal) f) (funext fun a => Fin.ext ?_)
  fin_cases a
  · show h.val + 1 * 0 = h.val; omega
  · show 0 + 1 * y.val = y.val; omega
  · show 0 + 1 * x.val = x.val; omega

/-- The two heads' stores fill the block. -/
theorem pair_write (g : Fin 2 → ℕ → ℕ → ℝ) {κ' : Kind} {sp : Space} (v : View sig κ' sp S1x2048x128 .bf16) (f : v.ty.Contents (Elt Ideal)) {off0 off1 : Fin 3 → ℕ}
    (inb0 : ∀ a, off0 a + (![1, 2048, 64] : Fin 3 → ℕ) a ≤ S1x2048x128.size a) (inb1 : ∀ a, off1 a + (![1, 2048, 64] : Fin 3 → ℕ) a ≤ S1x2048x128.size a)
    (h0 : off0 = ![0, 0, 0]) (h1 : off1 = ![0, 0, 64]) (w0 w1 : Vec Ideal S1x2048x64 .bf16)
    (hw0 : ∀ (y : Fin 2048) (x : Fin 64), w0 (ix3 0 y x) = ((g 0 y x : ℝ) : EReal)) (hw1 : ∀ (y : Fin 2048) (x : Fin 64), w1 (ix3 0 y x) = ((g 1 y x : ℝ) : EReal)) :
    InB (e := .bf16) g (v.read (Elt Ideal) (v.writes (Elt Ideal) f
      [(⟨Rect.unit off1 ![1, 2048, 64] inb1, w1⟩ : View.Piece (Elt Ideal) S1x2048x128 .bf16), (⟨Rect.unit off0 ![1, 2048, 64] inb0, w0⟩ : View.Piece (Elt Ideal) S1x2048x128 .bf16)])) := by
  intro h y x
  fin_cases h
  · refine (View.read_writes_cons_unit_of_not_mem v f inb1 w1 _ (ix3 0 y (lane 0 x)) h1 2 (Or.inl ?_)).trans ?_
    · show 64 * 0 + x.val < 64; omega
    refine (View.read_writes_cons_unit_of_mem v f inb0 w0 _ (ix3 0 y (lane 0 x)) (ix3 0 y x) h0 fun a => ?_).trans (hw0 y x)
    fin_cases a
    · rfl
    · show y.val = 0 + y.val; omega
    · rfl
  · refine (View.read_writes_cons_unit_of_mem v f inb1 w1 _ (ix3 0 y (lane 1 x)) (ix3 0 y x) h1 fun a => ?_).trans (hw1 y x)
    fin_cases a
    · rfl
    · show y.val = 0 + y.val; omega
    · rfl

/-- A buffer held at contents owns the memref at what they read as. -/
theorem held_as (c : Dev nD) {s : Shape} {e : EltTy} (arg : Memref sig .tc .vmem s e) {f : Buf (Elt Ideal) (arg.view.loc (c : Thread nD τ))} :
    (arg.view.loc (c : Thread nD τ) ↦[arg.view.set]{fullShare} f : sProp (MT nD τ sig Unit (Elt Ideal) ℕ (UR sig nD τ) ℕ)) ⊢ iprop(∃ g : Buf (Elt Ideal) (arg.view.loc (c : Thread nD τ)), ⌜arg.view.read (Elt Ideal) g = arg.view.read (Elt Ideal) f⌝ ∗ arg.view.loc (c : Thread nD τ) ↦[arg.view.set]{fullShare} g) := by
  iintro H
  iexists f; isplitr
  · ipureintro; rfl
  iexact H

set_option maxHeartbeats 4000000 in
/-- The body on whole buffers: the inputs stay, the outputs and the accumulators end at some contents. -/
theorem sound_kernel (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .f32) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S2x2048x64 .f32) (harg10 : arg10.IsWhole) (arg11 : Memref sig .tc .vmem S2x2048x64 .f32) (harg11 : arg11.IsWhole) (X2 : Vec Ideal S1x2048x128 .bf16) (X3 : Vec Ideal S1x2048x128 .bf16) (X4 : Vec Ideal S1x2048x128 .bf16) (X5 : Vec Ideal S1x2048x128 .bf16) (X6 : Vec Ideal S1x2048x128 .f32) (Hd : Fin 2 → Head) (hi : Ins Hd X2 X3 X4 X5 X6) (K : PUnit → sProp (MT nD τ sig Unit (Elt Ideal) ℕ (UR sig nD τ) ℕ)) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X)
      ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ X, ⌜OutB Hd 2048 X⌝ ∗ owns (c : Thread nD τ) arg7 fullShare X) ∗ (∃ X, ⌜InB (e := .bf16) (fun h => (Hd h).dk 2048) X⌝ ∗ owns (c : Thread nD τ) arg8 fullShare X) ∗ (∃ X, ⌜InB (e := .bf16) (fun h => (Hd h).dv 2048) X⌝ ∗ owns (c : Thread nD τ) arg9 fullShare X) ∗ (∃ X, owns (c : Thread nD τ) arg10 fullShare X) ∗ (∃ X, owns (c : Thread nD τ) arg11 fullShare X)) -∗ K ⟨⟩))
      ⊢ wp frame (wpE (defs₀ (F := Ideal)) 𝒱₀ (c : Thread nD τ) none) Set.univ (cc0_sb_bwd (F := Ideal) i arg2 harg2 arg3 harg3 arg4 harg4 arg5 harg5 arg6 harg6 arg7 harg7 arg8 harg8 arg9 harg9 arg10 harg10 arg11 harg11) K := by
  simp only [cc0_sb_bwd_eq_skeleton]; unfold cc0_sb_bwd_skel
  simp only [k0_part6_eq_skeleton]; unfold k0_part6_skel
  simp only [Prog.lift, bind_assoc, Prog.bind_op, Prog.bind_ret, Prog.pure_eq_ret]
  unfold owns
  iintro ⟨⟨%f2, %e2, H2⟩, ⟨%f3, %e3, H3⟩, ⟨%f4, %e4, H4⟩, ⟨%f5, %e5, H5⟩, ⟨%f6, %e6, H6⟩, ⟨%X7, %f7, -, H7⟩, ⟨%X8, %f8, -, H8⟩, ⟨%X9, %f9, -, H9⟩, ⟨%X10, %f10, -, H10⟩, ⟨%X11, %f11, -, H11⟩, HK⟩
  subst e2 e3 e4 e5 e6
  have h7 : OutB Hd (0 * 256) (arg7.view.read (Elt Ideal) f7) := fun h y x hy => absurd hy (by omega)
  have h10 : AccB Head.dk Hd (0 * 256) (arg10.view.read (Elt Ideal) f10) := fun h y x hy => absurd hy (by omega)
  have h11 : AccB Head.dv Hd (0 * 256) (arg11.view.read (Elt Ideal) f11) := fun h y x hy => absurd hy (by omega)
  sl_exec
  have e7 := hL5
  have e10 := hL7
  have e11 := hL9
  rw [show Scf.trips k0_t1_loop.lb k0_t1_loop.ub k0_t1_loop.st * 256 = 2048 by decide] at e7 e10 e11
  have h8 := pair_write (fun h => (Hd h).dk 2048) arg8.view f8 inb_S1x2048x128_S1x2048x64_0_0_0 inb_S1x2048x128_S1x2048x64_0_0_64 rfl rfl _ _
    (sums_at Head.dk Hd arg10.view fL1 0 inb_S2x2048x64_S1x2048x64_0_0_0 rfl e10) (sums_at Head.dk Hd arg10.view fL1 1 inb_S2x2048x64_S1x2048x64_1_0_0 rfl e10)
  have h9 := pair_write (fun h => (Hd h).dv 2048) arg9.view f9 inb_S1x2048x128_S1x2048x64_0_0_0 inb_S1x2048x128_S1x2048x64_0_0_64 rfl rfl _ _
    (sums_at Head.dv Hd arg11.view fL2 0 inb_S2x2048x64_S1x2048x64_0_0_0 rfl e11) (sums_at Head.dv Hd arg11.view fL2 1 inb_S2x2048x64_S1x2048x64_1_0_0 rfl e11)
  rw [wp_ret]; imodintro
  iapply HK
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  isplitl [H5]
  · iexists _; isplitr
    · ipureintro; rfl
    iexact H5
  isplitl [H6]
  · iexists _; isplitr
    · ipureintro; rfl
    iexact H6
  isplitl [H7]
  · iexists _; isplitr
    · ipureintro; exact e7
    iapply (held_as c arg7); iexact H7
  isplitl [H8]
  · iexists _; isplitr
    · ipureintro; exact h8
    iapply (held_as c arg8); iexact H8
  isplitl [H9]
  · iexists _; isplitr
    · ipureintro; exact h9
    iapply (held_as c arg9); iexact H9
  isplitl [H10]; · iapply (held_some c arg10); iexact H10
  iapply (held_some c arg11); iexact H11

end Cert.SbIdeal.Kernel

end
-- ==== Proof.Parts.SbLaunch.lean ====
module

public import proofs.«01_k».proof.Proof.Parts.SbFrame
public import proofs.«01_k».proof.Proof.Parts.SbKernel
public import Idealize.ShloMosaic.Lib.Claim
public import Idealize.ShloMosaic.Lib.Pipeline.FrameSuffix
public import Idealize.ShloMosaic.Lib.Pipeline.FrameBody

/-! The run of the region by values: at every point the three outputs' blocks stand in closed form, given what the inputs' blocks hold. -/

@[expose] public section

set_option maxRecDepth 16384

noncomputable section

namespace Cert.SbIdeal.Launch

open Cert.SbIdeal.Gen Cert.SbIdeal.Body Cert.SbIdeal.Walk Cert.SbIdeal.Run Cert.SbIdeal.Mem Cert.SbMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A block of two heads from the values it holds. -/
def blkOf (g : Fin 2 → ℕ → ℕ → ℝ) : Vec Ideal S1x2048x128 .bf16 :=
  fun i => ((g ⟨(i 2).val / 64, by have h : (i 2).val < 128 := (i 2).isLt; omega⟩ (i 1).val ((i 2).val % 64) : ℝ) : EReal)

theorem blkOf_at (g : Fin 2 → ℕ → ℕ → ℝ) (h : Fin 2) (y : Fin 2048) (x : Fin 64) : blkOf g (ix3 0 y (lane h x)) = ((g h y x : ℝ) : EReal) := by
  show ((g ⟨(64 * h.val + x.val) / 64, _⟩ y.val ((64 * h.val + x.val) % 64) : ℝ) : EReal) = _
  have e1 : (64 * h.val + x.val) % 64 = x.val := by omega
  have e2 : (⟨(64 * h.val + x.val) / 64, by omega⟩ : Fin 2) = h := Fin.ext (by show (64 * h.val + x.val) / 64 = h.val; omega)
  rw [e1, e2]

theorem eq_blkOf {g : Fin 2 → ℕ → ℕ → ℝ} {X : Vec Ideal S1x2048x128 .bf16} (h : InB (e := .bf16) g X) : X = blkOf g := by
  funext i
  have hz : (i 2).val < 128 := (i 2).isLt
  have e : i = ix3 0 (i 1) (lane ⟨(i 2).val / 64, by omega⟩ ⟨(i 2).val % 64, by omega⟩) := by
    funext a
    fin_cases a
    · exact Fin.ext (by have h0 : (i 0).val < 1 := (i 0).isLt; show (i 0).val = 0; omega)
    · rfl
    · exact Fin.ext (by show (i 2).val = 64 * ((i 2).val / 64) + (i 2).val % 64; omega)
  rw [e]
  exact (h _ _ _).trans (blkOf_at g _ _ _).symm

theorem out_in {Hd : Fin 2 → Head} {X : Vec Ideal S1x2048x128 .bf16} (h : OutB Hd 2048 X) : InB (e := .bf16) (fun h y x => (Hd h).dq y 0 x * (1 / 8)) X :=
  fun hh y x => h hh y x y.isLt

variable (m : (ℓ : Loc nD τ sig) → Buf (Elt Ideal) ℓ) (ρ : Dev nD → PrngReg) (H : Dev nD → Fin (cfg0 (F := Ideal)).N → Fin 2 → Head)
  (hins : ∀ c t, Ins (H c t) (iblk m c 0 t) (iblk m c 1 t) (iblk m c 2 t) (iblk m c 3 t) (iblk m c 4 t))

def dats (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blkOf (fun h y x => (H c t h).dq y 0 x * (1 / 8))
    | ⟨6, _⟩ => blkOf (fun h => (H c t h).dk 2048)
    | ⟨7, _⟩ => blkOf (fun h => (H c t h).dv 2048)
  Φ _ := Pipeline.ΦA spec0 c
  q w := Pipeline.shareOf spec0 w
  owed _ := 0

theorem A_eq (c : Dev nD) (w : Fin (cfg0 (F := Ideal)).W) : (dats m H 0 c).A w = V m c (Pipeline.arrRef spec0 w) := by
  dsimp only [dats]

theorem after0_0 (c : Dev nD) (t : Fin (cfg0 (F := Ideal)).N) : (dats m H 0 c).after 0 t = iblk m c 0 t := rfl
theorem after0_1 (c : Dev nD) (t : Fin (cfg0 (F := Ideal)).N) : (dats m H 0 c).after 1 t = iblk m c 1 t := rfl
theorem after0_2 (c : Dev nD) (t : Fin (cfg0 (F := Ideal)).N) : (dats m H 0 c).after 2 t = iblk m c 2 t := rfl
theorem after0_3 (c : Dev nD) (t : Fin (cfg0 (F := Ideal)).N) : (dats m H 0 c).after 3 t = iblk m c 3 t := rfl
theorem after0_4 (c : Dev nD) (t : Fin (cfg0 (F := Ideal)).N) : (dats m H 0 c).after 4 t = iblk m c 4 t := rfl
theorem after0_5 (c : Dev nD) (t : Fin (cfg0 (F := Ideal)).N) : (dats m H 0 c).after 5 t = blkOf (fun h y x => (H c t h).dq y 0 x * (1 / 8)) := rfl
theorem after0_6 (c : Dev nD) (t : Fin (cfg0 (F := Ideal)).N) : (dats m H 0 c).after 6 t = blkOf (fun h => (H c t h).dk 2048) := rfl
theorem after0_7 (c : Dev nD) (t : Fin (cfg0 (F := Ideal)).N) : (dats m H 0 c).after 7 t = blkOf (fun h => (H c t h).dv 2048) := rfl
theorem before0_0 (c : Dev nD) (t : Fin (cfg0 (F := Ideal)).N) (d) : (dats m H 0 c).before 0 t d = iblk m c 0 t :=
  before0_0_of m (dats m H 0 c) (A_eq m H c 0) (after0_0 m H c) t d
theorem before0_1 (c : Dev nD) (t : Fin (cfg0 (F := Ideal)).N) (d) : (dats m H 0 c).before 1 t d = iblk m c 1 t :=
  before0_1_of m (dats m H 0 c) (A_eq m H c 1) (after0_1 m H c) t d
theorem before0_2 (c : Dev nD) (t : Fin (cfg0 (F := Ideal)).N) (d) : (dats m H 0 c).before 2 t d = iblk m c 2 t :=
  before0_2_of m (dats m H 0 c) (A_eq m H c 2) (after0_2 m H c) t d
theorem before0_3 (c : Dev nD) (t : Fin (cfg0 (F := Ideal)).N) (d) : (dats m H 0 c).before 3 t d = iblk m c 3 t :=
  before0_3_of m (dats m H 0 c) (A_eq m H c 3) (after0_3 m H c) t d
theorem before0_4 (c : Dev nD) (t : Fin (cfg0 (F := Ideal)).N) (d) : (dats m H 0 c).before 4 t d = iblk m c 4 t :=
  before0_4_of m (dats m H 0 c) (A_eq m H c 4) (after0_4 m H c) t d

/-- What the body is called with at a point, -/
def bodyPre (c : Dev nD) (t : Fin (cfg0 (F := Ideal)).N) : sProp (MT nD τ sig Unit (Elt Ideal) ℕ (UR sig nD τ) ℕ) :=
  iprop((dats m H 0 c).Φ t.castSucc ∗ (dats m H 0 c).owesAt () t.castSucc
    ∗ (∃ d, owns (c : Thread nD τ) (st0_0 t) fullShare ((dats m H 0 c).before 0 t d))
    ∗ (∃ d, owns (c : Thread nD τ) (st0_1 t) fullShare ((dats m H 0 c).before 1 t d))
    ∗ (∃ d, owns (c : Thread nD τ) (st0_2 t) fullShare ((dats m H 0 c).before 2 t d))
    ∗ (∃ d, owns (c : Thread nD τ) (st0_3 t) fullShare ((dats m H 0 c).before 3 t d))
    ∗ (∃ d, owns (c : Thread nD τ) (st0_4 t) fullShare ((dats m H 0 c).before 4 t d))
    ∗ (∃ d, owns (c : Thread nD τ) (st0_5 t) fullShare ((dats m H 0 c).before 5 t d))
    ∗ (∃ d, owns (c : Thread nD τ) (st0_6 t) fullShare ((dats m H 0 c).before 6 t d))
    ∗ (∃ d, owns (c : Thread nD τ) (st0_7 t) fullShare ((dats m H 0 c).before 7 t d)))

/-- and what it returns. -/
def bodyPost (c : Dev nD) (t : Fin (cfg0 (F := Ideal)).N) : sProp (MT nD τ sig Unit (Elt Ideal) ℕ (UR sig nD τ) ℕ) :=
  iprop((dats m H 0 c).Φ t.succ ∗ (dats m H 0 c).owesAt () t.succ
    ∗ owns (c : Thread nD τ) (st0_0 t) fullShare ((dats m H 0 c).after 0 t)
    ∗ owns (c : Thread nD τ) (st0_1 t) fullShare ((dats m H 0 c).after 1 t)
    ∗ owns (c : Thread nD τ) (st0_2 t) fullShare ((dats m H 0 c).after 2 t)
    ∗ owns (c : Thread nD τ) (st0_3 t) fullShare ((dats m H 0 c).after 3 t)
    ∗ owns (c : Thread nD τ) (st0_4 t) fullShare ((dats m H 0 c).after 4 t)
    ∗ owns (c : Thread nD τ) (st0_5 t) fullShare ((dats m H 0 c).after 5 t)
    ∗ owns (c : Thread nD τ) (st0_6 t) fullShare ((dats m H 0 c).after 6 t)
    ∗ owns (c : Thread nD τ) (st0_7 t) fullShare ((dats m H 0 c).after 7 t))

set_option maxHeartbeats 2400000 in
include hins in
theorem sound_body (c : Dev nD) (t : Fin (cfg0 (F := Ideal)).N) :
    bodyPre m H c t ⊢ wp frame (wpE (defs₀ (F := Ideal)) 𝒱₀ (c : Thread nD τ) none) Set.univ (bodyAt0 t) (fun _ => bodyPost m H c t) := by
  unfold bodyPre bodyPost bodyAt0
  simp only [before0_0, before0_1, before0_2, before0_3, before0_4]
  rw [show (dats m H 0 c).Φ t.succ = (dats m H 0 c).Φ t.castSucc from rfl,
    show (dats m H 0 c).owesAt () t.succ = (dats m H 0 c).owesAt () t.castSucc from rfl,
    show (dats m H 0 c).Φ t.castSucc = Pipeline.ΦA spec0 c from rfl,
    after0_0, after0_1, after0_2, after0_3, after0_4, after0_5, after0_6, after0_7]
  unfold Pipeline.ΦA
  rw [scopedRest0_eq]
  iintro ⟨⟨⟨⟨%f10, H10⟩, ⟨%f11, H11⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (Kernel.sound_kernel c (grid0.coords t) _ _ _ _ _ _ _ _ _ _ _ _ _ _ _ _ _ _ _ _ (iblk m c 0 t) (iblk m c 1 t) (iblk m c 2 t) (iblk m c 3 t) (iblk m c 4 t) (H c t) (hins c t))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H10]; · iexists f10; rw [owns_whole]; iexact H10
  isplitl [H11]; · iexists f11; rw [owns_whole]; iexact H11
  iintro ⟨H0, H1, H2, H3, H4, ⟨%X5, %e5, H5⟩, ⟨%X6, %e6, H6⟩, ⟨%X7, %e7, H7⟩, ⟨%X10, H10⟩, ⟨%X11, H11⟩⟩
  obtain rfl := eq_blkOf (out_in e5)
  obtain rfl := eq_blkOf e6
  obtain rfl := eq_blkOf e7
  isplitl [H10 H11 Hr]
  · isplitl [H10 H11]
    · isplitl [H10]; · iexists X10; iapply (scratch_held c cc0_scratch0 X10); iexact H10
      iexists X11; iapply (scratch_held c cc0_scratch1 X11); iexact H11
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

include hins in
theorem body_obligation (c : Dev nD) : BodyObligation (dats m H 0 c) (defs₀ (F := Ideal)) 𝒱₀ () Set.univ := fun t => by
  rw [bigSep_W0, bigSep_W0, defs₀_row]
  exact triple_restated (sound_body m H hins c t) rfl .rfl fun _ => .rfl

include hins in
set_option backward.isDefEq.respectTransparency.types false in
theorem run_main_quiescent : θ_run defs (onTc (τ := τ) (main (F := Ideal))) (s₀ m ρ) (fun r => (Pipeline.FramePost cfgs (dats m H) 0 (V m)) r ∧ r.2.sem = fun _ => 0) :=
  Pipeline.θ_run_frame_shared (Q' := _) cfgs (dats m H) (0 : Fin 1) launch₀0 defs₀ 𝒱₀ m ρ main
    (hbody := fun c => (body_obligation m H hins c).loose) (hq := fun _ _ _ => rfl)
    (howed := fun _ _ => rfl) (V := V m) (hmain := hmain m 𝒱₀) (hA := A_eq m H) (hΦ := fun _ _ => rfl)

include hins in
theorem run_main : θ_run defs (onTc (τ := τ) (main (F := Ideal))) (s₀ m ρ) (Pipeline.FramePost cfgs (dats m H) 0 (V m)) :=
  (θ_run defs _ _).mono (fun _ h => h.1) (run_main_quiescent m ρ H hins)

end Cert.SbIdeal.Launch

end
-- ==== Proof.Parts.RunSum.lean ====
module

public import proofs.«01_k».proof.Proof.Parts.NormMath
public import proofs.«01_k».proof.Proof.Parts.SbMath
public import Idealize.ShloMosaic.Lib.Pointwise

/-! The two cumulative sums of a row as window sums: from a position on, and up to a position. -/

@[expose] public section

set_option maxRecDepth 16384

noncomputable section

open Idealize.ShloMosaic

namespace Cert.RunSum

open Cert.SbMath Finset

abbrev Arr : Shape := ⟨4, ![4, 8, 2048, 2048]⟩
abbrev Win : Shape := ⟨4, ![1, 1, 1, 2048]⟩

theorem foldl_add {α : Type} (F : α → EReal) (l : List α) (v : EReal) : l.foldl (fun r n => r + F n) v = v + (l.map F).sum := by
  induction l generalizing v with
  | nil => simp
  | cons a l ih => rw [List.foldl_cons, ih, List.map_cons, List.sum_cons, add_assoc]

theorem sum_win (G : Win.Idx → EReal) : ∑ w, G w = ∑ k : Fin 2048, G (ix4 0 0 0 k) := by
  symm
  refine Fintype.sum_bijective (fun k : Fin 2048 => (ix4 0 0 0 k : Win.Idx)) ⟨fun a b h => congrFun h 3, fun w => ⟨w 3, ?_⟩⟩ _ _ fun _ => rfl
  funext a
  fin_cases a
  · exact Subsingleton.elim (α := Fin 1) _ _
  · exact Subsingleton.elim (α := Fin 1) _ _
  · exact Subsingleton.elim (α := Fin 1) _ _
  · rfl

/-- A window sum along the last axis over a row of reals, padded `l` low with zeros. -/
theorem window {u : Shape} (l r : ℕ) (x : FVec Ideal Arr .f32) (init : u.Idx → EReal) (h : Arr.ReduceWindows (![1, 1, 1, 2048] : Fin 4 → ℕ) ![1, 1, 1, 1] ![0, 0, 0, l] ![0, 0, 0, r] Arr) (hu : 0 < u.numel)
    (hi : ∀ i, init i = 0) (b : Fin 4) (n : Fin 8) (i : Fin 2048) (f : ℕ → ℝ) (hf : ∀ c : Fin 2048, x (ix4 b n i c) = ((f c : ℝ) : EReal)) (j : Fin 2048) :
    Host.reduceWindowAdd (F := Ideal) ![1, 1, 1, 2048] ![1, 1, 1, 1] ![0, 0, 0, l] ![0, 0, 0, r] x init h hu (ix4 b n i j)
      = ((∑ k : Fin 2048, if l ≤ j.val + k.val ∧ j.val + k.val - l < 2048 then f (j + k - l) else 0 : ℝ) : EReal) := by
  unfold Host.reduceWindowAdd
  rw [hi, Ideal.hostReduceWindowAdd_def]
  unfold Ideal.hostReduceWindowAdd Host.reduceWindow
  rw [foldl_add, zero_add, ← Fin.sum_univ_def]
  refine (Fintype.sum_equiv Win.rowMajor.symm _ (fun w : Win.Idx => ((if l ≤ j.val + (w 3).val ∧ j.val + (w 3).val - l < 2048 then f (j.val + (w 3).val - l) else 0 : ℝ) : EReal)) fun p => ?_).trans ((sum_win _).trans (NormRow.coe_sum _))
  have e0 : (Win.rowMajor.symm p 0).val = 0 := Nat.lt_one_iff.1 (Win.rowMajor.symm p 0).isLt
  have e1 : (Win.rowMajor.symm p 1).val = 0 := Nat.lt_one_iff.1 (Win.rowMajor.symm p 1).isLt
  have e2 : (Win.rowMajor.symm p 2).val = 0 := Nat.lt_one_iff.1 (Win.rowMajor.symm p 2).isLt
  by_cases hk : l ≤ j.val + (Win.rowMajor.symm p 3).val ∧ j.val + (Win.rowMajor.symm p 3).val - l < 2048
  · rw [if_pos hk]; refine (dif_pos ?_).trans ?_; swap
    · rw [← hf ⟨_, hk.2⟩]
      congr 1
      funext a
      fin_cases a
      · exact Fin.ext (by show b.val * 1 + (Win.rowMajor.symm p 0).val - 0 = b.val; omega)
      · exact Fin.ext (by show n.val * 1 + (Win.rowMajor.symm p 1).val - 0 = n.val; omega)
      · exact Fin.ext (by show i.val * 1 + (Win.rowMajor.symm p 2).val - 0 = i.val; omega)
      · exact Fin.ext (by show j.val * 1 + (Win.rowMajor.symm p 3).val - l = j.val + (Win.rowMajor.symm p 3).val - l; omega)
    · intro a
      fin_cases a
      · show 0 ≤ b.val * 1 + (Win.rowMajor.symm p 0).val ∧ b.val * 1 + (Win.rowMajor.symm p 0).val - 0 < 4; omega
      · show 0 ≤ n.val * 1 + (Win.rowMajor.symm p 1).val ∧ n.val * 1 + (Win.rowMajor.symm p 1).val - 0 < 8; omega
      · show 0 ≤ i.val * 1 + (Win.rowMajor.symm p 2).val ∧ i.val * 1 + (Win.rowMajor.symm p 2).val - 0 < 2048; omega
      · show l ≤ j.val * 1 + (Win.rowMajor.symm p 3).val ∧ j.val * 1 + (Win.rowMajor.symm p 3).val - l < 2048; omega
  · rw [if_neg hk, EReal.coe_zero]; refine dif_neg ?_
    intro hin
    refine hk ?_
    have h3 := hin 3
    change l ≤ j.val * 1 + (Win.rowMajor.symm p 3).val ∧ j.val * 1 + (Win.rowMajor.symm p 3).val - l < 2048 at h3
    omega

theorem sum_from (f : ℕ → ℝ) (j : Fin 2048) : (∑ k : Fin 2048, if 0 ≤ j.val + k.val ∧ j.val + k.val - 0 < 2048 then f (j + k - 0) else 0) = tail f j := by
  rw [tail, Fin.sum_univ_eq_sum_range (fun k => if 0 ≤ j.val + k ∧ j.val + k - 0 < 2048 then f (j + k - 0) else 0), ← sum_filter]
  refine sum_bij (fun k _ => j.val + k) (fun k hk => ?_) (fun a _ b _ e => ?_) (fun c hc => ?_) fun _ _ => rfl
  · rw [mem_filter, mem_range] at hk; rw [mem_Ico]; omega
  · omega
  · rw [mem_Ico] at hc
    exact ⟨c - j, by rw [mem_filter, mem_range]; omega, by omega⟩

theorem sum_upto (f : ℕ → ℝ) (j : Fin 2048) : (∑ k : Fin 2048, if 2047 ≤ j.val + k.val ∧ j.val + k.val - 2047 < 2048 then f (j + k - 2047) else 0) = ∑ c ∈ range (j + 1), f c := by
  rw [Fin.sum_univ_eq_sum_range (fun k => if 2047 ≤ j.val + k ∧ j.val + k - 2047 < 2048 then f (j + k - 2047) else 0), ← sum_filter]
  refine sum_bij (fun k _ => j.val + k - 2047) (fun k hk => ?_) (fun a ha b hb e => ?_) (fun c hc => ?_) fun _ _ => rfl
  · rw [mem_filter, mem_range] at hk; rw [mem_range]; omega
  · rw [mem_filter, mem_range] at ha hb; omega
  · rw [mem_range] at hc
    exact ⟨c + 2047 - j, by rw [mem_filter, mem_range]; omega, by omega⟩

end Cert.RunSum

end
-- ==== Proof.Parts.SbRef.lean ====
module

public import proofs.«01_k».proof.Proof.Gen.SbRefIdeal.Read
public import proofs.«01_k».proof.Proof.Parts.SbStep
public import proofs.«01_k».proof.Proof.Parts.RunSum

/-! The reference's stick-breaking gradients on arrays of reals, head by head. -/

@[expose] public section

set_option maxRecDepth 16384

noncomputable section

open Idealize.ShloMosaic

namespace Cert.SbRef

open Cert.SbRefIdeal Cert.SbRefIdeal.Read Cert.SbMath Cert.SbIdeal.Step Finset

/-- An array of three axes at natural numbers, zero outside. -/
def at3 {A B C : ℕ} (P : (⟨3, ![A, B, C]⟩ : Shape).Idx → ℝ) (b i c : ℕ) : ℝ :=
  if h : b < A ∧ i < B ∧ c < C then P (ix3 ⟨b, h.1⟩ ⟨i, h.2.1⟩ ⟨c, h.2.2⟩) else 0

theorem at3_at {A B C : ℕ} (P : (⟨3, ![A, B, C]⟩ : Shape).Idx → ℝ) (b : Fin A) (i : Fin B) (c : Fin C) : at3 P b i c = P (ix3 b i c) :=
  dif_pos ⟨b.isLt, i.isLt, c.isLt⟩

/-- One head of the projections and of the output's cotangent. -/
def hd (P : S4x2048x6144.Idx → ℝ) (D : S4x2048x512.Idx → ℝ) (b h : ℕ) : Head where
  q i x := at3 P b i (1024 + (h * 64 + x))
  k i x := at3 P b i (1536 + (h * 64 + x))
  v i x := at3 P b i (2048 + (h * 64 + x))
  d i x := at3 D b i (h * 64 + x)

theorem log_one_add (z : ℝ) : Real.exp (lsg z) + Real.exp (lsg z - z) = 1 := by
  have h : 0 < 1 + Real.exp (0 - |z|) := by positivity
  have hl : Real.exp (lsg z) = Real.exp (min z 0) / (1 + Real.exp (0 - |z|)) := by rw [lsg, Real.exp_sub, Real.exp_log h]
  rw [Real.exp_sub, hl]
  rcases le_total 0 z with hz | hz
  · rw [abs_of_nonneg hz, min_eq_right hz, zero_sub, Real.exp_neg, Real.exp_zero]
    have := Real.exp_pos z
    rw [abs_of_nonneg hz, zero_sub, Real.exp_neg] at h
    field_simp
  · rw [abs_of_nonpos hz, min_eq_left hz, zero_sub, neg_neg]
    have := Real.exp_pos z
    field_simp
    ring

theorem inf_top : Ideal.ofBits .f32 2139095040#32 = (⊤ : EReal) := by simp [Ideal.ofBits, Ideal.ieee]
theorem zero_const (i : S_.Idx) : constant (F := Ideal) S_ .f32 0#32 i = 0 := by
  show Ideal.ofBits .f32 0#32 = 0
  simp [Ideal.ofBits, Ideal.ieee]

variable (P : S4x2048x6144.Idx → ℝ) (D : S4x2048x512.Idx → ℝ) (b : Fin 4) (h : Fin 8) (i j : Fin 2048) (y : Fin 64)

abbrev xs : S4x2048x6144.Idx → EReal := fun i => ((P i : ℝ) : EReal)
abbrev ds : S4x2048x512.Idx → EReal := fun i => ((D i : ℝ) : EReal)

theorem q_at : val_main_v4 (F := Ideal) (xs P) (ix4 b h i y) = (((hd P D b h).q i y : ℝ) : EReal) := by
  pointwise [val_main_v4, val_main_v3, val_main_v0]
  exact congrArg _ (at3_at P b i ⟨1024 + (h.val * 64 + y.val), by omega⟩).symm
theorem k_at : val_main_v6 (F := Ideal) (xs P) (ix4 b h i y) = (((hd P D b h).k i y : ℝ) : EReal) := by
  pointwise [val_main_v6, val_main_v5, val_main_v1]
  exact congrArg _ (at3_at P b i ⟨1536 + (h.val * 64 + y.val), by omega⟩).symm
theorem v_at : val_main_v8 (F := Ideal) (xs P) (ix4 b h i y) = (((hd P D b h).v i y : ℝ) : EReal) := by
  pointwise [val_main_v8, val_main_v7, val_main_v2]
  exact congrArg _ (at3_at P b i ⟨2048 + (h.val * 64 + y.val), by omega⟩).symm
theorem d_at : val_main_v31 (F := Ideal) (ds D) (ix4 b h i y) = (((hd P D b h).d i y : ℝ) : EReal) := by
  pointwise [val_main_v31, val_main_v30]
  exact congrArg _ (at3_at D b i ⟨h.val * 64 + y.val, by omega⟩).symm

theorem mask_at : val_main_v18 (F := Ideal) (ix2 i j) = BitVec.ofBool (decide (j.val < i.val)) := by
  pointwise [val_main_v18, val_main_v17, val_main_v16, val_main_v15, val_main_v14, val_main_v13, val_main_v12]
  exact WordCmp.cmpi_slt_ofNat (by omega) (by omega)

theorem z_at : val_main_v11 (F := Ideal) (xs P) (ix4 b h i j) = (((hd P D b h).z i j : ℝ) : EReal) := by
  pointwise [val_main_v11, val_main_v10, val_main_cst, val_main_v9]
  simp only [q_at P D, k_at P D, eighth, ← EReal.coe_mul, NormRow.coe_sum]
  refine congrArg _ ?_
  rw [Head.z, Finset.sum_mul]
  exact Finset.sum_congr rfl fun c _ => by ring

theorem soft_at : val_main_call0_v1_0 (F := Ideal) (xs P) (ix4 b h i j) = ((-lsg ((hd P D b h).z i j) : ℝ) : EReal) := by
  pointwise [val_main_call0_v1_0, val_main_call0_call0_v4, val_main_call0_call0_v6, val_main_call0_call0_v11, val_main_call0_call0_v1, val_main_call0_call0_v10, val_main_call0_call0_v9, val_main_call0_call0_v8, val_main_call0_call0_v7, val_main_call0_call0_v3, val_main_call0_call0_v2, val_main_call0_call0_v0, val_main_call0_call0_cst, val_main_call0_v0]
  rw [z_at P D b h i j, if_neg (not_not.2 rfl), ← EReal.coe_neg, abs_real, ← EReal.coe_neg, Ideal.exp_coe]
  have hp : ¬ (1 + Real.exp (-|-(hd P D b h).z i j|)) ≤ 0 := not_le.2 (by positivity)
  show max _ _ + Ideal.log (1 + _) = _
  rw [← EReal.coe_one, ← EReal.coe_add, Ideal.log_coe, if_neg hp, ← EReal.coe_zero, ← EReal.coe_strictMono.monotone.map_max, ← EReal.coe_add, lsg, abs_neg, zero_sub]
  refine congrArg _ ?_
  have hm : max (-(hd P D b h).z i j) 0 = -min ((hd P D b h).z i j) 0 := by rw [← max_neg_neg, neg_zero]
  rw [hm]; ring

theorem lb_at : val_main_v19_0 (F := Ideal) (xs P) (ix4 b h i j) = ((lsg ((hd P D b h).z i j) : ℝ) : EReal) := by
  pointwise [val_main_v19_0]
  rw [soft_at P D b h i j, ← EReal.coe_neg, neg_neg]

theorem rest_at : val_main_v19_1 (F := Ideal) (xs P) (ix4 b h i j) = ((1 - Real.exp (lsg ((hd P D b h).z i j)) : ℝ) : EReal) := by
  pointwise [val_main_v19_1, val_main_call0_call0_v21, val_main_call0_call0_v16, val_main_call0_call0_v14, val_main_call0_call0_v13, val_main_call0_call0_cst_0, val_main_call0_call0_v20, val_main_call0_call0_v18, val_main_call0_call0_v17, val_main_call0_call0_cst_2, val_main_call0_v0]
  rw [soft_at P D b h i j, z_at P D b h i j, inf_top, ← EReal.coe_neg, if_neg (EReal.coe_ne_top _), if_neg (EReal.coe_ne_top _), ← EReal.coe_sub, Ideal.exp_coe, ← log_one_add ((hd P D b h).z i j)]
  refine congrArg _ ?_
  rw [add_sub_cancel_left]
  exact congrArg _ (by ring)

theorem m_at : val_main_v21_0 (F := Ideal) (xs P) (ix4 b h i j) = (((hd P D b h).m i j : ℝ) : EReal) := by
  pointwise [val_main_v21_0, val_main_v21_1, val_main_v20, val_main_call1_v2, val_main_call1_v0, val_main_cst_0]
  rw [mask_at, select_ofBool, lb_at P D b h i j, z_at P D b h i j, ← EReal.coe_sub, Head.m]
  split_ifs
  · rfl
  · exact zero_const _

theorem above_at : val_main_v22 (F := Ideal) (xs P) (ix4 b h i j) = ((tail ((hd P D b h).m i) j : ℝ) : EReal) := by
  unfold val_main_v22
  refine (RunSum.window 0 2047 _ _ _ _ (fun _ => ?_) b h i _ (fun c => m_at P D b h i c) j).trans (congrArg _ (RunSum.sum_from _ j))
  pointwise [val_main_call2_v0, val_main_call2_cst]

theorem wt_at : val_main_v25 (F := Ideal) (xs P) (ix4 b h i j) = ((Real.exp (lsg ((hd P D b h).z i j) + tail ((hd P D b h).m i) (j + 1)) : ℝ) : EReal) := by
  pointwise [val_main_v25, val_main_v24, val_main_v23]
  rw [lb_at P D b h i j, m_at P D b h i j, above_at P D b h i j, ← EReal.coe_sub, ← EReal.coe_add, Ideal.exp_coe]
  rw [tail, sum_eq_sum_Ico_succ_bot j.isLt, add_sub_cancel_left]; rfl

theorem a_at : val_main_v26_0 (F := Ideal) (xs P) (ix4 b h i j) = (((hd P D b h).a i j : ℝ) : EReal) := by
  pointwise [val_main_v26_0, val_main_v26_1, val_main_call3_v2, val_main_call3_v0, val_main_cst_1]
  rw [mask_at, select_ofBool, wt_at P D b h i j, Head.a]
  split_ifs
  · rfl
  · exact zero_const _

theorem o_at : val_main_v29 (F := Ideal) (xs P) (ix3 b i ⟨h.val * 64 + y.val, by omega⟩) = (((hd P D b h).o i y : ℝ) : EReal) := by
  pointwise [val_main_v29, val_main_v28, val_main_v27]
  simp only [a_at P D, v_at P D, ← EReal.coe_mul, NormRow.coe_sum]
  refine congrArg _ ?_
  rw [Head.o, sum_range]

theorem g_at : val_main_v36 (F := Ideal) (xs P) (ds D) (ix4 b h i j) = (((hd P D b h).g i j : ℝ) : EReal) := by
  pointwise [val_main_v36, val_main_v35, val_main_v34, val_main_v26_1, val_main_call4_v0, val_main_call4_cst]
  rw [mask_at, select_ofBool, wt_at P D b h i j]
  simp only [d_at P D, v_at P D, ← EReal.coe_mul, NormRow.coe_sum]
  rw [Head.g, Head.a, Head.e]
  split_ifs
  · rw [EReal.coe_mul]
  · simp

theorem p_at : val_main_v39 (F := Ideal) (xs P) (ds D) (ix4 b h i j) = (((hd P D b h).p i j : ℝ) : EReal) := by
  have e : val_main_v38 (F := Ideal) (xs P) (ds D) (ix4 b h i j) = ((∑ c ∈ range (j.val + 1), (hd P D b h).g i c : ℝ) : EReal) := by
    unfold val_main_v38
    refine (RunSum.window 2047 0 _ _ _ _ (fun _ => ?_) b h i _ (fun c => g_at P D b h i c) j).trans (congrArg _ (RunSum.sum_upto _ j))
    pointwise [val_main_call5_v0, val_main_call5_cst]
  pointwise [val_main_v39, val_main_v37]
  rw [e, g_at P D b h i j, ← EReal.coe_neg, ← EReal.coe_add, Head.p, sum_range_succ]
  refine congrArg _ ?_
  ring

theorem w_at : val_main_v44 (F := Ideal) (xs P) (ds D) (ix4 b h i j) = (((hd P D b h).w i j : ℝ) : EReal) := by
  pointwise [val_main_v44, val_main_v43, val_main_v42, val_main_v41, val_main_v40, val_main_v21_1, val_main_call7_v1, val_main_call7_v0, val_main_call6_v0, val_main_call6_cst]
  rw [mask_at, select_ofBool, g_at P D b h i j, p_at P D b h i j, rest_at P D b h i j, Head.w]
  split_ifs with hij
  · simp only [← EReal.coe_neg, ← EReal.coe_add, ← EReal.coe_mul]
    refine congrArg _ ?_
    ring
  · have g0 : (hd P D b h).g i j = 0 := by rw [Head.g, Head.a, if_neg hij, mul_zero]
    rw [g0]; simp

theorem dq_at : val_main_v48 (F := Ideal) (xs P) (ds D) (ix4 b h i y) = (((hd P D b h).dq i 0 y * (1 / 8) : ℝ) : EReal) := by
  pointwise [val_main_v48, val_main_v46, val_main_v45, val_main_cst_2]
  simp only [w_at P D, k_at P D, eighth, ← EReal.coe_mul, NormRow.coe_sum]
  refine congrArg _ ?_
  rw [Head.dq, tail, Nat.Ico_zero_eq_range, sum_range, Finset.sum_mul]
  exact Finset.sum_congr rfl fun c _ => by ring

theorem dk_at : val_main_v47 (F := Ideal) (xs P) (ds D) (ix4 b h j y) = (((hd P D b h).dk 2048 j y : ℝ) : EReal) := by
  pointwise [val_main_v47, val_main_v46, val_main_v45, val_main_cst_2]
  simp only [w_at P D, q_at P D, eighth, ← EReal.coe_mul, NormRow.coe_sum]
  refine congrArg _ ?_
  rw [Head.dk, sum_range]
  exact Finset.sum_congr rfl fun c _ => by ring

theorem dv_at : val_main_v33 (F := Ideal) (xs P) (ds D) (ix4 b h j y) = (((hd P D b h).dv 2048 j y : ℝ) : EReal) := by
  pointwise [val_main_v33, val_main_v32]
  simp only [a_at P D, d_at P D, ← EReal.coe_mul, NormRow.coe_sum]
  refine congrArg _ ?_
  rw [Head.dv, sum_range]
  exact Finset.sum_congr rfl fun c _ => by ring

/-- The three results at a row and a head's lane. -/
theorem res_q : val_main_v55 (F := Ideal) (xs P) (ds D) (ix3 b i ⟨h.val * 64 + y.val, by omega⟩) = (((hd P D b h).dq i 0 y * (1 / 8) : ℝ) : EReal) := by
  pointwise [val_main_v55, val_main_v54, val_main_v53]
  exact dq_at P D b h i y
theorem res_k : val_main_v56 (F := Ideal) (xs P) (ds D) (ix3 b i ⟨h.val * 64 + y.val, by omega⟩) = (((hd P D b h).dk 2048 i y : ℝ) : EReal) := by
  pointwise [val_main_v56, val_main_v52, val_main_v51]
  exact dk_at P D b h i y
theorem res_v : val_main_v57 (F := Ideal) (xs P) (ds D) (ix3 b i ⟨h.val * 64 + y.val, by omega⟩) = (((hd P D b h).dv 2048 i y : ℝ) : EReal) := by
  pointwise [val_main_v57, val_main_v50, val_main_v49]
  exact dv_at P D b h i y

end Cert.SbRef

end
-- ==== Proof.Parts.SbBlocks.lean ====
module

public import proofs.«01_k».proof.Proof.Parts.SbLaunch
public import proofs.«01_k».proof.Proof.Parts.SbRef
public import Idealize.ShloMosaic.Lib.StableHlo.RunRead
public import Idealize.ShloMosaic.Lib.Pipeline.ValueKit

/-! The stick-breaking gradients' blocks on arrays of reals, and the three results. -/

@[expose] public section

set_option maxRecDepth 16384

noncomputable section

open Idealize.ShloMosaic Idealize.ShloMosaic.TcCoe Idealize.ShloMosaic.Tactic

namespace Cert.SbIdeal.Blocks

open Cert.SbIdeal Cert.SbIdeal.Gen Cert.SbIdeal.Launch Cert.SbIdeal.Mem Cert.SbIdeal.Walk Cert.SbIdeal.Run Cert.SbMath Cert.SbRef

theorem idx_val : ∀ t : Fin (cfg0 (F := Ideal)).N, win0_0.index t = ![t.val / 4, 0, 8 + t.val % 4]
    ∧ win0_1.index t = ![t.val / 4, 0, 12 + t.val % 4]
    ∧ win0_2.index t = ![t.val / 4, 0, 16 + t.val % 4]
    ∧ win0_3.index t = ![t.val / 4, 0, t.val % 4]
    ∧ win0_4.index t = ![t.val / 4, 0, t.val % 4]
    ∧ win0_5.index t = ![t.val / 4, 0, t.val % 4]
    ∧ win0_6.index t = ![t.val / 4, 0, t.val % 4]
    ∧ win0_7.index t = ![t.val / 4, 0, t.val % 4] :=
  (by decide +kernel : ∀ t : Fin grid0.N, _)

/-- The example and the first head of a grid point. -/
abbrev ex (t : Fin (cfg0 (F := Ideal)).N) : Fin 4 := ⟨t.val / 4, by have h : t.val < 16 := t.isLt; omega⟩
abbrev hh (t : Fin (cfg0 (F := Ideal)).N) (h : Fin 2) : Fin 8 := ⟨2 * (t.val % 4) + h.val, by omega⟩

variable (m : (ℓ : Loc nD τ sig) → Buf (Elt Ideal) ℓ) (c : Dev nD)

theorem V_v30 : @Eq (S4x2048x6144.Idx → EReal) (V m c main_v30) (m ((c : Thread nD τ).loc main_arg0)) := by
  unfold V V0
  simp only [hostOps0, hostOps0_1, hostOps0_2, hostOps0_3, hostOps0_4, hostOps0_5, hostOps0_6, hostOps0_7, List.flatten_cons, List.flatten_nil, List.append_nil, List.cons_append, List.nil_append]
  after_reads_simp
  rfl

theorem V_v31 : @Eq (S4x2048x512.Idx → EReal) (V m c main_v31) (m ((c : Thread nD τ).loc main_arg1)) := by
  unfold V V0
  simp only [hostOps0, hostOps0_1, hostOps0_2, hostOps0_3, hostOps0_4, hostOps0_5, hostOps0_6, hostOps0_7, List.flatten_cons, List.flatten_nil, List.append_nil, List.cons_append, List.nil_append]
  after_reads_simp
  rfl

set_option maxHeartbeats 4000000 in
theorem V_v29 : @Eq (S4x2048x512.Idx → EReal) (V m c main_v29) (Cert.SbRefIdeal.Read.val_main_v29 (F := Ideal) (m ((c : Thread nD τ).loc main_arg0))) := by
  unfold V V0
  simp only [hostOps0, hostOps0_1, hostOps0_2, hostOps0_3, hostOps0_4, hostOps0_5, hostOps0_6, hostOps0_7, List.flatten_cons, List.flatten_nil, List.append_nil, List.cons_append, List.nil_append]
  after_reads_simp
  rfl

variable (P : Dev nD → S4x2048x6144.Idx → ℝ) (D : Dev nD → S4x2048x512.Idx → ℝ)
  (hP : ∀ c : Dev nD, @Eq (S4x2048x6144.Idx → EReal) (m ((c : Thread nD τ).loc main_arg0)) (xs (P c)))
  (hD : ∀ c : Dev nD, @Eq (S4x2048x512.Idx → EReal) (m ((c : Thread nD τ).loc main_arg1)) (ds (D c)))

/-- The heads of a grid point. -/
def heads (c : Dev nD) (t : Fin (cfg0 (F := Ideal)).N) (h : Fin 2) : Head := hd (P c) (D c) (ex t) (hh t h)

variable (t : Fin (cfg0 (F := Ideal)).N) (h : Fin 2) (i : Fin 2048) (x : Fin 64)

include hP in
theorem blk0 : (show FVec Ideal S1x2048x128 .bf16 from iblk m c 0 t) (ix3 0 i (lane h x)) = (((heads P D c t h).q i x : ℝ) : EReal) := by
  refine (congrArg (V m c (Pipeline.arrRef spec0 0)) (show (((cfg0 (F := Ideal)).win 0).blk t).view.emb (ix3 0 i (lane h x)) = ix3 (ex t) i ⟨1024 + ((hh t h).val * 64 + x.val), by omega⟩ by blk_ext [idx_val t])).trans ?_
  exact ((congrFun (V_v30 m c) _).trans (congrFun (hP c) _)).trans (congrArg _ (at3_at (P c) (ex t) i ⟨1024 + ((hh t h).val * 64 + x.val), by omega⟩).symm)
include hP in
theorem blk1 : (show FVec Ideal S1x2048x128 .bf16 from iblk m c 1 t) (ix3 0 i (lane h x)) = (((heads P D c t h).k i x : ℝ) : EReal) := by
  refine (congrArg (V m c (Pipeline.arrRef spec0 1)) (show (((cfg0 (F := Ideal)).win 1).blk t).view.emb (ix3 0 i (lane h x)) = ix3 (ex t) i ⟨1536 + ((hh t h).val * 64 + x.val), by omega⟩ by blk_ext [idx_val t])).trans ?_
  exact ((congrFun (V_v30 m c) _).trans (congrFun (hP c) _)).trans (congrArg _ (at3_at (P c) (ex t) i ⟨1536 + ((hh t h).val * 64 + x.val), by omega⟩).symm)
include hP in
theorem blk2 : (show FVec Ideal S1x2048x128 .bf16 from iblk m c 2 t) (ix3 0 i (lane h x)) = (((heads P D c t h).v i x : ℝ) : EReal) := by
  refine (congrArg (V m c (Pipeline.arrRef spec0 2)) (show (((cfg0 (F := Ideal)).win 2).blk t).view.emb (ix3 0 i (lane h x)) = ix3 (ex t) i ⟨2048 + ((hh t h).val * 64 + x.val), by omega⟩ by blk_ext [idx_val t])).trans ?_
  exact ((congrFun (V_v30 m c) _).trans (congrFun (hP c) _)).trans (congrArg _ (at3_at (P c) (ex t) i ⟨2048 + ((hh t h).val * 64 + x.val), by omega⟩).symm)
include hD in
theorem blk3 : (show FVec Ideal S1x2048x128 .bf16 from iblk m c 3 t) (ix3 0 i (lane h x)) = (((heads P D c t h).d i x : ℝ) : EReal) := by
  refine (congrArg (V m c (Pipeline.arrRef spec0 3)) (show (((cfg0 (F := Ideal)).win 3).blk t).view.emb (ix3 0 i (lane h x)) = ix3 (ex t) i ⟨(hh t h).val * 64 + x.val, by omega⟩ by blk_ext [idx_val t])).trans ?_
  exact ((congrFun (V_v31 m c) _).trans (congrFun (hD c) _)).trans (congrArg _ (at3_at (D c) (ex t) i ⟨(hh t h).val * 64 + x.val, by omega⟩).symm)
include hP in
theorem blk4 : (show FVec Ideal S1x2048x128 .f32 from iblk m c 4 t) (ix3 0 i (lane h x)) = (((heads P D c t h).o i x : ℝ) : EReal) := by
  refine (congrArg (V m c (Pipeline.arrRef spec0 4)) (show (((cfg0 (F := Ideal)).win 4).blk t).view.emb (ix3 0 i (lane h x)) = ix3 (ex t) i ⟨(hh t h).val * 64 + x.val, by omega⟩ by blk_ext [idx_val t])).trans ?_
  refine (congrFun (V_v29 m c) _).trans ?_
  rw [hP c]
  exact o_at (P c) (D c) (ex t) (hh t h) i x

include hP hD in
theorem ins : Ins (heads P D c t) (iblk m c 0 t) (iblk m c 1 t) (iblk m c 2 t) (iblk m c 3 t) (iblk m c 4 t) where
  q h y x := blk0 m c P D hP t h y x
  k h y x := blk1 m c P D hP t h y x
  v h y x := blk2 m c P D hP t h y x
  d h y x := blk3 m c P D hD t h y x
  o h y x := blk4 m c P D hP t h y x

theorem col (z : Fin 128) : ∃ (h : Fin 2) (x : Fin 64), z = lane h x :=
  ⟨⟨z.val / 64, by omega⟩, ⟨z.val % 64, by omega⟩, Fin.ext (by show z.val = 64 * (z.val / 64) + z.val % 64; omega)⟩

theorem final_5 : (dats m (heads P D) 0 c).arrAt 5 (cfgs (F := Ideal) 0).N = Cert.SbRefIdeal.Read.val_main_v55 (F := Ideal) (xs (P c)) (ds (D c)) := by
  refine (dats m (heads P D) 0 c).arrAt_eq_of_covers 5 _ (by decide +kernel) fun t hf y => ?_
  blk_simp; rw [after0_5]
  idx_vars y
  obtain ⟨h, x, rfl⟩ := col y2
  rw [show (((cfg0 (F := Ideal)).win 5).blk t).view.emb (ix3 y0 y1 (lane h x)) = ix3 (ex t) y1 ⟨(hh t h).val * 64 + x.val, by omega⟩ by blk_ext [idx_val t]]
  obtain rfl : y0 = 0 := Subsingleton.elim (α := Fin 1) _ _
  exact (blkOf_at _ h y1 x).trans (res_q (P c) (D c) (ex t) (hh t h) y1 x).symm
theorem final_6 : (dats m (heads P D) 0 c).arrAt 6 (cfgs (F := Ideal) 0).N = Cert.SbRefIdeal.Read.val_main_v56 (F := Ideal) (xs (P c)) (ds (D c)) := by
  refine (dats m (heads P D) 0 c).arrAt_eq_of_covers 6 _ (by decide +kernel) fun t hf y => ?_
  blk_simp; rw [after0_6]
  idx_vars y
  obtain ⟨h, x, rfl⟩ := col y2
  rw [show (((cfg0 (F := Ideal)).win 6).blk t).view.emb (ix3 y0 y1 (lane h x)) = ix3 (ex t) y1 ⟨(hh t h).val * 64 + x.val, by omega⟩ by blk_ext [idx_val t]]
  obtain rfl : y0 = 0 := Subsingleton.elim (α := Fin 1) _ _
  exact (blkOf_at _ h y1 x).trans (res_k (P c) (D c) (ex t) (hh t h) y1 x).symm
theorem final_7 : (dats m (heads P D) 0 c).arrAt 7 (cfgs (F := Ideal) 0).N = Cert.SbRefIdeal.Read.val_main_v57 (F := Ideal) (xs (P c)) (ds (D c)) := by
  refine (dats m (heads P D) 0 c).arrAt_eq_of_covers 7 _ (by decide +kernel) fun t hf y => ?_
  blk_simp; rw [after0_7]
  idx_vars y
  obtain ⟨h, x, rfl⟩ := col y2
  rw [show (((cfg0 (F := Ideal)).win 7).blk t).view.emb (ix3 y0 y1 (lane h x)) = ix3 (ex t) y1 ⟨(hh t h).val * 64 + x.val, by omega⟩ by blk_ext [idx_val t]]
  obtain rfl : y0 = 0 := Subsingleton.elim (α := Fin 1) _ _
  exact (blkOf_at _ h y1 x).trans (res_v (P c) (D c) (ex t) (hh t h) y1 x).symm

end Cert.SbIdeal.Blocks

end
-- ==== Proof.Parts.SbClaim.lean ====
module

public import proofs.«01_k».proof.Defs
public import proofs.«01_k».proof.Proof.Parts.SbBitsFrame
public import proofs.«01_k».proof.Proof.Parts.SbBlocks
public import proofs.«01_k».proof.Proof.Parts.Finite
public import proofs.«01_k».proof.Proof.Gen.SbRefIdeal.Run
public import proofs.«01_k».proof.Proof.Gen.Pre_finite_sb
public import Idealize.ShloMosaic.Lib.Claim
public import Idealize.ShloMosaic.Lib.StableHlo.RunRead

/-! The claims about the stick-breaking attention's gradients. -/

@[expose] public section

set_option maxRecDepth 16384
set_option maxHeartbeats 4000000

noncomputable section

open Idealize.ShloMosaic Idealize.ShloMosaic.TcCoe Idealize.SL.Sem

namespace Cert.SbIdeal.Value

open Cert.SbIdeal Cert.SbRef Cert.SbIdeal.Blocks

theorem frame_ref : Cert.quiescent_SbRefIdeal := by
  intro m g _
  exact (θ_run Cert.SbRefIdeal.defs _ _).mono
    (fun r h => ⟨fun c => (h c).2.2.2, Idealize.ShloMosaic.sem_eq_zero_of_no_sems (by decide) r.2⟩)
    (Cert.SbRefIdeal.Value.run (F := Ideal) m g)

/-- The kernel's run on arrays of reals: its results are the reference's, the arguments kept. -/
theorem run_kernel (m : (ℓ : Loc nD τ sig) → Buf (Elt Ideal) ℓ) (g : Dev nD → PrngReg) (P : Dev nD → S4x2048x6144.Idx → ℝ) (D : Dev nD → S4x2048x512.Idx → ℝ)
    (hP : ∀ c : Dev nD, @Eq (S4x2048x6144.Idx → EReal) (m ((c : Thread nD τ).loc main_arg0)) (xs (P c)))
    (hD : ∀ c : Dev nD, @Eq (S4x2048x512.Idx → EReal) (m ((c : Thread nD τ).loc main_arg1)) (ds (D c))) :
    θ_run (Cert.SbIdeal.defs (F := Ideal)) (onTc (τ := τ) (Cert.SbIdeal.main (F := Ideal))) ⟨m, fun _ => 0, g⟩ (fun r => ∀ c : Dev nD,
      r.2.mem ((c.tc : Thread nD τ).loc main_v32_0) = Cert.SbRefIdeal.Read.val_main_v55 (F := Ideal) (xs (P c)) (ds (D c))
      ∧ r.2.mem ((c.tc : Thread nD τ).loc main_v32_1) = Cert.SbRefIdeal.Read.val_main_v56 (F := Ideal) (xs (P c)) (ds (D c))
      ∧ r.2.mem ((c.tc : Thread nD τ).loc main_v32_2) = Cert.SbRefIdeal.Read.val_main_v57 (F := Ideal) (xs (P c)) (ds (D c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from Launch.run_main m g (heads P D) (ins m · P D hP hD ·)
  · exact final_5 m c P D
  · exact final_6 m c P D
  · exact final_7 m c P D
  all_goals
    simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
    after_reads_simp

/-- Finite arguments are arrays of reals. -/
theorem real_args [Cert.Pre_finite_sb.Facts] (a0 a1) (h : Cert.Pre_finite_sb.fn (F := Ideal) a0 a1 = fun _ => 1#1) :
    (∃ f : S4x2048x6144.Idx → ℝ, a0 = fun i => (f i : EReal)) ∧ (∃ f : S4x2048x512.Idx → ℝ, a1 = fun i => (f i : EReal)) := by
  obtain ⟨e0, e1⟩ := Cert.Finite.and_one (congrFun h ix0)
  exact ⟨Cert.Finite.all_real _ _ (Cert.Finite.inf_const _ _) _ _ _ _ e0, Cert.Finite.all_real _ _ (Cert.Finite.inf_const _ _) _ _ _ _ e1⟩

theorem algebraic [Cert.Pre_finite_sb.Facts] : Cert.algebraic_SbIdeal_SbRefIdeal_pre_finite_sb := by
  intro m g m' g' hpre hagree
  choose P hP using fun c => (real_args _ _ (hpre c)).1
  choose D hD using fun c => (real_args _ _ (hpre c)).2
  refine ⟨_, _, _, run_kernel m g P D hP hD, ?_⟩
  refine (θ_run Cert.SbRefIdeal.defs _ _).mono (fun r h c => ⟨(h c).1.trans ?_, (h c).2.1.trans ?_, (h c).2.2.1.trans ?_, (h c).2.2.2⟩) (Cert.SbRefIdeal.Value.run m' g')
  all_goals obtain ⟨h0, h1⟩ := hagree c
  · rw [Cert.SbRefIdeal.Read.val_main_v55_eq, h0, h1, hP c, hD c]
  · rw [Cert.SbRefIdeal.Read.val_main_v56_eq, h0, h1, hP c, hD c]
  · rw [Cert.SbRefIdeal.Read.val_main_v57_eq, h0, h1, hP c, hD c]

end Cert.SbIdeal.Value

end
-- ==== Proof.Parts.GmlpMath.lean ====
module

public import proofs.«01_k».proof.Proof.Gen.GmlpIdeal
public import proofs.«01_k».proof.Proof.Parts.NormMath
public import proofs.«01_k».proof.Proof.Parts.SbStep
public import Idealize.ShloMosaic.Lib.Pointwise

/-! One chunk of the spatial gating: its gradients as the kernel's words, and their values on reals. -/

@[expose] public section

set_option maxRecDepth 16384

noncomputable section

open Idealize.ShloMosaic

namespace Cert.Gmlp

/-! ## Reals -/

theorem curve_eq : ∃ c : ℝ, Ideal.ofBits .f32 1061962282#32 = (c : EReal) := by
  refine ⟨13386282 * (2 ^ 24)⁻¹, ?_⟩
  simp [Ideal.ofBits, Ideal.ieee]
theorem half_eq : Ideal.ofBits .f32 1056964608#32 = ((1 / 2 : ℝ) : EReal) := by
  simp [Ideal.ofBits, Ideal.ieee]; rw [← EReal.coe_mul]; norm_num
theorem neg_half_eq : Ideal.ofBits .f32 3204448256#32 = ((-(1 / 2) : ℝ) : EReal) := NormRow.half_eq
theorem len_eq : Ideal.ofBits .f32 1140850688#32 = ((512 : ℝ) : EReal) := by
  simp [Ideal.ofBits, Ideal.ieee]; rw [← EReal.coe_mul]; norm_num
theorem three_eq : Ideal.ofBits .f32 1077936128#32 = ((3 : ℝ) : EReal) := by
  simp [Ideal.ofBits, Ideal.ieee]; rw [← EReal.coe_mul]; norm_num

/-- The gelu's inner factor and the norm's small constant. -/
def cc : ℝ := Classical.choose curve_eq
def ee : ℝ := Classical.choose NormRow.eps_eq
theorem cc_eq : Ideal.ofBits .f32 1061962282#32 = (cc : EReal) := Classical.choose_spec curve_eq
theorem ee_eq : Ideal.ofBits .f32 897988541#32 = (ee : EReal) := (Classical.choose_spec NormRow.eps_eq).2
theorem ee_pos : 0 < ee := (Classical.choose_spec NormRow.eps_eq).1

/-- The gelu's hyperbolic tangent, the gelu and its slope. -/
def th (x : ℝ) : ℝ := Real.tanh (cc * (x + 8943 / 200000 * (x * x * x)))
def gel (x : ℝ) : ℝ := 1 / 2 * x * (1 + th x)
def fac (x : ℝ) : ℝ := 1 / 2 * (1 + th x) + 1 / 2 * x * (1 - th x * th x) * (cc * (1 + 26829 / 200000 * (x * x)))

/-- A row's mean and the reciprocal of its deviation. -/
def mean (f : Fin 512 → ℝ) : ℝ := (∑ k, f k) * (1 / 512)
def var (f : Fin 512 → ℝ) : ℝ := (∑ k, (f k - mean f) * (f k - mean f)) * (1 / 512) + ee
def rs (f : Fin 512 → ℝ) : ℝ := (Real.sqrt (var f))⁻¹
theorem var_pos (f : Fin 512 → ℝ) : 0 < var f := by
  have : 0 ≤ ∑ k, (f k - mean f) * (f k - mean f) := Finset.sum_nonneg fun k _ => mul_self_nonneg _
  have := ee_pos
  unfold var; positivity

/-- One chunk's operands. -/
structure Chunk where
  u : Fin 128 → Fin 512 → ℝ
  v : Fin 128 → Fin 512 → ℝ
  d : Fin 128 → Fin 512 → ℝ
  w : Fin 4 → Fin 128 → Fin 128 → ℝ
  bs : Fin 128 → Fin 4 → ℝ
  lg : Fin 512 → ℝ
  lb : Fin 512 → ℝ

/-- The group of a column. -/
abbrev gp (k : Fin 512) : Fin 4 := ⟨k.val / 128, by omega⟩
/-- A group's column. -/
abbrev col (g : Fin 4) (j : Fin 128) : Fin 512 := ⟨g.val * 128 + j.val, by omega⟩

namespace Chunk

variable (R : Chunk)

def V (r : Fin 128) (k : Fin 512) : ℝ := gel (R.v r k)
def xh (r : Fin 128) (k : Fin 512) : ℝ := (R.V r k - mean (R.V r)) * rs (R.V r)
def vn (r : Fin 128) (k : Fin 512) : ℝ := R.xh r k * R.lg k + R.lb k
def wm (g : Fin 4) (a b : Fin 128) : ℝ := if b ≤ a then R.w g a b else 0
def s (r : Fin 128) (k : Fin 512) : ℝ := (∑ x, R.wm (gp k) r x * R.vn x k) + R.bs r (gp k)
def ds (r : Fin 128) (k : Fin 512) : ℝ := R.d r k * gel (R.u r k)
def dpu (r : Fin 128) (k : Fin 512) : ℝ := R.d r k * R.s r k * fac (R.u r k)
def gw (g : Fin 4) (a b : Fin 128) : ℝ := if b ≤ a then ∑ c, R.ds a (col g c) * R.vn b (col g c) else 0
def gb (g : Fin 4) (a : Fin 128) : ℝ := ∑ c, R.ds a (col g c)
def dvn (r : Fin 128) (k : Fin 512) : ℝ := ∑ x, R.wm (gp k) x r * R.ds x k
def dxh (r : Fin 128) (k : Fin 512) : ℝ := R.dvn r k * R.lg k
def dv (r : Fin 128) (k : Fin 512) : ℝ :=
  rs (R.V r) * (R.dxh r k - mean (R.dxh r) - R.xh r k * mean (fun j => R.dxh r j * R.xh r j))
def dpv (r : Fin 128) (k : Fin 512) : ℝ := R.dv r k * fac (R.v r k)
def glb (k : Fin 512) : ℝ := ∑ r, R.dvn r k
def glg (k : Fin 512) : ℝ := ∑ r, R.dvn r k * R.xh r k

end Chunk

/-! ## The kernel's words -/

def half : EReal := Ideal.ofBits .f32 1056964608#32
def curve : EReal := Ideal.ofBits .f32 1061962282#32
def cub : EReal := Named.named (F := Ideal) Cert.GmlpIdeal.κ (φ := .f32) "cubic" 1027024659#32
def cub3 : EReal := Named.named (F := Ideal) Cert.GmlpIdeal.κ (φ := .f32) "cubic3" 1040801103#32
def len : EReal := Ideal.ofBits .f32 1140850688#32
def eps : EReal := Ideal.ofBits .f32 897988541#32

theorem cub_eq : cub = ((8943 / 200000 : ℝ) : EReal) := IdealRules.named_const.ideal_named_scalar _ _ _ _ rfl
theorem cub3_eq : cub3 = ((26829 / 200000 : ℝ) : EReal) := IdealRules.named_const.ideal_named_scalar _ _ _ _ rfl

def thW (x : EReal) : EReal := Ideal.tanh (curve * (x + cub * (x * x * x)))
def gelW (x : EReal) : EReal := half * x * (1 + thW x)
def facW (x : EReal) : EReal := half * (1 + thW x) + half * x * (1 - thW x * thW x) * (curve * (1 + cub3 * (x * x)))
def meanW (f : Fin 512 → EReal) : EReal := Ideal.div (∑ k, f k) len
def rsW (f : Fin 512 → EReal) : EReal := Ideal.rsqrt (meanW (fun k => (f k - meanW f) * (f k - meanW f)) + eps)

theorem fold_th (x : EReal) : Ideal.tanh (Ideal.ofBits .f32 1061962282#32 * (x + Named.named (F := Ideal) Cert.GmlpIdeal.κ (φ := .f32) "cubic" 1027024659#32 * (x * x * x))) = thW x := rfl
theorem fold_gel (x : EReal) : Ideal.ofBits .f32 1056964608#32 * x * (1 + thW x) = gelW x := rfl
theorem fold_fac (x : EReal) : Ideal.ofBits .f32 1056964608#32 * (1 + thW x) + Ideal.ofBits .f32 1056964608#32 * x * (1 - thW x * thW x)
    * (Ideal.ofBits .f32 1061962282#32 * (1 + Named.named (F := Ideal) Cert.GmlpIdeal.κ (φ := .f32) "cubic3" 1040801103#32 * (x * x))) = facW x := rfl
theorem fold_mean (f : Fin 512 → EReal) : Ideal.div (∑ k, f k) (Ideal.ofBits .f32 1140850688#32) = meanW f := rfl
theorem fold_rs (f : Fin 512 → EReal) : Ideal.rsqrt (meanW (fun k => (f k - meanW f) * (f k - meanW f)) + Ideal.ofBits .f32 897988541#32) = rsW f := rfl

theorem thW_real (x : ℝ) : thW (x : EReal) = (th x : EReal) := by
  rw [thW, cub_eq, curve, cc_eq]
  simp only [← EReal.coe_mul, ← EReal.coe_add, Ideal.tanh_coe]; rfl
theorem gelW_real (x : ℝ) : gelW (x : EReal) = (gel x : EReal) := by
  rw [gelW, thW_real, half, half_eq, ← EReal.coe_one]
  simp only [← EReal.coe_mul, ← EReal.coe_add]; rfl
theorem facW_real (x : ℝ) : facW (x : EReal) = (fac x : EReal) := by
  rw [facW, thW_real, half, half_eq, curve, cc_eq, cub3_eq, ← EReal.coe_one]
  simp only [← EReal.coe_mul, ← EReal.coe_add, ← EReal.coe_sub]; rfl
theorem meanW_real (f : Fin 512 → ℝ) : meanW (fun k => (f k : EReal)) = (mean f : EReal) := by
  rw [meanW, len, len_eq, Ideal.div_coe (by norm_num), NormRow.coe_sum, ← EReal.coe_mul]; rfl
theorem rsW_real (f : Fin 512 → ℝ) : rsW (fun k => (f k : EReal)) = (rs f : EReal) := by
  rw [rsW, meanW_real, eps, ee_eq]
  simp only [← EReal.coe_mul, meanW_real, ← EReal.coe_add, ← EReal.coe_sub]
  exact NormRow.rsqrt_pos (var_pos f)

/-- One chunk's loads. -/
structure Loads where
  u : Fin 128 → Fin 512 → EReal
  v : Fin 128 → Fin 512 → EReal
  d : Fin 128 → Fin 512 → EReal
  w : Fin 4 → Fin 128 → Fin 128 → EReal
  bs : Fin 128 → Fin 4 → EReal
  lg : Fin 512 → EReal
  lb : Fin 512 → EReal

/-- The word that says whether row `a` sees row `b`. -/
def seen (a b : Fin 128) : BitVec 1 := IntOp.cmpi .sge (BitVec.ofNat 32 a.val) (BitVec.ofNat 32 b.val)
theorem seen_eq (a b : Fin 128) : seen a b = BitVec.ofBool (decide (b ≤ a)) := WordCmp.cmpi_sge_ofNat (by omega) (by omega)
theorem select_seen (a b : Fin 128) (x y : EReal) : Scalar.select (seen a b) x y = if b ≤ a then x else y := by
  rw [seen_eq, Cert.SbIdeal.Step.select_ofBool]

namespace Loads

variable (L : Loads)

def V (r : Fin 128) : Fin 512 → EReal := fun k => gelW (L.v r k)
def xh (r : Fin 128) (k : Fin 512) : EReal := (L.V r k - meanW (L.V r)) * rsW (L.V r)
def vn (r : Fin 128) (k : Fin 512) : EReal := L.xh r k * L.lg k + L.lb k
def s (g : Fin 4) (r : Fin 128) (k : Fin 512) : EReal := (∑ x, Scalar.select (seen r x) (L.w g r x * L.vn x k) 0) + L.bs r g
def ds (r : Fin 128) (k : Fin 512) : EReal := L.d r k * gelW (L.u r k)
def dpu (g : Fin 4) (r : Fin 128) (k : Fin 512) : EReal := L.d r k * L.s g r k * facW (L.u r k)
def gw (κ : Fin 128 → Fin 512) (a b : Fin 128) : EReal := Scalar.select (seen a b) (∑ c, L.ds a (κ c) * L.vn b (κ c)) 0
def gb (κ : Fin 128 → Fin 512) (a : Fin 128) : EReal := ∑ c, L.ds a (κ c)
def dvg (g : Fin 4) (r : Fin 128) (k : Fin 512) : EReal := ∑ x, Scalar.select (seen x r) (L.w g x r * L.ds x k) 0
def dvn (r : Fin 128) (k : Fin 512) : EReal :=
  if h : k.val < 128 then L.dvg 0 r k
  else if h' : k.val - 128 < 128 then L.dvg 1 r ⟨128 + (k.val - 128), by omega⟩
  else if h'' : k.val - 128 - 128 < 128 then L.dvg 2 r ⟨256 + (k.val - 128 - 128), by omega⟩
  else L.dvg 3 r ⟨384 + (k.val - 128 - 128 - 128), by omega⟩
def dxh (r : Fin 128) : Fin 512 → EReal := fun k => L.dvn r k * L.lg k
def dv (r : Fin 128) (k : Fin 512) : EReal :=
  rsW (L.V r) * (L.dxh r k - meanW (L.dxh r) - L.xh r k * meanW (fun j => L.dxh r j * L.xh r j))
def dpv (r : Fin 128) (k : Fin 512) : EReal := L.dv r k * facW (L.v r k)
def glb (k : Fin 512) : EReal := ∑ r, L.dvn r k
def glg (k : Fin 512) : EReal := ∑ r, L.dvn r k * L.xh r k

theorem V_fun (r : Fin 128) : L.V r = fun k => gelW (L.v r k) := rfl
theorem dxh_fun (r : Fin 128) : L.dxh r = fun k => L.dvn r k * L.lg k := rfl

end Loads

/-- The loads are real. -/
def Chunk.loads (R : Chunk) : Loads where
  u r k := R.u r k
  v r k := R.v r k
  d r k := R.d r k
  w g a b := R.w g a b
  bs a g := R.bs a g
  lg k := R.lg k
  lb k := R.lb k

namespace Chunk

variable (R : Chunk)

theorem V_real (r) : R.loads.V r = fun k => ((R.V r k : ℝ) : EReal) := funext fun k => gelW_real _
theorem xh_real (r k) : R.loads.xh r k = ((R.xh r k : ℝ) : EReal) := by
  rw [Loads.xh, V_real, meanW_real, rsW_real, ← EReal.coe_sub, ← EReal.coe_mul]; rfl
theorem vn_real (r k) : R.loads.vn r k = ((R.vn r k : ℝ) : EReal) := by
  rw [Loads.vn, xh_real]; exact (congrArg (· + _) (EReal.coe_mul _ _).symm).trans (EReal.coe_add _ _).symm
theorem ds_real (r k) : R.loads.ds r k = ((R.ds r k : ℝ) : EReal) := by
  show ((R.d r k : ℝ) : EReal) * gelW ((R.u r k : ℝ) : EReal) = _
  rw [gelW_real, ← EReal.coe_mul]; rfl
theorem pick (p : Prop) [Decidable p] (a b : ℝ) : (if p then ((a : EReal) * b) else 0) = (((if p then a else 0) * b : ℝ) : EReal) := by
  split_ifs
  · rw [EReal.coe_mul]
  · simp
theorem s_real (r k) : R.loads.s (gp k) r k = ((R.s r k : ℝ) : EReal) := by
  unfold Loads.s
  simp only [select_seen, vn_real]
  show (∑ x, if x ≤ r then ((R.w (gp k) r x : ℝ) : EReal) * _ else 0) + ((R.bs r (gp k) : ℝ) : EReal) = _
  simp only [pick, NormRow.coe_sum, ← EReal.coe_add]; rfl
theorem dpu_real (g : Fin 4) (r k) (h : g = gp k) : R.loads.dpu g r k = ((R.dpu r k : ℝ) : EReal) := by
  subst h
  show ((R.d r k : ℝ) : EReal) * _ * facW ((R.u r k : ℝ) : EReal) = _
  rw [s_real, facW_real, ← EReal.coe_mul, ← EReal.coe_mul]; rfl
theorem gw_real (κ) (g : Fin 4) (a b) (h : ∀ c, κ c = col g c) : R.loads.gw κ a b = ((R.gw g a b : ℝ) : EReal) := by
  unfold Loads.gw Chunk.gw
  simp only [select_seen, vn_real, ds_real, h, ← EReal.coe_mul, NormRow.coe_sum]
  split_ifs <;> rfl
theorem gb_real (κ) (g : Fin 4) (a) (h : ∀ c, κ c = col g c) : R.loads.gb κ a = ((R.gb g a : ℝ) : EReal) := by
  unfold Loads.gb Chunk.gb
  simp only [ds_real, h, NormRow.coe_sum]
theorem dvg_real (g : Fin 4) (r k) (j : Fin 512) (hj : j = k) (h : g = gp k) : R.loads.dvg g r j = ((R.dvn r k : ℝ) : EReal) := by
  subst h hj
  unfold Loads.dvg
  simp only [select_seen, ds_real]
  show (∑ x, if r ≤ x then ((R.w (gp j) x r : ℝ) : EReal) * _ else 0) = _
  simp only [pick, NormRow.coe_sum]; rfl
theorem dvn_real (r k) : R.loads.dvn r k = ((R.dvn r k : ℝ) : EReal) := by
  unfold Loads.dvn
  split_ifs with h h' h''
  · exact R.dvg_real 0 r k _ rfl (Fin.ext (by show 0 = k.val / 128; omega))
  · exact R.dvg_real 1 r k _ (Fin.ext (by show 128 + (k.val - 128) = k.val; omega)) (Fin.ext (by show 1 = k.val / 128; omega))
  · exact R.dvg_real 2 r k _ (Fin.ext (by show 256 + (k.val - 128 - 128) = k.val; omega)) (Fin.ext (by show 2 = k.val / 128; omega))
  · exact R.dvg_real 3 r k _ (Fin.ext (by show 384 + (k.val - 128 - 128 - 128) = k.val; omega)) (Fin.ext (by show 3 = k.val / 128; omega))
theorem dxh_real (r) : R.loads.dxh r = fun k => ((R.dxh r k : ℝ) : EReal) := by
  funext k
  show R.loads.dvn r k * _ = _
  rw [dvn_real]; exact (EReal.coe_mul _ _).symm
theorem dv_real (r k) : R.loads.dv r k = ((R.dv r k : ℝ) : EReal) := by
  rw [Loads.dv, dxh_real, V_real, meanW_real, rsW_real]
  simp only [xh_real, ← EReal.coe_mul, meanW_real, ← EReal.coe_sub]; rfl
theorem dpv_real (r k) : R.loads.dpv r k = ((R.dpv r k : ℝ) : EReal) := by
  show _ * facW ((R.v r k : ℝ) : EReal) = _
  rw [dv_real, facW_real, ← EReal.coe_mul]; rfl
theorem glb_real (k) : R.loads.glb k = ((R.glb k : ℝ) : EReal) := by
  unfold Loads.glb Chunk.glb
  simp only [dvn_real, NormRow.coe_sum]
theorem glg_real (k) : R.loads.glg k = ((R.glg k : ℝ) : EReal) := by
  unfold Loads.glg Chunk.glg
  simp only [dvn_real, xh_real, ← EReal.coe_mul, NormRow.coe_sum]

/-- The gradient as the chain rule writes it, with the deviations summed first. -/
theorem dv_chain (r k) :
    let p := (∑ j, (R.V r j - mean (R.V r)) * R.dxh r j) * (-(1 / 2) * (rs (R.V r) * (1 / var (R.V r)))) * (1 / 512)
    let z := fun j => R.dxh r j * rs (R.V r) + (R.V r j - mean (R.V r)) * p + p * (R.V r j - mean (R.V r))
    R.dv r k = z k + (∑ j, -z j) * (1 / 512) := by
  intro p z
  have hz : ∑ j, (R.V r j - mean (R.V r)) = 0 := by
    rw [Finset.sum_sub_distrib, Finset.sum_const, Finset.card_univ, Fintype.card_fin, mean]
    simp; ring
  have hs : ∑ j, -z j = -((∑ j, R.dxh r j) * rs (R.V r)) := by
    rw [Finset.sum_neg_distrib]
    congr 1
    simp only [z, Finset.sum_add_distrib, ← Finset.sum_mul, ← Finset.mul_sum, hz]
    ring
  have hm : mean (fun j => R.dxh r j * R.xh r j) = (∑ j, (R.V r j - mean (R.V r)) * R.dxh r j) * rs (R.V r) * (1 / 512) := by
    rw [mean]
    refine congrArg (· * (1 / 512 : ℝ)) ?_
    rw [Finset.sum_mul]
    exact Finset.sum_congr rfl fun j _ => by rw [xh]; ring
  have hv := var_pos (R.V r)
  have hq : rs (R.V r) * rs (R.V r) = 1 / var (R.V r) := by
    rw [rs, ← mul_inv, Real.mul_self_sqrt hv.le, one_div]
  rw [dv, hs, hm, xh, mean]
  simp only [z, p, ← hq]
  rw [mean]
  ring

end Chunk

end Cert.Gmlp

end
-- ==== Proof.Parts.GmlpLoads.lean ====
module

public import proofs.«01_k».proof.Proof.Gen.GmlpIdeal.Frame
public import Idealize.ShloMosaic.Lib.Pipeline.ValueKit
public import Idealize.ShloMosaic.Lib.Pointwise
public import Idealize.ShloMosaic.Lib.Pipeline.ReadBack
public import proofs.«01_k».proof.Proof.Parts.GmlpMath

@[expose] public section

set_option maxRecDepth 16384

noncomputable section

open Idealize.ShloMosaic Idealize.ShloMosaic.TcCoe Idealize.SL.Sem
open Idealize.ShloMosaic.Pipeline (Dat)

namespace Cert.GmlpIdeal.Value

open Cert.GmlpIdeal Cert.GmlpIdeal.Gen
open Cert.Gmlp (Loads Chunk gp col)

variable (m : (ℓ : Loc nD τ sig) → Buf (Elt Ideal) ℓ)

theorem idx_val : ∀ t : Fin cfg0.N, win0_0.index t = ![t.val, 0]
    ∧ win0_1.index t = ![t.val, 1]
    ∧ win0_2.index t = ![t.val, 0]
    ∧ win0_3.index t = ![0, 0]
    ∧ win0_4.index t = ![0, 0]
    ∧ win0_5.index t = ![0, 0, 0]
    ∧ win0_6.index t = ![0, 0]
    ∧ win0_7.index t = ![t.val, 0]
    ∧ win0_8.index t = ![0, 0, 0]
    ∧ win0_9.index t = ![0, 0, 0]
    ∧ win0_10.index t = ![0, 0]
    ∧ win0_11.index t = ![0, 0] :=
  (by decide +kernel : ∀ t : Fin grid0.N, _)

abbrev A0 (c : Dev nD) : FVec Ideal S4x2048x6144 .f32 := m ((c : Thread nD τ).loc main_arg0)
abbrev A1 (c : Dev nD) : FVec Ideal S4x2048x512 .f32 := m ((c : Thread nD τ).loc main_arg1)
abbrev A2 (c : Dev nD) : FVec Ideal S512 .f32 := m ((c : Thread nD τ).loc main_arg2)
abbrev A3 (c : Dev nD) : FVec Ideal S512 .f32 := m ((c : Thread nD τ).loc main_arg3)
abbrev A4 (c : Dev nD) : FVec Ideal S4x128x128 .f32 := m ((c : Thread nD τ).loc main_arg4)
abbrev A5 (c : Dev nD) : FVec Ideal S4x128 .f32 := m ((c : Thread nD τ).loc main_arg5)
abbrev A6 (c : Dev nD) : FVec Ideal S4x2048x6144 .f32 := m ((c : Thread nD τ).loc main_arg6)

/-- The example and the row in it of a block's row. -/
abbrev ex (t : Fin cfg0.N) : Fin 4 := ⟨t.val / 4, by have : t.val < 16 := t.isLt; omega⟩
abbrev row (t : Fin cfg0.N) (r : Fin 512) : Fin 2048 := ⟨512 * (t.val % 4) + r.val, by omega⟩

variable (c : Dev nD)

theorem blk0 (t : Fin cfg0.N) (r : Fin 512) (j : Fin 512) :
    (show FVec Ideal S512x512 .bf16 from iblk m c 0 t) (ix2 r j) = A0 m c (ix3 (ex t) (row t r) ⟨j.val, by omega⟩) := by
  refine (congrArg (V m c (Pipeline.arrRef spec0 0)) (show ((cfg0.win 0).blk t).view.emb (ix2 r j) = ix2 (⟨512 * t.val + r.val, by have : t.val < 16 := t.isLt; omega⟩ : Fin 8192) (⟨j.val, by omega⟩ : Fin 6144) by blk_ext [idx_val t])).trans ?_
  entry_read; pointwise
  refine congrArg (A0 m c) ?_
  congr 1 <;> exact Fin.ext (by dsimp only; omega)

theorem blk1 (t : Fin cfg0.N) (r : Fin 512) (j : Fin 512) :
    (show FVec Ideal S512x512 .bf16 from iblk m c 1 t) (ix2 r j) = A0 m c (ix3 (ex t) (row t r) ⟨512 + j.val, by omega⟩) := by
  refine (congrArg (V m c (Pipeline.arrRef spec0 1)) (show ((cfg0.win 1).blk t).view.emb (ix2 r j) = ix2 (⟨512 * t.val + r.val, by have : t.val < 16 := t.isLt; omega⟩ : Fin 8192) (⟨512 + j.val, by omega⟩ : Fin 6144) by blk_ext [idx_val t])).trans ?_
  entry_read; pointwise
  refine congrArg (A0 m c) ?_
  congr 1 <;> exact Fin.ext (by dsimp only; omega)

theorem blk2 (t : Fin cfg0.N) (r : Fin 512) (j : Fin 512) :
    (show FVec Ideal S512x512 .bf16 from iblk m c 2 t) (ix2 r j) = A1 m c (ix3 (ex t) (row t r) j) := by
  refine (congrArg (V m c (Pipeline.arrRef spec0 2)) (show ((cfg0.win 2).blk t).view.emb (ix2 r j) = ix2 (⟨512 * t.val + r.val, by have : t.val < 16 := t.isLt; omega⟩ : Fin 8192) j by blk_ext [idx_val t])).trans ?_
  entry_read; pointwise
  refine congrArg (A1 m c) ?_
  congr 1 <;> exact Fin.ext (by dsimp only; omega)

theorem blk3 (t : Fin cfg0.N) (j : Fin 512) :
    (show FVec Ideal S1x512 .f32 from iblk m c 3 t) (ix2 0 j) = A2 m c (ix1 j) := by
  refine (congrArg (V m c (Pipeline.arrRef spec0 3)) (show ((cfg0.win 3).blk t).view.emb (ix2 0 j) = ix2 0 j by blk_ext [idx_val t])).trans ?_
  entry_read; pointwise

theorem blk4 (t : Fin cfg0.N) (j : Fin 512) :
    (show FVec Ideal S1x512 .f32 from iblk m c 4 t) (ix2 0 j) = A3 m c (ix1 j) := by
  refine (congrArg (V m c (Pipeline.arrRef spec0 4)) (show ((cfg0.win 4).blk t).view.emb (ix2 0 j) = ix2 0 j by blk_ext [idx_val t])).trans ?_
  entry_read; pointwise

theorem blk5 (t : Fin cfg0.N) (g : Fin 4) (a b : Fin 128) :
    (show FVec Ideal S4x128x128 .f32 from iblk m c 5 t) (ix3 g a b) = A4 m c (ix3 g a b) := by blk_point [iblk, idx_val t]

theorem blk6 (t : Fin cfg0.N) (a : Fin 128) (g : Fin 4) :
    (show FVec Ideal S128x4 .f32 from iblk m c 6 t) (ix2 a g) = A5 m c (ix2 g a) := by
  refine (congrArg (V m c (Pipeline.arrRef spec0 6)) (show ((cfg0.win 6).blk t).view.emb (ix2 a g) = ix2 a g by blk_ext [idx_val t])).trans ?_
  entry_read; pointwise

/-- What a point loads of the chunk whose rows are `ρ`. -/
def Ld (t : Fin cfg0.N) (ρ : Fin 128 → Fin 512) : Loads where
  u r k := (show FVec Ideal S512x512 .bf16 from iblk m c 0 t) (ix2 (ρ r) k)
  v r k := (show FVec Ideal S512x512 .bf16 from iblk m c 1 t) (ix2 (ρ r) k)
  d r k := (show FVec Ideal S512x512 .bf16 from iblk m c 2 t) (ix2 (ρ r) k)
  w g a b := (show FVec Ideal S4x128x128 .f32 from iblk m c 5 t) (ix3 g a b)
  bs a g := (show FVec Ideal S128x4 .f32 from iblk m c 6 t) (ix2 a g)
  lg k := (show FVec Ideal S1x512 .f32 from iblk m c 3 t) (ix2 0 k)
  lb k := (show FVec Ideal S1x512 .f32 from iblk m c 4 t) (ix2 0 k)

/-- The chunk `n` of example `b`. -/
def Kd (b : Fin 4) (n : Fin 16) : Loads where
  u r k := A0 m c (ix3 b ⟨n.val * 128 + r.val, by omega⟩ ⟨k.val, by omega⟩)
  v r k := A0 m c (ix3 b ⟨n.val * 128 + r.val, by omega⟩ ⟨512 + k.val, by omega⟩)
  d r k := A1 m c (ix3 b ⟨n.val * 128 + r.val, by omega⟩ k)
  w g a b := A4 m c (ix3 g a b)
  bs a g := A5 m c (ix2 g a)
  lg k := A2 m c (ix1 k)
  lb k := A3 m c (ix1 k)

/-- A point's chunk as a chunk of the example. -/
abbrev ch (t : Fin cfg0.N) (q : Fin 4) : Fin 16 := ⟨t.val % 4 * 4 + q.val, by omega⟩

theorem Ld_eq (t : Fin cfg0.N) (q : Fin 4) (ρ : Fin 128 → Fin 512) (h : ∀ r, (ρ r).val = q.val * 128 + r.val) :
    Ld m c t ρ = Kd m c (ex t) (ch t q) := by
  have hr : ∀ r, row t (ρ r) = ⟨(ch t q).val * 128 + r.val, by omega⟩ := fun r => Fin.ext (by dsimp only [ch]; rw [h]; omega)
  simp only [Ld, Kd, blk0, blk1, blk2, blk3, blk4, blk5, blk6, hr]

/-- The four chunks' rows. -/
def ρ0 (r : Fin 128) : Fin 512 := ⟨r.val, by omega⟩
def ρ1 (r : Fin 128) : Fin 512 := ⟨128 + r.val, by omega⟩
def ρ2 (r : Fin 128) : Fin 512 := ⟨256 + r.val, by omega⟩
def ρ3 (r : Fin 128) : Fin 512 := ⟨384 + r.val, by omega⟩

end Cert.GmlpIdeal.Value

end
-- ==== Proof.Parts.GmlpAcc.lean ====
module

public import proofs.«01_k».proof.Proof.Gen.GmlpIdeal.Frame
public import Idealize.ShloMosaic.Lib.Pipeline.ValueKit
public import Idealize.ShloMosaic.Lib.Pointwise
public import Idealize.ShloMosaic.Lib.Pipeline.ReadBack
public import proofs.«01_k».proof.Proof.Parts.GmlpLoads

@[expose] public section

set_option maxRecDepth 16384

noncomputable section

open Idealize.ShloMosaic Idealize.ShloMosaic.TcCoe Idealize.SL.Sem
open Idealize.ShloMosaic.Pipeline (Dat)

namespace Cert.GmlpIdeal.Value

open Cert.GmlpIdeal Cert.GmlpIdeal.Gen
open Cert.Gmlp (Loads Chunk gp col)

variable (m : (ℓ : Loc nD τ sig) → Buf (Elt Ideal) ℓ)

theorem col_0 (c : Fin 128) : col 0 c = ⟨c.val, by omega⟩ := Fin.ext (by show 0 * 128 + c.val = c.val; omega)
theorem col_1 (c : Fin 128) : col 1 c = ⟨128 + c.val, by omega⟩ := rfl
theorem col_2 (c : Fin 128) : col 2 c = ⟨256 + c.val, by omega⟩ := rfl
theorem col_3 (c : Fin 128) : col 3 c = ⟨384 + c.val, by omega⟩ := rfl

/-- The four chunks of a point added to what the points before left. -/
def four (f : EReal) (p : (Fin 128 → Fin 512) → EReal) : EReal := f + p ρ0 + p ρ1 + p ρ2 + p ρ3

/-- What a point leaves of the gradients of the weights and of the biases. -/
def gwT (c : Dev nD) (t : Fin cfg0.N) (f : FVec Ideal S4x128x128 .f32) : FVec Ideal S4x128x128 .f32 := fun y =>
  four (f y) fun ρ => (Ld m c t ρ).gw (col (y 0)) (y 1) (y 2)
def gbT (c : Dev nD) (t : Fin cfg0.N) (f : FVec Ideal S4x128x128 .f32) : FVec Ideal S4x128x128 .f32 := fun y =>
  four (f y) fun ρ => (Ld m c t ρ).gb (col (y 0)) (y 1)

set_option maxHeartbeats 4000000 in
theorem gw_B (c : Dev nD) (t : Fin cfg0.N) (hB : ¬t.val % 16 = 0) (y : Shape.Idx S4x128x128) :
    (outsAt0 m c t.val t.isLt).2.1 y = gwT m c t (outsAt0 m c (t.val - 1) (by omega)).2.1 y := by
  rw [outsAt0_B m c t hB]
  frame_open
  simp (disch := decide) only [↓ View.readCov_skip, ↓ View.readCov_cons_toLoadRect, ↓ View.readCov_fill]
  frame_out
  refine View.canon_append_of_piecesOf _ [_, _, _, _, _, _, _, _, _, _, _, _] [_, _, _, _] ⟨fun x => ?_, fun x => ?_, fun x => ?_, fun x => ?_, trivial⟩ y (View.cover_of_tiledBy _ ![1, 128, 128] (by sl_kernel_rfl) _)
  all_goals
    idx_vars x
  on_goal 1 => refine Eq.trans ?_ (congrArg (gwT m c t _) (show _ = ix3 (3 : Fin 4) x1 x2 by blk_ext [])).symm
  on_goal 2 => refine Eq.trans ?_ (congrArg (gwT m c t _) (show _ = ix3 (2 : Fin 4) x1 x2 by blk_ext [])).symm
  on_goal 3 => refine Eq.trans ?_ (congrArg (gwT m c t _) (show _ = ix3 (1 : Fin 4) x1 x2 by blk_ext [])).symm
  on_goal 4 => refine Eq.trans ?_ (congrArg (gwT m c t _) (show _ = ix3 (0 : Fin 4) x1 x2 by blk_ext [])).symm
  all_goals
    open_payloads
    pointwise
    simp only [Cert.Gmlp.fold_th, Cert.Gmlp.fold_gel, Cert.Gmlp.fold_fac, Cert.Gmlp.fold_mean, Cert.Gmlp.fold_rs]
    try simp only [Memref.IsWhole.read_unread]
    simp only [gwT, four, ix3_0, ix3_1, ix3_2, col_0, col_1, col_2, col_3, Loads.gw, Loads.ds, Loads.vn, Loads.xh, Loads.V_fun, Cert.Gmlp.seen, Ld, ρ0, ρ1, ρ2, ρ3]

set_option maxHeartbeats 4000000 in
theorem gw_A (c : Dev nD) (t : Fin cfg0.N) (hA : t.val % 16 = 0) (y : Shape.Idx S4x128x128) :
    (outsAt0 m c t.val t.isLt).2.1 y = gwT m c t (fun _ => 0) y := by
  rw [outsAt0_A m c t hA]
  frame_open
  simp (disch := decide) only [↓ View.readCov_skip, ↓ View.readCov_cons_toLoadRect, ↓ View.readCov_fill]
  frame_out
  refine View.canon_append_of_piecesOf _ [_, _, _, _, _, _, _, _, _, _, _, _, _] [_, _, _, _] ⟨fun x => ?_, fun x => ?_, fun x => ?_, fun x => ?_, trivial⟩ y (View.cover_of_tiledBy _ ![1, 128, 128] (by sl_kernel_rfl) _)
  all_goals
    idx_vars x
  on_goal 1 => refine Eq.trans ?_ (congrArg (gwT m c t _) (show _ = ix3 (3 : Fin 4) x1 x2 by blk_ext [])).symm
  on_goal 2 => refine Eq.trans ?_ (congrArg (gwT m c t _) (show _ = ix3 (2 : Fin 4) x1 x2 by blk_ext [])).symm
  on_goal 3 => refine Eq.trans ?_ (congrArg (gwT m c t _) (show _ = ix3 (1 : Fin 4) x1 x2 by blk_ext [])).symm
  on_goal 4 => refine Eq.trans ?_ (congrArg (gwT m c t _) (show _ = ix3 (0 : Fin 4) x1 x2 by blk_ext [])).symm
  all_goals
    open_payloads
    pointwise
    simp only [Cert.Gmlp.fold_th, Cert.Gmlp.fold_gel, Cert.Gmlp.fold_fac, Cert.Gmlp.fold_mean, Cert.Gmlp.fold_rs]
    try simp only [Memref.IsWhole.read_unread]
    simp only [gwT, four, zero_add, ix3_0, ix3_1, ix3_2, col_0, col_1, col_2, col_3, Loads.gw, Loads.ds, Loads.vn, Loads.xh, Loads.V_fun, Cert.Gmlp.seen, Ld, ρ0, ρ1, ρ2, ρ3]

set_option maxHeartbeats 4000000 in
theorem gb_B (c : Dev nD) (t : Fin cfg0.N) (hB : ¬t.val % 16 = 0) (y : Shape.Idx S4x128x128) :
    (outsAt0 m c t.val t.isLt).2.2.1 y = gbT m c t (outsAt0 m c (t.val - 1) (by omega)).2.2.1 y := by
  rw [outsAt0_B m c t hB]
  frame_open
  simp (disch := decide) only [↓ View.readCov_skip, ↓ View.readCov_cons_toLoadRect, ↓ View.readCov_fill]
  frame_out
  refine View.canon_append_of_piecesOf _ [_, _, _, _, _, _, _, _, _, _, _, _] [_, _, _, _] ⟨fun x => ?_, fun x => ?_, fun x => ?_, fun x => ?_, trivial⟩ y (View.cover_of_tiledBy _ ![1, 128, 128] (by sl_kernel_rfl) _)
  all_goals
    idx_vars x
  on_goal 1 => refine Eq.trans ?_ (congrArg (gbT m c t _) (show _ = ix3 (3 : Fin 4) x1 x2 by blk_ext [])).symm
  on_goal 2 => refine Eq.trans ?_ (congrArg (gbT m c t _) (show _ = ix3 (2 : Fin 4) x1 x2 by blk_ext [])).symm
  on_goal 3 => refine Eq.trans ?_ (congrArg (gbT m c t _) (show _ = ix3 (1 : Fin 4) x1 x2 by blk_ext [])).symm
  on_goal 4 => refine Eq.trans ?_ (congrArg (gbT m c t _) (show _ = ix3 (0 : Fin 4) x1 x2 by blk_ext [])).symm
  all_goals
    open_payloads
    pointwise
    simp only [Cert.Gmlp.fold_th, Cert.Gmlp.fold_gel, Cert.Gmlp.fold_fac, Cert.Gmlp.fold_mean, Cert.Gmlp.fold_rs]
    try simp only [Memref.IsWhole.read_unread]
    simp only [gbT, four, ix3_0, ix3_1, ix3_2, col_0, col_1, col_2, col_3, Loads.gb, Loads.ds, Ld, ρ0, ρ1, ρ2, ρ3]

set_option maxHeartbeats 4000000 in
theorem gb_A (c : Dev nD) (t : Fin cfg0.N) (hA : t.val % 16 = 0) (y : Shape.Idx S4x128x128) :
    (outsAt0 m c t.val t.isLt).2.2.1 y = gbT m c t (fun _ => 0) y := by
  rw [outsAt0_A m c t hA]
  frame_open
  simp (disch := decide) only [↓ View.readCov_skip, ↓ View.readCov_cons_toLoadRect, ↓ View.readCov_fill]
  frame_out
  refine View.canon_append_of_piecesOf _ [_, _, _, _, _, _, _, _, _, _, _, _, _] [_, _, _, _] ⟨fun x => ?_, fun x => ?_, fun x => ?_, fun x => ?_, trivial⟩ y (View.cover_of_tiledBy _ ![1, 128, 128] (by sl_kernel_rfl) _)
  all_goals
    idx_vars x
  on_goal 1 => refine Eq.trans ?_ (congrArg (gbT m c t _) (show _ = ix3 (3 : Fin 4) x1 x2 by blk_ext [])).symm
  on_goal 2 => refine Eq.trans ?_ (congrArg (gbT m c t _) (show _ = ix3 (2 : Fin 4) x1 x2 by blk_ext [])).symm
  on_goal 3 => refine Eq.trans ?_ (congrArg (gbT m c t _) (show _ = ix3 (1 : Fin 4) x1 x2 by blk_ext [])).symm
  on_goal 4 => refine Eq.trans ?_ (congrArg (gbT m c t _) (show _ = ix3 (0 : Fin 4) x1 x2 by blk_ext [])).symm
  all_goals
    open_payloads
    pointwise
    simp only [Cert.Gmlp.fold_th, Cert.Gmlp.fold_gel, Cert.Gmlp.fold_fac, Cert.Gmlp.fold_mean, Cert.Gmlp.fold_rs]
    try simp only [Memref.IsWhole.read_unread]
    simp only [gbT, four, zero_add, ix3_0, ix3_1, ix3_2, col_0, col_1, col_2, col_3, Loads.gb, Loads.ds, Ld, ρ0, ρ1, ρ2, ρ3]

end Cert.GmlpIdeal.Value

end
-- ==== Proof.Parts.GmlpRows.lean ====
module

public import proofs.«01_k».proof.Proof.Gen.GmlpIdeal.Frame
public import Idealize.ShloMosaic.Lib.Pipeline.ValueKit
public import Idealize.ShloMosaic.Lib.Pointwise
public import Idealize.ShloMosaic.Lib.Pipeline.ReadBack
public import proofs.«01_k».proof.Proof.Parts.GmlpAcc

@[expose] public section

set_option maxRecDepth 16384

noncomputable section

open Idealize.ShloMosaic Idealize.ShloMosaic.TcCoe Idealize.SL.Sem
open Idealize.ShloMosaic.Pipeline (Dat)

namespace Cert.GmlpIdeal.Value

open Cert.GmlpIdeal Cert.GmlpIdeal.Gen
open Cert.Gmlp (Loads Chunk gp col)

variable (m : (ℓ : Loc nD τ sig) → Buf (Elt Ideal) ℓ)

theorem one_row (y : Shape.Idx S1x512) : y = ix2 (0 : Fin 1) (y 1 : Fin 512) := by
  idx_vars y; exact congrArg (fun a => ix2 a y1) (Subsingleton.elim _ _)

/-- What a point leaves of the gradients of the norm's scale and shift. -/
def lgT (c : Dev nD) (t : Fin cfg0.N) (f : FVec Ideal S1x512 .f32) : FVec Ideal S1x512 .f32 := fun y =>
  four (f y) fun ρ => (Ld m c t ρ).glg (y 1)
def lbT (c : Dev nD) (t : Fin cfg0.N) (f : FVec Ideal S1x512 .f32) : FVec Ideal S1x512 .f32 := fun y =>
  four (f y) fun ρ => (Ld m c t ρ).glb (y 1)

set_option maxHeartbeats 1000000 in
theorem lg_A' (c : Dev nD) (t : Fin cfg0.N) (hA : t.val % 16 = 0) (j : Fin 512) :
    (outsAt0 m c t.val t.isLt).2.2.2.1 (ix2 0 j) = 0
      + (Ld m c t ρ0).glg j + (Ld m c t ρ1).glg j + (Ld m c t ρ2).glg j + (Ld m c t ρ3).glg j := by
  rw [outsAt0_A m c t hA]
  frame_open
  simp (disch := decide) only [↓ View.readCov_skip, ↓ View.readCov_cons_toLoadRect, ↓ View.readCov_fill]
  frame_out
  open_payloads
  pointwise
  simp only [Cert.Gmlp.fold_th, Cert.Gmlp.fold_gel, Cert.Gmlp.fold_fac, Cert.Gmlp.fold_mean, Cert.Gmlp.fold_rs]
  try simp only [Memref.IsWhole.read_unread]
  simp only [zero_add, Loads.glg, Loads.dvn, Loads.dvg, Loads.ds, Loads.xh, Loads.V_fun, Cert.Gmlp.seen, Ld, ρ0, ρ1, ρ2, ρ3]

theorem lg_A (c : Dev nD) (t : Fin cfg0.N) (hA : t.val % 16 = 0) (y : Shape.Idx S1x512) :
    (outsAt0 m c t.val t.isLt).2.2.2.1 y = lgT m c t (fun _ => 0) y := by
  rw [one_row y]; exact lg_A' m c t hA _

set_option maxHeartbeats 1000000 in
theorem lg_B' (c : Dev nD) (t : Fin cfg0.N) (hB : ¬t.val % 16 = 0) (j : Fin 512) :
    (outsAt0 m c t.val t.isLt).2.2.2.1 (ix2 0 j) = (outsAt0 m c (t.val - 1) (by omega)).2.2.2.1 (ix2 0 j)
      + (Ld m c t ρ0).glg j + (Ld m c t ρ1).glg j + (Ld m c t ρ2).glg j + (Ld m c t ρ3).glg j := by
  rw [outsAt0_B m c t hB]
  frame_open
  simp (disch := decide) only [↓ View.readCov_skip, ↓ View.readCov_cons_toLoadRect, ↓ View.readCov_fill]
  frame_out
  open_payloads
  pointwise
  simp only [Cert.Gmlp.fold_th, Cert.Gmlp.fold_gel, Cert.Gmlp.fold_fac, Cert.Gmlp.fold_mean, Cert.Gmlp.fold_rs]
  try simp only [Memref.IsWhole.read_unread]
  simp only [Loads.glg, Loads.dvn, Loads.dvg, Loads.ds, Loads.xh, Loads.V_fun, Cert.Gmlp.seen, Ld, ρ0, ρ1, ρ2, ρ3]

theorem lg_B (c : Dev nD) (t : Fin cfg0.N) (hB : ¬t.val % 16 = 0) (y : Shape.Idx S1x512) :
    (outsAt0 m c t.val t.isLt).2.2.2.1 y = lgT m c t (outsAt0 m c (t.val - 1) (by omega)).2.2.2.1 y := by
  rw [one_row y]; exact lg_B' m c t hB _

set_option maxHeartbeats 1000000 in
theorem lb_A' (c : Dev nD) (t : Fin cfg0.N) (hA : t.val % 16 = 0) (j : Fin 512) :
    (outsAt0 m c t.val t.isLt).2.2.2.2 (ix2 0 j) = 0
      + (Ld m c t ρ0).glb j + (Ld m c t ρ1).glb j + (Ld m c t ρ2).glb j + (Ld m c t ρ3).glb j := by
  rw [outsAt0_A m c t hA]
  frame_open
  simp (disch := decide) only [↓ View.readCov_skip, ↓ View.readCov_cons_toLoadRect, ↓ View.readCov_fill]
  frame_out
  open_payloads
  pointwise
  simp only [Cert.Gmlp.fold_th, Cert.Gmlp.fold_gel, Cert.Gmlp.fold_fac, Cert.Gmlp.fold_mean, Cert.Gmlp.fold_rs]
  try simp only [Memref.IsWhole.read_unread]
  simp only [zero_add, Loads.glb, Loads.dvn, Loads.dvg, Loads.ds, Loads.xh, Loads.V_fun, Cert.Gmlp.seen, Ld, ρ0, ρ1, ρ2, ρ3]

theorem lb_A (c : Dev nD) (t : Fin cfg0.N) (hA : t.val % 16 = 0) (y : Shape.Idx S1x512) :
    (outsAt0 m c t.val t.isLt).2.2.2.2 y = lbT m c t (fun _ => 0) y := by
  rw [one_row y]; exact lb_A' m c t hA _

set_option maxHeartbeats 1000000 in
theorem lb_B' (c : Dev nD) (t : Fin cfg0.N) (hB : ¬t.val % 16 = 0) (j : Fin 512) :
    (outsAt0 m c t.val t.isLt).2.2.2.2 (ix2 0 j) = (outsAt0 m c (t.val - 1) (by omega)).2.2.2.2 (ix2 0 j)
      + (Ld m c t ρ0).glb j + (Ld m c t ρ1).glb j + (Ld m c t ρ2).glb j + (Ld m c t ρ3).glb j := by
  rw [outsAt0_B m c t hB]
  frame_open
  simp (disch := decide) only [↓ View.readCov_skip, ↓ View.readCov_cons_toLoadRect, ↓ View.readCov_fill]
  frame_out
  open_payloads
  pointwise
  simp only [Cert.Gmlp.fold_th, Cert.Gmlp.fold_gel, Cert.Gmlp.fold_fac, Cert.Gmlp.fold_mean, Cert.Gmlp.fold_rs]
  try simp only [Memref.IsWhole.read_unread]
  simp only [Loads.glb, Loads.dvn, Loads.dvg, Loads.ds, Loads.xh, Loads.V_fun, Cert.Gmlp.seen, Ld, ρ0, ρ1, ρ2, ρ3]

theorem lb_B (c : Dev nD) (t : Fin cfg0.N) (hB : ¬t.val % 16 = 0) (y : Shape.Idx S1x512) :
    (outsAt0 m c t.val t.isLt).2.2.2.2 y = lbT m c t (outsAt0 m c (t.val - 1) (by omega)).2.2.2.2 y := by
  rw [one_row y]; exact lb_B' m c t hB _

end Cert.GmlpIdeal.Value

end
-- ==== Proof.Parts.GmlpDp.lean ====
module

public import proofs.«01_k».proof.Proof.Gen.GmlpIdeal.Frame
public import Idealize.ShloMosaic.Lib.Pipeline.ValueKit
public import Idealize.ShloMosaic.Lib.Pointwise
public import Idealize.ShloMosaic.Lib.Pipeline.ReadBack
public import proofs.«01_k».proof.Proof.Parts.GmlpLoads

@[expose] public section

set_option maxRecDepth 16384

noncomputable section

open Idealize.ShloMosaic Idealize.ShloMosaic.TcCoe Idealize.SL.Sem
open Idealize.ShloMosaic.Pipeline (Dat)

namespace Cert.GmlpIdeal.Value

open Cert.GmlpIdeal Cert.GmlpIdeal.Gen
open Cert.Gmlp (Loads Chunk gp col)

variable (m : (ℓ : Loc nD τ sig) → Buf (Elt Ideal) ℓ)

/-- A point's block of the projection's gradient. -/
def dpT (c : Dev nD) (t : Fin cfg0.N) : FVec Ideal S512x1024 .bf16 := fun y =>
  have h0 : (y 0).val < 512 := (y 0).isLt
  have h1 : (y 1).val < 1024 := (y 1).isLt
  if h : (y 1).val < 512 then (Kd m c (ex t) (ch t ⟨(y 0).val / 128, by omega⟩)).dpu ⟨(y 1).val / 128, by omega⟩ ⟨(y 0).val % 128, by omega⟩ ⟨(y 1).val, h⟩
  else (Kd m c (ex t) (ch t ⟨(y 0).val / 128, by omega⟩)).dpv ⟨(y 0).val % 128, by omega⟩ ⟨(y 1).val - 512, by omega⟩

theorem piece_u (c : Dev nD) (t : Fin cfg0.N) (y : Shape.Idx S512x1024) (q g : Fin 4) (ρ : Fin 128 → Fin 512) (r k : Fin 128) (l : Fin 512)
    (hr : (y 0).val = q.val * 128 + r.val) (hk : (y 1).val = g.val * 128 + k.val) (hρ : ∀ r, (ρ r).val = q.val * 128 + r.val) (hl : l.val = g.val * 128 + k.val)
    {z : EReal} (hz : z = (Ld m c t ρ).dpu g r l) : z = dpT m c t y := by
  have h : (y 1).val < 512 := by omega
  rw [hz, Ld_eq m c t q ρ hρ]
  refine Eq.trans ?_ (dif_pos h).symm
  rw [show (⟨(y 0).val / 128, by omega⟩ : Fin 4) = q from Fin.ext (by dsimp only; omega),
    show (⟨(y 1).val / 128, by omega⟩ : Fin 4) = g from Fin.ext (by dsimp only; omega),
    show (⟨(y 0).val % 128, by omega⟩ : Fin 128) = r from Fin.ext (by dsimp only; omega),
    show (⟨(y 1).val, h⟩ : Fin 512) = l from Fin.ext (by dsimp only; omega)]

theorem piece_v (c : Dev nD) (t : Fin cfg0.N) (y : Shape.Idx S512x1024) (q : Fin 4) (ρ : Fin 128 → Fin 512) (r : Fin 128) (k : Fin 512)
    (hr : (y 0).val = q.val * 128 + r.val) (hk : (y 1).val = 512 + k.val) (hρ : ∀ r, (ρ r).val = q.val * 128 + r.val)
    {z : EReal} (hz : z = (Ld m c t ρ).dpv r k) : z = dpT m c t y := by
  have h : ¬(y 1).val < 512 := by omega
  rw [hz, Ld_eq m c t q ρ hρ]
  refine Eq.trans ?_ (dif_neg h).symm
  rw [show (⟨(y 0).val / 128, by omega⟩ : Fin 4) = q from Fin.ext (by dsimp only; omega),
    show (⟨(y 0).val % 128, by omega⟩ : Fin 128) = r from Fin.ext (by dsimp only; omega),
    show (⟨(y 1).val - 512, by omega⟩ : Fin 512) = k from Fin.ext (by dsimp only; omega)]

set_option maxHeartbeats 8000000 in
theorem dp_at (c : Dev nD) (t : Fin cfg0.N) : (outsAt0 m c t.val t.isLt).1 = dpT m c t := by
  funext y
  by_cases hB : t.val % 16 = 0
  on_goal 1 => rw [outsAt0_A m c t hB]
  on_goal 2 => rw [outsAt0_B m c t hB]
  all_goals
    frame_open
    simp (disch := decide) only [↓ View.readCov_skip, ↓ View.readCov_cons_toLoadRect, ↓ View.readCov_fill]
    frame_out
    canon_tiles x h using (View.cover_of_tiledBy _ ![128, 128] (by sl_kernel_rfl) _)
  all_goals
    idx_vars x
    open_payloads
    pointwise
    simp only [Cert.Gmlp.fold_th, Cert.Gmlp.fold_gel, Cert.Gmlp.fold_fac, Cert.Gmlp.fold_mean, Cert.Gmlp.fold_rs]
    try simp only [Memref.IsWhole.read_unread]
    first
      | (have e0 : (y 0).val = 0 * 128 + x0.val := by omega
         first
          | (refine piece_v m c t y 0 ρ0 x0 x1 e0 h1 (fun r => by show r.val = 0 * 128 + r.val; omega) ?_
             simp only [Loads.dpv, Loads.dv, Loads.dxh_fun, Loads.dvn, Loads.dvg, Loads.ds, Loads.xh, Loads.V_fun, Cert.Gmlp.seen, Ld, ρ0])
          | (refine piece_u m c t y 0 0 ρ0 x0 x1 ⟨x1.val, by omega⟩ e0 (show (y 1).val = 0 * 128 + x1.val by omega) (fun r => by show r.val = 0 * 128 + r.val; omega) (by show x1.val = 0 * 128 + x1.val; omega) ?_
             simp only [Loads.dpu, Loads.s, Loads.vn, Loads.xh, Loads.V_fun, Cert.Gmlp.seen, Ld, ρ0])
          | (refine piece_u m c t y 0 1 ρ0 x0 x1 ⟨128 + x1.val, by omega⟩ e0 (show (y 1).val = 1 * 128 + x1.val by omega) (fun r => by show r.val = 0 * 128 + r.val; omega) rfl ?_
             simp only [Loads.dpu, Loads.s, Loads.vn, Loads.xh, Loads.V_fun, Cert.Gmlp.seen, Ld, ρ0])
          | (refine piece_u m c t y 0 2 ρ0 x0 x1 ⟨256 + x1.val, by omega⟩ e0 (show (y 1).val = 2 * 128 + x1.val by omega) (fun r => by show r.val = 0 * 128 + r.val; omega) rfl ?_
             simp only [Loads.dpu, Loads.s, Loads.vn, Loads.xh, Loads.V_fun, Cert.Gmlp.seen, Ld, ρ0])
          | (refine piece_u m c t y 0 3 ρ0 x0 x1 ⟨384 + x1.val, by omega⟩ e0 (show (y 1).val = 3 * 128 + x1.val by omega) (fun r => by show r.val = 0 * 128 + r.val; omega) rfl ?_
             simp only [Loads.dpu, Loads.s, Loads.vn, Loads.xh, Loads.V_fun, Cert.Gmlp.seen, Ld, ρ0]))
      | (have e0 : (y 0).val = 1 * 128 + x0.val := by omega
         first
          | (refine piece_v m c t y 1 ρ1 x0 x1 e0 h1 (fun r => rfl) ?_
             simp only [Loads.dpv, Loads.dv, Loads.dxh_fun, Loads.dvn, Loads.dvg, Loads.ds, Loads.xh, Loads.V_fun, Cert.Gmlp.seen, Ld, ρ1])
          | (refine piece_u m c t y 1 0 ρ1 x0 x1 ⟨x1.val, by omega⟩ e0 (show (y 1).val = 0 * 128 + x1.val by omega) (fun r => rfl) (by show x1.val = 0 * 128 + x1.val; omega) ?_
             simp only [Loads.dpu, Loads.s, Loads.vn, Loads.xh, Loads.V_fun, Cert.Gmlp.seen, Ld, ρ1])
          | (refine piece_u m c t y 1 1 ρ1 x0 x1 ⟨128 + x1.val, by omega⟩ e0 (show (y 1).val = 1 * 128 + x1.val by omega) (fun r => rfl) rfl ?_
             simp only [Loads.dpu, Loads.s, Loads.vn, Loads.xh, Loads.V_fun, Cert.Gmlp.seen, Ld, ρ1])
          | (refine piece_u m c t y 1 2 ρ1 x0 x1 ⟨256 + x1.val, by omega⟩ e0 (show (y 1).val = 2 * 128 + x1.val by omega) (fun r => rfl) rfl ?_
             simp only [Loads.dpu, Loads.s, Loads.vn, Loads.xh, Loads.V_fun, Cert.Gmlp.seen, Ld, ρ1])
          | (refine piece_u m c t y 1 3 ρ1 x0 x1 ⟨384 + x1.val, by omega⟩ e0 (show (y 1).val = 3 * 128 + x1.val by omega) (fun r => rfl) rfl ?_
             simp only [Loads.dpu, Loads.s, Loads.vn, Loads.xh, Loads.V_fun, Cert.Gmlp.seen, Ld, ρ1]))
      | (have e0 : (y 0).val = 2 * 128 + x0.val := by omega
         first
          | (refine piece_v m c t y 2 ρ2 x0 x1 e0 h1 (fun r => rfl) ?_
             simp only [Loads.dpv, Loads.dv, Loads.dxh_fun, Loads.dvn, Loads.dvg, Loads.ds, Loads.xh, Loads.V_fun, Cert.Gmlp.seen, Ld, ρ2])
          | (refine piece_u m c t y 2 0 ρ2 x0 x1 ⟨x1.val, by omega⟩ e0 (show (y 1).val = 0 * 128 + x1.val by omega) (fun r => rfl) (by show x1.val = 0 * 128 + x1.val; omega) ?_
             simp only [Loads.dpu, Loads.s, Loads.vn, Loads.xh, Loads.V_fun, Cert.Gmlp.seen, Ld, ρ2])
          | (refine piece_u m c t y 2 1 ρ2 x0 x1 ⟨128 + x1.val, by omega⟩ e0 (show (y 1).val = 1 * 128 + x1.val by omega) (fun r => rfl) rfl ?_
             simp only [Loads.dpu, Loads.s, Loads.vn, Loads.xh, Loads.V_fun, Cert.Gmlp.seen, Ld, ρ2])
          | (refine piece_u m c t y 2 2 ρ2 x0 x1 ⟨256 + x1.val, by omega⟩ e0 (show (y 1).val = 2 * 128 + x1.val by omega) (fun r => rfl) rfl ?_
             simp only [Loads.dpu, Loads.s, Loads.vn, Loads.xh, Loads.V_fun, Cert.Gmlp.seen, Ld, ρ2])
          | (refine piece_u m c t y 2 3 ρ2 x0 x1 ⟨384 + x1.val, by omega⟩ e0 (show (y 1).val = 3 * 128 + x1.val by omega) (fun r => rfl) rfl ?_
             simp only [Loads.dpu, Loads.s, Loads.vn, Loads.xh, Loads.V_fun, Cert.Gmlp.seen, Ld, ρ2]))
      | (have e0 : (y 0).val = 3 * 128 + x0.val := by omega
         first
          | (refine piece_v m c t y 3 ρ3 x0 x1 e0 h1 (fun r => rfl) ?_
             simp only [Loads.dpv, Loads.dv, Loads.dxh_fun, Loads.dvn, Loads.dvg, Loads.ds, Loads.xh, Loads.V_fun, Cert.Gmlp.seen, Ld, ρ3])
          | (refine piece_u m c t y 3 0 ρ3 x0 x1 ⟨x1.val, by omega⟩ e0 (show (y 1).val = 0 * 128 + x1.val by omega) (fun r => rfl) (by show x1.val = 0 * 128 + x1.val; omega) ?_
             simp only [Loads.dpu, Loads.s, Loads.vn, Loads.xh, Loads.V_fun, Cert.Gmlp.seen, Ld, ρ3])
          | (refine piece_u m c t y 3 1 ρ3 x0 x1 ⟨128 + x1.val, by omega⟩ e0 (show (y 1).val = 1 * 128 + x1.val by omega) (fun r => rfl) rfl ?_
             simp only [Loads.dpu, Loads.s, Loads.vn, Loads.xh, Loads.V_fun, Cert.Gmlp.seen, Ld, ρ3])
          | (refine piece_u m c t y 3 2 ρ3 x0 x1 ⟨256 + x1.val, by omega⟩ e0 (show (y 1).val = 2 * 128 + x1.val by omega) (fun r => rfl) rfl ?_
             simp only [Loads.dpu, Loads.s, Loads.vn, Loads.xh, Loads.V_fun, Cert.Gmlp.seen, Ld, ρ3])
          | (refine piece_u m c t y 3 3 ρ3 x0 x1 ⟨384 + x1.val, by omega⟩ e0 (show (y 1).val = 3 * 128 + x1.val by omega) (fun r => rfl) rfl ?_
             simp only [Loads.dpu, Loads.s, Loads.vn, Loads.xh, Loads.V_fun, Cert.Gmlp.seen, Ld, ρ3]))

end Cert.GmlpIdeal.Value

end
-- ==== Proof.Parts.Gmlp.lean ====
module

public import proofs.«01_k».proof.Proof.Gen.GmlpIdeal.Frame
public import Idealize.ShloMosaic.Lib.Pipeline.ValueKit
public import Idealize.ShloMosaic.Lib.Pointwise
public import Idealize.ShloMosaic.Lib.Pipeline.ReadBack
public import proofs.«01_k».proof.Proof.Parts.GmlpRows
public import proofs.«01_k».proof.Proof.Parts.GmlpDp

@[expose] public section

set_option maxRecDepth 16384

noncomputable section

open Idealize.ShloMosaic Idealize.ShloMosaic.TcCoe Idealize.SL.Sem
open Idealize.ShloMosaic.Pipeline (Dat)

namespace Cert.GmlpIdeal.Value

open Cert.GmlpIdeal Cert.GmlpIdeal.Gen
open Cert.Gmlp (Loads Chunk gp col)

variable (m : (ℓ : Loc nD τ sig) → Buf (Elt Ideal) ℓ)

theorem four_eq (f : EReal) (p : (Fin 128 → Fin 512) → EReal) : four f p = f + (p ρ0 + p ρ1 + p ρ2 + p ρ3) := by
  simp only [four, add_assoc]

/-- A sum over the points and their four chunks is one over the examples and their chunks. -/
theorem sum_chunks {M : Type} [AddCommMonoid M] (F : Fin 4 → Fin 16 → M) :
    ∑ t : Fin cfg0.N, (F (ex t) (ch t 0) + F (ex t) (ch t 1) + F (ex t) (ch t 2) + F (ex t) (ch t 3)) = ∑ b : Fin 4, ∑ n : Fin 16, F b n := by
  refine (show ∑ t : Fin cfg0.N, _ = ∑ t : Fin 16, (F (ex t) (ch t 0) + F (ex t) (ch t 1) + F (ex t) (ch t 2) + F (ex t) (ch t 3)) from rfl).trans ?_
  simp only [Fin.sum_univ_succ, Finset.univ_eq_empty, Finset.sum_empty, add_zero]
  simp only [add_assoc]
  rfl

variable (c : Dev nD)

/-- The sum of a chunk's part over the examples and the chunks. -/
def all (p : Loads → EReal) : EReal := ∑ b : Fin 4, ∑ n : Fin 16, p (Kd m c b n)

/-- A point's four chunks of a part. -/
def part (p : Loads → EReal) (t : Fin cfg0.N) : EReal := p (Ld m c t ρ0) + p (Ld m c t ρ1) + p (Ld m c t ρ2) + p (Ld m c t ρ3)

theorem sum_all (p : Loads → EReal) : ∑ t : Fin cfg0.N, part m c p t = all m c p := by
  unfold part
  rw [all, ← sum_chunks fun b n => p (Kd m c b n)]
  refine Finset.sum_congr rfl fun t _ => ?_
  rw [Ld_eq m c t 0 ρ0 fun r => by show r.val = 0 * 128 + r.val; omega, Ld_eq m c t 1 ρ1 fun r => rfl, Ld_eq m c t 2 ρ2 fun r => rfl, Ld_eq m c t 3 ρ3 fun r => rfl]

def RES_8 : FVec Ideal S4x128x128 .f32 := fun y => all m c fun L => L.gw (col (y 0)) (y 1) (y 2)
def RES_9 : FVec Ideal S4x128x128 .f32 := fun y => all m c fun L => L.gb (col (y 0)) (y 1)
def RES_10 : FVec Ideal S1x512 .f32 := fun y => all m c fun L => L.glg (y 1)
def RES_11 : FVec Ideal S1x512 .f32 := fun y => all m c fun L => L.glb (y 1)

/-- An accumulator's last contents. -/
theorem last_of {ι : Type} (f : (n : ℕ) → n < cfg0.N → ι → EReal) (p : ι → Loads → EReal)
    (hA : ∀ t : Fin cfg0.N, t.val % 16 = 0 → ∀ y, f t.val t.isLt y = four 0 fun ρ => p y (Ld m c t ρ))
    (hB : ∀ t : Fin cfg0.N, ¬t.val % 16 = 0 → ∀ y, f t.val t.isLt y = four (f (t.val - 1) (by omega) y) fun ρ => p y (Ld m c t ρ))
    (t : Fin cfg0.N) (ht : t.val + 1 = cfg0.N) (y : ι) : f t.val t.isLt y = all m c (p y) := by
  rw [Pipeline.eq_sum_fin_of_reset_step_apply_last f 16 (fun _ => 0) (fun t y => part m c (p y) t)
    (fun t h y => (hA t h y).trans (four_eq _ _)) (fun t h y => (hB t h y).trans (four_eq _ _)) (show cfg0.N ≤ 16 from le_refl 16) t ht y, zero_add]
  exact sum_all m c _

theorem final_8 : (dats m 0 c).arrAt 8 (cfgs 0).N = RES_8 m c := by
  have key := last_of m c (fun n h => (outsAt0 m c n h).2.1) (fun (y : Shape.Idx S4x128x128) L => L.gw (col (y 0)) (y 1) (y 2)) (gw_A m c) (gw_B m c)
  refine (dats m 0 c).arrAt_eq_of_covers 8 _ (by decide +kernel) fun t hf y => ?_
  have hl := (flush0_8 t).mp hf
  blk_simp
  rw [after0_8]
  idx_vars y
  refine (key t (by show t.val + 1 = 16; have : t.val < 16 := t.isLt; omega) _).trans ?_
  exact congrArg (RES_8 m c) (show ix3 y0 y1 y2 = _ by blk_ext [idx_val t])

theorem final_9 : (dats m 0 c).arrAt 9 (cfgs 0).N = RES_9 m c := by
  have key := last_of m c (fun n h => (outsAt0 m c n h).2.2.1) (fun (y : Shape.Idx S4x128x128) L => L.gb (col (y 0)) (y 1)) (gb_A m c) (gb_B m c)
  refine (dats m 0 c).arrAt_eq_of_covers 9 _ (by decide +kernel) fun t hf y => ?_
  have hl := (flush0_9 t).mp hf
  blk_simp
  rw [after0_9]
  idx_vars y
  refine (key t (by show t.val + 1 = 16; have : t.val < 16 := t.isLt; omega) _).trans ?_
  exact congrArg (RES_9 m c) (show ix3 y0 y1 y2 = _ by blk_ext [idx_val t])

theorem final_10 : (dats m 0 c).arrAt 10 (cfgs 0).N = RES_10 m c := by
  have key := last_of m c (fun n h => (outsAt0 m c n h).2.2.2.1) (fun (y : Shape.Idx S1x512) L => L.glg (y 1)) (lg_A m c) (lg_B m c)
  refine (dats m 0 c).arrAt_eq_of_covers 10 _ (by decide +kernel) fun t hf y => ?_
  have hl := (flush0_10 t).mp hf
  blk_simp
  rw [after0_10]
  idx_vars y
  refine (key t (by show t.val + 1 = 16; have : t.val < 16 := t.isLt; omega) _).trans ?_
  exact congrArg (RES_10 m c) (show ix2 y0 y1 = _ by blk_ext [idx_val t])

theorem final_11 : (dats m 0 c).arrAt 11 (cfgs 0).N = RES_11 m c := by
  have key := last_of m c (fun n h => (outsAt0 m c n h).2.2.2.2) (fun (y : Shape.Idx S1x512) L => L.glb (y 1)) (lb_A m c) (lb_B m c)
  refine (dats m 0 c).arrAt_eq_of_covers 11 _ (by decide +kernel) fun t hf y => ?_
  have hl := (flush0_11 t).mp hf
  blk_simp
  rw [after0_11]
  idx_vars y
  refine (key t (by show t.val + 1 = 16; have : t.val < 16 := t.isLt; omega) _).trans ?_
  exact congrArg (RES_11 m c) (show ix2 y0 y1 = _ by blk_ext [idx_val t])

/-- The projection's gradient: the two branches' columns, what the buffer held after them. -/
def RES_7 : FVec Ideal S8192x6144 .bf16 := fun y =>
  have h0 : (y 0).val < 8192 := (y 0).isLt
  if h : (y 1).val < 512 then (Kd m c ⟨(y 0).val / 2048, by omega⟩ ⟨(y 0).val % 2048 / 128, by omega⟩).dpu ⟨(y 1).val / 128, by omega⟩ ⟨(y 0).val % 128, by omega⟩ ⟨(y 1).val, h⟩
  else if h' : (y 1).val < 1024 then (Kd m c ⟨(y 0).val / 2048, by omega⟩ ⟨(y 0).val % 2048 / 128, by omega⟩).dpv ⟨(y 0).val % 128, by omega⟩ ⟨(y 1).val - 512, by omega⟩
  else A6 m c (ix3 (⟨(y 0).val / 2048, by omega⟩ : Fin 4) (⟨(y 0).val % 2048, by omega⟩ : Fin 2048) (y 1))

theorem final_7 : (dats m 0 c).arrAt 7 (cfgs 0).N = RES_7 m c := by
  have key : (dats m 0 c).arrAt 7 (cfgs 0).N = fun i => if (i 1).val < 1024 then RES_7 m c i else V m c main_v9_0 i := by
    refine (dats m 0 c).arrAt_eq_of_coversWhere 7 _ (fun β => β (1 : Fin 2) < 1) (by decide +kernel)
      (fun t hf y => ?_) (fun j => by blk_simp [Pipeline.Window.cell_apply]; omega)
    blk_simp
    rw [after0_7, dp_at]
    idx_vars y
    rw [show ((cfg0.win 7).blk t).view.emb (ix2 y0 y1) = ix2 (⟨512 * t.val + y0.val, by have : t.val < 16 := t.isLt; omega⟩ : Fin 8192) (⟨y1.val, by omega⟩ : Fin 6144) by blk_ext [idx_val t]]
    have e1 : (⟨(512 * t.val + y0.val) / 2048, by have : t.val < 16 := t.isLt; omega⟩ : Fin 4) = ex t := Fin.ext (by dsimp only; omega)
    have e2 : (⟨(512 * t.val + y0.val) % 2048 / 128, by omega⟩ : Fin 16) = ch t ⟨y0.val / 128, by omega⟩ := Fin.ext (by dsimp only; omega)
    have e3 : (⟨(512 * t.val + y0.val) % 128, by omega⟩ : Fin 128) = ⟨y0.val % 128, by omega⟩ := Fin.ext (by dsimp only; omega)
    simp only [RES_7, dpT, ix2_0, ix2_1, e1, e2, e3]
    by_cases h : y1.val < 512
    · simp only [h, ↓reduceDIte]
    · simp only [h, y1.isLt, ↓reduceDIte]
  rw [key]
  funext y
  by_cases h : (y 1).val < 1024
  · exact if_pos h
  · refine (if_neg h).trans ?_
    idx_vars y
    have h1 : ¬y1.val < 1024 := h
    have h2 : ¬y1.val < 512 := by omega
    simp only [RES_7, ix2_0, ix2_1, h1, h2, ↓reduceDIte]
    entry_read; pointwise

end Cert.GmlpIdeal.Value

end
-- ==== Proof.Parts.GmlpRef.lean ====
module

public import proofs.«01_k».proof.Proof.Gen.GmlpRefIdeal.Read
public import proofs.«01_k».proof.Proof.Parts.GmlpMath

/-! The reference's gradients of the spatial gating on arrays of reals, chunk by chunk. -/

@[expose] public section

set_option maxRecDepth 16384

noncomputable section

open Idealize.ShloMosaic

namespace Cert.GmlpRef

open Cert.GmlpRefIdeal Cert.GmlpRefIdeal.Read Cert.Gmlp Finset

theorem zero_const (i : S_.Idx) : constant (F := Ideal) S_ .f32 0#32 i = 0 := by
  show Ideal.ofBits .f32 0#32 = 0
  simp [Ideal.ofBits, Ideal.ieee]
theorem dividend_eq : Ideal.ofBits .f32 1194240768#32 = ((44715 : ℝ) : EReal) := by
  simp [Ideal.ofBits, Ideal.ieee]; rw [← EReal.coe_mul]; norm_num
theorem divisor_eq : Ideal.ofBits .f32 1232348160#32 = ((1000000 : ℝ) : EReal) := by
  simp [Ideal.ofBits, Ideal.ieee]; rw [← EReal.coe_mul]; norm_num
theorem cubic_u (i : S_.Idx) : val_main_v2 (F := Ideal) i = ((8943 / 200000 : ℝ) : EReal) := by
  pointwise [val_main_v2, val_main_cst, val_main_cst_0]
  rw [dividend_eq, divisor_eq, Ideal.div_coe (by norm_num), ← EReal.coe_mul]
  exact congrArg _ (by norm_num)
theorem cubic_v (i : S_.Idx) : val_main_v24 (F := Ideal) i = ((8943 / 200000 : ℝ) : EReal) := by
  pointwise [val_main_v24, val_main_cst_7, val_main_cst_8]
  rw [dividend_eq, divisor_eq, Ideal.div_coe (by norm_num), ← EReal.coe_mul]
  exact congrArg _ (by norm_num)

/-- A row of chunk `n`. -/
abbrev rw' (n : Fin 16) (r : Fin 128) : Fin 2048 := ⟨n.val * 128 + r.val, by omega⟩

variable (X0 : S4x2048x6144.Idx → ℝ) (X1 : S4x2048x512.Idx → ℝ) (X2 X3 : S512.Idx → ℝ) (X4 : S4x128x128.Idx → ℝ) (X5 : S4x128.Idx → ℝ)

/-- Chunk `n` of example `b`. -/
def C (b : Fin 4) (n : Fin 16) : Chunk where
  u r k := X0 (ix3 b (rw' n r) ⟨k.val, by omega⟩)
  v r k := X0 (ix3 b (rw' n r) ⟨512 + k.val, by omega⟩)
  d r k := X1 (ix3 b (rw' n r) k)
  w g i j := X4 (ix3 g i j)
  bs i g := X5 (ix2 g i)
  lg k := X2 (ix1 k)
  lb k := X3 (ix1 k)

/-- Reals as extended reals. -/
abbrev up {s : Shape} (P : s.Idx → ℝ) : s.Idx → EReal := fun i => ((P i : ℝ) : EReal)

variable (b : Fin 4) (n : Fin 16) (r : Fin 128) (k : Fin 512) (g : Fin 4) (j : Fin 128)

theorem th_u : val_main_v13 (F := Ideal) (up X0) (ix3 b (rw' n r) k) = ((th ((C X0 X1 X2 X3 X4 X5 b n).u r k) : ℝ) : EReal) := by
  pointwise [val_main_v13, val_main_v12, val_main_v11, val_main_v10, val_main_v9, val_main_v8, val_main_v4, val_main_v3, val_main_v0, val_main_cst_2]
  simp only [cubic_u, cc_eq, ← EReal.coe_mul, ← EReal.coe_add, Ideal.tanh_coe]
  rfl
theorem th_v : val_main_v35 (F := Ideal) (up X0) (ix3 b (rw' n r) k) = ((th ((C X0 X1 X2 X3 X4 X5 b n).v r k) : ℝ) : EReal) := by
  pointwise [val_main_v35, val_main_v34, val_main_v33, val_main_v32, val_main_v31, val_main_v30, val_main_v26, val_main_v25, val_main_v1, val_main_cst_10]
  simp only [cubic_v, cc_eq, ← EReal.coe_mul, ← EReal.coe_add, Ideal.tanh_coe]
  rfl
theorem gu_at : val_main_v23 (F := Ideal) (up X0) (ix3 b (rw' n r) k) = ((gel ((C X0 X1 X2 X3 X4 X5 b n).u r k) : ℝ) : EReal) := by
  pointwise [val_main_v23, val_main_v22, val_main_v21, val_main_v20, val_main_v19, val_main_v0, val_main_cst_5, val_main_cst_6]
  rw [th_u X0 X1 X2 X3 X4 X5, half_eq, ← EReal.coe_one]
  simp only [← EReal.coe_mul, ← EReal.coe_add]
  refine congrArg _ ?_
  unfold gel
  show (C X0 X1 X2 X3 X4 X5 b n).u r k * _ = _
  ring
theorem V_at : val_main_v45 (F := Ideal) (up X0) (ix3 b (rw' n r) k) = (((C X0 X1 X2 X3 X4 X5 b n).V r k : ℝ) : EReal) := by
  pointwise [val_main_v45, val_main_v44, val_main_v43, val_main_v42, val_main_v41, val_main_v1, val_main_cst_13, val_main_cst_14]
  rw [th_v X0 X1 X2 X3 X4 X5, half_eq, ← EReal.coe_one]
  simp only [← EReal.coe_mul, ← EReal.coe_add]
  refine congrArg _ ?_
  unfold Chunk.V gel
  show (C X0 X1 X2 X3 X4 X5 b n).v r k * _ = _
  ring

theorem mean_at (z : Fin 1) : val_main_v49 (F := Ideal) (up X0) (ix3 b (rw' n r) z) = ((mean ((C X0 X1 X2 X3 X4 X5 b n).V r) : ℝ) : EReal) := by
  pointwise [val_main_v49, val_main_v48, val_main_v47, val_main_v46, val_main_cst_15, val_main_cst_16]
  simp only [V_at X0 X1 X2 X3 X4 X5, len_eq, zero_const, zero_add, NormRow.coe_sum]
  rw [Ideal.div_coe (by norm_num), ← EReal.coe_mul]; rfl
theorem xc_at : val_main_v51 (F := Ideal) (up X0) (ix3 b (rw' n r) k)
    = (((C X0 X1 X2 X3 X4 X5 b n).V r k - mean ((C X0 X1 X2 X3 X4 X5 b n).V r) : ℝ) : EReal) := by
  pointwise [val_main_v51, val_main_v50]
  rw [V_at X0 X1 X2 X3 X4 X5, mean_at X0 X1 X2 X3 X4 X5, EReal.coe_sub]
theorem var_at (z : Fin 1) : val_main_v58 (F := Ideal) (up X0) (ix3 b (rw' n r) z) = ((var ((C X0 X1 X2 X3 X4 X5 b n).V r) : ℝ) : EReal) := by
  pointwise [val_main_v58, val_main_v57, val_main_v56, val_main_v55, val_main_v54, val_main_v53, val_main_v52, val_main_cst_17, val_main_cst_18, val_main_cst_19]
  simp only [xc_at X0 X1 X2 X3 X4 X5, len_eq, ee_eq, zero_const, zero_add, ← EReal.coe_mul, NormRow.coe_sum]
  rw [Ideal.div_coe (by norm_num), ← EReal.coe_mul, ← EReal.coe_add]; rfl
theorem rs_at (z : Fin 1) : val_main_v59 (F := Ideal) (up X0) (ix3 b (rw' n r) z) = ((rs ((C X0 X1 X2 X3 X4 X5 b n).V r) : ℝ) : EReal) := by
  pointwise [val_main_v59]
  rw [var_at X0 X1 X2 X3 X4 X5]
  exact NormRow.rsqrt_pos (var_pos _)
theorem slope_at (z : Fin 1) : val_main_v62 (F := Ideal) (up X0) (ix3 b (rw' n r) z)
    = ((-(1 / 2) * (rs ((C X0 X1 X2 X3 X4 X5 b n).V r) * (1 / var ((C X0 X1 X2 X3 X4 X5 b n).V r))) : ℝ) : EReal) := by
  pointwise [val_main_v62, val_main_v61, val_main_v60, val_main_cst_20]
  rw [var_at X0 X1 X2 X3 X4 X5, rs_at X0 X1 X2 X3 X4 X5, neg_half_eq, Ideal.div_coe (var_pos _).ne', ← EReal.coe_mul, ← EReal.coe_mul]
theorem xh_at : val_main_v64 (F := Ideal) (up X0) (ix3 b (rw' n r) k) = (((C X0 X1 X2 X3 X4 X5 b n).xh r k : ℝ) : EReal) := by
  pointwise [val_main_v64, val_main_v63]
  rw [xc_at X0 X1 X2 X3 X4 X5, rs_at X0 X1 X2 X3 X4 X5, ← EReal.coe_mul]; rfl
theorem vn_at : val_main_v70 (F := Ideal) (up X0) (up X2) (up X3) (ix3 b (rw' n r) k) = (((C X0 X1 X2 X3 X4 X5 b n).vn r k : ℝ) : EReal) := by
  pointwise [val_main_v70, val_main_v69, val_main_v68, val_main_v67, val_main_v66, val_main_v65]
  rw [xh_at X0 X1 X2 X3 X4 X5, ← EReal.coe_mul, ← EReal.coe_add]; rfl

theorem mask_at (i i' : Fin 128) : val_main_v75_1 (F := Ideal) (ix3 g i i') = BitVec.ofBool (decide (i' ≤ i)) := by
  pointwise [val_main_v75_1, val_main_v74, val_main_v73, val_main_v72, val_main_c, val_main_call0_v4, val_main_call0_v2, val_main_call0_v0, val_main_call0_v1, val_main_call0_c, val_main_call0_v3, val_main_call0_v5, val_main_call0_c_0]
  rw [show IntOp.addi (BitVec.ofNat 32 i.val) 0#32 = BitVec.ofNat 32 i.val from BitVec.add_zero _, WordCmp.cmpi_sge_ofNat (by omega) (by omega), Cert.SbIdeal.Step.select_ofBool]
  show (if _ then 1#1 else 0#1) = BitVec.ofBool (decide (i'.val ≤ i.val))
  by_cases h : i'.val ≤ i.val <;> simp [h]
theorem div_row {m : ℕ} (x : Fin m) (y : Fin 128) (h) : (⟨(x.val * 128 + y.val) / 128, h⟩ : Fin m) = x := Fin.ext (by show (x.val * 128 + y.val) / 128 = x.val; omega)
theorem mod_row (x : ℕ) (y : Fin 128) (h) : (⟨(x * 128 + y.val) % 128, h⟩ : Fin 128) = y := Fin.ext (by show (x * 128 + y.val) % 128 = y.val; omega)
theorem wm_at (i i' : Fin 128) : val_main_v75_0 (F := Ideal) (up X4) (ix3 g i i') = (((C X0 X1 X2 X3 X4 X5 b n).wm g i i' : ℝ) : EReal) := by
  pointwise [val_main_v75_0, val_main_call1_v2, val_main_call1_v0, val_main_cst_21]
  rw [mask_at, Cert.SbIdeal.Step.select_ofBool, Chunk.wm]
  split_ifs
  · rfl
  · exact zero_const _
theorem vnc_at : val_main_v71 (F := Ideal) (up X0) (up X2) (up X3) (ix5 b n r g j) = (((C X0 X1 X2 X3 X4 X5 b n).vn r (col g j) : ℝ) : EReal) := by
  pointwise [val_main_v71]
  exact vn_at X0 X1 X2 X3 X4 X5 b n r (col g j)
theorem gp_col : gp (col g j) = g := div_row g j _
theorem col_gp : col (gp k) ⟨k.val % 128, by omega⟩ = k := Fin.ext (by show k.val / 128 * 128 + k.val % 128 = k.val; omega)
theorem sc_at : val_main_v83 (F := Ideal) (up X0) (up X2) (up X3) (up X4) (up X5) (ix3 b (rw' n r) (col g j)) = (((C X0 X1 X2 X3 X4 X5 b n).s r (col g j) : ℝ) : EReal) := by
  pointwise [val_main_v83, val_main_v82, val_main_v81, val_main_v80, val_main_v79, val_main_v78, val_main_v77, val_main_v76]
  simp only [div_row, mod_row, vnc_at X0 X1 X2 X3 X4 X5, wm_at X0 X1 X2 X3 X4 X5 b n, ← EReal.coe_mul, NormRow.coe_sum, ← EReal.coe_add]
  refine congrArg _ ?_
  rw [Chunk.s, gp_col]
  exact congrArg (· + _) (Finset.sum_congr rfl fun c _ => mul_comm _ _)
theorem ds_at : val_main_v85 (F := Ideal) (up X0) (up X1) (ix3 b (rw' n r) k) = (((C X0 X1 X2 X3 X4 X5 b n).ds r k : ℝ) : EReal) := by
  pointwise [val_main_v85]
  rw [gu_at X0 X1 X2 X3 X4 X5, ← EReal.coe_mul]
  exact congrArg _ (mul_comm _ _)
theorem dsc_at : val_main_v87 (F := Ideal) (up X0) (up X1) (ix5 b n r g j) = (((C X0 X1 X2 X3 X4 X5 b n).ds r (col g j) : ℝ) : EReal) := by
  pointwise [val_main_v87]
  exact ds_at X0 X1 X2 X3 X4 X5 b n r (col g j)
theorem dvn_at : val_main_v99 (F := Ideal) (up X0) (up X1) (up X4) (ix3 b (rw' n r) (col g j)) = (((C X0 X1 X2 X3 X4 X5 b n).dvn r (col g j) : ℝ) : EReal) := by
  pointwise [val_main_v99, val_main_v97, val_main_v96, val_main_v94]
  simp only [div_row, mod_row, dsc_at X0 X1 X2 X3 X4 X5, wm_at X0 X1 X2 X3 X4 X5 b n, ← EReal.coe_mul, NormRow.coe_sum]
  refine congrArg _ ?_
  rw [Chunk.dvn, gp_col]
  exact Finset.sum_congr rfl fun c _ => mul_comm _ _

theorem dvk_at : val_main_v99 (F := Ideal) (up X0) (up X1) (up X4) (ix3 b (rw' n r) k) = (((C X0 X1 X2 X3 X4 X5 b n).dvn r k : ℝ) : EReal) := by
  have h := dvn_at X0 X1 X2 X3 X4 X5 b n r (gp k) ⟨k.val % 128, by omega⟩
  rwa [col_gp] at h
theorem sk_at : val_main_v83 (F := Ideal) (up X0) (up X2) (up X3) (up X4) (up X5) (ix3 b (rw' n r) k) = (((C X0 X1 X2 X3 X4 X5 b n).s r k : ℝ) : EReal) := by
  have h := sc_at X0 X1 X2 X3 X4 X5 b n r (gp k) ⟨k.val % 128, by omega⟩
  rwa [col_gp] at h
theorem dxh_at : val_main_v107 (F := Ideal) (up X0) (up X1) (up X2) (up X4) (ix3 b (rw' n r) k) = (((C X0 X1 X2 X3 X4 X5 b n).dxh r k : ℝ) : EReal) := by
  pointwise [val_main_v107, val_main_v106, val_main_v65]
  rw [dvk_at X0 X1 X2 X3 X4 X5, ← EReal.coe_mul]; rfl
/-- The variance's share of a row. -/
def p (b : Fin 4) (n : Fin 16) (r : Fin 128) : ℝ :=
  (∑ j, ((C X0 X1 X2 X3 X4 X5 b n).V r j - mean ((C X0 X1 X2 X3 X4 X5 b n).V r)) * (C X0 X1 X2 X3 X4 X5 b n).dxh r j)
    * (-(1 / 2) * (rs ((C X0 X1 X2 X3 X4 X5 b n).V r) * (1 / var ((C X0 X1 X2 X3 X4 X5 b n).V r)))) * (1 / 512)
/-- A row's gradient before the mean's share. -/
def z (b : Fin 4) (n : Fin 16) (r : Fin 128) (j : Fin 512) : ℝ :=
  (C X0 X1 X2 X3 X4 X5 b n).dxh r j * rs ((C X0 X1 X2 X3 X4 X5 b n).V r)
    + ((C X0 X1 X2 X3 X4 X5 b n).V r j - mean ((C X0 X1 X2 X3 X4 X5 b n).V r)) * p X0 X1 X2 X3 X4 X5 b n r
    + p X0 X1 X2 X3 X4 X5 b n r * ((C X0 X1 X2 X3 X4 X5 b n).V r j - mean ((C X0 X1 X2 X3 X4 X5 b n).V r))
theorem p_at : val_main_v117 (F := Ideal) (up X0) (up X1) (up X2) (up X4) (ix2 b (rw' n r)) = ((p X0 X1 X2 X3 X4 X5 b n r : ℝ) : EReal) := by
  pointwise [val_main_v117, val_main_v116, val_main_v115, val_main_v114, val_main_v111, val_main_v110, val_main_v109, val_main_cst_29, val_main_cst_30, val_main_cst_31]
  simp only [Fin.sum_univ_one, xc_at X0 X1 X2 X3 X4 X5, dxh_at X0 X1 X2 X3 X4 X5, slope_at X0 X1 X2 X3 X4 X5, len_eq, zero_const, zero_add, ← EReal.coe_mul, NormRow.coe_sum]
  rw [Ideal.div_coe (by norm_num), ← EReal.coe_mul]; rfl
theorem z_at : val_main_v122 (F := Ideal) (up X0) (up X1) (up X2) (up X4) (ix3 b (rw' n r) k) = ((z X0 X1 X2 X3 X4 X5 b n r k : ℝ) : EReal) := by
  pointwise [val_main_v122, val_main_v121, val_main_v120, val_main_v119, val_main_v118, val_main_v113, val_main_v112]
  rw [dxh_at X0 X1 X2 X3 X4 X5, rs_at X0 X1 X2 X3 X4 X5, xc_at X0 X1 X2 X3 X4 X5, p_at X0 X1 X2 X3 X4 X5]
  simp only [← EReal.coe_mul, ← EReal.coe_add]; rfl
theorem dv_at : val_main_v130 (F := Ideal) (up X0) (up X1) (up X2) (up X4) (ix3 b (rw' n r) k) = (((C X0 X1 X2 X3 X4 X5 b n).dv r k : ℝ) : EReal) := by
  pointwise [val_main_v130, val_main_v129, val_main_v128, val_main_v127, val_main_v126, val_main_v125, val_main_v124, val_main_v123, val_main_cst_32, val_main_cst_33, val_main_cst_34]
  simp only [Fin.sum_univ_one, z_at X0 X1 X2 X3 X4 X5, len_eq, zero_const, zero_add, ← EReal.coe_neg, NormRow.coe_sum]
  rw [Ideal.div_coe (by norm_num), ← EReal.coe_mul, ← EReal.coe_add, Chunk.dv_chain]; rfl
theorem dpv_at : val_main_v142 (F := Ideal) (up X0) (up X1) (up X2) (up X4) (ix3 b (rw' n r) k) = (((C X0 X1 X2 X3 X4 X5 b n).dpv r k : ℝ) : EReal) := by
  pointwise [val_main_v142, val_main_v141, val_main_v140, val_main_v139, val_main_v138, val_main_v137, val_main_v136, val_main_v135, val_main_v134, val_main_v133, val_main_v132, val_main_v131, val_main_v44, val_main_v43, val_main_v42, val_main_v41, val_main_v40, val_main_v39, val_main_v38, val_main_v37, val_main_v36, val_main_v29, val_main_v28, val_main_v27, val_main_v1, val_main_cst_9, val_main_cst_11, val_main_cst_12, val_main_cst_13, val_main_cst_14, val_main_cst_35, val_main_cst_36]
  rw [dv_at X0 X1 X2 X3 X4 X5, th_v X0 X1 X2 X3 X4 X5, half_eq, cc_eq, three_eq, cubic_v, ← EReal.coe_one]
  simp only [← EReal.coe_mul, ← EReal.coe_add, ← EReal.coe_sub]
  refine congrArg _ ?_
  rw [Chunk.dpv, fac, show X0 (ix3 b (rw' n r) ⟨512 + k.val, by omega⟩) = (C X0 X1 X2 X3 X4 X5 b n).v r k from rfl]
  ring
theorem dpu_at : val_main_v154 (F := Ideal) (up X0) (up X1) (up X2) (up X3) (up X4) (up X5) (ix3 b (rw' n r) k) = (((C X0 X1 X2 X3 X4 X5 b n).dpu r k : ℝ) : EReal) := by
  pointwise [val_main_v154, val_main_v153, val_main_v152, val_main_v151, val_main_v150, val_main_v149, val_main_v148, val_main_v147, val_main_v146, val_main_v145, val_main_v144, val_main_v143, val_main_v86, val_main_v22, val_main_v21, val_main_v20, val_main_v19, val_main_v18, val_main_v17, val_main_v16, val_main_v15, val_main_v14, val_main_v7, val_main_v6, val_main_v5, val_main_v0, val_main_cst_1, val_main_cst_3, val_main_cst_4, val_main_cst_5, val_main_cst_6, val_main_cst_37, val_main_cst_38]
  rw [sk_at X0 X1 X2 X3 X4 X5, th_u X0 X1 X2 X3 X4 X5, half_eq, cc_eq, three_eq, cubic_u, ← EReal.coe_one]
  simp only [← EReal.coe_mul, ← EReal.coe_add, ← EReal.coe_sub]
  refine congrArg _ ?_
  rw [Chunk.dpu, fac, show X0 (ix3 b (rw' n r) ⟨k.val, by omega⟩) = (C X0 X1 X2 X3 X4 X5 b n).u r k from rfl,
    show X1 (ix3 b (rw' n r) k) = (C X0 X1 X2 X3 X4 X5 b n).d r k from rfl]
  ring

/-! ## Sums over several axes -/

theorem reduce_of {s t : Shape} {axes : List (Fin s.rank)} (h : s.ReducesTo axes t) (x : s.Idx → EReal) (init : EReal) (j : t.Idx)
    {ι : Type} [Fintype ι] (e : ι → s.Idx) (hi : Function.Injective e) (hm : ∀ q, h.drop (e q) = j) (hs : ∀ i, h.drop i = j → ∃ q, e q = i) :
    Ideal.hostReduceAdd h x init j = init + ∑ q, x (e q) := by
  unfold Ideal.hostReduceAdd
  refine congrArg (init + ·) (Finset.sum_bij (fun q _ => e q) ?_ ?_ ?_ ?_).symm
  · exact fun q _ => Finset.mem_filter.2 ⟨Finset.mem_univ _, hm q⟩
  · exact fun _ _ _ _ he => hi he
  · exact fun i hi => (hs i (Finset.mem_filter.1 hi).2).imp fun q hq => ⟨Finset.mem_univ _, hq⟩
  · exact fun _ _ => rfl

/-- The rows are the chunks' rows. -/
theorem sum_rows {M : Type} [AddCommMonoid M] (f : Fin 2048 → M) : ∑ i, f i = ∑ n : Fin 16, ∑ r : Fin 128, f (rw' n r) := by
  rw [← Fintype.sum_prod_type' (f := fun n r => f (rw' n r))]
  refine (Fintype.sum_equiv (finProdFinEquiv (m := 16) (n := 128)) _ _ fun q => ?_).symm
  exact congrArg f (Fin.ext (by show q.1.val * 128 + q.2.val = q.2.val + 128 * q.1.val; omega))

theorem sum_example (x : S4x2048x512.Idx → EReal) (h : S4x2048x512.ReducesTo [0, 1] S512) (init : EReal) (k : Fin 512) :
    Ideal.hostReduceAdd h x init (ix1 k) = init + ∑ b : Fin 4, ∑ n : Fin 16, ∑ r : Fin 128, x (ix3 b (rw' n r) k) := by
  rw [reduce_of h x init (ix1 k) (ι := Fin 4 × Fin 2048) (fun q => ix3 q.1 q.2 k), Fintype.sum_prod_type]
  · exact congrArg (init + ·) (Finset.sum_congr rfl fun b _ => sum_rows _)
  · intro q q' he
    exact Prod.ext (congrFun he 0) (congrFun he 1)
  · intro q
    funext d
    match d with
    | ⟨0, _⟩ => rfl
  · intro i hi
    refine ⟨(i 0, i 1), ?_⟩
    funext d
    match d with
    | ⟨0, _⟩ => rfl
    | ⟨1, _⟩ => rfl
    | ⟨2, _⟩ => exact (congrFun hi 0).symm
theorem sum_unit (x : S1x1x512.Idx → EReal) (h : S1x1x512.ReducesTo [0, 1] S512) (init : EReal) (k : Fin 512) :
    Ideal.hostReduceAdd h x init (ix1 k) = init + x (ix3 0 0 k) := by
  rw [reduce_of h x init (ix1 k) (ι := Fin 1) (fun _ => ix3 0 0 k), Fin.sum_univ_one]
  · exact fun _ _ _ => Subsingleton.elim _ _
  · intro q
    funext d
    match d with
    | ⟨0, _⟩ => rfl
  · intro i hi
    refine ⟨0, ?_⟩
    funext d
    match d with
    | ⟨0, _⟩ => exact Subsingleton.elim (α := Fin 1) _ _
    | ⟨1, _⟩ => exact Subsingleton.elim (α := Fin 1) _ _
    | ⟨2, _⟩ => exact (congrFun hi 0).symm
theorem sum_groups (x : S4x16x128x4x128.Idx → EReal) (h : S4x16x128x4x128.ReducesTo [0, 1, 4] S128x4) (init : EReal) (r : Fin 128) (g : Fin 4) :
    Ideal.hostReduceAdd h x init (ix2 r g) = init + ∑ b : Fin 4, ∑ n : Fin 16, ∑ j : Fin 128, x (ix5 b n r g j) := by
  rw [reduce_of h x init (ix2 r g) (ι := Fin 4 × Fin 16 × Fin 128) (fun q => ix5 q.1 q.2.1 r g q.2.2), Fintype.sum_prod_type]
  · exact congrArg (init + ·) (Finset.sum_congr rfl fun b _ => Fintype.sum_prod_type _)
  · intro q q' he
    exact Prod.ext (congrFun he 0) (Prod.ext (congrFun he 1) (congrFun he 4))
  · intro q
    funext d
    match d with
    | ⟨0, _⟩ => rfl
    | ⟨1, _⟩ => rfl
  · intro i hi
    refine ⟨(i 0, i 1, i 4), ?_⟩
    funext d
    match d with
    | ⟨0, _⟩ => rfl
    | ⟨1, _⟩ => rfl
    | ⟨2, _⟩ => exact (congrFun hi 0).symm
    | ⟨3, _⟩ => exact (congrFun hi 1).symm
    | ⟨4, _⟩ => rfl
theorem sum_ones (x : S1x1x128x4x1.Idx → EReal) (h : S1x1x128x4x1.ReducesTo [0, 1, 4] S128x4) (init : EReal) (r : Fin 128) (g : Fin 4) :
    Ideal.hostReduceAdd h x init (ix2 r g) = init + x (ix5 0 0 r g 0) := by
  rw [reduce_of h x init (ix2 r g) (ι := Fin 1) (fun _ => ix5 0 0 r g 0), Fin.sum_univ_one]
  · exact fun _ _ _ => Subsingleton.elim _ _
  · intro q
    funext d
    match d with
    | ⟨0, _⟩ => rfl
    | ⟨1, _⟩ => rfl
  · intro i hi
    refine ⟨0, ?_⟩
    funext d
    match d with
    | ⟨0, _⟩ => exact Subsingleton.elim (α := Fin 1) _ _
    | ⟨1, _⟩ => exact Subsingleton.elim (α := Fin 1) _ _
    | ⟨2, _⟩ => exact (congrFun hi 0).symm
    | ⟨3, _⟩ => exact (congrFun hi 1).symm
    | ⟨4, _⟩ => exact Subsingleton.elim (α := Fin 1) _ _

/-- The whole batch's sum. -/
def tot (f : Chunk → ℝ) : ℝ := ∑ b : Fin 4, ∑ n : Fin 16, f (C X0 X1 X2 X3 X4 X5 b n)
theorem tot_coe (f : Chunk → ℝ) : ∑ b : Fin 4, ∑ n : Fin 16, ((f (C X0 X1 X2 X3 X4 X5 b n) : ℝ) : EReal) = ((tot X0 X1 X2 X3 X4 X5 f : ℝ) : EReal) := by
  simp only [NormRow.coe_sum]; rfl

theorem glb_at (u : Fin 1) : val_main_v162 (F := Ideal) (up X0) (up X1) (up X4) (ix2 u k) = ((tot X0 X1 X2 X3 X4 X5 (fun R => R.glb k) : ℝ) : EReal) := by
  pointwise [val_main_v162]
  refine (sum_unit _ _ _ k).trans ?_
  pointwise [val_main_v101, val_main_cst_26]
  refine (sum_example _ _ _ k).trans ?_
  pointwise [val_main_cst_25]
  simp only [zero_const, zero_add, dvk_at X0 X1 X2 X3 X4 X5, NormRow.coe_sum]
  rfl
theorem glg_at (u : Fin 1) : val_main_v161 (F := Ideal) (up X0) (up X1) (up X4) (ix2 u k) = ((tot X0 X1 X2 X3 X4 X5 (fun R => R.glg k) : ℝ) : EReal) := by
  pointwise [val_main_v161]
  refine (sum_unit _ _ _ k).trans ?_
  pointwise [val_main_v105, val_main_cst_28]
  refine (sum_example _ _ _ k).trans ?_
  pointwise [val_main_cst_27, val_main_v103]
  simp only [zero_const, zero_add, dvk_at X0 X1 X2 X3 X4 X5, xh_at X0 X1 X2 X3 X4 X5, ← EReal.coe_mul, NormRow.coe_sum]
  refine congrArg _ ?_
  simp only [tot, Chunk.glg, mul_comm]
theorem gb_at : val_main_v160 (F := Ideal) (up X0) (up X1) (ix3 g r j) = ((tot X0 X1 X2 X3 X4 X5 (fun R => R.gb g r) : ℝ) : EReal) := by
  pointwise [val_main_v160, val_main_v159, val_main_v93, val_main_v92, val_main_v91, val_main_cst_24]
  rw [Fin.sum_univ_one]
  refine (sum_ones _ _ _ r g).trans ?_
  pointwise [val_main_v89, val_main_cst_23]
  refine (sum_groups _ _ _ r g).trans ?_
  pointwise [val_main_cst_22]
  simp only [zero_const, zero_add, dsc_at X0 X1 X2 X3 X4 X5, NormRow.coe_sum]
  rfl

abbrev D3 := dot_S4x4x16x128x128_S4x16x128x4x128_S4x128x128_123_014_4_2_0_3
/-- An example, a chunk and a column as a contracted index. -/
def q3 : Fin 4 × Fin 16 × Fin 128 ≃ D3.contr.Idx where
  toFun q := fun a => match a with
    | ⟨0, _⟩ => q.1
    | ⟨1, _⟩ => q.2.1
    | ⟨2, _⟩ => q.2.2
  invFun i := (i ⟨0, by decide⟩, i ⟨1, by decide⟩, i ⟨2, by decide⟩)
  left_inv _ := rfl
  right_inv i := by
    funext a
    match a with
    | ⟨0, _⟩ => rfl
    | ⟨1, _⟩ => rfl
    | ⟨2, _⟩ => rfl
theorem dot_at (x : S4x4x16x128x128.Idx → EReal) (y : S4x16x128x4x128.Idx → EReal) (i i' : Fin 128) :
    Host.dotGeneral (F := Ideal) (φ₁ := .f32) (φ₂ := .f32) D3 none x y (ix3 g i i') = ∑ b : Fin 4, ∑ n : Fin 16, ∑ c : Fin 128, x (ix5 g b n c i) * y (ix5 b n i' g c) := by
  simp only [Host.dotGeneral]
  rw [Ideal.dotGeneral_apply, ← Equiv.sum_comp q3, Fintype.sum_prod_type]
  refine Finset.sum_congr rfl fun b _ => ?_
  rw [Fintype.sum_prod_type]
  refine Finset.sum_congr rfl fun n _ => Finset.sum_congr rfl fun c _ => ?_
  refine congrArg₂ (· * ·) (congrArg x ?_) (congrArg y ?_)
  · funext d
    match d with
    | ⟨0, _⟩ => rfl
    | ⟨1, _⟩ => rfl
    | ⟨2, _⟩ => rfl
    | ⟨3, _⟩ => rfl
    | ⟨4, _⟩ => rfl
  · funext d
    match d with
    | ⟨0, _⟩ => rfl
    | ⟨1, _⟩ => rfl
    | ⟨2, _⟩ => rfl
    | ⟨3, _⟩ => rfl
    | ⟨4, _⟩ => rfl
theorem gw_at (i i' : Fin 128) : val_main_v98 (F := Ideal) (up X0) (up X1) (up X2) (up X3) (ix3 g i i') = ((tot X0 X1 X2 X3 X4 X5 (fun R => R.gw g i i') : ℝ) : EReal) := by
  pointwise [val_main_v98, val_main_call2_v0, val_main_call2_cst]
  rw [mask_at, Cert.SbIdeal.Step.select_ofBool]
  unfold val_main_v95
  rw [dot_at]
  pointwise [val_main_v94]
  simp only [dsc_at X0 X1 X2 X3 X4 X5, vnc_at X0 X1 X2 X3 X4 X5, ← EReal.coe_mul, NormRow.coe_sum]
  unfold tot Chunk.gw
  split_ifs with h
  · rfl
  · simp only [Finset.sum_const_zero]
    exact EReal.coe_zero.symm

/-- The gradient of the projection: the gates' columns, the values' columns and the columns passed on. -/
def dp (X6 : S4x2048x6144.Idx → EReal) (y : S8192x6144.Idx) : EReal :=
  if h : (y 1).val < 512 then ((C X0 X1 X2 X3 X4 X5 ⟨(y 0).val / 2048, by have := (y 0).isLt; show (y 0).val / 2048 < 4; change (y 0).val < 8192 at this; omega⟩ ⟨(y 0).val % 2048 / 128, by omega⟩).dpu ⟨(y 0).val % 128, by omega⟩ ⟨(y 1).val, h⟩ : ℝ)
  else if h : (y 1).val < 1024 then ((C X0 X1 X2 X3 X4 X5 ⟨(y 0).val / 2048, by have := (y 0).isLt; show (y 0).val / 2048 < 4; change (y 0).val < 8192 at this; omega⟩ ⟨(y 0).val % 2048 / 128, by omega⟩).dpv ⟨(y 0).val % 128, by omega⟩ ⟨(y 1).val - 512, by omega⟩ : ℝ)
  else X6 (ix3 ⟨(y 0).val / 2048, by have := (y 0).isLt; show (y 0).val / 2048 < 4; change (y 0).val < 8192 at this; omega⟩ ⟨(y 0).val % 2048, by omega⟩ (y 1))
theorem dp_lo (X6 : S4x2048x6144.Idx → EReal) (a : Fin 8192) (c : Fin 6144) (ha : a.val / 2048 < 4) (hn : a.val % 2048 / 128 < 16) (hr : a.val % 128 < 128) (h : c.val < 512) :
    dp X0 X1 X2 X3 X4 X5 X6 (ix2 a c) = (((C X0 X1 X2 X3 X4 X5 ⟨a.val / 2048, ha⟩ ⟨a.val % 2048 / 128, hn⟩).dpu ⟨a.val % 128, hr⟩ ⟨c.val, h⟩ : ℝ) : EReal) :=
  dif_pos (c := (ix2 a c 1).val < 512) h
theorem dp_mid (X6 : S4x2048x6144.Idx → EReal) (a : Fin 8192) (c : Fin 6144) (ha : a.val / 2048 < 4) (hn : a.val % 2048 / 128 < 16) (hr : a.val % 128 < 128) (h : ¬ c.val < 512) (h' : c.val < 1024) (hc : c.val - 512 < 512) :
    dp X0 X1 X2 X3 X4 X5 X6 (ix2 a c) = (((C X0 X1 X2 X3 X4 X5 ⟨a.val / 2048, ha⟩ ⟨a.val % 2048 / 128, hn⟩).dpv ⟨a.val % 128, hr⟩ ⟨c.val - 512, hc⟩ : ℝ) : EReal) :=
  (dif_neg (c := (ix2 a c 1).val < 512) h).trans (dif_pos (c := (ix2 a c 1).val < 1024) h')
theorem dp_hi (X6 : S4x2048x6144.Idx → EReal) (a : Fin 8192) (c : Fin 6144) (ha : a.val / 2048 < 4) (hm : a.val % 2048 < 2048) (h : ¬ c.val < 512) (h' : ¬ c.val < 1024) :
    dp X0 X1 X2 X3 X4 X5 X6 (ix2 a c) = X6 (ix3 ⟨a.val / 2048, ha⟩ ⟨a.val % 2048, hm⟩ c) :=
  (dif_neg (c := (ix2 a c 1).val < 512) h).trans (dif_neg (c := (ix2 a c 1).val < 1024) h')

theorem dp_at (X6 : S4x2048x6144.Idx → EReal) (a : Fin 8192) (c : Fin 6144) :
    val_main_v158 (F := Ideal) (up X0) (up X1) (up X2) (up X3) (up X4) (up X5) X6 (ix2 a c) = dp X0 X1 X2 X3 X4 X5 X6 (ix2 a c) := by
  have ha : a.val / 2048 < 4 := by omega
  have hn : a.val % 2048 / 128 < 16 := by omega
  have hm : a.val % 2048 < 2048 := by omega
  have hr : a.val % 128 < 128 := by omega
  have hrw : (⟨a.val % 2048, hm⟩ : Fin 2048) = rw' ⟨a.val % 2048 / 128, hn⟩ ⟨a.val % 128, hr⟩ :=
    Fin.ext (by show a.val % 2048 = a.val % 2048 / 128 * 128 + a.val % 128; omega)
  pointwise [val_main_v158, val_main_v157]
  unfold val_main_v156
  pointwise
  by_cases h : c.val < 512
  · rw [dif_pos h, dp_lo X0 X1 X2 X3 X4 X5 X6 a c ha hn hr h, ← dpu_at X0 X1 X2 X3 X4 X5, ← hrw]
  · rw [dif_neg h]
    by_cases h' : c.val < 1024
    · have hc : c.val - 512 < 512 := by omega
      rw [dif_pos hc, dp_mid X0 X1 X2 X3 X4 X5 X6 a c ha hn hr h h' hc, ← dpv_at X0 X1 X2 X3 X4 X5, ← hrw]
    · have hc : ¬ c.val - 512 < 512 := by omega
      rw [dif_neg hc, dp_hi X0 X1 X2 X3 X4 X5 X6 a c ha hm h h']
      pointwise [val_main_v155]
      refine congrArg X6 ?_
      funext d
      match d with
      | ⟨0, _⟩ => rfl
      | ⟨1, _⟩ => rfl
      | ⟨2, _⟩ => exact Fin.ext (by show 1024 + (c.val - 512 - 512) = c.val; omega)

end Cert.GmlpRef

end
-- ==== Proof.Parts.GmlpEq.lean ====
module

public import proofs.«01_k».proof.Proof.Parts.GmlpRef
public import proofs.«01_k».proof.Proof.Parts.Gmlp

/-! The kernel's results are the reference's on arrays of reals. -/

@[expose] public section

set_option maxRecDepth 16384

noncomputable section

open Idealize.ShloMosaic Idealize.ShloMosaic.TcCoe Idealize.SL.Sem

namespace Cert.GmlpIdeal.Value

open Cert.GmlpIdeal Cert.Gmlp

section
variable (m : (ℓ : Loc nD τ sig) → Buf (Elt Ideal) ℓ) (c : Dev nD)
  (f0 : S4x2048x6144.Idx → ℝ) (f1 : S4x2048x512.Idx → ℝ) (f2 f3 : S512.Idx → ℝ) (f4 : S4x128x128.Idx → ℝ) (f5 : S4x128.Idx → ℝ)
  (e0 : A0 m c = fun i => (f0 i : EReal)) (e1 : A1 m c = fun i => (f1 i : EReal)) (e2 : A2 m c = fun i => (f2 i : EReal))
  (e3 : A3 m c = fun i => (f3 i : EReal)) (e4 : A4 m c = fun i => (f4 i : EReal)) (e5 : A5 m c = fun i => (f5 i : EReal))
include e0 e1 e2 e3 e4 e5

theorem Kd_real (b : Fin 4) (n : Fin 16) : Kd m c b n = (GmlpRef.C f0 f1 f2 f3 f4 f5 b n).loads := by
  unfold Kd
  rw [e0, e1, e2, e3, e4, e5]
  rfl

theorem all_real (p : Loads → EReal) (q : Chunk → ℝ) (h : ∀ R : Chunk, p R.loads = ((q R : ℝ) : EReal)) :
    all m c p = ((GmlpRef.tot f0 f1 f2 f3 f4 f5 q : ℝ) : EReal) := by
  unfold all
  rw [← GmlpRef.tot_coe]
  exact Finset.sum_congr rfl fun b _ => Finset.sum_congr rfl fun n _ => by rw [Kd_real m c f0 f1 f2 f3 f4 f5 e0 e1 e2 e3 e4 e5, h]

theorem ref_8 : GmlpRefIdeal.Read.val_main_v98 (F := Ideal) (A0 m c) (A1 m c) (A2 m c) (A3 m c) = RES_8 m c := by
  funext y
  idx_vars y
  rw [e0, e1, e2, e3]
  exact (GmlpRef.gw_at f0 f1 f2 f3 f4 f5 y0 y1 y2).trans
    (all_real m c f0 f1 f2 f3 f4 f5 e0 e1 e2 e3 e4 e5 _ _ fun R => R.gw_real (col y0) y0 y1 y2 fun _ => rfl).symm
theorem ref_9 : GmlpRefIdeal.Read.val_main_v160 (F := Ideal) (A0 m c) (A1 m c) = RES_9 m c := by
  funext y
  idx_vars y
  rw [e0, e1]
  exact (GmlpRef.gb_at f0 f1 f2 f3 f4 f5 y1 y0 y2).trans
    (all_real m c f0 f1 f2 f3 f4 f5 e0 e1 e2 e3 e4 e5 _ _ fun R => R.gb_real (col y0) y0 y1 fun _ => rfl).symm
theorem ref_10 : GmlpRefIdeal.Read.val_main_v161 (F := Ideal) (A0 m c) (A1 m c) (A4 m c) = RES_10 m c := by
  funext y
  idx_vars y
  rw [e0, e1, e4]
  exact (GmlpRef.glg_at f0 f1 f2 f3 f4 f5 y1 y0).trans
    (all_real m c f0 f1 f2 f3 f4 f5 e0 e1 e2 e3 e4 e5 _ _ fun R => R.glg_real y1).symm
theorem ref_11 : GmlpRefIdeal.Read.val_main_v162 (F := Ideal) (A0 m c) (A1 m c) (A4 m c) = RES_11 m c := by
  funext y
  idx_vars y
  rw [e0, e1, e4]
  exact (GmlpRef.glb_at f0 f1 f2 f3 f4 f5 y1 y0).trans
    (all_real m c f0 f1 f2 f3 f4 f5 e0 e1 e2 e3 e4 e5 _ _ fun R => R.glb_real y1).symm
theorem ref_7 : GmlpRefIdeal.Read.val_main_v158 (F := Ideal) (A0 m c) (A1 m c) (A2 m c) (A3 m c) (A4 m c) (A5 m c) (A6 m c) = RES_7 m c := by
  funext y
  idx_vars y
  have hK := Kd_real m c f0 f1 f2 f3 f4 f5 e0 e1 e2 e3 e4 e5
  rw [e0, e1, e2, e3, e4, e5]
  refine (GmlpRef.dp_at f0 f1 f2 f3 f4 f5 (A6 m c) y0 y1).trans ?_
  unfold GmlpRef.dp RES_7
  simp only [hK, Chunk.dpv_real]
  split_ifs with h h'
  · exact (Chunk.dpu_real _ _ _ _ rfl).symm
  · rfl
  · rfl

end

end Cert.GmlpIdeal.Value

end
-- ==== Proof.Parts.GmlpClaim.lean ====
module

public import proofs.«01_k».proof.Defs
public import proofs.«01_k».proof.Proof.Gen.Gmlp.Frame
public import proofs.«01_k».proof.Proof.Parts.Gmlp
public import proofs.«01_k».proof.Proof.Parts.Finite
public import Idealize.ShloMosaic.Lib.Claim
public import proofs.«01_k».proof.Proof.Parts.GmlpEq
public import proofs.«01_k».proof.Proof.Gen.GmlpRefIdeal.Run
public import proofs.«01_k».proof.Proof.Gen.Pre_finite_gmlp
public import Idealize.ShloMosaic.Lib.StableHlo.RunRead

/-! The claims about the gated projection's gradients. -/

@[expose] public section

set_option maxRecDepth 16384
set_option maxHeartbeats 4000000

noncomputable section

open Idealize.ShloMosaic Idealize.ShloMosaic.TcCoe Idealize.SL.Sem

namespace Cert.GmlpIdeal.Value

theorem frame_ref : Cert.quiescent_GmlpRefIdeal := by
  intro m g _
  exact (θ_run Cert.GmlpRefIdeal.defs _ _).mono
    (fun r h => ⟨fun c => (h c).2.2.2.2.2, Idealize.ShloMosaic.sem_eq_zero_of_no_sems (by decide) r.2⟩)
    (Cert.GmlpRefIdeal.Value.run (F := Ideal) m g)

/-- The kernel's run: its results, the arguments kept. -/
theorem run_kernel (m : (ℓ : Loc nD τ sig) → Buf (Elt Ideal) ℓ) (g : Dev nD → PrngReg) :
    θ_run (Cert.GmlpIdeal.defs (F := Ideal)) (onTc (τ := τ) (Cert.GmlpIdeal.main (F := Ideal))) ⟨m, fun _ => 0, g⟩ (fun r => ∀ c : Dev nD,
      r.2.mem ((c.tc : Thread Cert.GmlpIdeal.nD Cert.GmlpIdeal.τ).loc Cert.GmlpIdeal.main_v9_0) = RES_7 m c
      ∧ r.2.mem ((c.tc : Thread Cert.GmlpIdeal.nD Cert.GmlpIdeal.τ).loc Cert.GmlpIdeal.main_v9_1) = RES_8 m c
      ∧ r.2.mem ((c.tc : Thread Cert.GmlpIdeal.nD Cert.GmlpIdeal.τ).loc Cert.GmlpIdeal.main_v9_2) = RES_9 m c
      ∧ r.2.mem ((c.tc : Thread Cert.GmlpIdeal.nD Cert.GmlpIdeal.τ).loc Cert.GmlpIdeal.main_v9_3) = RES_10 m c
      ∧ r.2.mem ((c.tc : Thread Cert.GmlpIdeal.nD Cert.GmlpIdeal.τ).loc Cert.GmlpIdeal.main_v9_4) = RES_11 m c
      ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)) := by
  run_from Cert.GmlpIdeal.Gen.run_main m g
  · exact final_7 m c
  · exact final_8 m c
  · exact final_9 m c
  · exact final_10 m c
  · exact final_11 m c

/-- Finite arguments are arrays of reals. -/
theorem real_args [Cert.Pre_finite_gmlp.Facts] (a0 a1 a2 a3 a4 a5 a6) (h : Cert.Pre_finite_gmlp.fn (F := Ideal) a0 a1 a2 a3 a4 a5 a6 = fun _ => 1#1) :
    (∃ f : S4x2048x6144.Idx → ℝ, a0 = fun i => (f i : EReal)) ∧ (∃ f : S4x2048x512.Idx → ℝ, a1 = fun i => (f i : EReal)) ∧ (∃ f : S512.Idx → ℝ, a2 = fun i => (f i : EReal)) ∧ (∃ f : S512.Idx → ℝ, a3 = fun i => (f i : EReal)) ∧ (∃ f : S4x128x128.Idx → ℝ, a4 = fun i => (f i : EReal)) ∧ (∃ f : S4x128.Idx → ℝ, a5 = fun i => (f i : EReal)) := by
  obtain ⟨h, e5⟩ := Cert.Finite.and_one (congrFun h ix0)
  obtain ⟨h, e4⟩ := Cert.Finite.and_one h
  obtain ⟨h, e3⟩ := Cert.Finite.and_one h
  obtain ⟨h, e2⟩ := Cert.Finite.and_one h
  obtain ⟨e0, e1⟩ := Cert.Finite.and_one h
  exact ⟨Cert.Finite.all_real _ _ (Cert.Finite.inf_const _ _) _ _ _ _ e0,
    Cert.Finite.all_real _ _ (Cert.Finite.inf_const _ _) _ _ _ _ e1,
    Cert.Finite.all_real _ _ (Cert.Finite.inf_const _ _) _ _ _ _ e2,
    Cert.Finite.all_real _ _ (Cert.Finite.inf_const _ _) _ _ _ _ e3,
    Cert.Finite.all_real _ _ (Cert.Finite.inf_const _ _) _ _ _ _ e4,
    Cert.Finite.all_real _ _ (Cert.Finite.inf_const _ _) _ _ _ _ e5⟩

theorem algebraic [Cert.Pre_finite_gmlp.Facts] : Cert.algebraic_GmlpIdeal_GmlpRefIdeal_pre_finite_gmlp := by
  intro m g m' g' hpre hagree
  refine ⟨fun c => RES_7 m c, fun c => RES_8 m c, fun c => RES_9 m c, fun c => RES_10 m c, fun c => RES_11 m c, run_kernel m g, ?_⟩
  refine (θ_run Cert.GmlpRefIdeal.defs _ _).mono (fun r h c => ⟨(h c).1.trans ?_, (h c).2.1.trans ?_, (h c).2.2.1.trans ?_, (h c).2.2.2.1.trans ?_, (h c).2.2.2.2.1.trans ?_, (h c).2.2.2.2.2⟩) (Cert.GmlpRefIdeal.Value.run m' g')
  all_goals
    obtain ⟨h0, h1, h2, h3, h4, h5, h6⟩ := hagree c
    obtain ⟨⟨f0, e0⟩, ⟨f1, e1⟩, ⟨f2, e2⟩, ⟨f3, e3⟩, ⟨f4, e4⟩, ⟨f5, e5⟩⟩ := real_args _ _ _ _ _ _ _ (hpre c)
  · refine (GmlpRefIdeal.Read.val_main_v158_eq (F := Ideal) _).trans ?_
    change GmlpRefIdeal.Read.val_main_v158 (F := Ideal) (m' ((c.tc : Thread Cert.GmlpRefIdeal.nD Cert.GmlpRefIdeal.τ).loc Cert.GmlpRefIdeal.main_arg0)) (m' ((c.tc : Thread Cert.GmlpRefIdeal.nD Cert.GmlpRefIdeal.τ).loc Cert.GmlpRefIdeal.main_arg1)) (m' ((c.tc : Thread Cert.GmlpRefIdeal.nD Cert.GmlpRefIdeal.τ).loc Cert.GmlpRefIdeal.main_arg2)) (m' ((c.tc : Thread Cert.GmlpRefIdeal.nD Cert.GmlpRefIdeal.τ).loc Cert.GmlpRefIdeal.main_arg3)) (m' ((c.tc : Thread Cert.GmlpRefIdeal.nD Cert.GmlpRefIdeal.τ).loc Cert.GmlpRefIdeal.main_arg4)) (m' ((c.tc : Thread Cert.GmlpRefIdeal.nD Cert.GmlpRefIdeal.τ).loc Cert.GmlpRefIdeal.main_arg5)) (m' ((c.tc : Thread Cert.GmlpRefIdeal.nD Cert.GmlpRefIdeal.τ).loc Cert.GmlpRefIdeal.main_arg6)) = _
    rw [h0, h1, h2, h3, h4, h5, h6]
    exact ref_7 m c f0 f1 f2 f3 f4 f5 e0 e1 e2 e3 e4 e5
  · refine (GmlpRefIdeal.Read.val_main_v98_eq (F := Ideal) _).trans ?_
    change GmlpRefIdeal.Read.val_main_v98 (F := Ideal) (m' ((c.tc : Thread Cert.GmlpRefIdeal.nD Cert.GmlpRefIdeal.τ).loc Cert.GmlpRefIdeal.main_arg0)) (m' ((c.tc : Thread Cert.GmlpRefIdeal.nD Cert.GmlpRefIdeal.τ).loc Cert.GmlpRefIdeal.main_arg1)) (m' ((c.tc : Thread Cert.GmlpRefIdeal.nD Cert.GmlpRefIdeal.τ).loc Cert.GmlpRefIdeal.main_arg2)) (m' ((c.tc : Thread Cert.GmlpRefIdeal.nD Cert.GmlpRefIdeal.τ).loc Cert.GmlpRefIdeal.main_arg3)) = _
    rw [h0, h1, h2, h3]
    exact ref_8 m c f0 f1 f2 f3 f4 f5 e0 e1 e2 e3 e4 e5
  · refine (GmlpRefIdeal.Read.val_main_v160_eq (F := Ideal) _).trans ?_
    change GmlpRefIdeal.Read.val_main_v160 (F := Ideal) (m' ((c.tc : Thread Cert.GmlpRefIdeal.nD Cert.GmlpRefIdeal.τ).loc Cert.GmlpRefIdeal.main_arg0)) (m' ((c.tc : Thread Cert.GmlpRefIdeal.nD Cert.GmlpRefIdeal.τ).loc Cert.GmlpRefIdeal.main_arg1)) = _
    rw [h0, h1]
    exact ref_9 m c f0 f1 f2 f3 f4 f5 e0 e1 e2 e3 e4 e5
  · refine (GmlpRefIdeal.Read.val_main_v161_eq (F := Ideal) _).trans ?_
    change GmlpRefIdeal.Read.val_main_v161 (F := Ideal) (m' ((c.tc : Thread Cert.GmlpRefIdeal.nD Cert.GmlpRefIdeal.τ).loc Cert.GmlpRefIdeal.main_arg0)) (m' ((c.tc : Thread Cert.GmlpRefIdeal.nD Cert.GmlpRefIdeal.τ).loc Cert.GmlpRefIdeal.main_arg1)) (m' ((c.tc : Thread Cert.GmlpRefIdeal.nD Cert.GmlpRefIdeal.τ).loc Cert.GmlpRefIdeal.main_arg4)) = _
    rw [h0, h1, h4]
    exact ref_10 m c f0 f1 f2 f3 f4 f5 e0 e1 e2 e3 e4 e5
  · refine (GmlpRefIdeal.Read.val_main_v162_eq (F := Ideal) _).trans ?_
    change GmlpRefIdeal.Read.val_main_v162 (F := Ideal) (m' ((c.tc : Thread Cert.GmlpRefIdeal.nD Cert.GmlpRefIdeal.τ).loc Cert.GmlpRefIdeal.main_arg0)) (m' ((c.tc : Thread Cert.GmlpRefIdeal.nD Cert.GmlpRefIdeal.τ).loc Cert.GmlpRefIdeal.main_arg1)) (m' ((c.tc : Thread Cert.GmlpRefIdeal.nD Cert.GmlpRefIdeal.τ).loc Cert.GmlpRefIdeal.main_arg4)) = _
    rw [h0, h1, h4]
    exact ref_11 m c f0 f1 f2 f3 f4 f5 e0 e1 e2 e3 e4 e5

end Cert.GmlpIdeal.Value

end
-- ==== Proof.Parts.PoolIdealOpen.lean ====
module

public import proofs.«01_k».proof.Proof.Gen.PoolIdeal.Frame.Runs
public import Idealize.ShloMosaic.Lib.Claim

/-! The frame of the causal pooling's gradient: each run ends, whatever its outputs hold. -/

@[expose] public section

set_option maxRecDepth 16384

noncomputable section

namespace Cert.PoolIdeal.Open

open Cert.PoolIdeal Cert.PoolIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A buffer held at some contents is read as something. -/
theorem held_some (c : Dev nD) {s : Shape} {e : EltTy} (a : Memref sig .tc .vmem s e) {f : Buf (Elt F) (a.view.loc (c : Thread nD τ))} :
    (iprop(a.view.loc (c : Thread nD τ) ↦[a.view.set]{fullShare} f) : sProp (MT nD τ sig Unit (Elt F) ℕ (UR sig nD τ) ℕ))
      ⊢ iprop(∃ X, ∃ f' : Buf (Elt F) (a.view.loc (c : Thread nD τ)), ⌜a.view.read (Elt F) f' = X⌝ ∗ (a.view.loc (c : Thread nD τ) ↦[a.view.set]{fullShare} f')) := by
  iintro H
  iexists (a.view.read (Elt F) f), f
  isplitr
  · ipureintro; rfl
  iexact H

set_option maxHeartbeats 1000000 in
/-- The body on whole buffers: the inputs stay, the outputs and the scratch rows end at some contents. -/
theorem sound_kernel (c : Dev nD) (i : grid0.Coords) (arg1 : Memref sig .tc .vmem S1x2048x512 .bf16) (harg1 : arg1.IsWhole) (arg2 : Memref sig .tc .vmem S1x2048x512 .bf16) (harg2 : arg2.IsWhole) (arg3 : Memref sig .tc .vmem S4x128x128 .f32) (harg3 : arg3.IsWhole) (arg4 : Memref sig .tc .vmem S1x512 .f32) (harg4 : arg4.IsWhole) (arg6 : Memref sig .tc .vmem S1x2048x512 .bf16) (harg6 : arg6.IsWhole) (arg7 : Memref sig .tc .vmem S4x128x128 .f32) (harg7 : arg7.IsWhole) (arg8 : Memref sig .tc .vmem S1x512 .f32) (harg8 : arg8.IsWhole) (arg9 : Memref sig .tc .vmem S2048x512 .f32) (harg9 : arg9.IsWhole)
    (X1 : Vec F S1x2048x512 .bf16) (X2 : Vec F S1x2048x512 .bf16) (X3 : Vec F S4x128x128 .f32) (X4 : Vec F S1x512 .f32) (K : PUnit → sProp (MT nD τ sig Unit (Elt F) ℕ (UR sig nD τ) ℕ)) :
    iprop(owns (c : Thread nD τ) arg1 fullShare X1 ∗ owns (c : Thread nD τ) arg2 fullShare X2 ∗ owns (c : Thread nD τ) arg3 fullShare X3 ∗ owns (c : Thread nD τ) arg4 fullShare X4 ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X)
      ∗ (iprop(owns (c : Thread nD τ) arg1 fullShare X1 ∗ owns (c : Thread nD τ) arg2 fullShare X2 ∗ owns (c : Thread nD τ) arg3 fullShare X3 ∗ owns (c : Thread nD τ) arg4 fullShare X4 ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X)) -∗ K ⟨⟩))
      ⊢ wp frame (wpE (defs₀ (F := F)) Variants.none (c : Thread nD τ) none) Set.univ (cc0_pool_bwd (F := F) i arg1 harg1 arg2 harg2 arg3 harg3 arg4 harg4 (Memref.whole main_v3) (Memref.isWhole_whole _) arg6 harg6 arg7 harg7 arg8 harg8 arg9 harg9) K := by
  simp only [cc0_pool_bwd_eq_skeleton]; unfold cc0_pool_bwd_skel
  simp only [k0_part10_eq_skeleton, k0_part11_eq_skeleton]
  unfold owns
  iintro ⟨⟨%f1, %h1, H1⟩, ⟨%f2, %h2, H2⟩, ⟨%f3, %h3, H3⟩, ⟨%f4, %h4, H4⟩, ⟨%X6, %f6, -, H6⟩, ⟨%X7, %f7, -, H7⟩, ⟨%X8, %f8, -, H8⟩, ⟨%X9, %f9, -, H9⟩, HK⟩
  by_cases hc : cond0_0 i
  · sl_exec (disch := first | sl_exact hc)
    sl_step
    iapply HK
    isplitl [H1]
    · iexists _; isplitr
      · ipureintro; exact h1
      iexact H1
    isplitl [H2]
    · iexists _; isplitr
      · ipureintro; exact h2
      iexact H2
    isplitl [H3]
    · iexists _; isplitr
      · ipureintro; exact h3
      iexact H3
    isplitl [H4]
    · iexists _; isplitr
      · ipureintro; exact h4
      iexact H4
    isplitl [H6]; · iapply (held_some c arg6); iexact H6
    isplitl [H7]; · iapply (held_some c arg7); iexact H7
    isplitl [H8]; · iapply (held_some c arg8); iexact H8
    iapply (held_some c arg9); iexact H9
  · sl_exec (disch := first | sl_exact hc)
    sl_step
    iapply HK
    isplitl [H1]
    · iexists _; isplitr
      · ipureintro; exact h1
      iexact H1
    isplitl [H2]
    · iexists _; isplitr
      · ipureintro; exact h2
      iexact H2
    isplitl [H3]
    · iexists _; isplitr
      · ipureintro; exact h3
      iexact H3
    isplitl [H4]
    · iexists _; isplitr
      · ipureintro; exact h4
      iexact H4
    isplitl [H6]; · iapply (held_some c arg6); iexact H6
    isplitl [H7]; · iapply (held_some c arg7); iexact H7
    isplitl [H8]; · iapply (held_some c arg8); iexact H8
    iapply (held_some c arg9); iexact H9

variable (m : (ℓ : Loc nD τ sig) → Buf (Elt F) ℓ) (ρ : Dev nD → PrngReg)

/-- The three outputs are the windows left open. -/
def forgets0 : Fin 7 → Bool := fun w => w.val == 4 || w.val == 5 || w.val == 6

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare d) ∗ (∃ d, owns (c : Thread nD τ) (ms0_5 t) fullShare d) ∗ (∃ d, owns (c : Thread nD τ) (ms0_6 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t)
    ∗ (∃ d, owns (c : Thread nD τ) (ms0_4 t) fullShare d) ∗ (∃ d, owns (c : Thread nD τ) (ms0_5 t) fullShare d) ∗ (∃ d, owns (c : Thread nD τ) (ms0_6 t) fullShare d))

set_option maxHeartbeats 1600000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩, H4, H5, H6⟩
  iapply (sound_kernel c (grid0.coords t) _ _ _ _ _ _ _ _ _ _ _ _ _ _ _ _ (iblk m c 0 t) (iblk m c 1 t) (iblk m c 2 t) (iblk m c 3 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (((dats m 0 c).toRForget_arrAt_iff (fgt := forgets0) (w := 2) rfl _ _).mp ((h.1 c).1 2)).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main_quiescent m ρ)

/-- Every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.PoolIdeal.Open

end
-- ==== Proof.Parts.PoolClaim.lean ====
module

public import proofs.«01_k».proof.Defs
public import proofs.«01_k».proof.Proof.Parts.PoolOpen
public import proofs.«01_k».proof.Proof.Parts.PoolIdealOpen
public import proofs.«01_k».proof.Proof.Gen.PoolRefIdeal.Run
public import Idealize.ShloMosaic.Lib.Claim

/-! The claims about the causal pooling's gradients. -/

@[expose] public section

set_option maxRecDepth 16384

noncomputable section

open Idealize.ShloMosaic Idealize.ShloMosaic.TcCoe Idealize.SL.Sem

namespace Cert.PoolIdeal.Value

theorem frame_ref : Cert.quiescent_PoolRefIdeal := by
  intro m g _
  exact (θ_run Cert.PoolRefIdeal.defs _ _).mono
    (fun r h => ⟨fun c => (h c).2.2.2, Idealize.ShloMosaic.sem_eq_zero_of_no_sems (by decide) r.2⟩)
    (Cert.PoolRefIdeal.Value.run (F := Ideal) m g)

end Cert.PoolIdeal.Value

end
-- ==== Proof.Parts.SbFwdOffs.lean ====
module

public import proofs.«01_k».proof.Proof.Gen.SbFwdIdeal.Launch
public import proofs.«01_k».proof.Proof.Gen.SbFwdIdeal.Loops
public import proofs.«01_k».proof.Proof.Gen.SbFwdIdeal.Points
public import proofs.«01_k».proof.Proof.Gen.SbFwdIdeal.Skeleton
public import Idealize.ShloMosaic.Lib.Exec
public import Idealize.ShloMosaic.Lib.Tactic
public import Idealize.ShloMosaic.Lib.Pipeline.Kit

/-! The forward attention: the offsets its two loops read and write at. -/

@[expose] public section

set_option maxRecDepth 16384

noncomputable section

namespace Cert.SbFwdIdeal.Body

open Cert.SbFwdIdeal Cert.SbFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The variants: the naturals, the trips the inner loop still has to run. -/
abbrev 𝒱₀ : Variants := Variants.nat

/-- The side condition of the offsets holds while the counter is below the trip. -/
theorem chk_of_lt (k : Fin k0_t1_loop.trips) (j : ℕ) (h : j < k.val) : k0_chk1 k (BitVec.ofNat 32 j) := by
  have hk : ∀ (k : Fin 8) (j : Fin 8), j.val < k.val → k0_chk1 (k.cast (by decide)) (BitVec.ofNat 32 j.val) := by decide
  have hk8 : k.val < 8 := lt_of_lt_of_eq k.isLt (by decide)
  exact hk ⟨k.val, hk8⟩ ⟨j, by omega⟩ h

/-- The inner loop visits the blocks below the trip from the last to the first. -/
theorem offs_of_lt (k : Fin k0_t1_loop.trips) (j : ℕ) (h : j < k.val) :
    k0_off5 k (BitVec.ofNat 32 j) = ![0, (k.val - 1 - j) * 256, 0] ∧ k0_off6 k (BitVec.ofNat 32 j) = ![0, (k.val - 1 - j) * 256, 64] := by
  have hk : ∀ (k : Fin 8) (j : Fin 8), j.val < k.val →
      k0_off5 (k.cast (by decide)) (BitVec.ofNat 32 j.val) = ![0, (k.val - 1 - j.val) * 256, 0] ∧ k0_off6 (k.cast (by decide)) (BitVec.ofNat 32 j.val) = ![0, (k.val - 1 - j.val) * 256, 64] := by decide
  have hk8 : k.val < 8 := lt_of_lt_of_eq k.isLt (by decide)
  exact hk ⟨k.val, hk8⟩ ⟨j, by omega⟩ h

instance closedOff5 (k : Fin k0_t1_loop.trips) (j : ℕ) [h : Fact (j < k.val)] : ClosedOff (k0_off5 k (BitVec.ofNat 32 j)) :=
  ⟨![0, (k.val - 1 - j) * 256, 0], (offs_of_lt k j h.out).1⟩

instance closedOff6 (k : Fin k0_t1_loop.trips) (j : ℕ) [h : Fact (j < k.val)] : ClosedOff (k0_off6 k (BitVec.ofNat 32 j)) :=
  ⟨![0, (k.val - 1 - j) * 256, 64], (offs_of_lt k j h.out).2⟩

/-- At the trip the counter stops the loop. -/
theorem cond_ne (k : Fin k0_t1_loop.trips) (j : ℕ) (b : BitVec 32) (h : j = k.val) :
    Scalar.andi (Scalar.cmpi .slt (BitVec.ofNat 32 j) (Scalar.muli (Scf.iv 0#32 1#32 k) 1#32)) (Scalar.cmpi .sgt b 0#32) ≠ 1#1 := by
  subst h
  have hk : ∀ k : Fin 8, Scalar.cmpi .slt (BitVec.ofNat 32 k.val) (Scalar.muli (Scf.iv 0#32 1#32 k) 1#32) = 0#1 := by decide
  have hk8 : k.val < 8 := lt_of_lt_of_eq k.isLt (by decide)
  have := hk ⟨k.val, hk8⟩
  intro hh
  rw [show Scalar.cmpi .slt (BitVec.ofNat 32 k.val) (Scalar.muli (Scf.iv 0#32 1#32 k) 1#32) = 0#1 from this] at hh
  have h0 : ∀ x : BitVec 1, Scalar.andi 0#1 x = 0#1 := by decide
  rw [h0] at hh; exact absurd hh (by decide)

instance closedOff1 (k : Fin k0_t1_loop.trips) : ClosedOff (k0_off1 k) :=
  ⟨![0, k.val * 256, 0], by
    have h : ∀ k : Fin 8, k0_off1 (k.cast (by decide)) = ![0, k.val * 256, 0] := by decide
    exact h ⟨k.val, lt_of_lt_of_eq k.isLt (by decide)⟩⟩

instance closedOff2 (k : Fin k0_t1_loop.trips) : ClosedOff (k0_off2 k) :=
  ⟨![0, k.val * 256, 64], by
    have h : ∀ k : Fin 8, k0_off2 (k.cast (by decide)) = ![0, k.val * 256, 64] := by decide
    exact h ⟨k.val, lt_of_lt_of_eq k.isLt (by decide)⟩⟩

instance closedOff3 (k : Fin k0_t1_loop.trips) : ClosedOff (k0_off3 k) :=
  ⟨![0, k.val * 256, 0], by
    have h : ∀ k : Fin 8, k0_off3 (k.cast (by decide)) = ![0, k.val * 256, 0] := by decide
    exact h ⟨k.val, lt_of_lt_of_eq k.isLt (by decide)⟩⟩

instance closedOff4 (k : Fin k0_t1_loop.trips) : ClosedOff (k0_off4 k) :=
  ⟨![0, k.val * 256, 64], by
    have h : ∀ k : Fin 8, k0_off4 (k.cast (by decide)) = ![0, k.val * 256, 64] := by decide
    exact h ⟨k.val, lt_of_lt_of_eq k.isLt (by decide)⟩⟩

/-- A buffer held at some contents is read as something. -/
theorem held_some (c : Dev nD) {s : Shape} {e : EltTy} (a : Memref sig .tc .vmem s e) {f : Buf (Elt F) (a.view.loc (c : Thread nD τ))} :
    (iprop((a.view.loc (c : Thread nD τ) ↦[a.view.set]{fullShare} f)) : sProp (MT nD τ sig Unit (Elt F) ℕ (UR sig nD τ) ℕ))
      ⊢ iprop(∃ X, ∃ f' : Buf (Elt F) (a.view.loc (c : Thread nD τ)), ⌜a.view.read (Elt F) f' = X⌝ ∗ (a.view.loc (c : Thread nD τ) ↦[a.view.set]{fullShare} f')) := by
  iintro H
  iexists (a.view.read (Elt F) f), f
  isplitr
  · ipureintro; rfl
  iexact H

end Cert.SbFwdIdeal.Body

end
-- ==== Proof.Parts.SbFwdFrame.lean ====
module

public import proofs.«01_k».proof.Proof.Parts.SbFwdOffs
public import Idealize.ShloMosaic.Lib.Claim
public import Idealize.ShloMosaic.Lib.Pipeline.FrameSuffix
public import Idealize.ShloMosaic.Lib.Pipeline.FrameBody

/-! The forward attention runs to its end: the run with its output left open. -/

@[expose] public section

set_option maxRecDepth 16384

noncomputable section

namespace Cert.SbFwdIdeal.Body

open Cert.SbFwdIdeal Cert.SbFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 4000000 in
theorem while_wp (c : Dev nD) (i : grid0.Coords) (k : Fin k0_t1_loop.trips) (arg3 : Memref sig .tc .vmem S1x2048x128 .bf16) (harg3 : arg3.IsWhole)
    (arg4 : Memref sig .tc .vmem S1x2048x128 .bf16) (harg4 : arg4.IsWhole) (v16 v23 : FVec F S256x64 .bf16) (v6 : FVec F S256x256 .bf16)
    (f3 : Buf (Elt F) (arg3.view.loc (c : Thread nD τ))) (f4 : Buf (Elt F) (arg4.view.loc (c : Thread nD τ))) :
    ∀ n j, j + n = k.val → ∀ (arg14 : BitVec 32) (arg15 : FVec F S256x64 .f32) (arg16 : FVec F S256x1 .f32) (arg17 : FVec F S256x64 .f32) (arg18 : FVec F S256x1 .f32)
      (K : BitVec 32 × BitVec 32 × FVec F S256x64 .f32 × FVec F S256x1 .f32 × FVec F S256x64 .f32 × FVec F S256x1 .f32 → sProp (MT nD τ sig Unit (Elt F) ℕ (UR sig nD τ) ℕ)),
    iprop((arg3.view.loc (c : Thread nD τ) ↦[arg3.view.set]{fullShare} f3) ∗ (arg4.view.loc (c : Thread nD τ) ↦[arg4.view.set]{fullShare} f4) ∗ (∀ r, iprop((arg3.view.loc (c : Thread nD τ) ↦[arg3.view.set]{fullShare} f3) ∗ (arg4.view.loc (c : Thread nD τ) ↦[arg4.view.set]{fullShare} f4)) -∗ K r))
      ⊢ wp frame (wpE (defs₀ (F := F)) 𝒱₀ (c : Thread nD τ) (some n)) Set.univ
          (defs₀ (F := F) .tc 1 ⟨i, k, arg3, harg3, v16, v23, v6, arg4, harg4, BitVec.ofNat 32 j, arg14, arg15, arg16, arg17, arg18⟩) K := by
  intro n
  induction n with
  | zero =>
    intro j hj arg14 arg15 arg16 arg17 arg18 K
    show _ ⊢ wp frame (wpE (defs₀ (F := F)) 𝒱₀ (c : Thread nD τ) (some 0)) Set.univ (cc0_while1 i k arg3 harg3 v16 v23 v6 arg4 harg4 (BitVec.ofNat 32 j) arg14 arg15 arg16 arg17 arg18) K
    simp only [cc0_while1_eq_skeleton]; unfold cc0_while1_skel
    have hc : Scalar.andi (Scalar.cmpi .slt (BitVec.ofNat 32 j) (Scalar.muli (Scf.iv 0#32 1#32 k) 1#32)) (Scalar.cmpi .sgt arg14 0#32) ≠ 1#1 := cond_ne k j arg14 (by omega)
    simp only [if_neg hc, Prog.pure_eq_ret]
    iintro ⟨H3, H4, HK⟩
    rw [wp_ret]; imodintro
    iapply HK
    iframe
  | succ n ih =>
    intro j hj arg14 arg15 arg16 arg17 arg18 K
    show _ ⊢ wp frame (wpE (defs₀ (F := F)) 𝒱₀ (c : Thread nD τ) (some (n+1))) Set.univ (cc0_while1 i k arg3 harg3 v16 v23 v6 arg4 harg4 (BitVec.ofNat 32 j) arg14 arg15 arg16 arg17 arg18) K
    simp only [cc0_while1_eq_skeleton]; unfold cc0_while1_skel
    iintro ⟨H3, H4, HK⟩
    by_cases hc : Scalar.andi (Scalar.cmpi .slt (BitVec.ofNat 32 j) (Scalar.muli (Scf.iv 0#32 1#32 k) 1#32)) (Scalar.cmpi .sgt arg14 0#32) = 1#1
    · simp only [if_pos hc, k0_part3_eq_skeleton]
      unfold k0_part3_skel
      simp only [Prog.lift, Prog.bind_op, Prog.bind_ret, Prog.pure_eq_ret]
      have hchk : k0_chk1 k (BitVec.ofNat 32 j) := chk_of_lt k j (by omega)
      haveI : Fact (j < k.val) := ⟨by omega⟩
      sl_exec
      iapply (wp_call 𝒱₀ (c : Thread nD τ) (some (n+1)) Set.univ n (fun u hu => by cases hu; exact Nat.lt_succ_self n))
      have e1 : Scalar.addi (BitVec.ofNat 32 j) 1#32 = BitVec.ofNat 32 (j+1) := by show BitVec.ofNat 32 j + 1#32 = _; rw [BitVec.ofNat_add]
      rw [e1]
      iapply (ih (j+1) (by omega))
      iframe
      iintro %r H
      rw [wp_ret]; imodintro
      iapply HK $$ H
    · simp only [if_neg hc, Prog.pure_eq_ret]
      rw [wp_ret]; imodintro
      iapply HK
      iframe

set_option maxHeartbeats 4000000 in
set_option warn.classDefReducibility false in
/-- Between the trips of the outer loop the inputs are held as they are, the output at some contents. -/
@[sl_loop] def loopInv (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .f32) (harg5 : arg5.IsWhole)
    (f2 : Buf (Elt F) (arg2.view.loc (c : Thread nD τ))) (f3 : Buf (Elt F) (arg3.view.loc (c : Thread nD τ))) (f4 : Buf (Elt F) (arg4.view.loc (c : Thread nD τ))) :
    LoopInvTy_k0_t1 (F := F) Unit ℕ (UR sig nD τ) ℕ 𝒱₀ c none Set.univ i arg2 harg2 arg3 harg3 arg4 harg4 arg5 harg5 where
  inv _ _ := iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (∃ f : Buf (Elt F) (arg5.view.loc (c : Thread nD τ)), arg5.view.loc (c : Thread nD τ) ↦[arg5.view.set]{fullShare} f))
  step k _ := by
    unfold k0_t1_body
    simp only [k0_part1_eq_skeleton, k0_part2_eq_skeleton]
    unfold k0_part1_skel k0_part2_skel
    simp only [Prog.lift, Prog.bind_op, Prog.bind_ret, Prog.pure_eq_ret]
    iintro ⟨H2, H3, H4, ⟨%f5, H5⟩⟩
    sl_exec
    iapply (wp_call 𝒱₀ (c : Thread nD τ) none Set.univ k.val (fun u hu => nomatch hu))
    rw [show (0#32 : BitVec 32) = BitVec.ofNat 32 0 from rfl]
    iapply (while_wp c i k arg3 harg3 arg4 harg4 _ _ _ f3 f4 k.val 0 (by omega))
    iframe
    iintro %r ⟨H3, H4⟩
    obtain ⟨r0, r1, r2, r3, r4, r5⟩ := r
    sl_exec
    rw [wp_ret]; imodintro
    iframe
    iexists _; iexact H5

set_option maxHeartbeats 4000000 in
/-- The body on whole buffers: the inputs stay, the output ends at some contents. -/
theorem sound_kernel (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .f32) (harg5 : arg5.IsWhole) (X2 : Vec F S1x2048x128 .bf16) (X3 : Vec F S1x2048x128 .bf16) (X4 : Vec F S1x2048x128 .bf16) (K : PUnit → sProp (MT nD τ sig Unit (Elt F) ℕ (UR sig nD τ) ℕ)) :
    iprop(owns (c : Thread nD τ) arg2 fullShare X2 ∗ owns (c : Thread nD τ) arg3 fullShare X3 ∗ owns (c : Thread nD τ) arg4 fullShare X4 ∗ (∃ X, owns (c : Thread nD τ) arg5 fullShare X)
      ∗ (iprop(owns (c : Thread nD τ) arg2 fullShare X2 ∗ owns (c : Thread nD τ) arg3 fullShare X3 ∗ owns (c : Thread nD τ) arg4 fullShare X4 ∗ (∃ X, owns (c : Thread nD τ) arg5 fullShare X)) -∗ K ⟨⟩))
      ⊢ wp frame (wpE (defs₀ (F := F)) 𝒱₀ (c : Thread nD τ) none) Set.univ (cc0_sb_fwd (F := F) i arg2 harg2 arg3 harg3 arg4 harg4 arg5 harg5) K := by
  simp only [cc0_sb_fwd_eq_skeleton]; unfold cc0_sb_fwd_skel
  simp only [Prog.lift, bind_assoc, Prog.bind_op, Prog.bind_ret, Prog.pure_eq_ret]
  unfold owns
  iintro ⟨⟨%f2, %h2, H2⟩, ⟨%f3, %h3, H3⟩, ⟨%f4, %h4, H4⟩, ⟨%X5, %f5, -, H5⟩, HK⟩
  sl_exec
  rw [wp_ret]; imodintro
  iapply HK
  isplitl [H2]
  · iexists _; isplitr
    · ipureintro; exact h2
    iexact H2
  isplitl [H3]
  · iexists _; isplitr
    · ipureintro; exact h3
    iexact H3
  isplitl [H4]
  · iexists _; isplitr
    · ipureintro; exact h4
    iexact H4
  iapply (held_some c arg5); iexact H5

end Cert.SbFwdIdeal.Body

namespace Cert.SbFwdIdeal.Gen

open Cert.SbFwdIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The host line before the region -/

/-- The device's buffers when the region is entered. -/
abbrev V0 (c : Dev nD) : Valuation τ sig (Elt F) :=
  StableHlo.after (List.flatten [hostOps0]) (fun b => m (c, b))
/-- The same, read at a reference. -/
abbrev V (c : Dev nD) (b : Ref sig .tc) : Buf (Elt F) ((c : Thread nD τ).loc b) := V0 m c (Proc.devRef .tc b)

theorem host_fresh : ([hostOps0] : List (List (HloOp τ sig (Elt F)))).Forall
    fun ops => ops.Forall fun op => op.fresh = ∅ := by
  simp only [List.Forall]; repeat' constructor

theorem host_sub : ([hostOps0] : List (List (HloOp τ sig (Elt F)))).Forall
    fun ops => ops.Forall fun op => op.bufs ⊆ StableHlo.tcRefs τ sig := by
  simp only [List.Forall]
  exact hostOps0_sub

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0]
    host_sub host_fresh main_chain

/-- The host line leaves the argument as it is. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-- A window's block at a point, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame claim from a run of the region. -/
theorem frame_of (rdat : (c : Dev nD) → Pipeline.RDat τ (Elt F) Unit ℕ (UR sig nD τ) ℕ (cfgs (F := F) 0) c)
    (hA : ∀ c w, (rdat c).A w = V m c (Pipeline.arrRef spec0 w))
    (h : θ_run defs (onTc (τ := τ) (main (F := F))) (s₀ m ρ) (Pipeline.RDat.FramePost (cfgs (F := F) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide : ∀ w : Fin 4, (spec0 w).arr.view.ref ≠ main_arg0))).trans (V_main_arg0 m c)) h

/-! ## The run with the output's contents left open -/

/-- The output is the window left open. -/
def forgets0 : Fin 4 → Bool := fun w => w.val == 3

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0 (F := F)) ⟨3, h⟩ t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d

/-- What the body is called with at a point, -/
def bodyPre (c : Dev nD) (t : Fin (cfg0 (F := F)).N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- and what it returns. -/
def bodyPost (c : Dev nD) (t : Fin (cfg0 (F := F)).N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

set_option maxHeartbeats 2400000 in
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨Hr, Ho, ⟨%d0, H0⟩, ⟨%d1, H1⟩, ⟨%d2, H2⟩, H3⟩
  iapply (sound_kernel c (grid0.coords t) _ _ _ _ _ _ _ _ (iblk m c 0 t) (iblk m c 1 t) (iblk m c 2 t))
  isplitl [H0]; · iexact H0
  isplitl [H1]; · iexact H1
  isplitl [H2]; · iexact H2
  isplitl [H3]; · iexact H3
  iintro ⟨H0, H1, H2, H3⟩
  isplitl [Hr]; · iexact Hr
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs (F := F) 0) (fun c => (dats m 0 c).toRForget forgets0) (V m)) r ∧ r.2.sem = fun _ => 0) :=
  Pipeline.θ_run_frame_forget_shared (Q' := _) cfgs (dats m) (0 : Fin 1) launch₀0 defs₀ 𝒱₀ forgets0 m ρ main
    (hbody := fun c => (body_obligation m c).loose) (hq := fun _ _ _ => rfl)
    (howed := fun _ _ => rfl) (V := V m) (hmain := hmain m 𝒱₀) (hA := A_eq m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (fun c => (dats m 0 c).toRForget forgets0) (A_eq m) ((θ_run defs _ _).mono (fun _ h => h.1) (run_main_quiescent m ρ))

/-- Every execution ends, with the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.SbFwdIdeal.Gen

end
-- ==== Proof.Parts.SbFwdStep.lean ====
module

public import proofs.«01_k».proof.Proof.Gen.SbFwdIdeal.Skeleton
public import Idealize.ShloMosaic.Lib.Pointwise
public import Idealize.ShloMosaic.Lib.WordCmp
public import proofs.«01_k».proof.Proof.Parts.SbStep

/-! What the forward attention's step computes of one block of one head, on real operands. Rows are counted from `n`, columns from `b`. -/

@[expose] public section

noncomputable section

open Idealize.ShloMosaic Idealize.ShloMosaic.TcCoe

namespace Cert.SbFwdIdeal.Step

open Cert.SbFwdIdeal Cert.SbFwdIdeal.Gen Cert.SbMath
open Cert.SbIdeal.Step (select_ofBool abs_real lsg_real eighth)

/-- The output's row with the columns from `b` on taken in. -/
def outFrom (H : Head) (i b x : ℕ) : ℝ := tail (fun c => H.a i c * H.v c x) b

theorem outFrom_zero (H : Head) {i b : ℕ} (h : i ≤ b) (x : ℕ) : outFrom H i b x = 0 :=
  tail_eq_zero _ fun c hc => by rw [Head.a_zero H (by omega), zero_mul]

theorem outFrom_all (H : Head) (i x : ℕ) : outFrom H i 0 x = H.o i x := by
  rw [outFrom, tail, Head.o, Finset.range_eq_Ico]

theorem outFrom_block (H : Head) (i x : ℕ) {b : ℕ} (h : b + 256 ≤ 2048) :
    outFrom H i (b + 256) x + ∑ y : Fin 256, H.a i (b + y) * H.v (b + y) x = outFrom H i b x := by
  rw [add_comm]; exact tail_block (fun c => H.a i c * H.v c x) h

/-- The triangle of ones strictly below the diagonal, and the mask of the earlier columns. -/
theorem upper_eq (x y : Fin 256) : (k0_pay1 (F := Ideal)) (ix2 x y) = (((if y.val < x.val then 1 else 0 : ℝ)) : EReal) := by
  pointwise [k0_pay1]
  rw [WordCmp.cmpi_sgt_ofNat (by omega) (by omega), select_ofBool]
  split_ifs <;> rfl
theorem mask_eq (r y : Fin 256) : k0_pay18 (ix2 r y) = BitVec.ofBool (decide (y.val < r.val)) := by
  pointwise [k0_pay18]
  rw [show IntOp.addi (BitVec.ofNat 32 y.val) 0#32 = BitVec.ofNat 32 y.val from BitVec.add_zero _, WordCmp.cmpi_slt_ofNat (by omega) (by omega)]

/-- The queries' rows scaled. -/
theorem scaled_eq (v : Vec Ideal S1x256x64 .bf16) (f : ℕ → ℕ → ℝ) (h : ∀ (r : Fin 256) (x : Fin 64), v (ix3 0 r x) = ((f r x : ℝ) : EReal)) (r : Fin 256) (x : Fin 64) :
    k0_pay12 v (ix2 r x) = ((f r x * (1 / 8) : ℝ) : EReal) := by
  pointwise [k0_pay12]; rw [h, eighth, ← EReal.coe_mul]

section Step

variable (H : Head) (n b : ℕ) (hb : b + 256 ≤ n) (hn : n + 256 ≤ 2048)
  (qs : FVec Ideal S256x64 .bf16) (hq : ∀ (r : Fin 256) (x : Fin 64), qs (ix2 r x) = ((H.q (n + r) x * (1 / 8) : ℝ) : EReal))
  (ks : Vec Ideal S1x256x64 .bf16) (hk : ∀ (y : Fin 256) (x : Fin 64), ks (ix3 0 y x) = ((H.k (b + y) x : ℝ) : EReal))
  (vs : Vec Ideal S1x256x64 .bf16) (hv : ∀ (y : Fin 256) (x : Fin 64), vs (ix3 0 y x) = ((H.v (b + y) x : ℝ) : EReal))
  (up : FVec Ideal S256x256 .bf16) (hup : ∀ x y : Fin 256, up (ix2 x y) = (((if y.val < x.val then 1 else 0 : ℝ)) : EReal))
  (acc : FVec Ideal S256x64 .f32) (hacc : ∀ (r : Fin 256) (x : Fin 64), acc (ix2 r x) = ((outFrom H (n + r) (b + 256) x : ℝ) : EReal))
  (cr : FVec Ideal S256x1 .f32) (hcr : ∀ r : Fin 256, cr (ix2 r 0) = ((tail (H.m (n + r)) (b + 256) : ℝ) : EReal))

include hq hk in
theorem z_eq (r y : Fin 256) : k0_pay32 qs ks (ix2 r y) = ((H.z (n + r) (b + y) : ℝ) : EReal) := by
  pointwise [k0_pay32]
  simp only [hq, hk, ← EReal.coe_mul, NormRow.coe_sum]; rfl

include hq hk in
theorem lb_eq (r y : Fin 256) : k0_pay33 qs ks (ix2 r y) = ((lsg (H.z (n + r) (b + y)) : ℝ) : EReal) := by
  pointwise [k0_pay33]
  rw [z_eq H n b qs hq ks hk r y, lsg_real]

include hq hk hb in
theorem lom_eq (r y : Fin 256) : k0_pay34 qs ks (ix2 r y) = ((H.m (n + r) (b + y) : ℝ) : EReal) := by
  pointwise [k0_pay34]
  rw [z_eq H n b qs hq ks hk r y, lb_eq H n b qs hq ks hk r y, ← EReal.coe_sub, Head.m, if_pos (by omega)]

include hq hk in
/-- The block of the diagonal, masked. -/
theorem lomd_eq (hbn : b = n) (r y : Fin 256) : k0_pay26 qs k0_pay18 ks (ix2 r y) = ((H.m (n + r) (b + y) : ℝ) : EReal) := by
  pointwise [k0_pay26]
  rw [show k0_pay24 qs ks (ix2 r y) = _ from z_eq H n b qs hq ks hk r y, show k0_pay25 qs ks (ix2 r y) = _ from lb_eq H n b qs hq ks hk r y, mask_eq, select_ofBool, ← EReal.coe_sub, Head.m]
  by_cases h : y.val < r.val
  · rw [if_pos h, if_pos (by omega)]
  · rw [if_neg h, if_neg (by omega)]; rfl

include hq hk hb hup in
theorem sums_eq (r y : Fin 256) : k0_pay38 qs up ks (ix2 r y) = ((∑ x : Fin 256, H.m (n + r) (b + x) * (if y.val < x.val then 1 else 0) : ℝ) : EReal) := by
  pointwise [k0_pay38]
  simp only [lom_eq H n b hb qs hq ks hk, hup, ← EReal.coe_mul, NormRow.coe_sum]

include hq hk hup in
theorem sumsd_eq (hbn : b = n) (r y : Fin 256) : k0_pay28 up qs k0_pay18 ks (ix2 r y) = ((∑ x : Fin 256, H.m (n + r) (b + x) * (if y.val < x.val then 1 else 0) : ℝ) : EReal) := by
  pointwise [k0_pay28]
  simp only [lomd_eq H n b qs hq ks hk hbn, hup, ← EReal.coe_mul, NormRow.coe_sum]

include hq hk hb hup hcr hn in
theorem a_eq (r y : Fin 256) : k0_pay40 qs up cr ks (ix2 r y) = ((H.a (n + r) (b + y) : ℝ) : EReal) := by
  pointwise [k0_pay40]
  rw [lb_eq H n b qs hq ks hk, sums_eq H n b hb qs hq ks hk up hup, hcr, ← EReal.coe_add, ← EReal.coe_add, Ideal.exp_coe, tail_upper _ (by omega) y.isLt, Head.a, if_pos (by omega)]

include hq hk hup hcr hn in
theorem ad_eq (hbn : b = n) (r y : Fin 256) : k0_pay31 up qs cr k0_pay18 ks (ix2 r y) = ((Real.exp (lsg (H.z (n + r) (b + y)) + tail (H.m (n + r)) (b + y + 1)) : ℝ) : EReal) := by
  pointwise [k0_pay31]
  rw [show k0_pay25 qs ks (ix2 r y) = _ from lb_eq H n b qs hq ks hk r y, sumsd_eq H n b qs hq ks hk up hup hbn, hcr, ← EReal.coe_add, ← EReal.coe_add, Ideal.exp_coe, tail_upper _ (by omega) y.isLt]

include hacc hv hn in
theorem acc_eq (hbn : b ≤ n) (a : FVec Ideal S256x256 .f32) (ha : ∀ r y : Fin 256, a (ix2 r y) = ((H.a (n + r) (b + y) : ℝ) : EReal)) (r : Fin 256) (x : Fin 64) :
    k0_pay7 acc a vs (ix2 r x) = ((outFrom H (n + r) b x : ℝ) : EReal) := by
  pointwise [k0_pay7]
  simp only [ha, hv, hacc, ← EReal.coe_mul, NormRow.coe_sum, ← EReal.coe_add]
  rw [outFrom_block H _ _ (by omega)]

include hq hk hup hcr hacc hv hn in
theorem accd_eq (hbn : b = n) (r : Fin 256) (x : Fin 64) :
    k0_pay2 acc k0_pay18 (k0_pay31 up qs cr k0_pay18 ks) (Scalar.ofBits .f32 0x00000000#32) vs (ix2 r x) = ((outFrom H (n + r) b x : ℝ) : EReal) := by
  refine Eq.trans ?_ (acc_eq H n b hn vs hv acc hacc hbn.le
    (select k0_pay18 (k0_pay31 up qs cr k0_pay18 ks) (broadcast S256x256 (Scalar.ofBits .f32 0x00000000#32 : Ideal .f32))) (fun r y => ?_) r x)
  · rfl
  pointwise
  rw [ad_eq H n b hn qs hq ks hk up hup cr hcr hbn, mask_eq, select_ofBool, Head.a]
  by_cases h : y.val < r.val
  · rw [if_pos h, if_pos (by omega)]
  · rw [if_neg h, if_neg (by omega)]; rfl

variable (lom su : FVec Ideal S256x256 .f32) (hlom : ∀ r y : Fin 256, lom (ix2 r y) = ((H.m (n + r) (b + y) : ℝ) : EReal))
  (hsu : ∀ r y : Fin 256, su (ix2 r y) = ((∑ x : Fin 256, H.m (n + r) (b + x) * (if y.val < x.val then 1 else 0) : ℝ) : EReal))

include hcr hlom hsu hn in
theorem cr_eq (hbn : b ≤ n) (r : Fin 256) : k0_pay10 cr lom su (ix2 r 0) = ((tail (H.m (n + r)) b : ℝ) : EReal) := by
  pointwise [k0_pay10]
  rw [hcr, hsu, hlom, ← EReal.coe_add, ← EReal.coe_add]
  exact congrArg _ (tail_first (H.m (n + r)) (by omega))

end Step

/-- A trip starts with nothing carried, since past the diagonal all is masked. -/
theorem zero_acc (H : Head) (n : ℕ) (r : Fin 256) (x : Fin 64) : (k0_pay14 (F := Ideal)) (ix2 r x) = ((outFrom H (n + r) (n + 256) x : ℝ) : EReal) := by
  rw [outFrom_zero H (by omega)]
  pointwise [k0_pay14]
  rfl
theorem zero_cr (H : Head) (n : ℕ) (r : Fin 256) : (k0_pay15 (F := Ideal)) (ix2 r 0) = ((tail (H.m (n + r)) (n + 256) : ℝ) : EReal) := by
  rw [tail_eq_zero _ fun c h => Head.m_zero H (by omega)]
  pointwise [k0_pay15]
  rfl

/-- A maximum above some real is above the exit. -/
theorem alive_of_real (t : EReal) (x : ℝ) (h : (x : EReal) ≤ t) :
    Scalar.cmpf (F := Ideal) (φ := .f32) .ogt t (Named.named (F := Ideal) κ "sb_exit" 0xC2DC0000#32) = 1#1 := by
  have e : (Named.named (F := Ideal) (φ := .f32) κ "sb_exit" 0xC2DC0000#32) = (⊥ : EReal) := by simp [Named.named, κ]
  rw [e]
  show BitVec.ofBool (decide ((⊥ : EReal) < t)) = 1#1
  rw [decide_eq_true (lt_of_lt_of_le (EReal.bot_lt_coe x) h)]; rfl

theorem alive4 (cr1 : FVec Ideal S256x1 .f32) (lom su : FVec Ideal S256x256 .f32) (cr0 : FVec Ideal S256x1 .f32) (x : ℝ) (h : cr0 (ix2 0 0) = ((x : ℝ) : EReal)) :
    Scalar.cmpf .ogt (k0_pay4 cr1 lom su cr0) (Named.named (F := Ideal) κ "sb_exit" 0xC2DC0000#32) = 1#1 := by
  have hx : (cr0 (ix2 0 0) : EReal) ≤ k0_pay4 cr1 lom su cr0 := by
    unfold k0_pay4
    pointwise
    exact le_max_of_le_left (Finset.le_fold_max _ |>.2 (Or.inr ⟨(0, 0), Finset.mem_univ _, le_rfl⟩))
  exact alive_of_real _ x (h ▸ hx)

theorem alive11 (cr0 cr1 : FVec Ideal S256x1 .f32) (lom0 lom1 su1 : FVec Ideal S256x256 .f32) (s : FVec Ideal S256x1 .f32) (x : ℝ) (h : k0_pay8 cr0 lom0 s (ix2 0 0) = ((x : ℝ) : EReal)) :
    Scalar.cmpf .ogt (k0_pay11 cr0 cr1 lom0 lom1 su1 s) (Named.named (F := Ideal) κ "sb_exit" 0xC2DC0000#32) = 1#1 :=
  alive4 cr1 lom1 su1 (k0_pay8 cr0 lom0 s) x h

/-- The final rows as the kernel stores them. -/
theorem stored_eq (H : Head) (n : ℕ) (acc : FVec Ideal S256x64 .f32) (h : ∀ (r : Fin 256) (x : Fin 64), acc (ix2 r x) = ((outFrom H (n + r) 0 x : ℝ) : EReal)) (r : Fin 256) (x : Fin 64) :
    k0_pay5 acc (ix3 0 r x) = ((H.o (n + r) x : ℝ) : EReal) := by
  pointwise [k0_pay5]; rw [h, outFrom_all]

end Cert.SbFwdIdeal.Step
end
-- ==== Proof.Parts.SbFwdWalk.lean ====
module

public import proofs.«01_k».proof.Proof.Parts.SbFwdOffs
public import proofs.«01_k».proof.Proof.Parts.SbFwdStep
public import Idealize.ShloMosaic.Lib.WritesUnit

/-! The forward attention's inner loop by values: each trip takes the next block of columns into the carried sums. -/

@[expose] public section

set_option maxRecDepth 16384

noncomputable section

namespace Cert.SbFwdIdeal.Walk

open Cert.SbFwdIdeal Cert.SbFwdIdeal.Gen Cert.SbFwdIdeal.Body Cert.SbFwdIdeal.Step Cert.SbMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {κ' : Kind} {sp : Space}

/-- A lane of a pair of heads. -/
abbrev lane (h : Fin 2) (x : Fin 64) : Fin 128 := ⟨64 * h.val + x.val, by omega⟩

/-- A load of a head's rows out of a block of two heads. -/
theorem load_at {e : EltTy} (v : View sig κ' sp S1x2048x128 e) (f : v.ty.Contents (Elt Ideal)) {off : Fin 3 → ℕ} (inb : ∀ a, off a + (![1, 256, 64] : Fin 3 → ℕ) a ≤ S1x2048x128.size a)
    {b : ℕ} (h : Fin 2) (hb : b + 256 ≤ 2048) (ho : off = ![0, b, 64 * h.val]) (y : Fin 256) (x : Fin 64) :
    (v.readAt (Elt Ideal) (Rect.unit (s := S1x2048x128) off ![1, 256, 64] inb).toLoadRect f : Vec Ideal S1x256x64 e) (ix3 0 y x) = v.read (Elt Ideal) f (ix3 0 ⟨b + y.val, by omega⟩ (lane h x)) := by
  subst ho
  refine congrArg (v.read (Elt Ideal) f) (funext fun a => Fin.ext ?_)
  fin_cases a
  · rfl
  · show b + 1 * y.val = b + y.val; omega
  · show 64 * h.val + 1 * x.val = 64 * h.val + x.val; omega

/-- The output's rows below `n` are done. -/
def OutB (Hd : Fin 2 → Head) (n : ℕ) (X : Vec Ideal S1x2048x128 .f32) : Prop :=
  ∀ (h : Fin 2) (y : Fin 2048) (x : Fin 64), y.val < n → X (ix3 0 y (lane h x)) = (((Hd h).o y x : ℝ) : EReal)

theorem out_write (Hd : Fin 2 → Head) (v : View sig κ' sp S1x2048x128 .f32) (f : v.ty.Contents (Elt Ideal)) {n : ℕ} (hn : n + 256 ≤ 2048)
    {off0 off1 : Fin 3 → ℕ} (inb0 : ∀ a, off0 a + (![1, 256, 64] : Fin 3 → ℕ) a ≤ S1x2048x128.size a) (inb1 : ∀ a, off1 a + (![1, 256, 64] : Fin 3 → ℕ) a ≤ S1x2048x128.size a)
    (h0 : off0 = ![0, n, 0]) (h1 : off1 = ![0, n, 64]) (w0 w1 : Vec Ideal S1x256x64 .f32)
    (hw0 : ∀ (y : Fin 256) (x : Fin 64), w0 (ix3 0 y x) = (((Hd 0).o (n + y) x : ℝ) : EReal))
    (hw1 : ∀ (y : Fin 256) (x : Fin 64), w1 (ix3 0 y x) = (((Hd 1).o (n + y) x : ℝ) : EReal))
    (hold : OutB Hd n (v.read (Elt Ideal) f)) :
    OutB Hd (n + 256) (v.read (Elt Ideal) (v.writes (Elt Ideal) f
      [(⟨Rect.unit off1 ![1, 256, 64] inb1, w1⟩ : View.Piece (Elt Ideal) S1x2048x128 .f32), (⟨Rect.unit off0 ![1, 256, 64] inb0, w0⟩ : View.Piece (Elt Ideal) S1x2048x128 .f32)])) := by
  intro h y x hy
  by_cases hin : n ≤ y.val
  · obtain ⟨y', hy'⟩ : ∃ y' : Fin 256, y.val = n + y'.val := ⟨⟨y.val - n, by omega⟩, by dsimp only; omega⟩
    rw [hy']
    fin_cases h
    · refine (View.read_writes_cons_unit_of_not_mem v f inb1 w1 _ (ix3 0 y (lane 0 x)) h1 2 (Or.inl ?_)).trans ?_
      · show 64 * 0 + x.val < 64; omega
      refine (View.read_writes_cons_unit_of_mem v f inb0 w0 _ (ix3 0 y (lane 0 x)) (ix3 0 y' x) h0 fun a => ?_).trans (hw0 y' x)
      fin_cases a
      · rfl
      · exact hy'
      · rfl
    · refine (View.read_writes_cons_unit_of_mem v f inb1 w1 _ (ix3 0 y (lane 1 x)) (ix3 0 y' x) h1 fun a => ?_).trans (hw1 y' x)
      fin_cases a
      · rfl
      · exact hy'
      · rfl
  · have hout : y.val < n ∨ n + 256 ≤ y.val := by omega
    refine (View.read_writes_cons_unit_of_not_mem v f inb1 w1 _ (ix3 0 y (lane h x)) h1 1 hout).trans ?_
    refine (View.read_writes_cons_unit_of_not_mem v f inb0 w0 _ (ix3 0 y (lane h x)) h0 1 hout).trans ?_
    exact hold h y x (by omega)

/-- What the row blocks of the two heads hold in a trip at row `n`. -/
structure Ops (Hd : Fin 2 → Head) (n : ℕ) (q0 q1 : FVec Ideal S256x64 .bf16) : Prop where
  q0 : ∀ (r : Fin 256) (x : Fin 64), q0 (ix2 r x) = (((Hd 0).q (n + r) x * (1 / 8) : ℝ) : EReal)
  q1 : ∀ (r : Fin 256) (x : Fin 64), q1 (ix2 r x) = (((Hd 1).q (n + r) x * (1 / 8) : ℝ) : EReal)

/-- What a trip carries once the columns from `b` on are done. -/
structure Carry (Hd : Fin 2 → Head) (n b : ℕ) (a15 : FVec Ideal S256x64 .f32) (a16 : FVec Ideal S256x1 .f32) (a17 : FVec Ideal S256x64 .f32) (a18 : FVec Ideal S256x1 .f32) : Prop where
  acc0 : ∀ (r : Fin 256) (x : Fin 64), a15 (ix2 r x) = ((outFrom (Hd 0) (n + r) b x : ℝ) : EReal)
  cr0 : ∀ r : Fin 256, a16 (ix2 r 0) = ((tail ((Hd 0).m (n + r)) b : ℝ) : EReal)
  acc1 : ∀ (r : Fin 256) (x : Fin 64), a17 (ix2 r x) = ((outFrom (Hd 1) (n + r) b x : ℝ) : EReal)
  cr1 : ∀ r : Fin 256, a18 (ix2 r 0) = ((tail ((Hd 1).m (n + r)) b : ℝ) : EReal)

/-- A block of rows of one head. -/
abbrev Rows (g : ℕ → ℕ → ℝ) (b : ℕ) (X : Vec Ideal S1x256x64 .bf16) : Prop := ∀ (y : Fin 256) (x : Fin 64), X (ix3 0 y x) = ((g (b + y) x : ℝ) : EReal)

section

variable {Hd : Fin 2 → Head} {n b : ℕ} (hb : b + 256 ≤ n) (hn : n + 256 ≤ 2048) {q0 q1 : FVec Ideal S256x64 .bf16} (o : Ops Hd n q0 q1)
  {a15 a17 : FVec Ideal S256x64 .f32} {a16 a18 : FVec Ideal S256x1 .f32} (c : Carry Hd n (b + 256) a15 a16 a17 a18)
  {k0 k1 v0 v1 : Vec Ideal S1x256x64 .bf16} (hk0 : Rows (Hd 0).k b k0) (hk1 : Rows (Hd 1).k b k1) (hv0 : Rows (Hd 0).v b v0) (hv1 : Rows (Hd 1).v b v1)

include hb hn o c hk0 hk1 hv0 hv1

theorem carry_step : Carry Hd n b
    (k0_pay7 a15 (k0_pay40 q0 k0_pay1 a16 k0) v0)
    (k0_pay8 a16 (k0_pay34 q0 k0) (k0_pay41 q0 k0_pay1 k0))
    (k0_pay9 a17 a18 (k0_pay36 q1 k1) (k0_pay39 q1 k0_pay1 k1) v1)
    (k0_pay10 a18 (k0_pay37 q1 k1) (k0_pay39 q1 k0_pay1 k1)) :=
  have lom0 := lom_eq (Hd 0) n b hb q0 o.q0 k0 hk0
  have lom1 := lom_eq (Hd 1) n b hb q1 o.q1 k1 hk1
  have su0 := sums_eq (Hd 0) n b hb q0 o.q0 k0 hk0 _ upper_eq
  have su1 := sums_eq (Hd 1) n b hb q1 o.q1 k1 hk1 _ upper_eq
  have a0 := a_eq (Hd 0) n b hb hn q0 o.q0 k0 hk0 _ upper_eq a16 c.cr0
  have a1 := a_eq (Hd 1) n b hb hn q1 o.q1 k1 hk1 _ upper_eq a18 c.cr1
  { acc0 := acc_eq (Hd 0) n b hn v0 hv0 a15 c.acc0 (by omega) _ a0
    cr0 := cr_eq (Hd 0) n b hn a16 c.cr0 _ _ lom0 su0 (by omega)
    acc1 := acc_eq (Hd 1) n b hn v1 hv1 a17 c.acc1 (by omega) _ a1
    cr1 := cr_eq (Hd 1) n b hn a18 c.cr1 _ _ lom1 su1 (by omega) }

end

/-- What a block of two heads holds. -/
abbrev InB {e : FTy} (g : Fin 2 → ℕ → ℕ → ℝ) (X : FVec Ideal S1x2048x128 e) : Prop :=
  ∀ (h : Fin 2) (y : Fin 2048) (x : Fin 64), X (ix3 0 y (lane h x)) = ((g h y x : ℝ) : EReal)

theorem rows_of (v : View sig κ' sp S1x2048x128 .bf16) (f : v.ty.Contents (Elt Ideal)) {off : Fin 3 → ℕ} (inb : ∀ a, off a + (![1, 256, 64] : Fin 3 → ℕ) a ≤ S1x2048x128.size a)
    {b : ℕ} (h : Fin 2) (hb : b + 256 ≤ 2048) (ho : off = ![0, b, 64 * h.val]) (g : Fin 2 → ℕ → ℕ → ℝ) (hg : InB (e := .bf16) g (v.read (Elt Ideal) f)) :
    Rows (g h) b (v.readAt (Elt Ideal) (Rect.unit (s := S1x2048x128) off ![1, 256, 64] inb).toLoadRect f) :=
  fun y x => (load_at v f inb h hb ho y x).trans (hg h _ x)

theorem inb_rows {off : Fin 3 → ℕ} {b l : ℕ} (ho : off = ![0, b, l]) (hb : b + 256 ≤ 2048) (hl : l + 64 ≤ 128) : ∀ a, off a + (![1, 256, 64] : Fin 3 → ℕ) a ≤ S1x2048x128.size a := by
  subst ho; intro a; fin_cases a
  · exact le_rfl
  · exact hb
  · exact hl

theorem cond_eq (k : Fin k0_t1_loop.trips) (j : ℕ) (h : j < k.val) :
    Scalar.andi (Scalar.cmpi .slt (BitVec.ofNat 32 j) (Scalar.muli (Scf.iv 0#32 1#32 k) 1#32)) (Scalar.cmpi .sgt (1#32) 0#32) = 1#1 := by
  have hk : ∀ (k j : Fin 8), j.val < k.val → Scalar.andi (Scalar.cmpi .slt (BitVec.ofNat 32 j.val) (Scalar.muli (Scf.iv 0#32 1#32 k.val) 1#32)) (Scalar.cmpi .sgt (1#32) 0#32) = 1#1 := by decide
  have hk8 : k.val < 8 := lt_of_lt_of_eq k.isLt (by decide)
  exact hk ⟨k.val, hk8⟩ ⟨j, by omega⟩ h

theorem alive_word (b : BitVec 1) (h : b = 1#1) : (Scalar.extui b : BitVec 32) = 1#32 := by subst h; decide

set_option maxHeartbeats 4000000 in
theorem while_wp (c : Dev nD) (i : grid0.Coords) (k : Fin k0_t1_loop.trips) (arg3 : Memref sig .tc .vmem S1x2048x128 .bf16) (harg3 : arg3.IsWhole)
    (arg4 : Memref sig .tc .vmem S1x2048x128 .bf16) (harg4 : arg4.IsWhole) (v16 v23 : FVec Ideal S256x64 .bf16)
    (f3 : Buf (Elt Ideal) (arg3.view.loc (c : Thread nD τ))) (f4 : Buf (Elt Ideal) (arg4.view.loc (c : Thread nD τ)))
    (Hd : Fin 2 → Head) (h3 : InB (e := .bf16) (fun h => (Hd h).k) (arg3.view.read (Elt Ideal) f3)) (h4 : InB (e := .bf16) (fun h => (Hd h).v) (arg4.view.read (Elt Ideal) f4))
    (ho : Ops Hd (k.val * 256) v16 v23) :
    ∀ n j s, j + n = k.val → s = (k.val - j) * 256 → ∀ (arg15 : FVec Ideal S256x64 .f32) (arg16 : FVec Ideal S256x1 .f32) (arg17 : FVec Ideal S256x64 .f32) (arg18 : FVec Ideal S256x1 .f32)
      (hca : Carry Hd (k.val * 256) s arg15 arg16 arg17 arg18)
      (K : BitVec 32 × BitVec 32 × FVec Ideal S256x64 .f32 × FVec Ideal S256x1 .f32 × FVec Ideal S256x64 .f32 × FVec Ideal S256x1 .f32 → sProp (MT nD τ sig Unit (Elt Ideal) ℕ (UR sig nD τ) ℕ)),
    iprop((arg3.view.loc (c : Thread nD τ) ↦[arg3.view.set]{fullShare} f3) ∗ (arg4.view.loc (c : Thread nD τ) ↦[arg4.view.set]{fullShare} f4)
        ∗ (∀ r, iprop(⌜(∀ (y : Fin 256) (x : Fin 64), r.2.2.1 (ix2 y x) = ((outFrom (Hd 0) (k.val * 256 + y) 0 x : ℝ) : EReal))
              ∧ (∀ (y : Fin 256) (x : Fin 64), r.2.2.2.2.1 (ix2 y x) = ((outFrom (Hd 1) (k.val * 256 + y) 0 x : ℝ) : EReal))⌝ ∗ (arg3.view.loc (c : Thread nD τ) ↦[arg3.view.set]{fullShare} f3) ∗ (arg4.view.loc (c : Thread nD τ) ↦[arg4.view.set]{fullShare} f4)) -∗ K r))
      ⊢ wp frame (wpE (defs₀ (F := Ideal)) 𝒱₀ (c : Thread nD τ) (some n)) Set.univ
          (defs₀ (F := Ideal) .tc 1 ⟨i, k, arg3, harg3, v16, v23, k0_pay1, arg4, harg4, BitVec.ofNat 32 j, 1#32, arg15, arg16, arg17, arg18⟩) K := by
  have hk8 : k.val < 8 := lt_of_lt_of_eq k.isLt (by decide)
  intro n
  induction n with
  | zero =>
    intro j s hj hs arg15 arg16 arg17 arg18 hca K
    show _ ⊢ wp frame (wpE (defs₀ (F := Ideal)) 𝒱₀ (c : Thread nD τ) (some 0)) Set.univ (cc0_while1 i k arg3 harg3 v16 v23 k0_pay1 arg4 harg4 (BitVec.ofNat 32 j) 1#32 arg15 arg16 arg17 arg18) K
    simp only [cc0_while1_eq_skeleton]; unfold cc0_while1_skel
    have hc : Scalar.andi (Scalar.cmpi .slt (BitVec.ofNat 32 j) (Scalar.muli (Scf.iv 0#32 1#32 k) 1#32)) (Scalar.cmpi .sgt (1#32) 0#32) ≠ 1#1 := cond_ne k j _ (by omega)
    obtain rfl : s = 0 := by rw [hs, show k.val - j = 0 by omega]
    simp only [if_neg hc, Prog.pure_eq_ret]
    iintro ⟨H3, H4, HK⟩
    rw [wp_ret]; imodintro
    iapply HK
    iframe
    ipureintro
    exact ⟨hca.acc0, hca.acc1⟩
  | succ n ih =>
    intro j s hj hs arg15 arg16 arg17 arg18 hca K
    show _ ⊢ wp frame (wpE (defs₀ (F := Ideal)) 𝒱₀ (c : Thread nD τ) (some (n+1))) Set.univ (cc0_while1 i k arg3 harg3 v16 v23 k0_pay1 arg4 harg4 (BitVec.ofNat 32 j) 1#32 arg15 arg16 arg17 arg18) K
    simp only [cc0_while1_eq_skeleton]; unfold cc0_while1_skel
    iintro ⟨H3, H4, HK⟩
    have hjk : j < k.val := by omega
    have hc := cond_eq k j hjk
    simp only [if_pos hc, k0_part3_eq_skeleton]
    unfold k0_part3_skel
    simp only [Prog.lift, Prog.bind_op, Prog.bind_ret, Prog.pure_eq_ret]
    have hchk : k0_chk1 k (BitVec.ofNat 32 j) := chk_of_lt k j hjk
    haveI : Fact (j < k.val) := ⟨hjk⟩
    sl_exec
    iapply (wp_call 𝒱₀ (c : Thread nD τ) (some (n+1)) Set.univ n (fun u hu => by cases hu; exact Nat.lt_succ_self n))
    have e1 : Scalar.addi (BitVec.ofNat 32 j) 1#32 = BitVec.ofNat 32 (j+1) := by show BitVec.ofNat 32 j + 1#32 = _; rw [BitVec.ofNat_add]
    rw [e1]
    obtain ⟨o5, o6⟩ := offs_of_lt k j hjk
    have hb : (k.val - 1 - j) * 256 + 256 ≤ k.val * 256 := by omega
    have hn : k.val * 256 + 256 ≤ 2048 := by omega
    obtain rfl : s = (k.val - 1 - j) * 256 + 256 := by omega
    have hk0 := rows_of arg3.view f3 (inb_rows o5 (by omega) (by omega)) 0 (by omega) o5 _ h3
    have hk1 := rows_of arg3.view f3 (inb_rows o6 (by omega) (by omega)) 1 (by omega) o6 _ h3
    have hv0 := rows_of arg4.view f4 (inb_rows o5 (by omega) (by omega)) 0 (by omega) o5 _ h4
    have hv1 := rows_of arg4.view f4 (inb_rows o6 (by omega) (by omega)) 1 (by omega) o6 _ h4
    have hca' := carry_step hb hn ho hca hk0 hk1 hv0 hv1
    rw [alive_word _ (alive11 _ _ _ _ _ _ _ (hca'.cr0 0))]
    iapply (ih (j+1) _ (by omega) (by omega) _ _ _ _ hca')
    isplitl [H3]; · iexact H3
    isplitl [H4]; · iexact H4
    iintro %r H
    rw [wp_ret]; imodintro
    iapply HK $$ H

end Cert.SbFwdIdeal.Walk
end
-- ==== Proof.Parts.SbFwdRun.lean ====
module

public import proofs.«01_k».proof.Proof.Parts.SbFwdWalk

/-! The forward attention's body by values: each trip of its outer loop writes one block of the output's rows. -/

@[expose] public section

set_option maxRecDepth 16384

noncomputable section

namespace Cert.SbFwdIdeal.Run

open Cert.SbFwdIdeal Cert.SbFwdIdeal.Gen Cert.SbFwdIdeal.Body Cert.SbFwdIdeal.Step Cert.SbFwdIdeal.Walk Cert.SbMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section

variable {Hd : Fin 2 → Head} {n : ℕ} (hn : n + 256 ≤ 2048) {q0 q1 : Vec Ideal S1x256x64 .bf16} (o : Ops Hd n (k0_pay12 q0) (k0_pay13 q1))
  {k0 k1 v0 v1 : Vec Ideal S1x256x64 .bf16} (hk0 : Rows (Hd 0).k n k0) (hk1 : Rows (Hd 1).k n k1) (hv0 : Rows (Hd 0).v n v0) (hv1 : Rows (Hd 1).v n v1)

include hn o hk0 hk1 hv0 hv1

/-- The block of the diagonal starts a trip's sums. -/
theorem carry_diag : Carry Hd n n
    (k0_pay29 k0_pay1 k0_pay14 k0_pay15 k0_pay18 (k0_pay19 q0 k0) (k0_pay20 q0 k0) (k0_pay21 q0 k0) v0)
    (k0_pay30 k0_pay1 k0_pay15 k0_pay18 (k0_pay19 q0 k0) (k0_pay20 q0 k0) (k0_pay21 q0 k0))
    (k0_pay2 k0_pay16 k0_pay18 (k0_pay31 k0_pay1 (k0_pay13 q1) k0_pay17 k0_pay18 k1) (Scalar.ofBits .f32 0x00000000#32) v1)
    (k0_pay3 k0_pay17 (k0_pay26 (k0_pay13 q1) k0_pay18 k1) (k0_pay28 k0_pay1 (k0_pay13 q1) k0_pay18 k1)) :=
  have lom0 := lomd_eq (Hd 0) n n _ o.q0 k0 hk0 rfl
  have lom1 := lomd_eq (Hd 1) n n _ o.q1 k1 hk1 rfl
  have su0 := sumsd_eq (Hd 0) n n _ o.q0 k0 hk0 _ upper_eq rfl
  have su1 := sumsd_eq (Hd 1) n n _ o.q1 k1 hk1 _ upper_eq rfl
  { acc0 := accd_eq (Hd 0) n n hn _ o.q0 k0 hk0 v0 hv0 _ upper_eq _ (zero_acc (Hd 0) n) _ (zero_cr (Hd 0) n) rfl
    cr0 := cr_eq (Hd 0) n n hn _ (zero_cr (Hd 0) n) _ _ lom0 su0 le_rfl
    acc1 := accd_eq (Hd 1) n n hn _ o.q1 k1 hk1 v1 hv1 _ upper_eq _ (zero_acc (Hd 1) n) _ (zero_cr (Hd 1) n) rfl
    cr1 := cr_eq (Hd 1) n n hn _ (zero_cr (Hd 1) n) _ _ lom1 su1 le_rfl }

end

/-- What the three inputs' blocks hold. -/
structure Ins (Hd : Fin 2 → Head) (X2 X3 X4 : Vec Ideal S1x2048x128 .bf16) : Prop where
  q : InB (e := .bf16) (fun h => (Hd h).q) X2
  k : InB (e := .bf16) (fun h => (Hd h).k) X3
  v : InB (e := .bf16) (fun h => (Hd h).v) X4

theorem ops_of {Hd : Fin 2 → Head} {n : ℕ} {q0 q1 : Vec Ideal S1x256x64 .bf16} (hq0 : Rows (Hd 0).q n q0) (hq1 : Rows (Hd 1).q n q1) : Ops Hd n (k0_pay12 q0) (k0_pay13 q1) :=
  { q0 := scaled_eq q0 (fun r x => (Hd 0).q (n + r) x) hq0
    q1 := scaled_eq q1 (fun r x => (Hd 1).q (n + r) x) hq1 }

set_option maxHeartbeats 4000000 in
set_option warn.classDefReducibility false in
/-- Between the trips of the outer loop the inputs are held as they are, and the rows already passed stand in the output. -/
@[sl_loop] def loopInv (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .f32) (harg5 : arg5.IsWhole)
    (f2 : Buf (Elt Ideal) (arg2.view.loc (c : Thread nD τ))) (f3 : Buf (Elt Ideal) (arg3.view.loc (c : Thread nD τ))) (f4 : Buf (Elt Ideal) (arg4.view.loc (c : Thread nD τ))) (Hd : Fin 2 → Head) (hi : Ins Hd (arg2.view.read (Elt Ideal) f2) (arg3.view.read (Elt Ideal) f3) (arg4.view.read (Elt Ideal) f4)) :
    LoopInvTy_k0_t1 (F := Ideal) Unit ℕ (UR sig nD τ) ℕ 𝒱₀ c none Set.univ i arg2 harg2 arg3 harg3 arg4 harg4 arg5 harg5 where
  inv k _ := iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (∃ f : Buf (Elt Ideal) (arg5.view.loc (c : Thread nD τ)), ⌜OutB Hd (k * 256) (arg5.view.read (Elt Ideal) f)⌝ ∗ arg5.view.loc (c : Thread nD τ) ↦[arg5.view.set]{fullShare} f))
  step k _ := by
    unfold k0_t1_body
    simp only [k0_part1_eq_skeleton, k0_part2_eq_skeleton]
    unfold k0_part1_skel k0_part2_skel
    simp only [Prog.lift, Prog.bind_op, Prog.bind_ret, Prog.pure_eq_ret]
    iintro ⟨H2, H3, H4, ⟨%f5, %h5, H5⟩⟩
    obtain ⟨h2, h3, h4⟩ := hi
    have hk8 : k.val < 8 := lt_of_lt_of_eq k.isLt (by decide)
    have hn : k.val * 256 + 256 ≤ 2048 := by omega
    have o1 := (closedOff1 k).2
    have o2 := (closedOff2 k).2
    have o3 := (closedOff3 k).2
    have o4 := (closedOff4 k).2
    have hk0 := rows_of arg3.view f3 (inb_rows o3 (by omega) (by omega)) 0 (by omega) o3 _ h3
    have hk1 := rows_of arg3.view f3 (inb_rows o4 (by omega) (by omega)) 1 (by omega) o4 _ h3
    have hv0 := rows_of arg4.view f4 (inb_rows o3 (by omega) (by omega)) 0 (by omega) o3 _ h4
    have hv1 := rows_of arg4.view f4 (inb_rows o4 (by omega) (by omega)) 1 (by omega) o4 _ h4
    have hq0 := rows_of arg2.view f2 (inb_rows o1 (by omega) (by omega)) 0 (by omega) o1 _ h2
    have hq1 := rows_of arg2.view f2 (inb_rows o2 (by omega) (by omega)) 1 (by omega) o2 _ h2
    have ho := ops_of hq0 hq1
    have hca := carry_diag hn ho hk0 hk1 hv0 hv1
    sl_exec
    iapply (wp_call 𝒱₀ (c : Thread nD τ) none Set.univ k.val (fun u hu => nomatch hu))
    have hal := fun a b e => alive4 a b e _ _ (hca.cr0 0)
    rw [alive_word _ (hal _ _ _)]
    have hw := while_wp c i k arg3 harg3 arg4 harg4 _ _ f3 f4 Hd h3 h4 ho k.val 0 (k.val * 256) (by omega) rfl _ _ _ _ hca
    iapply hw
    isplitl [H3]; · iexact H3
    isplitl [H4]; · iexact H4
    iintro %r ⟨%hr, H3, H4⟩
    obtain ⟨r0, r1, r2, r3, r4, r5⟩ := r
    obtain ⟨hr0, hr1⟩ := hr
    have h5' := out_write Hd arg5.view f5 hn (inb_rows o1 (by omega) (by omega)) (inb_rows o2 (by omega) (by omega)) o1 o2 _ _
      (stored_eq (Hd 0) (k.val * 256) r2 hr0) (stored_eq (Hd 1) (k.val * 256) r4 hr1) h5
    sl_exec
    rw [wp_ret]; imodintro
    rw [show (k.val + 1) * 256 = k.val * 256 + 256 by omega]
    isplitl [H2]; · iexact H2
    isplitl [H3]; · iexact H3
    isplitl [H4]; · iexact H4
    iexists _; isplitr
    · ipureintro; exact h5'
    iexact H5

/-- A buffer held at contents owns the memref at what they read as. -/
theorem held_as (c : Dev nD) {s : Shape} {e : EltTy} (arg : Memref sig .tc .vmem s e) {f : Buf (Elt Ideal) (arg.view.loc (c : Thread nD τ))} :
    (arg.view.loc (c : Thread nD τ) ↦[arg.view.set]{fullShare} f : sProp (MT nD τ sig Unit (Elt Ideal) ℕ (UR sig nD τ) ℕ)) ⊢ iprop(∃ g : Buf (Elt Ideal) (arg.view.loc (c : Thread nD τ)), ⌜arg.view.read (Elt Ideal) g = arg.view.read (Elt Ideal) f⌝ ∗ arg.view.loc (c : Thread nD τ) ↦[arg.view.set]{fullShare} g) := by
  iintro H
  iexists f; isplitr
  · ipureintro; rfl
  iexact H

set_option maxHeartbeats 4000000 in
/-- The body on whole buffers: the inputs stay, the output ends at the attention of the two heads. -/
theorem sound_kernel (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .f32) (harg5 : arg5.IsWhole) (X2 X3 X4 : Vec Ideal S1x2048x128 .bf16) (Hd : Fin 2 → Head) (hi : Ins Hd X2 X3 X4) (K : PUnit → sProp (MT nD τ sig Unit (Elt Ideal) ℕ (UR sig nD τ) ℕ)) :
    iprop(owns (c : Thread nD τ) arg2 fullShare X2 ∗ owns (c : Thread nD τ) arg3 fullShare X3 ∗ owns (c : Thread nD τ) arg4 fullShare X4 ∗ (∃ X, owns (c : Thread nD τ) arg5 fullShare X)
      ∗ (iprop(owns (c : Thread nD τ) arg2 fullShare X2 ∗ owns (c : Thread nD τ) arg3 fullShare X3 ∗ owns (c : Thread nD τ) arg4 fullShare X4 ∗ (∃ X, ⌜OutB Hd 2048 X⌝ ∗ owns (c : Thread nD τ) arg5 fullShare X)) -∗ K ⟨⟩))
      ⊢ wp frame (wpE (defs₀ (F := Ideal)) 𝒱₀ (c : Thread nD τ) none) Set.univ (cc0_sb_fwd (F := Ideal) i arg2 harg2 arg3 harg3 arg4 harg4 arg5 harg5) K := by
  simp only [cc0_sb_fwd_eq_skeleton]; unfold cc0_sb_fwd_skel
  simp only [Prog.lift, bind_assoc, Prog.bind_op, Prog.bind_ret, Prog.pure_eq_ret]
  unfold owns
  iintro ⟨⟨%f2, %e2, H2⟩, ⟨%f3, %e3, H3⟩, ⟨%f4, %e4, H4⟩, ⟨%X5, %f5, -, H5⟩, HK⟩
  subst e2 e3 e4
  have h5 : OutB Hd (0 * 256) (arg5.view.read (Elt Ideal) f5) := fun h y x hy => absurd hy (by omega)
  sl_exec
  have hL := hL3
  rw [show Scf.trips k0_t1_loop.lb k0_t1_loop.ub k0_t1_loop.st * 256 = 2048 by decide] at hL
  rw [wp_ret]; imodintro
  iapply HK
  isplitl [H2]
  · iexists _; isplitr
    · ipureintro; rfl
    iexact H2
  isplitl [H3]
  · iexists _; isplitr
    · ipureintro; rfl
    iexact H3
  isplitl [H4]
  · iexists _; isplitr
    · ipureintro; rfl
    iexact H4
  iexists _; isplitr
  · ipureintro; exact hL
  iapply (held_as c arg5); iexact H5

end Cert.SbFwdIdeal.Run

end
-- ==== Proof.Parts.SbFwdLaunch.lean ====
module

public import proofs.«01_k».proof.Proof.Parts.SbFwdFrame
public import proofs.«01_k».proof.Proof.Parts.SbFwdRun

/-! The run of the forward attention's region by values: at every point the output's block stands in closed form, given what the inputs' blocks hold. -/

@[expose] public section

set_option maxRecDepth 16384

noncomputable section

namespace Cert.SbFwdIdeal.Launch

open Cert.SbFwdIdeal.Gen Cert.SbFwdIdeal.Body Cert.SbFwdIdeal.Walk Cert.SbFwdIdeal.Run Cert.SbMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A block of two heads from the values it holds. -/
def blkOf (g : Fin 2 → ℕ → ℕ → ℝ) : Vec Ideal S1x2048x128 .f32 :=
  fun i => ((g ⟨(i 2).val / 64, by have h : (i 2).val < 128 := (i 2).isLt; omega⟩ (i 1).val ((i 2).val % 64) : ℝ) : EReal)

theorem blkOf_at (g : Fin 2 → ℕ → ℕ → ℝ) (h : Fin 2) (y : Fin 2048) (x : Fin 64) : blkOf g (ix3 0 y (lane h x)) = ((g h y x : ℝ) : EReal) := by
  show ((g ⟨(64 * h.val + x.val) / 64, _⟩ y.val ((64 * h.val + x.val) % 64) : ℝ) : EReal) = _
  have e1 : (64 * h.val + x.val) % 64 = x.val := by omega
  have e2 : (⟨(64 * h.val + x.val) / 64, by omega⟩ : Fin 2) = h := Fin.ext (by show (64 * h.val + x.val) / 64 = h.val; omega)
  rw [e1, e2]

theorem eq_blkOf {Hd : Fin 2 → Head} {X : Vec Ideal S1x2048x128 .f32} (h : OutB Hd 2048 X) : X = blkOf (fun h => (Hd h).o) := by
  funext i
  have hz : (i 2).val < 128 := (i 2).isLt
  have e : i = ix3 0 (i 1) (lane ⟨(i 2).val / 64, by omega⟩ ⟨(i 2).val % 64, by omega⟩) := by
    funext a
    fin_cases a
    · exact Fin.ext (by have h0 : (i 0).val < 1 := (i 0).isLt; show (i 0).val = 0; omega)
    · rfl
    · exact Fin.ext (by show (i 2).val = 64 * ((i 2).val / 64) + (i 2).val % 64; omega)
  rw [e]
  exact (h _ (i 1) _ (i 1).isLt).trans (blkOf_at (fun h => (Hd h).o) _ _ _).symm

variable (m : (ℓ : Loc nD τ sig) → Buf (Elt Ideal) ℓ) (ρ : Dev nD → PrngReg) (H : Dev nD → Fin (cfg0 (F := Ideal)).N → Fin 2 → Head)
  (hins : ∀ c t, Ins (H c t) (iblk m c 0 t) (iblk m c 1 t) (iblk m c 2 t))

def dats (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkOf (fun h => (H c t h).o)
  Φ _ := Pipeline.ΦA spec0 c
  q w := Pipeline.shareOf spec0 w
  owed _ := 0

theorem A_eq (c : Dev nD) (w : Fin (cfg0 (F := Ideal)).W) : (dats m H 0 c).A w = V m c (Pipeline.arrRef spec0 w) := by
  dsimp only [dats]

theorem after0_0 (c : Dev nD) (t : Fin (cfg0 (F := Ideal)).N) : (dats m H 0 c).after 0 t = iblk m c 0 t := rfl
theorem after0_1 (c : Dev nD) (t : Fin (cfg0 (F := Ideal)).N) : (dats m H 0 c).after 1 t = iblk m c 1 t := rfl
theorem after0_2 (c : Dev nD) (t : Fin (cfg0 (F := Ideal)).N) : (dats m H 0 c).after 2 t = iblk m c 2 t := rfl
theorem after0_3 (c : Dev nD) (t : Fin (cfg0 (F := Ideal)).N) : (dats m H 0 c).after 3 t = blkOf (fun h => (H c t h).o) := rfl
theorem before0_0 (c : Dev nD) (t : Fin (cfg0 (F := Ideal)).N) (d) : (dats m H 0 c).before 0 t d = iblk m c 0 t :=
  before0_0_of m (dats m H 0 c) (A_eq m H c 0) (after0_0 m H c) t d
theorem before0_1 (c : Dev nD) (t : Fin (cfg0 (F := Ideal)).N) (d) : (dats m H 0 c).before 1 t d = iblk m c 1 t :=
  before0_1_of m (dats m H 0 c) (A_eq m H c 1) (after0_1 m H c) t d
theorem before0_2 (c : Dev nD) (t : Fin (cfg0 (F := Ideal)).N) (d) : (dats m H 0 c).before 2 t d = iblk m c 2 t :=
  before0_2_of m (dats m H 0 c) (A_eq m H c 2) (after0_2 m H c) t d

/-- What the body is called with at a point, -/
def bodyPre (c : Dev nD) (t : Fin (cfg0 (F := Ideal)).N) : sProp (MT nD τ sig Unit (Elt Ideal) ℕ (UR sig nD τ) ℕ) :=
  iprop((dats m H 0 c).Φ t.castSucc ∗ (dats m H 0 c).owesAt () t.castSucc
    ∗ (∃ d, owns (c : Thread nD τ) (st0_0 t) fullShare ((dats m H 0 c).before 0 t d))
    ∗ (∃ d, owns (c : Thread nD τ) (st0_1 t) fullShare ((dats m H 0 c).before 1 t d))
    ∗ (∃ d, owns (c : Thread nD τ) (st0_2 t) fullShare ((dats m H 0 c).before 2 t d))
    ∗ (∃ d, owns (c : Thread nD τ) (st0_3 t) fullShare ((dats m H 0 c).before 3 t d)))

/-- and what it returns. -/
def bodyPost (c : Dev nD) (t : Fin (cfg0 (F := Ideal)).N) : sProp (MT nD τ sig Unit (Elt Ideal) ℕ (UR sig nD τ) ℕ) :=
  iprop((dats m H 0 c).Φ t.succ ∗ (dats m H 0 c).owesAt () t.succ
    ∗ owns (c : Thread nD τ) (st0_0 t) fullShare ((dats m H 0 c).after 0 t)
    ∗ owns (c : Thread nD τ) (st0_1 t) fullShare ((dats m H 0 c).after 1 t)
    ∗ owns (c : Thread nD τ) (st0_2 t) fullShare ((dats m H 0 c).after 2 t)
    ∗ owns (c : Thread nD τ) (st0_3 t) fullShare ((dats m H 0 c).after 3 t))

set_option maxHeartbeats 2400000 in
include hins in
theorem sound_body (c : Dev nD) (t : Fin (cfg0 (F := Ideal)).N) :
    bodyPre m H c t ⊢ wp frame (wpE (defs₀ (F := Ideal)) 𝒱₀ (c : Thread nD τ) none) Set.univ (bodyAt0 t) (fun _ => bodyPost m H c t) := by
  unfold bodyPre bodyPost bodyAt0
  simp only [before0_0, before0_1, before0_2]
  rw [show (dats m H 0 c).Φ t.succ = (dats m H 0 c).Φ t.castSucc from rfl,
    show (dats m H 0 c).owesAt () t.succ = (dats m H 0 c).owesAt () t.castSucc from rfl,
    after0_0, after0_1, after0_2, after0_3]
  iintro ⟨Hr, Ho, ⟨%d0, H0⟩, ⟨%d1, H1⟩, ⟨%d2, H2⟩, ⟨%d3, H3⟩⟩
  iapply (Run.sound_kernel c (grid0.coords t) _ _ _ _ _ _ _ _ (iblk m c 0 t) (iblk m c 1 t) (iblk m c 2 t) (H c t) (hins c t))
  isplitl [H0]; · iexact H0
  isplitl [H1]; · iexact H1
  isplitl [H2]; · iexact H2
  isplitl [H3]; · iexists _; iexact H3
  iintro ⟨H0, H1, H2, ⟨%X3, %e3, H3⟩⟩
  obtain rfl := eq_blkOf e3
  isplitl [Hr]; · iexact Hr
  isplitl [Ho]; · iexact Ho
  isplitl [H0]; · iexact H0
  isplitl [H1]; · iexact H1
  isplitl [H2]; · iexact H2
  iexact H3

include hins in
theorem body_obligation (c : Dev nD) : BodyObligation (dats m H 0 c) (defs₀ (F := Ideal)) 𝒱₀ () Set.univ := fun t => by
  rw [bigSep_W0, bigSep_W0, defs₀_row]
  exact triple_restated (sound_body m H hins c t) rfl .rfl fun _ => .rfl

include hins in
set_option backward.isDefEq.respectTransparency.types false in
theorem run_main_quiescent : θ_run defs (onTc (τ := τ) (main (F := Ideal))) (s₀ m ρ) (fun r => (Pipeline.FramePost cfgs (dats m H) 0 (V m)) r ∧ r.2.sem = fun _ => 0) :=
  Pipeline.θ_run_frame_shared (Q' := _) cfgs (dats m H) (0 : Fin 1) launch₀0 defs₀ 𝒱₀ m ρ main
    (hbody := fun c => (body_obligation m H hins c).loose) (hq := fun _ _ _ => rfl)
    (howed := fun _ _ => rfl) (V := V m) (hmain := hmain m 𝒱₀) (hA := A_eq m H) (hΦ := fun _ _ => rfl)

include hins in
theorem run_main : θ_run defs (onTc (τ := τ) (main (F := Ideal))) (s₀ m ρ) (Pipeline.FramePost cfgs (dats m H) 0 (V m)) :=
  (θ_run defs _ _).mono (fun _ h => h.1) (run_main_quiescent m ρ H hins)

end Cert.SbFwdIdeal.Launch

end
-- ==== Proof.Parts.SbFwdRef.lean ====
module

public import proofs.«01_k».proof.Proof.Gen.SbFwdRefIdeal.Read
public import proofs.«01_k».proof.Proof.Parts.SbRef

/-! The forward attention's reference is the output the gradients' reference recomputes. -/

@[expose] public section

set_option maxRecDepth 16384

noncomputable section

open Idealize.ShloMosaic

namespace Cert.SbRef

theorem fwd_eq (x : (⟨3, ![4, 2048, 6144]⟩ : Shape).Idx → EReal) : Cert.SbFwdRefIdeal.Read.val_main_v29 (F := Ideal) x = Cert.SbRefIdeal.Read.val_main_v29 (F := Ideal) x := rfl

end Cert.SbRef

end
-- ==== Proof.Parts.SbFwdBlocks.lean ====
module

public import proofs.«01_k».proof.Proof.Parts.SbFwdLaunch
public import proofs.«01_k».proof.Proof.Parts.SbFwdRef
public import Idealize.ShloMosaic.Lib.StableHlo.RunRead
public import Idealize.ShloMosaic.Lib.Pipeline.ValueKit

/-! The forward attention's blocks on arrays of reals, and its result. -/

@[expose] public section

set_option maxRecDepth 16384

noncomputable section

open Idealize.ShloMosaic Idealize.ShloMosaic.TcCoe Idealize.ShloMosaic.Tactic

namespace Cert.SbFwdIdeal.Blocks

open Cert.SbFwdIdeal Cert.SbFwdIdeal.Gen Cert.SbFwdIdeal.Launch Cert.SbFwdIdeal.Walk Cert.SbFwdIdeal.Run Cert.SbMath Cert.SbRef

theorem idx_val : ∀ t : Fin (cfg0 (F := Ideal)).N, win0_0.index t = ![t.val / 4, 0, 8 + t.val % 4]
    ∧ win0_1.index t = ![t.val / 4, 0, 12 + t.val % 4]
    ∧ win0_2.index t = ![t.val / 4, 0, 16 + t.val % 4]
    ∧ win0_3.index t = ![t.val / 4, 0, t.val % 4] :=
  (by decide +kernel : ∀ t : Fin grid0.N, _)

/-- The example and the first head of a grid point. -/
abbrev ex (t : Fin (cfg0 (F := Ideal)).N) : Fin 4 := ⟨t.val / 4, by have h : t.val < 16 := t.isLt; omega⟩
abbrev hh (t : Fin (cfg0 (F := Ideal)).N) (h : Fin 2) : Fin 8 := ⟨2 * (t.val % 4) + h.val, by omega⟩

variable (m : (ℓ : Loc nD τ sig) → Buf (Elt Ideal) ℓ) (c : Dev nD)

theorem V_v0 : @Eq (S4x2048x6144.Idx → EReal) (V m c main_v0) (m ((c : Thread nD τ).loc main_arg0)) := by
  unfold V V0
  simp only [hostOps0, List.flatten_cons, List.flatten_nil, List.append_nil, List.cons_append, List.nil_append]
  after_reads_simp
  rfl

variable (P : Dev nD → S4x2048x6144.Idx → ℝ)
  (hP : ∀ c : Dev nD, @Eq (S4x2048x6144.Idx → EReal) (m ((c : Thread nD τ).loc main_arg0)) (xs (P c)))

/-- The heads of a grid point; no cotangent takes part. -/
def heads (c : Dev nD) (t : Fin (cfg0 (F := Ideal)).N) (h : Fin 2) : Head := hd (P c) (fun _ => 0) (ex t) (hh t h)

variable (t : Fin (cfg0 (F := Ideal)).N) (h : Fin 2) (i : Fin 2048) (x : Fin 64)

include hP in
theorem blk0 : (show FVec Ideal S1x2048x128 .bf16 from iblk m c 0 t) (ix3 0 i (lane h x)) = (((heads P c t h).q i x : ℝ) : EReal) := by
  refine (congrArg (V m c (Pipeline.arrRef spec0 0)) (show (((cfg0 (F := Ideal)).win 0).blk t).view.emb (ix3 0 i (lane h x)) = ix3 (ex t) i ⟨1024 + ((hh t h).val * 64 + x.val), by omega⟩ by blk_ext [idx_val t])).trans ?_
  exact ((congrFun (V_v0 m c) _).trans (congrFun (hP c) _)).trans (congrArg _ (at3_at (P c) (ex t) i ⟨1024 + ((hh t h).val * 64 + x.val), by omega⟩).symm)
include hP in
theorem blk1 : (show FVec Ideal S1x2048x128 .bf16 from iblk m c 1 t) (ix3 0 i (lane h x)) = (((heads P c t h).k i x : ℝ) : EReal) := by
  refine (congrArg (V m c (Pipeline.arrRef spec0 1)) (show (((cfg0 (F := Ideal)).win 1).blk t).view.emb (ix3 0 i (lane h x)) = ix3 (ex t) i ⟨1536 + ((hh t h).val * 64 + x.val), by omega⟩ by blk_ext [idx_val t])).trans ?_
  exact ((congrFun (V_v0 m c) _).trans (congrFun (hP c) _)).trans (congrArg _ (at3_at (P c) (ex t) i ⟨1536 + ((hh t h).val * 64 + x.val), by omega⟩).symm)
include hP in
theorem blk2 : (show FVec Ideal S1x2048x128 .bf16 from iblk m c 2 t) (ix3 0 i (lane h x)) = (((heads P c t h).v i x : ℝ) : EReal) := by
  refine (congrArg (V m c (Pipeline.arrRef spec0 2)) (show (((cfg0 (F := Ideal)).win 2).blk t).view.emb (ix3 0 i (lane h x)) = ix3 (ex t) i ⟨2048 + ((hh t h).val * 64 + x.val), by omega⟩ by blk_ext [idx_val t])).trans ?_
  exact ((congrFun (V_v0 m c) _).trans (congrFun (hP c) _)).trans (congrArg _ (at3_at (P c) (ex t) i ⟨2048 + ((hh t h).val * 64 + x.val), by omega⟩).symm)

include hP in
theorem ins : Ins (heads P c t) (iblk m c 0 t) (iblk m c 1 t) (iblk m c 2 t) where
  q h y x := blk0 m c P hP t h y x
  k h y x := blk1 m c P hP t h y x
  v h y x := blk2 m c P hP t h y x

theorem col (z : Fin 128) : ∃ (h : Fin 2) (x : Fin 64), z = lane h x :=
  ⟨⟨z.val / 64, by omega⟩, ⟨z.val % 64, by omega⟩, Fin.ext (by show z.val = 64 * (z.val / 64) + z.val % 64; omega)⟩

theorem final_3 : (dats m (heads P) 0 c).arrAt 3 (cfgs (F := Ideal) 0).N = Cert.SbFwdRefIdeal.Read.val_main_v29 (F := Ideal) (xs (P c)) := by
  refine (dats m (heads P) 0 c).arrAt_eq_of_covers 3 _ (by decide +kernel) fun t hf y => ?_
  blk_simp; rw [after0_3]
  idx_vars y
  obtain ⟨h, x, rfl⟩ := col y2
  rw [show (((cfg0 (F := Ideal)).win 3).blk t).view.emb (ix3 y0 y1 (lane h x)) = ix3 (ex t) y1 ⟨(hh t h).val * 64 + x.val, by omega⟩ by blk_ext [idx_val t]]
  obtain rfl : y0 = 0 := Subsingleton.elim (α := Fin 1) _ _
  exact (blkOf_at _ h y1 x).trans ((congrFun (fwd_eq (xs (P c))) _).trans (o_at (P c) (fun _ => 0) (ex t) (hh t h) y1 x)).symm

end Cert.SbFwdIdeal.Blocks

end
-- ==== Proof.Parts.SbFwdClaim.lean ====
module

public import proofs.«01_k».proof.Defs
public import proofs.«01_k».proof.Proof.Parts.SbFwdBitsFrame
public import proofs.«01_k».proof.Proof.Parts.SbFwdBlocks
public import proofs.«01_k».proof.Proof.Parts.Finite
public import proofs.«01_k».proof.Proof.Gen.SbFwdRefIdeal.Run
public import proofs.«01_k».proof.Proof.Gen.Pre_finite_sbf
public import Idealize.ShloMosaic.Lib.Claim
public import Idealize.ShloMosaic.Lib.StableHlo.RunRead

/-! The claims about the forward attention. -/

@[expose] public section

set_option maxRecDepth 16384
set_option maxHeartbeats 4000000

noncomputable section

open Idealize.ShloMosaic Idealize.ShloMosaic.TcCoe Idealize.SL.Sem

namespace Cert.SbFwdIdeal.Value

open Cert.SbFwdIdeal Cert.SbRef Cert.SbFwdIdeal.Blocks

theorem frame_ref : Cert.quiescent_SbFwdRefIdeal := by
  intro m g _
  exact (θ_run Cert.SbFwdRefIdeal.defs _ _).mono
    (fun r h => ⟨fun c => (h c).2, Idealize.ShloMosaic.sem_eq_zero_of_no_sems (by decide) r.2⟩)
    (Cert.SbFwdRefIdeal.Value.run (F := Ideal) m g)

/-- The kernel's run on arrays of reals: its result is the reference's, the argument kept. -/
theorem run_kernel (m : (ℓ : Loc nD τ sig) → Buf (Elt Ideal) ℓ) (g : Dev nD → PrngReg) (P : Dev nD → S4x2048x6144.Idx → ℝ)
    (hP : ∀ c : Dev nD, @Eq (S4x2048x6144.Idx → EReal) (m ((c : Thread nD τ).loc main_arg0)) (xs (P c))) :
    θ_run (Cert.SbFwdIdeal.defs (F := Ideal)) (onTc (τ := τ) (Cert.SbFwdIdeal.main (F := Ideal))) ⟨m, fun _ => 0, g⟩ (fun r => ∀ c : Dev nD,
      r.2.mem ((c.tc : Thread nD τ).loc main_v1) = Cert.SbFwdRefIdeal.Read.val_main_v29 (F := Ideal) (xs (P c))
      ∧ r.2.mem ((c.tc : Thread nD τ).loc main_arg0) = m ((c.tc : Thread nD τ).loc main_arg0)) := by
  run_from Launch.run_main m g (heads P) (ins m · P hP ·)
  · exact final_3 m c P
  all_goals
    simp only [Gen.hostOps0, List.flatten_cons, List.flatten_nil, List.append_nil, List.cons_append, List.nil_append]
    after_reads_simp

/-- A finite argument is an array of reals. -/
theorem real_args [Cert.Pre_finite_sbf.Facts] (a0) (h : Cert.Pre_finite_sbf.fn (F := Ideal) a0 = fun _ => 1#1) :
    ∃ f : S4x2048x6144.Idx → ℝ, a0 = fun i => (f i : EReal) := by
  unfold Cert.Pre_finite_sbf.fn at h
  exact Cert.Finite.all_real _ _ (Cert.Finite.inf_const _ _) _ _ _ _ (congrFun h ix0)

theorem algebraic [Cert.Pre_finite_sbf.Facts] : Cert.algebraic_SbFwdIdeal_SbFwdRefIdeal_pre_finite_sbf := by
  intro m g m' g' hpre hagree
  choose P hP using fun c => real_args _ (hpre c)
  refine ⟨_, run_kernel m g P hP, ?_⟩
  refine (θ_run Cert.SbFwdRefIdeal.defs _ _).mono (fun r h c => ⟨(h c).1.trans ?_, (h c).2⟩) (Cert.SbFwdRefIdeal.Value.run m' g')
  have h0 := hagree c
  rw [Cert.SbFwdRefIdeal.Read.val_main_v29_eq, h0, hP c]

end Cert.SbFwdIdeal.Value

end
-- ==== Proof.Parts.AdaFwd.lean ====
module

public import proofs.«01_k».proof.Proof.Gen.AdaFwdIdeal.Frame
public import proofs.«01_k».proof.Proof.Gen.AdaFwdRefIdeal.Run
public import proofs.«01_k».proof.Proof.Gen.AdaFwdRefIdeal.Read
public import Idealize.ShloMosaic.Lib.Pipeline.ValueKit
public import Idealize.ShloMosaic.Lib.Pointwise

/-! The modulation: what the kernel writes is the reference's product and shift, layer by layer. -/

@[expose] public section

set_option maxRecDepth 16384

noncomputable section

open Idealize.ShloMosaic Idealize.ShloMosaic.TcCoe Idealize.SL.Sem
open Idealize.ShloMosaic.Pipeline (Dat)

namespace Cert.AdaFwdIdeal.Value

open Cert.AdaFwdIdeal Cert.AdaFwdIdeal.Gen

variable (m : (ℓ : Loc nD τ sig) → Buf (Elt Ideal) ℓ)

theorem idx_val : ∀ t : Fin cfg0.N, win0_0.index t = ![0, 0]
    ∧ win0_1.index t = ![t.val, 0, 0]
    ∧ win0_2.index t = ![t.val, 0, 0]
    ∧ win0_3.index t = ![t.val, 0, 0] :=
  (by decide +kernel : ∀ t : Fin grid0.N, _)

abbrev A0 (c : Dev nD) : FVec Ideal S32x1024 .f32 := m ((c : Thread nD τ).loc main_arg0)
abbrev A1 (c : Dev nD) : FVec Ideal S4x1024x768 .f32 := m ((c : Thread nD τ).loc main_arg1)
abbrev A2 (c : Dev nD) : FVec Ideal S4x768 .f32 := m ((c : Thread nD τ).loc main_arg2)

variable (c : Dev nD)

theorem blk0 (t : Fin cfg0.N) (b : Fin 32) (k : Fin 1024) :
    (show FVec Ideal S32x1024 .f32 from iblk m c 0 t) (ix2 b k) = A0 m c (ix2 b k) := by
  blk_point [iblk, V, idx_val t]

theorem blk1 (t : Fin cfg0.N) (k : Fin 1024) (j : Fin 768) :
    (show FVec Ideal S1x1024x768 .f32 from iblk m c 1 t) (ix3 0 k j) = A1 m c (ix3 (⟨t.val, t.isLt⟩ : Fin 4) k j) := by
  blk_point [iblk, V, idx_val t]

theorem blk2 (t : Fin cfg0.N) (j : Fin 768) :
    (show FVec Ideal S1x1x768 .f32 from iblk m c 2 t) (ix3 0 0 j) = A2 m c (ix2 (⟨t.val, t.isLt⟩ : Fin 4) j) := by
  refine (congrArg (V m c (Pipeline.arrRef spec0 2)) (show ((cfg0.win 2).blk t).view.emb (ix3 0 0 j) = ix3 (⟨t.val, t.isLt⟩ : Fin 4) 0 j by blk_ext [idx_val t])).trans ?_
  entry_read; pointwise

/-- The reference's result. -/
def RES_3 : FVec Ideal S4x32x768 .f32 :=
  AdaFwdRefIdeal.Read.val_main_v5 (F := Ideal) (A0 m c) (A1 m c) (A2 m c)

set_option maxHeartbeats 1600000 in
theorem final_3 : (dats m 0 c).arrAt 3 (cfgs 0).N = RES_3 m c := by
  refine (dats m 0 c).arrAt_eq_of_covers 3 _ (by decide +kernel) fun t hf y => ?_
  blk_simp; rw [after0_3]; frame_out
  idx_vars y
  rw [show ((cfg0.win 3).blk t).view.emb (ix3 y0 y1 y2) = ix3 (⟨t.val, t.isLt⟩ : Fin 4) y1 y2 by blk_ext [idx_val t]]
  unfold RES_3
  rw [← AdaFwdRefIdeal.Read.val_main_v5_eq]
  open_payloads
  pointwise [blk0 m c t, blk1 m c t, blk2 m c t]
  refine congrArg (· + _) (Finset.sum_congr rfl fun k _ => ?_)
  exact mul_comm _ _

end Cert.AdaFwdIdeal.Value

end
-- ==== Proof.Parts.AdaFwdClaim.lean ====
module

public import proofs.«01_k».proof.Defs
public import proofs.«01_k».proof.Proof.Gen.AdaFwd.Frame
public import proofs.«01_k».proof.Proof.Parts.AdaFwd
public import Idealize.ShloMosaic.Lib.Claim

/-! The claims about the modulation. -/

@[expose] public section

set_option maxRecDepth 16384

noncomputable section

open Idealize.ShloMosaic Idealize.ShloMosaic.TcCoe Idealize.SL.Sem

namespace Cert.AdaFwdIdeal.Value

theorem frame_ref : Cert.quiescent_AdaFwdRefIdeal := by
  intro m g _
  exact (θ_run Cert.AdaFwdRefIdeal.defs _ _).mono
    (fun r h => ⟨fun c => (h c).2, Idealize.ShloMosaic.sem_eq_zero_of_no_sems (by decide) r.2⟩)
    (Cert.AdaFwdRefIdeal.Value.run (F := Ideal) m g)

theorem algebraic : Cert.algebraic_AdaFwdIdeal_AdaFwdRefIdeal := by
  pair_intro
  · run_from Cert.AdaFwdIdeal.Gen.run_main m g
  · run_from Cert.AdaFwdRefIdeal.Value.run m' g'
    exact (final_3 m c).symm

end Cert.AdaFwdIdeal.Value

end
-- ==== Proof.Parts.NormFwd.lean ====
module

public import proofs.«01_k».proof.Proof.Gen.NormFwdIdeal.Frame
public import proofs.«01_k».proof.Proof.Gen.NormFwdRefIdeal.Run
public import proofs.«01_k».proof.Proof.Gen.NormFwdRefIdeal.Read
public import Idealize.ShloMosaic.Lib.Pipeline.ValueKit
public import Idealize.ShloMosaic.Lib.Pointwise

/-! The modulated norm: what the kernel writes is the reference's norm, scaled and shifted. -/

@[expose] public section

set_option maxRecDepth 16384

noncomputable section

open Idealize.ShloMosaic Idealize.ShloMosaic.TcCoe Idealize.SL.Sem
open Idealize.ShloMosaic.Pipeline (Dat)

namespace Cert.NormFwdIdeal.Value

open Cert.NormFwdIdeal Cert.NormFwdIdeal.Gen

variable (m : (ℓ : Loc nD τ sig) → Buf (Elt Ideal) ℓ)

theorem idx_val : ∀ t : Fin cfg0.N, win0_0.index t = ![t.val / 4, t.val % 4, 0]
    ∧ win0_1.index t = ![0, 0]
    ∧ win0_2.index t = ![t.val / 4, 0, 0]
    ∧ win0_3.index t = ![t.val / 4, 0, 0]
    ∧ win0_4.index t = ![t.val / 4, t.val % 4, 0] :=
  (by decide +kernel : ∀ t : Fin grid0.N, _)

abbrev A0 (c : Dev nD) : FVec Ideal S4x2048x1024 .f32 := m ((c : Thread nD τ).loc main_arg0)
abbrev A1 (c : Dev nD) : FVec Ideal S1024 .f32 := m ((c : Thread nD τ).loc main_arg1)
abbrev A2 (c : Dev nD) : FVec Ideal S4x1x1024 .f32 := m ((c : Thread nD τ).loc main_arg2)
abbrev A3 (c : Dev nD) : FVec Ideal S4x1x1024 .f32 := m ((c : Thread nD τ).loc main_arg3)

/-- The example and the row of a block's row. -/
abbrev ex (t : Fin cfg0.N) : Fin 4 := ⟨t.val / 4, by have := t.isLt; have : cfg0.N = 16 := rfl; omega⟩
abbrev row (t : Fin cfg0.N) (r : Fin 512) : Fin 2048 := ⟨512 * (t.val % 4) + r.val, by omega⟩

variable (c : Dev nD)

theorem blk0 (t : Fin cfg0.N) (r : Fin 512) (j : Fin 1024) :
    (show FVec Ideal S1x512x1024 .f32 from iblk m c 0 t) (ix3 0 r j) = A0 m c (ix3 (ex t) (row t r) j) := by
  blk_point [iblk, V, idx_val t]

theorem blk1 (t : Fin cfg0.N) (j : Fin 1024) :
    (show FVec Ideal S1x1024 .f32 from iblk m c 1 t) (ix2 0 j) = A1 m c (ix1 j) := by
  blk_point [iblk, V, idx_val t]

theorem blk2 (t : Fin cfg0.N) (j : Fin 1024) :
    (show FVec Ideal S1x1x1024 .f32 from iblk m c 2 t) (ix3 0 0 j) = A2 m c (ix3 (ex t) 0 j) := by
  blk_point [iblk, V, idx_val t]

theorem blk3 (t : Fin cfg0.N) (j : Fin 1024) :
    (show FVec Ideal S1x1x1024 .f32 from iblk m c 3 t) (ix3 0 0 j) = A3 m c (ix3 (ex t) 0 j) := by
  blk_point [iblk, V, idx_val t]

/-- The reference's result. -/
def RES_4 : FVec Ideal S4x2048x1024 .bf16 :=
  NormFwdRefIdeal.Read.val_main_v19 (F := Ideal) (A0 m c) (A1 m c) (A2 m c) (A3 m c)

set_option maxHeartbeats 1600000 in
theorem final_4 : (dats m 0 c).arrAt 4 (cfgs 0).N = RES_4 m c := by
  refine (dats m 0 c).arrAt_eq_of_covers 4 _ (by decide +kernel) fun t hf y => ?_
  blk_simp; rw [after0_4]; frame_out
  idx_vars y
  rw [show ((cfg0.win 4).blk t).view.emb (ix3 y0 y1 y2) = ix3 (ex t) (row t y1) y2 by blk_ext [idx_val t]]
  unfold RES_4
  rw [← NormFwdRefIdeal.Read.val_main_v19_eq]
  open_payloads
  pointwise [blk0 m c t, blk1 m c t, blk2 m c t, blk3 m c t]

end Cert.NormFwdIdeal.Value

end
-- ==== Proof.Parts.NormFwdClaim.lean ====
module

public import proofs.«01_k».proof.Defs
public import proofs.«01_k».proof.Proof.Gen.NormFwd.Frame
public import proofs.«01_k».proof.Proof.Parts.NormFwd
public import Idealize.ShloMosaic.Lib.Claim

/-! The claims about the modulated norm. -/

@[expose] public section

set_option maxRecDepth 16384

noncomputable section

open Idealize.ShloMosaic Idealize.ShloMosaic.TcCoe Idealize.SL.Sem

namespace Cert.NormFwdIdeal.Value

theorem frame_ref : Cert.quiescent_NormFwdRefIdeal := by
  intro m g _
  exact (θ_run Cert.NormFwdRefIdeal.defs _ _).mono
    (fun r h => ⟨fun c => (h c).2, Idealize.ShloMosaic.sem_eq_zero_of_no_sems (by decide) r.2⟩)
    (Cert.NormFwdRefIdeal.Value.run (F := Ideal) m g)

theorem algebraic : Cert.algebraic_NormFwdIdeal_NormFwdRefIdeal := by
  pair_intro
  · run_from Cert.NormFwdIdeal.Gen.run_main m g
  · run_from Cert.NormFwdRefIdeal.Value.run m' g'
    exact (final_4 m c).symm

end Cert.NormFwdIdeal.Value

end
-- ==== Proof.Parts.MergeFwd.lean ====
module

public import proofs.«01_k».proof.Proof.Gen.MergeFwdIdeal.Frame
public import proofs.«01_k».proof.Proof.Gen.MergeFwdRefIdeal.Run
public import proofs.«01_k».proof.Proof.Gen.MergeFwdRefIdeal.Read
public import Idealize.ShloMosaic.Lib.Pipeline.ValueKit
public import Idealize.ShloMosaic.Lib.Pointwise

/-! The gated sum of the three branches, and the branches after their products. -/

@[expose] public section

set_option maxRecDepth 16384

noncomputable section

open Idealize.ShloMosaic Idealize.ShloMosaic.TcCoe Idealize.SL.Sem
open Idealize.ShloMosaic.Pipeline (Dat)

namespace Cert.MergeFwdIdeal.Value

open Cert.MergeFwdIdeal Cert.MergeFwdIdeal.Gen

variable (m : (ℓ : Loc nD τ sig) → Buf (Elt Ideal) ℓ)

theorem idx_val : ∀ t : Fin cfg0.N, win0_0.index t = ![t.val / 2, 0]
    ∧ win0_1.index t = ![t.val / 2, 0]
    ∧ win0_2.index t = ![t.val / 2, 0]
    ∧ win0_3.index t = ![0, 0, t.val % 2]
    ∧ win0_4.index t = ![t.val / 2, 6 + t.val % 2]
    ∧ win0_5.index t = ![t.val / 2, 8 + t.val % 2]
    ∧ win0_6.index t = ![t.val / 2, 10 + t.val % 2]
    ∧ win0_7.index t = ![t.val / 2, t.val % 2]
    ∧ win0_8.index t = ![t.val / 2, t.val % 2]
    ∧ win0_9.index t = ![t.val / 2, t.val % 2]
    ∧ win0_10.index t = ![t.val / 2, t.val % 2] :=
  (by decide +kernel : ∀ t : Fin grid0.N, _)

abbrev A0 (c : Dev nD) : FVec Ideal S8192x512 .f32 := m ((c : Thread nD τ).loc main_arg0)
abbrev A1 (c : Dev nD) : FVec Ideal S8192x512 .f32 := m ((c : Thread nD τ).loc main_arg1)
abbrev A2 (c : Dev nD) : FVec Ideal S8192x512 .f32 := m ((c : Thread nD τ).loc main_arg2)
abbrev A3 (c : Dev nD) : FVec Ideal S3x512x1024 .f32 := m ((c : Thread nD τ).loc main_arg3)
abbrev A4 (c : Dev nD) : FVec Ideal S8192x6144 .f32 := m ((c : Thread nD τ).loc main_arg4)

/-- The row and the column of a block's row and column. -/
abbrev row (t : Fin cfg0.N) (r : Fin 512) : Fin 8192 := ⟨512 * (t.val / 2) + r.val, by have : t.val < 32 := t.isLt; omega⟩
abbrev col (t : Fin cfg0.N) (j : Fin 512) : Fin 1024 := ⟨512 * (t.val % 2) + j.val, by omega⟩

variable (c : Dev nD)

theorem blk0 (t : Fin cfg0.N) (r k : Fin 512) :
    (show FVec Ideal S512x512 .bf16 from iblk m c 0 t) (ix2 r k) = A0 m c (ix2 (row t r) k) := by
  blk_point [iblk, V, idx_val t]

theorem blk1 (t : Fin cfg0.N) (r k : Fin 512) :
    (show FVec Ideal S512x512 .f32 from iblk m c 1 t) (ix2 r k) = A1 m c (ix2 (row t r) k) := by
  blk_point [iblk, V, idx_val t]

theorem blk2 (t : Fin cfg0.N) (r k : Fin 512) :
    (show FVec Ideal S512x512 .bf16 from iblk m c 2 t) (ix2 r k) = A2 m c (ix2 (row t r) k) := by
  blk_point [iblk, V, idx_val t]

theorem blk3 (t : Fin cfg0.N) (n : Fin 3) (k j : Fin 512) :
    (show FVec Ideal S3x512x512 .bf16 from iblk m c 3 t) (ix3 n k j) = A3 m c (ix3 n k (col t j)) := by
  blk_point [iblk, V, idx_val t]

theorem blk4 (t : Fin cfg0.N) (r j : Fin 512) :
    (show FVec Ideal S512x512 .bf16 from iblk m c 4 t) (ix2 r j) = A4 m c (ix2 (row t r) ⟨3072 + (512 * (t.val % 2) + j.val), by omega⟩) := by
  blk_point [iblk, V, idx_val t]

theorem blk5 (t : Fin cfg0.N) (r j : Fin 512) :
    (show FVec Ideal S512x512 .bf16 from iblk m c 5 t) (ix2 r j) = A4 m c (ix2 (row t r) ⟨4096 + (512 * (t.val % 2) + j.val), by omega⟩) := by
  blk_point [iblk, V, idx_val t]

theorem blk6 (t : Fin cfg0.N) (r j : Fin 512) :
    (show FVec Ideal S512x512 .bf16 from iblk m c 6 t) (ix2 r j) = A4 m c (ix2 (row t r) ⟨5120 + (512 * (t.val % 2) + j.val), by omega⟩) := by
  blk_point [iblk, V, idx_val t]

/-- The reference's result. -/
def RES_7 : FVec Ideal S8192x1024 .bf16 :=
  MergeFwdRefIdeal.Read.val_main_v30 (F := Ideal) (A0 m c) (A1 m c) (A2 m c) (A3 m c) (A4 m c)

set_option maxHeartbeats 1600000 in
theorem final_7 : (dats m 0 c).arrAt 7 (cfgs 0).N = RES_7 m c := by
  refine (dats m 0 c).arrAt_eq_of_covers 7 _ (by decide +kernel) fun t hf y => ?_
  blk_simp; rw [after0_7]; frame_out
  idx_vars y
  rw [show ((cfg0.win 7).blk t).view.emb (ix2 y0 y1) = ix2 (row t y0) (col t y1) by blk_ext [idx_val t]]
  unfold RES_7
  rw [← MergeFwdRefIdeal.Read.val_main_v30_eq]
  open_payloads
  pointwise [blk0 m c t, blk1 m c t, blk2 m c t, blk3 m c t, blk4 m c t, blk5 m c t, blk6 m c t]
  simp only [show ∀ j : ℕ, 3072 + (1024 + j) = 4096 + j from fun j => by omega, show ∀ j : ℕ, 3072 + (2048 + j) = 5120 + j from fun j => by omega]
  rfl

/-- The reference's result. -/
def RES_8 : FVec Ideal S8192x1024 .bf16 :=
  MergeFwdRefIdeal.Read.val_main_v31 (F := Ideal) (A0 m c) (A3 m c)

set_option maxHeartbeats 1600000 in
theorem final_8 : (dats m 0 c).arrAt 8 (cfgs 0).N = RES_8 m c := by
  refine (dats m 0 c).arrAt_eq_of_covers 8 _ (by decide +kernel) fun t hf y => ?_
  blk_simp; rw [after0_8]; frame_out
  idx_vars y
  rw [show ((cfg0.win 8).blk t).view.emb (ix2 y0 y1) = ix2 (row t y0) (col t y1) by blk_ext [idx_val t]]
  unfold RES_8
  rw [← MergeFwdRefIdeal.Read.val_main_v31_eq]
  open_payloads
  pointwise [blk0 m c t, blk1 m c t, blk2 m c t, blk3 m c t, blk4 m c t, blk5 m c t, blk6 m c t]

/-- The reference's result. -/
def RES_9 : FVec Ideal S8192x1024 .bf16 :=
  MergeFwdRefIdeal.Read.val_main_v32 (F := Ideal) (A1 m c) (A3 m c)

set_option maxHeartbeats 1600000 in
theorem final_9 : (dats m 0 c).arrAt 9 (cfgs 0).N = RES_9 m c := by
  refine (dats m 0 c).arrAt_eq_of_covers 9 _ (by decide +kernel) fun t hf y => ?_
  blk_simp; rw [after0_9]; frame_out
  idx_vars y
  rw [show ((cfg0.win 9).blk t).view.emb (ix2 y0 y1) = ix2 (row t y0) (col t y1) by blk_ext [idx_val t]]
  unfold RES_9
  rw [← MergeFwdRefIdeal.Read.val_main_v32_eq]
  open_payloads
  pointwise [blk0 m c t, blk1 m c t, blk2 m c t, blk3 m c t, blk4 m c t, blk5 m c t, blk6 m c t]

/-- The reference's result. -/
def RES_10 : FVec Ideal S8192x1024 .bf16 :=
  MergeFwdRefIdeal.Read.val_main_v33 (F := Ideal) (A2 m c) (A3 m c)

set_option maxHeartbeats 1600000 in
theorem final_10 : (dats m 0 c).arrAt 10 (cfgs 0).N = RES_10 m c := by
  refine (dats m 0 c).arrAt_eq_of_covers 10 _ (by decide +kernel) fun t hf y => ?_
  blk_simp; rw [after0_10]; frame_out
  idx_vars y
  rw [show ((cfg0.win 10).blk t).view.emb (ix2 y0 y1) = ix2 (row t y0) (col t y1) by blk_ext [idx_val t]]
  unfold RES_10
  rw [← MergeFwdRefIdeal.Read.val_main_v33_eq]
  open_payloads
  pointwise [blk0 m c t, blk1 m c t, blk2 m c t, blk3 m c t, blk4 m c t, blk5 m c t, blk6 m c t]

end Cert.MergeFwdIdeal.Value

end
-- ==== Proof.Parts.MergeFwdClaim.lean ====
module

public import proofs.«01_k».proof.Defs
public import proofs.«01_k».proof.Proof.Gen.MergeFwd.Frame
public import proofs.«01_k».proof.Proof.Parts.MergeFwd
public import Idealize.ShloMosaic.Lib.Claim

/-! The claims about the gated sum of the branches. -/

@[expose] public section

set_option maxRecDepth 16384

noncomputable section

open Idealize.ShloMosaic Idealize.ShloMosaic.TcCoe Idealize.SL.Sem

namespace Cert.MergeFwdIdeal.Value

theorem frame_ref : Cert.quiescent_MergeFwdRefIdeal := by
  intro m g _
  exact (θ_run Cert.MergeFwdRefIdeal.defs _ _).mono
    (fun r h => ⟨fun c => (h c).2.2.2.2, Idealize.ShloMosaic.sem_eq_zero_of_no_sems (by decide) r.2⟩)
    (Cert.MergeFwdRefIdeal.Value.run (F := Ideal) m g)

theorem algebraic : Cert.algebraic_MergeFwdIdeal_MergeFwdRefIdeal := by
  pair_intro
  · run_from Cert.MergeFwdIdeal.Gen.run_main m g
  · run_from Cert.MergeFwdRefIdeal.Value.run m' g'
    · exact (final_7 m c).symm
    · exact (final_8 m c).symm
    · exact (final_9 m c).symm
    · exact (final_10 m c).symm

end Cert.MergeFwdIdeal.Value

end
-- ==== Proof.Parts.GmlpFwd.lean ====
module

public import proofs.«01_k».proof.Proof.Gen.GmlpFwdIdeal.Frame
public import proofs.«01_k».proof.Proof.Gen.GmlpFwdRefIdeal.Run
public import proofs.«01_k».proof.Proof.Gen.GmlpFwdRefIdeal.Read
public import Idealize.ShloMosaic.Lib.Pipeline.ValueKit
public import Idealize.ShloMosaic.Lib.Pointwise
public import Idealize.ShloMosaic.Lib.Pipeline.ReadBack

/-! The chunked spatial gating: one chunk's result as the kernel's words, and what each point writes. -/

@[expose] public section

set_option maxRecDepth 16384

noncomputable section

open Idealize.ShloMosaic Idealize.ShloMosaic.TcCoe Idealize.SL.Sem
open Idealize.ShloMosaic.Pipeline (Dat)

namespace Cert.GmlpFwd

/-! ## The words -/

def half : EReal := Ideal.ofBits .f32 1056964608#32
def curve : EReal := Ideal.ofBits .f32 1061962282#32
def cub : EReal := Ideal.ofBits .f32 1027024659#32
def len : EReal := Ideal.ofBits .f32 1140850688#32
def eps : EReal := Ideal.ofBits .f32 897988541#32

/-- The gelu, a row's mean and the reciprocal of its deviation. -/
def thW (x : EReal) : EReal := Ideal.tanh (curve * (x + cub * (x * x * x)))
def gelW (x : EReal) : EReal := half * x * (1 + thW x)
def meanW (f : Fin 512 → EReal) : EReal := Ideal.div (∑ k, f k) len
def rsW (f : Fin 512 → EReal) : EReal := Ideal.rsqrt (meanW (fun k => (f k - meanW f) * (f k - meanW f)) + eps)

theorem fold_th (x : EReal) : Ideal.tanh (Ideal.ofBits .f32 1061962282#32 * (x + Ideal.ofBits .f32 1027024659#32 * (x * x * x))) = thW x := rfl
theorem fold_gel (x : EReal) : Ideal.ofBits .f32 1056964608#32 * x * (1 + thW x) = gelW x := rfl
theorem fold_mean (f : Fin 512 → EReal) : Ideal.div (∑ k, f k) (Ideal.ofBits .f32 1140850688#32) = meanW f := rfl
theorem fold_rs (f : Fin 512 → EReal) : Ideal.rsqrt (meanW (fun k => (f k - meanW f) * (f k - meanW f)) + Ideal.ofBits .f32 897988541#32) = rsW f := rfl

/-- One chunk's loads. -/
structure Loads where
  u : Fin 128 → Fin 512 → EReal
  v : Fin 128 → Fin 512 → EReal
  w : Fin 4 → Fin 128 → Fin 128 → EReal
  bs : Fin 128 → Fin 4 → EReal
  lg : Fin 512 → EReal
  lb : Fin 512 → EReal

/-- The word that says whether row `a` sees row `b`. -/
def seen (a b : Fin 128) : BitVec 1 := IntOp.cmpi .sge (BitVec.ofNat 32 a.val) (BitVec.ofNat 32 b.val)

namespace Loads

variable (L : Loads)

def V (r : Fin 128) (k : Fin 512) : EReal := gelW (L.v r k)
def vn (r : Fin 128) (k : Fin 512) : EReal := (L.V r k - meanW (L.V r)) * rsW (L.V r) * L.lg k + L.lb k
theorem V_fun (r : Fin 128) : L.V r = fun k => gelW (L.v r k) := rfl
/-- The chunk's result in group `g`. -/
def out (g : Fin 4) (r : Fin 128) (k : Fin 512) : EReal :=
  gelW (L.u r k) * (∑ x, Scalar.select (seen r x) (L.w g r x * L.vn x k) 0 + L.bs r g)

end Loads

end Cert.GmlpFwd

namespace Cert.GmlpFwdIdeal.Value

open Cert.GmlpFwdIdeal Cert.GmlpFwdIdeal.Gen
open Cert.GmlpFwd (Loads)

variable (m : (ℓ : Loc nD τ sig) → Buf (Elt Ideal) ℓ)

theorem idx_val : ∀ t : Fin cfg0.N, win0_0.index t = ![t.val, 0]
    ∧ win0_1.index t = ![t.val, 1]
    ∧ win0_2.index t = ![0, 0]
    ∧ win0_3.index t = ![0, 0]
    ∧ win0_4.index t = ![0, 0, 0]
    ∧ win0_5.index t = ![0, 0]
    ∧ win0_6.index t = ![t.val, 0] :=
  (by decide +kernel : ∀ t : Fin grid0.N, _)

abbrev A0 (c : Dev nD) : FVec Ideal S4x2048x6144 .f32 := m ((c : Thread nD τ).loc main_arg0)
abbrev A1 (c : Dev nD) : FVec Ideal S512 .f32 := m ((c : Thread nD τ).loc main_arg1)
abbrev A2 (c : Dev nD) : FVec Ideal S512 .f32 := m ((c : Thread nD τ).loc main_arg2)
abbrev A3 (c : Dev nD) : FVec Ideal S4x128x128 .f32 := m ((c : Thread nD τ).loc main_arg3)
abbrev A4 (c : Dev nD) : FVec Ideal S4x128 .f32 := m ((c : Thread nD τ).loc main_arg4)

/-- The example and the row in it of a block's row. -/
abbrev ex (t : Fin cfg0.N) : Fin 4 := ⟨t.val / 4, by have : t.val < 16 := t.isLt; omega⟩
abbrev row (t : Fin cfg0.N) (r : Fin 512) : Fin 2048 := ⟨512 * (t.val % 4) + r.val, by omega⟩

variable (c : Dev nD)

theorem blk0 (t : Fin cfg0.N) (r : Fin 512) (j : Fin 512) :
    (show FVec Ideal S512x512 .bf16 from iblk m c 0 t) (ix2 r j) = A0 m c (ix3 (ex t) (row t r) ⟨j.val, by omega⟩) := by
  refine (congrArg (V m c (Pipeline.arrRef spec0 0)) (show ((cfg0.win 0).blk t).view.emb (ix2 r j) = ix2 (⟨512 * t.val + r.val, by have : t.val < 16 := t.isLt; omega⟩ : Fin 8192) (⟨j.val, by omega⟩ : Fin 6144) by blk_ext [idx_val t])).trans ?_
  entry_read; pointwise
  refine congrArg (A0 m c) ?_
  congr 1 <;> exact Fin.ext (by dsimp only; omega)

theorem blk1 (t : Fin cfg0.N) (r : Fin 512) (j : Fin 512) :
    (show FVec Ideal S512x512 .bf16 from iblk m c 1 t) (ix2 r j) = A0 m c (ix3 (ex t) (row t r) ⟨512 + j.val, by omega⟩) := by
  refine (congrArg (V m c (Pipeline.arrRef spec0 1)) (show ((cfg0.win 1).blk t).view.emb (ix2 r j) = ix2 (⟨512 * t.val + r.val, by have : t.val < 16 := t.isLt; omega⟩ : Fin 8192) (⟨512 + j.val, by omega⟩ : Fin 6144) by blk_ext [idx_val t])).trans ?_
  entry_read; pointwise
  refine congrArg (A0 m c) ?_
  congr 1 <;> exact Fin.ext (by dsimp only; omega)

theorem blk2 (t : Fin cfg0.N) (j : Fin 512) :
    (show FVec Ideal S1x512 .f32 from iblk m c 2 t) (ix2 0 j) = A1 m c (ix1 j) := by
  refine (congrArg (V m c (Pipeline.arrRef spec0 2)) (show ((cfg0.win 2).blk t).view.emb (ix2 0 j) = ix2 0 j by blk_ext [idx_val t])).trans ?_
  entry_read; pointwise

theorem blk3 (t : Fin cfg0.N) (j : Fin 512) :
    (show FVec Ideal S1x512 .f32 from iblk m c 3 t) (ix2 0 j) = A2 m c (ix1 j) := by
  refine (congrArg (V m c (Pipeline.arrRef spec0 3)) (show ((cfg0.win 3).blk t).view.emb (ix2 0 j) = ix2 0 j by blk_ext [idx_val t])).trans ?_
  entry_read; pointwise

theorem blk4 (t : Fin cfg0.N) (g : Fin 4) (a b : Fin 128) :
    (show FVec Ideal S4x128x128 .f32 from iblk m c 4 t) (ix3 g a b) = A3 m c (ix3 g a b) := by blk_point [iblk, idx_val t]

theorem blk5 (t : Fin cfg0.N) (a : Fin 128) (g : Fin 4) :
    (show FVec Ideal S128x4 .f32 from iblk m c 5 t) (ix2 a g) = A4 m c (ix2 g a) := by
  refine (congrArg (V m c (Pipeline.arrRef spec0 5)) (show ((cfg0.win 5).blk t).view.emb (ix2 a g) = ix2 a g by blk_ext [idx_val t])).trans ?_
  entry_read; pointwise

/-- What a point loads of the chunk whose rows are `ρ`. -/
def Ld (t : Fin cfg0.N) (ρ : Fin 128 → Fin 512) : Loads where
  u r k := (show FVec Ideal S512x512 .bf16 from iblk m c 0 t) (ix2 (ρ r) k)
  v r k := (show FVec Ideal S512x512 .bf16 from iblk m c 1 t) (ix2 (ρ r) k)
  w g a b := (show FVec Ideal S4x128x128 .f32 from iblk m c 4 t) (ix3 g a b)
  bs a g := (show FVec Ideal S128x4 .f32 from iblk m c 5 t) (ix2 a g)
  lg k := (show FVec Ideal S1x512 .f32 from iblk m c 2 t) (ix2 0 k)
  lb k := (show FVec Ideal S1x512 .f32 from iblk m c 3 t) (ix2 0 k)

/-- The chunk `n` of example `b`. -/
def Kd (b : Fin 4) (n : Fin 16) : Loads where
  u r k := A0 m c (ix3 b ⟨n.val * 128 + r.val, by omega⟩ ⟨k.val, by omega⟩)
  v r k := A0 m c (ix3 b ⟨n.val * 128 + r.val, by omega⟩ ⟨512 + k.val, by omega⟩)
  w g a b := A3 m c (ix3 g a b)
  bs a g := A4 m c (ix2 g a)
  lg k := A1 m c (ix1 k)
  lb k := A2 m c (ix1 k)

/-- A point's chunk as a chunk of the example. -/
abbrev ch (t : Fin cfg0.N) (q : Fin 4) : Fin 16 := ⟨t.val % 4 * 4 + q.val, by omega⟩

theorem Ld_eq (t : Fin cfg0.N) (q : Fin 4) (ρ : Fin 128 → Fin 512) (h : ∀ r, (ρ r).val = q.val * 128 + r.val) :
    Ld m c t ρ = Kd m c (ex t) (ch t q) := by
  have hr : ∀ r, row t (ρ r) = ⟨(ch t q).val * 128 + r.val, by omega⟩ := fun r => Fin.ext (by dsimp only [ch]; rw [h]; omega)
  simp only [Ld, Kd, blk0, blk1, blk2, blk3, blk4, blk5, hr]

/-- The four chunks' rows. -/
def ρ0 (r : Fin 128) : Fin 512 := ⟨r.val, by omega⟩
def ρ1 (r : Fin 128) : Fin 512 := ⟨128 + r.val, by omega⟩
def ρ2 (r : Fin 128) : Fin 512 := ⟨256 + r.val, by omega⟩
def ρ3 (r : Fin 128) : Fin 512 := ⟨384 + r.val, by omega⟩

/-- A point's block of the result. -/
def outT (t : Fin cfg0.N) : FVec Ideal S512x512 .bf16 := fun y =>
  have h0 : (y 0).val < 512 := (y 0).isLt
  have h1 : (y 1).val < 512 := (y 1).isLt
  (Kd m c (ex t) (ch t ⟨(y 0).val / 128, by omega⟩)).out ⟨(y 1).val / 128, by omega⟩ ⟨(y 0).val % 128, by omega⟩ ⟨(y 1).val, h1⟩

theorem piece (t : Fin cfg0.N) (y : Shape.Idx S512x512) (q g : Fin 4) (ρ : Fin 128 → Fin 512) (r k : Fin 128) (l : Fin 512)
    (hr : (y 0).val = q.val * 128 + r.val) (hk : (y 1).val = g.val * 128 + k.val) (hρ : ∀ r, (ρ r).val = q.val * 128 + r.val) (hl : l.val = g.val * 128 + k.val)
    {z : EReal} (hz : z = (Ld m c t ρ).out g r l) : z = outT m c t y := by
  have h : (y 1).val < 512 := (y 1).isLt
  rw [hz, Ld_eq m c t q ρ hρ]
  unfold outT
  dsimp only
  rw [show (⟨(y 0).val / 128, by omega⟩ : Fin 4) = q from Fin.ext (by dsimp only; omega),
    show (⟨(y 1).val / 128, by omega⟩ : Fin 4) = g from Fin.ext (by dsimp only; omega),
    show (⟨(y 0).val % 128, by omega⟩ : Fin 128) = r from Fin.ext (by dsimp only; omega),
    show (⟨(y 1).val, h⟩ : Fin 512) = l from Fin.ext (by dsimp only; omega)]

set_option maxHeartbeats 8000000 in
theorem out_at (t : Fin cfg0.N) (hf : (win0 6).flush t = true) : (dats m 0 c).after 6 t = outT m c t := by
  funext y
  rw [after0_6]
  frame_out
  canon_tiles x h using (View.cover_of_tiledBy _ ![128, 128] (by sl_kernel_rfl) _)
  all_goals
    idx_vars x
    open_payloads
    pointwise
    simp only [Cert.GmlpFwd.fold_th, Cert.GmlpFwd.fold_gel, Cert.GmlpFwd.fold_mean, Cert.GmlpFwd.fold_rs]
    first
      | (have e0 : (y 0).val = 0 * 128 + x0.val := by omega
         first
          | (refine piece m c t y 0 0 ρ0 x0 x1 ⟨x1.val, by omega⟩ e0 (show (y 1).val = 0 * 128 + x1.val by omega) (fun r => by show r.val = 0 * 128 + r.val; omega) (by show x1.val = 0 * 128 + x1.val; omega) ?_
             simp only [Loads.out, Loads.vn, Loads.V_fun, Cert.GmlpFwd.seen, Ld, ρ0])
          | (refine piece m c t y 0 1 ρ0 x0 x1 ⟨128 + x1.val, by omega⟩ e0 (show (y 1).val = 1 * 128 + x1.val by omega) (fun r => by show r.val = 0 * 128 + r.val; omega) rfl ?_
             simp only [Loads.out, Loads.vn, Loads.V_fun, Cert.GmlpFwd.seen, Ld, ρ0])
          | (refine piece m c t y 0 2 ρ0 x0 x1 ⟨256 + x1.val, by omega⟩ e0 (show (y 1).val = 2 * 128 + x1.val by omega) (fun r => by show r.val = 0 * 128 + r.val; omega) rfl ?_
             simp only [Loads.out, Loads.vn, Loads.V_fun, Cert.GmlpFwd.seen, Ld, ρ0])
          | (refine piece m c t y 0 3 ρ0 x0 x1 ⟨384 + x1.val, by omega⟩ e0 (show (y 1).val = 3 * 128 + x1.val by omega) (fun r => by show r.val = 0 * 128 + r.val; omega) rfl ?_
             simp only [Loads.out, Loads.vn, Loads.V_fun, Cert.GmlpFwd.seen, Ld, ρ0]))
      | (have e0 : (y 0).val = 1 * 128 + x0.val := by omega
         first
          | (refine piece m c t y 1 0 ρ1 x0 x1 ⟨x1.val, by omega⟩ e0 (show (y 1).val = 0 * 128 + x1.val by omega) (fun r => rfl) (by show x1.val = 0 * 128 + x1.val; omega) ?_
             simp only [Loads.out, Loads.vn, Loads.V_fun, Cert.GmlpFwd.seen, Ld, ρ1])
          | (refine piece m c t y 1 1 ρ1 x0 x1 ⟨128 + x1.val, by omega⟩ e0 (show (y 1).val = 1 * 128 + x1.val by omega) (fun r => rfl) rfl ?_
             simp only [Loads.out, Loads.vn, Loads.V_fun, Cert.GmlpFwd.seen, Ld, ρ1])
          | (refine piece m c t y 1 2 ρ1 x0 x1 ⟨256 + x1.val, by omega⟩ e0 (show (y 1).val = 2 * 128 + x1.val by omega) (fun r => rfl) rfl ?_
             simp only [Loads.out, Loads.vn, Loads.V_fun, Cert.GmlpFwd.seen, Ld, ρ1])
          | (refine piece m c t y 1 3 ρ1 x0 x1 ⟨384 + x1.val, by omega⟩ e0 (show (y 1).val = 3 * 128 + x1.val by omega) (fun r => rfl) rfl ?_
             simp only [Loads.out, Loads.vn, Loads.V_fun, Cert.GmlpFwd.seen, Ld, ρ1]))
      | (have e0 : (y 0).val = 2 * 128 + x0.val := by omega
         first
          | (refine piece m c t y 2 0 ρ2 x0 x1 ⟨x1.val, by omega⟩ e0 (show (y 1).val = 0 * 128 + x1.val by omega) (fun r => rfl) (by show x1.val = 0 * 128 + x1.val; omega) ?_
             simp only [Loads.out, Loads.vn, Loads.V_fun, Cert.GmlpFwd.seen, Ld, ρ2])
          | (refine piece m c t y 2 1 ρ2 x0 x1 ⟨128 + x1.val, by omega⟩ e0 (show (y 1).val = 1 * 128 + x1.val by omega) (fun r => rfl) rfl ?_
             simp only [Loads.out, Loads.vn, Loads.V_fun, Cert.GmlpFwd.seen, Ld, ρ2])
          | (refine piece m c t y 2 2 ρ2 x0 x1 ⟨256 + x1.val, by omega⟩ e0 (show (y 1).val = 2 * 128 + x1.val by omega) (fun r => rfl) rfl ?_
             simp only [Loads.out, Loads.vn, Loads.V_fun, Cert.GmlpFwd.seen, Ld, ρ2])
          | (refine piece m c t y 2 3 ρ2 x0 x1 ⟨384 + x1.val, by omega⟩ e0 (show (y 1).val = 3 * 128 + x1.val by omega) (fun r => rfl) rfl ?_
             simp only [Loads.out, Loads.vn, Loads.V_fun, Cert.GmlpFwd.seen, Ld, ρ2]))
      | (have e0 : (y 0).val = 3 * 128 + x0.val := by omega
         first
          | (refine piece m c t y 3 0 ρ3 x0 x1 ⟨x1.val, by omega⟩ e0 (show (y 1).val = 0 * 128 + x1.val by omega) (fun r => rfl) (by show x1.val = 0 * 128 + x1.val; omega) ?_
             simp only [Loads.out, Loads.vn, Loads.V_fun, Cert.GmlpFwd.seen, Ld, ρ3])
          | (refine piece m c t y 3 1 ρ3 x0 x1 ⟨128 + x1.val, by omega⟩ e0 (show (y 1).val = 1 * 128 + x1.val by omega) (fun r => rfl) rfl ?_
             simp only [Loads.out, Loads.vn, Loads.V_fun, Cert.GmlpFwd.seen, Ld, ρ3])
          | (refine piece m c t y 3 2 ρ3 x0 x1 ⟨256 + x1.val, by omega⟩ e0 (show (y 1).val = 2 * 128 + x1.val by omega) (fun r => rfl) rfl ?_
             simp only [Loads.out, Loads.vn, Loads.V_fun, Cert.GmlpFwd.seen, Ld, ρ3])
          | (refine piece m c t y 3 3 ρ3 x0 x1 ⟨384 + x1.val, by omega⟩ e0 (show (y 1).val = 3 * 128 + x1.val by omega) (fun r => rfl) rfl ?_
             simp only [Loads.out, Loads.vn, Loads.V_fun, Cert.GmlpFwd.seen, Ld, ρ3]))

end Cert.GmlpFwdIdeal.Value

end
-- ==== Proof.Parts.GmlpFwdRef.lean ====
module

public import proofs.«01_k».proof.Proof.Parts.GmlpFwd
public import proofs.«01_k».proof.Proof.Parts.SbStep

/-! The chunked spatial gating: the reference, chunk by chunk, and the result as a whole. -/

@[expose] public section

set_option maxRecDepth 16384

noncomputable section

open Idealize.ShloMosaic Idealize.ShloMosaic.TcCoe Idealize.SL.Sem
open Idealize.ShloMosaic.Pipeline (Dat)

namespace Cert.GmlpFwd.Ref

open Cert.GmlpFwdRefIdeal Cert.GmlpFwdRefIdeal.Read

theorem zero_const (i : S_.Idx) : constant (F := Ideal) S_ .f32 0#32 i = 0 := by
  show Ideal.ofBits .f32 0#32 = 0
  simp [Ideal.ofBits, Ideal.ieee]

/-- A row of chunk `n`. -/
abbrev rw' (n : Fin 16) (r : Fin 128) : Fin 2048 := ⟨n.val * 128 + r.val, by omega⟩
/-- A group's column. -/
abbrev col (g : Fin 4) (j : Fin 128) : Fin 512 := ⟨g.val * 128 + j.val, by omega⟩

variable (X0 : FVec Ideal S4x2048x6144 .f32) (X1 X2 : FVec Ideal S512 .f32) (X3 : FVec Ideal S4x128x128 .f32) (X4 : FVec Ideal S4x128 .f32)

/-- Chunk `n` of example `b`. -/
def C (b : Fin 4) (n : Fin 16) : Loads where
  u r k := X0 (ix3 b (rw' n r) ⟨k.val, by omega⟩)
  v r k := X0 (ix3 b (rw' n r) ⟨512 + k.val, by omega⟩)
  w g i j := X3 (ix3 g i j)
  bs i g := X4 (ix2 g i)
  lg k := X1 (ix1 k)
  lb k := X2 (ix1 k)

variable (b : Fin 4) (n : Fin 16) (r : Fin 128) (k : Fin 512) (g : Fin 4) (j : Fin 128)

/-- The reference's order of the gelu's factors. -/
theorem gel_order (x t : EReal) : x * (half * (1 + t)) = half * x * (1 + t) := by rw [mul_left_comm, mul_assoc]

theorem gu_at : val_main_v13 (F := Ideal) X0 (ix3 b (rw' n r) k) = gelW ((C X0 X1 X2 X3 X4 b n).u r k) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  exact gel_order _ _
theorem V_at : val_main_v27 (F := Ideal) X0 (ix3 b (rw' n r) k) = (C X0 X1 X2 X3 X4 b n).V r k := by
  pointwise [val_main_v27, val_main_v26, val_main_v25, val_main_v24, val_main_v23, val_main_v22, val_main_v21, val_main_v20, val_main_v19, val_main_v18, val_main_v17, val_main_v16, val_main_v15, val_main_v14, val_main_cst_3, val_main_cst_4, val_main_cst_5, val_main_cst_6]
  exact gel_order _ _
theorem mean_at (z : Fin 1) : val_main_v31 (F := Ideal) X0 (ix3 b (rw' n r) z) = meanW ((C X0 X1 X2 X3 X4 b n).V r) := by
  pointwise [val_main_v31, val_main_v30, val_main_v29, val_main_v28, val_main_cst_7, val_main_cst_8]
  simp only [V_at X0 X1 X2 X3 X4, zero_const, zero_add]
  rfl
theorem xc_at : val_main_v33 (F := Ideal) X0 (ix3 b (rw' n r) k) = (C X0 X1 X2 X3 X4 b n).V r k - meanW ((C X0 X1 X2 X3 X4 b n).V r) := by
  pointwise [val_main_v33, val_main_v32]
  rw [V_at X0 X1 X2 X3 X4, mean_at X0 X1 X2 X3 X4]
theorem rs_at (z : Fin 1) : val_main_v41 (F := Ideal) X0 (ix3 b (rw' n r) z) = rsW ((C X0 X1 X2 X3 X4 b n).V r) := by
  pointwise [val_main_v41, val_main_v40, val_main_v39, val_main_v38, val_main_v37, val_main_v36, val_main_v35, val_main_v34, val_main_cst_9, val_main_cst_10, val_main_cst_11]
  simp only [xc_at X0 X1 X2 X3 X4, zero_const, zero_add]
  rfl
theorem vn_at : val_main_v49 (F := Ideal) X0 X1 X2 (ix3 b (rw' n r) k) = (C X0 X1 X2 X3 X4 b n).vn r k := by
  pointwise [val_main_v49, val_main_v48, val_main_v47, val_main_v46, val_main_v45, val_main_v44, val_main_v43, val_main_v42]
  rw [xc_at X0 X1 X2 X3 X4, rs_at X0 X1 X2 X3 X4]; rfl
theorem mask_at (z : Fin 1) (i i' : Fin 128) : val_main_v53 (F := Ideal) (ix3 z i i') = BitVec.ofBool (decide (i' ≤ i)) := by
  pointwise [val_main_v53, val_main_v52, val_main_v51, val_main_c, val_main_call0_v4, val_main_call0_v2, val_main_call0_v0, val_main_call0_v1, val_main_call0_c, val_main_call0_v3, val_main_call0_v5, val_main_call0_c_0]
  rw [show IntOp.addi (BitVec.ofNat 32 i.val) 0#32 = BitVec.ofNat 32 i.val from BitVec.add_zero _, WordCmp.cmpi_sge_ofNat (by omega) (by omega), Cert.SbIdeal.Step.select_ofBool]
  show (if _ then 1#1 else 0#1) = BitVec.ofBool (decide (i'.val ≤ i.val))
  by_cases h : i'.val ≤ i.val <;> simp [h]
theorem seen_eq (i i' : Fin 128) : seen i i' = BitVec.ofBool (decide (i' ≤ i)) := WordCmp.cmpi_sge_ofNat (by omega) (by omega)
theorem wm_at (i i' : Fin 128) : val_main_v54 (F := Ideal) X3 (ix3 g i i') = if i' ≤ i then X3 (ix3 g i i') else 0 := by
  pointwise [val_main_v54, val_main_call1_v2, val_main_call1_v1, val_main_call1_v0, val_main_cst_12]
  rw [mask_at, Cert.SbIdeal.Step.select_ofBool]
  split_ifs
  · rfl
  · exact zero_const _
theorem div_row {m : ℕ} (x : Fin m) (y : Fin 128) (h) : (⟨(x.val * 128 + y.val) / 128, h⟩ : Fin m) = x := Fin.ext (by show (x.val * 128 + y.val) / 128 = x.val; omega)
theorem mod_row (x : ℕ) (y : Fin 128) (h) : (⟨(x * 128 + y.val) % 128, h⟩ : Fin 128) = y := Fin.ext (by show (x * 128 + y.val) % 128 = y.val; omega)
theorem vnc_at : val_main_v50 (F := Ideal) X0 X1 X2 (ix5 b n r g j) = (C X0 X1 X2 X3 X4 b n).vn r (col g j) := by
  pointwise [val_main_v50]
  exact vn_at X0 X1 X2 X3 X4 b n r (col g j)
theorem out_at : val_main_v63 (F := Ideal) X0 X1 X2 X3 X4 (ix3 b (rw' n r) (col g j)) = (C X0 X1 X2 X3 X4 b n).out g r (col g j) := by
  pointwise [val_main_v63, val_main_v62, val_main_v61, val_main_v60, val_main_v59, val_main_v58, val_main_v57, val_main_v56, val_main_v55]
  simp only [div_row, mod_row, vnc_at X0 X1 X2 X3 X4, wm_at, gu_at X0 X1 X2 X3 X4]
  unfold Loads.out
  refine congrArg (_ * ·) (congrArg (· + _) (Finset.sum_congr rfl fun x _ => ?_))
  rw [seen_eq, Cert.SbIdeal.Step.select_ofBool, mul_comm]
  by_cases h : x ≤ r
  · simp only [h, if_true]; rfl
  · simp only [h, if_false, zero_mul]

/-- The reference's result at a row of the whole. -/
theorem res_at (q : Fin 8192) (k : Fin 512) : val_main_v65 (F := Ideal) X0 X1 X2 X3 X4 (ix2 q k)
    = (C X0 X1 X2 X3 X4 ⟨q.val / 2048, by omega⟩ ⟨q.val % 2048 / 128, by omega⟩).out ⟨k.val / 128, by omega⟩ ⟨q.val % 128, by omega⟩ k := by
  pointwise [val_main_v65, val_main_v64]
  have e := out_at X0 X1 X2 X3 X4 ⟨q.val / 2048, by omega⟩ ⟨q.val % 2048 / 128, by omega⟩ ⟨q.val % 128, by omega⟩ ⟨k.val / 128, by omega⟩ ⟨k.val % 128, by omega⟩
  have hk : col ⟨k.val / 128, by omega⟩ ⟨k.val % 128, by omega⟩ = k := Fin.ext (by show k.val / 128 * 128 + k.val % 128 = k.val; omega)
  have hq : rw' ⟨q.val % 2048 / 128, by omega⟩ ⟨q.val % 128, by omega⟩ = ⟨q.val % 2048, by omega⟩ := Fin.ext (by show q.val % 2048 / 128 * 128 + q.val % 128 = q.val % 2048; omega)
  rw [hk, hq] at e
  exact e

end Cert.GmlpFwd.Ref

namespace Cert.GmlpFwdIdeal.Value

open Cert.GmlpFwdIdeal Cert.GmlpFwdIdeal.Gen

variable (m : (ℓ : Loc nD τ sig) → Buf (Elt Ideal) ℓ) (c : Dev nD)

/-- The reference's result. -/
def RES_6 : FVec Ideal S8192x512 .bf16 :=
  GmlpFwdRefIdeal.Read.val_main_v65 (F := Ideal) (A0 m c) (A1 m c) (A2 m c) (A3 m c) (A4 m c)

theorem final_6 : (dats m 0 c).arrAt 6 (cfgs 0).N = RES_6 m c := by
  refine (dats m 0 c).arrAt_eq_of_covers 6 _ (by decide +kernel) fun t hf y => ?_
  blk_simp
  rw [out_at m c t hf]
  idx_vars y
  rw [show ((cfg0.win 6).blk t).view.emb (ix2 y0 y1) = ix2 (⟨512 * t.val + y0.val, by have : t.val < 16 := t.isLt; omega⟩ : Fin 8192) y1 by blk_ext [idx_val t]]
  unfold RES_6
  rw [Cert.GmlpFwd.Ref.res_at]
  have e1 : (⟨(512 * t.val + y0.val) / 2048, by have : t.val < 16 := t.isLt; omega⟩ : Fin 4) = ex t := Fin.ext (by dsimp only; omega)
  have e2 : (⟨(512 * t.val + y0.val) % 2048 / 128, by omega⟩ : Fin 16) = ch t ⟨y0.val / 128, by omega⟩ := Fin.ext (by dsimp only; omega)
  have e3 : (⟨(512 * t.val + y0.val) % 128, by omega⟩ : Fin 128) = ⟨y0.val % 128, by omega⟩ := Fin.ext (by dsimp only; omega)
  simp only [outT, ix2_0, ix2_1, e1, e2, e3]
  rfl

end Cert.GmlpFwdIdeal.Value

end
-- ==== Proof.Parts.GmlpFwdClaim.lean ====
module

public import proofs.«01_k».proof.Defs
public import proofs.«01_k».proof.Proof.Gen.GmlpFwd.Frame
public import proofs.«01_k».proof.Proof.Parts.GmlpFwdRef
public import Idealize.ShloMosaic.Lib.Claim

/-! The claims about the chunked spatial gating. -/

@[expose] public section

set_option maxRecDepth 16384

noncomputable section

open Idealize.ShloMosaic Idealize.ShloMosaic.TcCoe Idealize.SL.Sem

namespace Cert.GmlpFwdIdeal.Value

theorem frame_ref : Cert.quiescent_GmlpFwdRefIdeal := by
  intro m g _
  exact (θ_run Cert.GmlpFwdRefIdeal.defs _ _).mono
    (fun r h => ⟨fun c => (h c).2, Idealize.ShloMosaic.sem_eq_zero_of_no_sems (by decide) r.2⟩)
    (Cert.GmlpFwdRefIdeal.Value.run (F := Ideal) m g)

theorem algebraic : Cert.algebraic_GmlpFwdIdeal_GmlpFwdRefIdeal := by
  pair_intro
  · run_from Cert.GmlpFwdIdeal.Gen.run_main m g
  · run_from Cert.GmlpFwdRefIdeal.Value.run m' g'
    obtain ⟨h0, h1, h2, h3, h4⟩ := hagree c
    rw [GmlpFwdRefIdeal.Read.val_main_v65_eq, h0, h1, h2, h3, h4]
    exact (final_6 m c).symm

end Cert.GmlpFwdIdeal.Value

end
-- ==== Proof.Parts.OutFwd.lean ====
module

public import proofs.«01_k».proof.Proof.Gen.OutFwdIdeal.Frame
public import proofs.«01_k».proof.Proof.Gen.OutFwdRefIdeal.Run
public import proofs.«01_k».proof.Proof.Gen.OutFwdRefIdeal.Read
public import Idealize.ShloMosaic.Lib.Pipeline.ValueKit
public import Idealize.ShloMosaic.Lib.Pointwise

/-! The gated residual after the output projection. -/

@[expose] public section

set_option maxRecDepth 16384

noncomputable section

open Idealize.ShloMosaic Idealize.ShloMosaic.TcCoe Idealize.SL.Sem
open Idealize.ShloMosaic.Pipeline (Dat)

namespace Cert.OutFwdIdeal.Value

open Cert.OutFwdIdeal Cert.OutFwdIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![t.val / 2, 0, 0]
    ∧ win0_4.index t = ![t.val, 0]
    ∧ win0_5.index t = ![t.val, 0] :=
  (by decide +kernel : ∀ t : Fin grid0.N, _)

abbrev A0 (c : Dev nD) : FVec Ideal S8192x1024 .f32 := m ((c : Thread nD τ).loc main_arg0)
abbrev A1 (c : Dev nD) : FVec Ideal S1024x1024 .f32 := m ((c : Thread nD τ).loc main_arg1)
abbrev A2 (c : Dev nD) : FVec Ideal S4x2048x1024 .f32 := m ((c : Thread nD τ).loc main_arg2)
abbrev A3 (c : Dev nD) : FVec Ideal S4x1x1024 .f32 := m ((c : Thread nD τ).loc main_arg3)

/-- The row of a block's row, its example and its row there. -/
abbrev row (t : Fin cfg0.N) (r : Fin 1024) : Fin 8192 := ⟨1024 * t.val + r.val, by have : t.val < 8 := t.isLt; omega⟩
abbrev ex (t : Fin cfg0.N) : Fin 4 := ⟨t.val / 2, by have : t.val < 8 := t.isLt; omega⟩
abbrev inrow (t : Fin cfg0.N) (r : Fin 1024) : Fin 2048 := ⟨(1024 * t.val + r.val) % 2048, by omega⟩
theorem ex_row (t : Fin cfg0.N) (r : Fin 1024) (h : (1024 * t.val + r.val) / 2048 < 4) : (⟨(1024 * t.val + r.val) / 2048, h⟩ : Fin 4) = ex t := Fin.ext (by dsimp only; omega)
theorem row_row (t : Fin cfg0.N) (r : Fin 1024) (h : (1024 * t.val + r.val) / 2048 * 2048 + (1024 * t.val + r.val) % 2048 < 8192) : (⟨(1024 * t.val + r.val) / 2048 * 2048 + (1024 * t.val + r.val) % 2048, h⟩ : Fin 8192) = row t r := Fin.ext (by dsimp only; omega)

variable (c : Dev nD)

theorem blk0 (t : Fin cfg0.N) (r j : Fin 1024) :
    (show FVec Ideal S1024x1024 .bf16 from iblk m c 0 t) (ix2 r j) = A0 m c (ix2 (row t r) j) := by
  blk_point [iblk, V, idx_val t]

theorem blk1 (t : Fin cfg0.N) (r j : Fin 1024) :
    (show FVec Ideal S1024x1024 .bf16 from iblk m c 1 t) (ix2 r j) = A1 m c (ix2 r j) := by
  blk_point [iblk, V, idx_val t]

theorem blk2 (t : Fin cfg0.N) (r j : Fin 1024) :
    (show FVec Ideal S1024x1024 .f32 from iblk m c 2 t) (ix2 r j) = A2 m c (ix3 ⟨(1024 * t.val + r.val) / 2048, by have : t.val < 8 := t.isLt; omega⟩ (inrow t r) j) := by
  refine (congrArg (V m c (Pipeline.arrRef spec0 2)) (show ((cfg0.win 2).blk t).view.emb (ix2 r j) = ix2 (row t r) j by blk_ext [idx_val t])).trans ?_
  entry_read; pointwise

theorem blk3 (t : Fin cfg0.N) (j : Fin 1024) :
    (show FVec Ideal S1x1x1024 .f32 from iblk m c 3 t) (ix3 0 0 j) = A3 m c (ix3 (ex t) 0 j) := by
  blk_point [iblk, V, idx_val t]

/-- The reference's result. -/
def RES_4 : FVec Ideal S8192x1024 .f32 :=
  OutFwdRefIdeal.Read.val_main_v5 (F := Ideal) (A0 m c) (A1 m c) (A2 m c) (A3 m c)

set_option maxHeartbeats 1600000 in
theorem final_4 : (dats m 0 c).arrAt 4 (cfgs 0).N = RES_4 m c := by
  refine (dats m 0 c).arrAt_eq_of_covers 4 _ (by decide +kernel) fun t hf y => ?_
  blk_simp; rw [after0_4]; frame_out
  idx_vars y
  rw [show ((cfg0.win 4).blk t).view.emb (ix2 y0 y1) = ix2 (row t y0) y1 by blk_ext [idx_val t]]
  unfold RES_4
  rw [← OutFwdRefIdeal.Read.val_main_v5_eq]
  open_payloads
  pointwise [blk0 m c t, blk1 m c t, blk2 m c t, blk3 m c t]
  simp only [row_row, ex_row]

/-- The reference's result. -/
def RES_5 : FVec Ideal S8192x1024 .bf16 :=
  OutFwdRefIdeal.Read.val_main_v7 (F := Ideal) (A0 m c) (A1 m c)

set_option maxHeartbeats 1600000 in
theorem final_5 : (dats m 0 c).arrAt 5 (cfgs 0).N = RES_5 m c := by
  refine (dats m 0 c).arrAt_eq_of_covers 5 _ (by decide +kernel) fun t hf y => ?_
  blk_simp; rw [after0_5]; frame_out
  idx_vars y
  rw [show ((cfg0.win 5).blk t).view.emb (ix2 y0 y1) = ix2 (row t y0) y1 by blk_ext [idx_val t]]
  unfold RES_5
  rw [← OutFwdRefIdeal.Read.val_main_v7_eq]
  open_payloads
  pointwise [blk0 m c t, blk1 m c t, blk2 m c t, blk3 m c t]

end Cert.OutFwdIdeal.Value

end
-- ==== Proof.Parts.OutFwdClaim.lean ====
module

public import proofs.«01_k».proof.Defs
public import proofs.«01_k».proof.Proof.Gen.OutFwd.Frame
public import proofs.«01_k».proof.Proof.Parts.OutFwd
public import Idealize.ShloMosaic.Lib.Claim

/-! The claims about the gated residual after the output projection. -/

@[expose] public section

set_option maxRecDepth 16384

noncomputable section

open Idealize.ShloMosaic Idealize.ShloMosaic.TcCoe Idealize.SL.Sem

namespace Cert.OutFwdIdeal.Value

theorem frame_ref : Cert.quiescent_OutFwdRefIdeal := by
  intro m g _
  exact (θ_run Cert.OutFwdRefIdeal.defs _ _).mono
    (fun r h => ⟨fun c => (h c).2.2, Idealize.ShloMosaic.sem_eq_zero_of_no_sems (by decide) r.2⟩)
    (Cert.OutFwdRefIdeal.Value.run (F := Ideal) m g)

theorem algebraic : Cert.algebraic_OutFwdIdeal_OutFwdRefIdeal := by
  pair_intro
  · run_from Cert.OutFwdIdeal.Gen.run_main m g
  · run_from Cert.OutFwdRefIdeal.Value.run m' g'
    · exact (final_4 m c).symm
    · exact (final_5 m c).symm

end Cert.OutFwdIdeal.Value

end
-- ==== Proof.Parts.FfnIn.lean ====
module

public import proofs.«01_k».proof.Proof.Gen.FfnInIdeal.Frame
public import proofs.«01_k».proof.Proof.Gen.FfnInRefIdeal.Run
public import proofs.«01_k».proof.Proof.Gen.FfnInRefIdeal.Read
public import Idealize.ShloMosaic.Lib.Pipeline.ValueKit
public import Idealize.ShloMosaic.Lib.Pointwise

/-! The feed-forward's input product with the gated product, on columns padded block by block. -/

@[expose] public section

set_option maxRecDepth 16384

noncomputable section

open Idealize.ShloMosaic Idealize.ShloMosaic.TcCoe Idealize.SL.Sem
open Idealize.ShloMosaic.Pipeline (Dat)

namespace Cert.FfnInIdeal.Value

open Cert.FfnInIdeal Cert.FfnInIdeal.Gen

variable (m : (ℓ : Loc nD τ sig) → Buf (Elt Ideal) ℓ)

theorem idx_val : ∀ t : Fin cfg0.N, win0_0.index t = ![t.val / 4, 0]
    ∧ win0_1.index t = ![t.val % 4, 0, 0]
    ∧ win0_2.index t = ![t.val % 4 + 4, 0, 0]
    ∧ win0_3.index t = ![t.val / 4, t.val % 4]
    ∧ win0_4.index t = ![t.val / 4, t.val % 4]
    ∧ win0_5.index t = ![t.val / 4, t.val % 4] :=
  (by decide +kernel : ∀ t : Fin grid0.N, _)

abbrev A0 (c : Dev nD) : FVec Ideal S8192x1024 .f32 := m ((c : Thread nD τ).loc main_arg0)
abbrev A1 (c : Dev nD) : FVec Ideal S1024x5632 .f32 := m ((c : Thread nD τ).loc main_arg1)

/-- The padded weights, as the region finds them: eight blocks of two times 384 columns, the gate's four first. -/
def P (c : Dev nD) : FVec Ideal S8x1024x768 .bf16 := V m c (Pipeline.arrRef spec0 1)

abbrev row (t : Fin cfg0.N) (r : Fin 1024) : Fin 8192 := ⟨1024 * (t.val / 4) + r.val, by have := t.isLt; have : cfg0.N = 32 := rfl; omega⟩
abbrev col (t : Fin cfg0.N) (j : Fin 768) : Fin 3072 := ⟨768 * (t.val % 4) + j.val, by omega⟩
/-- The block of a padded column for the gate and for the other half, and its place there. -/
abbrev gb (q : Fin 3072) : Fin 8 := ⟨q.val / 768, by omega⟩
abbrev ub (q : Fin 3072) : Fin 8 := ⟨q.val / 768 + 4, by omega⟩
abbrev pl (q : Fin 3072) : Fin 768 := ⟨q.val % 768, by omega⟩
theorem gb_col (t : Fin cfg0.N) (j : Fin 768) : gb (col t j) = ⟨t.val % 4, by omega⟩ := Fin.ext (by dsimp only; omega)
theorem ub_col (t : Fin cfg0.N) (j : Fin 768) : ub (col t j) = ⟨t.val % 4 + 4, by omega⟩ := Fin.ext (by dsimp only; omega)
theorem pl_col (t : Fin cfg0.N) (j : Fin 768) : pl (col t j) = j := Fin.ext (by dsimp only; omega)

theorem blk0 (c : Dev nD) (t : Fin cfg0.N) (r : Fin 1024) (j : Fin 1024) :
    (show FVec Ideal S1024x1024 .bf16 from iblk m c 0 t) (ix2 r j) = A0 m c (ix2 (row t r) j) := by
  blk_point [iblk, idx_val t]
theorem blk1 (c : Dev nD) (t : Fin cfg0.N) (k : Fin 1024) (j : Fin 768) :
    (show FVec Ideal S1x1024x768 .bf16 from iblk m c 1 t) (ix3 0 k j) = P m c (ix3 (gb (col t j)) k (pl (col t j))) := by
  rw [gb_col, pl_col]
  exact congrArg (V m c (Pipeline.arrRef spec0 1)) (show ((cfg0.win 1).blk t).view.emb (ix3 0 k j) = ix3 ⟨t.val % 4, by omega⟩ k j by blk_ext [idx_val t])
theorem blk2 (c : Dev nD) (t : Fin cfg0.N) (k : Fin 1024) (j : Fin 768) :
    (show FVec Ideal S1x1024x768 .bf16 from iblk m c 2 t) (ix3 0 k j) = P m c (ix3 (ub (col t j)) k (pl (col t j))) := by
  rw [ub_col, pl_col]
  exact congrArg (V m c (Pipeline.arrRef spec0 2)) (show ((cfg0.win 2).blk t).view.emb (ix3 0 k j) = ix3 ⟨t.val % 4 + 4, by omega⟩ k j by blk_ext [idx_val t])

/-- The two halves of the product at a padded column, and the three results. -/
def gate (c : Dev nD) (r : Fin 8192) (q : Fin 3072) : EReal := ∑ k : Fin 1024, A0 m c (ix2 r k) * P m c (ix3 (gb q) k (pl q))
def up (c : Dev nD) (r : Fin 8192) (q : Fin 3072) : EReal := ∑ k : Fin 1024, A0 m c (ix2 r k) * P m c (ix3 (ub q) k (pl q))
def RES_3 (c : Dev nD) : FVec Ideal S8192x3072 .bf16 := fun i => gate m c (i 0) (i 1)
def RES_4 (c : Dev nD) : FVec Ideal S8192x3072 .bf16 := fun i => up m c (i 0) (i 1)
def RES_5 (c : Dev nD) : FVec Ideal S8192x3072 .bf16 := fun i =>
  gate m c (i 0) (i 1) * Ideal.logistic (gate m c (i 0) (i 1)) * up m c (i 0) (i 1)

theorem final_3 (c : Dev nD) : (dats m 0 c).arrAt 3 (cfgs 0).N = RES_3 m c := by
  refine (dats m 0 c).arrAt_eq_of_covers 3 _ (by decide +kernel) fun t hf y => ?_
  blk_simp; rw [after0_3]; frame_out
  idx_vars y
  rw [show ((cfg0.win 3).blk t).view.emb (ix2 y0 y1) = ix2 (row t y0) (col t y1) by blk_ext [idx_val t]]
  open_payloads
  pointwise [blk0 m c t, blk1 m c t, blk2 m c t]
  rfl

theorem final_4 (c : Dev nD) : (dats m 0 c).arrAt 4 (cfgs 0).N = RES_4 m c := by
  refine (dats m 0 c).arrAt_eq_of_covers 4 _ (by decide +kernel) fun t hf y => ?_
  blk_simp; rw [after0_4]; frame_out
  idx_vars y
  rw [show ((cfg0.win 4).blk t).view.emb (ix2 y0 y1) = ix2 (row t y0) (col t y1) by blk_ext [idx_val t]]
  open_payloads
  pointwise [blk0 m c t, blk1 m c t, blk2 m c t]
  rfl

theorem final_5 (c : Dev nD) : (dats m 0 c).arrAt 5 (cfgs 0).N = RES_5 m c := by
  refine (dats m 0 c).arrAt_eq_of_covers 5 _ (by decide +kernel) fun t hf y => ?_
  blk_simp; rw [after0_5]; frame_out
  idx_vars y
  rw [show ((cfg0.win 5).blk t).view.emb (ix2 y0 y1) = ix2 (row t y0) (col t y1) by blk_ext [idx_val t]]
  open_payloads
  pointwise [blk0 m c t, blk1 m c t, blk2 m c t]
  rfl

/-- The padded column of a half's column. -/
abbrev pcol (q : Fin 2816) : Fin 3072 := ⟨q.val / 352 * 384 + q.val % 352, by omega⟩

theorem pad_gate (c : Dev nD) (q : Fin 2816) (k : Fin 1024) : P m c (ix3 (gb (pcol q)) k (pl (pcol q))) = A1 m c (ix2 k ⟨q.val, by omega⟩) := by
  change V m c main_v5 _ = _
  simp only [V, V0, List.flatten_cons, List.flatten_nil, hostOps0, hostOps0_1, hostOps0_2, List.cons_append, List.nil_append, List.append_nil]
  entry_read
  simp only [StableHlo.TRef.toBuf, StableHlo.TRef.ofBuf, cast_eq]
  pointwise
  rw [dif_pos ⟨by omega, by omega⟩]
  exact congrArg (fun z => A1 m c (ix2 k z)) (Fin.ext (by dsimp only; omega))

theorem pad_up (c : Dev nD) (q : Fin 2816) (k : Fin 1024) : P m c (ix3 (ub (pcol q)) k (pl (pcol q))) = A1 m c (ix2 k ⟨2816 + q.val, by omega⟩) := by
  change V m c main_v5 _ = _
  simp only [V, V0, List.flatten_cons, List.flatten_nil, hostOps0, hostOps0_1, hostOps0_2, List.cons_append, List.nil_append, List.append_nil]
  entry_read
  simp only [StableHlo.TRef.toBuf, StableHlo.TRef.ofBuf, cast_eq]
  pointwise
  rw [dif_pos ⟨by omega, by omega⟩]
  exact congrArg (fun z => A1 m c (ix2 k z)) (Fin.ext (by dsimp only; omega))

theorem res_3 (c : Dev nD) (r : Fin 8192) (q : Fin 2816) :
    RES_3 m c (ix2 r (pcol q)) = FfnInRefIdeal.Read.val_main_v5 (F := Ideal) (A0 m c) (A1 m c) (ix2 r q) := by
  rw [← FfnInRefIdeal.Read.val_main_v5_eq]
  have hl : RES_3 m c (ix2 r (pcol q)) = gate m c r (pcol q) := rfl
  rw [hl]
  unfold gate
  simp only [pad_gate]
  pointwise

theorem res_4 (c : Dev nD) (r : Fin 8192) (q : Fin 2816) :
    RES_4 m c (ix2 r (pcol q)) = FfnInRefIdeal.Read.val_main_v6 (F := Ideal) (A0 m c) (A1 m c) (ix2 r q) := by
  rw [← FfnInRefIdeal.Read.val_main_v6_eq]
  have hl : RES_4 m c (ix2 r (pcol q)) = up m c r (pcol q) := rfl
  rw [hl]
  unfold up
  simp only [pad_up]
  pointwise

theorem res_5 (c : Dev nD) (r : Fin 8192) (q : Fin 2816) :
    RES_5 m c (ix2 r (pcol q)) = FfnInRefIdeal.Read.val_main_v7 (F := Ideal) (A0 m c) (A1 m c) (ix2 r q) := by
  rw [← FfnInRefIdeal.Read.val_main_v7_eq]
  have hl : RES_5 m c (ix2 r (pcol q)) = gate m c r (pcol q) * Ideal.logistic (gate m c r (pcol q)) * up m c r (pcol q) := rfl
  rw [hl]
  unfold gate up
  simp only [pad_gate, pad_up]
  pointwise
  rfl

end Cert.FfnInIdeal.Value

end
-- ==== Proof.Parts.FfnInClaim.lean ====
module

public import proofs.«01_k».proof.Defs
public import proofs.«01_k».proof.Proof.Gen.FfnIn.Frame
public import proofs.«01_k».proof.Proof.Parts.FfnIn
public import Idealize.ShloMosaic.Lib.Claim

/-! The claims about the feed-forward's input product and gated product. -/

@[expose] public section

set_option maxRecDepth 16384

noncomputable section

open Idealize.ShloMosaic Idealize.ShloMosaic.TcCoe Idealize.SL.Sem

namespace Cert.FfnInIdeal.Value

theorem frame_ref : Cert.quiescent_FfnInRefIdeal := by
  intro m g _
  exact (θ_run Cert.FfnInRefIdeal.defs _ _).mono
    (fun r h => ⟨fun c => (h c).2.2.2, Idealize.ShloMosaic.sem_eq_zero_of_no_sems (by decide) r.2⟩)
    (Cert.FfnInRefIdeal.Value.run (F := Ideal) m g)

section Tail
variable (m : (ℓ : Loc nD τ sig) → Buf (Elt Ideal) ℓ) (c : Dev nD)

/-- The padding taken off a result on the host reads the padded column of each column. -/
theorem unpad (x : FVec Ideal S8192x3072 .bf16) :
    shapeCast S8192x2816 (extractStridedSlice S8192x8x352 ![0, 0, 0] (shapeCast S8192x8x384 x Gen.shapeCasts_S8192x3072_S8192x8x384)
      Gen.slices_S8192x8x384_S8192x8x352_0_0_0) Gen.shapeCasts_S8192x8x352_S8192x2816 = fun i => x (ix2 (i 0) (pcol (i 1))) := by
  funext i
  idx_vars i
  pointwise

theorem tail_10 : Pipeline.afterTail₀ cfgs (Gen.dats m) 0 (Gen.V0 m) [Gen.hostOps1] c main_v10 = fun i => RES_3 m c (ix2 (i 0) (pcol (i 1))) := by
  unfold Pipeline.afterTail₀
  simp only [Gen.hostOps1, List.flatten_cons, List.flatten_nil, List.append_nil, StableHlo.after_cons, StableHlo.after_nil]
  after_results_simp
  erw [Pipeline.withArrays_arr_shared spec0 c (Gen.V0 m c) _ ((Gen.dats m 0 c).arrAt_sharedIn Gen.launch₀0.sharedIn (Gen.V0 m c) (Gen.A_eq m c) _) 3]
  erw [final_3 m c]
  exact unpad (RES_3 m c)

theorem tail_13 : Pipeline.afterTail₀ cfgs (Gen.dats m) 0 (Gen.V0 m) [Gen.hostOps1] c main_v13 = fun i => RES_4 m c (ix2 (i 0) (pcol (i 1))) := by
  unfold Pipeline.afterTail₀
  simp only [Gen.hostOps1, List.flatten_cons, List.flatten_nil, List.append_nil, StableHlo.after_cons, StableHlo.after_nil]
  after_results_simp
  erw [Pipeline.withArrays_arr_shared spec0 c (Gen.V0 m c) _ ((Gen.dats m 0 c).arrAt_sharedIn Gen.launch₀0.sharedIn (Gen.V0 m c) (Gen.A_eq m c) _) 4]
  erw [final_4 m c]
  exact unpad (RES_4 m c)

theorem tail_16 : Pipeline.afterTail₀ cfgs (Gen.dats m) 0 (Gen.V0 m) [Gen.hostOps1] c main_v16 = fun i => RES_5 m c (ix2 (i 0) (pcol (i 1))) := by
  unfold Pipeline.afterTail₀
  simp only [Gen.hostOps1, List.flatten_cons, List.flatten_nil, List.append_nil, StableHlo.after_cons, StableHlo.after_nil]
  after_results_simp
  erw [Pipeline.withArrays_arr_shared spec0 c (Gen.V0 m c) _ ((Gen.dats m 0 c).arrAt_sharedIn Gen.launch₀0.sharedIn (Gen.V0 m c) (Gen.A_eq m c) _) 5]
  erw [final_5 m c]
  exact unpad (RES_5 m c)

end Tail

/-- The kernel's run: the results with their padding off, the arguments kept. -/
theorem run_kernel (m : (ℓ : Loc nD τ sig) → Buf (Elt Ideal) ℓ) (g : Dev nD → PrngReg) :
    θ_run (Cert.FfnInIdeal.defs (F := Ideal)) (onTc (τ := τ) (Cert.FfnInIdeal.main (F := Ideal))) ⟨m, fun _ => 0, g⟩ (fun r => ∀ c : Dev nD,
      r.2.mem ((c.tc : Thread Cert.FfnInIdeal.nD Cert.FfnInIdeal.τ).loc Cert.FfnInIdeal.main_v10) = (fun i => RES_3 m c (ix2 (i 0) (pcol (i 1))))
      ∧ r.2.mem ((c.tc : Thread Cert.FfnInIdeal.nD Cert.FfnInIdeal.τ).loc Cert.FfnInIdeal.main_v13) = (fun i => RES_4 m c (ix2 (i 0) (pcol (i 1))))
      ∧ r.2.mem ((c.tc : Thread Cert.FfnInIdeal.nD Cert.FfnInIdeal.τ).loc Cert.FfnInIdeal.main_v16) = (fun i => RES_5 m c (ix2 (i 0) (pcol (i 1))))
      ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)) := by
  refine (θ_run defs _ _).mono (fun r h c => ?_) (Gen.run_main m g)
  have hr := (h c).2
  exact ⟨(hr main_v10 (Pipeline.mem_restRefs_of main_v10 (by decide) (by decide))).trans (tail_10 m c),
    (hr main_v13 (Pipeline.mem_restRefs_of main_v13 (by decide) (by decide))).trans (tail_13 m c),
    (hr main_v16 (Pipeline.mem_restRefs_of main_v16 (by decide) (by decide))).trans (tail_16 m c),
    (hr main_arg0 (Pipeline.mem_restRefs_of main_arg0 (by decide) (by decide))).trans (Gen.W_main_arg0 m (Gen.dats m) c),
    (hr main_arg1 (Pipeline.mem_restRefs_of main_arg1 (by decide) (by decide))).trans (Gen.W_main_arg1 m (Gen.dats m) c)⟩

theorem algebraic : Cert.algebraic_FfnInIdeal_FfnInRefIdeal := by
  intro m g m' g' _ hagree
  refine ⟨fun c i => RES_3 m c (ix2 (i 0) (pcol (i 1))), fun c i => RES_4 m c (ix2 (i 0) (pcol (i 1))), fun c i => RES_5 m c (ix2 (i 0) (pcol (i 1))), run_kernel m g, ?_⟩
  refine (θ_run Cert.FfnInRefIdeal.defs _ _).mono (fun r h c => ⟨(h c).1.trans ?_, (h c).2.1.trans ?_, (h c).2.2.1.trans ?_, (h c).2.2.2⟩) (Cert.FfnInRefIdeal.Value.run m' g')
  all_goals obtain ⟨h0, h1⟩ := hagree c
  · rw [FfnInRefIdeal.Read.val_main_v5_eq, h0, h1]
    funext i
    idx_vars i
    exact (res_3 m c i0 i1).symm
  · rw [FfnInRefIdeal.Read.val_main_v6_eq, h0, h1]
    funext i
    idx_vars i
    exact (res_4 m c i0 i1).symm
  · rw [FfnInRefIdeal.Read.val_main_v7_eq, h0, h1]
    funext i
    idx_vars i
    exact (res_5 m c i0 i1).symm

end Cert.FfnInIdeal.Value

end
-- ==== Proof.Parts.PoolFwdClaim.lean ====
module

public import proofs.«01_k».proof.Defs
public import proofs.«01_k».proof.Proof.Gen.PoolFwd.Frame
public import proofs.«01_k».proof.Proof.Gen.PoolFwdIdeal.Frame
public import proofs.«01_k».proof.Proof.Gen.PoolFwdRefIdeal.Run
public import proofs.«01_k».proof.Proof.Gen.PoolFwdRefIdeal.Read

/-!
# The pooling mixer's forward call: the reference's frame

The reference is host code alone: it ends with its arguments as it found them and no signal raised.
-/

public section
open Idealize Idealize.ShloMosaic

namespace Cert.PoolFwdIdeal.Value

theorem frame_ref : Cert.quiescent_PoolFwdRefIdeal := by
  intro m g _
  exact (θ_run Cert.PoolFwdRefIdeal.defs _ _).mono
    (fun r h => ⟨fun c => (h c).2, Idealize.ShloMosaic.sem_eq_zero_of_no_sems (by decide) r.2⟩)
    (Cert.PoolFwdRefIdeal.Value.run (F := Ideal) m g)

end Cert.PoolFwdIdeal.Value
-- ==== Proof.Parts.OutDgrad.lean ====
module

public import proofs.«01_k».proof.Proof.Gen.OutDgradIdeal.Frame
public import proofs.«01_k».proof.Proof.Gen.OutDgradRefIdeal.Run
public import proofs.«01_k».proof.Proof.Gen.OutDgradRefIdeal.Read
public import Idealize.ShloMosaic.Lib.Pipeline.ValueKit
public import Idealize.ShloMosaic.Lib.Pointwise

/-! The gradient of the output projection for its input. -/

@[expose] public section

set_option maxRecDepth 16384

noncomputable section

open Idealize.ShloMosaic Idealize.ShloMosaic.TcCoe Idealize.SL.Sem
open Idealize.ShloMosaic.Pipeline (Dat)

namespace Cert.OutDgradIdeal.Value

open Cert.OutDgradIdeal Cert.OutDgradIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0] :=
  (by decide +kernel : ∀ t : Fin grid0.N, _)

abbrev A1 (c : Dev nD) : FVec Ideal S1024x1024 .f32 := m ((c : Thread nD τ).loc main_arg1)
abbrev A2 (c : Dev nD) : FVec Ideal S8192x1024 .f32 := m ((c : Thread nD τ).loc main_arg2)

/-- The row of a block's row. -/
abbrev row (t : Fin cfg0.N) (r : Fin 2048) : Fin 8192 := ⟨2048 * t.val + r.val, by have : t.val < 4 := t.isLt; omega⟩

variable (c : Dev nD)

theorem blk0 (t : Fin cfg0.N) (r : Fin 2048) (j : Fin 1024) :
    (show FVec Ideal S2048x1024 .bf16 from iblk m c 0 t) (ix2 r j) = A2 m c (ix2 (row t r) j) := by
  blk_point [iblk, V, idx_val t]

theorem blk1 (t : Fin cfg0.N) (r j : Fin 1024) :
    (show FVec Ideal S1024x1024 .bf16 from iblk m c 1 t) (ix2 r j) = A1 m c (ix2 r j) := by
  blk_point [iblk, V, idx_val t]

/-- The reference's result. -/
def RES_2 : FVec Ideal S8192x1024 .bf16 :=
  OutDgradRefIdeal.Read.val_main_v2 (F := Ideal) (A1 m c) (A2 m c)

set_option maxHeartbeats 1600000 in
theorem final_2 : (dats m 0 c).arrAt 2 (cfgs 0).N = RES_2 m c := by
  refine (dats m 0 c).arrAt_eq_of_covers 2 _ (by decide +kernel) fun t hf y => ?_
  blk_simp; rw [after0_2]; frame_out
  idx_vars y
  rw [show ((cfg0.win 2).blk t).view.emb (ix2 y0 y1) = ix2 (row t y0) y1 by blk_ext [idx_val t]]
  unfold RES_2
  rw [← OutDgradRefIdeal.Read.val_main_v2_eq]
  open_payloads
  pointwise [blk0 m c t, blk1 m c t]

end Cert.OutDgradIdeal.Value

end
-- ==== Proof.Parts.OutDgradClaim.lean ====
module

public import proofs.«01_k».proof.Defs
public import proofs.«01_k».proof.Proof.Gen.OutDgrad.Frame
public import proofs.«01_k».proof.Proof.Parts.OutDgrad
public import Idealize.ShloMosaic.Lib.Claim

/-! The claims about the gradient of the output projection for its input. -/

@[expose] public section

set_option maxRecDepth 16384

noncomputable section

open Idealize.ShloMosaic Idealize.ShloMosaic.TcCoe Idealize.SL.Sem

namespace Cert.OutDgradIdeal.Value

theorem frame_ref : Cert.quiescent_OutDgradRefIdeal := by
  intro m g _
  exact (θ_run Cert.OutDgradRefIdeal.defs _ _).mono
    (fun r h => ⟨fun c => (h c).2, Idealize.ShloMosaic.sem_eq_zero_of_no_sems (by decide) r.2⟩)
    (Cert.OutDgradRefIdeal.Value.run (F := Ideal) m g)

theorem algebraic : Cert.algebraic_OutDgradIdeal_OutDgradRefIdeal := by
  pair_intro
  · run_from Cert.OutDgradIdeal.Gen.run_main m g
  · run_from Cert.OutDgradRefIdeal.Value.run m' g'
    exact (final_2 m c).symm

end Cert.OutDgradIdeal.Value

end
-- ==== Proof.Parts.ProjFwd.lean ====
module

public import proofs.«01_k».proof.Proof.Gen.ProjFwdIdeal.Frame
public import proofs.«01_k».proof.Proof.Gen.ProjFwdRefIdeal.Run
public import proofs.«01_k».proof.Proof.Gen.ProjFwdRefIdeal.Read
public import Idealize.ShloMosaic.Lib.Pipeline.ValueKit
public import Idealize.ShloMosaic.Lib.Pointwise

/-! The input projection. -/

@[expose] public section

set_option maxRecDepth 16384

noncomputable section

open Idealize.ShloMosaic Idealize.ShloMosaic.TcCoe Idealize.SL.Sem
open Idealize.ShloMosaic.Pipeline (Dat)

namespace Cert.ProjFwdIdeal.Value

open Cert.ProjFwdIdeal Cert.ProjFwdIdeal.Gen

variable (m : (ℓ : Loc nD τ sig) → Buf (Elt Ideal) ℓ)

theorem idx_val : ∀ t : Fin cfg0.N, win0_0.index t = ![t.val / 8, 0]
    ∧ win0_1.index t = ![t.val % 8, 0, 0]
    ∧ win0_2.index t = ![t.val / 8, t.val % 8] :=
  (by decide +kernel : ∀ t : Fin grid0.N, _)

abbrev A0 (c : Dev nD) : FVec Ideal S8192x1024 .f32 := m ((c : Thread nD τ).loc main_arg0)
abbrev A1 (c : Dev nD) : FVec Ideal S1024x6144 .f32 := m ((c : Thread nD τ).loc main_arg1)

/-- The row of a block's row and the column of a block's column. -/
abbrev row (t : Fin cfg0.N) (r : Fin 2048) : Fin 8192 := ⟨2048 * (t.val / 8) + r.val, by have : t.val < 32 := t.isLt; omega⟩
abbrev colm (t : Fin cfg0.N) (j : Fin 768) : Fin 6144 := ⟨768 * (t.val % 8) + j.val, by omega⟩
abbrev cblk (t : Fin cfg0.N) : Fin 8 := ⟨t.val % 8, by omega⟩

variable (c : Dev nD)

theorem blk0 (t : Fin cfg0.N) (r : Fin 2048) (j : Fin 1024) :
    (show FVec Ideal S2048x1024 .bf16 from iblk m c 0 t) (ix2 r j) = A0 m c (ix2 (row t r) j) := by
  blk_point [iblk, V, idx_val t]

theorem blk1 (t : Fin cfg0.N) (k : Fin 1024) (j : Fin 768) :
    (show FVec Ideal S1x1024x768 .bf16 from iblk m c 1 t) (ix3 0 k j) = A1 m c (ix2 k (colm t j)) := by
  refine (congrArg (V m c (Pipeline.arrRef spec0 1)) (show ((cfg0.win 1).blk t).view.emb (ix3 0 k j) = ix3 (cblk t) k j by blk_ext [idx_val t])).trans ?_
  entry_read; pointwise
  refine congrArg (A1 m c) (congrArg (ix2 k) (Fin.ext ?_))
  dsimp only; omega

/-- The reference's result. -/
def RES_2 : FVec Ideal S8192x6144 .bf16 :=
  ProjFwdRefIdeal.Read.val_main_v1 (F := Ideal) (A0 m c) (A1 m c)

set_option maxHeartbeats 1600000 in
theorem final_2 : (dats m 0 c).arrAt 2 (cfgs 0).N = RES_2 m c := by
  refine (dats m 0 c).arrAt_eq_of_covers 2 _ (by decide +kernel) fun t hf y => ?_
  blk_simp; rw [after0_2]; frame_out
  idx_vars y
  rw [show ((cfg0.win 2).blk t).view.emb (ix2 y0 y1) = ix2 (row t y0) (colm t y1) by blk_ext [idx_val t]]
  unfold RES_2
  rw [← ProjFwdRefIdeal.Read.val_main_v1_eq]
  open_payloads
  pointwise [blk0 m c t, blk1 m c t]

end Cert.ProjFwdIdeal.Value

end
-- ==== Proof.Parts.ProjFwdClaim.lean ====
module

public import proofs.«01_k».proof.Defs
public import proofs.«01_k».proof.Proof.Gen.ProjFwd.Frame
public import proofs.«01_k».proof.Proof.Parts.ProjFwd
public import Idealize.ShloMosaic.Lib.Claim

/-! The claims about the input projection. -/

@[expose] public section

set_option maxRecDepth 16384

noncomputable section

open Idealize.ShloMosaic Idealize.ShloMosaic.TcCoe Idealize.SL.Sem

namespace Cert.ProjFwdIdeal.Value

theorem frame_ref : Cert.quiescent_ProjFwdRefIdeal := by
  intro m g _
  exact (θ_run Cert.ProjFwdRefIdeal.defs _ _).mono
    (fun r h => ⟨fun c => (h c).2, Idealize.ShloMosaic.sem_eq_zero_of_no_sems (by decide) r.2⟩)
    (Cert.ProjFwdRefIdeal.Value.run (F := Ideal) m g)

theorem algebraic : Cert.algebraic_ProjFwdIdeal_ProjFwdRefIdeal := by
  pair_intro
  · run_from Cert.ProjFwdIdeal.Gen.run_main m g
  · run_from Cert.ProjFwdRefIdeal.Value.run m' g'
    exact (final_2 m c).symm

end Cert.ProjFwdIdeal.Value

end
-- ==== Proof.Parts.ProjDgrad.lean ====
module

public import proofs.«01_k».proof.Proof.Gen.ProjDgradIdeal.Frame
public import proofs.«01_k».proof.Proof.Gen.ProjDgradRefIdeal.Run
public import proofs.«01_k».proof.Proof.Gen.ProjDgradRefIdeal.Read
public import Idealize.ShloMosaic.Lib.Pipeline.ValueKit
public import Idealize.ShloMosaic.Lib.Pointwise

/-! The gradient of the input projection for its input. -/

@[expose] public section

set_option maxRecDepth 16384

noncomputable section

open Idealize.ShloMosaic Idealize.ShloMosaic.TcCoe Idealize.SL.Sem
open Idealize.ShloMosaic.Pipeline (Dat)

namespace Cert.ProjDgradIdeal.Value

open Cert.ProjDgradIdeal Cert.ProjDgradIdeal.Gen

variable (m : (ℓ : Loc nD τ sig) → Buf (Elt Ideal) ℓ)

theorem idx_val : ∀ t : Fin cfg0.N, win0_0.index t = ![t.val / 8, t.val % 8]
    ∧ win0_1.index t = ![t.val % 8, 0, 0]
    ∧ win0_2.index t = ![t.val / 8, 0] :=
  (by decide +kernel : ∀ t : Fin grid0.N, _)

abbrev A1 (c : Dev nD) : FVec Ideal S1024x6144 .f32 := m ((c : Thread nD τ).loc main_arg1)
abbrev A2 (c : Dev nD) : FVec Ideal S8192x6144 .f32 := m ((c : Thread nD τ).loc main_arg2)

/-- The row of a block's row and the column of a block's column. -/
abbrev row (t : Fin cfg0.N) (r : Fin 2048) : Fin 8192 := ⟨2048 * (t.val / 8) + r.val, by have : t.val < 32 := t.isLt; omega⟩
abbrev colm (t : Fin cfg0.N) (j : Fin 768) : Fin 6144 := ⟨768 * (t.val % 8) + j.val, by omega⟩
abbrev cblk (t : Fin cfg0.N) : Fin 8 := ⟨t.val % 8, by omega⟩
theorem row_run (t : Fin cfg0.N) (s : Fin 8) (r : Fin 2048) (h : 8 * (t.val / 8) + s.val < cfg0.N) : row ⟨8 * (t.val / 8) + s.val, h⟩ r = row t r := Fin.ext (by dsimp only; omega)
theorem col_run (t : Fin cfg0.N) (s : Fin 8) (k : Fin 768) (h : 8 * (t.val / 8) + s.val < cfg0.N) (hl : s.val * 768 + k.val < 6144) : colm ⟨8 * (t.val / 8) + s.val, h⟩ k = ⟨s.val * 768 + k.val, hl⟩ := Fin.ext (by dsimp only; omega)

variable (c : Dev nD)

theorem blk0 (t : Fin cfg0.N) (r : Fin 2048) (j : Fin 768) :
    (show FVec Ideal S2048x768 .bf16 from iblk m c 0 t) (ix2 r j) = A2 m c (ix2 (row t r) (colm t j)) := by
  blk_point [iblk, V, idx_val t]

theorem blk1 (t : Fin cfg0.N) (k : Fin 1024) (j : Fin 768) :
    (show FVec Ideal S1x1024x768 .bf16 from iblk m c 1 t) (ix3 0 k j) = A1 m c (ix2 k (colm t j)) := by
  refine (congrArg (V m c (Pipeline.arrRef spec0 1)) (show ((cfg0.win 1).blk t).view.emb (ix3 0 k j) = ix3 (cblk t) k j by blk_ext [idx_val t])).trans ?_
  entry_read; pointwise
  refine congrArg (A1 m c) (congrArg (ix2 k) (Fin.ext ?_))
  dsimp only; omega

theorem hzero (j : S2048x1024.Idx) : k0_pay1 (F := Ideal) j = 0 := by pointwise! [k0_pay1]
theorem hpay (a : Vec Ideal S2048x1024 .f32) (x0 : Vec Ideal S2048x768 .bf16) (x1 : Vec Ideal S1x1024x768 .bf16) (j : S2048x1024.Idx) :
    k0_pay2 a x0 x1 j = a j + k0_pay2 (fun _ => 0) x0 x1 j := by pointwise [k0_pay2]

/-- The last point of a run stores what the run accumulated. -/
theorem stored (t : Fin cfg0.N) (h : t.val % 8 = 7) :
    (outsAt0 m c t.val t.isLt).1 = (outsAt0 m c t.val t.isLt).2 := by
  rw [outsAt0_C m c t (by omega) h]; frame_out

theorem total (t : Fin cfg0.N) (h : t.val % 8 = 7) (j : S2048x1024.Idx) :
    (outsAt0 m c t.val t.isLt).2 j = ∑ s : Fin 8, k0_pay2 (fun _ => 0) (iblk m c 0 ⟨8 * (t.val / 8) + s.val, by have := t.isLt; omega⟩) (iblk m c 1 ⟨8 * (t.val / 8) + s.val, by have := t.isLt; omega⟩) j := by
  rw [Pipeline.eq_sum_fin_of_reset_step_apply_of_flush (fun n h => (outsAt0 m c n h).2) 8 (fun _ => 0)
    (fun t j => k0_pay2 (fun _ => 0) (iblk m c 0 t) (iblk m c 1 t) j)
    (fun t h j => by rw [outsAt0_A m c t h (by omega)]; frame_out; rw [hpay, hzero])
    (fun t h j => by
      by_cases h1 : t.val % 8 = 7
      · rw [outsAt0_C m c t h h1]; frame_out; rw [hpay]
        exact congrArg (· + _) (congrFun ((Memref.isWhole_whole cc0_scratch0).read_unread _) j)
      · rw [outsAt0_B m c t h h1]; frame_out; rw [hpay]
        exact congrArg (· + _) (congrFun ((Memref.isWhole_whole cc0_scratch0).read_unread _) j))
    t h j, zero_add]

/-- The reference's result. -/
def RES_2 : FVec Ideal S8192x1024 .f32 :=
  ProjDgradRefIdeal.Read.val_main_v1 (F := Ideal) (A1 m c) (A2 m c)

set_option maxHeartbeats 1600000 in
theorem final_2 : (dats m 0 c).arrAt 2 (cfgs 0).N = RES_2 m c := by
  refine (dats m 0 c).arrAt_eq_of_covers 2 _ (by decide +kernel) fun t hf y => ?_
  blk_simp; rw [after0_2, stored m c t ((flush0_2 t).mp hf), total m c t ((flush0_2 t).mp hf)]
  idx_vars y
  rw [show ((cfg0.win 2).blk t).view.emb (ix2 y0 y1) = ix2 (row t y0) y1 by blk_ext [idx_val t]]
  unfold RES_2
  rw [← ProjDgradRefIdeal.Read.val_main_v1_eq]
  open_payloads
  pointwise [blk0 m c _, blk1 m c _]
  refine Fin.sum_mul_add_congr fun s k hl => ?_
  rw [row_run, col_run t s k _ hl]

end Cert.ProjDgradIdeal.Value

end
-- ==== Proof.Parts.ProjDgradClaim.lean ====
module

public import proofs.«01_k».proof.Defs
public import proofs.«01_k».proof.Proof.Gen.ProjDgrad.Frame
public import proofs.«01_k».proof.Proof.Parts.ProjDgrad
public import Idealize.ShloMosaic.Lib.Claim

/-! The claims about the gradient of the input projection for its input. -/

@[expose] public section

set_option maxRecDepth 16384

noncomputable section

open Idealize.ShloMosaic Idealize.ShloMosaic.TcCoe Idealize.SL.Sem

namespace Cert.ProjDgradIdeal.Value

theorem frame_ref : Cert.quiescent_ProjDgradRefIdeal := by
  intro m g _
  exact (θ_run Cert.ProjDgradRefIdeal.defs _ _).mono
    (fun r h => ⟨fun c => (h c).2, Idealize.ShloMosaic.sem_eq_zero_of_no_sems (by decide) r.2⟩)
    (Cert.ProjDgradRefIdeal.Value.run (F := Ideal) m g)

theorem algebraic : Cert.algebraic_ProjDgradIdeal_ProjDgradRefIdeal := by
  pair_intro
  · run_from Cert.ProjDgradIdeal.Gen.run_main m g
  · run_from Cert.ProjDgradRefIdeal.Value.run m' g'
    exact (final_2 m c).symm

end Cert.ProjDgradIdeal.Value

end
-- ==== Proof.Parts.ProjWgrad.lean ====
module

public import proofs.«01_k».proof.Proof.Gen.ProjWgradIdeal.Frame
public import proofs.«01_k».proof.Proof.Gen.ProjWgradRefIdeal.Run
public import proofs.«01_k».proof.Proof.Gen.ProjWgradRefIdeal.Read
public import Idealize.ShloMosaic.Lib.Pipeline.ValueKit
public import Idealize.ShloMosaic.Lib.Pointwise

/-! The gradient of the input projection for its weights. -/

@[expose] public section

set_option maxRecDepth 16384

noncomputable section

open Idealize.ShloMosaic Idealize.ShloMosaic.TcCoe Idealize.SL.Sem
open Idealize.ShloMosaic.Pipeline (Dat)

namespace Cert.ProjWgradIdeal.Value

open Cert.ProjWgradIdeal Cert.ProjWgradIdeal.Gen

variable (m : (ℓ : Loc nD τ sig) → Buf (Elt Ideal) ℓ)

theorem idx_val : ∀ t : Fin cfg0.N, win0_0.index t = ![t.val % 4, 0]
    ∧ win0_1.index t = ![t.val % 4, t.val / 4]
    ∧ win0_2.index t = ![t.val / 4, 0, 0] :=
  (by decide +kernel : ∀ t : Fin grid0.N, _)

abbrev A0 (c : Dev nD) : FVec Ideal S8192x1024 .f32 := m ((c : Thread nD τ).loc main_arg0)
abbrev A2 (c : Dev nD) : FVec Ideal S8192x6144 .f32 := m ((c : Thread nD τ).loc main_arg2)

/-- The row of a block's row, the column of a block's column and the block of columns. -/
abbrev row (t : Fin cfg0.N) (r : Fin 2048) : Fin 8192 := ⟨2048 * (t.val % 4) + r.val, by omega⟩
abbrev colm (t : Fin cfg0.N) (j : Fin 768) : Fin 6144 := ⟨768 * (t.val / 4) + j.val, by have : t.val < 32 := t.isLt; omega⟩
abbrev cblk (t : Fin cfg0.N) : Fin 8 := ⟨t.val / 4, by have : t.val < 32 := t.isLt; omega⟩
theorem row_run (t : Fin cfg0.N) (s : Fin 4) (k : Fin 2048) (h : 4 * (t.val / 4) + s.val < cfg0.N) (hl : s.val * 2048 + k.val < 8192) : row ⟨4 * (t.val / 4) + s.val, h⟩ k = ⟨s.val * 2048 + k.val, hl⟩ := Fin.ext (by dsimp only; omega)
theorem col_run (t : Fin cfg0.N) (s : Fin 4) (j : Fin 768) (h : 4 * (t.val / 4) + s.val < cfg0.N) : colm ⟨4 * (t.val / 4) + s.val, h⟩ j = colm t j := Fin.ext (by dsimp only; omega)
theorem colm_eq (t : Fin cfg0.N) (j : Fin 768) : colm t j = ⟨t.val / 4 * 768 + j.val, by have : t.val < 32 := t.isLt; omega⟩ := Fin.ext (by dsimp only; omega)

variable (c : Dev nD)

theorem blk0 (t : Fin cfg0.N) (r : Fin 2048) (j : Fin 1024) :
    (show FVec Ideal S2048x1024 .bf16 from iblk m c 0 t) (ix2 r j) = A0 m c (ix2 (row t r) j) := by
  blk_point [iblk, V, idx_val t]

theorem blk1 (t : Fin cfg0.N) (r : Fin 2048) (j : Fin 768) :
    (show FVec Ideal S2048x768 .bf16 from iblk m c 1 t) (ix2 r j) = A2 m c (ix2 (row t r) (colm t j)) := by
  blk_point [iblk, V, idx_val t]

theorem hzero (j : S1024x768.Idx) : k0_pay1 (F := Ideal) j = 0 := by pointwise! [k0_pay1]
theorem hpay (a : Vec Ideal S1024x768 .f32) (x0 : Vec Ideal S2048x1024 .bf16) (x1 : Vec Ideal S2048x768 .bf16) (j : S1024x768.Idx) :
    k0_pay2 a x0 x1 j = a j + k0_pay2 (fun _ => 0) x0 x1 j := by pointwise [k0_pay2]

/-- The last point of a run stores what the run accumulated. -/
theorem stored (t : Fin cfg0.N) (h : t.val % 4 = 3) :
    (outsAt0 m c t.val t.isLt).1 = k0_pay3 (outsAt0 m c t.val t.isLt).2 := by
  rw [outsAt0_C m c t (by omega) h]; frame_out

theorem total (t : Fin cfg0.N) (h : t.val % 4 = 3) (j : S1024x768.Idx) :
    (outsAt0 m c t.val t.isLt).2 j = ∑ s : Fin 4, k0_pay2 (fun _ => 0) (iblk m c 0 ⟨4 * (t.val / 4) + s.val, by have := t.isLt; omega⟩) (iblk m c 1 ⟨4 * (t.val / 4) + s.val, by have := t.isLt; omega⟩) j := by
  rw [Pipeline.eq_sum_fin_of_reset_step_apply_of_flush (fun n h => (outsAt0 m c n h).2) 4 (fun _ => 0)
    (fun t j => k0_pay2 (fun _ => 0) (iblk m c 0 t) (iblk m c 1 t) j)
    (fun t h j => by rw [outsAt0_A m c t h (by omega)]; frame_out; rw [hpay, hzero])
    (fun t h j => by
      by_cases h1 : t.val % 4 = 3
      · rw [outsAt0_C m c t h h1]; frame_out; rw [hpay]
        exact congrArg (· + _) (congrFun ((Memref.isWhole_whole cc0_scratch0).read_unread _) j)
      · rw [outsAt0_B m c t h h1]; frame_out; rw [hpay]
        exact congrArg (· + _) (congrFun ((Memref.isWhole_whole cc0_scratch0).read_unread _) j))
    t h j, zero_add]

theorem stored_at (t : Fin cfg0.N) (h : t.val % 4 = 3) (k : Fin 1024) (j : Fin 768) :
    (outsAt0 m c t.val t.isLt).1 (ix3 0 k j) = (outsAt0 m c t.val t.isLt).2 (ix2 k j) := by
  rw [stored m c t h]; pointwise [k0_pay3]

/-- The reference's result. -/
def RES_2 : FVec Ideal S8x1024x768 .bf16 :=
  ProjWgradRefIdeal.Read.val_main_v5 (F := Ideal) (A0 m c) (A2 m c)

set_option maxHeartbeats 1600000 in
theorem final_2 : (dats m 0 c).arrAt 2 (cfgs 0).N = RES_2 m c := by
  refine (dats m 0 c).arrAt_eq_of_covers 2 _ (by decide +kernel) fun t hf y => ?_
  blk_simp; rw [after0_2]
  idx_vars y
  obtain rfl : y0 = 0 := Subsingleton.elim _ _
  rw [stored_at m c t ((flush0_2 t).mp hf), total m c t ((flush0_2 t).mp hf)]
  rw [show ((cfg0.win 2).blk t).view.emb (ix3 0 y1 y2) = ix3 (cblk t) y1 y2 by blk_ext [idx_val t]]
  unfold RES_2
  rw [← ProjWgradRefIdeal.Read.val_main_v5_eq]
  open_payloads
  pointwise [blk0 m c _, blk1 m c _]
  refine Fin.sum_mul_add_congr fun s k hl => ?_
  rw [row_run t s k _ hl, col_run, mul_comm, colm_eq]

end Cert.ProjWgradIdeal.Value

end
-- ==== Proof.Parts.ProjWgradClaim.lean ====
module

public import proofs.«01_k».proof.Defs
public import proofs.«01_k».proof.Proof.Gen.ProjWgrad.Frame
public import proofs.«01_k».proof.Proof.Parts.ProjWgrad
public import Idealize.ShloMosaic.Lib.Claim

/-! The claims about the gradient of the input projection for its weights. -/

@[expose] public section

set_option maxRecDepth 16384

noncomputable section

open Idealize.ShloMosaic Idealize.ShloMosaic.TcCoe Idealize.SL.Sem

namespace Cert.ProjWgradIdeal.Value

theorem frame_ref : Cert.quiescent_ProjWgradRefIdeal := by
  intro m g _
  exact (θ_run Cert.ProjWgradRefIdeal.defs _ _).mono
    (fun r h => ⟨fun c => (h c).2, Idealize.ShloMosaic.sem_eq_zero_of_no_sems (by decide) r.2⟩)
    (Cert.ProjWgradRefIdeal.Value.run (F := Ideal) m g)

theorem algebraic : Cert.algebraic_ProjWgradIdeal_ProjWgradRefIdeal := by
  pair_intro
  · run_from Cert.ProjWgradIdeal.Gen.run_main m g
  · run_from Cert.ProjWgradRefIdeal.Value.run m' g'
    exact (final_2 m c).symm

end Cert.ProjWgradIdeal.Value

end
-- ==== Proof.Parts.FfnOutWgrad.lean ====
module

public import proofs.«01_k».proof.Proof.Gen.FfnOutWgradIdeal.Frame
public import proofs.«01_k».proof.Proof.Gen.FfnOutWgradRefIdeal.Run
public import proofs.«01_k».proof.Proof.Gen.FfnOutWgradRefIdeal.Read
public import Idealize.ShloMosaic.Lib.Pipeline.ValueKit
public import Idealize.ShloMosaic.Lib.Pointwise

/-! The gradient of the channel mixing's output product for its weights. -/

@[expose] public section

set_option maxRecDepth 16384

noncomputable section

open Idealize.ShloMosaic Idealize.ShloMosaic.TcCoe Idealize.SL.Sem
open Idealize.ShloMosaic.Pipeline (Dat)

namespace Cert.FfnOutWgradIdeal.Value

open Cert.FfnOutWgradIdeal Cert.FfnOutWgradIdeal.Gen

variable (m : (ℓ : Loc nD τ sig) → Buf (Elt Ideal) ℓ)

theorem idx_val : ∀ t : Fin cfg0.N, win0_0.index t = ![t.val % 4, t.val / 4]
    ∧ win0_1.index t = ![t.val % 4, 0]
    ∧ win0_2.index t = ![t.val / 4, 0] :=
  (by decide +kernel : ∀ t : Fin grid0.N, _)

abbrev A0 (c : Dev nD) : FVec Ideal S8192x3072 .f32 := m ((c : Thread nD τ).loc main_arg0)
abbrev A2 (c : Dev nD) : FVec Ideal S8192x1024 .f32 := m ((c : Thread nD τ).loc main_arg2)

/-- The row of a block's row and the column of a block's column. -/
abbrev row (t : Fin cfg0.N) (r : Fin 2048) : Fin 8192 := ⟨2048 * (t.val % 4) + r.val, by omega⟩
abbrev colm (t : Fin cfg0.N) (j : Fin 1024) : Fin 3072 := ⟨1024 * (t.val / 4) + j.val, by have : t.val < 12 := t.isLt; omega⟩
theorem row_run (t : Fin cfg0.N) (s : Fin 4) (k : Fin 2048) (h : 4 * (t.val / 4) + s.val < cfg0.N) (hl : s.val * 2048 + k.val < 8192) : row ⟨4 * (t.val / 4) + s.val, h⟩ k = ⟨s.val * 2048 + k.val, hl⟩ := Fin.ext (by dsimp only; omega)
theorem col_run (t : Fin cfg0.N) (s : Fin 4) (j : Fin 1024) (h : 4 * (t.val / 4) + s.val < cfg0.N) : colm ⟨4 * (t.val / 4) + s.val, h⟩ j = colm t j := Fin.ext (by dsimp only; omega)

variable (c : Dev nD)

theorem blk0 (t : Fin cfg0.N) (r : Fin 2048) (j : Fin 1024) :
    (show FVec Ideal S2048x1024 .bf16 from iblk m c 0 t) (ix2 r j) = A0 m c (ix2 (row t r) (colm t j)) := by
  blk_point [iblk, V, idx_val t]

theorem blk1 (t : Fin cfg0.N) (r : Fin 2048) (j : Fin 1024) :
    (show FVec Ideal S2048x1024 .bf16 from iblk m c 1 t) (ix2 r j) = A2 m c (ix2 (row t r) j) := by
  blk_point [iblk, V, idx_val t]

theorem hzero (j : S1024x1024.Idx) : k0_pay1 (F := Ideal) j = 0 := by pointwise! [k0_pay1]
theorem hpay (a : Vec Ideal S1024x1024 .f32) (x0 : Vec Ideal S2048x1024 .bf16) (x1 : Vec Ideal S2048x1024 .bf16) (j : S1024x1024.Idx) :
    k0_pay2 a x0 x1 j = a j + k0_pay2 (fun _ => 0) x0 x1 j := by pointwise [k0_pay2]

/-- The last point of a run stores what the run accumulated. -/
theorem stored (t : Fin cfg0.N) (h : t.val % 4 = 3) :
    (outsAt0 m c t.val t.isLt).1 = k0_pay3 (outsAt0 m c t.val t.isLt).2 := by
  rw [outsAt0_C m c t (by omega) h]; frame_out

theorem total (t : Fin cfg0.N) (h : t.val % 4 = 3) (j : S1024x1024.Idx) :
    (outsAt0 m c t.val t.isLt).2 j = ∑ s : Fin 4, k0_pay2 (fun _ => 0) (iblk m c 0 ⟨4 * (t.val / 4) + s.val, by have := t.isLt; omega⟩) (iblk m c 1 ⟨4 * (t.val / 4) + s.val, by have := t.isLt; omega⟩) j := by
  rw [Pipeline.eq_sum_fin_of_reset_step_apply_of_flush (fun n h => (outsAt0 m c n h).2) 4 (fun _ => 0)
    (fun t j => k0_pay2 (fun _ => 0) (iblk m c 0 t) (iblk m c 1 t) j)
    (fun t h j => by rw [outsAt0_A m c t h (by omega)]; frame_out; rw [hpay, hzero])
    (fun t h j => by
      by_cases h1 : t.val % 4 = 3
      · rw [outsAt0_C m c t h h1]; frame_out; rw [hpay]
        exact congrArg (· + _) (congrFun ((Memref.isWhole_whole cc0_scratch0).read_unread _) j)
      · rw [outsAt0_B m c t h h1]; frame_out; rw [hpay]
        exact congrArg (· + _) (congrFun ((Memref.isWhole_whole cc0_scratch0).read_unread _) j))
    t h j, zero_add]

theorem stored_at (t : Fin cfg0.N) (h : t.val % 4 = 3) (k j : Fin 1024) :
    (outsAt0 m c t.val t.isLt).1 (ix2 k j) = (outsAt0 m c t.val t.isLt).2 (ix2 k j) := by
  rw [stored m c t h]; pointwise [k0_pay3]

/-- The reference's result. -/
def RES_2 : FVec Ideal S3072x1024 .bf16 :=
  FfnOutWgradRefIdeal.Read.val_main_v3 (F := Ideal) (A0 m c) (A2 m c)

set_option maxHeartbeats 1600000 in
theorem final_2 : (dats m 0 c).arrAt 2 (cfgs 0).N = RES_2 m c := by
  refine (dats m 0 c).arrAt_eq_of_covers 2 _ (by decide +kernel) fun t hf y => ?_
  blk_simp; rw [after0_2]
  idx_vars y
  rw [stored_at m c t ((flush0_2 t).mp hf), total m c t ((flush0_2 t).mp hf)]
  rw [show ((cfg0.win 2).blk t).view.emb (ix2 y0 y1) = ix2 (colm t y0) y1 by blk_ext [idx_val t]]
  unfold RES_2
  rw [← FfnOutWgradRefIdeal.Read.val_main_v3_eq]
  open_payloads
  pointwise [blk0 m c _, blk1 m c _]
  refine Fin.sum_mul_add_congr fun s k hl => ?_
  rw [row_run t s k _ hl, col_run, mul_comm]

end Cert.FfnOutWgradIdeal.Value

end
-- ==== Proof.Parts.FfnOutWgradClaim.lean ====
module

public import proofs.«01_k».proof.Defs
public import proofs.«01_k».proof.Proof.Gen.FfnOutWgrad.Frame
public import proofs.«01_k».proof.Proof.Parts.FfnOutWgrad
public import Idealize.ShloMosaic.Lib.Claim

/-! The claims about the gradient of the channel mixing's output product for its weights. -/

@[expose] public section

set_option maxRecDepth 16384

noncomputable section

open Idealize.ShloMosaic Idealize.ShloMosaic.TcCoe Idealize.SL.Sem

namespace Cert.FfnOutWgradIdeal.Value

theorem frame_ref : Cert.quiescent_FfnOutWgradRefIdeal := by
  intro m g _
  exact (θ_run Cert.FfnOutWgradRefIdeal.defs _ _).mono
    (fun r h => ⟨fun c => (h c).2, Idealize.ShloMosaic.sem_eq_zero_of_no_sems (by decide) r.2⟩)
    (Cert.FfnOutWgradRefIdeal.Value.run (F := Ideal) m g)

theorem algebraic : Cert.algebraic_FfnOutWgradIdeal_FfnOutWgradRefIdeal := by
  pair_intro
  · run_from Cert.FfnOutWgradIdeal.Gen.run_main m g
  · run_from Cert.FfnOutWgradRefIdeal.Value.run m' g'
    exact (final_2 m c).symm

end Cert.FfnOutWgradIdeal.Value

end
-- ==== Proof.Parts.FfnInDgrad.lean ====
module

public import proofs.«01_k».proof.Proof.Gen.FfnInDgradIdeal.Frame
public import proofs.«01_k».proof.Proof.Gen.FfnInDgradRefIdeal.Run
public import proofs.«01_k».proof.Proof.Gen.FfnInDgradRefIdeal.Read
public import Idealize.ShloMosaic.Lib.Pipeline.ValueKit
public import Idealize.ShloMosaic.Lib.Pointwise

/-! The gradient of the feed-forward's input product for its input. -/

@[expose] public section

set_option maxRecDepth 16384

noncomputable section

open Idealize.ShloMosaic Idealize.ShloMosaic.TcCoe Idealize.SL.Sem
open Idealize.ShloMosaic.Pipeline (Dat)

namespace Cert.FfnInDgradIdeal.Value

open Cert.FfnInDgradIdeal Cert.FfnInDgradIdeal.Gen

variable (m : (ℓ : Loc nD τ sig) → Buf (Elt Ideal) ℓ)

theorem idx_val : ∀ t : Fin cfg0.N, win0_0.index t = ![t.val / 8, min (t.val % 8) 3]
    ∧ win0_1.index t = ![t.val / 8, t.val % 8 - 4]
    ∧ win0_2.index t = ![t.val % 8, 0, 0]
    ∧ win0_3.index t = ![t.val / 8, 0] :=
  (by decide +kernel : ∀ t : Fin grid0.N, _)

abbrev A1 (c : Dev nD) : FVec Ideal S1024x6144 .f32 := m ((c : Thread nD τ).loc main_arg1)
abbrev A2 (c : Dev nD) : FVec Ideal S8192x3072 .f32 := m ((c : Thread nD τ).loc main_arg2)
abbrev A3 (c : Dev nD) : FVec Ideal S8192x3072 .f32 := m ((c : Thread nD τ).loc main_arg3)

/-- The two halves' cotangents side by side. -/
def CAT (c : Dev nD) : FVec Ideal FfnInDgradRefIdeal.S8192x6144 .f32 := FfnInDgradRefIdeal.Read.val_main_v3 (F := Ideal) (A2 m c) (A3 m c)

theorem cat_lo (c : Dev nD) (r : Fin 8192) (q : Fin 6144) (h : q.val < 3072) : CAT m c (ix2 r q) = A2 m c (ix2 r ⟨q.val, h⟩) :=
  concatenate_pair_apply_left (t := FfnInDgradRefIdeal.S8192x6144) (s₁ := S8192x3072) (s₂ := S8192x3072) 1 (A2 m c) (A3 m c) FfnInDgradRefIdeal.Facts₀.concatenates_S8192x3072_S8192x3072_S8192x6144_d1 (ix2 r q) rfl (ix2 r ⟨q.val, h⟩)
    (by intro b; fin_cases b <;> rfl)
theorem cat_hi (c : Dev nD) (r : Fin 8192) (q : Fin 6144) (h : ¬q.val < 3072) : CAT m c (ix2 r q) = A3 m c (ix2 r ⟨q.val - 3072, by omega⟩) :=
  concatenate_pair_apply_right (t := FfnInDgradRefIdeal.S8192x6144) (s₁ := S8192x3072) (s₂ := S8192x3072) 1 (A2 m c) (A3 m c) FfnInDgradRefIdeal.Facts₀.concatenates_S8192x3072_S8192x3072_S8192x6144_d1 (ix2 r q) rfl rfl (ix2 r ⟨q.val - 3072, by omega⟩)
    (by intro b hb; fin_cases b <;> first | rfl | exact absurd rfl hb)
    (show q.val - 3072 + 3072 = q.val by omega)

/-- The row of a block's row and the column of a block's column. -/
abbrev row (t : Fin cfg0.N) (r : Fin 2048) : Fin 8192 := ⟨2048 * (t.val / 8) + r.val, by have : t.val < 32 := t.isLt; omega⟩
abbrev colm (t : Fin cfg0.N) (j : Fin 768) : Fin 6144 := ⟨768 * (t.val % 8) + j.val, by omega⟩
abbrev cblk (t : Fin cfg0.N) : Fin 8 := ⟨t.val % 8, by omega⟩
theorem row_run (t : Fin cfg0.N) (s : Fin 8) (r : Fin 2048) (h : 8 * (t.val / 8) + s.val < cfg0.N) : row ⟨8 * (t.val / 8) + s.val, h⟩ r = row t r := Fin.ext (by dsimp only; omega)
theorem col_run (t : Fin cfg0.N) (s : Fin 8) (k : Fin 768) (h : 8 * (t.val / 8) + s.val < cfg0.N) (hl : s.val * 768 + k.val < 6144) : colm ⟨8 * (t.val / 8) + s.val, h⟩ k = ⟨s.val * 768 + k.val, hl⟩ := Fin.ext (by dsimp only; omega)

variable (c : Dev nD)

/-- The block a point multiplies: the gate half's in the first half of a run, the up half's in the second. -/
def PT (t : Fin cfg0.N) : Vec Ideal S2048x768 .bf16 := if t.val % 8 ≤ 3 then iblk m c 0 t else iblk m c 1 t
theorem pt_lo (t : Fin cfg0.N) (h : t.val % 8 ≤ 3) : PT m c t = iblk m c 0 t := if_pos h
theorem pt_hi (t : Fin cfg0.N) (h : ¬t.val % 8 ≤ 3) : PT m c t = iblk m c 1 t := if_neg h

theorem blk0 (t : Fin cfg0.N) (h : t.val % 8 ≤ 3) (r : Fin 2048) (j : Fin 768) :
    (show FVec Ideal S2048x768 .bf16 from iblk m c 0 t) (ix2 r j) = A2 m c (ix2 (row t r) ⟨768 * (t.val % 8) + j.val, by omega⟩) := by
  have hm : min (t.val % 8) 3 = t.val % 8 := by omega
  blk_point [iblk, V, idx_val t, hm]

theorem blk1 (t : Fin cfg0.N) (h : ¬t.val % 8 ≤ 3) (r : Fin 2048) (j : Fin 768) :
    (show FVec Ideal S2048x768 .bf16 from iblk m c 1 t) (ix2 r j) = A3 m c (ix2 (row t r) ⟨768 * (t.val % 8 - 4) + j.val, by omega⟩) := by
  blk_point [iblk, V, idx_val t]

theorem pt_val (t : Fin cfg0.N) (r : Fin 2048) (j : Fin 768) :
    PT m c t (ix2 r j) = CAT m c (ix2 (row t r) (colm t j)) := by
  by_cases h : t.val % 8 ≤ 3
  · rw [pt_lo m c t h, cat_lo m c (row t r) (colm t j) (show 768 * (t.val % 8) + j.val < 3072 by omega)]; exact blk0 m c t h r j
  · rw [pt_hi m c t h, cat_hi m c (row t r) (colm t j) (show ¬768 * (t.val % 8) + j.val < 3072 by omega)]
    refine (blk1 m c t h r j).trans (congrArg (A3 m c) (congrArg (ix2 (row t r)) (Fin.ext ?_)))
    dsimp only; omega

theorem blk2 (t : Fin cfg0.N) (k : Fin 1024) (j : Fin 768) :
    (show FVec Ideal S1x1024x768 .bf16 from iblk m c 2 t) (ix3 0 k j) = A1 m c (ix2 k (colm t j)) := by
  refine (congrArg (V m c (Pipeline.arrRef spec0 2)) (show ((cfg0.win 2).blk t).view.emb (ix3 0 k j) = ix3 (cblk t) k j by blk_ext [idx_val t])).trans ?_
  entry_read; pointwise
  refine congrArg (A1 m c) (congrArg (ix2 k) (Fin.ext ?_))
  dsimp only; omega

theorem hzero (j : S2048x1024.Idx) : k0_pay1 (F := Ideal) j = 0 := by pointwise! [k0_pay1]
theorem hpay (a : Vec Ideal S2048x1024 .f32) (x0 : Vec Ideal S2048x768 .bf16) (x1 : Vec Ideal S1x1024x768 .bf16) (j : S2048x1024.Idx) :
    k0_pay2 a x0 x1 j = a j + k0_pay2 (fun _ => 0) x0 x1 j := by pointwise [k0_pay2]
theorem hpay' (a : Vec Ideal S2048x1024 .f32) (x0 : Vec Ideal S2048x768 .bf16) (x1 : Vec Ideal S1x1024x768 .bf16) (j : S2048x1024.Idx) :
    k0_pay3 a x0 x1 j = a j + k0_pay2 (fun _ => 0) x0 x1 j := hpay a x0 x1 j

/-- The last point of a run stores what the run accumulated. -/
theorem stored (t : Fin cfg0.N) (h : t.val % 8 = 7) :
    (outsAt0 m c t.val t.isLt).1 = (outsAt0 m c t.val t.isLt).2 := by
  rw [outsAt0_D m c t (by omega) (by omega) (by omega) h]; frame_out

theorem total (t : Fin cfg0.N) (h : t.val % 8 = 7) (j : S2048x1024.Idx) :
    (outsAt0 m c t.val t.isLt).2 j = ∑ s : Fin 8, k0_pay2 (fun _ => 0) (PT m c ⟨8 * (t.val / 8) + s.val, by have := t.isLt; omega⟩) (iblk m c 2 ⟨8 * (t.val / 8) + s.val, by have := t.isLt; omega⟩) j := by
  rw [Pipeline.eq_sum_fin_of_reset_step_apply_of_flush (fun n h => (outsAt0 m c n h).2) 8 (fun _ => 0)
    (fun t j => k0_pay2 (fun _ => 0) (PT m c t) (iblk m c 2 t) j)
    (fun t h j => by rw [outsAt0_A m c t h (by omega) (by omega) (by omega), pt_lo m c t (by omega)]; frame_out; rw [hpay, hzero])
    (fun t h j => by
      by_cases h1 : t.val % 8 = 7
      · rw [outsAt0_D m c t h (by omega) (by omega) h1, pt_hi m c t (by omega)]; frame_out; rw [hpay']
        exact congrArg (· + _) (congrFun ((Memref.isWhole_whole cc0_scratch0).read_unread _) j)
      by_cases h2 : t.val % 8 ≤ 3
      · rw [outsAt0_B m c t h h2 (by omega) h1, pt_lo m c t h2]; frame_out; rw [hpay]
        exact congrArg (· + _) (congrFun ((Memref.isWhole_whole cc0_scratch0).read_unread _) j)
      · rw [outsAt0_C m c t h h2 (by omega) h1, pt_hi m c t h2]; frame_out; rw [hpay']
        exact congrArg (· + _) (congrFun ((Memref.isWhole_whole cc0_scratch0).read_unread _) j))
    t h j, zero_add]

/-- The reference's result. -/
def RES_3 : FVec Ideal S8192x1024 .f32 :=
  Host.dotGeneral FfnInDgradRefIdeal.dot_S8192x6144_S1024x6144_S8192x1024_1_1_0_0_n_n none (CAT m c) (A1 m c)

set_option maxHeartbeats 1600000 in
theorem final_3 : (dats m 0 c).arrAt 3 (cfgs 0).N = RES_3 m c := by
  refine (dats m 0 c).arrAt_eq_of_covers 3 _ (by decide +kernel) fun t hf y => ?_
  blk_simp; rw [after0_3, stored m c t ((flush0_3 t).mp hf), total m c t ((flush0_3 t).mp hf)]
  idx_vars y
  rw [show ((cfg0.win 3).blk t).view.emb (ix2 y0 y1) = ix2 (row t y0) y1 by blk_ext [idx_val t]]
  unfold RES_3
  open_payloads
  pointwise [pt_val m c _, blk2 m c _]
  refine Fin.sum_mul_add_congr fun s k hl => ?_
  have hn : 8 * (t.val / 8) + s.val < cfg0.N := (by have : t.val < 32 := t.isLt; omega : _ < 32)
  refine congrArg₂ (· * ·) ((pt_val m c ⟨8 * (t.val / 8) + s.val, hn⟩ y0 k).trans ?_) ?_
  · rw [row_run, col_run t s k _ hl]
  · rw [col_run t s k _ hl]

end Cert.FfnInDgradIdeal.Value

end
-- ==== Proof.Parts.FfnInDgradClaim.lean ====
module

public import proofs.«01_k».proof.Defs
public import proofs.«01_k».proof.Proof.Gen.FfnInDgrad.Frame
public import proofs.«01_k».proof.Proof.Parts.FfnInDgrad
public import Idealize.ShloMosaic.Lib.Claim

/-! The claims about the gradient of the feed-forward's input product for its input. -/

@[expose] public section

set_option maxRecDepth 16384

noncomputable section

open Idealize.ShloMosaic Idealize.ShloMosaic.TcCoe Idealize.SL.Sem

namespace Cert.FfnInDgradIdeal.Value

theorem frame_ref : Cert.quiescent_FfnInDgradRefIdeal := by
  intro m g _
  exact (θ_run Cert.FfnInDgradRefIdeal.defs _ _).mono
    (fun r h => ⟨fun c => (h c).2, Idealize.ShloMosaic.sem_eq_zero_of_no_sems (by decide) r.2⟩)
    (Cert.FfnInDgradRefIdeal.Value.run (F := Ideal) m g)

theorem algebraic : Cert.algebraic_FfnInDgradIdeal_FfnInDgradRefIdeal := by
  pair_intro
  · run_from Cert.FfnInDgradIdeal.Gen.run_main m g
  · run_from Cert.FfnInDgradRefIdeal.Value.run m' g'
    obtain ⟨-, -, h2, h3⟩ := hagree c
    refine Eq.trans ?_ ((congrArg₂ (FfnInDgradRefIdeal.Read.val_main_v4 (F := Ideal) (m ((c : Thread nD τ).loc main_arg1))) h2 h3).trans (final_3 m c).symm)
    rfl

end Cert.FfnInDgradIdeal.Value

end
-- ==== Proof.Parts.FfnInWgrad.lean ====
module

public import proofs.«01_k».proof.Proof.Gen.FfnInWgradIdeal.Frame
public import proofs.«01_k».proof.Proof.Gen.FfnInWgradRefIdeal.Run
public import proofs.«01_k».proof.Proof.Gen.FfnInWgradRefIdeal.Read
public import Idealize.ShloMosaic.Lib.Pipeline.ValueKit
public import Idealize.ShloMosaic.Lib.Pointwise

/-! The gradient of the feed-forward's input product for its weights. -/

@[expose] public section

set_option maxRecDepth 16384

noncomputable section

open Idealize.ShloMosaic Idealize.ShloMosaic.TcCoe Idealize.SL.Sem
open Idealize.ShloMosaic.Pipeline (Dat)

namespace Cert.FfnInWgradIdeal.Value

open Cert.FfnInWgradIdeal Cert.FfnInWgradIdeal.Gen

variable (m : (ℓ : Loc nD τ sig) → Buf (Elt Ideal) ℓ)

theorem idx_val : ∀ t : Fin cfg0.N, win0_0.index t = ![t.val % 4, 0]
    ∧ win0_1.index t = ![if t.val < 16 then t.val % 4 else 0, min (t.val / 4) 3]
    ∧ win0_2.index t = ![if t.val < 16 then 0 else t.val % 4, t.val / 4 - 4]
    ∧ win0_3.index t = ![t.val / 4, 0, 0] :=
  (by decide +kernel : ∀ t : Fin grid0.N, _)

abbrev A0 (c : Dev nD) : FVec Ideal S8192x1024 .f32 := m ((c : Thread nD τ).loc main_arg0)
abbrev A2 (c : Dev nD) : FVec Ideal S8192x3072 .f32 := m ((c : Thread nD τ).loc main_arg2)
abbrev A3 (c : Dev nD) : FVec Ideal S8192x3072 .f32 := m ((c : Thread nD τ).loc main_arg3)

/-- The two halves' cotangents side by side. -/
def CAT (c : Dev nD) : FVec Ideal FfnInWgradRefIdeal.S8192x6144 .f32 := FfnInWgradRefIdeal.Read.val_main_v3 (F := Ideal) (A2 m c) (A3 m c)

theorem cat_lo (c : Dev nD) (r : Fin 8192) (q : Fin 6144) (h : q.val < 3072) : CAT m c (ix2 r q) = A2 m c (ix2 r ⟨q.val, h⟩) :=
  concatenate_pair_apply_left (t := FfnInWgradRefIdeal.S8192x6144) (s₁ := S8192x3072) (s₂ := S8192x3072) 1 (A2 m c) (A3 m c) FfnInWgradRefIdeal.Facts₀.concatenates_S8192x3072_S8192x3072_S8192x6144_d1 (ix2 r q) rfl (ix2 r ⟨q.val, h⟩)
    (by intro b; fin_cases b <;> rfl)
theorem cat_hi (c : Dev nD) (r : Fin 8192) (q : Fin 6144) (h : ¬q.val < 3072) : CAT m c (ix2 r q) = A3 m c (ix2 r ⟨q.val - 3072, by omega⟩) :=
  concatenate_pair_apply_right (t := FfnInWgradRefIdeal.S8192x6144) (s₁ := S8192x3072) (s₂ := S8192x3072) 1 (A2 m c) (A3 m c) FfnInWgradRefIdeal.Facts₀.concatenates_S8192x3072_S8192x3072_S8192x6144_d1 (ix2 r q) rfl rfl (ix2 r ⟨q.val - 3072, by omega⟩)
    (by intro b hb; fin_cases b <;> first | rfl | exact absurd rfl hb)
    (show q.val - 3072 + 3072 = q.val by omega)

/-- The row of a block's row, the column of a block's column and the block of columns. -/
abbrev row (t : Fin cfg0.N) (r : Fin 2048) : Fin 8192 := ⟨2048 * (t.val % 4) + r.val, by omega⟩
abbrev colm (t : Fin cfg0.N) (j : Fin 768) : Fin 6144 := ⟨768 * (t.val / 4) + j.val, by have : t.val < 32 := t.isLt; omega⟩
abbrev cblk (t : Fin cfg0.N) : Fin 8 := ⟨t.val / 4, by have : t.val < 32 := t.isLt; omega⟩
theorem row_run (t : Fin cfg0.N) (s : Fin 4) (k : Fin 2048) (h : 4 * (t.val / 4) + s.val < cfg0.N) (hl : s.val * 2048 + k.val < 8192) : row ⟨4 * (t.val / 4) + s.val, h⟩ k = ⟨s.val * 2048 + k.val, hl⟩ := Fin.ext (by dsimp only; omega)
theorem col_run (t : Fin cfg0.N) (s : Fin 4) (j : Fin 768) (h : 4 * (t.val / 4) + s.val < cfg0.N) : colm ⟨4 * (t.val / 4) + s.val, h⟩ j = colm t j := Fin.ext (by dsimp only; omega)
theorem colm_eq (t : Fin cfg0.N) (j : Fin 768) : colm t j = ⟨t.val / 4 * 768 + j.val, by have : t.val < 32 := t.isLt; omega⟩ := Fin.ext (by dsimp only; omega)

variable (c : Dev nD)

/-- The block a point multiplies: the gate half's for the first four blocks of columns, the up half's for the others. -/
def PT (t : Fin cfg0.N) : Vec Ideal S2048x768 .bf16 := if t.val < 16 then iblk m c 1 t else iblk m c 2 t
theorem pt_lo (t : Fin cfg0.N) (h : t.val < 16) : PT m c t = iblk m c 1 t := if_pos h
theorem pt_hi (t : Fin cfg0.N) (h : ¬t.val < 16) : PT m c t = iblk m c 2 t := if_neg h

theorem blk0 (t : Fin cfg0.N) (r : Fin 2048) (j : Fin 1024) :
    (show FVec Ideal S2048x1024 .bf16 from iblk m c 0 t) (ix2 r j) = A0 m c (ix2 (row t r) j) := by
  blk_point [iblk, V, idx_val t]

theorem blk1 (t : Fin cfg0.N) (h : t.val < 16) (r : Fin 2048) (j : Fin 768) :
    (show FVec Ideal S2048x768 .bf16 from iblk m c 1 t) (ix2 r j) = A2 m c (ix2 (row t r) ⟨768 * (t.val / 4) + j.val, by omega⟩) := by
  have hm : min (t.val / 4) 3 = t.val / 4 := by omega
  blk_point [iblk, V, idx_val t, hm, if_pos h]

theorem blk2 (t : Fin cfg0.N) (h : ¬t.val < 16) (r : Fin 2048) (j : Fin 768) :
    (show FVec Ideal S2048x768 .bf16 from iblk m c 2 t) (ix2 r j) = A3 m c (ix2 (row t r) ⟨768 * (t.val / 4 - 4) + j.val, by have : t.val < 32 := t.isLt; omega⟩) := by
  blk_point [iblk, V, idx_val t, if_neg h]

theorem pt_val (t : Fin cfg0.N) (r : Fin 2048) (j : Fin 768) :
    PT m c t (ix2 r j) = CAT m c (ix2 (row t r) (colm t j)) := by
  by_cases h : t.val < 16
  · rw [pt_lo m c t h, cat_lo m c (row t r) (colm t j) (show 768 * (t.val / 4) + j.val < 3072 by omega)]; exact blk1 m c t h r j
  · rw [pt_hi m c t h, cat_hi m c (row t r) (colm t j) (show ¬768 * (t.val / 4) + j.val < 3072 by omega)]
    refine (blk2 m c t h r j).trans (congrArg (A3 m c) (congrArg (ix2 (row t r)) (Fin.ext ?_)))
    dsimp only; omega

theorem hzero (j : S768x1024.Idx) : k0_pay1 (F := Ideal) j = 0 := by pointwise! [k0_pay1]
theorem hpay (a : Vec Ideal S768x1024 .f32) (x0 : Vec Ideal S2048x768 .bf16) (x1 : Vec Ideal S2048x1024 .bf16) (j : S768x1024.Idx) :
    k0_pay2 a x0 x1 j = a j + k0_pay2 (fun _ => 0) x0 x1 j := by pointwise [k0_pay2]
theorem hpay' (a : Vec Ideal S768x1024 .f32) (x0 : Vec Ideal S2048x768 .bf16) (x1 : Vec Ideal S2048x1024 .bf16) (j : S768x1024.Idx) :
    k0_pay3 a x0 x1 j = a j + k0_pay2 (fun _ => 0) x0 x1 j := hpay a x0 x1 j

/-- The last point of a run stores what the run accumulated. -/
theorem stored (t : Fin cfg0.N) (h : t.val % 4 = 3) :
    (outsAt0 m c t.val t.isLt).1 = k0_pay4 (outsAt0 m c t.val t.isLt).2 := by
  by_cases h1 : t.val < 16
  · rw [outsAt0_C m c t (by omega) h1 (by omega) h]; frame_out
  · rw [outsAt0_F m c t (by omega) h1 (by omega) h]; frame_out

theorem total (t : Fin cfg0.N) (h : t.val % 4 = 3) (j : S768x1024.Idx) :
    (outsAt0 m c t.val t.isLt).2 j = ∑ s : Fin 4, k0_pay2 (fun _ => 0) (PT m c ⟨4 * (t.val / 4) + s.val, by have := t.isLt; omega⟩) (iblk m c 0 ⟨4 * (t.val / 4) + s.val, by have := t.isLt; omega⟩) j := by
  rw [Pipeline.eq_sum_fin_of_reset_step_apply_of_flush (fun n h => (outsAt0 m c n h).2) 4 (fun _ => 0)
    (fun t j => k0_pay2 (fun _ => 0) (PT m c t) (iblk m c 0 t) j)
    (fun t h j => by
      by_cases h2 : t.val < 16
      · rw [outsAt0_A m c t h h2 (by omega) (by omega), pt_lo m c t h2]; frame_out; rw [hpay, hzero]
      · rw [outsAt0_D m c t h h2 (by omega) (by omega), pt_hi m c t h2]; frame_out; rw [hpay', hzero])
    (fun t h j => by
      by_cases h1 : t.val % 4 = 3 <;> by_cases h2 : t.val < 16
      · rw [outsAt0_C m c t h h2 (by omega) h1, pt_lo m c t h2]; frame_out; rw [hpay]
        exact congrArg (· + _) (congrFun ((Memref.isWhole_whole cc0_scratch0).read_unread _) j)
      · rw [outsAt0_F m c t h h2 (by omega) h1, pt_hi m c t h2]; frame_out; rw [hpay']
        exact congrArg (· + _) (congrFun ((Memref.isWhole_whole cc0_scratch0).read_unread _) j)
      · rw [outsAt0_B m c t h h2 (by omega) h1, pt_lo m c t h2]; frame_out; rw [hpay]
        exact congrArg (· + _) (congrFun ((Memref.isWhole_whole cc0_scratch0).read_unread _) j)
      · rw [outsAt0_E m c t h h2 (by omega) h1, pt_hi m c t h2]; frame_out; rw [hpay']
        exact congrArg (· + _) (congrFun ((Memref.isWhole_whole cc0_scratch0).read_unread _) j))
    t h j, zero_add]

theorem stored_at (t : Fin cfg0.N) (h : t.val % 4 = 3) (k : Fin 768) (j : Fin 1024) :
    (outsAt0 m c t.val t.isLt).1 (ix3 0 k j) = (outsAt0 m c t.val t.isLt).2 (ix2 k j) := by
  rw [stored m c t h]; pointwise [k0_pay4]

/-- The reference's result. -/
def RES_3 : FVec Ideal S8x768x1024 .bf16 :=
  truncf .bf16 (transpose FfnInWgradRefIdeal.S8x768x1024 [1, 2, 0] (shapeCast _ (transpose FfnInWgradRefIdeal.S1024x6144 [1, 0] (Host.dotGeneral (FfnInWgradRefIdeal.dot_S8192x6144_S8192x1024_S6144x1024_0_0_1_1_n_n) none (CAT m c) (A0 m c) : FVec Ideal FfnInWgradRefIdeal.S6144x1024 .f32) FfnInWgradRefIdeal.Facts₀.transposes_S6144x1024_S1024x6144_1_0) FfnInWgradRefIdeal.Facts₀.shapeCasts_S1024x6144_S1024x8x768) FfnInWgradRefIdeal.Facts₀.transposes_S1024x8x768_S8x768x1024_1_2_0) FfnInWgradRefIdeal.Facts₀.bitsLt_bf16_f32

set_option maxHeartbeats 1600000 in
theorem final_3 : (dats m 0 c).arrAt 3 (cfgs 0).N = RES_3 m c := by
  refine (dats m 0 c).arrAt_eq_of_covers 3 _ (by decide +kernel) fun t hf y => ?_
  blk_simp; rw [after0_3]
  idx_vars y
  obtain rfl : y0 = 0 := Subsingleton.elim _ _
  rw [stored_at m c t ((flush0_3 t).mp hf), total m c t ((flush0_3 t).mp hf)]
  rw [show ((cfg0.win 3).blk t).view.emb (ix3 0 y1 y2) = ix3 (cblk t) y1 y2 by blk_ext [idx_val t]]
  unfold RES_3
  open_payloads
  pointwise [blk0 m c _, pt_val m c _]
  refine Fin.sum_mul_add_congr fun s k hl => ?_
  have hn : 4 * (t.val / 4) + s.val < cfg0.N := (by have : t.val < 32 := t.isLt; omega : _ < 32)
  refine congrArg₂ (· * ·) ((pt_val m c ⟨4 * (t.val / 4) + s.val, hn⟩ k y1).trans ?_) ?_
  · rw [row_run t s k _ hl, col_run, colm_eq]
  · rw [row_run t s k _ hl]

end Cert.FfnInWgradIdeal.Value

end
-- ==== Proof.Parts.FfnInWgradClaim.lean ====
module

public import proofs.«01_k».proof.Defs
public import proofs.«01_k».proof.Proof.Gen.FfnInWgrad.Frame
public import proofs.«01_k».proof.Proof.Parts.FfnInWgrad
public import Idealize.ShloMosaic.Lib.Claim

/-! The claims about the gradient of the feed-forward's input product for its weights. -/

@[expose] public section

set_option maxRecDepth 16384

noncomputable section

open Idealize.ShloMosaic Idealize.ShloMosaic.TcCoe Idealize.SL.Sem

namespace Cert.FfnInWgradIdeal.Value

theorem frame_ref : Cert.quiescent_FfnInWgradRefIdeal := by
  intro m g _
  exact (θ_run Cert.FfnInWgradRefIdeal.defs _ _).mono
    (fun r h => ⟨fun c => (h c).2, Idealize.ShloMosaic.sem_eq_zero_of_no_sems (by decide) r.2⟩)
    (Cert.FfnInWgradRefIdeal.Value.run (F := Ideal) m g)

theorem algebraic : Cert.algebraic_FfnInWgradIdeal_FfnInWgradRefIdeal := by
  pair_intro
  · run_from Cert.FfnInWgradIdeal.Gen.run_main m g
  · run_from Cert.FfnInWgradRefIdeal.Value.run m' g'
    obtain ⟨-, -, h2, h3⟩ := hagree c
    refine Eq.trans ?_ ((congrArg₂ (FfnInWgradRefIdeal.Read.val_main_v8 (F := Ideal) (m ((c : Thread nD τ).loc main_arg0))) h2 h3).trans (final_3 m c).symm)
    rfl

end Cert.FfnInWgradIdeal.Value

end
-- ==== Proof.lean ====
/- The certificate: each call's frames and value claim, from its own modules. -/
module

public import proofs.«01_k».proof.Defs
public import proofs.«01_k».proof.Proof.Parts.AdaClaim
public import proofs.«01_k».proof.Proof.Parts.MergeClaim
public import proofs.«01_k».proof.Proof.Parts.FfnOutClaim
public import proofs.«01_k».proof.Proof.Parts.NormClaim
public import proofs.«01_k».proof.Proof.Parts.NormUngatedClaim
public import proofs.«01_k».proof.Proof.Parts.LossClaim
public import proofs.«01_k».proof.Proof.Parts.SbClaim
public import proofs.«01_k».proof.Proof.Parts.GmlpClaim
public import proofs.«01_k».proof.Proof.Parts.PoolClaim
public import proofs.«01_k».proof.Proof.Parts.SbFwdClaim
public import proofs.«01_k».proof.Proof.Parts.AdaFwdClaim
public import proofs.«01_k».proof.Proof.Parts.NormFwdClaim
public import proofs.«01_k».proof.Proof.Parts.MergeFwdClaim
public import proofs.«01_k».proof.Proof.Parts.GmlpFwdClaim
public import proofs.«01_k».proof.Proof.Parts.OutFwdClaim
public import proofs.«01_k».proof.Proof.Parts.FfnInClaim
public import proofs.«01_k».proof.Proof.Parts.PoolFwdClaim
public import proofs.«01_k».proof.Proof.Parts.OutDgradClaim
public import proofs.«01_k».proof.Proof.Parts.ProjFwdClaim
public import proofs.«01_k».proof.Proof.Parts.ProjDgradClaim
public import proofs.«01_k».proof.Proof.Parts.ProjWgradClaim
public import proofs.«01_k».proof.Proof.Parts.FfnOutWgradClaim
public import proofs.«01_k».proof.Proof.Parts.FfnInDgradClaim
public import proofs.«01_k».proof.Proof.Parts.FfnInWgradClaim
public import proofs.«01_k».proof.Proof.Gen.Pre_finite_ffn
public import proofs.«01_k».proof.Proof.Gen.Pre_finite_norm
public import proofs.«01_k».proof.Proof.Gen.Pre_finite_norm_ungated
public import proofs.«01_k».proof.Proof.Gen.Pre_finite_loss
public import proofs.«01_k».proof.Proof.Gen.Pre_finite_sb
public import proofs.«01_k».proof.Proof.Gen.Pre_finite_gmlp
public import proofs.«01_k».proof.Proof.Gen.Pre_finite_sbf
public import proofs.«01_k».proof.Proof.Gen.On_written_merge
public import Idealize.ShloMosaic.Adequacy
public import Idealize.ShloMosaic.Init

@[expose] public section

noncomputable section

namespace Cert.Proof

open Idealize.ShloMosaic Idealize.SL.Sem

theorem claim : Cert.Claim :=
  ⟨Cert.Ada.Gen.facts, Cert.AdaIdeal.Gen.facts, Cert.AdaRefIdeal.Gen.facts, Cert.Merge.Gen.facts, Cert.MergeIdeal.Gen.facts, Cert.MergeRefIdeal.Gen.facts, Cert.FfnOut.Gen.facts, Cert.FfnOutIdeal.Gen.facts, Cert.FfnOutRefIdeal.Gen.facts, Cert.Norm.Gen.facts, Cert.NormIdeal.Gen.facts, Cert.NormRefIdeal.Gen.facts, Cert.NormUngated.Gen.facts, Cert.NormUngatedIdeal.Gen.facts, Cert.NormUngatedRefIdeal.Gen.facts, Cert.Loss.Gen.facts, Cert.LossIdeal.Gen.facts, Cert.LossRefIdeal.Gen.facts, Cert.Sb.Gen.facts, Cert.SbIdeal.Gen.facts, Cert.SbRefIdeal.Gen.facts, Cert.Gmlp.Gen.facts, Cert.GmlpIdeal.Gen.facts, Cert.GmlpRefIdeal.Gen.facts, Cert.Pool.Gen.facts, Cert.PoolIdeal.Gen.facts, Cert.PoolRefIdeal.Gen.facts, Cert.SbFwd.Gen.facts, Cert.SbFwdIdeal.Gen.facts, Cert.SbFwdRefIdeal.Gen.facts, Cert.AdaFwd.Gen.facts, Cert.AdaFwdIdeal.Gen.facts, Cert.AdaFwdRefIdeal.Gen.facts, Cert.NormFwd.Gen.facts, Cert.NormFwdIdeal.Gen.facts, Cert.NormFwdRefIdeal.Gen.facts, Cert.MergeFwd.Gen.facts, Cert.MergeFwdIdeal.Gen.facts, Cert.MergeFwdRefIdeal.Gen.facts, Cert.GmlpFwd.Gen.facts, Cert.GmlpFwdIdeal.Gen.facts, Cert.GmlpFwdRefIdeal.Gen.facts, Cert.OutFwd.Gen.facts, Cert.OutFwdIdeal.Gen.facts, Cert.OutFwdRefIdeal.Gen.facts, Cert.FfnIn.Gen.facts, Cert.FfnInIdeal.Gen.facts, Cert.FfnInRefIdeal.Gen.facts, Cert.PoolFwd.Gen.facts, Cert.PoolFwdIdeal.Gen.facts, Cert.PoolFwdRefIdeal.Gen.facts, Cert.OutDgrad.Gen.facts, Cert.OutDgradIdeal.Gen.facts, Cert.OutDgradRefIdeal.Gen.facts, Cert.ProjFwd.Gen.facts, Cert.ProjFwdIdeal.Gen.facts, Cert.ProjFwdRefIdeal.Gen.facts, Cert.ProjDgrad.Gen.facts, Cert.ProjDgradIdeal.Gen.facts, Cert.ProjDgradRefIdeal.Gen.facts, Cert.ProjWgrad.Gen.facts, Cert.ProjWgradIdeal.Gen.facts, Cert.ProjWgradRefIdeal.Gen.facts, Cert.FfnOutWgrad.Gen.facts, Cert.FfnOutWgradIdeal.Gen.facts, Cert.FfnOutWgradRefIdeal.Gen.facts, Cert.FfnInDgrad.Gen.facts, Cert.FfnInDgradIdeal.Gen.facts, Cert.FfnInDgradRefIdeal.Gen.facts, Cert.FfnInWgrad.Gen.facts, Cert.FfnInWgradIdeal.Gen.facts, Cert.FfnInWgradRefIdeal.Gen.facts, Cert.Pre_finite_ffn.Gen.facts, Cert.Pre_finite_norm.Gen.facts, Cert.Pre_finite_norm_ungated.Gen.facts, Cert.Pre_finite_loss.Gen.facts, Cert.Pre_finite_sb.Gen.facts, Cert.Pre_finite_gmlp.Gen.facts, Cert.Pre_finite_sbf.Gen.facts, Cert.On_written_merge.Gen.facts,
    fun m ρ _ => Cert.Ada.Gen.frame m ρ,
    fun m ρ _ => Cert.AdaIdeal.Gen.frame m ρ,
    Cert.AdaIdeal.Value.frame_ref,
    fun m ρ _ => Cert.Merge.Gen.frame m ρ,
    fun m ρ _ => Cert.MergeIdeal.Gen.frame m ρ,
    Cert.MergeIdeal.Value.frame_ref,
    fun m ρ _ => Cert.FfnOut.Gen.frame m ρ,
    fun m ρ _ => Cert.FfnOutIdeal.Gen.frame m ρ,
    fun m ρ _ => Cert.FfnOutIdeal.Gen.frame m ρ,
    Cert.FfnOutIdeal.Value.frame_ref,
    fun m ρ _ => Cert.FfnOutIdeal.Value.frame_ref m ρ trivial,
    fun m ρ _ => Cert.Norm.Gen.frame m ρ,
    fun m ρ _ => Cert.NormIdeal.Gen.frame m ρ,
    fun m ρ _ => Cert.NormIdeal.Gen.frame m ρ,
    Cert.NormIdeal.Value.frame_ref,
    fun m ρ _ => Cert.NormIdeal.Value.frame_ref m ρ trivial,
    fun m ρ _ => Cert.NormUngated.Gen.frame m ρ,
    fun m ρ _ => Cert.NormUngatedIdeal.Gen.frame m ρ,
    fun m ρ _ => Cert.NormUngatedIdeal.Gen.frame m ρ,
    Cert.NormUngatedIdeal.Value.frame_ref,
    fun m ρ _ => Cert.NormUngatedIdeal.Value.frame_ref m ρ trivial,
    fun m ρ _ => Cert.Loss.Gen.frame m ρ,
    fun m ρ _ => Cert.LossIdeal.Gen.frame m ρ,
    fun m ρ _ => Cert.LossIdeal.Gen.frame m ρ,
    Cert.LossIdeal.Value.frame_ref,
    fun m ρ _ => Cert.LossIdeal.Value.frame_ref m ρ trivial,
    fun m ρ _ => Cert.Sb.Gen.frame m ρ,
    fun m ρ _ => Cert.SbIdeal.Gen.frame m ρ,
    fun m ρ _ => Cert.SbIdeal.Gen.frame m ρ,
    Cert.SbIdeal.Value.frame_ref,
    fun m ρ _ => Cert.SbIdeal.Value.frame_ref m ρ trivial,
    fun m ρ _ => Cert.Gmlp.Gen.frame m ρ,
    fun m ρ _ => Cert.GmlpIdeal.Gen.frame m ρ,
    fun m ρ _ => Cert.GmlpIdeal.Gen.frame m ρ,
    Cert.GmlpIdeal.Value.frame_ref,
    fun m ρ _ => Cert.GmlpIdeal.Value.frame_ref m ρ trivial,
    fun m ρ _ => Cert.Pool.Open.frame m ρ,
    fun m ρ _ => Cert.PoolIdeal.Open.frame m ρ,
    Cert.PoolIdeal.Value.frame_ref,
    fun m ρ _ => Cert.SbFwd.Gen.frame m ρ,
    fun m ρ _ => Cert.SbFwdIdeal.Gen.frame m ρ,
    fun m ρ _ => Cert.SbFwdIdeal.Gen.frame m ρ,
    Cert.SbFwdIdeal.Value.frame_ref,
    fun m ρ _ => Cert.SbFwdIdeal.Value.frame_ref m ρ trivial,
    fun m ρ _ => Cert.AdaFwd.Gen.frame m ρ,
    fun m ρ _ => Cert.AdaFwdIdeal.Gen.frame m ρ,
    Cert.AdaFwdIdeal.Value.frame_ref,
    fun m ρ _ => Cert.NormFwd.Gen.frame m ρ,
    fun m ρ _ => Cert.NormFwdIdeal.Gen.frame m ρ,
    Cert.NormFwdIdeal.Value.frame_ref,
    fun m ρ _ => Cert.MergeFwd.Gen.frame m ρ,
    fun m ρ _ => Cert.MergeFwdIdeal.Gen.frame m ρ,
    Cert.MergeFwdIdeal.Value.frame_ref,
    fun m ρ _ => Cert.GmlpFwd.Gen.frame m ρ,
    fun m ρ _ => Cert.GmlpFwdIdeal.Gen.frame m ρ,
    Cert.GmlpFwdIdeal.Value.frame_ref,
    fun m ρ _ => Cert.OutFwd.Gen.frame m ρ,
    fun m ρ _ => Cert.OutFwdIdeal.Gen.frame m ρ,
    Cert.OutFwdIdeal.Value.frame_ref,
    fun m ρ _ => Cert.FfnIn.Gen.frame m ρ,
    fun m ρ _ => Cert.FfnInIdeal.Gen.frame m ρ,
    Cert.FfnInIdeal.Value.frame_ref,
    fun m ρ _ => Cert.PoolFwd.Gen.frame m ρ,
    fun m ρ _ => Cert.PoolFwdIdeal.Gen.frame m ρ,
    Cert.PoolFwdIdeal.Value.frame_ref,
    fun m ρ _ => Cert.OutDgrad.Gen.frame m ρ,
    fun m ρ _ => Cert.OutDgradIdeal.Gen.frame m ρ,
    Cert.OutDgradIdeal.Value.frame_ref,
    fun m ρ _ => Cert.ProjFwd.Gen.frame m ρ,
    fun m ρ _ => Cert.ProjFwdIdeal.Gen.frame m ρ,
    Cert.ProjFwdIdeal.Value.frame_ref,
    fun m ρ _ => Cert.ProjDgrad.Gen.frame m ρ,
    fun m ρ _ => Cert.ProjDgradIdeal.Gen.frame m ρ,
    Cert.ProjDgradIdeal.Value.frame_ref,
    fun m ρ _ => Cert.ProjWgrad.Gen.frame m ρ,
    fun m ρ _ => Cert.ProjWgradIdeal.Gen.frame m ρ,
    Cert.ProjWgradIdeal.Value.frame_ref,
    fun m ρ _ => Cert.FfnOutWgrad.Gen.frame m ρ,
    fun m ρ _ => Cert.FfnOutWgradIdeal.Gen.frame m ρ,
    Cert.FfnOutWgradIdeal.Value.frame_ref,
    fun m ρ _ => Cert.FfnInDgrad.Gen.frame m ρ,
    fun m ρ _ => Cert.FfnInDgradIdeal.Gen.frame m ρ,
    Cert.FfnInDgradIdeal.Value.frame_ref,
    fun m ρ _ => Cert.FfnInWgrad.Gen.frame m ρ,
    fun m ρ _ => Cert.FfnInWgradIdeal.Gen.frame m ρ,
    Cert.FfnInWgradIdeal.Value.frame_ref,
    trivial,
    Cert.AdaIdeal.Value.algebraic,
    trivial,
    Cert.MergeIdeal.Value.algebraic,
    trivial,
    Cert.FfnOutIdeal.Value.algebraic,
    trivial,
    Cert.NormIdeal.Value.algebraic,
    trivial,
    Cert.NormUngatedIdeal.Value.algebraic,
    trivial,
    Cert.LossIdeal.Value.algebraic,
    IdealRules.named_const.statement Cert.SbIdeal.κ "sb_exit" .f32 0xC2DC0000#32 ⊥ rfl,
    Cert.SbIdeal.Value.algebraic,
    ⟨IdealRules.named_const.statement Cert.GmlpIdeal.κ "cubic" .f32 0x3D372713#32 ((8943 / 200000 : ℝ) : EReal) rfl, IdealRules.named_const.statement Cert.GmlpIdeal.κ "cubic3" .f32 0x3E095D4F#32 ((26829 / 200000 : ℝ) : EReal) rfl⟩,
    Cert.GmlpIdeal.Value.algebraic,
    trivial,
    IdealRules.named_const.statement Cert.SbFwdIdeal.κ "sb_exit" .f32 0xC2DC0000#32 ⊥ rfl,
    Cert.SbFwdIdeal.Value.algebraic,
    trivial,
    Cert.AdaFwdIdeal.Value.algebraic,
    trivial,
    Cert.NormFwdIdeal.Value.algebraic,
    trivial,
    Cert.MergeFwdIdeal.Value.algebraic,
    trivial,
    Cert.GmlpFwdIdeal.Value.algebraic,
    trivial,
    Cert.OutFwdIdeal.Value.algebraic,
    trivial,
    Cert.FfnInIdeal.Value.algebraic,
    trivial,
    trivial,
    Cert.OutDgradIdeal.Value.algebraic,
    trivial,
    Cert.ProjFwdIdeal.Value.algebraic,
    trivial,
    Cert.ProjDgradIdeal.Value.algebraic,
    trivial,
    Cert.ProjWgradIdeal.Value.algebraic,
    trivial,
    Cert.FfnOutWgradIdeal.Value.algebraic,
    trivial,
    Cert.FfnInDgradIdeal.Value.algebraic,
    trivial,
    Cert.FfnInWgradIdeal.Value.algebraic⟩

end Cert.Proof

end
